-- ==== Defs.lean ====
def Pre_KGate (m : (ℓ : Loc Cert.KGate.nD Cert.KGate.τ Cert.KGate.sig) → Buf (Elt Bits) ℓ) : Prop :=
  True

def Pre_KGateIdeal (m : (ℓ : Loc Cert.KGateIdeal.nD Cert.KGateIdeal.τ Cert.KGateIdeal.sig) → Buf (Elt Ideal) ℓ) : Prop :=
  True

def Pre_RGateIdeal (m : (ℓ : Loc Cert.RGateIdeal.nD Cert.RGateIdeal.τ Cert.RGateIdeal.sig) → Buf (Elt Ideal) ℓ) : Prop :=
  True

def Pre_KSwiglu (m : (ℓ : Loc Cert.KSwiglu.nD Cert.KSwiglu.τ Cert.KSwiglu.sig) → Buf (Elt Bits) ℓ) : Prop :=
  True

def Pre_KSwigluIdeal (m : (ℓ : Loc Cert.KSwigluIdeal.nD Cert.KSwigluIdeal.τ Cert.KSwigluIdeal.sig) → Buf (Elt Ideal) ℓ) : Prop :=
  True

def Pre_KSwigluIdeal_finite_swiglu [hPre_finite_swiglu : Cert.Pre_finite_swiglu.Facts] (m : (ℓ : Loc Cert.KSwigluIdeal.nD Cert.KSwigluIdeal.τ Cert.KSwigluIdeal.sig) → Buf (Elt Ideal) ℓ) : Prop :=
  ∀ c : Dev Cert.KSwigluIdeal.nD,
    (Cert.Pre_finite_swiglu.fn (F := Ideal) (m ((c.tc : Thread Cert.KSwigluIdeal.nD Cert.KSwigluIdeal.τ).loc Cert.KSwigluIdeal.main_arg0)) (m ((c.tc : Thread Cert.KSwigluIdeal.nD Cert.KSwigluIdeal.τ).loc Cert.KSwigluIdeal.main_arg1)) (m ((c.tc : Thread Cert.KSwigluIdeal.nD Cert.KSwigluIdeal.τ).loc Cert.KSwigluIdeal.main_arg2)) (m ((c.tc : Thread Cert.KSwigluIdeal.nD Cert.KSwigluIdeal.τ).loc Cert.KSwigluIdeal.main_arg3)) (m ((c.tc : Thread Cert.KSwigluIdeal.nD Cert.KSwigluIdeal.τ).loc Cert.KSwigluIdeal.main_arg4))) = (fun _ => 1#1)

def Pre_RSwigluIdeal (m : (ℓ : Loc Cert.RSwigluIdeal.nD Cert.RSwigluIdeal.τ Cert.RSwigluIdeal.sig) → Buf (Elt Ideal) ℓ) : Prop :=
  True

def Pre_RSwigluIdeal_finite_swiglu [hPre_finite_swiglu : Cert.Pre_finite_swiglu.Facts] (m : (ℓ : Loc Cert.RSwigluIdeal.nD Cert.RSwigluIdeal.τ Cert.RSwigluIdeal.sig) → Buf (Elt Ideal) ℓ) : Prop :=
  ∀ c : Dev Cert.RSwigluIdeal.nD,
    (Cert.Pre_finite_swiglu.fn (F := Ideal) (m ((c.tc : Thread Cert.RSwigluIdeal.nD Cert.RSwigluIdeal.τ).loc Cert.RSwigluIdeal.main_arg0)) (m ((c.tc : Thread Cert.RSwigluIdeal.nD Cert.RSwigluIdeal.τ).loc Cert.RSwigluIdeal.main_arg1)) (m ((c.tc : Thread Cert.RSwigluIdeal.nD Cert.RSwigluIdeal.τ).loc Cert.RSwigluIdeal.main_arg2)) (m ((c.tc : Thread Cert.RSwigluIdeal.nD Cert.RSwigluIdeal.τ).loc Cert.RSwigluIdeal.main_arg3)) (m ((c.tc : Thread Cert.RSwigluIdeal.nD Cert.RSwigluIdeal.τ).loc Cert.RSwigluIdeal.main_arg4))) = (fun _ => 1#1)

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KDffn (m : (ℓ : Loc Cert.KDffn.nD Cert.KDffn.τ Cert.KDffn.sig) → Buf (Elt Bits) ℓ) : Prop :=
  True

def Pre_KDffnIdeal (m : (ℓ : Loc Cert.KDffnIdeal.nD Cert.KDffnIdeal.τ Cert.KDffnIdeal.sig) → Buf (Elt Ideal) ℓ) : Prop :=
  True

def Pre_RDffnIdeal (m : (ℓ : Loc Cert.RDffnIdeal.nD Cert.RDffnIdeal.τ Cert.RDffnIdeal.sig) → Buf (Elt Ideal) ℓ) : Prop :=
  True

def Pre_KDmix (m : (ℓ : Loc Cert.KDmix.nD Cert.KDmix.τ Cert.KDmix.sig) → Buf (Elt Bits) ℓ) : Prop :=
  True

def Pre_KDmixIdeal (m : (ℓ : Loc Cert.KDmixIdeal.nD Cert.KDmixIdeal.τ Cert.KDmixIdeal.sig) → Buf (Elt Ideal) ℓ) : Prop :=
  True

def Pre_RDmixIdeal (m : (ℓ : Loc Cert.RDmixIdeal.nD Cert.RDmixIdeal.τ Cert.RDmixIdeal.sig) → Buf (Elt Ideal) ℓ) : Prop :=
  True

def Pre_KSbf (m : (ℓ : Loc Cert.KSbf.nD Cert.KSbf.τ Cert.KSbf.sig) → Buf (Elt Bits) ℓ) : Prop :=
  True

def Pre_KSbfIdeal (m : (ℓ : Loc Cert.KSbfIdeal.nD Cert.KSbfIdeal.τ Cert.KSbfIdeal.sig) → Buf (Elt Ideal) ℓ) : Prop :=
  True

def Pre_KSbfIdeal_finite_sbf [hPre_finite_sbf : Cert.Pre_finite_sbf.Facts] (m : (ℓ : Loc Cert.KSbfIdeal.nD Cert.KSbfIdeal.τ Cert.KSbfIdeal.sig) → Buf (Elt Ideal) ℓ) : Prop :=
  ∀ c : Dev Cert.KSbfIdeal.nD,
    (Cert.Pre_finite_sbf.fn (F := Ideal) (m ((c.tc : Thread Cert.KSbfIdeal.nD Cert.KSbfIdeal.τ).loc Cert.KSbfIdeal.main_arg0))) = (fun _ => 1#1)

def Pre_RSbfIdeal (m : (ℓ : Loc Cert.RSbfIdeal.nD Cert.RSbfIdeal.τ Cert.RSbfIdeal.sig) → Buf (Elt Ideal) ℓ) : Prop :=
  True

def Pre_RSbfIdeal_finite_sbf [hPre_finite_sbf : Cert.Pre_finite_sbf.Facts] (m : (ℓ : Loc Cert.RSbfIdeal.nD Cert.RSbfIdeal.τ Cert.RSbfIdeal.sig) → Buf (Elt Ideal) ℓ) : Prop :=
  ∀ c : Dev Cert.RSbfIdeal.nD,
    (Cert.Pre_finite_sbf.fn (F := Ideal) (m ((c.tc : Thread Cert.RSbfIdeal.nD Cert.RSbfIdeal.τ).loc Cert.RSbfIdeal.main_arg0))) = (fun _ => 1#1)

def Pre_KSbb (m : (ℓ : Loc Cert.KSbb.nD Cert.KSbb.τ Cert.KSbb.sig) → Buf (Elt Bits) ℓ) : Prop :=
  True

def Pre_KSbbIdeal (m : (ℓ : Loc Cert.KSbbIdeal.nD Cert.KSbbIdeal.τ Cert.KSbbIdeal.sig) → Buf (Elt Ideal) ℓ) : Prop :=
  True

def Pre_KSbbIdeal_finite_sbb [hPre_finite_sbb : Cert.Pre_finite_sbb.Facts] (m : (ℓ : Loc Cert.KSbbIdeal.nD Cert.KSbbIdeal.τ Cert.KSbbIdeal.sig) → Buf (Elt Ideal) ℓ) : Prop :=
  ∀ c : Dev Cert.KSbbIdeal.nD,
    (Cert.Pre_finite_sbb.fn (F := Ideal) (m ((c.tc : Thread Cert.KSbbIdeal.nD Cert.KSbbIdeal.τ).loc Cert.KSbbIdeal.main_arg0)) (m ((c.tc : Thread Cert.KSbbIdeal.nD Cert.KSbbIdeal.τ).loc Cert.KSbbIdeal.main_arg1))) = (fun _ => 1#1)

def Pre_RSbbIdeal (m : (ℓ : Loc Cert.RSbbIdeal.nD Cert.RSbbIdeal.τ Cert.RSbbIdeal.sig) → Buf (Elt Ideal) ℓ) : Prop :=
  True

def Pre_RSbbIdeal_finite_sbb [hPre_finite_sbb : Cert.Pre_finite_sbb.Facts] (m : (ℓ : Loc Cert.RSbbIdeal.nD Cert.RSbbIdeal.τ Cert.RSbbIdeal.sig) → Buf (Elt Ideal) ℓ) : Prop :=
  ∀ c : Dev Cert.RSbbIdeal.nD,
    (Cert.Pre_finite_sbb.fn (F := Ideal) (m ((c.tc : Thread Cert.RSbbIdeal.nD Cert.RSbbIdeal.τ).loc Cert.RSbbIdeal.main_arg0)) (m ((c.tc : Thread Cert.RSbbIdeal.nD Cert.RSbbIdeal.τ).loc Cert.RSbbIdeal.main_arg1))) = (fun _ => 1#1)

def Pre_KJoin (m : (ℓ : Loc Cert.KJoin.nD Cert.KJoin.τ Cert.KJoin.sig) → Buf (Elt Bits) ℓ) : Prop :=
  True

def Pre_KJoinIdeal (m : (ℓ : Loc Cert.KJoinIdeal.nD Cert.KJoinIdeal.τ Cert.KJoinIdeal.sig) → Buf (Elt Ideal) ℓ) : Prop :=
  True

def Pre_RJoinIdeal (m : (ℓ : Loc Cert.RJoinIdeal.nD Cert.RJoinIdeal.τ Cert.RJoinIdeal.sig) → Buf (Elt Ideal) ℓ) : Prop :=
  True

def Pre_KSums (m : (ℓ : Loc Cert.KSums.nD Cert.KSums.τ Cert.KSums.sig) → Buf (Elt Bits) ℓ) : Prop :=
  True

def Pre_KSumsIdeal (m : (ℓ : Loc Cert.KSumsIdeal.nD Cert.KSumsIdeal.τ Cert.KSumsIdeal.sig) → Buf (Elt Ideal) ℓ) : Prop :=
  True

def Pre_RSumsIdeal (m : (ℓ : Loc Cert.RSumsIdeal.nD Cert.RSumsIdeal.τ Cert.RSumsIdeal.sig) → Buf (Elt Ideal) ℓ) : Prop :=
  True

def Pre_KDprep (m : (ℓ : Loc Cert.KDprep.nD Cert.KDprep.τ Cert.KDprep.sig) → Buf (Elt Bits) ℓ) : Prop :=
  True

def Pre_KDprepIdeal (m : (ℓ : Loc Cert.KDprepIdeal.nD Cert.KDprepIdeal.τ Cert.KDprepIdeal.sig) → Buf (Elt Ideal) ℓ) : Prop :=
  True

def Pre_RDprepIdeal (m : (ℓ : Loc Cert.RDprepIdeal.nD Cert.RDprepIdeal.τ Cert.RDprepIdeal.sig) → Buf (Elt Ideal) ℓ) : Prop :=
  True

def Pre_KRms (m : (ℓ : Loc Cert.KRms.nD Cert.KRms.τ Cert.KRms.sig) → Buf (Elt Bits) ℓ) : Prop :=
  True

def Pre_KRmsIdeal (m : (ℓ : Loc Cert.KRmsIdeal.nD Cert.KRmsIdeal.τ Cert.KRmsIdeal.sig) → Buf (Elt Ideal) ℓ) : Prop :=
  True

def Pre_RRmsIdeal (m : (ℓ : Loc Cert.RRmsIdeal.nD Cert.RRmsIdeal.τ Cert.RRmsIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def quiescent_KGate [hKGate : Cert.KGate.Facts] : Prop :=
  ∀ (m : (ℓ : Loc Cert.KGate.nD Cert.KGate.τ Cert.KGate.sig) → Buf (Elt Bits) ℓ) (g : Dev Cert.KGate.nD → PrngReg), Pre_KGate m →
    θ_run (Cert.KGate.defs (F := Bits)) (onTc (τ := Cert.KGate.τ) (Cert.KGate.main (F := Bits))) ⟨m, fun _ => 0, g⟩ (fun r => (∀ c : Dev Cert.KGate.nD,
      r.2.mem ((c.tc : Thread Cert.KGate.nD Cert.KGate.τ).loc Cert.KGate.main_arg0) = m ((c.tc : Thread Cert.KGate.nD Cert.KGate.τ).loc Cert.KGate.main_arg0)
      ∧ r.2.mem ((c.tc : Thread Cert.KGate.nD Cert.KGate.τ).loc Cert.KGate.main_arg1) = m ((c.tc : Thread Cert.KGate.nD Cert.KGate.τ).loc Cert.KGate.main_arg1)
      ∧ r.2.mem ((c.tc : Thread Cert.KGate.nD Cert.KGate.τ).loc Cert.KGate.main_arg2) = m ((c.tc : Thread Cert.KGate.nD Cert.KGate.τ).loc Cert.KGate.main_arg2)
      ∧ r.2.mem ((c.tc : Thread Cert.KGate.nD Cert.KGate.τ).loc Cert.KGate.main_arg3) = m ((c.tc : Thread Cert.KGate.nD Cert.KGate.τ).loc Cert.KGate.main_arg3)
      ∧ r.2.mem ((c.tc : Thread Cert.KGate.nD Cert.KGate.τ).loc Cert.KGate.main_arg4) = m ((c.tc : Thread Cert.KGate.nD Cert.KGate.τ).loc Cert.KGate.main_arg4)
      ∧ r.2.mem ((c.tc : Thread Cert.KGate.nD Cert.KGate.τ).loc Cert.KGate.main_arg5) = m ((c.tc : Thread Cert.KGate.nD Cert.KGate.τ).loc Cert.KGate.main_arg5)
      ∧ r.2.mem ((c.tc : Thread Cert.KGate.nD Cert.KGate.τ).loc Cert.KGate.main_arg6) = m ((c.tc : Thread Cert.KGate.nD Cert.KGate.τ).loc Cert.KGate.main_arg6))
      ∧ r.2.sem = fun _ => 0)

def quiescent_KGateIdeal [hKGateIdeal : Cert.KGateIdeal.Facts] : Prop :=
  ∀ (m : (ℓ : Loc Cert.KGateIdeal.nD Cert.KGateIdeal.τ Cert.KGateIdeal.sig) → Buf (Elt Ideal) ℓ) (g : Dev Cert.KGateIdeal.nD → PrngReg), Pre_KGateIdeal m →
    θ_run (Cert.KGateIdeal.defs (F := Ideal)) (onTc (τ := Cert.KGateIdeal.τ) (Cert.KGateIdeal.main (F := Ideal))) ⟨m, fun _ => 0, g⟩ (fun r => (∀ c : Dev Cert.KGateIdeal.nD,
      r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
      ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
      ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
      ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3)
      ∧ r.2.mem ((c.tc : Thread Cert.KGateIdeal.nD Cert.KGateIdeal.τ).loc Cert.KGateIdeal.main_arg4) = m ((c.tc : Thread Cert.KGateIdeal.nD Cert.KGateIdeal.τ).loc Cert.KGateIdeal.main_arg4)
      ∧ r.2.mem ((c.tc : Thread Cert.KGateIdeal.nD Cert.KGateIdeal.τ).loc Cert.KGateIdeal.main_arg5) = m ((c.tc : Thread Cert.KGateIdeal.nD Cert.KGateIdeal.τ).loc Cert.KGateIdeal.main_arg5)
      ∧ r.2.mem ((c.tc : Thread Cert.KGateIdeal.nD Cert.KGateIdeal.τ).loc Cert.KGateIdeal.main_arg6) = m ((c.tc : Thread Cert.KGateIdeal.nD Cert.KGateIdeal.τ).loc Cert.KGateIdeal.main_arg6))
      ∧ r.2.sem = fun _ => 0)

def quiescent_RGateIdeal [hRGateIdeal : Cert.RGateIdeal.Facts] : Prop :=
  ∀ (m : (ℓ : Loc Cert.RGateIdeal.nD Cert.RGateIdeal.τ Cert.RGateIdeal.sig) → Buf (Elt Ideal) ℓ) (g : Dev Cert.RGateIdeal.nD → PrngReg), Pre_RGateIdeal m →
    θ_run (Cert.RGateIdeal.defs (F := Ideal)) (onTc (τ := Cert.RGateIdeal.τ) (Cert.RGateIdeal.main (F := Ideal))) ⟨m, fun _ => 0, g⟩ (fun r => (∀ c : Dev Cert.RGateIdeal.nD,
      r.2.mem ((c.tc : Thread Cert.RGateIdeal.nD Cert.RGateIdeal.τ).loc Cert.RGateIdeal.main_arg0) = m ((c.tc : Thread Cert.RGateIdeal.nD Cert.RGateIdeal.τ).loc Cert.RGateIdeal.main_arg0)
      ∧ r.2.mem ((c.tc : Thread Cert.RGateIdeal.nD Cert.RGateIdeal.τ).loc Cert.RGateIdeal.main_arg1) = m ((c.tc : Thread Cert.RGateIdeal.nD Cert.RGateIdeal.τ).loc Cert.RGateIdeal.main_arg1)
      ∧ r.2.mem ((c.tc : Thread Cert.RGateIdeal.nD Cert.RGateIdeal.τ).loc Cert.RGateIdeal.main_arg2) = m ((c.tc : Thread Cert.RGateIdeal.nD Cert.RGateIdeal.τ).loc Cert.RGateIdeal.main_arg2)
      ∧ r.2.mem ((c.tc : Thread Cert.RGateIdeal.nD Cert.RGateIdeal.τ).loc Cert.RGateIdeal.main_arg3) = m ((c.tc : Thread Cert.RGateIdeal.nD Cert.RGateIdeal.τ).loc Cert.RGateIdeal.main_arg3)
      ∧ r.2.mem ((c.tc : Thread Cert.RGateIdeal.nD Cert.RGateIdeal.τ).loc Cert.RGateIdeal.main_arg4) = m ((c.tc : Thread Cert.RGateIdeal.nD Cert.RGateIdeal.τ).loc Cert.RGateIdeal.main_arg4)
      ∧ r.2.mem ((c.tc : Thread Cert.RGateIdeal.nD Cert.RGateIdeal.τ).loc Cert.RGateIdeal.main_arg5) = m ((c.tc : Thread Cert.RGateIdeal.nD Cert.RGateIdeal.τ).loc Cert.RGateIdeal.main_arg5)
      ∧ r.2.mem ((c.tc : Thread Cert.RGateIdeal.nD Cert.RGateIdeal.τ).loc Cert.RGateIdeal.main_arg6) = m ((c.tc : Thread Cert.RGateIdeal.nD Cert.RGateIdeal.τ).loc Cert.RGateIdeal.main_arg6))
      ∧ r.2.sem = fun _ => 0)

def quiescent_KSwiglu [hKSwiglu : Cert.KSwiglu.Facts] : Prop :=
  ∀ (m : (ℓ : Loc Cert.KSwiglu.nD Cert.KSwiglu.τ Cert.KSwiglu.sig) → Buf (Elt Bits) ℓ) (g : Dev Cert.KSwiglu.nD → PrngReg), Pre_KSwiglu m →
    θ_run (Cert.KSwiglu.defs (F := Bits)) (onTc (τ := Cert.KSwiglu.τ) (Cert.KSwiglu.main (F := Bits))) ⟨m, fun _ => 0, g⟩ (fun r => (∀ c : Dev Cert.KSwiglu.nD,
      r.2.mem ((c.tc : Thread Cert.KSwiglu.nD Cert.KSwiglu.τ).loc Cert.KSwiglu.main_arg0) = m ((c.tc : Thread Cert.KSwiglu.nD Cert.KSwiglu.τ).loc Cert.KSwiglu.main_arg0)
      ∧ r.2.mem ((c.tc : Thread Cert.KSwiglu.nD Cert.KSwiglu.τ).loc Cert.KSwiglu.main_arg1) = m ((c.tc : Thread Cert.KSwiglu.nD Cert.KSwiglu.τ).loc Cert.KSwiglu.main_arg1)
      ∧ r.2.mem ((c.tc : Thread Cert.KSwiglu.nD Cert.KSwiglu.τ).loc Cert.KSwiglu.main_arg2) = m ((c.tc : Thread Cert.KSwiglu.nD Cert.KSwiglu.τ).loc Cert.KSwiglu.main_arg2)
      ∧ r.2.mem ((c.tc : Thread Cert.KSwiglu.nD Cert.KSwiglu.τ).loc Cert.KSwiglu.main_arg3) = m ((c.tc : Thread Cert.KSwiglu.nD Cert.KSwiglu.τ).loc Cert.KSwiglu.main_arg3)
      ∧ r.2.mem ((c.tc : Thread Cert.KSwiglu.nD Cert.KSwiglu.τ).loc Cert.KSwiglu.main_arg4) = m ((c.tc : Thread Cert.KSwiglu.nD Cert.KSwiglu.τ).loc Cert.KSwiglu.main_arg4))
      ∧ r.2.sem = fun _ => 0)

def quiescent_KSwigluIdeal [hKSwigluIdeal : Cert.KSwigluIdeal.Facts] : Prop :=
  ∀ (m : (ℓ : Loc Cert.KSwigluIdeal.nD Cert.KSwigluIdeal.τ Cert.KSwigluIdeal.sig) → Buf (Elt Ideal) ℓ) (g : Dev Cert.KSwigluIdeal.nD → PrngReg), Pre_KSwigluIdeal m →
    θ_run (Cert.KSwigluIdeal.defs (F := Ideal)) (onTc (τ := Cert.KSwigluIdeal.τ) (Cert.KSwigluIdeal.main (F := Ideal))) ⟨m, fun _ => 0, g⟩ (fun r => (∀ c : Dev Cert.KSwigluIdeal.nD,
      r.2.mem ((c.tc : Thread Cert.KSwigluIdeal.nD Cert.KSwigluIdeal.τ).loc Cert.KSwigluIdeal.main_arg0) = m ((c.tc : Thread Cert.KSwigluIdeal.nD Cert.KSwigluIdeal.τ).loc Cert.KSwigluIdeal.main_arg0)
      ∧ r.2.mem ((c.tc : Thread Cert.KSwigluIdeal.nD Cert.KSwigluIdeal.τ).loc Cert.KSwigluIdeal.main_arg1) = m ((c.tc : Thread Cert.KSwigluIdeal.nD Cert.KSwigluIdeal.τ).loc Cert.KSwigluIdeal.main_arg1)
      ∧ r.2.mem ((c.tc : Thread Cert.KSwigluIdeal.nD Cert.KSwigluIdeal.τ).loc Cert.KSwigluIdeal.main_arg2) = m ((c.tc : Thread Cert.KSwigluIdeal.nD Cert.KSwigluIdeal.τ).loc Cert.KSwigluIdeal.main_arg2)
      ∧ r.2.mem ((c.tc : Thread Cert.KSwigluIdeal.nD Cert.KSwigluIdeal.τ).loc Cert.KSwigluIdeal.main_arg3) = m ((c.tc : Thread Cert.KSwigluIdeal.nD Cert.KSwigluIdeal.τ).loc Cert.KSwigluIdeal.main_arg3)
      ∧ r.2.mem ((c.tc : Thread Cert.KSwigluIdeal.nD Cert.KSwigluIdeal.τ).loc Cert.KSwigluIdeal.main_arg4) = m ((c.tc : Thread Cert.KSwigluIdeal.nD Cert.KSwigluIdeal.τ).loc Cert.KSwigluIdeal.main_arg4))
      ∧ r.2.sem = fun _ => 0)

def quiescent_KSwigluIdeal_pre_finite_swiglu [hKSwigluIdeal : Cert.KSwigluIdeal.Facts] [hPre_finite_swiglu : Cert.Pre_finite_swiglu.Facts] : Prop :=
  ∀ (m : (ℓ : Loc Cert.KSwigluIdeal.nD Cert.KSwigluIdeal.τ Cert.KSwigluIdeal.sig) → Buf (Elt Ideal) ℓ) (g : Dev Cert.KSwigluIdeal.nD → PrngReg), Pre_KSwigluIdeal_finite_swiglu m →
    θ_run (Cert.KSwigluIdeal.defs (F := Ideal)) (onTc (τ := Cert.KSwigluIdeal.τ) (Cert.KSwigluIdeal.main (F := Ideal))) ⟨m, fun _ => 0, g⟩ (fun r => (∀ c : Dev Cert.KSwigluIdeal.nD,
      r.2.mem ((c.tc : Thread Cert.KSwigluIdeal.nD Cert.KSwigluIdeal.τ).loc Cert.KSwigluIdeal.main_arg0) = m ((c.tc : Thread Cert.KSwigluIdeal.nD Cert.KSwigluIdeal.τ).loc Cert.KSwigluIdeal.main_arg0)
      ∧ r.2.mem ((c.tc : Thread Cert.KSwigluIdeal.nD Cert.KSwigluIdeal.τ).loc Cert.KSwigluIdeal.main_arg1) = m ((c.tc : Thread Cert.KSwigluIdeal.nD Cert.KSwigluIdeal.τ).loc Cert.KSwigluIdeal.main_arg1)
      ∧ r.2.mem ((c.tc : Thread Cert.KSwigluIdeal.nD Cert.KSwigluIdeal.τ).loc Cert.KSwigluIdeal.main_arg2) = m ((c.tc : Thread Cert.KSwigluIdeal.nD Cert.KSwigluIdeal.τ).loc Cert.KSwigluIdeal.main_arg2)
      ∧ r.2.mem ((c.tc : Thread Cert.KSwigluIdeal.nD Cert.KSwigluIdeal.τ).loc Cert.KSwigluIdeal.main_arg3) = m ((c.tc : Thread Cert.KSwigluIdeal.nD Cert.KSwigluIdeal.τ).loc Cert.KSwigluIdeal.main_arg3)
      ∧ r.2.mem ((c.tc : Thread Cert.KSwigluIdeal.nD Cert.KSwigluIdeal.τ).loc Cert.KSwigluIdeal.main_arg4) = m ((c.tc : Thread Cert.KSwigluIdeal.nD Cert.KSwigluIdeal.τ).loc Cert.KSwigluIdeal.main_arg4))
      ∧ r.2.sem = fun _ => 0)

def quiescent_RSwigluIdeal [hRSwigluIdeal : Cert.RSwigluIdeal.Facts] : Prop :=
  ∀ (m : (ℓ : Loc Cert.RSwigluIdeal.nD Cert.RSwigluIdeal.τ Cert.RSwigluIdeal.sig) → Buf (Elt Ideal) ℓ) (g : Dev Cert.RSwigluIdeal.nD → PrngReg), Pre_RSwigluIdeal m →
    θ_run (Cert.RSwigluIdeal.defs (F := Ideal)) (onTc (τ := Cert.RSwigluIdeal.τ) (Cert.RSwigluIdeal.main (F := Ideal))) ⟨m, fun _ => 0, g⟩ (fun r => (∀ c : Dev Cert.RSwigluIdeal.nD,
      r.2.mem ((c.tc : Thread Cert.RSwigluIdeal.nD Cert.RSwigluIdeal.τ).loc Cert.RSwigluIdeal.main_arg0) = m ((c.tc : Thread Cert.RSwigluIdeal.nD Cert.RSwigluIdeal.τ).loc Cert.RSwigluIdeal.main_arg0)
      ∧ r.2.mem ((c.tc : Thread Cert.RSwigluIdeal.nD Cert.RSwigluIdeal.τ).loc Cert.RSwigluIdeal.main_arg1) = m ((c.tc : Thread Cert.RSwigluIdeal.nD Cert.RSwigluIdeal.τ).loc Cert.RSwigluIdeal.main_arg1)
      ∧ r.2.mem ((c.tc : Thread Cert.RSwigluIdeal.nD Cert.RSwigluIdeal.τ).loc Cert.RSwigluIdeal.main_arg2) = m ((c.tc : Thread Cert.RSwigluIdeal.nD Cert.RSwigluIdeal.τ).loc Cert.RSwigluIdeal.main_arg2)
      ∧ r.2.mem ((c.tc : Thread Cert.RSwigluIdeal.nD Cert.RSwigluIdeal.τ).loc Cert.RSwigluIdeal.main_arg3) = m ((c.tc : Thread Cert.RSwigluIdeal.nD Cert.RSwigluIdeal.τ).loc Cert.RSwigluIdeal.main_arg3)
      ∧ r.2.mem ((c.tc : Thread Cert.RSwigluIdeal.nD Cert.RSwigluIdeal.τ).loc Cert.RSwigluIdeal.main_arg4) = m ((c.tc : Thread Cert.RSwigluIdeal.nD Cert.RSwigluIdeal.τ).loc Cert.RSwigluIdeal.main_arg4))
      ∧ r.2.sem = fun _ => 0)

def quiescent_RSwigluIdeal_pre_finite_swiglu [hRSwigluIdeal : Cert.RSwigluIdeal.Facts] [hPre_finite_swiglu : Cert.Pre_finite_swiglu.Facts] : Prop :=
  ∀ (m : (ℓ : Loc Cert.RSwigluIdeal.nD Cert.RSwigluIdeal.τ Cert.RSwigluIdeal.sig) → Buf (Elt Ideal) ℓ) (g : Dev Cert.RSwigluIdeal.nD → PrngReg), Pre_RSwigluIdeal_finite_swiglu m →
    θ_run (Cert.RSwigluIdeal.defs (F := Ideal)) (onTc (τ := Cert.RSwigluIdeal.τ) (Cert.RSwigluIdeal.main (F := Ideal))) ⟨m, fun _ => 0, g⟩ (fun r => (∀ c : Dev Cert.RSwigluIdeal.nD,
      r.2.mem ((c.tc : Thread Cert.RSwigluIdeal.nD Cert.RSwigluIdeal.τ).loc Cert.RSwigluIdeal.main_arg0) = m ((c.tc : Thread Cert.RSwigluIdeal.nD Cert.RSwigluIdeal.τ).loc Cert.RSwigluIdeal.main_arg0)
      ∧ r.2.mem ((c.tc : Thread Cert.RSwigluIdeal.nD Cert.RSwigluIdeal.τ).loc Cert.RSwigluIdeal.main_arg1) = m ((c.tc : Thread Cert.RSwigluIdeal.nD Cert.RSwigluIdeal.τ).loc Cert.RSwigluIdeal.main_arg1)
      ∧ r.2.mem ((c.tc : Thread Cert.RSwigluIdeal.nD Cert.RSwigluIdeal.τ).loc Cert.RSwigluIdeal.main_arg2) = m ((c.tc : Thread Cert.RSwigluIdeal.nD Cert.RSwigluIdeal.τ).loc Cert.RSwigluIdeal.main_arg2)
      ∧ r.2.mem ((c.tc : Thread Cert.RSwigluIdeal.nD Cert.RSwigluIdeal.τ).loc Cert.RSwigluIdeal.main_arg3) = m ((c.tc : Thread Cert.RSwigluIdeal.nD Cert.RSwigluIdeal.τ).loc Cert.RSwigluIdeal.main_arg3)
      ∧ r.2.mem ((c.tc : Thread Cert.RSwigluIdeal.nD Cert.RSwigluIdeal.τ).loc Cert.RSwigluIdeal.main_arg4) = m ((c.tc : Thread Cert.RSwigluIdeal.nD Cert.RSwigluIdeal.τ).loc Cert.RSwigluIdeal.main_arg4))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2))
      ∧ r.2.sem = fun _ => 0)

def quiescent_KDffn [hKDffn : Cert.KDffn.Facts] : Prop :=
  ∀ (m : (ℓ : Loc Cert.KDffn.nD Cert.KDffn.τ Cert.KDffn.sig) → Buf (Elt Bits) ℓ) (g : Dev Cert.KDffn.nD → PrngReg), Pre_KDffn m →
    θ_run (Cert.KDffn.defs (F := Bits)) (onTc (τ := Cert.KDffn.τ) (Cert.KDffn.main (F := Bits))) ⟨m, fun _ => 0, g⟩ (fun r => (∀ c : Dev Cert.KDffn.nD,
      r.2.mem ((c.tc : Thread Cert.KDffn.nD Cert.KDffn.τ).loc Cert.KDffn.main_arg0) = m ((c.tc : Thread Cert.KDffn.nD Cert.KDffn.τ).loc Cert.KDffn.main_arg0)
      ∧ r.2.mem ((c.tc : Thread Cert.KDffn.nD Cert.KDffn.τ).loc Cert.KDffn.main_arg1) = m ((c.tc : Thread Cert.KDffn.nD Cert.KDffn.τ).loc Cert.KDffn.main_arg1)
      ∧ r.2.mem ((c.tc : Thread Cert.KDffn.nD Cert.KDffn.τ).loc Cert.KDffn.main_arg2) = m ((c.tc : Thread Cert.KDffn.nD Cert.KDffn.τ).loc Cert.KDffn.main_arg2)
      ∧ r.2.mem ((c.tc : Thread Cert.KDffn.nD Cert.KDffn.τ).loc Cert.KDffn.main_arg3) = m ((c.tc : Thread Cert.KDffn.nD Cert.KDffn.τ).loc Cert.KDffn.main_arg3)
      ∧ r.2.mem ((c.tc : Thread Cert.KDffn.nD Cert.KDffn.τ).loc Cert.KDffn.main_arg4) = m ((c.tc : Thread Cert.KDffn.nD Cert.KDffn.τ).loc Cert.KDffn.main_arg4)
      ∧ r.2.mem ((c.tc : Thread Cert.KDffn.nD Cert.KDffn.τ).loc Cert.KDffn.main_arg5) = m ((c.tc : Thread Cert.KDffn.nD Cert.KDffn.τ).loc Cert.KDffn.main_arg5)
      ∧ r.2.mem ((c.tc : Thread Cert.KDffn.nD Cert.KDffn.τ).loc Cert.KDffn.main_arg6) = m ((c.tc : Thread Cert.KDffn.nD Cert.KDffn.τ).loc Cert.KDffn.main_arg6))
      ∧ r.2.sem = fun _ => 0)

def quiescent_KDffnIdeal [hKDffnIdeal : Cert.KDffnIdeal.Facts] : Prop :=
  ∀ (m : (ℓ : Loc Cert.KDffnIdeal.nD Cert.KDffnIdeal.τ Cert.KDffnIdeal.sig) → Buf (Elt Ideal) ℓ) (g : Dev Cert.KDffnIdeal.nD → PrngReg), Pre_KDffnIdeal m →
    θ_run (Cert.KDffnIdeal.defs (F := Ideal)) (onTc (τ := Cert.KDffnIdeal.τ) (Cert.KDffnIdeal.main (F := Ideal))) ⟨m, fun _ => 0, g⟩ (fun r => (∀ c : Dev Cert.KDffnIdeal.nD,
      r.2.mem ((c.tc : Thread Cert.KDffnIdeal.nD Cert.KDffnIdeal.τ).loc Cert.KDffnIdeal.main_arg0) = m ((c.tc : Thread Cert.KDffnIdeal.nD Cert.KDffnIdeal.τ).loc Cert.KDffnIdeal.main_arg0)
      ∧ r.2.mem ((c.tc : Thread Cert.KDffnIdeal.nD Cert.KDffnIdeal.τ).loc Cert.KDffnIdeal.main_arg1) = m ((c.tc : Thread Cert.KDffnIdeal.nD Cert.KDffnIdeal.τ).loc Cert.KDffnIdeal.main_arg1)
      ∧ r.2.mem ((c.tc : Thread Cert.KDffnIdeal.nD Cert.KDffnIdeal.τ).loc Cert.KDffnIdeal.main_arg2) = m ((c.tc : Thread Cert.KDffnIdeal.nD Cert.KDffnIdeal.τ).loc Cert.KDffnIdeal.main_arg2)
      ∧ r.2.mem ((c.tc : Thread Cert.KDffnIdeal.nD Cert.KDffnIdeal.τ).loc Cert.KDffnIdeal.main_arg3) = m ((c.tc : Thread Cert.KDffnIdeal.nD Cert.KDffnIdeal.τ).loc Cert.KDffnIdeal.main_arg3)
      ∧ r.2.mem ((c.tc : Thread Cert.KDffnIdeal.nD Cert.KDffnIdeal.τ).loc Cert.KDffnIdeal.main_arg4) = m ((c.tc : Thread Cert.KDffnIdeal.nD Cert.KDffnIdeal.τ).loc Cert.KDffnIdeal.main_arg4)
      ∧ r.2.mem ((c.tc : Thread Cert.KDffnIdeal.nD Cert.KDffnIdeal.τ).loc Cert.KDffnIdeal.main_arg5) = m ((c.tc : Thread Cert.KDffnIdeal.nD Cert.KDffnIdeal.τ).loc Cert.KDffnIdeal.main_arg5)
      ∧ r.2.mem ((c.tc : Thread Cert.KDffnIdeal.nD Cert.KDffnIdeal.τ).loc Cert.KDffnIdeal.main_arg6) = m ((c.tc : Thread Cert.KDffnIdeal.nD Cert.KDffnIdeal.τ).loc Cert.KDffnIdeal.main_arg6))
      ∧ r.2.sem = fun _ => 0)

def quiescent_RDffnIdeal [hRDffnIdeal : Cert.RDffnIdeal.Facts] : Prop :=
  ∀ (m : (ℓ : Loc Cert.RDffnIdeal.nD Cert.RDffnIdeal.τ Cert.RDffnIdeal.sig) → Buf (Elt Ideal) ℓ) (g : Dev Cert.RDffnIdeal.nD → PrngReg), Pre_RDffnIdeal m →
    θ_run (Cert.RDffnIdeal.defs (F := Ideal)) (onTc (τ := Cert.RDffnIdeal.τ) (Cert.RDffnIdeal.main (F := Ideal))) ⟨m, fun _ => 0, g⟩ (fun r => (∀ c : Dev Cert.RDffnIdeal.nD,
      r.2.mem ((c.tc : Thread Cert.RDffnIdeal.nD Cert.RDffnIdeal.τ).loc Cert.RDffnIdeal.main_arg0) = m ((c.tc : Thread Cert.RDffnIdeal.nD Cert.RDffnIdeal.τ).loc Cert.RDffnIdeal.main_arg0)
      ∧ r.2.mem ((c.tc : Thread Cert.RDffnIdeal.nD Cert.RDffnIdeal.τ).loc Cert.RDffnIdeal.main_arg1) = m ((c.tc : Thread Cert.RDffnIdeal.nD Cert.RDffnIdeal.τ).loc Cert.RDffnIdeal.main_arg1)
      ∧ r.2.mem ((c.tc : Thread Cert.RDffnIdeal.nD Cert.RDffnIdeal.τ).loc Cert.RDffnIdeal.main_arg2) = m ((c.tc : Thread Cert.RDffnIdeal.nD Cert.RDffnIdeal.τ).loc Cert.RDffnIdeal.main_arg2)
      ∧ r.2.mem ((c.tc : Thread Cert.RDffnIdeal.nD Cert.RDffnIdeal.τ).loc Cert.RDffnIdeal.main_arg3) = m ((c.tc : Thread Cert.RDffnIdeal.nD Cert.RDffnIdeal.τ).loc Cert.RDffnIdeal.main_arg3)
      ∧ r.2.mem ((c.tc : Thread Cert.RDffnIdeal.nD Cert.RDffnIdeal.τ).loc Cert.RDffnIdeal.main_arg4) = m ((c.tc : Thread Cert.RDffnIdeal.nD Cert.RDffnIdeal.τ).loc Cert.RDffnIdeal.main_arg4)
      ∧ r.2.mem ((c.tc : Thread Cert.RDffnIdeal.nD Cert.RDffnIdeal.τ).loc Cert.RDffnIdeal.main_arg5) = m ((c.tc : Thread Cert.RDffnIdeal.nD Cert.RDffnIdeal.τ).loc Cert.RDffnIdeal.main_arg5)
      ∧ r.2.mem ((c.tc : Thread Cert.RDffnIdeal.nD Cert.RDffnIdeal.τ).loc Cert.RDffnIdeal.main_arg6) = m ((c.tc : Thread Cert.RDffnIdeal.nD Cert.RDffnIdeal.τ).loc Cert.RDffnIdeal.main_arg6))
      ∧ r.2.sem = fun _ => 0)

def quiescent_KDmix [hKDmix : Cert.KDmix.Facts] : Prop :=
  ∀ (m : (ℓ : Loc Cert.KDmix.nD Cert.KDmix.τ Cert.KDmix.sig) → Buf (Elt Bits) ℓ) (g : Dev Cert.KDmix.nD → PrngReg), Pre_KDmix m →
    θ_run (Cert.KDmix.defs (F := Bits)) (onTc (τ := Cert.KDmix.τ) (Cert.KDmix.main (F := Bits))) ⟨m, fun _ => 0, g⟩ (fun r => (∀ c : Dev Cert.KDmix.nD,
      r.2.mem ((c.tc : Thread Cert.KDmix.nD Cert.KDmix.τ).loc Cert.KDmix.main_arg0) = m ((c.tc : Thread Cert.KDmix.nD Cert.KDmix.τ).loc Cert.KDmix.main_arg0)
      ∧ r.2.mem ((c.tc : Thread Cert.KDmix.nD Cert.KDmix.τ).loc Cert.KDmix.main_arg1) = m ((c.tc : Thread Cert.KDmix.nD Cert.KDmix.τ).loc Cert.KDmix.main_arg1)
      ∧ r.2.mem ((c.tc : Thread Cert.KDmix.nD Cert.KDmix.τ).loc Cert.KDmix.main_arg2) = m ((c.tc : Thread Cert.KDmix.nD Cert.KDmix.τ).loc Cert.KDmix.main_arg2)
      ∧ r.2.mem ((c.tc : Thread Cert.KDmix.nD Cert.KDmix.τ).loc Cert.KDmix.main_arg3) = m ((c.tc : Thread Cert.KDmix.nD Cert.KDmix.τ).loc Cert.KDmix.main_arg3)
      ∧ r.2.mem ((c.tc : Thread Cert.KDmix.nD Cert.KDmix.τ).loc Cert.KDmix.main_arg4) = m ((c.tc : Thread Cert.KDmix.nD Cert.KDmix.τ).loc Cert.KDmix.main_arg4))
      ∧ r.2.sem = fun _ => 0)

def quiescent_KDmixIdeal [hKDmixIdeal : Cert.KDmixIdeal.Facts] : Prop :=
  ∀ (m : (ℓ : Loc Cert.KDmixIdeal.nD Cert.KDmixIdeal.τ Cert.KDmixIdeal.sig) → Buf (Elt Ideal) ℓ) (g : Dev Cert.KDmixIdeal.nD → PrngReg), Pre_KDmixIdeal m →
    θ_run (Cert.KDmixIdeal.defs (F := Ideal)) (onTc (τ := Cert.KDmixIdeal.τ) (Cert.KDmixIdeal.main (F := Ideal))) ⟨m, fun _ => 0, g⟩ (fun r => (∀ c : Dev Cert.KDmixIdeal.nD,
      r.2.mem ((c.tc : Thread Cert.KDmixIdeal.nD Cert.KDmixIdeal.τ).loc Cert.KDmixIdeal.main_arg0) = m ((c.tc : Thread Cert.KDmixIdeal.nD Cert.KDmixIdeal.τ).loc Cert.KDmixIdeal.main_arg0)
      ∧ r.2.mem ((c.tc : Thread Cert.KDmixIdeal.nD Cert.KDmixIdeal.τ).loc Cert.KDmixIdeal.main_arg1) = m ((c.tc : Thread Cert.KDmixIdeal.nD Cert.KDmixIdeal.τ).loc Cert.KDmixIdeal.main_arg1)
      ∧ r.2.mem ((c.tc : Thread Cert.KDmixIdeal.nD Cert.KDmixIdeal.τ).loc Cert.KDmixIdeal.main_arg2) = m ((c.tc : Thread Cert.KDmixIdeal.nD Cert.KDmixIdeal.τ).loc Cert.KDmixIdeal.main_arg2)
      ∧ r.2.mem ((c.tc : Thread Cert.KDmixIdeal.nD Cert.KDmixIdeal.τ).loc Cert.KDmixIdeal.main_arg3) = m ((c.tc : Thread Cert.KDmixIdeal.nD Cert.KDmixIdeal.τ).loc Cert.KDmixIdeal.main_arg3)
      ∧ r.2.mem ((c.tc : Thread Cert.KDmixIdeal.nD Cert.KDmixIdeal.τ).loc Cert.KDmixIdeal.main_arg4) = m ((c.tc : Thread Cert.KDmixIdeal.nD Cert.KDmixIdeal.τ).loc Cert.KDmixIdeal.main_arg4))
      ∧ r.2.sem = fun _ => 0)

def quiescent_RDmixIdeal [hRDmixIdeal : Cert.RDmixIdeal.Facts] : Prop :=
  ∀ (m : (ℓ : Loc Cert.RDmixIdeal.nD Cert.RDmixIdeal.τ Cert.RDmixIdeal.sig) → Buf (Elt Ideal) ℓ) (g : Dev Cert.RDmixIdeal.nD → PrngReg), Pre_RDmixIdeal m →
    θ_run (Cert.RDmixIdeal.defs (F := Ideal)) (onTc (τ := Cert.RDmixIdeal.τ) (Cert.RDmixIdeal.main (F := Ideal))) ⟨m, fun _ => 0, g⟩ (fun r => (∀ c : Dev Cert.RDmixIdeal.nD,
      r.2.mem ((c.tc : Thread Cert.RDmixIdeal.nD Cert.RDmixIdeal.τ).loc Cert.RDmixIdeal.main_arg0) = m ((c.tc : Thread Cert.RDmixIdeal.nD Cert.RDmixIdeal.τ).loc Cert.RDmixIdeal.main_arg0)
      ∧ r.2.mem ((c.tc : Thread Cert.RDmixIdeal.nD Cert.RDmixIdeal.τ).loc Cert.RDmixIdeal.main_arg1) = m ((c.tc : Thread Cert.RDmixIdeal.nD Cert.RDmixIdeal.τ).loc Cert.RDmixIdeal.main_arg1)
      ∧ r.2.mem ((c.tc : Thread Cert.RDmixIdeal.nD Cert.RDmixIdeal.τ).loc Cert.RDmixIdeal.main_arg2) = m ((c.tc : Thread Cert.RDmixIdeal.nD Cert.RDmixIdeal.τ).loc Cert.RDmixIdeal.main_arg2)
      ∧ r.2.mem ((c.tc : Thread Cert.RDmixIdeal.nD Cert.RDmixIdeal.τ).loc Cert.RDmixIdeal.main_arg3) = m ((c.tc : Thread Cert.RDmixIdeal.nD Cert.RDmixIdeal.τ).loc Cert.RDmixIdeal.main_arg3)
      ∧ r.2.mem ((c.tc : Thread Cert.RDmixIdeal.nD Cert.RDmixIdeal.τ).loc Cert.RDmixIdeal.main_arg4) = m ((c.tc : Thread Cert.RDmixIdeal.nD Cert.RDmixIdeal.τ).loc Cert.RDmixIdeal.main_arg4))
      ∧ r.2.sem = fun _ => 0)

def quiescent_KSbf [hKSbf : Cert.KSbf.Facts] : Prop :=
  ∀ (m : (ℓ : Loc Cert.KSbf.nD Cert.KSbf.τ Cert.KSbf.sig) → Buf (Elt Bits) ℓ) (g : Dev Cert.KSbf.nD → PrngReg), Pre_KSbf m →
    θ_run (Cert.KSbf.defs (F := Bits)) (onTc (τ := Cert.KSbf.τ) (Cert.KSbf.main (F := Bits))) ⟨m, fun _ => 0, g⟩ (fun r => (∀ c : Dev Cert.KSbf.nD,
      r.2.mem ((c.tc : Thread Cert.KSbf.nD Cert.KSbf.τ).loc Cert.KSbf.main_arg0) = m ((c.tc : Thread Cert.KSbf.nD Cert.KSbf.τ).loc Cert.KSbf.main_arg0))
      ∧ r.2.sem = fun _ => 0)

def quiescent_KSbfIdeal [hKSbfIdeal : Cert.KSbfIdeal.Facts] : Prop :=
  ∀ (m : (ℓ : Loc Cert.KSbfIdeal.nD Cert.KSbfIdeal.τ Cert.KSbfIdeal.sig) → Buf (Elt Ideal) ℓ) (g : Dev Cert.KSbfIdeal.nD → PrngReg), Pre_KSbfIdeal m →
    θ_run (Cert.KSbfIdeal.defs (F := Ideal)) (onTc (τ := Cert.KSbfIdeal.τ) (Cert.KSbfIdeal.main (F := Ideal))) ⟨m, fun _ => 0, g⟩ (fun r => (∀ c : Dev Cert.KSbfIdeal.nD,
      r.2.mem ((c.tc : Thread Cert.KSbfIdeal.nD Cert.KSbfIdeal.τ).loc Cert.KSbfIdeal.main_arg0) = m ((c.tc : Thread Cert.KSbfIdeal.nD Cert.KSbfIdeal.τ).loc Cert.KSbfIdeal.main_arg0))
      ∧ r.2.sem = fun _ => 0)

def quiescent_KSbfIdeal_pre_finite_sbf [hKSbfIdeal : Cert.KSbfIdeal.Facts] [hPre_finite_sbf : Cert.Pre_finite_sbf.Facts] : Prop :=
  ∀ (m : (ℓ : Loc Cert.KSbfIdeal.nD Cert.KSbfIdeal.τ Cert.KSbfIdeal.sig) → Buf (Elt Ideal) ℓ) (g : Dev Cert.KSbfIdeal.nD → PrngReg), Pre_KSbfIdeal_finite_sbf m →
    θ_run (Cert.KSbfIdeal.defs (F := Ideal)) (onTc (τ := Cert.KSbfIdeal.τ) (Cert.KSbfIdeal.main (F := Ideal))) ⟨m, fun _ => 0, g⟩ (fun r => (∀ c : Dev Cert.KSbfIdeal.nD,
      r.2.mem ((c.tc : Thread Cert.KSbfIdeal.nD Cert.KSbfIdeal.τ).loc Cert.KSbfIdeal.main_arg0) = m ((c.tc : Thread Cert.KSbfIdeal.nD Cert.KSbfIdeal.τ).loc Cert.KSbfIdeal.main_arg0))
      ∧ r.2.sem = fun _ => 0)

def quiescent_RSbfIdeal [hRSbfIdeal : Cert.RSbfIdeal.Facts] : Prop :=
  ∀ (m : (ℓ : Loc Cert.RSbfIdeal.nD Cert.RSbfIdeal.τ Cert.RSbfIdeal.sig) → Buf (Elt Ideal) ℓ) (g : Dev Cert.RSbfIdeal.nD → PrngReg), Pre_RSbfIdeal m →
    θ_run (Cert.RSbfIdeal.defs (F := Ideal)) (onTc (τ := Cert.RSbfIdeal.τ) (Cert.RSbfIdeal.main (F := Ideal))) ⟨m, fun _ => 0, g⟩ (fun r => (∀ c : Dev Cert.RSbfIdeal.nD,
      r.2.mem ((c.tc : Thread Cert.RSbfIdeal.nD Cert.RSbfIdeal.τ).loc Cert.RSbfIdeal.main_arg0) = m ((c.tc : Thread Cert.RSbfIdeal.nD Cert.RSbfIdeal.τ).loc Cert.RSbfIdeal.main_arg0))
      ∧ r.2.sem = fun _ => 0)

def quiescent_RSbfIdeal_pre_finite_sbf [hRSbfIdeal : Cert.RSbfIdeal.Facts] [hPre_finite_sbf : Cert.Pre_finite_sbf.Facts] : Prop :=
  ∀ (m : (ℓ : Loc Cert.RSbfIdeal.nD Cert.RSbfIdeal.τ Cert.RSbfIdeal.sig) → Buf (Elt Ideal) ℓ) (g : Dev Cert.RSbfIdeal.nD → PrngReg), Pre_RSbfIdeal_finite_sbf m →
    θ_run (Cert.RSbfIdeal.defs (F := Ideal)) (onTc (τ := Cert.RSbfIdeal.τ) (Cert.RSbfIdeal.main (F := Ideal))) ⟨m, fun _ => 0, g⟩ (fun r => (∀ c : Dev Cert.RSbfIdeal.nD,
      r.2.mem ((c.tc : Thread Cert.RSbfIdeal.nD Cert.RSbfIdeal.τ).loc Cert.RSbfIdeal.main_arg0) = m ((c.tc : Thread Cert.RSbfIdeal.nD Cert.RSbfIdeal.τ).loc Cert.RSbfIdeal.main_arg0))
      ∧ r.2.sem = fun _ => 0)

def quiescent_KSbb [hKSbb : Cert.KSbb.Facts] : Prop :=
  ∀ (m : (ℓ : Loc Cert.KSbb.nD Cert.KSbb.τ Cert.KSbb.sig) → Buf (Elt Bits) ℓ) (g : Dev Cert.KSbb.nD → PrngReg), Pre_KSbb m →
    θ_run (Cert.KSbb.defs (F := Bits)) (onTc (τ := Cert.KSbb.τ) (Cert.KSbb.main (F := Bits))) ⟨m, fun _ => 0, g⟩ (fun r => (∀ c : Dev Cert.KSbb.nD,
      r.2.mem ((c.tc : Thread Cert.KSbb.nD Cert.KSbb.τ).loc Cert.KSbb.main_arg0) = m ((c.tc : Thread Cert.KSbb.nD Cert.KSbb.τ).loc Cert.KSbb.main_arg0)
      ∧ r.2.mem ((c.tc : Thread Cert.KSbb.nD Cert.KSbb.τ).loc Cert.KSbb.main_arg1) = m ((c.tc : Thread Cert.KSbb.nD Cert.KSbb.τ).loc Cert.KSbb.main_arg1))
      ∧ r.2.sem = fun _ => 0)

def quiescent_KSbbIdeal [hKSbbIdeal : Cert.KSbbIdeal.Facts] : Prop :=
  ∀ (m : (ℓ : Loc Cert.KSbbIdeal.nD Cert.KSbbIdeal.τ Cert.KSbbIdeal.sig) → Buf (Elt Ideal) ℓ) (g : Dev Cert.KSbbIdeal.nD → PrngReg), Pre_KSbbIdeal m →
    θ_run (Cert.KSbbIdeal.defs (F := Ideal)) (onTc (τ := Cert.KSbbIdeal.τ) (Cert.KSbbIdeal.main (F := Ideal))) ⟨m, fun _ => 0, g⟩ (fun r => (∀ c : Dev Cert.KSbbIdeal.nD,
      r.2.mem ((c.tc : Thread Cert.KSbbIdeal.nD Cert.KSbbIdeal.τ).loc Cert.KSbbIdeal.main_arg0) = m ((c.tc : Thread Cert.KSbbIdeal.nD Cert.KSbbIdeal.τ).loc Cert.KSbbIdeal.main_arg0)
      ∧ r.2.mem ((c.tc : Thread Cert.KSbbIdeal.nD Cert.KSbbIdeal.τ).loc Cert.KSbbIdeal.main_arg1) = m ((c.tc : Thread Cert.KSbbIdeal.nD Cert.KSbbIdeal.τ).loc Cert.KSbbIdeal.main_arg1))
      ∧ r.2.sem = fun _ => 0)

def quiescent_KSbbIdeal_pre_finite_sbb [hKSbbIdeal : Cert.KSbbIdeal.Facts] [hPre_finite_sbb : Cert.Pre_finite_sbb.Facts] : Prop :=
  ∀ (m : (ℓ : Loc Cert.KSbbIdeal.nD Cert.KSbbIdeal.τ Cert.KSbbIdeal.sig) → Buf (Elt Ideal) ℓ) (g : Dev Cert.KSbbIdeal.nD → PrngReg), Pre_KSbbIdeal_finite_sbb m →
    θ_run (Cert.KSbbIdeal.defs (F := Ideal)) (onTc (τ := Cert.KSbbIdeal.τ) (Cert.KSbbIdeal.main (F := Ideal))) ⟨m, fun _ => 0, g⟩ (fun r => (∀ c : Dev Cert.KSbbIdeal.nD,
      r.2.mem ((c.tc : Thread Cert.KSbbIdeal.nD Cert.KSbbIdeal.τ).loc Cert.KSbbIdeal.main_arg0) = m ((c.tc : Thread Cert.KSbbIdeal.nD Cert.KSbbIdeal.τ).loc Cert.KSbbIdeal.main_arg0)
      ∧ r.2.mem ((c.tc : Thread Cert.KSbbIdeal.nD Cert.KSbbIdeal.τ).loc Cert.KSbbIdeal.main_arg1) = m ((c.tc : Thread Cert.KSbbIdeal.nD Cert.KSbbIdeal.τ).loc Cert.KSbbIdeal.main_arg1))
      ∧ r.2.sem = fun _ => 0)

def quiescent_RSbbIdeal [hRSbbIdeal : Cert.RSbbIdeal.Facts] : Prop :=
  ∀ (m : (ℓ : Loc Cert.RSbbIdeal.nD Cert.RSbbIdeal.τ Cert.RSbbIdeal.sig) → Buf (Elt Ideal) ℓ) (g : Dev Cert.RSbbIdeal.nD → PrngReg), Pre_RSbbIdeal m →
    θ_run (Cert.RSbbIdeal.defs (F := Ideal)) (onTc (τ := Cert.RSbbIdeal.τ) (Cert.RSbbIdeal.main (F := Ideal))) ⟨m, fun _ => 0, g⟩ (fun r => (∀ c : Dev Cert.RSbbIdeal.nD,
      r.2.mem ((c.tc : Thread Cert.RSbbIdeal.nD Cert.RSbbIdeal.τ).loc Cert.RSbbIdeal.main_arg0) = m ((c.tc : Thread Cert.RSbbIdeal.nD Cert.RSbbIdeal.τ).loc Cert.RSbbIdeal.main_arg0)
      ∧ r.2.mem ((c.tc : Thread Cert.RSbbIdeal.nD Cert.RSbbIdeal.τ).loc Cert.RSbbIdeal.main_arg1) = m ((c.tc : Thread Cert.RSbbIdeal.nD Cert.RSbbIdeal.τ).loc Cert.RSbbIdeal.main_arg1))
      ∧ r.2.sem = fun _ => 0)

def quiescent_RSbbIdeal_pre_finite_sbb [hRSbbIdeal : Cert.RSbbIdeal.Facts] [hPre_finite_sbb : Cert.Pre_finite_sbb.Facts] : Prop :=
  ∀ (m : (ℓ : Loc Cert.RSbbIdeal.nD Cert.RSbbIdeal.τ Cert.RSbbIdeal.sig) → Buf (Elt Ideal) ℓ) (g : Dev Cert.RSbbIdeal.nD → PrngReg), Pre_RSbbIdeal_finite_sbb m →
    θ_run (Cert.RSbbIdeal.defs (F := Ideal)) (onTc (τ := Cert.RSbbIdeal.τ) (Cert.RSbbIdeal.main (F := Ideal))) ⟨m, fun _ => 0, g⟩ (fun r => (∀ c : Dev Cert.RSbbIdeal.nD,
      r.2.mem ((c.tc : Thread Cert.RSbbIdeal.nD Cert.RSbbIdeal.τ).loc Cert.RSbbIdeal.main_arg0) = m ((c.tc : Thread Cert.RSbbIdeal.nD Cert.RSbbIdeal.τ).loc Cert.RSbbIdeal.main_arg0)
      ∧ r.2.mem ((c.tc : Thread Cert.RSbbIdeal.nD Cert.RSbbIdeal.τ).loc Cert.RSbbIdeal.main_arg1) = m ((c.tc : Thread Cert.RSbbIdeal.nD Cert.RSbbIdeal.τ).loc Cert.RSbbIdeal.main_arg1))
      ∧ r.2.sem = fun _ => 0)

def quiescent_KJoin [hKJoin : Cert.KJoin.Facts] : Prop :=
  ∀ (m : (ℓ : Loc Cert.KJoin.nD Cert.KJoin.τ Cert.KJoin.sig) → Buf (Elt Bits) ℓ) (g : Dev Cert.KJoin.nD → PrngReg), Pre_KJoin m →
    θ_run (Cert.KJoin.defs (F := Bits)) (onTc (τ := Cert.KJoin.τ) (Cert.KJoin.main (F := Bits))) ⟨m, fun _ => 0, g⟩ (fun r => (∀ c : Dev Cert.KJoin.nD,
      r.2.mem ((c.tc : Thread Cert.KJoin.nD Cert.KJoin.τ).loc Cert.KJoin.main_arg0) = m ((c.tc : Thread Cert.KJoin.nD Cert.KJoin.τ).loc Cert.KJoin.main_arg0)
      ∧ r.2.mem ((c.tc : Thread Cert.KJoin.nD Cert.KJoin.τ).loc Cert.KJoin.main_arg1) = m ((c.tc : Thread Cert.KJoin.nD Cert.KJoin.τ).loc Cert.KJoin.main_arg1)
      ∧ r.2.mem ((c.tc : Thread Cert.KJoin.nD Cert.KJoin.τ).loc Cert.KJoin.main_arg2) = m ((c.tc : Thread Cert.KJoin.nD Cert.KJoin.τ).loc Cert.KJoin.main_arg2)
      ∧ r.2.mem ((c.tc : Thread Cert.KJoin.nD Cert.KJoin.τ).loc Cert.KJoin.main_arg3) = m ((c.tc : Thread Cert.KJoin.nD Cert.KJoin.τ).loc Cert.KJoin.main_arg3)
      ∧ r.2.mem ((c.tc : Thread Cert.KJoin.nD Cert.KJoin.τ).loc Cert.KJoin.main_arg4) = m ((c.tc : Thread Cert.KJoin.nD Cert.KJoin.τ).loc Cert.KJoin.main_arg4)
      ∧ r.2.mem ((c.tc : Thread Cert.KJoin.nD Cert.KJoin.τ).loc Cert.KJoin.main_arg5) = m ((c.tc : Thread Cert.KJoin.nD Cert.KJoin.τ).loc Cert.KJoin.main_arg5)
      ∧ r.2.mem ((c.tc : Thread Cert.KJoin.nD Cert.KJoin.τ).loc Cert.KJoin.main_arg6) = m ((c.tc : Thread Cert.KJoin.nD Cert.KJoin.τ).loc Cert.KJoin.main_arg6))
      ∧ r.2.sem = fun _ => 0)

def quiescent_KJoinIdeal [hKJoinIdeal : Cert.KJoinIdeal.Facts] : Prop :=
  ∀ (m : (ℓ : Loc Cert.KJoinIdeal.nD Cert.KJoinIdeal.τ Cert.KJoinIdeal.sig) → Buf (Elt Ideal) ℓ) (g : Dev Cert.KJoinIdeal.nD → PrngReg), Pre_KJoinIdeal m →
    θ_run (Cert.KJoinIdeal.defs (F := Ideal)) (onTc (τ := Cert.KJoinIdeal.τ) (Cert.KJoinIdeal.main (F := Ideal))) ⟨m, fun _ => 0, g⟩ (fun r => (∀ c : Dev Cert.KJoinIdeal.nD,
      r.2.mem ((c.tc : Thread Cert.KJoinIdeal.nD Cert.KJoinIdeal.τ).loc Cert.KJoinIdeal.main_arg0) = m ((c.tc : Thread Cert.KJoinIdeal.nD Cert.KJoinIdeal.τ).loc Cert.KJoinIdeal.main_arg0)
      ∧ r.2.mem ((c.tc : Thread Cert.KJoinIdeal.nD Cert.KJoinIdeal.τ).loc Cert.KJoinIdeal.main_arg1) = m ((c.tc : Thread Cert.KJoinIdeal.nD Cert.KJoinIdeal.τ).loc Cert.KJoinIdeal.main_arg1)
      ∧ r.2.mem ((c.tc : Thread Cert.KJoinIdeal.nD Cert.KJoinIdeal.τ).loc Cert.KJoinIdeal.main_arg2) = m ((c.tc : Thread Cert.KJoinIdeal.nD Cert.KJoinIdeal.τ).loc Cert.KJoinIdeal.main_arg2)
      ∧ r.2.mem ((c.tc : Thread Cert.KJoinIdeal.nD Cert.KJoinIdeal.τ).loc Cert.KJoinIdeal.main_arg3) = m ((c.tc : Thread Cert.KJoinIdeal.nD Cert.KJoinIdeal.τ).loc Cert.KJoinIdeal.main_arg3)
      ∧ r.2.mem ((c.tc : Thread Cert.KJoinIdeal.nD Cert.KJoinIdeal.τ).loc Cert.KJoinIdeal.main_arg4) = m ((c.tc : Thread Cert.KJoinIdeal.nD Cert.KJoinIdeal.τ).loc Cert.KJoinIdeal.main_arg4)
      ∧ r.2.mem ((c.tc : Thread Cert.KJoinIdeal.nD Cert.KJoinIdeal.τ).loc Cert.KJoinIdeal.main_arg5) = m ((c.tc : Thread Cert.KJoinIdeal.nD Cert.KJoinIdeal.τ).loc Cert.KJoinIdeal.main_arg5)
      ∧ r.2.mem ((c.tc : Thread Cert.KJoinIdeal.nD Cert.KJoinIdeal.τ).loc Cert.KJoinIdeal.main_arg6) = m ((c.tc : Thread Cert.KJoinIdeal.nD Cert.KJoinIdeal.τ).loc Cert.KJoinIdeal.main_arg6))
      ∧ r.2.sem = fun _ => 0)

def quiescent_RJoinIdeal [hRJoinIdeal : Cert.RJoinIdeal.Facts] : Prop :=
  ∀ (m : (ℓ : Loc Cert.RJoinIdeal.nD Cert.RJoinIdeal.τ Cert.RJoinIdeal.sig) → Buf (Elt Ideal) ℓ) (g : Dev Cert.RJoinIdeal.nD → PrngReg), Pre_RJoinIdeal m →
    θ_run (Cert.RJoinIdeal.defs (F := Ideal)) (onTc (τ := Cert.RJoinIdeal.τ) (Cert.RJoinIdeal.main (F := Ideal))) ⟨m, fun _ => 0, g⟩ (fun r => (∀ c : Dev Cert.RJoinIdeal.nD,
      r.2.mem ((c.tc : Thread Cert.RJoinIdeal.nD Cert.RJoinIdeal.τ).loc Cert.RJoinIdeal.main_arg0) = m ((c.tc : Thread Cert.RJoinIdeal.nD Cert.RJoinIdeal.τ).loc Cert.RJoinIdeal.main_arg0)
      ∧ r.2.mem ((c.tc : Thread Cert.RJoinIdeal.nD Cert.RJoinIdeal.τ).loc Cert.RJoinIdeal.main_arg1) = m ((c.tc : Thread Cert.RJoinIdeal.nD Cert.RJoinIdeal.τ).loc Cert.RJoinIdeal.main_arg1)
      ∧ r.2.mem ((c.tc : Thread Cert.RJoinIdeal.nD Cert.RJoinIdeal.τ).loc Cert.RJoinIdeal.main_arg2) = m ((c.tc : Thread Cert.RJoinIdeal.nD Cert.RJoinIdeal.τ).loc Cert.RJoinIdeal.main_arg2)
      ∧ r.2.mem ((c.tc : Thread Cert.RJoinIdeal.nD Cert.RJoinIdeal.τ).loc Cert.RJoinIdeal.main_arg3) = m ((c.tc : Thread Cert.RJoinIdeal.nD Cert.RJoinIdeal.τ).loc Cert.RJoinIdeal.main_arg3)
      ∧ r.2.mem ((c.tc : Thread Cert.RJoinIdeal.nD Cert.RJoinIdeal.τ).loc Cert.RJoinIdeal.main_arg4) = m ((c.tc : Thread Cert.RJoinIdeal.nD Cert.RJoinIdeal.τ).loc Cert.RJoinIdeal.main_arg4)
      ∧ r.2.mem ((c.tc : Thread Cert.RJoinIdeal.nD Cert.RJoinIdeal.τ).loc Cert.RJoinIdeal.main_arg5) = m ((c.tc : Thread Cert.RJoinIdeal.nD Cert.RJoinIdeal.τ).loc Cert.RJoinIdeal.main_arg5)
      ∧ r.2.mem ((c.tc : Thread Cert.RJoinIdeal.nD Cert.RJoinIdeal.τ).loc Cert.RJoinIdeal.main_arg6) = m ((c.tc : Thread Cert.RJoinIdeal.nD Cert.RJoinIdeal.τ).loc Cert.RJoinIdeal.main_arg6))
      ∧ r.2.sem = fun _ => 0)

def quiescent_KSums [hKSums : Cert.KSums.Facts] : Prop :=
  ∀ (m : (ℓ : Loc Cert.KSums.nD Cert.KSums.τ Cert.KSums.sig) → Buf (Elt Bits) ℓ) (g : Dev Cert.KSums.nD → PrngReg), Pre_KSums m →
    θ_run (Cert.KSums.defs (F := Bits)) (onTc (τ := Cert.KSums.τ) (Cert.KSums.main (F := Bits))) ⟨m, fun _ => 0, g⟩ (fun r => (∀ c : Dev Cert.KSums.nD,
      r.2.mem ((c.tc : Thread Cert.KSums.nD Cert.KSums.τ).loc Cert.KSums.main_arg0) = m ((c.tc : Thread Cert.KSums.nD Cert.KSums.τ).loc Cert.KSums.main_arg0)
      ∧ r.2.mem ((c.tc : Thread Cert.KSums.nD Cert.KSums.τ).loc Cert.KSums.main_arg1) = m ((c.tc : Thread Cert.KSums.nD Cert.KSums.τ).loc Cert.KSums.main_arg1))
      ∧ r.2.sem = fun _ => 0)

def quiescent_KSumsIdeal [hKSumsIdeal : Cert.KSumsIdeal.Facts] : Prop :=
  ∀ (m : (ℓ : Loc Cert.KSumsIdeal.nD Cert.KSumsIdeal.τ Cert.KSumsIdeal.sig) → Buf (Elt Ideal) ℓ) (g : Dev Cert.KSumsIdeal.nD → PrngReg), Pre_KSumsIdeal m →
    θ_run (Cert.KSumsIdeal.defs (F := Ideal)) (onTc (τ := Cert.KSumsIdeal.τ) (Cert.KSumsIdeal.main (F := Ideal))) ⟨m, fun _ => 0, g⟩ (fun r => (∀ c : Dev Cert.KSumsIdeal.nD,
      r.2.mem ((c.tc : Thread Cert.KSumsIdeal.nD Cert.KSumsIdeal.τ).loc Cert.KSumsIdeal.main_arg0) = m ((c.tc : Thread Cert.KSumsIdeal.nD Cert.KSumsIdeal.τ).loc Cert.KSumsIdeal.main_arg0)
      ∧ r.2.mem ((c.tc : Thread Cert.KSumsIdeal.nD Cert.KSumsIdeal.τ).loc Cert.KSumsIdeal.main_arg1) = m ((c.tc : Thread Cert.KSumsIdeal.nD Cert.KSumsIdeal.τ).loc Cert.KSumsIdeal.main_arg1))
      ∧ r.2.sem = fun _ => 0)

def quiescent_RSumsIdeal [hRSumsIdeal : Cert.RSumsIdeal.Facts] : Prop :=
  ∀ (m : (ℓ : Loc Cert.RSumsIdeal.nD Cert.RSumsIdeal.τ Cert.RSumsIdeal.sig) → Buf (Elt Ideal) ℓ) (g : Dev Cert.RSumsIdeal.nD → PrngReg), Pre_RSumsIdeal m →
    θ_run (Cert.RSumsIdeal.defs (F := Ideal)) (onTc (τ := Cert.RSumsIdeal.τ) (Cert.RSumsIdeal.main (F := Ideal))) ⟨m, fun _ => 0, g⟩ (fun r => (∀ c : Dev Cert.RSumsIdeal.nD,
      r.2.mem ((c.tc : Thread Cert.RSumsIdeal.nD Cert.RSumsIdeal.τ).loc Cert.RSumsIdeal.main_arg0) = m ((c.tc : Thread Cert.RSumsIdeal.nD Cert.RSumsIdeal.τ).loc Cert.RSumsIdeal.main_arg0)
      ∧ r.2.mem ((c.tc : Thread Cert.RSumsIdeal.nD Cert.RSumsIdeal.τ).loc Cert.RSumsIdeal.main_arg1) = m ((c.tc : Thread Cert.RSumsIdeal.nD Cert.RSumsIdeal.τ).loc Cert.RSumsIdeal.main_arg1))
      ∧ r.2.sem = fun _ => 0)

def quiescent_KDprep [hKDprep : Cert.KDprep.Facts] : Prop :=
  ∀ (m : (ℓ : Loc Cert.KDprep.nD Cert.KDprep.τ Cert.KDprep.sig) → Buf (Elt Bits) ℓ) (g : Dev Cert.KDprep.nD → PrngReg), Pre_KDprep m →
    θ_run (Cert.KDprep.defs (F := Bits)) (onTc (τ := Cert.KDprep.τ) (Cert.KDprep.main (F := Bits))) ⟨m, fun _ => 0, g⟩ (fun r => (∀ c : Dev Cert.KDprep.nD,
      r.2.mem ((c.tc : Thread Cert.KDprep.nD Cert.KDprep.τ).loc Cert.KDprep.main_arg0) = m ((c.tc : Thread Cert.KDprep.nD Cert.KDprep.τ).loc Cert.KDprep.main_arg0)
      ∧ r.2.mem ((c.tc : Thread Cert.KDprep.nD Cert.KDprep.τ).loc Cert.KDprep.main_arg1) = m ((c.tc : Thread Cert.KDprep.nD Cert.KDprep.τ).loc Cert.KDprep.main_arg1))
      ∧ r.2.sem = fun _ => 0)

def quiescent_KDprepIdeal [hKDprepIdeal : Cert.KDprepIdeal.Facts] : Prop :=
  ∀ (m : (ℓ : Loc Cert.KDprepIdeal.nD Cert.KDprepIdeal.τ Cert.KDprepIdeal.sig) → Buf (Elt Ideal) ℓ) (g : Dev Cert.KDprepIdeal.nD → PrngReg), Pre_KDprepIdeal m →
    θ_run (Cert.KDprepIdeal.defs (F := Ideal)) (onTc (τ := Cert.KDprepIdeal.τ) (Cert.KDprepIdeal.main (F := Ideal))) ⟨m, fun _ => 0, g⟩ (fun r => (∀ c : Dev Cert.KDprepIdeal.nD,
      r.2.mem ((c.tc : Thread Cert.KDprepIdeal.nD Cert.KDprepIdeal.τ).loc Cert.KDprepIdeal.main_arg0) = m ((c.tc : Thread Cert.KDprepIdeal.nD Cert.KDprepIdeal.τ).loc Cert.KDprepIdeal.main_arg0)
      ∧ r.2.mem ((c.tc : Thread Cert.KDprepIdeal.nD Cert.KDprepIdeal.τ).loc Cert.KDprepIdeal.main_arg1) = m ((c.tc : Thread Cert.KDprepIdeal.nD Cert.KDprepIdeal.τ).loc Cert.KDprepIdeal.main_arg1))
      ∧ r.2.sem = fun _ => 0)

def quiescent_RDprepIdeal [hRDprepIdeal : Cert.RDprepIdeal.Facts] : Prop :=
  ∀ (m : (ℓ : Loc Cert.RDprepIdeal.nD Cert.RDprepIdeal.τ Cert.RDprepIdeal.sig) → Buf (Elt Ideal) ℓ) (g : Dev Cert.RDprepIdeal.nD → PrngReg), Pre_RDprepIdeal m →
    θ_run (Cert.RDprepIdeal.defs (F := Ideal)) (onTc (τ := Cert.RDprepIdeal.τ) (Cert.RDprepIdeal.main (F := Ideal))) ⟨m, fun _ => 0, g⟩ (fun r => (∀ c : Dev Cert.RDprepIdeal.nD,
      r.2.mem ((c.tc : Thread Cert.RDprepIdeal.nD Cert.RDprepIdeal.τ).loc Cert.RDprepIdeal.main_arg0) = m ((c.tc : Thread Cert.RDprepIdeal.nD Cert.RDprepIdeal.τ).loc Cert.RDprepIdeal.main_arg0)
      ∧ r.2.mem ((c.tc : Thread Cert.RDprepIdeal.nD Cert.RDprepIdeal.τ).loc Cert.RDprepIdeal.main_arg1) = m ((c.tc : Thread Cert.RDprepIdeal.nD Cert.RDprepIdeal.τ).loc Cert.RDprepIdeal.main_arg1))
      ∧ r.2.sem = fun _ => 0)

def quiescent_KRms [hKRms : Cert.KRms.Facts] : Prop :=
  ∀ (m : (ℓ : Loc Cert.KRms.nD Cert.KRms.τ Cert.KRms.sig) → Buf (Elt Bits) ℓ) (g : Dev Cert.KRms.nD → PrngReg), Pre_KRms m →
    θ_run (Cert.KRms.defs (F := Bits)) (onTc (τ := Cert.KRms.τ) (Cert.KRms.main (F := Bits))) ⟨m, fun _ => 0, g⟩ (fun r => (∀ c : Dev Cert.KRms.nD,
      r.2.mem ((c.tc : Thread Cert.KRms.nD Cert.KRms.τ).loc Cert.KRms.main_arg0) = m ((c.tc : Thread Cert.KRms.nD Cert.KRms.τ).loc Cert.KRms.main_arg0)
      ∧ r.2.mem ((c.tc : Thread Cert.KRms.nD Cert.KRms.τ).loc Cert.KRms.main_arg1) = m ((c.tc : Thread Cert.KRms.nD Cert.KRms.τ).loc Cert.KRms.main_arg1))
      ∧ r.2.sem = fun _ => 0)

def quiescent_KRmsIdeal [hKRmsIdeal : Cert.KRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg), Pre_KRmsIdeal m →
    θ_run (Cert.KRmsIdeal.defs (F := Ideal)) (onTc (τ := Cert.KRmsIdeal.τ) (Cert.KRmsIdeal.main (F := Ideal))) ⟨m, fun _ => 0, g⟩ (fun r => (∀ c : Dev Cert.KRmsIdeal.nD,
      r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
      ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1))
      ∧ r.2.sem = fun _ => 0)

def quiescent_RRmsIdeal [hRRmsIdeal : Cert.RRmsIdeal.Facts] : Prop :=
  ∀ (m : (ℓ : Loc Cert.RRmsIdeal.nD Cert.RRmsIdeal.τ Cert.RRmsIdeal.sig) → Buf (Elt Ideal) ℓ) (g : Dev Cert.RRmsIdeal.nD → PrngReg), Pre_RRmsIdeal m →
    θ_run (Cert.RRmsIdeal.defs (F := Ideal)) (onTc (τ := Cert.RRmsIdeal.τ) (Cert.RRmsIdeal.main (F := Ideal))) ⟨m, fun _ => 0, g⟩ (fun r => (∀ c : Dev Cert.RRmsIdeal.nD,
      r.2.mem ((c.tc : Thread Cert.RRmsIdeal.nD Cert.RRmsIdeal.τ).loc Cert.RRmsIdeal.main_arg0) = m ((c.tc : Thread Cert.RRmsIdeal.nD Cert.RRmsIdeal.τ).loc Cert.RRmsIdeal.main_arg0)
      ∧ r.2.mem ((c.tc : Thread Cert.RRmsIdeal.nD Cert.RRmsIdeal.τ).loc Cert.RRmsIdeal.main_arg1) = m ((c.tc : Thread Cert.RRmsIdeal.nD Cert.RRmsIdeal.τ).loc Cert.RRmsIdeal.main_arg1))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def preserves_KGate_KGateIdeal : Prop :=
  True

def algebraic_KGateIdeal_RGateIdeal [hKGateIdeal : Cert.KGateIdeal.Facts] [hRGateIdeal : Cert.RGateIdeal.Facts] : Prop :=
  ∀ (m : (ℓ : Loc Cert.KGateIdeal.nD Cert.KGateIdeal.τ Cert.KGateIdeal.sig) → Buf (Elt Ideal) ℓ) (g : Dev Cert.KGateIdeal.nD → PrngReg)
    (m' : (ℓ : Loc Cert.RGateIdeal.nD Cert.RGateIdeal.τ Cert.RGateIdeal.sig) → Buf (Elt Ideal) ℓ) (g' : Dev Cert.RGateIdeal.nD → PrngReg), Pre_KGateIdeal m →
    (∀ c : Dev Cert.KGateIdeal.nD,
      m' ((c.tc : Thread Cert.RGateIdeal.nD Cert.RGateIdeal.τ).loc Cert.RGateIdeal.main_arg0) = m ((c.tc : Thread Cert.KGateIdeal.nD Cert.KGateIdeal.τ).loc Cert.KGateIdeal.main_arg0)
      ∧ m' ((c.tc : Thread Cert.RGateIdeal.nD Cert.RGateIdeal.τ).loc Cert.RGateIdeal.main_arg1) = m ((c.tc : Thread Cert.KGateIdeal.nD Cert.KGateIdeal.τ).loc Cert.KGateIdeal.main_arg1)
      ∧ m' ((c.tc : Thread Cert.RGateIdeal.nD Cert.RGateIdeal.τ).loc Cert.RGateIdeal.main_arg2) = m ((c.tc : Thread Cert.KGateIdeal.nD Cert.KGateIdeal.τ).loc Cert.KGateIdeal.main_arg2)
      ∧ m' ((c.tc : Thread Cert.RGateIdeal.nD Cert.RGateIdeal.τ).loc Cert.RGateIdeal.main_arg3) = m ((c.tc : Thread Cert.KGateIdeal.nD Cert.KGateIdeal.τ).loc Cert.KGateIdeal.main_arg3)
      ∧ m' ((c.tc : Thread Cert.RGateIdeal.nD Cert.RGateIdeal.τ).loc Cert.RGateIdeal.main_arg4) = m ((c.tc : Thread Cert.KGateIdeal.nD Cert.KGateIdeal.τ).loc Cert.KGateIdeal.main_arg4)
      ∧ m' ((c.tc : Thread Cert.RGateIdeal.nD Cert.RGateIdeal.τ).loc Cert.RGateIdeal.main_arg5) = m ((c.tc : Thread Cert.KGateIdeal.nD Cert.KGateIdeal.τ).loc Cert.KGateIdeal.main_arg5)
      ∧ m' ((c.tc : Thread Cert.RGateIdeal.nD Cert.RGateIdeal.τ).loc Cert.RGateIdeal.main_arg6) = m ((c.tc : Thread Cert.KGateIdeal.nD Cert.KGateIdeal.τ).loc Cert.KGateIdeal.main_arg6)) →
    ∃ (v0 : (c : Dev Cert.KGateIdeal.nD) → Buf (Elt Ideal) ((c.tc : Thread Cert.KGateIdeal.nD Cert.KGateIdeal.τ).loc Cert.KGateIdeal.main_v5_0)) (v1 : (c : Dev Cert.KGateIdeal.nD) → Buf (Elt Ideal) ((c.tc : Thread Cert.KGateIdeal.nD Cert.KGateIdeal.τ).loc Cert.KGateIdeal.main_v5_1)) (v2 : (c : Dev Cert.KGateIdeal.nD) → Buf (Elt Ideal) ((c.tc : Thread Cert.KGateIdeal.nD Cert.KGateIdeal.τ).loc Cert.KGateIdeal.main_v5_2)) (v3 : (c : Dev Cert.KGateIdeal.nD) → Buf (Elt Ideal) ((c.tc : Thread Cert.KGateIdeal.nD Cert.KGateIdeal.τ).loc Cert.KGateIdeal.main_v8_0)) (v4 : (c : Dev Cert.KGateIdeal.nD) → Buf (Elt Ideal) ((c.tc : Thread Cert.KGateIdeal.nD Cert.KGateIdeal.τ).loc Cert.KGateIdeal.main_v8_1)) (v5 : (c : Dev Cert.KGateIdeal.nD) → Buf (Elt Ideal) ((c.tc : Thread Cert.KGateIdeal.nD Cert.KGateIdeal.τ).loc Cert.KGateIdeal.main_v8_2)),
      θ_run (Cert.KGateIdeal.defs (F := Ideal)) (onTc (τ := Cert.KGateIdeal.τ) (Cert.KGateIdeal.main (F := Ideal))) ⟨m, fun _ => 0, g⟩ (fun r => ∀ c : Dev Cert.KGateIdeal.nD,
          r.2.mem ((c.tc : Thread Cert.KGateIdeal.nD Cert.KGateIdeal.τ).loc Cert.KGateIdeal.main_v5_0) = v0 c
          ∧ r.2.mem ((c.tc : Thread Cert.KGateIdeal.nD Cert.KGateIdeal.τ).loc Cert.KGateIdeal.main_v5_1) = v1 c
          ∧ r.2.mem ((c.tc : Thread Cert.KGateIdeal.nD Cert.KGateIdeal.τ).loc Cert.KGateIdeal.main_v5_2) = v2 c
          ∧ r.2.mem ((c.tc : Thread Cert.KGateIdeal.nD Cert.KGateIdeal.τ).loc Cert.KGateIdeal.main_v8_0) = v3 c
          ∧ r.2.mem ((c.tc : Thread Cert.KGateIdeal.nD Cert.KGateIdeal.τ).loc Cert.KGateIdeal.main_v8_1) = v4 c
          ∧ r.2.mem ((c.tc : Thread Cert.KGateIdeal.nD Cert.KGateIdeal.τ).loc Cert.KGateIdeal.main_v8_2) = v5 c
          ∧ r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
          ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
          ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
          ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3)
          ∧ r.2.mem ((c.tc : Thread Cert.KGateIdeal.nD Cert.KGateIdeal.τ).loc Cert.KGateIdeal.main_arg4) = m ((c.tc : Thread Cert.KGateIdeal.nD Cert.KGateIdeal.τ).loc Cert.KGateIdeal.main_arg4)
          ∧ r.2.mem ((c.tc : Thread Cert.KGateIdeal.nD Cert.KGateIdeal.τ).loc Cert.KGateIdeal.main_arg5) = m ((c.tc : Thread Cert.KGateIdeal.nD Cert.KGateIdeal.τ).loc Cert.KGateIdeal.main_arg5)
          ∧ r.2.mem ((c.tc : Thread Cert.KGateIdeal.nD Cert.KGateIdeal.τ).loc Cert.KGateIdeal.main_arg6) = m ((c.tc : Thread Cert.KGateIdeal.nD Cert.KGateIdeal.τ).loc Cert.KGateIdeal.main_arg6))
      ∧ θ_run (Cert.RGateIdeal.defs (F := Ideal)) (onTc (τ := Cert.RGateIdeal.τ) (Cert.RGateIdeal.main (F := Ideal))) ⟨m', fun _ => 0, g'⟩ (fun r => ∀ c : Dev Cert.RGateIdeal.nD,
          r.2.mem ((c.tc : Thread Cert.RGateIdeal.nD Cert.RGateIdeal.τ).loc Cert.RGateIdeal.main_v54) = v0 c
          ∧ r.2.mem ((c.tc : Thread Cert.RGateIdeal.nD Cert.RGateIdeal.τ).loc Cert.RGateIdeal.main_v55) = v1 c
          ∧ r.2.mem ((c.tc : Thread Cert.RGateIdeal.nD Cert.RGateIdeal.τ).loc Cert.RGateIdeal.main_v56) = v2 c
          ∧ r.2.mem ((c.tc : Thread Cert.RGateIdeal.nD Cert.RGateIdeal.τ).loc Cert.RGateIdeal.main_v57) = v3 c
          ∧ r.2.mem ((c.tc : Thread Cert.RGateIdeal.nD Cert.RGateIdeal.τ).loc Cert.RGateIdeal.main_v58) = v4 c
          ∧ r.2.mem ((c.tc : Thread Cert.RGateIdeal.nD Cert.RGateIdeal.τ).loc Cert.RGateIdeal.main_v59) = v5 c
          ∧ r.2.mem ((c.tc : Thread Cert.RGateIdeal.nD Cert.RGateIdeal.τ).loc Cert.RGateIdeal.main_arg0) = m' ((c.tc : Thread Cert.RGateIdeal.nD Cert.RGateIdeal.τ).loc Cert.RGateIdeal.main_arg0)
          ∧ r.2.mem ((c.tc : Thread Cert.RGateIdeal.nD Cert.RGateIdeal.τ).loc Cert.RGateIdeal.main_arg1) = m' ((c.tc : Thread Cert.RGateIdeal.nD Cert.RGateIdeal.τ).loc Cert.RGateIdeal.main_arg1)
          ∧ r.2.mem ((c.tc : Thread Cert.RGateIdeal.nD Cert.RGateIdeal.τ).loc Cert.RGateIdeal.main_arg2) = m' ((c.tc : Thread Cert.RGateIdeal.nD Cert.RGateIdeal.τ).loc Cert.RGateIdeal.main_arg2)
          ∧ r.2.mem ((c.tc : Thread Cert.RGateIdeal.nD Cert.RGateIdeal.τ).loc Cert.RGateIdeal.main_arg3) = m' ((c.tc : Thread Cert.RGateIdeal.nD Cert.RGateIdeal.τ).loc Cert.RGateIdeal.main_arg3)
          ∧ r.2.mem ((c.tc : Thread Cert.RGateIdeal.nD Cert.RGateIdeal.τ).loc Cert.RGateIdeal.main_arg4) = m' ((c.tc : Thread Cert.RGateIdeal.nD Cert.RGateIdeal.τ).loc Cert.RGateIdeal.main_arg4)
          ∧ r.2.mem ((c.tc : Thread Cert.RGateIdeal.nD Cert.RGateIdeal.τ).loc Cert.RGateIdeal.main_arg5) = m' ((c.tc : Thread Cert.RGateIdeal.nD Cert.RGateIdeal.τ).loc Cert.RGateIdeal.main_arg5)
          ∧ r.2.mem ((c.tc : Thread Cert.RGateIdeal.nD Cert.RGateIdeal.τ).loc Cert.RGateIdeal.main_arg6) = m' ((c.tc : Thread Cert.RGateIdeal.nD Cert.RGateIdeal.τ).loc Cert.RGateIdeal.main_arg6))

def preserves_KSwiglu_KSwigluIdeal : Prop :=
  True

def algebraic_KSwigluIdeal_RSwigluIdeal_pre_finite_swiglu [hKSwigluIdeal : Cert.KSwigluIdeal.Facts] [hRSwigluIdeal : Cert.RSwigluIdeal.Facts] [hPre_finite_swiglu : Cert.Pre_finite_swiglu.Facts] : Prop :=
  ∀ (m : (ℓ : Loc Cert.KSwigluIdeal.nD Cert.KSwigluIdeal.τ Cert.KSwigluIdeal.sig) → Buf (Elt Ideal) ℓ) (g : Dev Cert.KSwigluIdeal.nD → PrngReg)
    (m' : (ℓ : Loc Cert.RSwigluIdeal.nD Cert.RSwigluIdeal.τ Cert.RSwigluIdeal.sig) → Buf (Elt Ideal) ℓ) (g' : Dev Cert.RSwigluIdeal.nD → PrngReg), Pre_KSwigluIdeal_finite_swiglu m →
    (∀ c : Dev Cert.KSwigluIdeal.nD,
      m' ((c.tc : Thread Cert.RSwigluIdeal.nD Cert.RSwigluIdeal.τ).loc Cert.RSwigluIdeal.main_arg0) = m ((c.tc : Thread Cert.KSwigluIdeal.nD Cert.KSwigluIdeal.τ).loc Cert.KSwigluIdeal.main_arg0)
      ∧ m' ((c.tc : Thread Cert.RSwigluIdeal.nD Cert.RSwigluIdeal.τ).loc Cert.RSwigluIdeal.main_arg1) = m ((c.tc : Thread Cert.KSwigluIdeal.nD Cert.KSwigluIdeal.τ).loc Cert.KSwigluIdeal.main_arg1)
      ∧ m' ((c.tc : Thread Cert.RSwigluIdeal.nD Cert.RSwigluIdeal.τ).loc Cert.RSwigluIdeal.main_arg2) = m ((c.tc : Thread Cert.KSwigluIdeal.nD Cert.KSwigluIdeal.τ).loc Cert.KSwigluIdeal.main_arg2)
      ∧ m' ((c.tc : Thread Cert.RSwigluIdeal.nD Cert.RSwigluIdeal.τ).loc Cert.RSwigluIdeal.main_arg3) = m ((c.tc : Thread Cert.KSwigluIdeal.nD Cert.KSwigluIdeal.τ).loc Cert.KSwigluIdeal.main_arg3)
      ∧ m' ((c.tc : Thread Cert.RSwigluIdeal.nD Cert.RSwigluIdeal.τ).loc Cert.RSwigluIdeal.main_arg4) = m ((c.tc : Thread Cert.KSwigluIdeal.nD Cert.KSwigluIdeal.τ).loc Cert.KSwigluIdeal.main_arg4)) →
    ∃ (v0 : (c : Dev Cert.KSwigluIdeal.nD) → Buf (Elt Ideal) ((c.tc : Thread Cert.KSwigluIdeal.nD Cert.KSwigluIdeal.τ).loc Cert.KSwigluIdeal.main_v5_2)) (v1 : (c : Dev Cert.KSwigluIdeal.nD) → Buf (Elt Ideal) ((c.tc : Thread Cert.KSwigluIdeal.nD Cert.KSwigluIdeal.τ).loc Cert.KSwigluIdeal.main_v8_0)) (v2 : (c : Dev Cert.KSwigluIdeal.nD) → Buf (Elt Ideal) ((c.tc : Thread Cert.KSwigluIdeal.nD Cert.KSwigluIdeal.τ).loc Cert.KSwigluIdeal.main_v8_1)),
      θ_run (Cert.KSwigluIdeal.defs (F := Ideal)) (onTc (τ := Cert.KSwigluIdeal.τ) (Cert.KSwigluIdeal.main (F := Ideal))) ⟨m, fun _ => 0, g⟩ (fun r => ∀ c : Dev Cert.KSwigluIdeal.nD,
          r.2.mem ((c.tc : Thread Cert.KSwigluIdeal.nD Cert.KSwigluIdeal.τ).loc Cert.KSwigluIdeal.main_v5_2) = v0 c
          ∧ r.2.mem ((c.tc : Thread Cert.KSwigluIdeal.nD Cert.KSwigluIdeal.τ).loc Cert.KSwigluIdeal.main_v8_0) = v1 c
          ∧ r.2.mem ((c.tc : Thread Cert.KSwigluIdeal.nD Cert.KSwigluIdeal.τ).loc Cert.KSwigluIdeal.main_v8_1) = v2 c
          ∧ r.2.mem ((c.tc : Thread Cert.KSwigluIdeal.nD Cert.KSwigluIdeal.τ).loc Cert.KSwigluIdeal.main_arg0) = m ((c.tc : Thread Cert.KSwigluIdeal.nD Cert.KSwigluIdeal.τ).loc Cert.KSwigluIdeal.main_arg0)
          ∧ r.2.mem ((c.tc : Thread Cert.KSwigluIdeal.nD Cert.KSwigluIdeal.τ).loc Cert.KSwigluIdeal.main_arg1) = m ((c.tc : Thread Cert.KSwigluIdeal.nD Cert.KSwigluIdeal.τ).loc Cert.KSwigluIdeal.main_arg1)
          ∧ r.2.mem ((c.tc : Thread Cert.KSwigluIdeal.nD Cert.KSwigluIdeal.τ).loc Cert.KSwigluIdeal.main_arg2) = m ((c.tc : Thread Cert.KSwigluIdeal.nD Cert.KSwigluIdeal.τ).loc Cert.KSwigluIdeal.main_arg2)
          ∧ r.2.mem ((c.tc : Thread Cert.KSwigluIdeal.nD Cert.KSwigluIdeal.τ).loc Cert.KSwigluIdeal.main_arg3) = m ((c.tc : Thread Cert.KSwigluIdeal.nD Cert.KSwigluIdeal.τ).loc Cert.KSwigluIdeal.main_arg3)
          ∧ r.2.mem ((c.tc : Thread Cert.KSwigluIdeal.nD Cert.KSwigluIdeal.τ).loc Cert.KSwigluIdeal.main_arg4) = m ((c.tc : Thread Cert.KSwigluIdeal.nD Cert.KSwigluIdeal.τ).loc Cert.KSwigluIdeal.main_arg4))
      ∧ θ_run (Cert.RSwigluIdeal.defs (F := Ideal)) (onTc (τ := Cert.RSwigluIdeal.τ) (Cert.RSwigluIdeal.main (F := Ideal))) ⟨m', fun _ => 0, g'⟩ (fun r => ∀ c : Dev Cert.RSwigluIdeal.nD,
          r.2.mem ((c.tc : Thread Cert.RSwigluIdeal.nD Cert.RSwigluIdeal.τ).loc Cert.RSwigluIdeal.main_v15) = v0 c
          ∧ r.2.mem ((c.tc : Thread Cert.RSwigluIdeal.nD Cert.RSwigluIdeal.τ).loc Cert.RSwigluIdeal.main_v16) = v1 c
          ∧ r.2.mem ((c.tc : Thread Cert.RSwigluIdeal.nD Cert.RSwigluIdeal.τ).loc Cert.RSwigluIdeal.main_v17) = v2 c
          ∧ r.2.mem ((c.tc : Thread Cert.RSwigluIdeal.nD Cert.RSwigluIdeal.τ).loc Cert.RSwigluIdeal.main_arg0) = m' ((c.tc : Thread Cert.RSwigluIdeal.nD Cert.RSwigluIdeal.τ).loc Cert.RSwigluIdeal.main_arg0)
          ∧ r.2.mem ((c.tc : Thread Cert.RSwigluIdeal.nD Cert.RSwigluIdeal.τ).loc Cert.RSwigluIdeal.main_arg1) = m' ((c.tc : Thread Cert.RSwigluIdeal.nD Cert.RSwigluIdeal.τ).loc Cert.RSwigluIdeal.main_arg1)
          ∧ r.2.mem ((c.tc : Thread Cert.RSwigluIdeal.nD Cert.RSwigluIdeal.τ).loc Cert.RSwigluIdeal.main_arg2) = m' ((c.tc : Thread Cert.RSwigluIdeal.nD Cert.RSwigluIdeal.τ).loc Cert.RSwigluIdeal.main_arg2)
          ∧ r.2.mem ((c.tc : Thread Cert.RSwigluIdeal.nD Cert.RSwigluIdeal.τ).loc Cert.RSwigluIdeal.main_arg3) = m' ((c.tc : Thread Cert.RSwigluIdeal.nD Cert.RSwigluIdeal.τ).loc Cert.RSwigluIdeal.main_arg3)
          ∧ r.2.mem ((c.tc : Thread Cert.RSwigluIdeal.nD Cert.RSwigluIdeal.τ).loc Cert.RSwigluIdeal.main_arg4) = m' ((c.tc : Thread Cert.RSwigluIdeal.nD Cert.RSwigluIdeal.τ).loc Cert.RSwigluIdeal.main_arg4))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)) →
    ∃ (v0 : (c : Dev Cert.KLossIdeal.nD) → Buf (Elt Ideal) ((c.tc : Thread Cert.KLossIdeal.nD Cert.KLossIdeal.τ).loc Cert.KLossIdeal.main_v1_0)) (v1 : (c : Dev Cert.KLossIdeal.nD) → Buf (Elt Ideal) ((c.tc : Thread Cert.KLossIdeal.nD Cert.KLossIdeal.τ).loc Cert.KLossIdeal.main_v1_1)) (v2 : (c : Dev Cert.KLossIdeal.nD) → Buf (Elt Ideal) ((c.tc : Thread Cert.KLossIdeal.nD Cert.KLossIdeal.τ).loc Cert.KLossIdeal.main_v1_2)) (v3 : (c : Dev Cert.KLossIdeal.nD) → Buf (Elt Ideal) ((c.tc : Thread Cert.KLossIdeal.nD Cert.KLossIdeal.τ).loc Cert.KLossIdeal.main_v1_3)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v1_0) = v0 c
          ∧ r.2.mem ((c.tc : Thread Cert.KLossIdeal.nD Cert.KLossIdeal.τ).loc Cert.KLossIdeal.main_v1_1) = v1 c
          ∧ r.2.mem ((c.tc : Thread Cert.KLossIdeal.nD Cert.KLossIdeal.τ).loc Cert.KLossIdeal.main_v1_2) = v2 c
          ∧ r.2.mem ((c.tc : Thread Cert.KLossIdeal.nD Cert.KLossIdeal.τ).loc Cert.KLossIdeal.main_v1_3) = v3 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v50) = v0 c
          ∧ r.2.mem ((c.tc : Thread Cert.RLossIdeal.nD Cert.RLossIdeal.τ).loc Cert.RLossIdeal.main_v51) = v1 c
          ∧ r.2.mem ((c.tc : Thread Cert.RLossIdeal.nD Cert.RLossIdeal.τ).loc Cert.RLossIdeal.main_v52) = v2 c
          ∧ r.2.mem ((c.tc : Thread Cert.RLossIdeal.nD Cert.RLossIdeal.τ).loc Cert.RLossIdeal.main_v53) = v3 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2))

def preserves_KDffn_KDffnIdeal : Prop :=
  True

def algebraic_KDffnIdeal_RDffnIdeal [hKDffnIdeal : Cert.KDffnIdeal.Facts] [hRDffnIdeal : Cert.RDffnIdeal.Facts] : Prop :=
  ∀ (m : (ℓ : Loc Cert.KDffnIdeal.nD Cert.KDffnIdeal.τ Cert.KDffnIdeal.sig) → Buf (Elt Ideal) ℓ) (g : Dev Cert.KDffnIdeal.nD → PrngReg)
    (m' : (ℓ : Loc Cert.RDffnIdeal.nD Cert.RDffnIdeal.τ Cert.RDffnIdeal.sig) → Buf (Elt Ideal) ℓ) (g' : Dev Cert.RDffnIdeal.nD → PrngReg), Pre_KDffnIdeal m →
    (∀ c : Dev Cert.KDffnIdeal.nD,
      m' ((c.tc : Thread Cert.RDffnIdeal.nD Cert.RDffnIdeal.τ).loc Cert.RDffnIdeal.main_arg0) = m ((c.tc : Thread Cert.KDffnIdeal.nD Cert.KDffnIdeal.τ).loc Cert.KDffnIdeal.main_arg0)
      ∧ m' ((c.tc : Thread Cert.RDffnIdeal.nD Cert.RDffnIdeal.τ).loc Cert.RDffnIdeal.main_arg1) = m ((c.tc : Thread Cert.KDffnIdeal.nD Cert.KDffnIdeal.τ).loc Cert.KDffnIdeal.main_arg1)
      ∧ m' ((c.tc : Thread Cert.RDffnIdeal.nD Cert.RDffnIdeal.τ).loc Cert.RDffnIdeal.main_arg2) = m ((c.tc : Thread Cert.KDffnIdeal.nD Cert.KDffnIdeal.τ).loc Cert.KDffnIdeal.main_arg2)
      ∧ m' ((c.tc : Thread Cert.RDffnIdeal.nD Cert.RDffnIdeal.τ).loc Cert.RDffnIdeal.main_arg3) = m ((c.tc : Thread Cert.KDffnIdeal.nD Cert.KDffnIdeal.τ).loc Cert.KDffnIdeal.main_arg3)
      ∧ m' ((c.tc : Thread Cert.RDffnIdeal.nD Cert.RDffnIdeal.τ).loc Cert.RDffnIdeal.main_arg4) = m ((c.tc : Thread Cert.KDffnIdeal.nD Cert.KDffnIdeal.τ).loc Cert.KDffnIdeal.main_arg4)
      ∧ m' ((c.tc : Thread Cert.RDffnIdeal.nD Cert.RDffnIdeal.τ).loc Cert.RDffnIdeal.main_arg5) = m ((c.tc : Thread Cert.KDffnIdeal.nD Cert.KDffnIdeal.τ).loc Cert.KDffnIdeal.main_arg5)
      ∧ m' ((c.tc : Thread Cert.RDffnIdeal.nD Cert.RDffnIdeal.τ).loc Cert.RDffnIdeal.main_arg6) = m ((c.tc : Thread Cert.KDffnIdeal.nD Cert.KDffnIdeal.τ).loc Cert.KDffnIdeal.main_arg6)) →
    ∃ (v0 : (c : Dev Cert.KDffnIdeal.nD) → Buf (Elt Ideal) ((c.tc : Thread Cert.KDffnIdeal.nD Cert.KDffnIdeal.τ).loc Cert.KDffnIdeal.main_v7_0)) (v1 : (c : Dev Cert.KDffnIdeal.nD) → Buf (Elt Ideal) ((c.tc : Thread Cert.KDffnIdeal.nD Cert.KDffnIdeal.τ).loc Cert.KDffnIdeal.main_v7_1)) (v2 : (c : Dev Cert.KDffnIdeal.nD) → Buf (Elt Ideal) ((c.tc : Thread Cert.KDffnIdeal.nD Cert.KDffnIdeal.τ).loc Cert.KDffnIdeal.main_v7_2)),
      θ_run (Cert.KDffnIdeal.defs (F := Ideal)) (onTc (τ := Cert.KDffnIdeal.τ) (Cert.KDffnIdeal.main (F := Ideal))) ⟨m, fun _ => 0, g⟩ (fun r => ∀ c : Dev Cert.KDffnIdeal.nD,
          r.2.mem ((c.tc : Thread Cert.KDffnIdeal.nD Cert.KDffnIdeal.τ).loc Cert.KDffnIdeal.main_v7_0) = v0 c
          ∧ r.2.mem ((c.tc : Thread Cert.KDffnIdeal.nD Cert.KDffnIdeal.τ).loc Cert.KDffnIdeal.main_v7_1) = v1 c
          ∧ r.2.mem ((c.tc : Thread Cert.KDffnIdeal.nD Cert.KDffnIdeal.τ).loc Cert.KDffnIdeal.main_v7_2) = v2 c
          ∧ r.2.mem ((c.tc : Thread Cert.KDffnIdeal.nD Cert.KDffnIdeal.τ).loc Cert.KDffnIdeal.main_arg0) = m ((c.tc : Thread Cert.KDffnIdeal.nD Cert.KDffnIdeal.τ).loc Cert.KDffnIdeal.main_arg0)
          ∧ r.2.mem ((c.tc : Thread Cert.KDffnIdeal.nD Cert.KDffnIdeal.τ).loc Cert.KDffnIdeal.main_arg1) = m ((c.tc : Thread Cert.KDffnIdeal.nD Cert.KDffnIdeal.τ).loc Cert.KDffnIdeal.main_arg1)
          ∧ r.2.mem ((c.tc : Thread Cert.KDffnIdeal.nD Cert.KDffnIdeal.τ).loc Cert.KDffnIdeal.main_arg2) = m ((c.tc : Thread Cert.KDffnIdeal.nD Cert.KDffnIdeal.τ).loc Cert.KDffnIdeal.main_arg2)
          ∧ r.2.mem ((c.tc : Thread Cert.KDffnIdeal.nD Cert.KDffnIdeal.τ).loc Cert.KDffnIdeal.main_arg3) = m ((c.tc : Thread Cert.KDffnIdeal.nD Cert.KDffnIdeal.τ).loc Cert.KDffnIdeal.main_arg3)
          ∧ r.2.mem ((c.tc : Thread Cert.KDffnIdeal.nD Cert.KDffnIdeal.τ).loc Cert.KDffnIdeal.main_arg4) = m ((c.tc : Thread Cert.KDffnIdeal.nD Cert.KDffnIdeal.τ).loc Cert.KDffnIdeal.main_arg4)
          ∧ r.2.mem ((c.tc : Thread Cert.KDffnIdeal.nD Cert.KDffnIdeal.τ).loc Cert.KDffnIdeal.main_arg5) = m ((c.tc : Thread Cert.KDffnIdeal.nD Cert.KDffnIdeal.τ).loc Cert.KDffnIdeal.main_arg5)
          ∧ r.2.mem ((c.tc : Thread Cert.KDffnIdeal.nD Cert.KDffnIdeal.τ).loc Cert.KDffnIdeal.main_arg6) = m ((c.tc : Thread Cert.KDffnIdeal.nD Cert.KDffnIdeal.τ).loc Cert.KDffnIdeal.main_arg6))
      ∧ θ_run (Cert.RDffnIdeal.defs (F := Ideal)) (onTc (τ := Cert.RDffnIdeal.τ) (Cert.RDffnIdeal.main (F := Ideal))) ⟨m', fun _ => 0, g'⟩ (fun r => ∀ c : Dev Cert.RDffnIdeal.nD,
          r.2.mem ((c.tc : Thread Cert.RDffnIdeal.nD Cert.RDffnIdeal.τ).loc Cert.RDffnIdeal.main_v41) = v0 c
          ∧ r.2.mem ((c.tc : Thread Cert.RDffnIdeal.nD Cert.RDffnIdeal.τ).loc Cert.RDffnIdeal.main_v42) = v1 c
          ∧ r.2.mem ((c.tc : Thread Cert.RDffnIdeal.nD Cert.RDffnIdeal.τ).loc Cert.RDffnIdeal.main_v43) = v2 c
          ∧ r.2.mem ((c.tc : Thread Cert.RDffnIdeal.nD Cert.RDffnIdeal.τ).loc Cert.RDffnIdeal.main_arg0) = m' ((c.tc : Thread Cert.RDffnIdeal.nD Cert.RDffnIdeal.τ).loc Cert.RDffnIdeal.main_arg0)
          ∧ r.2.mem ((c.tc : Thread Cert.RDffnIdeal.nD Cert.RDffnIdeal.τ).loc Cert.RDffnIdeal.main_arg1) = m' ((c.tc : Thread Cert.RDffnIdeal.nD Cert.RDffnIdeal.τ).loc Cert.RDffnIdeal.main_arg1)
          ∧ r.2.mem ((c.tc : Thread Cert.RDffnIdeal.nD Cert.RDffnIdeal.τ).loc Cert.RDffnIdeal.main_arg2) = m' ((c.tc : Thread Cert.RDffnIdeal.nD Cert.RDffnIdeal.τ).loc Cert.RDffnIdeal.main_arg2)
          ∧ r.2.mem ((c.tc : Thread Cert.RDffnIdeal.nD Cert.RDffnIdeal.τ).loc Cert.RDffnIdeal.main_arg3) = m' ((c.tc : Thread Cert.RDffnIdeal.nD Cert.RDffnIdeal.τ).loc Cert.RDffnIdeal.main_arg3)
          ∧ r.2.mem ((c.tc : Thread Cert.RDffnIdeal.nD Cert.RDffnIdeal.τ).loc Cert.RDffnIdeal.main_arg4) = m' ((c.tc : Thread Cert.RDffnIdeal.nD Cert.RDffnIdeal.τ).loc Cert.RDffnIdeal.main_arg4)
          ∧ r.2.mem ((c.tc : Thread Cert.RDffnIdeal.nD Cert.RDffnIdeal.τ).loc Cert.RDffnIdeal.main_arg5) = m' ((c.tc : Thread Cert.RDffnIdeal.nD Cert.RDffnIdeal.τ).loc Cert.RDffnIdeal.main_arg5)
          ∧ r.2.mem ((c.tc : Thread Cert.RDffnIdeal.nD Cert.RDffnIdeal.τ).loc Cert.RDffnIdeal.main_arg6) = m' ((c.tc : Thread Cert.RDffnIdeal.nD Cert.RDffnIdeal.τ).loc Cert.RDffnIdeal.main_arg6))

def preserves_KDmix_KDmixIdeal : Prop :=
  True

def algebraic_KDmixIdeal_RDmixIdeal [hKDmixIdeal : Cert.KDmixIdeal.Facts] [hRDmixIdeal : Cert.RDmixIdeal.Facts] : Prop :=
  ∀ (m : (ℓ : Loc Cert.KDmixIdeal.nD Cert.KDmixIdeal.τ Cert.KDmixIdeal.sig) → Buf (Elt Ideal) ℓ) (g : Dev Cert.KDmixIdeal.nD → PrngReg)
    (m' : (ℓ : Loc Cert.RDmixIdeal.nD Cert.RDmixIdeal.τ Cert.RDmixIdeal.sig) → Buf (Elt Ideal) ℓ) (g' : Dev Cert.RDmixIdeal.nD → PrngReg), Pre_KDmixIdeal m →
    (∀ c : Dev Cert.KDmixIdeal.nD,
      m' ((c.tc : Thread Cert.RDmixIdeal.nD Cert.RDmixIdeal.τ).loc Cert.RDmixIdeal.main_arg0) = m ((c.tc : Thread Cert.KDmixIdeal.nD Cert.KDmixIdeal.τ).loc Cert.KDmixIdeal.main_arg0)
      ∧ m' ((c.tc : Thread Cert.RDmixIdeal.nD Cert.RDmixIdeal.τ).loc Cert.RDmixIdeal.main_arg1) = m ((c.tc : Thread Cert.KDmixIdeal.nD Cert.KDmixIdeal.τ).loc Cert.KDmixIdeal.main_arg1)
      ∧ m' ((c.tc : Thread Cert.RDmixIdeal.nD Cert.RDmixIdeal.τ).loc Cert.RDmixIdeal.main_arg2) = m ((c.tc : Thread Cert.KDmixIdeal.nD Cert.KDmixIdeal.τ).loc Cert.KDmixIdeal.main_arg2)
      ∧ m' ((c.tc : Thread Cert.RDmixIdeal.nD Cert.RDmixIdeal.τ).loc Cert.RDmixIdeal.main_arg3) = m ((c.tc : Thread Cert.KDmixIdeal.nD Cert.KDmixIdeal.τ).loc Cert.KDmixIdeal.main_arg3)
      ∧ m' ((c.tc : Thread Cert.RDmixIdeal.nD Cert.RDmixIdeal.τ).loc Cert.RDmixIdeal.main_arg4) = m ((c.tc : Thread Cert.KDmixIdeal.nD Cert.KDmixIdeal.τ).loc Cert.KDmixIdeal.main_arg4)) →
    ∃ (v0 : (c : Dev Cert.KDmixIdeal.nD) → Buf (Elt Ideal) ((c.tc : Thread Cert.KDmixIdeal.nD Cert.KDmixIdeal.τ).loc Cert.KDmixIdeal.main_v4_0)) (v1 : (c : Dev Cert.KDmixIdeal.nD) → Buf (Elt Ideal) ((c.tc : Thread Cert.KDmixIdeal.nD Cert.KDmixIdeal.τ).loc Cert.KDmixIdeal.main_v4_1)) (v2 : (c : Dev Cert.KDmixIdeal.nD) → Buf (Elt Ideal) ((c.tc : Thread Cert.KDmixIdeal.nD Cert.KDmixIdeal.τ).loc Cert.KDmixIdeal.main_v4_2)),
      θ_run (Cert.KDmixIdeal.defs (F := Ideal)) (onTc (τ := Cert.KDmixIdeal.τ) (Cert.KDmixIdeal.main (F := Ideal))) ⟨m, fun _ => 0, g⟩ (fun r => ∀ c : Dev Cert.KDmixIdeal.nD,
          r.2.mem ((c.tc : Thread Cert.KDmixIdeal.nD Cert.KDmixIdeal.τ).loc Cert.KDmixIdeal.main_v4_0) = v0 c
          ∧ r.2.mem ((c.tc : Thread Cert.KDmixIdeal.nD Cert.KDmixIdeal.τ).loc Cert.KDmixIdeal.main_v4_1) = v1 c
          ∧ r.2.mem ((c.tc : Thread Cert.KDmixIdeal.nD Cert.KDmixIdeal.τ).loc Cert.KDmixIdeal.main_v4_2) = v2 c
          ∧ r.2.mem ((c.tc : Thread Cert.KDmixIdeal.nD Cert.KDmixIdeal.τ).loc Cert.KDmixIdeal.main_arg0) = m ((c.tc : Thread Cert.KDmixIdeal.nD Cert.KDmixIdeal.τ).loc Cert.KDmixIdeal.main_arg0)
          ∧ r.2.mem ((c.tc : Thread Cert.KDmixIdeal.nD Cert.KDmixIdeal.τ).loc Cert.KDmixIdeal.main_arg1) = m ((c.tc : Thread Cert.KDmixIdeal.nD Cert.KDmixIdeal.τ).loc Cert.KDmixIdeal.main_arg1)
          ∧ r.2.mem ((c.tc : Thread Cert.KDmixIdeal.nD Cert.KDmixIdeal.τ).loc Cert.KDmixIdeal.main_arg2) = m ((c.tc : Thread Cert.KDmixIdeal.nD Cert.KDmixIdeal.τ).loc Cert.KDmixIdeal.main_arg2)
          ∧ r.2.mem ((c.tc : Thread Cert.KDmixIdeal.nD Cert.KDmixIdeal.τ).loc Cert.KDmixIdeal.main_arg3) = m ((c.tc : Thread Cert.KDmixIdeal.nD Cert.KDmixIdeal.τ).loc Cert.KDmixIdeal.main_arg3)
          ∧ r.2.mem ((c.tc : Thread Cert.KDmixIdeal.nD Cert.KDmixIdeal.τ).loc Cert.KDmixIdeal.main_arg4) = m ((c.tc : Thread Cert.KDmixIdeal.nD Cert.KDmixIdeal.τ).loc Cert.KDmixIdeal.main_arg4))
      ∧ θ_run (Cert.RDmixIdeal.defs (F := Ideal)) (onTc (τ := Cert.RDmixIdeal.τ) (Cert.RDmixIdeal.main (F := Ideal))) ⟨m', fun _ => 0, g'⟩ (fun r => ∀ c : Dev Cert.RDmixIdeal.nD,
          r.2.mem ((c.tc : Thread Cert.RDmixIdeal.nD Cert.RDmixIdeal.τ).loc Cert.RDmixIdeal.main_v38) = v0 c
          ∧ r.2.mem ((c.tc : Thread Cert.RDmixIdeal.nD Cert.RDmixIdeal.τ).loc Cert.RDmixIdeal.main_v39) = v1 c
          ∧ r.2.mem ((c.tc : Thread Cert.RDmixIdeal.nD Cert.RDmixIdeal.τ).loc Cert.RDmixIdeal.main_v40) = v2 c
          ∧ r.2.mem ((c.tc : Thread Cert.RDmixIdeal.nD Cert.RDmixIdeal.τ).loc Cert.RDmixIdeal.main_arg0) = m' ((c.tc : Thread Cert.RDmixIdeal.nD Cert.RDmixIdeal.τ).loc Cert.RDmixIdeal.main_arg0)
          ∧ r.2.mem ((c.tc : Thread Cert.RDmixIdeal.nD Cert.RDmixIdeal.τ).loc Cert.RDmixIdeal.main_arg1) = m' ((c.tc : Thread Cert.RDmixIdeal.nD Cert.RDmixIdeal.τ).loc Cert.RDmixIdeal.main_arg1)
          ∧ r.2.mem ((c.tc : Thread Cert.RDmixIdeal.nD Cert.RDmixIdeal.τ).loc Cert.RDmixIdeal.main_arg2) = m' ((c.tc : Thread Cert.RDmixIdeal.nD Cert.RDmixIdeal.τ).loc Cert.RDmixIdeal.main_arg2)
          ∧ r.2.mem ((c.tc : Thread Cert.RDmixIdeal.nD Cert.RDmixIdeal.τ).loc Cert.RDmixIdeal.main_arg3) = m' ((c.tc : Thread Cert.RDmixIdeal.nD Cert.RDmixIdeal.τ).loc Cert.RDmixIdeal.main_arg3)
          ∧ r.2.mem ((c.tc : Thread Cert.RDmixIdeal.nD Cert.RDmixIdeal.τ).loc Cert.RDmixIdeal.main_arg4) = m' ((c.tc : Thread Cert.RDmixIdeal.nD Cert.RDmixIdeal.τ).loc Cert.RDmixIdeal.main_arg4))

def preserves_KSbf_KSbfIdeal : Prop :=
  True

def algebraic_KSbfIdeal_RSbfIdeal_pre_finite_sbf [hKSbfIdeal : Cert.KSbfIdeal.Facts] [hRSbfIdeal : Cert.RSbfIdeal.Facts] [hPre_finite_sbf : Cert.Pre_finite_sbf.Facts] : Prop :=
  ∀ (m : (ℓ : Loc Cert.KSbfIdeal.nD Cert.KSbfIdeal.τ Cert.KSbfIdeal.sig) → Buf (Elt Ideal) ℓ) (g : Dev Cert.KSbfIdeal.nD → PrngReg)
    (m' : (ℓ : Loc Cert.RSbfIdeal.nD Cert.RSbfIdeal.τ Cert.RSbfIdeal.sig) → Buf (Elt Ideal) ℓ) (g' : Dev Cert.RSbfIdeal.nD → PrngReg), Pre_KSbfIdeal_finite_sbf m →
    (∀ c : Dev Cert.KSbfIdeal.nD,
      m' ((c.tc : Thread Cert.RSbfIdeal.nD Cert.RSbfIdeal.τ).loc Cert.RSbfIdeal.main_arg0) = m ((c.tc : Thread Cert.KSbfIdeal.nD Cert.KSbfIdeal.τ).loc Cert.KSbfIdeal.main_arg0)) →
    ∃ (v0 : (c : Dev Cert.KSbfIdeal.nD) → Buf (Elt Ideal) ((c.tc : Thread Cert.KSbfIdeal.nD Cert.KSbfIdeal.τ).loc Cert.KSbfIdeal.main_v1)),
      θ_run (Cert.KSbfIdeal.defs (F := Ideal)) (onTc (τ := Cert.KSbfIdeal.τ) (Cert.KSbfIdeal.main (F := Ideal))) ⟨m, fun _ => 0, g⟩ (fun r => ∀ c : Dev Cert.KSbfIdeal.nD,
          r.2.mem ((c.tc : Thread Cert.KSbfIdeal.nD Cert.KSbfIdeal.τ).loc Cert.KSbfIdeal.main_v1) = v0 c
          ∧ r.2.mem ((c.tc : Thread Cert.KSbfIdeal.nD Cert.KSbfIdeal.τ).loc Cert.KSbfIdeal.main_arg0) = m ((c.tc : Thread Cert.KSbfIdeal.nD Cert.KSbfIdeal.τ).loc Cert.KSbfIdeal.main_arg0))
      ∧ θ_run (Cert.RSbfIdeal.defs (F := Ideal)) (onTc (τ := Cert.RSbfIdeal.τ) (Cert.RSbfIdeal.main (F := Ideal))) ⟨m', fun _ => 0, g'⟩ (fun r => ∀ c : Dev Cert.RSbfIdeal.nD,
          r.2.mem ((c.tc : Thread Cert.RSbfIdeal.nD Cert.RSbfIdeal.τ).loc Cert.RSbfIdeal.main_v29) = v0 c
          ∧ r.2.mem ((c.tc : Thread Cert.RSbfIdeal.nD Cert.RSbfIdeal.τ).loc Cert.RSbfIdeal.main_arg0) = m' ((c.tc : Thread Cert.RSbfIdeal.nD Cert.RSbfIdeal.τ).loc Cert.RSbfIdeal.main_arg0))

def preserves_KSbb_KSbbIdeal : Prop :=
  True

def algebraic_KSbbIdeal_RSbbIdeal_pre_finite_sbb [hKSbbIdeal : Cert.KSbbIdeal.Facts] [hRSbbIdeal : Cert.RSbbIdeal.Facts] [hPre_finite_sbb : Cert.Pre_finite_sbb.Facts] : Prop :=
  ∀ (m : (ℓ : Loc Cert.KSbbIdeal.nD Cert.KSbbIdeal.τ Cert.KSbbIdeal.sig) → Buf (Elt Ideal) ℓ) (g : Dev Cert.KSbbIdeal.nD → PrngReg)
    (m' : (ℓ : Loc Cert.RSbbIdeal.nD Cert.RSbbIdeal.τ Cert.RSbbIdeal.sig) → Buf (Elt Ideal) ℓ) (g' : Dev Cert.RSbbIdeal.nD → PrngReg), Pre_KSbbIdeal_finite_sbb m →
    (∀ c : Dev Cert.KSbbIdeal.nD,
      m' ((c.tc : Thread Cert.RSbbIdeal.nD Cert.RSbbIdeal.τ).loc Cert.RSbbIdeal.main_arg0) = m ((c.tc : Thread Cert.KSbbIdeal.nD Cert.KSbbIdeal.τ).loc Cert.KSbbIdeal.main_arg0)
      ∧ m' ((c.tc : Thread Cert.RSbbIdeal.nD Cert.RSbbIdeal.τ).loc Cert.RSbbIdeal.main_arg1) = m ((c.tc : Thread Cert.KSbbIdeal.nD Cert.KSbbIdeal.τ).loc Cert.KSbbIdeal.main_arg1)) →
    ∃ (v0 : (c : Dev Cert.KSbbIdeal.nD) → Buf (Elt Ideal) ((c.tc : Thread Cert.KSbbIdeal.nD Cert.KSbbIdeal.τ).loc Cert.KSbbIdeal.main_v37_0)) (v1 : (c : Dev Cert.KSbbIdeal.nD) → Buf (Elt Ideal) ((c.tc : Thread Cert.KSbbIdeal.nD Cert.KSbbIdeal.τ).loc Cert.KSbbIdeal.main_v37_1)) (v2 : (c : Dev Cert.KSbbIdeal.nD) → Buf (Elt Ideal) ((c.tc : Thread Cert.KSbbIdeal.nD Cert.KSbbIdeal.τ).loc Cert.KSbbIdeal.main_v37_2)),
      θ_run (Cert.KSbbIdeal.defs (F := Ideal)) (onTc (τ := Cert.KSbbIdeal.τ) (Cert.KSbbIdeal.main (F := Ideal))) ⟨m, fun _ => 0, g⟩ (fun r => ∀ c : Dev Cert.KSbbIdeal.nD,
          r.2.mem ((c.tc : Thread Cert.KSbbIdeal.nD Cert.KSbbIdeal.τ).loc Cert.KSbbIdeal.main_v37_0) = v0 c
          ∧ r.2.mem ((c.tc : Thread Cert.KSbbIdeal.nD Cert.KSbbIdeal.τ).loc Cert.KSbbIdeal.main_v37_1) = v1 c
          ∧ r.2.mem ((c.tc : Thread Cert.KSbbIdeal.nD Cert.KSbbIdeal.τ).loc Cert.KSbbIdeal.main_v37_2) = v2 c
          ∧ r.2.mem ((c.tc : Thread Cert.KSbbIdeal.nD Cert.KSbbIdeal.τ).loc Cert.KSbbIdeal.main_arg0) = m ((c.tc : Thread Cert.KSbbIdeal.nD Cert.KSbbIdeal.τ).loc Cert.KSbbIdeal.main_arg0)
          ∧ r.2.mem ((c.tc : Thread Cert.KSbbIdeal.nD Cert.KSbbIdeal.τ).loc Cert.KSbbIdeal.main_arg1) = m ((c.tc : Thread Cert.KSbbIdeal.nD Cert.KSbbIdeal.τ).loc Cert.KSbbIdeal.main_arg1))
      ∧ θ_run (Cert.RSbbIdeal.defs (F := Ideal)) (onTc (τ := Cert.RSbbIdeal.τ) (Cert.RSbbIdeal.main (F := Ideal))) ⟨m', fun _ => 0, g'⟩ (fun r => ∀ c : Dev Cert.RSbbIdeal.nD,
          r.2.mem ((c.tc : Thread Cert.RSbbIdeal.nD Cert.RSbbIdeal.τ).loc Cert.RSbbIdeal.main_v54) = v0 c
          ∧ r.2.mem ((c.tc : Thread Cert.RSbbIdeal.nD Cert.RSbbIdeal.τ).loc Cert.RSbbIdeal.main_v52) = v1 c
          ∧ r.2.mem ((c.tc : Thread Cert.RSbbIdeal.nD Cert.RSbbIdeal.τ).loc Cert.RSbbIdeal.main_v50) = v2 c
          ∧ r.2.mem ((c.tc : Thread Cert.RSbbIdeal.nD Cert.RSbbIdeal.τ).loc Cert.RSbbIdeal.main_arg0) = m' ((c.tc : Thread Cert.RSbbIdeal.nD Cert.RSbbIdeal.τ).loc Cert.RSbbIdeal.main_arg0)
          ∧ r.2.mem ((c.tc : Thread Cert.RSbbIdeal.nD Cert.RSbbIdeal.τ).loc Cert.RSbbIdeal.main_arg1) = m' ((c.tc : Thread Cert.RSbbIdeal.nD Cert.RSbbIdeal.τ).loc Cert.RSbbIdeal.main_arg1))

def preserves_KJoin_KJoinIdeal : Prop :=
  True

def algebraic_KJoinIdeal_RJoinIdeal [hKJoinIdeal : Cert.KJoinIdeal.Facts] [hRJoinIdeal : Cert.RJoinIdeal.Facts] : Prop :=
  ∀ (m : (ℓ : Loc Cert.KJoinIdeal.nD Cert.KJoinIdeal.τ Cert.KJoinIdeal.sig) → Buf (Elt Ideal) ℓ) (g : Dev Cert.KJoinIdeal.nD → PrngReg)
    (m' : (ℓ : Loc Cert.RJoinIdeal.nD Cert.RJoinIdeal.τ Cert.RJoinIdeal.sig) → Buf (Elt Ideal) ℓ) (g' : Dev Cert.RJoinIdeal.nD → PrngReg), Pre_KJoinIdeal m →
    (∀ c : Dev Cert.KJoinIdeal.nD,
      m' ((c.tc : Thread Cert.RJoinIdeal.nD Cert.RJoinIdeal.τ).loc Cert.RJoinIdeal.main_arg0) = m ((c.tc : Thread Cert.KJoinIdeal.nD Cert.KJoinIdeal.τ).loc Cert.KJoinIdeal.main_arg0)
      ∧ m' ((c.tc : Thread Cert.RJoinIdeal.nD Cert.RJoinIdeal.τ).loc Cert.RJoinIdeal.main_arg1) = m ((c.tc : Thread Cert.KJoinIdeal.nD Cert.KJoinIdeal.τ).loc Cert.KJoinIdeal.main_arg1)
      ∧ m' ((c.tc : Thread Cert.RJoinIdeal.nD Cert.RJoinIdeal.τ).loc Cert.RJoinIdeal.main_arg2) = m ((c.tc : Thread Cert.KJoinIdeal.nD Cert.KJoinIdeal.τ).loc Cert.KJoinIdeal.main_arg2)
      ∧ m' ((c.tc : Thread Cert.RJoinIdeal.nD Cert.RJoinIdeal.τ).loc Cert.RJoinIdeal.main_arg3) = m ((c.tc : Thread Cert.KJoinIdeal.nD Cert.KJoinIdeal.τ).loc Cert.KJoinIdeal.main_arg3)
      ∧ m' ((c.tc : Thread Cert.RJoinIdeal.nD Cert.RJoinIdeal.τ).loc Cert.RJoinIdeal.main_arg4) = m ((c.tc : Thread Cert.KJoinIdeal.nD Cert.KJoinIdeal.τ).loc Cert.KJoinIdeal.main_arg4)
      ∧ m' ((c.tc : Thread Cert.RJoinIdeal.nD Cert.RJoinIdeal.τ).loc Cert.RJoinIdeal.main_arg5) = m ((c.tc : Thread Cert.KJoinIdeal.nD Cert.KJoinIdeal.τ).loc Cert.KJoinIdeal.main_arg5)
      ∧ m' ((c.tc : Thread Cert.RJoinIdeal.nD Cert.RJoinIdeal.τ).loc Cert.RJoinIdeal.main_arg6) = m ((c.tc : Thread Cert.KJoinIdeal.nD Cert.KJoinIdeal.τ).loc Cert.KJoinIdeal.main_arg6)) →
    ∃ (v0 : (c : Dev Cert.KJoinIdeal.nD) → Buf (Elt Ideal) ((c.tc : Thread Cert.KJoinIdeal.nD Cert.KJoinIdeal.τ).loc Cert.KJoinIdeal.main_v68)),
      θ_run (Cert.KJoinIdeal.defs (F := Ideal)) (onTc (τ := Cert.KJoinIdeal.τ) (Cert.KJoinIdeal.main (F := Ideal))) ⟨m, fun _ => 0, g⟩ (fun r => ∀ c : Dev Cert.KJoinIdeal.nD,
          r.2.mem ((c.tc : Thread Cert.KJoinIdeal.nD Cert.KJoinIdeal.τ).loc Cert.KJoinIdeal.main_v68) = v0 c
          ∧ r.2.mem ((c.tc : Thread Cert.KJoinIdeal.nD Cert.KJoinIdeal.τ).loc Cert.KJoinIdeal.main_arg0) = m ((c.tc : Thread Cert.KJoinIdeal.nD Cert.KJoinIdeal.τ).loc Cert.KJoinIdeal.main_arg0)
          ∧ r.2.mem ((c.tc : Thread Cert.KJoinIdeal.nD Cert.KJoinIdeal.τ).loc Cert.KJoinIdeal.main_arg1) = m ((c.tc : Thread Cert.KJoinIdeal.nD Cert.KJoinIdeal.τ).loc Cert.KJoinIdeal.main_arg1)
          ∧ r.2.mem ((c.tc : Thread Cert.KJoinIdeal.nD Cert.KJoinIdeal.τ).loc Cert.KJoinIdeal.main_arg2) = m ((c.tc : Thread Cert.KJoinIdeal.nD Cert.KJoinIdeal.τ).loc Cert.KJoinIdeal.main_arg2)
          ∧ r.2.mem ((c.tc : Thread Cert.KJoinIdeal.nD Cert.KJoinIdeal.τ).loc Cert.KJoinIdeal.main_arg3) = m ((c.tc : Thread Cert.KJoinIdeal.nD Cert.KJoinIdeal.τ).loc Cert.KJoinIdeal.main_arg3)
          ∧ r.2.mem ((c.tc : Thread Cert.KJoinIdeal.nD Cert.KJoinIdeal.τ).loc Cert.KJoinIdeal.main_arg4) = m ((c.tc : Thread Cert.KJoinIdeal.nD Cert.KJoinIdeal.τ).loc Cert.KJoinIdeal.main_arg4)
          ∧ r.2.mem ((c.tc : Thread Cert.KJoinIdeal.nD Cert.KJoinIdeal.τ).loc Cert.KJoinIdeal.main_arg5) = m ((c.tc : Thread Cert.KJoinIdeal.nD Cert.KJoinIdeal.τ).loc Cert.KJoinIdeal.main_arg5)
          ∧ r.2.mem ((c.tc : Thread Cert.KJoinIdeal.nD Cert.KJoinIdeal.τ).loc Cert.KJoinIdeal.main_arg6) = m ((c.tc : Thread Cert.KJoinIdeal.nD Cert.KJoinIdeal.τ).loc Cert.KJoinIdeal.main_arg6))
      ∧ θ_run (Cert.RJoinIdeal.defs (F := Ideal)) (onTc (τ := Cert.RJoinIdeal.τ) (Cert.RJoinIdeal.main (F := Ideal))) ⟨m', fun _ => 0, g'⟩ (fun r => ∀ c : Dev Cert.RJoinIdeal.nD,
          r.2.mem ((c.tc : Thread Cert.RJoinIdeal.nD Cert.RJoinIdeal.τ).loc Cert.RJoinIdeal.main_v137) = v0 c
          ∧ r.2.mem ((c.tc : Thread Cert.RJoinIdeal.nD Cert.RJoinIdeal.τ).loc Cert.RJoinIdeal.main_arg0) = m' ((c.tc : Thread Cert.RJoinIdeal.nD Cert.RJoinIdeal.τ).loc Cert.RJoinIdeal.main_arg0)
          ∧ r.2.mem ((c.tc : Thread Cert.RJoinIdeal.nD Cert.RJoinIdeal.τ).loc Cert.RJoinIdeal.main_arg1) = m' ((c.tc : Thread Cert.RJoinIdeal.nD Cert.RJoinIdeal.τ).loc Cert.RJoinIdeal.main_arg1)
          ∧ r.2.mem ((c.tc : Thread Cert.RJoinIdeal.nD Cert.RJoinIdeal.τ).loc Cert.RJoinIdeal.main_arg2) = m' ((c.tc : Thread Cert.RJoinIdeal.nD Cert.RJoinIdeal.τ).loc Cert.RJoinIdeal.main_arg2)
          ∧ r.2.mem ((c.tc : Thread Cert.RJoinIdeal.nD Cert.RJoinIdeal.τ).loc Cert.RJoinIdeal.main_arg3) = m' ((c.tc : Thread Cert.RJoinIdeal.nD Cert.RJoinIdeal.τ).loc Cert.RJoinIdeal.main_arg3)
          ∧ r.2.mem ((c.tc : Thread Cert.RJoinIdeal.nD Cert.RJoinIdeal.τ).loc Cert.RJoinIdeal.main_arg4) = m' ((c.tc : Thread Cert.RJoinIdeal.nD Cert.RJoinIdeal.τ).loc Cert.RJoinIdeal.main_arg4)
          ∧ r.2.mem ((c.tc : Thread Cert.RJoinIdeal.nD Cert.RJoinIdeal.τ).loc Cert.RJoinIdeal.main_arg5) = m' ((c.tc : Thread Cert.RJoinIdeal.nD Cert.RJoinIdeal.τ).loc Cert.RJoinIdeal.main_arg5)
          ∧ r.2.mem ((c.tc : Thread Cert.RJoinIdeal.nD Cert.RJoinIdeal.τ).loc Cert.RJoinIdeal.main_arg6) = m' ((c.tc : Thread Cert.RJoinIdeal.nD Cert.RJoinIdeal.τ).loc Cert.RJoinIdeal.main_arg6))

def preserves_KSums_KSumsIdeal : Prop :=
  True

def algebraic_KSumsIdeal_RSumsIdeal [hKSumsIdeal : Cert.KSumsIdeal.Facts] [hRSumsIdeal : Cert.RSumsIdeal.Facts] : Prop :=
  ∀ (m : (ℓ : Loc Cert.KSumsIdeal.nD Cert.KSumsIdeal.τ Cert.KSumsIdeal.sig) → Buf (Elt Ideal) ℓ) (g : Dev Cert.KSumsIdeal.nD → PrngReg)
    (m' : (ℓ : Loc Cert.RSumsIdeal.nD Cert.RSumsIdeal.τ Cert.RSumsIdeal.sig) → Buf (Elt Ideal) ℓ) (g' : Dev Cert.RSumsIdeal.nD → PrngReg), Pre_KSumsIdeal m →
    (∀ c : Dev Cert.KSumsIdeal.nD,
      m' ((c.tc : Thread Cert.RSumsIdeal.nD Cert.RSumsIdeal.τ).loc Cert.RSumsIdeal.main_arg0) = m ((c.tc : Thread Cert.KSumsIdeal.nD Cert.KSumsIdeal.τ).loc Cert.KSumsIdeal.main_arg0)
      ∧ m' ((c.tc : Thread Cert.RSumsIdeal.nD Cert.RSumsIdeal.τ).loc Cert.RSumsIdeal.main_arg1) = m ((c.tc : Thread Cert.KSumsIdeal.nD Cert.KSumsIdeal.τ).loc Cert.KSumsIdeal.main_arg1)) →
    ∃ (v0 : (c : Dev Cert.KSumsIdeal.nD) → Buf (Elt Ideal) ((c.tc : Thread Cert.KSumsIdeal.nD Cert.KSumsIdeal.τ).loc Cert.KSumsIdeal.main_v30)),
      θ_run (Cert.KSumsIdeal.defs (F := Ideal)) (onTc (τ := Cert.KSumsIdeal.τ) (Cert.KSumsIdeal.main (F := Ideal))) ⟨m, fun _ => 0, g⟩ (fun r => ∀ c : Dev Cert.KSumsIdeal.nD,
          r.2.mem ((c.tc : Thread Cert.KSumsIdeal.nD Cert.KSumsIdeal.τ).loc Cert.KSumsIdeal.main_v30) = v0 c
          ∧ r.2.mem ((c.tc : Thread Cert.KSumsIdeal.nD Cert.KSumsIdeal.τ).loc Cert.KSumsIdeal.main_arg0) = m ((c.tc : Thread Cert.KSumsIdeal.nD Cert.KSumsIdeal.τ).loc Cert.KSumsIdeal.main_arg0)
          ∧ r.2.mem ((c.tc : Thread Cert.KSumsIdeal.nD Cert.KSumsIdeal.τ).loc Cert.KSumsIdeal.main_arg1) = m ((c.tc : Thread Cert.KSumsIdeal.nD Cert.KSumsIdeal.τ).loc Cert.KSumsIdeal.main_arg1))
      ∧ θ_run (Cert.RSumsIdeal.defs (F := Ideal)) (onTc (τ := Cert.RSumsIdeal.τ) (Cert.RSumsIdeal.main (F := Ideal))) ⟨m', fun _ => 0, g'⟩ (fun r => ∀ c : Dev Cert.RSumsIdeal.nD,
          r.2.mem ((c.tc : Thread Cert.RSumsIdeal.nD Cert.RSumsIdeal.τ).loc Cert.RSumsIdeal.main_v43) = v0 c
          ∧ r.2.mem ((c.tc : Thread Cert.RSumsIdeal.nD Cert.RSumsIdeal.τ).loc Cert.RSumsIdeal.main_arg0) = m' ((c.tc : Thread Cert.RSumsIdeal.nD Cert.RSumsIdeal.τ).loc Cert.RSumsIdeal.main_arg0)
          ∧ r.2.mem ((c.tc : Thread Cert.RSumsIdeal.nD Cert.RSumsIdeal.τ).loc Cert.RSumsIdeal.main_arg1) = m' ((c.tc : Thread Cert.RSumsIdeal.nD Cert.RSumsIdeal.τ).loc Cert.RSumsIdeal.main_arg1))

def preserves_KDprep_KDprepIdeal : Prop :=
  True

def algebraic_KDprepIdeal_RDprepIdeal [hKDprepIdeal : Cert.KDprepIdeal.Facts] [hRDprepIdeal : Cert.RDprepIdeal.Facts] : Prop :=
  ∀ (m : (ℓ : Loc Cert.KDprepIdeal.nD Cert.KDprepIdeal.τ Cert.KDprepIdeal.sig) → Buf (Elt Ideal) ℓ) (g : Dev Cert.KDprepIdeal.nD → PrngReg)
    (m' : (ℓ : Loc Cert.RDprepIdeal.nD Cert.RDprepIdeal.τ Cert.RDprepIdeal.sig) → Buf (Elt Ideal) ℓ) (g' : Dev Cert.RDprepIdeal.nD → PrngReg), Pre_KDprepIdeal m →
    (∀ c : Dev Cert.KDprepIdeal.nD,
      m' ((c.tc : Thread Cert.RDprepIdeal.nD Cert.RDprepIdeal.τ).loc Cert.RDprepIdeal.main_arg0) = m ((c.tc : Thread Cert.KDprepIdeal.nD Cert.KDprepIdeal.τ).loc Cert.KDprepIdeal.main_arg0)
      ∧ m' ((c.tc : Thread Cert.RDprepIdeal.nD Cert.RDprepIdeal.τ).loc Cert.RDprepIdeal.main_arg1) = m ((c.tc : Thread Cert.KDprepIdeal.nD Cert.KDprepIdeal.τ).loc Cert.KDprepIdeal.main_arg1)) →
    ∃ (v0 : (c : Dev Cert.KDprepIdeal.nD) → Buf (Elt Ideal) ((c.tc : Thread Cert.KDprepIdeal.nD Cert.KDprepIdeal.τ).loc Cert.KDprepIdeal.main_v304_0)) (v1 : (c : Dev Cert.KDprepIdeal.nD) → Buf (Elt Ideal) ((c.tc : Thread Cert.KDprepIdeal.nD Cert.KDprepIdeal.τ).loc Cert.KDprepIdeal.main_v304_1)) (v2 : (c : Dev Cert.KDprepIdeal.nD) → Buf (Elt Ideal) ((c.tc : Thread Cert.KDprepIdeal.nD Cert.KDprepIdeal.τ).loc Cert.KDprepIdeal.main_v304_2)) (v3 : (c : Dev Cert.KDprepIdeal.nD) → Buf (Elt Ideal) ((c.tc : Thread Cert.KDprepIdeal.nD Cert.KDprepIdeal.τ).loc Cert.KDprepIdeal.main_v304_3)) (v4 : (c : Dev Cert.KDprepIdeal.nD) → Buf (Elt Ideal) ((c.tc : Thread Cert.KDprepIdeal.nD Cert.KDprepIdeal.τ).loc Cert.KDprepIdeal.main_v304_4)) (v5 : (c : Dev Cert.KDprepIdeal.nD) → Buf (Elt Ideal) ((c.tc : Thread Cert.KDprepIdeal.nD Cert.KDprepIdeal.τ).loc Cert.KDprepIdeal.main_v304_5)) (v6 : (c : Dev Cert.KDprepIdeal.nD) → Buf (Elt Ideal) ((c.tc : Thread Cert.KDprepIdeal.nD Cert.KDprepIdeal.τ).loc Cert.KDprepIdeal.main_v304_6)),
      θ_run (Cert.KDprepIdeal.defs (F := Ideal)) (onTc (τ := Cert.KDprepIdeal.τ) (Cert.KDprepIdeal.main (F := Ideal))) ⟨m, fun _ => 0, g⟩ (fun r => ∀ c : Dev Cert.KDprepIdeal.nD,
          r.2.mem ((c.tc : Thread Cert.KDprepIdeal.nD Cert.KDprepIdeal.τ).loc Cert.KDprepIdeal.main_v304_0) = v0 c
          ∧ r.2.mem ((c.tc : Thread Cert.KDprepIdeal.nD Cert.KDprepIdeal.τ).loc Cert.KDprepIdeal.main_v304_1) = v1 c
          ∧ r.2.mem ((c.tc : Thread Cert.KDprepIdeal.nD Cert.KDprepIdeal.τ).loc Cert.KDprepIdeal.main_v304_2) = v2 c
          ∧ r.2.mem ((c.tc : Thread Cert.KDprepIdeal.nD Cert.KDprepIdeal.τ).loc Cert.KDprepIdeal.main_v304_3) = v3 c
          ∧ r.2.mem ((c.tc : Thread Cert.KDprepIdeal.nD Cert.KDprepIdeal.τ).loc Cert.KDprepIdeal.main_v304_4) = v4 c
          ∧ r.2.mem ((c.tc : Thread Cert.KDprepIdeal.nD Cert.KDprepIdeal.τ).loc Cert.KDprepIdeal.main_v304_5) = v5 c
          ∧ r.2.mem ((c.tc : Thread Cert.KDprepIdeal.nD Cert.KDprepIdeal.τ).loc Cert.KDprepIdeal.main_v304_6) = v6 c
          ∧ r.2.mem ((c.tc : Thread Cert.KDprepIdeal.nD Cert.KDprepIdeal.τ).loc Cert.KDprepIdeal.main_arg0) = m ((c.tc : Thread Cert.KDprepIdeal.nD Cert.KDprepIdeal.τ).loc Cert.KDprepIdeal.main_arg0)
          ∧ r.2.mem ((c.tc : Thread Cert.KDprepIdeal.nD Cert.KDprepIdeal.τ).loc Cert.KDprepIdeal.main_arg1) = m ((c.tc : Thread Cert.KDprepIdeal.nD Cert.KDprepIdeal.τ).loc Cert.KDprepIdeal.main_arg1))
      ∧ θ_run (Cert.RDprepIdeal.defs (F := Ideal)) (onTc (τ := Cert.RDprepIdeal.τ) (Cert.RDprepIdeal.main (F := Ideal))) ⟨m', fun _ => 0, g'⟩ (fun r => ∀ c : Dev Cert.RDprepIdeal.nD,
          r.2.mem ((c.tc : Thread Cert.RDprepIdeal.nD Cert.RDprepIdeal.τ).loc Cert.RDprepIdeal.main_v314) = v0 c
          ∧ r.2.mem ((c.tc : Thread Cert.RDprepIdeal.nD Cert.RDprepIdeal.τ).loc Cert.RDprepIdeal.main_v317) = v1 c
          ∧ r.2.mem ((c.tc : Thread Cert.RDprepIdeal.nD Cert.RDprepIdeal.τ).loc Cert.RDprepIdeal.main_v319) = v2 c
          ∧ r.2.mem ((c.tc : Thread Cert.RDprepIdeal.nD Cert.RDprepIdeal.τ).loc Cert.RDprepIdeal.main_v324) = v3 c
          ∧ r.2.mem ((c.tc : Thread Cert.RDprepIdeal.nD Cert.RDprepIdeal.τ).loc Cert.RDprepIdeal.main_v326) = v4 c
          ∧ r.2.mem ((c.tc : Thread Cert.RDprepIdeal.nD Cert.RDprepIdeal.τ).loc Cert.RDprepIdeal.main_v328) = v5 c
          ∧ r.2.mem ((c.tc : Thread Cert.RDprepIdeal.nD Cert.RDprepIdeal.τ).loc Cert.RDprepIdeal.main_v330) = v6 c
          ∧ r.2.mem ((c.tc : Thread Cert.RDprepIdeal.nD Cert.RDprepIdeal.τ).loc Cert.RDprepIdeal.main_arg0) = m' ((c.tc : Thread Cert.RDprepIdeal.nD Cert.RDprepIdeal.τ).loc Cert.RDprepIdeal.main_arg0)
          ∧ r.2.mem ((c.tc : Thread Cert.RDprepIdeal.nD Cert.RDprepIdeal.τ).loc Cert.RDprepIdeal.main_arg1) = m' ((c.tc : Thread Cert.RDprepIdeal.nD Cert.RDprepIdeal.τ).loc Cert.RDprepIdeal.main_arg1))

def preserves_KRms_KRmsIdeal : Prop :=
  True

def algebraic_KRmsIdeal_RRmsIdeal [hKRmsIdeal : Cert.KRmsIdeal.Facts] [hRRmsIdeal : Cert.RRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg)
    (m' : (ℓ : Loc Cert.RRmsIdeal.nD Cert.RRmsIdeal.τ Cert.RRmsIdeal.sig) → Buf (Elt Ideal) ℓ) (g' : Dev Cert.RRmsIdeal.nD → PrngReg), Pre_KRmsIdeal m →
    (∀ c : Dev Cert.KRmsIdeal.nD,
      m' ((c.tc : Thread Cert.RRmsIdeal.nD Cert.RRmsIdeal.τ).loc Cert.RRmsIdeal.main_arg0) = m ((c.tc : Thread Cert.KRmsIdeal.nD Cert.KRmsIdeal.τ).loc Cert.KRmsIdeal.main_arg0)
      ∧ m' ((c.tc : Thread Cert.RRmsIdeal.nD Cert.RRmsIdeal.τ).loc Cert.RRmsIdeal.main_arg1) = m ((c.tc : Thread Cert.KRmsIdeal.nD Cert.KRmsIdeal.τ).loc Cert.KRmsIdeal.main_arg1)) →
    ∃ (v0 : (c : Dev Cert.KRmsIdeal.nD) → Buf (Elt Ideal) ((c.tc : Thread Cert.KRmsIdeal.nD Cert.KRmsIdeal.τ).loc Cert.KRmsIdeal.main_v1)),
      θ_run (Cert.KRmsIdeal.defs (F := Ideal)) (onTc (τ := Cert.KRmsIdeal.τ) (Cert.KRmsIdeal.main (F := Ideal))) ⟨m, fun _ => 0, g⟩ (fun r => ∀ c : Dev Cert.KRmsIdeal.nD,
          r.2.mem ((c.tc : Thread Cert.KRmsIdeal.nD Cert.KRmsIdeal.τ).loc Cert.KRmsIdeal.main_v1) = v0 c
          ∧ r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
          ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1))
      ∧ θ_run (Cert.RRmsIdeal.defs (F := Ideal)) (onTc (τ := Cert.RRmsIdeal.τ) (Cert.RRmsIdeal.main (F := Ideal))) ⟨m', fun _ => 0, g'⟩ (fun r => ∀ c : Dev Cert.RRmsIdeal.nD,
          r.2.mem ((c.tc : Thread Cert.RRmsIdeal.nD Cert.RRmsIdeal.τ).loc Cert.RRmsIdeal.main_v13) = v0 c
          ∧ r.2.mem ((c.tc : Thread Cert.RRmsIdeal.nD Cert.RRmsIdeal.τ).loc Cert.RRmsIdeal.main_arg0) = m' ((c.tc : Thread Cert.RRmsIdeal.nD Cert.RRmsIdeal.τ).loc Cert.RRmsIdeal.main_arg0)
          ∧ r.2.mem ((c.tc : Thread Cert.RRmsIdeal.nD Cert.RRmsIdeal.τ).loc Cert.RRmsIdeal.main_arg1) = m' ((c.tc : Thread Cert.RRmsIdeal.nD Cert.RRmsIdeal.τ).loc Cert.RRmsIdeal.main_arg1))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)) →
    ∃ (v0 : (c : Dev Cert.KOutIdeal.nD) → Buf (Elt Ideal) ((c.tc : Thread Cert.KOutIdeal.nD Cert.KOutIdeal.τ).loc Cert.KOutIdeal.main_v3_0)) (v1 : (c : Dev Cert.KOutIdeal.nD) → Buf (Elt Ideal) ((c.tc : Thread Cert.KOutIdeal.nD Cert.KOutIdeal.τ).loc Cert.KOutIdeal.main_v3_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v3_0) = v0 c
          ∧ r.2.mem ((c.tc : Thread Cert.KOutIdeal.nD Cert.KOutIdeal.τ).loc Cert.KOutIdeal.main_v3_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v1) = v0 c
          ∧ r.2.mem ((c.tc : Thread Cert.ROutIdeal.nD Cert.ROutIdeal.τ).loc Cert.ROutIdeal.main_v15) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v3_0)) (v1 : (c : Dev Cert.KDownIdeal.nD) → Buf (Elt Ideal) ((c.tc : Thread Cert.KDownIdeal.nD Cert.KDownIdeal.τ).loc Cert.KDownIdeal.main_v3_1)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v3_0) = v0 c
          ∧ r.2.mem ((c.tc : Thread Cert.KDownIdeal.nD Cert.KDownIdeal.τ).loc Cert.KDownIdeal.main_v3_1) = v1 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v3) = v0 c
          ∧ r.2.mem ((c.tc : Thread Cert.RDownIdeal.nD Cert.RDownIdeal.τ).loc Cert.RDownIdeal.main_v17) = v1 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def Claim : Prop :=
  ∃ (hKGate : Cert.KGate.Facts) (hKGateIdeal : Cert.KGateIdeal.Facts) (hRGateIdeal : Cert.RGateIdeal.Facts) (hKSwiglu : Cert.KSwiglu.Facts) (hKSwigluIdeal : Cert.KSwigluIdeal.Facts) (hRSwigluIdeal : Cert.RSwigluIdeal.Facts) (hKLoss : Cert.KLoss.Facts) (hKLossIdeal : Cert.KLossIdeal.Facts) (hRLossIdeal : Cert.RLossIdeal.Facts) (hKDffn : Cert.KDffn.Facts) (hKDffnIdeal : Cert.KDffnIdeal.Facts) (hRDffnIdeal : Cert.RDffnIdeal.Facts) (hKDmix : Cert.KDmix.Facts) (hKDmixIdeal : Cert.KDmixIdeal.Facts) (hRDmixIdeal : Cert.RDmixIdeal.Facts) (hKSbf : Cert.KSbf.Facts) (hKSbfIdeal : Cert.KSbfIdeal.Facts) (hRSbfIdeal : Cert.RSbfIdeal.Facts) (hKSbb : Cert.KSbb.Facts) (hKSbbIdeal : Cert.KSbbIdeal.Facts) (hRSbbIdeal : Cert.RSbbIdeal.Facts) (hKJoin : Cert.KJoin.Facts) (hKJoinIdeal : Cert.KJoinIdeal.Facts) (hRJoinIdeal : Cert.RJoinIdeal.Facts) (hKSums : Cert.KSums.Facts) (hKSumsIdeal : Cert.KSumsIdeal.Facts) (hRSumsIdeal : Cert.RSumsIdeal.Facts) (hKDprep : Cert.KDprep.Facts) (hKDprepIdeal : Cert.KDprepIdeal.Facts) (hRDprepIdeal : Cert.RDprepIdeal.Facts) (hKRms : Cert.KRms.Facts) (hKRmsIdeal : Cert.KRmsIdeal.Facts) (hRRmsIdeal : Cert.RRmsIdeal.Facts) (hKOut : Cert.KOut.Facts) (hKOutIdeal : Cert.KOutIdeal.Facts) (hROutIdeal : Cert.ROutIdeal.Facts) (hKDown : Cert.KDown.Facts) (hKDownIdeal : Cert.KDownIdeal.Facts) (hRDownIdeal : Cert.RDownIdeal.Facts) (hPre_finite_swiglu : Cert.Pre_finite_swiglu.Facts) (hPre_finite_sbf : Cert.Pre_finite_sbf.Facts) (hPre_finite_sbb : Cert.Pre_finite_sbb.Facts),
    quiescent_KGate (hKGate := hKGate)
    ∧ quiescent_KGateIdeal (hKGateIdeal := hKGateIdeal)
    ∧ quiescent_RGateIdeal (hRGateIdeal := hRGateIdeal)
    ∧ quiescent_KSwiglu (hKSwiglu := hKSwiglu)
    ∧ quiescent_KSwigluIdeal (hKSwigluIdeal := hKSwigluIdeal)
    ∧ quiescent_KSwigluIdeal_pre_finite_swiglu (hKSwigluIdeal := hKSwigluIdeal) (hPre_finite_swiglu := hPre_finite_swiglu)
    ∧ quiescent_RSwigluIdeal (hRSwigluIdeal := hRSwigluIdeal)
    ∧ quiescent_RSwigluIdeal_pre_finite_swiglu (hRSwigluIdeal := hRSwigluIdeal) (hPre_finite_swiglu := hPre_finite_swiglu)
    ∧ quiescent_KLoss (hKLoss := hKLoss)
    ∧ quiescent_KLossIdeal (hKLossIdeal := hKLossIdeal)
    ∧ quiescent_RLossIdeal (hRLossIdeal := hRLossIdeal)
    ∧ quiescent_KDffn (hKDffn := hKDffn)
    ∧ quiescent_KDffnIdeal (hKDffnIdeal := hKDffnIdeal)
    ∧ quiescent_RDffnIdeal (hRDffnIdeal := hRDffnIdeal)
    ∧ quiescent_KDmix (hKDmix := hKDmix)
    ∧ quiescent_KDmixIdeal (hKDmixIdeal := hKDmixIdeal)
    ∧ quiescent_RDmixIdeal (hRDmixIdeal := hRDmixIdeal)
    ∧ quiescent_KSbf (hKSbf := hKSbf)
    ∧ quiescent_KSbfIdeal (hKSbfIdeal := hKSbfIdeal)
    ∧ quiescent_KSbfIdeal_pre_finite_sbf (hKSbfIdeal := hKSbfIdeal) (hPre_finite_sbf := hPre_finite_sbf)
    ∧ quiescent_RSbfIdeal (hRSbfIdeal := hRSbfIdeal)
    ∧ quiescent_RSbfIdeal_pre_finite_sbf (hRSbfIdeal := hRSbfIdeal) (hPre_finite_sbf := hPre_finite_sbf)
    ∧ quiescent_KSbb (hKSbb := hKSbb)
    ∧ quiescent_KSbbIdeal (hKSbbIdeal := hKSbbIdeal)
    ∧ quiescent_KSbbIdeal_pre_finite_sbb (hKSbbIdeal := hKSbbIdeal) (hPre_finite_sbb := hPre_finite_sbb)
    ∧ quiescent_RSbbIdeal (hRSbbIdeal := hRSbbIdeal)
    ∧ quiescent_RSbbIdeal_pre_finite_sbb (hRSbbIdeal := hRSbbIdeal) (hPre_finite_sbb := hPre_finite_sbb)
    ∧ quiescent_KJoin (hKJoin := hKJoin)
    ∧ quiescent_KJoinIdeal (hKJoinIdeal := hKJoinIdeal)
    ∧ quiescent_RJoinIdeal (hRJoinIdeal := hRJoinIdeal)
    ∧ quiescent_KSums (hKSums := hKSums)
    ∧ quiescent_KSumsIdeal (hKSumsIdeal := hKSumsIdeal)
    ∧ quiescent_RSumsIdeal (hRSumsIdeal := hRSumsIdeal)
    ∧ quiescent_KDprep (hKDprep := hKDprep)
    ∧ quiescent_KDprepIdeal (hKDprepIdeal := hKDprepIdeal)
    ∧ quiescent_RDprepIdeal (hRDprepIdeal := hRDprepIdeal)
    ∧ quiescent_KRms (hKRms := hKRms)
    ∧ quiescent_KRmsIdeal (hKRmsIdeal := hKRmsIdeal)
    ∧ quiescent_RRmsIdeal (hRRmsIdeal := hRRmsIdeal)
    ∧ quiescent_KOut (hKOut := hKOut)
    ∧ quiescent_KOutIdeal (hKOutIdeal := hKOutIdeal)
    ∧ quiescent_ROutIdeal (hROutIdeal := hROutIdeal)
    ∧ quiescent_KDown (hKDown := hKDown)
    ∧ quiescent_KDownIdeal (hKDownIdeal := hKDownIdeal)
    ∧ quiescent_RDownIdeal (hRDownIdeal := hRDownIdeal)
    ∧ preserves_KGate_KGateIdeal
    ∧ algebraic_KGateIdeal_RGateIdeal (hKGateIdeal := hKGateIdeal) (hRGateIdeal := hRGateIdeal)
    ∧ preserves_KSwiglu_KSwigluIdeal
    ∧ algebraic_KSwigluIdeal_RSwigluIdeal_pre_finite_swiglu (hKSwigluIdeal := hKSwigluIdeal) (hRSwigluIdeal := hRSwigluIdeal) (hPre_finite_swiglu := hPre_finite_swiglu)
    ∧ preserves_KLoss_KLossIdeal
    ∧ algebraic_KLossIdeal_RLossIdeal (hKLossIdeal := hKLossIdeal) (hRLossIdeal := hRLossIdeal)
    ∧ preserves_KDffn_KDffnIdeal
    ∧ algebraic_KDffnIdeal_RDffnIdeal (hKDffnIdeal := hKDffnIdeal) (hRDffnIdeal := hRDffnIdeal)
    ∧ preserves_KDmix_KDmixIdeal
    ∧ algebraic_KDmixIdeal_RDmixIdeal (hKDmixIdeal := hKDmixIdeal) (hRDmixIdeal := hRDmixIdeal)
    ∧ preserves_KSbf_KSbfIdeal
    ∧ algebraic_KSbfIdeal_RSbfIdeal_pre_finite_sbf (hKSbfIdeal := hKSbfIdeal) (hRSbfIdeal := hRSbfIdeal) (hPre_finite_sbf := hPre_finite_sbf)
    ∧ preserves_KSbb_KSbbIdeal
    ∧ algebraic_KSbbIdeal_RSbbIdeal_pre_finite_sbb (hKSbbIdeal := hKSbbIdeal) (hRSbbIdeal := hRSbbIdeal) (hPre_finite_sbb := hPre_finite_sbb)
    ∧ preserves_KJoin_KJoinIdeal
    ∧ algebraic_KJoinIdeal_RJoinIdeal (hKJoinIdeal := hKJoinIdeal) (hRJoinIdeal := hRJoinIdeal)
    ∧ preserves_KSums_KSumsIdeal
    ∧ algebraic_KSumsIdeal_RSumsIdeal (hKSumsIdeal := hKSumsIdeal) (hRSumsIdeal := hRSumsIdeal)
    ∧ preserves_KDprep_KDprepIdeal
    ∧ algebraic_KDprepIdeal_RDprepIdeal (hKDprepIdeal := hKDprepIdeal) (hRDprepIdeal := hRDprepIdeal)
    ∧ preserves_KRms_KRmsIdeal
    ∧ algebraic_KRmsIdeal_RRmsIdeal (hKRmsIdeal := hKRmsIdeal) (hRRmsIdeal := hRRmsIdeal)
    ∧ preserves_KOut_KOutIdeal
    ∧ algebraic_KOutIdeal_ROutIdeal (hKOutIdeal := hKOutIdeal) (hROutIdeal := hROutIdeal)
    ∧ preserves_KDown_KDownIdeal
    ∧ algebraic_KDownIdeal_RDownIdeal (hKDownIdeal := hKDownIdeal) (hRDownIdeal := hRDownIdeal)
-- ==== Pre_finite_sbb.lean ====
abbrev S4096x5120 : Shape := ⟨2, ![4096, 5120]⟩
abbrev S4096x256 : Shape := ⟨2, ![4096, 256]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x5120 .f32) (main_arg1 : FVec F S4096x256 .f32) : IVec S_ 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Pre_finite_sbf.lean ====
abbrev S4096x5120 : Shape := ⟨2, ![4096, 5120]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel

variable [Facts]

def fn {F : FTy → Type} [FloatOps F] (main_arg0 : FVec F S4096x5120 .f32) : IVec S_ 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  main_v3
-- ==== Pre_finite_swiglu.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== KGate.lean ====
abbrev S4096x256 : Shape := ⟨2, ![4096, 256]⟩
abbrev S256x1024 : Shape := ⟨2, ![256, 1024]⟩
abbrev S1024x1024 : Shape := ⟨2, ![1024, 1024]⟩
abbrev S4096x5120 : Shape := ⟨2, ![4096, 5120]⟩
abbrev S4096x1024 : Shape := ⟨2, ![4096, 1024]⟩
abbrev S1024x256 : Shape := ⟨2, ![1024, 256]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 20
  | .vmem => 33
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S4096x5120, .f32⟩
  | .hbm, ⟨6, _⟩ => ⟨S4096x1024, .f32⟩
  | .hbm, ⟨7, _⟩ => ⟨S1024x256, .f32⟩
  | .hbm, ⟨8, _⟩ => ⟨S1024x256, .bf16⟩
  | .hbm, ⟨9, _⟩ => ⟨S1024x256, .f32⟩
  | .hbm, ⟨10, _⟩ => ⟨S1024x256, .bf16⟩
  | .hbm, ⟨11, _⟩ => ⟨S4096x5120, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S1024x1024, .bf16⟩
  | .hbm, ⟨17, _⟩ => ⟨S4096x1024, .bf16⟩
  | .hbm, ⟨18, _⟩ => ⟨S4096x1024, .bf16⟩
  | .hbm, ⟨19, _⟩ => ⟨S4096x2048, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x2048, .bf16⟩
  | .local _ .vmem, ⟨32, _⟩ => ⟨S512x2048, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_5 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== RGateIdeal.lean ====
abbrev S4096x256 : Shape := ⟨2, ![4096, 256]⟩
abbrev S256x1024 : Shape := ⟨2, ![256, 1024]⟩
abbrev S1024x1024 : Shape := ⟨2, ![1024, 1024]⟩
abbrev S4096x5120 : Shape := ⟨2, ![4096, 5120]⟩
abbrev S4096x1024 : Shape := ⟨2, ![4096, 1024]⟩
abbrev S4096x2048 : Shape := ⟨2, ![4096, 2048]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S4096x5120, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x2048, .f32⟩
  | .hbm, ⟨48, _⟩ => ⟨S4096x1024, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== KSwiglu.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 17
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S4096x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .hbm, ⟨13, _⟩ => ⟨S4096x1024, .bf16⟩
  | .hbm, ⟨14, _⟩ => ⟨S2816x1024, .bf16⟩
  | .hbm, ⟨15, _⟩ => ⟨S4096x2816, .bf16⟩
  | .hbm, ⟨16, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1024, .bf16⟩
  | .local _ .vmem, ⟨13, _⟩ => ⟨S1024x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1024x1408, .bf16⟩
  | .local _ .vmem, ⟨23, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== RSwigluIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .bf16⟩
  | .hbm, ⟨46, _⟩ => ⟨S4096x2816, .bf16⟩
  | .hbm, ⟨47, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_v4_2 : Ref sig .tc := ⟨.hbm, 24, rfl⟩
abbrev main_call1_cst_1 : Ref sig .tc := ⟨.hbm, 25, rfl⟩
abbrev main_call1_v6 : Ref sig .tc := ⟨.hbm, 26, rfl⟩
abbrev main_call1_v7 : Ref sig .tc := ⟨.hbm, 27, rfl⟩
abbrev main_v4_1 : Ref sig .tc := ⟨.hbm, 28, rfl⟩
abbrev main_v4_0 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩

abbrev nD : Nat := 1
abbrev τ : Topo := Topo.v7x

variable {F : FTy → Type} [FloatOps F]
-- ==== KLoss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_18 : BitVec 32 := 0#32
  let v52 : BitVec 1 := Scalar.cmpi .ne v51 c0_i32_18
  v52

def k0_cond2 (i : grid0.Coords) : BitVec 1 :=
  let arg0 : BitVec 32 := BitVec.ofNat 32 (i 0).val
  let c0_i32_19 : BitVec 32 := 0#32
  let v53 : BitVec 1 := Scalar.cmpi .sgt arg0 c0_i32_19
  let v54 : BitVec 32 := Scalar.extui v53
  let c0_i32_20 : BitVec 32 := 0#32
  let v55 : BitVec 1 := Scalar.cmpi .ne v54 c0_i32_20
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RLossIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S1x1024, .f32⟩
  | .hbm, ⟨73, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KDffn.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x2816, .bf16⟩
  | .hbm, ⟨12, _⟩ => ⟨S4096x2816, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_24 : BitVec 32 := 0#32
  let v50 : BitVec 1 := Scalar.cmpi .ne v49 c0_i32_24
  v50

def k0_cond2 (i : grid0.Coords) : BitVec 1 :=
  let arg0 : BitVec 32 := BitVec.ofNat 32 (i 0).val
  let c0_i32_25 : BitVec 32 := 0#32
  let v51 : BitVec 1 := Scalar.cmpi .sgt arg0 c0_i32_25
  let v52 : BitVec 32 := Scalar.extui v51
  let c0_i32_26 : BitVec 32 := 0#32
  let v53 : BitVec 1 := Scalar.cmpi .ne v52 c0_i32_26
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RDffnIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== KDmix.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S5120x1024 : Shape := ⟨2, ![5120, 1024]⟩
abbrev S1x1024 : Shape := ⟨2, ![1, 1024]⟩
abbrev S256x5120 : Shape := ⟨2, ![256, 5120]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x5120, .bf16⟩
  | .hbm, ⟨6, _⟩ => ⟨S5120x1024, .f32⟩
  | .hbm, ⟨7, _⟩ => ⟨S5120x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S256x5120, .bf16⟩
  | .local _ .vmem, ⟨1, _⟩ => ⟨S256x5120, .bf16⟩
  | .local _ .vmem, ⟨2, _⟩ => ⟨S5120x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_19 : BitVec 32 := 0#32
  let v44 : BitVec 1 := Scalar.cmpi .ne v43 c0_i32_19
  v44

def k0_cond2 (i : grid0.Coords) : BitVec 1 :=
  let arg0 : BitVec 32 := BitVec.ofNat 32 (i 0).val
  let c0_i32_20 : BitVec 32 := 0#32
  let v45 : BitVec 1 := Scalar.cmpi .sgt arg0 c0_i32_20
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RDmixIdeal.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5120, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KSbf.lean ====
abbrev S4096x5120 : Shape := ⟨2, ![4096, 5120]⟩
abbrev S4096x256 : Shape := ⟨2, ![4096, 256]⟩
abbrev S512x256 : Shape := ⟨2, ![512, 256]⟩
abbrev S2048x256 : Shape := ⟨2, ![2048, 256]⟩
abbrev S1x256 : Shape := ⟨2, ![1, 256]⟩
abbrev S256x256 : Shape := ⟨2, ![256, 256]⟩
abbrev S2048x1 : Shape := ⟨2, ![2048, 1]⟩
abbrev S2048x512 : Shape := ⟨2, ![2048, 512]⟩
abbrev S2048 : Shape := ⟨1, ![2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .f32⟩
  | .hbm, ⟨1, _⟩ => ⟨S4096x5120, .bf16⟩
  | .hbm, ⟨2, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S512x256, .f32⟩
  | .local _ .vmem, ⟨5, _⟩ => ⟨S512x256, .f32⟩
  | .local _ .vmem, ⟨6, _⟩ => ⟨S2048x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v136 : BitVec 32 := Scalar.muli arg0 c512_i32
  let c256_i32 : BitVec 32 := 256#32
  let v137 : BitVec 32 := Scalar.addi v136 c256_i32
  v137
def k0_off1 (i : grid0.Coords) (c256_i32 : BitVec 32) : Fin 2 → Nat :=
  let arg0 : BitVec 32 := BitVec.ofNat 32 (i 0).val
  let c512_i32 : BitVec 32 := 512#32
  let v136 : BitVec 32 := Scalar.muli arg0 c512_i32
  let v137 : BitVec 32 := Scalar.addi v136 c256_i32
  let v138 : BitVec 32 := v137
  let v139 : Index := Scalar.indexCast v138
  let c0_33 : Index := 0#32
  ![v139.toNat, 0]
def k0_mult2 (i : grid0.Coords) : BitVec 32 :=
  let arg0 : BitVec 32 := BitVec.ofNat 32 (i 0).val
  let c512_i32_53 : BitVec 32 := 512#32
  let v206 : BitVec 32 := Scalar.muli arg0 c512_i32_53
  let c0_i32_54 : BitVec 32 := 0#32
  let v207 : BitVec 32 := Scalar.addi v206 c0_i32_54
  v207
@[reducible] def k0_t1_loop (i : grid0.Coords) : Scf.Loop 32 :=
  let c0_i32_78 : BitVec 32 := 0#32
  let arg0 : BitVec 32 := BitVec.ofNat 32 (i 0).val
  let c2_i32_77 : BitVec 32 := 2#32
  let v278 : BitVec 32 := Scalar.muli arg0 c2_i32_77
  let v279 : BitVec 32 := Scalar.subi v278 c0_i32_78
  let c1_i32_79 : BitVec 32 := 1#32
  let v281 : BitVec 32 := Scalar.divsi v279 c1_i32_79
  let v282 : BitVec 32 := Scalar.muli v281 c1_i32_79
  let v283 : BitVec 32 := Scalar.addi c0_i32_78 v282
  let c1_i32_80 : BitVec 32 := 1#32
  ⟨c0_i32_78, v283, c1_i32_80⟩
def k0_mult3 (i : grid0.Coords) (k0_t1 : Fin (k0_t1_loop i).trips) : BitVec 32 :=
  let arg0 : BitVec 32 := BitVec.ofNat 32 (i 0).val
  let c2_i32_77 : BitVec 32 := 2#32
  let v278 : BitVec 32 := Scalar.muli arg0 c2_i32_77
  let c1_i32_110 : BitVec 32 := 1#32
  let v384 : BitVec 32 := Scalar.subi v278 c1_i32_110
  let c0_i32_78 : BitVec 32 := 0#32
  let c1_i32_80 : BitVec 32 := 1#32
  let arg6 : BitVec 32 := Scf.iv c0_i32_78 c1_i32_80 k0_t1
  let v385 : BitVec 32 := Scalar.subi v384 arg6
  let c256_i32_111 : BitVec 32 := 256#32
  let v386 : BitVec 32 := Scalar.muli v385 c256_i32_111
  v386
def k0_off2 (i : grid0.Coords) (k0_t1 : Fin (k0_t1_loop i).trips) : Fin 2 → Nat :=
  let arg0 : BitVec 32 := BitVec.ofNat 32 (i 0).val
  let c2_i32_77 : BitVec 32 := 2#32
  let v278 : BitVec 32 := Scalar.muli arg0 c2_i32_77
  let c1_i32_110 : BitVec 32 := 1#32
  let v384 : BitVec 32 := Scalar.subi v278 c1_i32_110
  let c0_i32_78 : BitVec 32 := 0#32
  let c1_i32_80 : BitVec 32 := 1#32
  let arg6 : BitVec 32 := Scf.iv c0_i32_78 c1_i32_80 k0_t1
  let v385 : BitVec 32 := Scalar.subi v384 arg6
  let c256_i32_111 : BitVec 32 := 256#32
  let v386 : BitVec 32 := Scalar.muli v385 c256_i32_111
  let v387 : BitVec 32 := v386
  let v388 : Index := Scalar.indexCast v387
  let c0_112 : Index := 0#32
  ![v388.toNat, 0]
@[reducible] def k0_t2_loop (i : grid0.Coords) : Scf.Loop 32 :=
  let c0_i32_78 : BitVec 32 := 0#32
  let arg0 : BitVec 32 := BitVec.ofNat 32 (i 0).val
  let c2_i32_77 : BitVec 32 := 2#32
  let v278 : BitVec 32 := Scalar.muli arg0 c2_i32_77
  let v279 : BitVec 32 := Scalar.subi v278 c0_i32_78
  let c1_i32_79 : BitVec 32 := 1#32
  let v281 : BitVec 32 := Scalar.divsi v279 c1_i32_79
  let v282 : BitVec 32 := Scalar.muli v281 c1_i32_79
  let v283 : BitVec 32 := Scalar.addi c0_i32_78 v282
  let v280 : BitVec 32 := Scalar.addi c0_i32_78 v279
  let c1_i32_81 : BitVec 32 := 1#32
  ⟨v283, v280, c1_i32_81⟩
def k0_mult4 (i : grid0.Coords) (k0_t2 : Fin (k0_t2_loop i).trips) : BitVec 32 :=
  let arg0 : BitVec 32 := BitVec.ofNat 32 (i 0).val
  let c2_i32_77 : BitVec 32 := 2#32
  let v278 : BitVec 32 := Scalar.muli arg0 c2_i32_77
  let c1_i32_110 : BitVec 32 := 1#32
  let v384 : BitVec 32 := Scalar.subi v278 c1_i32_110
  let c0_i32_78 : BitVec 32 := 0#32
  let v279 : BitVec 32 := Scalar.subi v278 c0_i32_78
  let c1_i32_79 : BitVec 32 := 1#32
  let v281 : BitVec 32 := Scalar.divsi v279 c1_i32_79
  let v282 : BitVec 32 := Scalar.muli v281 c1_i32_79
  let v283 : BitVec 32 := Scalar.addi c0_i32_78 v282
  let c1_i32_81 : BitVec 32 := 1#32
  let arg6 : BitVec 32 := Scf.iv v283 c1_i32_81 k0_t2
  let v385 : BitVec 32 := Scalar.subi v384 arg6
  let c256_i32_111 : BitVec 32 := 256#32
  let v386 : BitVec 32 := Scalar.muli v385 c256_i32_111
  v386
def k0_off3 (i : grid0.Coords) (k0_t2 : Fin (k0_t2_loop i).trips) : Fin 2 → Nat :=
  let arg0 : BitVec 32 := BitVec.ofNat 32 (i 0).val
  let c2_i32_77 : BitVec 32 := 2#32
  let v278 : BitVec 32 := Scalar.muli arg0 c2_i32_77
  let c1_i32_110 : BitVec 32 := 1#32
  let v384 : BitVec 32 := Scalar.subi v278 c1_i32_110
  let c0_i32_78 : BitVec 32 := 0#32
  let v279 : BitVec 32 := Scalar.subi v278 c0_i32_78
  let c1_i32_79 : BitVec 32 := 1#32
  let v281 : BitVec 32 := Scalar.divsi v279 c1_i32_79
  let v282 : BitVec 32 := Scalar.muli v281 c1_i32_79
  let v283 : BitVec 32 := Scalar.addi c0_i32_78 v282
  let c1_i32_81 : BitVec 32 := 1#32
  let arg6 : BitVec 32 := Scf.iv v283 c1_i32_81 k0_t2
  let v385 : BitVec 32 := Scalar.subi v384 arg6
  let c256_i32_111 : BitVec 32 := 256#32
  let v386 : BitVec 32 := Scalar.muli v385 c256_i32_111
  let v387 : BitVec 32 := v386
  let v388 : Index := Scalar.indexCast v387
  let c0_112 : Index := 0#32
  ![v388.toNat, 0]
def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_2 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RSbfIdeal.lean ====
abbrev S4096x5120 : Shape := ⟨2, ![4096, 5120]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x256, .f32⟩
  | .hbm, ⟨2, _⟩ => ⟨S4096x4x64, .f32⟩
  | .hbm, ⟨3, _⟩ => ⟨S4x4096x64, .f32⟩
  | .hbm, ⟨4, _⟩ => ⟨S4096x256, .f32⟩
  | .hbm, ⟨5, _⟩ => ⟨S4096x4x64, .f32⟩
  | .hbm, ⟨6, _⟩ => ⟨S4x4096x64, .f32⟩
  | .hbm, ⟨7, _⟩ => ⟨S4096x256, .f32⟩
  | .hbm, ⟨8, _⟩ => ⟨S4096x4x64, .f32⟩
  | .hbm, ⟨9, _⟩ => ⟨S4x4096x64, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x4096, .i1⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S_, .f32⟩
  | .hbm, ⟨55, _⟩ => ⟨S4x4096x4096, .i1⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S_, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S4x4096x4096, .f32⟩
  | .hbm, ⟨64, _⟩ => ⟨S_, .f32⟩
  | .hbm, ⟨65, _⟩ => ⟨S_, .f32⟩
  | .hbm, ⟨66, _⟩ => ⟨S4x4096x4096, .i1⟩
  | .hbm, ⟨67, _⟩ => ⟨S4x4096x4096, .f32⟩
  | .hbm, ⟨68, _⟩ => ⟨S4x4096x4096, .f32⟩
  | .hbm, ⟨69, _⟩ => ⟨S4x4096x64, .f32⟩
  | .hbm, ⟨70, _⟩ => ⟨S4096x4x64, .f32⟩
  | .hbm, ⟨71, _⟩ => ⟨S4096x256, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== KSbb.lean ====
abbrev S4096x5120 : Shape := ⟨2, ![4096, 5120]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4 : Shape := ⟨2, ![4096, 4]⟩
abbrev S4096x4x1 : Shape := ⟨3, ![4096, 4, 1]⟩
abbrev S4096x4x128 : Shape := ⟨3, ![4096, 4, 128]⟩
abbrev S4096x512 : Shape := ⟨2, ![4096, 512]⟩
abbrev S512x256 : Shape := ⟨2, ![512, 256]⟩
abbrev S512x512 : Shape := ⟨2, ![512, 512]⟩
abbrev S2048x256 : Shape := ⟨2, ![2048, 256]⟩
abbrev S1x256 : Shape := ⟨2, ![1, 256]⟩
abbrev S512x128 : Shape := ⟨2, ![512, 128]⟩
abbrev S512 : Shape := ⟨1, ![512]⟩
abbrev S512x1 : Shape := ⟨2, ![512, 1]⟩
abbrev S2048x1 : Shape := ⟨2, ![2048, 1]⟩
abbrev S256x256 : Shape := ⟨2, ![256, 256]⟩
abbrev S2048x512 : Shape := ⟨2, ![2048, 512]⟩
abbrev S2048 : Shape := ⟨1, ![2048]⟩

abbrev nBuf : Space → Nat
  | .hbm => 84
  | .vmem => 13
  | .smem => 0
  | _ => 0

abbrev bufTy : (tb : Table) → Fin (tcTables nBuf tb) → BufTy
  | .hbm, ⟨0, _⟩ => ⟨S4096x5120, .f32⟩
  | .hbm, ⟨1, _⟩ => ⟨S4096x256, .f32⟩
  | .hbm, ⟨2, _⟩ => ⟨S4096x256, .f32⟩
  | .hbm, ⟨3, _⟩ => ⟨S4096x4x64, .f32⟩
  | .hbm, ⟨4, _⟩ => ⟨S4x4096x64, .f32⟩
  | .hbm, ⟨5, _⟩ => ⟨S4096x256, .f32⟩
  | .hbm, ⟨6, _⟩ => ⟨S4096x4x64, .f32⟩
  | .hbm, ⟨7, _⟩ => ⟨S4x4096x64, .f32⟩
  | .hbm, ⟨8, _⟩ => ⟨S4096x256, .f32⟩
  | .hbm, ⟨9, _⟩ => ⟨S4096x4x64, .f32⟩
  | .hbm, ⟨10, _⟩ => ⟨S4x4096x64, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .i1⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S_, .f32⟩
  | .hbm, ⟨56, _⟩ => ⟨S4x4096x4096, .i1⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S_, .f32⟩
  | .hbm, ⟨61, _⟩ => ⟨S4x4096x4096, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S_, .f32⟩
  | .hbm, ⟨66, _⟩ => ⟨S_, .f32⟩
  | .hbm, ⟨67, _⟩ => ⟨S4x4096x4096, .i1⟩
  | .hbm, ⟨68, _⟩ => ⟨S4x4096x4096, .f32⟩
  | .hbm, ⟨69, _⟩ => ⟨S4x4096x4096, .f32⟩
  | .hbm, ⟨70, _⟩ => ⟨S4x4096x64, .f32⟩
  | .hbm, ⟨71, _⟩ => ⟨S4096x4x64, .f32⟩
  | .hbm, ⟨72, _⟩ => ⟨S4096x256, .f32⟩
  | .hbm, ⟨73, _⟩ => ⟨S4096x256, .f32⟩
  | .hbm, ⟨74, _⟩ => ⟨S4096x4x64, .f32⟩
  | .hbm, ⟨75, _⟩ => ⟨S_, .f32⟩
  | .hbm, ⟨76, _⟩ => ⟨S4096x4, .f32⟩
  | .hbm, ⟨77, _⟩ => ⟨S4096x4x1, .f32⟩
  | .hbm, ⟨78, _⟩ => ⟨S4096x4x128, .f32⟩
  | .hbm, ⟨79, _⟩ => ⟨S4096x512, .f32⟩
  | .hbm, ⟨80, _⟩ => ⟨S4096x5120, .bf16⟩
  | .hbm, ⟨81, _⟩ => ⟨S4096x256, .f32⟩
  | .hbm, ⟨82, _⟩ => ⟨S4096x256, .f32⟩
  | .hbm, ⟨83, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S4096x256, .f32⟩
  | .local _ .vmem, ⟨11, _⟩ => ⟨S4096x256, .f32⟩
  | .local _ .vmem, ⟨12, _⟩ => ⟨S2048x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v20 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v21 : Ref sig .tc := ⟨.hbm, 58, rfl⟩
abbrev main_call3_cst : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37_0 : Ref sig .tc := ⟨.hbm, 81, rfl⟩
abbrev main_v37_1 : Ref sig .tc := ⟨.hbm, 82, rfl⟩
abbrev main_v37_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v287 : BitVec 32 := Scalar.muli arg0 c512_i32
  let c256_i32 : BitVec 32 := 256#32
  let v288 : BitVec 32 := Scalar.addi v287 c256_i32
  v288
def k0_off1 (i : grid0.Coords) (c256_i32 : BitVec 32) : Fin 2 → Nat :=
  let arg0 : BitVec 32 := BitVec.ofNat 32 (i 0).val
  let c512_i32 : BitVec 32 := 512#32
  let v287 : BitVec 32 := Scalar.muli arg0 c512_i32
  let v288 : BitVec 32 := Scalar.addi v287 c256_i32
  let v289 : BitVec 32 := v288
  let v290 : Index := Scalar.indexCast v289
  let c0_82 : Index := 0#32
  ![v290.toNat, 0]
def k0_mult2 (i : grid0.Coords) : BitVec 32 :=
  let arg0 : BitVec 32 := BitVec.ofNat 32 (i 0).val
  let c512_i32_112 : BitVec 32 := 512#32
  let v393 : BitVec 32 := Scalar.muli arg0 c512_i32_112
  let c0_i32_113 : BitVec 32 := 0#32
  let v394 : BitVec 32 := Scalar.addi v393 c0_i32_113
  v394
@[reducible] def k0_t1_loop (i : grid0.Coords) : Scf.Loop 32 :=
  let c0_i32_147 : BitVec 32 := 0#32
  let arg0 : BitVec 32 := BitVec.ofNat 32 (i 0).val
  let c2_i32_146 : BitVec 32 := 2#32
  let v501 : BitVec 32 := Scalar.muli arg0 c2_i32_146
  let v502 : BitVec 32 := Scalar.subi v501 c0_i32_147
  let c1_i32_148 : BitVec 32 := 1#32
  let v504 : BitVec 32 := Scalar.divsi v502 c1_i32_148
  let v505 : BitVec 32 := Scalar.muli v504 c1_i32_148
  let v506 : BitVec 32 := Scalar.addi c0_i32_147 v505
  let c1_i32_149 : BitVec 32 := 1#32
  ⟨c0_i32_147, v506, c1_i32_149⟩
def k0_mult3 (i : grid0.Coords) (k0_t1 : Fin (k0_t1_loop i).trips) : BitVec 32 :=
  let arg0 : BitVec 32 := BitVec.ofNat 32 (i 0).val
  let c2_i32_146 : BitVec 32 := 2#32
  let v501 : BitVec 32 := Scalar.muli arg0 c2_i32_146
  let c1_i32_180 : BitVec 32 := 1#32
  let v609 : BitVec 32 := Scalar.subi v501 c1_i32_180
  let c0_i32_147 : BitVec 32 := 0#32
  let c1_i32_149 : BitVec 32 := 1#32
  let arg10 : BitVec 32 := Scf.iv c0_i32_147 c1_i32_149 k0_t1
  let v610 : BitVec 32 := Scalar.subi v609 arg10
  let c256_i32_181 : BitVec 32 := 256#32
  let v611 : BitVec 32 := Scalar.muli v610 c256_i32_181
  v611
def k0_off2 (i : grid0.Coords) (k0_t1 : Fin (k0_t1_loop i).trips) : Fin 2 → Nat :=
  let arg0 : BitVec 32 := BitVec.ofNat 32 (i 0).val
  let c2_i32_146 : BitVec 32 := 2#32
  let v501 : BitVec 32 := Scalar.muli arg0 c2_i32_146
  let c1_i32_180 : BitVec 32 := 1#32
  let v609 : BitVec 32 := Scalar.subi v501 c1_i32_180
  let c0_i32_147 : BitVec 32 := 0#32
  let c1_i32_149 : BitVec 32 := 1#32
  let arg10 : BitVec 32 := Scf.iv c0_i32_147 c1_i32_149 k0_t1
  let v610 : BitVec 32 := Scalar.subi v609 arg10
  let c256_i32_181 : BitVec 32 := 256#32
  let v611 : BitVec 32 := Scalar.muli v610 c256_i32_181
  let v612 : BitVec 32 := v611
  let v613 : Index := Scalar.indexCast v612
  let c0_182 : Index := 0#32
  ![v613.toNat, 0]
@[reducible] def k0_t2_loop (i : grid0.Coords) : Scf.Loop 32 :=
  let c0_i32_147 : BitVec 32 := 0#32
  let arg0 : BitVec 32 := BitVec.ofNat 32 (i 0).val
  let c2_i32_146 : BitVec 32 := 2#32
  let v501 : BitVec 32 := Scalar.muli arg0 c2_i32_146
  let v502 : BitVec 32 := Scalar.subi v501 c0_i32_147
  let c1_i32_148 : BitVec 32 := 1#32
  let v504 : BitVec 32 := Scalar.divsi v502 c1_i32_148
  let v505 : BitVec 32 := Scalar.muli v504 c1_i32_148
  let v506 : BitVec 32 := Scalar.addi c0_i32_147 v505
  let v503 : BitVec 32 := Scalar.addi c0_i32_147 v502
  let c1_i32_150 : BitVec 32 := 1#32
  ⟨v506, v503, c1_i32_150⟩
def k0_mult4 (i : grid0.Coords) (k0_t2 : Fin (k0_t2_loop i).trips) : BitVec 32 :=
  let arg0 : BitVec 32 := BitVec.ofNat 32 (i 0).val
  let c2_i32_146 : BitVec 32 := 2#32
  let v501 : BitVec 32 := Scalar.muli arg0 c2_i32_146
  let c1_i32_180 : BitVec 32 := 1#32
  let v609 : BitVec 32 := Scalar.subi v501 c1_i32_180
  let c0_i32_147 : BitVec 32 := 0#32
  let v502 : BitVec 32 := Scalar.subi v501 c0_i32_147
  let c1_i32_148 : BitVec 32 := 1#32
  let v504 : BitVec 32 := Scalar.divsi v502 c1_i32_148
  let v505 : BitVec 32 := Scalar.muli v504 c1_i32_148
  let v506 : BitVec 32 := Scalar.addi c0_i32_147 v505
  let c1_i32_150 : BitVec 32 := 1#32
  let arg10 : BitVec 32 := Scf.iv v506 c1_i32_150 k0_t2
  let v610 : BitVec 32 := Scalar.subi v609 arg10
  let c256_i32_181 : BitVec 32 := 256#32
  let v611 : BitVec 32 := Scalar.muli v610 c256_i32_181
  v611
def k0_off3 (i : grid0.Coords) (k0_t2 : Fin (k0_t2_loop i).trips) : Fin 2 → Nat :=
  let arg0 : BitVec 32 := BitVec.ofNat 32 (i 0).val
  let c2_i32_146 : BitVec 32 := 2#32
  let v501 : BitVec 32 := Scalar.muli arg0 c2_i32_146
  let c1_i32_180 : BitVec 32 := 1#32
  let v609 : BitVec 32 := Scalar.subi v501 c1_i32_180
  let c0_i32_147 : BitVec 32 := 0#32
  let v502 : BitVec 32 := Scalar.subi v501 c0_i32_147
  let c1_i32_148 : BitVec 32 := 1#32
  let v504 : BitVec 32 := Scalar.divsi v502 c1_i32_148
  let v505 : BitVec 32 := Scalar.muli v504 c1_i32_148
  let v506 : BitVec 32 := Scalar.addi c0_i32_147 v505
  let c1_i32_150 : BitVec 32 := 1#32
  let arg10 : BitVec 32 := Scf.iv v506 c1_i32_150 k0_t2
  let v610 : BitVec 32 := Scalar.subi v609 arg10
  let c256_i32_181 : BitVec 32 := 256#32
  let v611 : BitVec 32 := Scalar.muli v610 c256_i32_181
  let v612 : BitVec 32 := v611
  let v613 : Index := Scalar.indexCast v612
  let c0_182 : Index := 0#32
  ![v613.toNat, 0]
def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_2 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RSbbIdeal.lean ====
abbrev S4096x5120 : Shape := ⟨2, ![4096, 5120]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩

abbrev nBuf : Space → Nat
  | .hbm => 177
  | .vmem => 0
  | .smem => 0
  | _ => 0

abbrev hbmTy0_0 (i : Nat) : BufTy := match i % 128 with
  | 0 => ⟨S4096x5120, .f32⟩
  | 1 => ⟨S4096x256, .f32⟩
  | 2 => ⟨S4096x256, .f32⟩
  | 3 => ⟨S4096x256, .f32⟩
  | 4 => ⟨S4096x256, .f32⟩
  | 5 => ⟨S4096x4x64, .f32⟩
  | 6 => ⟨S4x4096x64, .f32⟩
  | 7 => ⟨S4096x4x64, .f32⟩
  | 8 => ⟨S4x4096x64, .f32⟩
  | 9 => ⟨S4096x4x64, .f32⟩
  | 10 => ⟨S4x4096x64, .f32⟩
  | 11 => ⟨S4x4096x4096, .f32⟩
  | 12 => ⟨S_, .f32⟩
  | 13 => ⟨S4x4096x4096, .f32⟩
  | 14 => ⟨S4x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S4x4096x4096, .f32⟩
  | 22 => ⟨S_, .f32⟩
  | 23 => ⟨S4x4096x4096, .f32⟩
  | 24 => ⟨S4x4096x4096, .f32⟩
  | 25 => ⟨S4x4096x4096, .f32⟩
  | 26 => ⟨S4x4096x4096, .f32⟩
  | 27 => ⟨S4x4096x4096, .i1⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S_, .f32⟩
  | 37 => ⟨S4x4096x4096, .f32⟩
  | 38 => ⟨S4x4096x4096, .i1⟩
  | 39 => ⟨S_, .f32⟩
  | 40 => ⟨S4x4096x4096, .f32⟩
  | 41 => ⟨S4x4096x4096, .f32⟩
  | 42 => ⟨S_, .f32⟩
  | 43 => ⟨S4x4096x4096, .f32⟩
  | 44 => ⟨S4x4096x4096, .i1⟩
  | 45 => ⟨S_, .f32⟩
  | 46 => ⟨S4x4096x4096, .f32⟩
  | 47 => ⟨S4x4096x4096, .f32⟩
  | 48 => ⟨S4x4096x4096, .f32⟩
  | 49 => ⟨S4x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S4x4096x4096, .f32⟩
  | 58 => ⟨S4x4096x4096, .i1⟩
  | 59 => ⟨S_, .f32⟩
  | 60 => ⟨S4x4096x4096, .f32⟩
  | 61 => ⟨S4x4096x4096, .f32⟩
  | 62 => ⟨S4x4096x4096, .f32⟩
  | 63 => ⟨S4x4096x4096, .f32⟩
  | 64 => ⟨S4x4096x4096, .f32⟩
  | 65 => ⟨S_, .f32⟩
  | 66 => ⟨S4x4096x4096, .f32⟩
  | 67 => ⟨S4x4096x4096, .f32⟩
  | 68 => ⟨S4x4096x4096, .f32⟩
  | 69 => ⟨S4x4096x4096, .f32⟩
  | 70 => ⟨S4x4096x4096, .f32⟩
  | 71 => ⟨S_, .f32⟩
  | 72 => ⟨S4x4096x4096, .f32⟩
  | 73 => ⟨S4x4096x4096, .f32⟩
  | 74 => ⟨S4x4096x4096, .f32⟩
  | 75 => ⟨S4x4096x4096, .f32⟩
  | 76 => ⟨S4x4096x4096, .i1⟩
  | 77 => ⟨S4x4096x4096, .f32⟩
  | 78 => ⟨S4x4096x4096, .f32⟩
  | 79 => ⟨S4x4096x4096, .f32⟩
  | 80 => ⟨S4x4096x4096, .f32⟩
  | 81 => ⟨S4x4096x4096, .f32⟩
  | 82 => ⟨S4x4096x4096, .f32⟩
  | 83 => ⟨S4x4096x4096, .f32⟩
  | 84 => ⟨S4x4096x4096, .f32⟩
  | 85 => ⟨S_, .f32⟩
  | 86 => ⟨S4x4096x4096, .f32⟩
  | 87 => ⟨S4x4096x4096, .i1⟩
  | 88 => ⟨S_, .f32⟩
  | 89 => ⟨S4x4096x4096, .f32⟩
  | 90 => ⟨S4x4096x4096, .f32⟩
  | 91 => ⟨S_, .f32⟩
  | 92 => ⟨S4x4096x4096, .f32⟩
  | 93 => ⟨S4x4096x4096, .i1⟩
  | 94 => ⟨S_, .f32⟩
  | 95 => ⟨S4x4096x4096, .f32⟩
  | 96 => ⟨S4x4096x4096, .f32⟩
  | 97 => ⟨S4x4096x4096, .f32⟩
  | 98 => ⟨S4x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S4x4096x4096, .f32⟩
  | 107 => ⟨S4x4096x4096, .i1⟩
  | 108 => ⟨S_, .f32⟩
  | 109 => ⟨S4x4096x4096, .f32⟩
  | 110 => ⟨S4x4096x4096, .f32⟩
  | 111 => ⟨S4x4096x4096, .f32⟩
  | 112 => ⟨S4x4096x4096, .f32⟩
  | 113 => ⟨S4x4096x4096, .f32⟩
  | 114 => ⟨S_, .f32⟩
  | 115 => ⟨S4x4096x4096, .f32⟩
  | 116 => ⟨S4x4096x4096, .f32⟩
  | 117 => ⟨S4x4096x4096, .f32⟩
  | 118 => ⟨S_, .f32⟩
  | 119 => ⟨S_, .f32⟩
  | 120 => ⟨S4x4096x4096, .i1⟩
  | 121 => ⟨S4x4096x4096, .f32⟩
  | 122 => ⟨S4x4096x4096, .f32⟩
  | 123 => ⟨S_, .f32⟩
  | 124 => ⟨S4x4096x4096, .f32⟩
  | 125 => ⟨S_, .f32⟩
  | 126 => ⟨S_, .f32⟩
  | 127 => ⟨S4x4096x4096, .f32⟩
  | _ => ⟨S4096x5120, .f32⟩

abbrev hbmTy0_1 (i : Nat) : BufTy := match i % 128 with
  | 0 => ⟨S4x4096x4096, .f32⟩
  | 1 => ⟨S4x4096x4096, .f32⟩
  | 2 => ⟨S4x4096x4096, .f32⟩
  | 3 => ⟨S_, .f32⟩
  | 4 => ⟨S_, .f32⟩
  | 5 => ⟨S4x4096x4096, .i1⟩
  | 6 => ⟨S4x4096x4096, .f32⟩
  | 7 => ⟨S4x4096x4096, .f32⟩
  | 8 => ⟨S_, .f32⟩
  | 9 => ⟨S4x4096x4096, .f32⟩
  | 10 => ⟨S4x4096x64, .f32⟩
  | 11 => ⟨S4096x4x64, .f32⟩
  | 12 => ⟨S4096x256, .f32⟩
  | 13 => ⟨S4096x4x64, .f32⟩
  | 14 => ⟨S4x4096x64, .f32⟩
  | 15 => ⟨S4x64x4096, .f32⟩
  | 16 => ⟨S4x4096x64, .f32⟩
  | 17 => ⟨S4x4096x4096, .f32⟩
  | 18 => ⟨S_, .f32⟩
  | 19 => ⟨S4x4096x4096, .f32⟩
  | 20 => ⟨S4x4096x4096, .f32⟩
  | 21 => ⟨S4x4096x4096, .f32⟩
  | 22 => ⟨S4x4096x4096, .f32⟩
  | 23 => ⟨S_, .f32⟩
  | 24 => ⟨S_, .f32⟩
  | 25 => ⟨S4x4096x4096, .f32⟩
  | 26 => ⟨S4x4096x4096, .f32⟩
  | 27 => ⟨S_, .f32⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S_, .f32⟩
  | 39 => ⟨S4x4096x4096, .f32⟩
  | 40 => ⟨S4x4096x4096, .f32⟩
  | 41 => ⟨S4x4096x64, .f32⟩
  | 42 => ⟨S4x4096x64, .f32⟩
  | 43 => ⟨S4096x4x64, .f32⟩
  | 44 => ⟨S4096x256, .f32⟩
  | 45 => ⟨S4096x4x64, .f32⟩
  | 46 => ⟨S4096x256, .f32⟩
  | 47 => ⟨S4096x4x64, .f32⟩
  | 48 => ⟨S4096x256, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== KJoin.lean ====
abbrev S4096x768 : Shape := ⟨2, ![4096, 768]⟩
abbrev S4096x256 : Shape := ⟨2, ![4096, 256]⟩
abbrev S4096x2048 : Shape := ⟨2, ![4096, 2048]⟩
abbrev S4096x1x256 : Shape := ⟨3, ![4096, 1, 256]⟩
abbrev S1x4096x256 : Shape := ⟨3, ![1, 4096, 256]⟩
abbrev S1024x4x256 : Shape := ⟨3, ![1024, 4, 256]⟩
abbrev S4x1024x256 : Shape := ⟨3, ![4, 1024, 256]⟩
abbrev S256x16x256 : Shape := ⟨3, ![256, 16, 256]⟩
abbrev S16x256x256 : Shape := ⟨3, ![16, 256, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S128 : Shape := ⟨1, ![128]⟩
abbrev S1x4096x1x8 : Shape := ⟨4, ![1, 4096, 1, 8]⟩
abbrev S1x4096x16x8 : Shape := ⟨4, ![1, 4096, 16, 8]⟩
abbrev S4096x128 : Shape := ⟨2, ![4096, 128]⟩
abbrev S4096x384 : Shape := ⟨2, ![4096, 384]⟩
abbrev S4096x5120 : Shape := ⟨2, ![4096, 5120]⟩
abbrev S1x512x256 : Shape := ⟨3, ![1, 512, 256]⟩
abbrev S4x128x256 : Shape := ⟨3, ![4, 128, 256]⟩
abbrev S16x32x256 : Shape := ⟨3, ![16, 32, 256]⟩
abbrev S512x256 : Shape := ⟨2, ![512, 256]⟩
abbrev S512x2048 : Shape := ⟨2, ![512, 2048]⟩
abbrev S512x128 : Shape := ⟨2, ![512, 128]⟩
abbrev S512x5120 : Shape := ⟨2, ![512, 5120]⟩
abbrev S4x512x128 : Shape := ⟨3, ![4, 512, 128]⟩
abbrev S1x128x128 : Shape := ⟨3, ![1, 128, 128]⟩
abbrev S128x128 : Shape := ⟨2, ![128, 128]⟩
abbrev S1x512x128 : Shape := ⟨3, ![1, 512, 128]⟩
abbrev S1x32x128 : Shape := ⟨3, ![1, 32, 128]⟩
abbrev S32x128 : Shape := ⟨2, ![32, 128]⟩

abbrev nBuf : Space → Nat
  | .hbm => 117
  | .vmem => 35
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x2048, .f32⟩
  | .hbm, ⟨7, _⟩ => ⟨S4096x256, .f32⟩
  | .hbm, ⟨8, _⟩ => ⟨S4096x1x256, .f32⟩
  | .hbm, ⟨9, _⟩ => ⟨S1x4096x256, .f32⟩
  | .hbm, ⟨10, _⟩ => ⟨S4096x256, .f32⟩
  | .hbm, ⟨11, _⟩ => ⟨S1024x4x256, .f32⟩
  | .hbm, ⟨12, _⟩ => ⟨S4x1024x256, .f32⟩
  | .hbm, ⟨13, _⟩ => ⟨S4096x256, .f32⟩
  | .hbm, ⟨14, _⟩ => ⟨S256x16x256, .f32⟩
  | .hbm, ⟨15, _⟩ => ⟨S16x256x256, .f32⟩
  | .hbm, ⟨16, _⟩ => ⟨S4096x256, .f32⟩
  | .hbm, ⟨17, _⟩ => ⟨S4096x1x256, .f32⟩
  | .hbm, ⟨18, _⟩ => ⟨S1x4096x256, .f32⟩
  | .hbm, ⟨19, _⟩ => ⟨S4096x256, .f32⟩
  | .hbm, ⟨20, _⟩ => ⟨S1024x4x256, .f32⟩
  | .hbm, ⟨21, _⟩ => ⟨S4x1024x256, .f32⟩
  | .hbm, ⟨22, _⟩ => ⟨S4096x256, .f32⟩
  | .hbm, ⟨23, _⟩ => ⟨S256x16x256, .f32⟩
  | .hbm, ⟨24, _⟩ => ⟨S16x256x256, .f32⟩
  | .hbm, ⟨25, _⟩ => ⟨S4096x256, .f32⟩
  | .hbm, ⟨26, _⟩ => ⟨S4096x1x256, .f32⟩
  | .hbm, ⟨27, _⟩ => ⟨S1x4096x256, .f32⟩
  | .hbm, ⟨28, _⟩ => ⟨S4096x256, .f32⟩
  | .hbm, ⟨29, _⟩ => ⟨S1024x4x256, .f32⟩
  | .hbm, ⟨30, _⟩ => ⟨S4x1024x256, .f32⟩
  | .hbm, ⟨31, _⟩ => ⟨S4096x256, .f32⟩
  | .hbm, ⟨32, _⟩ => ⟨S256x16x256, .f32⟩
  | .hbm, ⟨33, _⟩ => ⟨S16x256x256, .f32⟩
  | .hbm, ⟨34, _⟩ => ⟨S4096x2048, .bf16⟩
  | .hbm, ⟨35, _⟩ => ⟨S4096, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S4096x1, .f32⟩
  | .hbm, ⟨51, _⟩ => ⟨S1x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .i32⟩
  | .hbm, ⟨70, _⟩ => ⟨S128, .i32⟩
  | .hbm, ⟨71, _⟩ => ⟨S128, .i1⟩
  | .hbm, ⟨72, _⟩ => ⟨S_, .i32⟩
  | .hbm, ⟨73, _⟩ => ⟨S_, .i1⟩
  | .hbm, ⟨74, _⟩ => ⟨S128, .i1⟩
  | .hbm, ⟨75, _⟩ => ⟨S128, .i1⟩
  | .hbm, ⟨76, _⟩ => ⟨S128, .i1⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S1x4096x1x8, .f32⟩
  | .hbm, ⟨81, _⟩ => ⟨S1x4096x16x8, .f32⟩
  | .hbm, ⟨82, _⟩ => ⟨S4096x128, .f32⟩
  | .hbm, ⟨83, _⟩ => ⟨S1x4096x1x8, .f32⟩
  | .hbm, ⟨84, _⟩ => ⟨S1x4096x16x8, .f32⟩
  | .hbm, ⟨85, _⟩ => ⟨S4096x128, .f32⟩
  | .hbm, ⟨86, _⟩ => ⟨S_, .i32⟩
  | .hbm, ⟨87, _⟩ => ⟨S128, .i32⟩
  | .hbm, ⟨88, _⟩ => ⟨S128, .i1⟩
  | .hbm, ⟨89, _⟩ => ⟨S_, .f32⟩
  | .hbm, ⟨90, _⟩ => ⟨S_, .f32⟩
  | .hbm, ⟨91, _⟩ => ⟨S4096x128, .i1⟩
  | .hbm, ⟨92, _⟩ => ⟨S4096x128, .f32⟩
  | .hbm, ⟨93, _⟩ => ⟨S4096x128, .f32⟩
  | .hbm, ⟨94, _⟩ => ⟨S_, .i32⟩
  | .hbm, ⟨95, _⟩ => ⟨S128, .i32⟩
  | .hbm, ⟨96, _⟩ => ⟨S128, .i1⟩
  | .hbm, ⟨97, _⟩ => ⟨S4096x128, .f32⟩
  | .hbm, ⟨98, _⟩ => ⟨S_, .f32⟩
  | .hbm, ⟨99, _⟩ => ⟨S_, .f32⟩
  | .hbm, ⟨100, _⟩ => ⟨S4096x128, .i1⟩
  | .hbm, ⟨101, _⟩ => ⟨S4096x128, .f32⟩
  | .hbm, ⟨102, _⟩ => ⟨S4096x128, .f32⟩
  | .hbm, ⟨103, _⟩ => ⟨S_, .i32⟩
  | .hbm, ⟨104, _⟩ => ⟨S128, .i32⟩
  | .hbm, ⟨105, _⟩ => ⟨S128, .i1⟩
  | .hbm, ⟨106, _⟩ => ⟨S_, .i32⟩
  | .hbm, ⟨107, _⟩ => ⟨S128, .i32⟩
  | .hbm, ⟨108, _⟩ => ⟨S128, .i1⟩
  | .hbm, ⟨109, _⟩ => ⟨S128, .i1⟩
  | .hbm, ⟨110, _⟩ => ⟨S_, .f32⟩
  | .hbm, ⟨111, _⟩ => ⟨S_, .f32⟩
  | .hbm, ⟨112, _⟩ => ⟨S4096x128, .i1⟩
  | .hbm, ⟨113, _⟩ => ⟨S4096x128, .f32⟩
  | .hbm, ⟨114, _⟩ => ⟨S4096x128, .f32⟩
  | .hbm, ⟨115, _⟩ => ⟨S4096x384, .f32⟩
  | .hbm, ⟨116, _⟩ => ⟨S4096x5120, .bf16⟩
  | .local _ .vmem, ⟨0, _⟩ => ⟨S1x512x256, .f32⟩
  | .local _ .vmem, ⟨1, _⟩ => ⟨S1x512x256, .f32⟩
  | .local _ .vmem, ⟨2, _⟩ => ⟨S4x128x256, .f32⟩
  | .local _ .vmem, ⟨3, _⟩ => ⟨S4x128x256, .f32⟩
  | .local _ .vmem, ⟨4, _⟩ => ⟨S16x32x256, .f32⟩
  | .local _ .vmem, ⟨5, _⟩ => ⟨S16x32x256, .f32⟩
  | .local _ .vmem, ⟨6, _⟩ => ⟨S1x512x256, .f32⟩
  | .local _ .vmem, ⟨7, _⟩ => ⟨S1x512x256, .f32⟩
  | .local _ .vmem, ⟨8, _⟩ => ⟨S4x128x256, .f32⟩
  | .local _ .vmem, ⟨9, _⟩ => ⟨S4x128x256, .f32⟩
  | .local _ .vmem, ⟨10, _⟩ => ⟨S16x32x256, .f32⟩
  | .local _ .vmem, ⟨11, _⟩ => ⟨S16x32x256, .f32⟩
  | .local _ .vmem, ⟨12, _⟩ => ⟨S1x512x256, .f32⟩
  | .local _ .vmem, ⟨13, _⟩ => ⟨S1x512x256, .f32⟩
  | .local _ .vmem, ⟨14, _⟩ => ⟨S4x128x256, .f32⟩
  | .local _ .vmem, ⟨15, _⟩ => ⟨S4x128x256, .f32⟩
  | .local _ .vmem, ⟨16, _⟩ => ⟨S16x32x256, .f32⟩
  | .local _ .vmem, ⟨17, _⟩ => ⟨S16x32x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x2048, .bf16⟩
  | .local _ .vmem, ⟨25, _⟩ => ⟨S512x2048, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x5120, .bf16⟩
  | .local _ .vmem, ⟨33, _⟩ => ⟨S512x5120, .bf16⟩
  | .local _ .vmem, ⟨34, _⟩ => ⟨S4x512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_1 : Ref sig .tc := ⟨.hbm, 66, rfl⟩
abbrev main_call0_v5 : Ref sig .tc := ⟨.hbm, 67, rfl⟩
abbrev main_call0_v6 : Ref sig .tc := ⟨.hbm, 68, rfl⟩
abbrev main_call0_c_2 : Ref sig .tc := ⟨.hbm, 69, rfl⟩
abbrev main_call0_v7 : Ref sig .tc := ⟨.hbm, 70, rfl⟩
abbrev main_call0_v8 : Ref sig .tc := ⟨.hbm, 71, rfl⟩
abbrev main_call0_c_3 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_3 : Ref sig .tc := ⟨.hbm, 86, rfl⟩
abbrev main_v54 : Ref sig .tc := ⟨.hbm, 87, rfl⟩
abbrev main_v55 : Ref sig .tc := ⟨.hbm, 88, rfl⟩
abbrev main_cst_4 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v56 : Ref sig .tc := ⟨.hbm, 93, rfl⟩
abbrev main_c_5 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_6 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v60 : Ref sig .tc := ⟨.hbm, 102, rfl⟩
abbrev main_c_7 : Ref sig .tc := ⟨.hbm, 103, rfl⟩
abbrev main_v61 : Ref sig .tc := ⟨.hbm, 104, rfl⟩
abbrev main_v62 : Ref sig .tc := ⟨.hbm, 105, rfl⟩
abbrev main_c_8 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_9 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_15 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x5120 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RJoinIdeal.lean ====
abbrev S4096x768 : Shape := ⟨2, ![4096, 768]⟩
abbrev S4096x256 : Shape := ⟨2, ![4096, 256]⟩
abbrev S4096x2048 : Shape := ⟨2, ![4096, 2048]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x5120 : Shape := ⟨2, ![4096, 5120]⟩
abbrev S4096x2304 : Shape := ⟨2, ![4096, 2304]⟩
abbrev S4096x3x12x64 : Shape := ⟨4, ![4096, 3, 12, 64]⟩
abbrev S3x12x4096x64 : Shape := ⟨4, ![3, 12, 4096, 64]⟩
abbrev S1x12x4096x64 : Shape := ⟨4, ![1, 12, 4096, 64]⟩
abbrev S12x4096x64 : Shape := ⟨3, ![12, 4096, 64]⟩
abbrev S12x4096x8 : Shape := ⟨3, ![12, 4096, 8]⟩
abbrev S1x4096x8 : Shape := ⟨3, ![1, 4096, 8]⟩
abbrev S12x4096x48 : Shape := ⟨3, ![12, 4096, 48]⟩
abbrev S4096x12x64 : Shape := ⟨3, ![4096, 12, 64]⟩

abbrev nBuf : Space → Nat
  | .hbm => 164
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S4096x256, .f32⟩
  | 6 => ⟨S4096x2048, .f32⟩
  | 7 => ⟨S4096, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x8, .f32⟩
  | 29 => ⟨S_, .f32⟩
  | 30 => ⟨S4096x5120, .f32⟩
  | 31 => ⟨S4096x2304, .f32⟩
  | 32 => ⟨S4096x3x12x64, .f32⟩
  | 33 => ⟨S3x12x4096x64, .f32⟩
  | 34 => ⟨S1x12x4096x64, .f32⟩
  | 35 => ⟨S12x4096x64, .f32⟩
  | 36 => ⟨S12x4096x8, .f32⟩
  | 37 => ⟨S12x4096x8, .f32⟩
  | 38 => ⟨S1x4096x8, .f32⟩
  | 39 => ⟨S12x4096x8, .f32⟩
  | 40 => ⟨S12x4096x8, .f32⟩
  | 41 => ⟨S1x4096x8, .f32⟩
  | 42 => ⟨S12x4096x8, .f32⟩
  | 43 => ⟨S12x4096x8, .f32⟩
  | 44 => ⟨S12x4096x8, .f32⟩
  | 45 => ⟨S1x4096x8, .f32⟩
  | 46 => ⟨S12x4096x8, .f32⟩
  | 47 => ⟨S12x4096x8, .f32⟩
  | 48 => ⟨S1x4096x8, .f32⟩
  | 49 => ⟨S12x4096x8, .f32⟩
  | 50 => ⟨S12x4096x8, .f32⟩
  | 51 => ⟨S12x4096x8, .f32⟩
  | 52 => ⟨S12x4096x48, .f32⟩
  | 53 => ⟨S12x4096x64, .f32⟩
  | 54 => ⟨S1x12x4096x64, .f32⟩
  | 55 => ⟨S12x4096x64, .f32⟩
  | 56 => ⟨S12x4096x8, .f32⟩
  | 57 => ⟨S12x4096x8, .f32⟩
  | 58 => ⟨S1x4096x8, .f32⟩
  | 59 => ⟨S12x4096x8, .f32⟩
  | 60 => ⟨S12x4096x8, .f32⟩
  | 61 => ⟨S1x4096x8, .f32⟩
  | 62 => ⟨S12x4096x8, .f32⟩
  | 63 => ⟨S12x4096x8, .f32⟩
  | 64 => ⟨S12x4096x8, .f32⟩
  | 65 => ⟨S1x4096x8, .f32⟩
  | 66 => ⟨S12x4096x8, .f32⟩
  | 67 => ⟨S12x4096x8, .f32⟩
  | 68 => ⟨S1x4096x8, .f32⟩
  | 69 => ⟨S12x4096x8, .f32⟩
  | 70 => ⟨S12x4096x8, .f32⟩
  | 71 => ⟨S12x4096x8, .f32⟩
  | 72 => ⟨S12x4096x48, .f32⟩
  | 73 => ⟨S12x4096x64, .f32⟩
  | 74 => ⟨S4096x12x64, .f32⟩
  | 75 => ⟨S4096x768, .f32⟩
  | 76 => ⟨S4096x12x64, .f32⟩
  | 77 => ⟨S4096x768, .f32⟩
  | 78 => ⟨S1x12x4096x64, .f32⟩
  | 79 => ⟨S12x4096x64, .f32⟩
  | 80 => ⟨S4096x12x64, .f32⟩
  | 81 => ⟨S4096x768, .f32⟩
  | 82 => ⟨S4096x256, .f32⟩
  | 83 => ⟨S4096x256, .f32⟩
  | 84 => ⟨S4096x256, .f32⟩
  | 85 => ⟨S4096x2048, .f32⟩
  | 86 => ⟨S_, .f32⟩
  | 87 => ⟨S4096x5120, .f32⟩
  | 88 => ⟨S_, .f32⟩
  | 89 => ⟨S4096x5120, .f32⟩
  | 90 => ⟨S4096x5120, .f32⟩
  | 91 => ⟨S_, .f32⟩
  | 92 => ⟨S4096x5120, .f32⟩
  | 93 => ⟨S4096x5120, .f32⟩
  | 94 => ⟨S_, .f32⟩
  | 95 => ⟨S4096x5120, .f32⟩
  | 96 => ⟨S4096x5120, .f32⟩
  | 97 => ⟨S4096x12x64, .f32⟩
  | 98 => ⟨S12x4096x64, .f32⟩
  | 99 => ⟨S1x12x4096x64, .f32⟩
  | 100 => ⟨S_, .f32⟩
  | 101 => ⟨S3x12x4096x64, .f32⟩
  | 102 => ⟨S4096x12x64, .f32⟩
  | 103 => ⟨S12x4096x64, .f32⟩
  | 104 => ⟨S4096x12x64, .f32⟩
  | 105 => ⟨S12x4096x64, .f32⟩
  | 106 => ⟨S12x4096x8, .f32⟩
  | 107 => ⟨S12x4096x8, .f32⟩
  | 108 => ⟨S12x4096x48, .f32⟩
  | 109 => ⟨S_, .f32⟩
  | 110 => ⟨S12x4096x64, .f32⟩
  | 111 => ⟨S12x4096x8, .f32⟩
  | 112 => ⟨S12x4096x8, .f32⟩
  | 113 => ⟨S12x4096x8, .f32⟩
  | 114 => ⟨S12x4096x8, .f32⟩
  | 115 => ⟨S12x4096x8, .f32⟩
  | 116 => ⟨S12x4096x8, .f32⟩
  | 117 => ⟨S12x4096x8, .f32⟩
  | 118 => ⟨S12x4096x8, .f32⟩
  | 119 => ⟨S12x4096x8, .f32⟩
  | 120 => ⟨S12x4096x8, .f32⟩
  | 121 => ⟨S12x4096x8, .f32⟩
  | 122 => ⟨S_, .f32⟩
  | 123 => ⟨S12x4096x64, .f32⟩
  | 124 => ⟨S12x4096x64, .f32⟩
  | 125 => ⟨S_, .f32⟩
  | 126 => ⟨S12x4096x64, .f32⟩
  | 127 => ⟨S12x4096x64, .f32⟩
  | _ => ⟨S4096x768, .f32⟩

abbrev hbmTy0_1 (i : Nat) : BufTy := match i % 128 with
  | 0 => ⟨S1x12x4096x64, .f32⟩
  | 1 => ⟨S_, .f32⟩
  | 2 => ⟨S3x12x4096x64, .f32⟩
  | 3 => ⟨S3x12x4096x64, .f32⟩
  | 4 => ⟨S12x4096x8, .f32⟩
  | 5 => ⟨S12x4096x8, .f32⟩
  | 6 => ⟨S12x4096x48, .f32⟩
  | 7 => ⟨S_, .f32⟩
  | 8 => ⟨S12x4096x64, .f32⟩
  | 9 => ⟨S12x4096x8, .f32⟩
  | 10 => ⟨S12x4096x8, .f32⟩
  | 11 => ⟨S12x4096x8, .f32⟩
  | 12 => ⟨S12x4096x8, .f32⟩
  | 13 => ⟨S12x4096x8, .f32⟩
  | 14 => ⟨S12x4096x8, .f32⟩
  | 15 => ⟨S12x4096x8, .f32⟩
  | 16 => ⟨S12x4096x8, .f32⟩
  | 17 => ⟨S12x4096x8, .f32⟩
  | 18 => ⟨S12x4096x8, .f32⟩
  | 19 => ⟨S12x4096x8, .f32⟩
  | 20 => ⟨S_, .f32⟩
  | 21 => ⟨S12x4096x64, .f32⟩
  | 22 => ⟨S12x4096x64, .f32⟩
  | 23 => ⟨S_, .f32⟩
  | 24 => ⟨S12x4096x64, .f32⟩
  | 25 => ⟨S12x4096x64, .f32⟩
  | 26 => ⟨S1x12x4096x64, .f32⟩
  | 27 => ⟨S_, .f32⟩
  | 28 => ⟨S3x12x4096x64, .f32⟩
  | 29 => ⟨S3x12x4096x64, .f32⟩
  | 30 => ⟨S4096x3x12x64, .f32⟩
  | 31 => ⟨S4096x2304, .f32⟩
  | 32 => ⟨S_, .f32⟩
  | 33 => ⟨S4096x5120, .f32⟩
  | 34 => ⟨S4096x5120, .f32⟩
  | 35 => ⟨S4096x5120, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_4 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_cst_7 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_8 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_9 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_13 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_cst_14 : Ref sig .tc := ⟨.hbm, 148, rfl⟩
abbrev main_v126 : Ref sig .tc := ⟨.hbm, 149, rfl⟩
abbrev main_v127 : Ref sig .tc := ⟨.hbm, 150, rfl⟩
abbrev main_cst_15 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_16 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_17 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩

abbrev nD : Nat := 1
abbrev τ : Topo := Topo.v7x

variable {F : FTy → Type} [FloatOps F]
-- ==== KSums.lean ====
abbrev S4096x5120 : Shape := ⟨2, ![4096, 5120]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x512 : Shape := ⟨2, ![4096, 512]⟩
abbrev S512x256 : Shape := ⟨2, ![512, 256]⟩
abbrev S512x512 : Shape := ⟨2, ![512, 512]⟩
abbrev S1x256 : Shape := ⟨2, ![1, 256]⟩
abbrev S512 : Shape := ⟨1, ![512]⟩
abbrev S512x1 : Shape := ⟨2, ![512, 1]⟩
abbrev S512x128 : Shape := ⟨2, ![512, 128]⟩

abbrev nBuf : Space → Nat
  | .hbm => 74
  | .vmem => 6
  | .smem => 0
  | _ => 0

abbrev bufTy : (tb : Table) → Fin (tcTables nBuf tb) → BufTy
  | .hbm, ⟨0, _⟩ => ⟨S4096x5120, .f32⟩
  | .hbm, ⟨1, _⟩ => ⟨S4096x256, .f32⟩
  | .hbm, ⟨2, _⟩ => ⟨S4096x256, .f32⟩
  | .hbm, ⟨3, _⟩ => ⟨S4096x4x64, .f32⟩
  | .hbm, ⟨4, _⟩ => ⟨S4x4096x64, .f32⟩
  | .hbm, ⟨5, _⟩ => ⟨S4096x256, .f32⟩
  | .hbm, ⟨6, _⟩ => ⟨S4096x4x64, .f32⟩
  | .hbm, ⟨7, _⟩ => ⟨S4x4096x64, .f32⟩
  | .hbm, ⟨8, _⟩ => ⟨S4096x256, .f32⟩
  | .hbm, ⟨9, _⟩ => ⟨S4096x4x64, .f32⟩
  | .hbm, ⟨10, _⟩ => ⟨S4x4096x64, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .i1⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S_, .f32⟩
  | .hbm, ⟨56, _⟩ => ⟨S4x4096x4096, .i1⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S_, .f32⟩
  | .hbm, ⟨61, _⟩ => ⟨S4x4096x4096, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S_, .f32⟩
  | .hbm, ⟨66, _⟩ => ⟨S_, .f32⟩
  | .hbm, ⟨67, _⟩ => ⟨S4x4096x4096, .i1⟩
  | .hbm, ⟨68, _⟩ => ⟨S4x4096x4096, .f32⟩
  | .hbm, ⟨69, _⟩ => ⟨S4x4096x4096, .f32⟩
  | .hbm, ⟨70, _⟩ => ⟨S4x4096x64, .f32⟩
  | .hbm, ⟨71, _⟩ => ⟨S4096x4x64, .f32⟩
  | .hbm, ⟨72, _⟩ => ⟨S4096x256, .f32⟩
  | .hbm, ⟨73, _⟩ => ⟨S4096x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v20 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v21 : Ref sig .tc := ⟨.hbm, 58, rfl⟩
abbrev main_call3_cst : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RSumsIdeal.lean ====
abbrev S4096x5120 : Shape := ⟨2, ![4096, 5120]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4 : Shape := ⟨2, ![4096, 4]⟩
abbrev S4096x4x1 : Shape := ⟨3, ![4096, 4, 1]⟩
abbrev S4096x4x128 : Shape := ⟨3, ![4096, 4, 128]⟩
abbrev S4096x512 : Shape := ⟨2, ![4096, 512]⟩

abbrev nBuf : Space → Nat
  | .hbm => 90
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x256, .f32⟩
  | .hbm, ⟨2, _⟩ => ⟨S4096x256, .f32⟩
  | .hbm, ⟨3, _⟩ => ⟨S4096x4x64, .f32⟩
  | .hbm, ⟨4, _⟩ => ⟨S4x4096x64, .f32⟩
  | .hbm, ⟨5, _⟩ => ⟨S4096x256, .f32⟩
  | .hbm, ⟨6, _⟩ => ⟨S4096x4x64, .f32⟩
  | .hbm, ⟨7, _⟩ => ⟨S4x4096x64, .f32⟩
  | .hbm, ⟨8, _⟩ => ⟨S4096x256, .f32⟩
  | .hbm, ⟨9, _⟩ => ⟨S4096x4x64, .f32⟩
  | .hbm, ⟨10, _⟩ => ⟨S4x4096x64, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .i1⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S_, .f32⟩
  | .hbm, ⟨56, _⟩ => ⟨S4x4096x4096, .i1⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S_, .f32⟩
  | .hbm, ⟨61, _⟩ => ⟨S4x4096x4096, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S_, .f32⟩
  | .hbm, ⟨66, _⟩ => ⟨S_, .f32⟩
  | .hbm, ⟨67, _⟩ => ⟨S4x4096x4096, .i1⟩
  | .hbm, ⟨68, _⟩ => ⟨S4x4096x4096, .f32⟩
  | .hbm, ⟨69, _⟩ => ⟨S4x4096x4096, .f32⟩
  | .hbm, ⟨70, _⟩ => ⟨S4x4096x64, .f32⟩
  | .hbm, ⟨71, _⟩ => ⟨S4096x4x64, .f32⟩
  | .hbm, ⟨72, _⟩ => ⟨S4096x256, .f32⟩
  | .hbm, ⟨73, _⟩ => ⟨S_, .f32⟩
  | .hbm, ⟨74, _⟩ => ⟨S4096x4, .f32⟩
  | .hbm, ⟨75, _⟩ => ⟨S4096x4x1, .f32⟩
  | .hbm, ⟨76, _⟩ => ⟨S4096x4x64, .f32⟩
  | .hbm, ⟨77, _⟩ => ⟨S4096x4x64, .f32⟩
  | .hbm, ⟨78, _⟩ => ⟨S4096x4x64, .f32⟩
  | .hbm, ⟨79, _⟩ => ⟨S4096x256, .f32⟩
  | .hbm, ⟨80, _⟩ => ⟨S4096x4x64, .f32⟩
  | .hbm, ⟨81, _⟩ => ⟨S4096x4x64, .f32⟩
  | .hbm, ⟨82, _⟩ => ⟨S_, .f32⟩
  | .hbm, ⟨83, _⟩ => ⟨S4096x4, .f32⟩
  | .hbm, ⟨84, _⟩ => ⟨S4096x4x1, .f32⟩
  | .hbm, ⟨85, _⟩ => ⟨S_, .f32⟩
  | .hbm, ⟨86, _⟩ => ⟨S4096x4, .f32⟩
  | .hbm, ⟨87, _⟩ => ⟨S4096x4x1, .f32⟩
  | .hbm, ⟨88, _⟩ => ⟨S4096x4x128, .f32⟩
  | .hbm, ⟨89, _⟩ => ⟨S4096x512, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v20 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v21 : Ref sig .tc := ⟨.hbm, 58, rfl⟩
abbrev main_call3_cst : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_3 : Ref sig .tc := ⟨.hbm, 82, rfl⟩
abbrev main_v38 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩

abbrev nD : Nat := 1
abbrev τ : Topo := Topo.v7x

variable {F : FTy → Type} [FloatOps F]
-- ==== KDprep.lean ====
abbrev S4096x5120 : Shape := ⟨2, ![4096, 5120]⟩
abbrev S4096x256 : Shape := ⟨2, ![4096, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x2304 : Shape := ⟨2, ![4096, 2304]⟩
abbrev S4096x3x12x64 : Shape := ⟨4, ![4096, 3, 12, 64]⟩
abbrev S3x12x4096x64 : Shape := ⟨4, ![3, 12, 4096, 64]⟩
abbrev S1x12x4096x64 : Shape := ⟨4, ![1, 12, 4096, 64]⟩
abbrev S12x4096x64 : Shape := ⟨3, ![12, 4096, 64]⟩
abbrev S12x4096x8 : Shape := ⟨3, ![12, 4096, 8]⟩
abbrev S1x4096x8 : Shape := ⟨3, ![1, 4096, 8]⟩
abbrev S12x4096x48 : Shape := ⟨3, ![12, 4096, 48]⟩
abbrev S4x4096x64 : Shape := ⟨3, ![4, 4096, 64]⟩
abbrev S4x4096x1x64 : Shape := ⟨4, ![4, 4096, 1, 64]⟩
abbrev S4x1x4096x64 : Shape := ⟨4, ![4, 1, 4096, 64]⟩
abbrev S4x1x32x128x64 : Shape := ⟨5, ![4, 1, 32, 128, 64]⟩
abbrev S4x1x33x128x64 : Shape := ⟨5, ![4, 1, 33, 128, 64]⟩
abbrev S4x1x32x256x64 : Shape := ⟨5, ![4, 1, 32, 256, 64]⟩
abbrev S4x1x32x128x256 : Shape := ⟨5, ![4, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S4x1x32x128 : Shape := ⟨4, ![4, 1, 32, 128]⟩
abbrev S4x1x32x128x1 : Shape := ⟨5, ![4, 1, 32, 128, 1]⟩
abbrev S4x1x4096 : Shape := ⟨3, ![4, 1, 4096]⟩
abbrev S4x4096x1 : Shape := ⟨3, ![4, 4096, 1]⟩
abbrev S4x4096 : Shape := ⟨2, ![4, 4096]⟩
abbrev S4x1024x4x64 : Shape := ⟨4, ![4, 1024, 4, 64]⟩
abbrev S4x4x1024x64 : Shape := ⟨4, ![4, 4, 1024, 64]⟩
abbrev S4x4x8x128x64 : Shape := ⟨5, ![4, 4, 8, 128, 64]⟩
abbrev S4x4x9x128x64 : Shape := ⟨5, ![4, 4, 9, 128, 64]⟩
abbrev S4x4x8x256x64 : Shape := ⟨5, ![4, 4, 8, 256, 64]⟩
abbrev S4x4x8x128x256 : Shape := ⟨5, ![4, 4, 8, 128, 256]⟩
abbrev S8x1x1 : Shape := ⟨3, ![8, 1, 1]⟩
abbrev S8x1x256 : Shape := ⟨3, ![8, 1, 256]⟩
abbrev S8x128x256 : Shape := ⟨3, ![8, 128, 256]⟩
abbrev S4x4x8x128 : Shape := ⟨4, ![4, 4, 8, 128]⟩
abbrev S4x4x8x128x1 : Shape := ⟨5, ![4, 4, 8, 128, 1]⟩
abbrev S4x4x1024 : Shape := ⟨3, ![4, 4, 1024]⟩
abbrev S4x1024x4 : Shape := ⟨3, ![4, 1024, 4]⟩
abbrev S4x256x16x64 : Shape := ⟨4, ![4, 256, 16, 64]⟩
abbrev S4x16x256x64 : Shape := ⟨4, ![4, 16, 256, 64]⟩
abbrev S4x16x2x128x64 : Shape := ⟨5, ![4, 16, 2, 128, 64]⟩
abbrev S4x16x3x128x64 : Shape := ⟨5, ![4, 16, 3, 128, 64]⟩
abbrev S4x16x2x256x64 : Shape := ⟨5, ![4, 16, 2, 256, 64]⟩
abbrev S4x16x2x128x256 : Shape := ⟨5, ![4, 16, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S4x16x2x128 : Shape := ⟨4, ![4, 16, 2, 128]⟩
abbrev S4x16x2x128x1 : Shape := ⟨5, ![4, 16, 2, 128, 1]⟩
abbrev S4x16x256 : Shape := ⟨3, ![4, 16, 256]⟩
abbrev S4x256x16 : Shape := ⟨3, ![4, 256, 16]⟩
abbrev S4096x4x64 : Shape := ⟨3, ![4096, 4, 64]⟩
abbrev S4096x4 : Shape := ⟨2, ![4096, 4]⟩
abbrev S4096x4x1 : Shape := ⟨3, ![4096, 4, 1]⟩
abbrev S4096x4x128 : Shape := ⟨3, ![4096, 4, 128]⟩
abbrev S4096x512 : Shape := ⟨2, ![4096, 512]⟩
abbrev S4x1024x256 : Shape := ⟨3, ![4, 1024, 256]⟩
abbrev S16x256x256 : Shape := ⟨3, ![16, 256, 256]⟩
abbrev S4x1024x512 : Shape := ⟨3, ![4, 1024, 512]⟩
abbrev S16x256x512 : Shape := ⟨3, ![16, 256, 512]⟩
abbrev S512x256 : Shape := ⟨2, ![512, 256]⟩
abbrev S512x512 : Shape := ⟨2, ![512, 512]⟩
abbrev S4x128x256 : Shape := ⟨3, ![4, 128, 256]⟩
abbrev S16x32x256 : Shape := ⟨3, ![16, 32, 256]⟩
abbrev S4x128x512 : Shape := ⟨3, ![4, 128, 512]⟩
abbrev S16x32x512 : Shape := ⟨3, ![16, 32, 512]⟩
abbrev S4x512x128 : Shape := ⟨3, ![4, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 366
  | .vmem => 21
  | .smem => 0
  | _ => 0

abbrev hbmTy0_0 (i : Nat) : BufTy := match i % 128 with
  | 0 => ⟨S4096x5120, .f32⟩
  | 1 => ⟨S4096x256, .f32⟩
  | 2 => ⟨S4096, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096x1, .f32⟩
  | 18 => ⟨S1x8, .f32⟩
  | 19 => ⟨S4096x8, .f32⟩
  | 20 => ⟨S4096x8, .f32⟩
  | 21 => ⟨S4096x8, .f32⟩
  | 22 => ⟨S4096x8, .f32⟩
  | 23 => ⟨S4096x8, .f32⟩
  | 24 => ⟨S4096x2304, .f32⟩
  | 25 => ⟨S4096x3x12x64, .f32⟩
  | 26 => ⟨S3x12x4096x64, .f32⟩
  | 27 => ⟨S1x12x4096x64, .f32⟩
  | 28 => ⟨S12x4096x64, .f32⟩
  | 29 => ⟨S12x4096x8, .f32⟩
  | 30 => ⟨S12x4096x8, .f32⟩
  | 31 => ⟨S1x4096x8, .f32⟩
  | 32 => ⟨S12x4096x8, .f32⟩
  | 33 => ⟨S12x4096x8, .f32⟩
  | 34 => ⟨S1x4096x8, .f32⟩
  | 35 => ⟨S12x4096x8, .f32⟩
  | 36 => ⟨S12x4096x8, .f32⟩
  | 37 => ⟨S12x4096x8, .f32⟩
  | 38 => ⟨S1x4096x8, .f32⟩
  | 39 => ⟨S12x4096x8, .f32⟩
  | 40 => ⟨S12x4096x8, .f32⟩
  | 41 => ⟨S1x4096x8, .f32⟩
  | 42 => ⟨S12x4096x8, .f32⟩
  | 43 => ⟨S12x4096x8, .f32⟩
  | 44 => ⟨S12x4096x8, .f32⟩
  | 45 => ⟨S12x4096x48, .f32⟩
  | 46 => ⟨S12x4096x64, .f32⟩
  | 47 => ⟨S1x12x4096x64, .f32⟩
  | 48 => ⟨S12x4096x64, .f32⟩
  | 49 => ⟨S12x4096x8, .f32⟩
  | 50 => ⟨S12x4096x8, .f32⟩
  | 51 => ⟨S1x4096x8, .f32⟩
  | 52 => ⟨S12x4096x8, .f32⟩
  | 53 => ⟨S12x4096x8, .f32⟩
  | 54 => ⟨S1x4096x8, .f32⟩
  | 55 => ⟨S12x4096x8, .f32⟩
  | 56 => ⟨S12x4096x8, .f32⟩
  | 57 => ⟨S12x4096x8, .f32⟩
  | 58 => ⟨S1x4096x8, .f32⟩
  | 59 => ⟨S12x4096x8, .f32⟩
  | 60 => ⟨S12x4096x8, .f32⟩
  | 61 => ⟨S1x4096x8, .f32⟩
  | 62 => ⟨S12x4096x8, .f32⟩
  | 63 => ⟨S12x4096x8, .f32⟩
  | 64 => ⟨S12x4096x8, .f32⟩
  | 65 => ⟨S12x4096x48, .f32⟩
  | 66 => ⟨S12x4096x64, .f32⟩
  | 67 => ⟨S1x12x4096x64, .f32⟩
  | 68 => ⟨S12x4096x64, .f32⟩
  | 69 => ⟨S4x4096x64, .f32⟩
  | 70 => ⟨S4x4096x64, .f32⟩
  | 71 => ⟨S4x4096x64, .f32⟩
  | 72 => ⟨S4x4096x1x64, .f32⟩
  | 73 => ⟨S4x1x4096x64, .f32⟩
  | 74 => ⟨S4x1x32x128x64, .f32⟩
  | 75 => ⟨S4x4096x1x64, .f32⟩
  | 76 => ⟨S4x1x4096x64, .f32⟩
  | 77 => ⟨S4x1x32x128x64, .f32⟩
  | 78 => ⟨S_, .i32⟩
  | 79 => ⟨S_, .f32⟩
  | 80 => ⟨S4x1x33x128x64, .f32⟩
  | 81 => ⟨S4x1x32x128x64, .f32⟩
  | 82 => ⟨S4x1x32x256x64, .f32⟩
  | 83 => ⟨S4x4096x1x64, .f32⟩
  | 84 => ⟨S4x1x4096x64, .f32⟩
  | 85 => ⟨S4x1x32x128x64, .f32⟩
  | 86 => ⟨S_, .i32⟩
  | 87 => ⟨S_, .f32⟩
  | 88 => ⟨S4x1x33x128x64, .f32⟩
  | 89 => ⟨S4x1x32x128x64, .f32⟩
  | 90 => ⟨S4x1x32x256x64, .f32⟩
  | 91 => ⟨S4x1x32x128x256, .f32⟩
  | 92 => ⟨S_, .f32⟩
  | 93 => ⟨S4x1x32x128x256, .f32⟩
  | 94 => ⟨S4x1x32x128x256, .f32⟩
  | 95 => ⟨S128, .i32⟩
  | 96 => ⟨S128x1, .i32⟩
  | 97 => ⟨S256, .i32⟩
  | 98 => ⟨S1x256, .i32⟩
  | 99 => ⟨S_, .i32⟩
  | 100 => ⟨S128x1, .i32⟩
  | 101 => ⟨S128x1, .i32⟩
  | 102 => ⟨S128x256, .i32⟩
  | 103 => ⟨S128x256, .i32⟩
  | 104 => ⟨S128x256, .i32⟩
  | 105 => ⟨S_, .i32⟩
  | 106 => ⟨S128x256, .i32⟩
  | 107 => ⟨S128x256, .i1⟩
  | 108 => ⟨S_, .i32⟩
  | 109 => ⟨S128x256, .i32⟩
  | 110 => ⟨S128x256, .i1⟩
  | 111 => ⟨S128x256, .i1⟩
  | 112 => ⟨S32, .i32⟩
  | 113 => ⟨S32x1x1, .i32⟩
  | 114 => ⟨S1x128x256, .i1⟩
  | 115 => ⟨S_, .i32⟩
  | 116 => ⟨S32x1x1, .i32⟩
  | 117 => ⟨S32x1x1, .i1⟩
  | 118 => ⟨S_, .i32⟩
  | 119 => ⟨S1x256, .i32⟩
  | 120 => ⟨S1x256, .i1⟩
  | 121 => ⟨S1x1x256, .i1⟩
  | 122 => ⟨S32x1x256, .i1⟩
  | 123 => ⟨S32x1x256, .i1⟩
  | 124 => ⟨S32x1x256, .i1⟩
  | 125 => ⟨S32x128x256, .i1⟩
  | 126 => ⟨S32x128x256, .i1⟩
  | 127 => ⟨S32x128x256, .i1⟩
  | _ => ⟨S4096x5120, .f32⟩

abbrev hbmTy0_1 (i : Nat) : BufTy := match i % 128 with
  | 0 => ⟨S_, .f32⟩
  | 1 => ⟨S_, .f32⟩
  | 2 => ⟨S4x1x32x128x256, .i1⟩
  | 3 => ⟨S4x1x32x128x256, .f32⟩
  | 4 => ⟨S4x1x32x128x256, .f32⟩
  | 5 => ⟨S_, .f32⟩
  | 6 => ⟨S4x1x32x128, .f32⟩
  | 7 => ⟨S4x1x32x128x1, .f32⟩
  | 8 => ⟨S4x1x32x128x256, .f32⟩
  | 9 => ⟨S4x1x32x128x256, .f32⟩
  | 10 => ⟨S4x1x32x128x256, .f32⟩
  | 11 => ⟨S_, .f32⟩
  | 12 => ⟨S4x1x32x128, .f32⟩
  | 13 => ⟨S4x1x32x128x1, .f32⟩
  | 14 => ⟨S4x1x32x128x64, .f32⟩
  | 15 => ⟨S4x1x32x128x64, .f32⟩
  | 16 => ⟨S4x1x32x128x64, .f32⟩
  | 17 => ⟨S4x1x32x128x1, .f32⟩
  | 18 => ⟨S4x1x32x128x1, .f32⟩
  | 19 => ⟨S4x1x32x128, .f32⟩
  | 20 => ⟨S4x1x4096x64, .f32⟩
  | 21 => ⟨S4x4096x1x64, .f32⟩
  | 22 => ⟨S4x4096x64, .f32⟩
  | 23 => ⟨S4x1x4096, .f32⟩
  | 24 => ⟨S4x4096x1, .f32⟩
  | 25 => ⟨S4x4096, .f32⟩
  | 26 => ⟨S4x4096x64, .f32⟩
  | 27 => ⟨S4x4096x64, .f32⟩
  | 28 => ⟨S4x4096x64, .f32⟩
  | 29 => ⟨S4x1024x4x64, .f32⟩
  | 30 => ⟨S4x4x1024x64, .f32⟩
  | 31 => ⟨S4x4x8x128x64, .f32⟩
  | 32 => ⟨S4x1024x4x64, .f32⟩
  | 33 => ⟨S4x4x1024x64, .f32⟩
  | 34 => ⟨S4x4x8x128x64, .f32⟩
  | 35 => ⟨S_, .i32⟩
  | 36 => ⟨S_, .f32⟩
  | 37 => ⟨S4x4x9x128x64, .f32⟩
  | 38 => ⟨S4x4x8x128x64, .f32⟩
  | 39 => ⟨S4x4x8x256x64, .f32⟩
  | 40 => ⟨S4x1024x4x64, .f32⟩
  | 41 => ⟨S4x4x1024x64, .f32⟩
  | 42 => ⟨S4x4x8x128x64, .f32⟩
  | 43 => ⟨S_, .i32⟩
  | 44 => ⟨S_, .f32⟩
  | 45 => ⟨S4x4x9x128x64, .f32⟩
  | 46 => ⟨S4x4x8x128x64, .f32⟩
  | 47 => ⟨S4x4x8x256x64, .f32⟩
  | 48 => ⟨S4x4x8x128x256, .f32⟩
  | 49 => ⟨S_, .f32⟩
  | 50 => ⟨S4x4x8x128x256, .f32⟩
  | 51 => ⟨S4x4x8x128x256, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i1⟩
  | 68 => ⟨S128x256, .i1⟩
  | 69 => ⟨S8, .i32⟩
  | 70 => ⟨S8x1x1, .i32⟩
  | 71 => ⟨S1x128x256, .i1⟩
  | 72 => ⟨S_, .i32⟩
  | 73 => ⟨S8x1x1, .i32⟩
  | 74 => ⟨S8x1x1, .i1⟩
  | 75 => ⟨S_, .i32⟩
  | 76 => ⟨S1x256, .i32⟩
  | 77 => ⟨S1x256, .i1⟩
  | 78 => ⟨S1x1x256, .i1⟩
  | 79 => ⟨S8x1x256, .i1⟩
  | 80 => ⟨S8x1x256, .i1⟩
  | 81 => ⟨S8x1x256, .i1⟩
  | 82 => ⟨S8x128x256, .i1⟩
  | 83 => ⟨S8x128x256, .i1⟩
  | 84 => ⟨S8x128x256, .i1⟩
  | 85 => ⟨S_, .f32⟩
  | 86 => ⟨S_, .f32⟩
  | 87 => ⟨S4x4x8x128x256, .i1⟩
  | 88 => ⟨S4x4x8x128x256, .f32⟩
  | 89 => ⟨S4x4x8x128x256, .f32⟩
  | 90 => ⟨S_, .f32⟩
  | 91 => ⟨S4x4x8x128, .f32⟩
  | 92 => ⟨S4x4x8x128x1, .f32⟩
  | 93 => ⟨S4x4x8x128x256, .f32⟩
  | 94 => ⟨S4x4x8x128x256, .f32⟩
  | 95 => ⟨S4x4x8x128x256, .f32⟩
  | 96 => ⟨S_, .f32⟩
  | 97 => ⟨S4x4x8x128, .f32⟩
  | 98 => ⟨S4x4x8x128x1, .f32⟩
  | 99 => ⟨S4x4x8x128x64, .f32⟩
  | 100 => ⟨S4x4x8x128x64, .f32⟩
  | 101 => ⟨S4x4x8x128x64, .f32⟩
  | 102 => ⟨S4x4x8x128x1, .f32⟩
  | 103 => ⟨S4x4x8x128x1, .f32⟩
  | 104 => ⟨S4x4x8x128, .f32⟩
  | 105 => ⟨S4x4x1024x64, .f32⟩
  | 106 => ⟨S4x1024x4x64, .f32⟩
  | 107 => ⟨S4x4096x64, .f32⟩
  | 108 => ⟨S4x4x1024, .f32⟩
  | 109 => ⟨S4x1024x4, .f32⟩
  | 110 => ⟨S4x4096, .f32⟩
  | 111 => ⟨S4x4096x64, .f32⟩
  | 112 => ⟨S4x4096x64, .f32⟩
  | 113 => ⟨S4x4096x64, .f32⟩
  | 114 => ⟨S4x256x16x64, .f32⟩
  | 115 => ⟨S4x16x256x64, .f32⟩
  | 116 => ⟨S4x16x2x128x64, .f32⟩
  | 117 => ⟨S4x256x16x64, .f32⟩
  | 118 => ⟨S4x16x256x64, .f32⟩
  | 119 => ⟨S4x16x2x128x64, .f32⟩
  | 120 => ⟨S_, .i32⟩
  | 121 => ⟨S_, .f32⟩
  | 122 => ⟨S4x16x3x128x64, .f32⟩
  | 123 => ⟨S4x16x2x128x64, .f32⟩
  | 124 => ⟨S4x16x2x256x64, .f32⟩
  | 125 => ⟨S4x256x16x64, .f32⟩
  | 126 => ⟨S4x16x256x64, .f32⟩
  | 127 => ⟨S4x16x2x128x64, .f32⟩
  | _ => ⟨S4096x5120, .f32⟩

abbrev hbmTy0_2 (i : Nat) : BufTy := match i % 128 with
  | 0 => ⟨S_, .i32⟩
  | 1 => ⟨S_, .f32⟩
  | 2 => ⟨S4x16x3x128x64, .f32⟩
  | 3 => ⟨S4x16x2x128x64, .f32⟩
  | 4 => ⟨S4x16x2x256x64, .f32⟩
  | 5 => ⟨S4x16x2x128x256, .f32⟩
  | 6 => ⟨S_, .f32⟩
  | 7 => ⟨S4x16x2x128x256, .f32⟩
  | 8 => ⟨S4x16x2x128x256, .f32⟩
  | 9 => ⟨S128, .i32⟩
  | 10 => ⟨S128x1, .i32⟩
  | 11 => ⟨S256, .i32⟩
  | 12 => ⟨S1x256, .i32⟩
  | 13 => ⟨S_, .i32⟩
  | 14 => ⟨S128x1, .i32⟩
  | 15 => ⟨S128x1, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i1⟩
  | 25 => ⟨S128x256, .i1⟩
  | 26 => ⟨S2, .i32⟩
  | 27 => ⟨S2x1x1, .i32⟩
  | 28 => ⟨S1x128x256, .i1⟩
  | 29 => ⟨S_, .i32⟩
  | 30 => ⟨S2x1x1, .i32⟩
  | 31 => ⟨S2x1x1, .i1⟩
  | 32 => ⟨S_, .i32⟩
  | 33 => ⟨S1x256, .i32⟩
  | 34 => ⟨S1x256, .i1⟩
  | 35 => ⟨S1x1x256, .i1⟩
  | 36 => ⟨S2x1x256, .i1⟩
  | 37 => ⟨S2x1x256, .i1⟩
  | 38 => ⟨S2x1x256, .i1⟩
  | 39 => ⟨S2x128x256, .i1⟩
  | 40 => ⟨S2x128x256, .i1⟩
  | 41 => ⟨S2x128x256, .i1⟩
  | 42 => ⟨S_, .f32⟩
  | 43 => ⟨S_, .f32⟩
  | 44 => ⟨S4x16x2x128x256, .i1⟩
  | 45 => ⟨S4x16x2x128x256, .f32⟩
  | 46 => ⟨S4x16x2x128x256, .f32⟩
  | 47 => ⟨S_, .f32⟩
  | 48 => ⟨S4x16x2x128, .f32⟩
  | 49 => ⟨S4x16x2x128x1, .f32⟩
  | 50 => ⟨S4x16x2x128x256, .f32⟩
  | 51 => ⟨S4x16x2x128x256, .f32⟩
  | 52 => ⟨S4x16x2x128x256, .f32⟩
  | 53 => ⟨S_, .f32⟩
  | 54 => ⟨S4x16x2x128, .f32⟩
  | 55 => ⟨S4x16x2x128x1, .f32⟩
  | 56 => ⟨S4x16x2x128x64, .f32⟩
  | 57 => ⟨S4x16x2x128x64, .f32⟩
  | 58 => ⟨S4x16x2x128x64, .f32⟩
  | 59 => ⟨S4x16x2x128x1, .f32⟩
  | 60 => ⟨S4x16x2x128x1, .f32⟩
  | 61 => ⟨S4x16x2x128, .f32⟩
  | 62 => ⟨S4x16x256x64, .f32⟩
  | 63 => ⟨S4x256x16x64, .f32⟩
  | 64 => ⟨S4x4096x64, .f32⟩
  | 65 => ⟨S4x16x256, .f32⟩
  | 66 => ⟨S4x256x16, .f32⟩
  | 67 => ⟨S4x4096, .f32⟩
  | 68 => ⟨S4x4096, .f32⟩
  | 69 => ⟨S4x4096, .f32⟩
  | 70 => ⟨S4x4096, .f32⟩
  | 71 => ⟨S4x4096, .f32⟩
  | 72 => ⟨S4x4096, .f32⟩
  | 73 => ⟨S4x4096, .f32⟩
  | 74 => ⟨S4x4096, .f32⟩
  | 75 => ⟨S4x4096, .f32⟩
  | 76 => ⟨S4x4096, .f32⟩
  | 77 => ⟨S4x4096, .f32⟩
  | 78 => ⟨S4x4096, .f32⟩
  | 79 => ⟨S4x4096x1, .f32⟩
  | 80 => ⟨S4x4096x64, .f32⟩
  | 81 => ⟨S4x4096x64, .f32⟩
  | 82 => ⟨S_, .f32⟩
  | 83 => ⟨S4x4096x64, .f32⟩
  | 84 => ⟨S4x4096x64, .f32⟩
  | 85 => ⟨S4x4096, .f32⟩
  | 86 => ⟨S4x4096x1, .f32⟩
  | 87 => ⟨S4x4096x64, .f32⟩
  | 88 => ⟨S4x4096x64, .f32⟩
  | 89 => ⟨S4x4096x64, .f32⟩
  | 90 => ⟨S4x4096, .f32⟩
  | 91 => ⟨S4x4096x1, .f32⟩
  | 92 => ⟨S4x4096x64, .f32⟩
  | 93 => ⟨S4x4096x64, .f32⟩
  | 94 => ⟨S4x4096x64, .f32⟩
  | 95 => ⟨S4096x4x64, .f32⟩
  | 96 => ⟨S4096x256, .f32⟩
  | 97 => ⟨S4x4096, .f32⟩
  | 98 => ⟨S4x4096, .f32⟩
  | 99 => ⟨S4096x4, .f32⟩
  | 100 => ⟨S4096x4x1, .f32⟩
  | 101 => ⟨S4096x4x128, .f32⟩
  | 102 => ⟨S4096x512, .f32⟩
  | 103 => ⟨S4096x512, .f32⟩
  | 104 => ⟨S4x1024x256, .bf16⟩
  | 105 => ⟨S16x256x256, .bf16⟩
  | 106 => ⟨S4x1024x512, .f32⟩
  | 107 => ⟨S16x256x512, .f32⟩
  | 108 => ⟨S4x1024x512, .f32⟩
  | 109 => ⟨S16x256x512, .f32⟩
  | _ => ⟨S4096x5120, .f32⟩

abbrev hbmTy (i : Nat) : BufTy := match i / 128 with
  | 0 => hbmTy0_0 i
  | 1 => hbmTy0_1 i
  | 2 => hbmTy0_2 i
  | _ => ⟨S4096x5120, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x128x256, .bf16⟩
  | .local _ .vmem, ⟨9, _⟩ => ⟨S4x128x256, .bf16⟩
  | .local _ .vmem, ⟨10, _⟩ => ⟨S16x32x256, .bf16⟩
  | .local _ .vmem, ⟨11, _⟩ => ⟨S16x32x256, .bf16⟩
  | .local _ .vmem, ⟨12, _⟩ => ⟨S4x128x512, .f32⟩
  | .local _ .vmem, ⟨13, _⟩ => ⟨S4x128x512, .f32⟩
  | .local _ .vmem, ⟨14, _⟩ => ⟨S16x32x512, .f32⟩
  | .local _ .vmem, ⟨15, _⟩ => ⟨S16x32x512, .f32⟩
  | .local _ .vmem, ⟨16, _⟩ => ⟨S4x128x512, .f32⟩
  | .local _ .vmem, ⟨17, _⟩ => ⟨S4x128x512, .f32⟩
  | .local _ .vmem, ⟨18, _⟩ => ⟨S16x32x512, .f32⟩
  | .local _ .vmem, ⟨19, _⟩ => ⟨S16x32x512, .f32⟩
  | .local _ .vmem, ⟨20, _⟩ => ⟨S4x512x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_c : Ref sig .tc := ⟨.hbm, 78, rfl⟩
abbrev main_call0_v0 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_c_3 : Ref sig .tc := ⟨.hbm, 86, rfl⟩
abbrev main_call1_v0 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_4 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_c_5 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_c_6 : Ref sig .tc := ⟨.hbm, 105, rfl⟩
abbrev main_v93 : Ref sig .tc := ⟨.hbm, 106, rfl⟩
abbrev main_v94 : Ref sig .tc := ⟨.hbm, 107, rfl⟩
abbrev main_c_7 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_c_8 : Ref sig .tc := ⟨.hbm, 115, rfl⟩
abbrev main_v101 : Ref sig .tc := ⟨.hbm, 116, rfl⟩
abbrev main_v102 : Ref sig .tc := ⟨.hbm, 117, rfl⟩
abbrev main_c_9 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_12 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_c_13 : Ref sig .tc := ⟨.hbm, 163, rfl⟩
abbrev main_call3_v0 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_c_14 : Ref sig .tc := ⟨.hbm, 171, rfl⟩
abbrev main_call4_v0 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_cst_15 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_c_16 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_c_17 : Ref sig .tc := ⟨.hbm, 190, rfl⟩
abbrev main_v162 : Ref sig .tc := ⟨.hbm, 191, rfl⟩
abbrev main_v163 : Ref sig .tc := ⟨.hbm, 192, rfl⟩
abbrev main_c_18 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_c_19 : Ref sig .tc := ⟨.hbm, 200, rfl⟩
abbrev main_v170 : Ref sig .tc := ⟨.hbm, 201, rfl⟩
abbrev main_v171 : Ref sig .tc := ⟨.hbm, 202, rfl⟩
abbrev main_c_20 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_21 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v181 : Ref sig .tc := ⟨.hbm, 217, rfl⟩
abbrev main_cst_22 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_23 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_c_24 : Ref sig .tc := ⟨.hbm, 248, rfl⟩
abbrev main_call6_v0 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_c_25 : Ref sig .tc := ⟨.hbm, 256, rfl⟩
abbrev main_call7_v0 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_cst_26 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_c_27 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_c_28 : Ref sig .tc := ⟨.hbm, 275, rfl⟩
abbrev main_v231 : Ref sig .tc := ⟨.hbm, 276, rfl⟩
abbrev main_v232 : Ref sig .tc := ⟨.hbm, 277, rfl⟩
abbrev main_c_29 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_c_30 : Ref sig .tc := ⟨.hbm, 285, rfl⟩
abbrev main_v239 : Ref sig .tc := ⟨.hbm, 286, rfl⟩
abbrev main_v240 : Ref sig .tc := ⟨.hbm, 287, rfl⟩
abbrev main_c_31 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_cst_32 : Ref sig .tc := ⟨.hbm, 298, rfl⟩
abbrev main_call8_v0 : Ref sig .tc := ⟨.hbm, 299, rfl⟩
abbrev main_call8_v1 : Ref sig .tc := ⟨.hbm, 300, rfl⟩
abbrev main_call8_v2 : Ref sig .tc := ⟨.hbm, 301, rfl⟩
abbrev main_v250 : Ref sig .tc := ⟨.hbm, 302, rfl⟩
abbrev main_cst_33 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_cst_34 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_cst_35 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304_0 : Ref sig .tc := ⟨.hbm, 359, rfl⟩
abbrev main_v304_1 : Ref sig .tc := ⟨.hbm, 360, rfl⟩
abbrev main_v304_2 : Ref sig .tc := ⟨.hbm, 361, rfl⟩
abbrev main_v304_3 : Ref sig .tc := ⟨.hbm, 362, rfl⟩
abbrev main_v304_4 : Ref sig .tc := ⟨.hbm, 363, rfl⟩
abbrev main_v304_5 : Ref sig .tc := ⟨.hbm, 364, rfl⟩
abbrev main_v304_6 : Ref sig .tc := ⟨.hbm, 365, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RDprepIdeal.lean ====
abbrev S4096x5120 : Shape := ⟨2, ![4096, 5120]⟩
abbrev S4096x256 : Shape := ⟨2, ![4096, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x2304 : Shape := ⟨2, ![4096, 2304]⟩
abbrev S4096x3x12x64 : Shape := ⟨4, ![4096, 3, 12, 64]⟩
abbrev S3x12x4096x64 : Shape := ⟨4, ![3, 12, 4096, 64]⟩
abbrev S1x12x4096x64 : Shape := ⟨4, ![1, 12, 4096, 64]⟩
abbrev S12x4096x64 : Shape := ⟨3, ![12, 4096, 64]⟩
abbrev S12x4096x8 : Shape := ⟨3, ![12, 4096, 8]⟩
abbrev S1x4096x8 : Shape := ⟨3, ![1, 4096, 8]⟩
abbrev S12x4096x48 : Shape := ⟨3, ![12, 4096, 48]⟩
abbrev S4x4096x64 : Shape := ⟨3, ![4, 4096, 64]⟩
abbrev S4x4096x1x64 : Shape := ⟨4, ![4, 4096, 1, 64]⟩
abbrev S4x1x4096x64 : Shape := ⟨4, ![4, 1, 4096, 64]⟩
abbrev S4x1x32x128x64 : Shape := ⟨5, ![4, 1, 32, 128, 64]⟩
abbrev S4x1x33x128x64 : Shape := ⟨5, ![4, 1, 33, 128, 64]⟩
abbrev S4x1x32x256x64 : Shape := ⟨5, ![4, 1, 32, 256, 64]⟩
abbrev S4x1x32x128x256 : Shape := ⟨5, ![4, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S4x1x32x128 : Shape := ⟨4, ![4, 1, 32, 128]⟩
abbrev S4x1x32x128x1 : Shape := ⟨5, ![4, 1, 32, 128, 1]⟩
abbrev S4x1x4096 : Shape := ⟨3, ![4, 1, 4096]⟩
abbrev S4x4096x1 : Shape := ⟨3, ![4, 4096, 1]⟩
abbrev S4x4096 : Shape := ⟨2, ![4, 4096]⟩
abbrev S4x1024x4x64 : Shape := ⟨4, ![4, 1024, 4, 64]⟩
abbrev S4x4x1024x64 : Shape := ⟨4, ![4, 4, 1024, 64]⟩
abbrev S4x4x8x128x64 : Shape := ⟨5, ![4, 4, 8, 128, 64]⟩
abbrev S4x4x9x128x64 : Shape := ⟨5, ![4, 4, 9, 128, 64]⟩
abbrev S4x4x8x256x64 : Shape := ⟨5, ![4, 4, 8, 256, 64]⟩
abbrev S4x4x8x128x256 : Shape := ⟨5, ![4, 4, 8, 128, 256]⟩
abbrev S8x1x1 : Shape := ⟨3, ![8, 1, 1]⟩
abbrev S8x1x256 : Shape := ⟨3, ![8, 1, 256]⟩
abbrev S8x128x256 : Shape := ⟨3, ![8, 128, 256]⟩
abbrev S4x4x8x128 : Shape := ⟨4, ![4, 4, 8, 128]⟩
abbrev S4x4x8x128x1 : Shape := ⟨5, ![4, 4, 8, 128, 1]⟩
abbrev S4x4x1024 : Shape := ⟨3, ![4, 4, 1024]⟩
abbrev S4x1024x4 : Shape := ⟨3, ![4, 1024, 4]⟩
abbrev S4x256x16x64 : Shape := ⟨4, ![4, 256, 16, 64]⟩
abbrev S4x16x256x64 : Shape := ⟨4, ![4, 16, 256, 64]⟩
abbrev S4x16x2x128x64 : Shape := ⟨5, ![4, 16, 2, 128, 64]⟩
abbrev S4x16x3x128x64 : Shape := ⟨5, ![4, 16, 3, 128, 64]⟩
abbrev S4x16x2x256x64 : Shape := ⟨5, ![4, 16, 2, 256, 64]⟩
abbrev S4x16x2x128x256 : Shape := ⟨5, ![4, 16, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S4x16x2x128 : Shape := ⟨4, ![4, 16, 2, 128]⟩
abbrev S4x16x2x128x1 : Shape := ⟨5, ![4, 16, 2, 128, 1]⟩
abbrev S4x16x256 : Shape := ⟨3, ![4, 16, 256]⟩
abbrev S4x256x16 : Shape := ⟨3, ![4, 256, 16]⟩
abbrev S4096x4x64 : Shape := ⟨3, ![4096, 4, 64]⟩
abbrev S4096x4 : Shape := ⟨2, ![4096, 4]⟩
abbrev S4096x4x1 : Shape := ⟨3, ![4096, 4, 1]⟩
abbrev S4096x4x128 : Shape := ⟨3, ![4096, 4, 128]⟩
abbrev S4096x512 : Shape := ⟨2, ![4096, 512]⟩
abbrev S1024x4x256 : Shape := ⟨3, ![1024, 4, 256]⟩
abbrev S4x1024x256 : Shape := ⟨3, ![4, 1024, 256]⟩
abbrev S256x16x256 : Shape := ⟨3, ![256, 16, 256]⟩
abbrev S16x256x256 : Shape := ⟨3, ![16, 256, 256]⟩
abbrev S1024x4x512 : Shape := ⟨3, ![1024, 4, 512]⟩
abbrev S4x1024x512 : Shape := ⟨3, ![4, 1024, 512]⟩
abbrev S256x16x512 : Shape := ⟨3, ![256, 16, 512]⟩
abbrev S16x256x512 : Shape := ⟨3, ![16, 256, 512]⟩

abbrev nBuf : Space → Nat
  | .hbm => 389
  | .vmem => 0
  | .smem => 0
  | _ => 0

abbrev hbmTy0_0 (i : Nat) : BufTy := match i % 128 with
  | 0 => ⟨S4096x5120, .f32⟩
  | 1 => ⟨S4096x256, .f32⟩
  | 2 => ⟨S4096, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096x1, .f32⟩
  | 18 => ⟨S1x8, .f32⟩
  | 19 => ⟨S4096x8, .f32⟩
  | 20 => ⟨S4096x8, .f32⟩
  | 21 => ⟨S4096x8, .f32⟩
  | 22 => ⟨S4096x8, .f32⟩
  | 23 => ⟨S4096x8, .f32⟩
  | 24 => ⟨S4096x2304, .f32⟩
  | 25 => ⟨S4096x3x12x64, .f32⟩
  | 26 => ⟨S3x12x4096x64, .f32⟩
  | 27 => ⟨S1x12x4096x64, .f32⟩
  | 28 => ⟨S12x4096x64, .f32⟩
  | 29 => ⟨S12x4096x8, .f32⟩
  | 30 => ⟨S12x4096x8, .f32⟩
  | 31 => ⟨S1x4096x8, .f32⟩
  | 32 => ⟨S12x4096x8, .f32⟩
  | 33 => ⟨S12x4096x8, .f32⟩
  | 34 => ⟨S1x4096x8, .f32⟩
  | 35 => ⟨S12x4096x8, .f32⟩
  | 36 => ⟨S12x4096x8, .f32⟩
  | 37 => ⟨S12x4096x8, .f32⟩
  | 38 => ⟨S1x4096x8, .f32⟩
  | 39 => ⟨S12x4096x8, .f32⟩
  | 40 => ⟨S12x4096x8, .f32⟩
  | 41 => ⟨S1x4096x8, .f32⟩
  | 42 => ⟨S12x4096x8, .f32⟩
  | 43 => ⟨S12x4096x8, .f32⟩
  | 44 => ⟨S12x4096x8, .f32⟩
  | 45 => ⟨S12x4096x48, .f32⟩
  | 46 => ⟨S12x4096x64, .f32⟩
  | 47 => ⟨S1x12x4096x64, .f32⟩
  | 48 => ⟨S12x4096x64, .f32⟩
  | 49 => ⟨S12x4096x8, .f32⟩
  | 50 => ⟨S12x4096x8, .f32⟩
  | 51 => ⟨S1x4096x8, .f32⟩
  | 52 => ⟨S12x4096x8, .f32⟩
  | 53 => ⟨S12x4096x8, .f32⟩
  | 54 => ⟨S1x4096x8, .f32⟩
  | 55 => ⟨S12x4096x8, .f32⟩
  | 56 => ⟨S12x4096x8, .f32⟩
  | 57 => ⟨S12x4096x8, .f32⟩
  | 58 => ⟨S1x4096x8, .f32⟩
  | 59 => ⟨S12x4096x8, .f32⟩
  | 60 => ⟨S12x4096x8, .f32⟩
  | 61 => ⟨S1x4096x8, .f32⟩
  | 62 => ⟨S12x4096x8, .f32⟩
  | 63 => ⟨S12x4096x8, .f32⟩
  | 64 => ⟨S12x4096x8, .f32⟩
  | 65 => ⟨S12x4096x48, .f32⟩
  | 66 => ⟨S12x4096x64, .f32⟩
  | 67 => ⟨S1x12x4096x64, .f32⟩
  | 68 => ⟨S12x4096x64, .f32⟩
  | 69 => ⟨S4x4096x64, .f32⟩
  | 70 => ⟨S4x4096x64, .f32⟩
  | 71 => ⟨S4x4096x64, .f32⟩
  | 72 => ⟨S4x4096x1x64, .f32⟩
  | 73 => ⟨S4x1x4096x64, .f32⟩
  | 74 => ⟨S4x1x32x128x64, .f32⟩
  | 75 => ⟨S4x4096x1x64, .f32⟩
  | 76 => ⟨S4x1x4096x64, .f32⟩
  | 77 => ⟨S4x1x32x128x64, .f32⟩
  | 78 => ⟨S_, .i32⟩
  | 79 => ⟨S_, .f32⟩
  | 80 => ⟨S4x1x33x128x64, .f32⟩
  | 81 => ⟨S4x1x32x128x64, .f32⟩
  | 82 => ⟨S4x1x32x256x64, .f32⟩
  | 83 => ⟨S4x4096x1x64, .f32⟩
  | 84 => ⟨S4x1x4096x64, .f32⟩
  | 85 => ⟨S4x1x32x128x64, .f32⟩
  | 86 => ⟨S_, .i32⟩
  | 87 => ⟨S_, .f32⟩
  | 88 => ⟨S4x1x33x128x64, .f32⟩
  | 89 => ⟨S4x1x32x128x64, .f32⟩
  | 90 => ⟨S4x1x32x256x64, .f32⟩
  | 91 => ⟨S4x1x32x128x256, .f32⟩
  | 92 => ⟨S_, .f32⟩
  | 93 => ⟨S4x1x32x128x256, .f32⟩
  | 94 => ⟨S4x1x32x128x256, .f32⟩
  | 95 => ⟨S128, .i32⟩
  | 96 => ⟨S128x1, .i32⟩
  | 97 => ⟨S256, .i32⟩
  | 98 => ⟨S1x256, .i32⟩
  | 99 => ⟨S_, .i32⟩
  | 100 => ⟨S128x1, .i32⟩
  | 101 => ⟨S128x1, .i32⟩
  | 102 => ⟨S128x256, .i32⟩
  | 103 => ⟨S128x256, .i32⟩
  | 104 => ⟨S128x256, .i32⟩
  | 105 => ⟨S_, .i32⟩
  | 106 => ⟨S128x256, .i32⟩
  | 107 => ⟨S128x256, .i1⟩
  | 108 => ⟨S_, .i32⟩
  | 109 => ⟨S128x256, .i32⟩
  | 110 => ⟨S128x256, .i1⟩
  | 111 => ⟨S128x256, .i1⟩
  | 112 => ⟨S32, .i32⟩
  | 113 => ⟨S32x1x1, .i32⟩
  | 114 => ⟨S1x128x256, .i1⟩
  | 115 => ⟨S_, .i32⟩
  | 116 => ⟨S32x1x1, .i32⟩
  | 117 => ⟨S32x1x1, .i1⟩
  | 118 => ⟨S_, .i32⟩
  | 119 => ⟨S1x256, .i32⟩
  | 120 => ⟨S1x256, .i1⟩
  | 121 => ⟨S1x1x256, .i1⟩
  | 122 => ⟨S32x1x256, .i1⟩
  | 123 => ⟨S32x1x256, .i1⟩
  | 124 => ⟨S32x1x256, .i1⟩
  | 125 => ⟨S32x128x256, .i1⟩
  | 126 => ⟨S32x128x256, .i1⟩
  | 127 => ⟨S32x128x256, .i1⟩
  | _ => ⟨S4096x5120, .f32⟩

abbrev hbmTy0_1 (i : Nat) : BufTy := match i % 128 with
  | 0 => ⟨S_, .f32⟩
  | 1 => ⟨S_, .f32⟩
  | 2 => ⟨S4x1x32x128x256, .i1⟩
  | 3 => ⟨S4x1x32x128x256, .f32⟩
  | 4 => ⟨S4x1x32x128x256, .f32⟩
  | 5 => ⟨S_, .f32⟩
  | 6 => ⟨S4x1x32x128, .f32⟩
  | 7 => ⟨S4x1x32x128x1, .f32⟩
  | 8 => ⟨S4x1x32x128x256, .f32⟩
  | 9 => ⟨S4x1x32x128x256, .f32⟩
  | 10 => ⟨S4x1x32x128x256, .f32⟩
  | 11 => ⟨S_, .f32⟩
  | 12 => ⟨S4x1x32x128, .f32⟩
  | 13 => ⟨S4x1x32x128x1, .f32⟩
  | 14 => ⟨S4x1x32x128x64, .f32⟩
  | 15 => ⟨S4x1x32x128x64, .f32⟩
  | 16 => ⟨S4x1x32x128x64, .f32⟩
  | 17 => ⟨S4x1x32x128x1, .f32⟩
  | 18 => ⟨S4x1x32x128x1, .f32⟩
  | 19 => ⟨S4x1x32x128, .f32⟩
  | 20 => ⟨S4x1x4096x64, .f32⟩
  | 21 => ⟨S4x4096x1x64, .f32⟩
  | 22 => ⟨S4x4096x64, .f32⟩
  | 23 => ⟨S4x1x4096, .f32⟩
  | 24 => ⟨S4x4096x1, .f32⟩
  | 25 => ⟨S4x4096, .f32⟩
  | 26 => ⟨S4x4096x64, .f32⟩
  | 27 => ⟨S4x4096x64, .f32⟩
  | 28 => ⟨S4x4096x64, .f32⟩
  | 29 => ⟨S4x1024x4x64, .f32⟩
  | 30 => ⟨S4x4x1024x64, .f32⟩
  | 31 => ⟨S4x4x8x128x64, .f32⟩
  | 32 => ⟨S4x1024x4x64, .f32⟩
  | 33 => ⟨S4x4x1024x64, .f32⟩
  | 34 => ⟨S4x4x8x128x64, .f32⟩
  | 35 => ⟨S_, .i32⟩
  | 36 => ⟨S_, .f32⟩
  | 37 => ⟨S4x4x9x128x64, .f32⟩
  | 38 => ⟨S4x4x8x128x64, .f32⟩
  | 39 => ⟨S4x4x8x256x64, .f32⟩
  | 40 => ⟨S4x1024x4x64, .f32⟩
  | 41 => ⟨S4x4x1024x64, .f32⟩
  | 42 => ⟨S4x4x8x128x64, .f32⟩
  | 43 => ⟨S_, .i32⟩
  | 44 => ⟨S_, .f32⟩
  | 45 => ⟨S4x4x9x128x64, .f32⟩
  | 46 => ⟨S4x4x8x128x64, .f32⟩
  | 47 => ⟨S4x4x8x256x64, .f32⟩
  | 48 => ⟨S4x4x8x128x256, .f32⟩
  | 49 => ⟨S_, .f32⟩
  | 50 => ⟨S4x4x8x128x256, .f32⟩
  | 51 => ⟨S4x4x8x128x256, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i1⟩
  | 68 => ⟨S128x256, .i1⟩
  | 69 => ⟨S8, .i32⟩
  | 70 => ⟨S8x1x1, .i32⟩
  | 71 => ⟨S1x128x256, .i1⟩
  | 72 => ⟨S_, .i32⟩
  | 73 => ⟨S8x1x1, .i32⟩
  | 74 => ⟨S8x1x1, .i1⟩
  | 75 => ⟨S_, .i32⟩
  | 76 => ⟨S1x256, .i32⟩
  | 77 => ⟨S1x256, .i1⟩
  | 78 => ⟨S1x1x256, .i1⟩
  | 79 => ⟨S8x1x256, .i1⟩
  | 80 => ⟨S8x1x256, .i1⟩
  | 81 => ⟨S8x1x256, .i1⟩
  | 82 => ⟨S8x128x256, .i1⟩
  | 83 => ⟨S8x128x256, .i1⟩
  | 84 => ⟨S8x128x256, .i1⟩
  | 85 => ⟨S_, .f32⟩
  | 86 => ⟨S_, .f32⟩
  | 87 => ⟨S4x4x8x128x256, .i1⟩
  | 88 => ⟨S4x4x8x128x256, .f32⟩
  | 89 => ⟨S4x4x8x128x256, .f32⟩
  | 90 => ⟨S_, .f32⟩
  | 91 => ⟨S4x4x8x128, .f32⟩
  | 92 => ⟨S4x4x8x128x1, .f32⟩
  | 93 => ⟨S4x4x8x128x256, .f32⟩
  | 94 => ⟨S4x4x8x128x256, .f32⟩
  | 95 => ⟨S4x4x8x128x256, .f32⟩
  | 96 => ⟨S_, .f32⟩
  | 97 => ⟨S4x4x8x128, .f32⟩
  | 98 => ⟨S4x4x8x128x1, .f32⟩
  | 99 => ⟨S4x4x8x128x64, .f32⟩
  | 100 => ⟨S4x4x8x128x64, .f32⟩
  | 101 => ⟨S4x4x8x128x64, .f32⟩
  | 102 => ⟨S4x4x8x128x1, .f32⟩
  | 103 => ⟨S4x4x8x128x1, .f32⟩
  | 104 => ⟨S4x4x8x128, .f32⟩
  | 105 => ⟨S4x4x1024x64, .f32⟩
  | 106 => ⟨S4x1024x4x64, .f32⟩
  | 107 => ⟨S4x4096x64, .f32⟩
  | 108 => ⟨S4x4x1024, .f32⟩
  | 109 => ⟨S4x1024x4, .f32⟩
  | 110 => ⟨S4x4096, .f32⟩
  | 111 => ⟨S4x4096x64, .f32⟩
  | 112 => ⟨S4x4096x64, .f32⟩
  | 113 => ⟨S4x4096x64, .f32⟩
  | 114 => ⟨S4x256x16x64, .f32⟩
  | 115 => ⟨S4x16x256x64, .f32⟩
  | 116 => ⟨S4x16x2x128x64, .f32⟩
  | 117 => ⟨S4x256x16x64, .f32⟩
  | 118 => ⟨S4x16x256x64, .f32⟩
  | 119 => ⟨S4x16x2x128x64, .f32⟩
  | 120 => ⟨S_, .i32⟩
  | 121 => ⟨S_, .f32⟩
  | 122 => ⟨S4x16x3x128x64, .f32⟩
  | 123 => ⟨S4x16x2x128x64, .f32⟩
  | 124 => ⟨S4x16x2x256x64, .f32⟩
  | 125 => ⟨S4x256x16x64, .f32⟩
  | 126 => ⟨S4x16x256x64, .f32⟩
  | 127 => ⟨S4x16x2x128x64, .f32⟩
  | _ => ⟨S4096x5120, .f32⟩

abbrev hbmTy0_2 (i : Nat) : BufTy := match i % 128 with
  | 0 => ⟨S_, .i32⟩
  | 1 => ⟨S_, .f32⟩
  | 2 => ⟨S4x16x3x128x64, .f32⟩
  | 3 => ⟨S4x16x2x128x64, .f32⟩
  | 4 => ⟨S4x16x2x256x64, .f32⟩
  | 5 => ⟨S4x16x2x128x256, .f32⟩
  | 6 => ⟨S_, .f32⟩
  | 7 => ⟨S4x16x2x128x256, .f32⟩
  | 8 => ⟨S4x16x2x128x256, .f32⟩
  | 9 => ⟨S128, .i32⟩
  | 10 => ⟨S128x1, .i32⟩
  | 11 => ⟨S256, .i32⟩
  | 12 => ⟨S1x256, .i32⟩
  | 13 => ⟨S_, .i32⟩
  | 14 => ⟨S128x1, .i32⟩
  | 15 => ⟨S128x1, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i1⟩
  | 25 => ⟨S128x256, .i1⟩
  | 26 => ⟨S2, .i32⟩
  | 27 => ⟨S2x1x1, .i32⟩
  | 28 => ⟨S1x128x256, .i1⟩
  | 29 => ⟨S_, .i32⟩
  | 30 => ⟨S2x1x1, .i32⟩
  | 31 => ⟨S2x1x1, .i1⟩
  | 32 => ⟨S_, .i32⟩
  | 33 => ⟨S1x256, .i32⟩
  | 34 => ⟨S1x256, .i1⟩
  | 35 => ⟨S1x1x256, .i1⟩
  | 36 => ⟨S2x1x256, .i1⟩
  | 37 => ⟨S2x1x256, .i1⟩
  | 38 => ⟨S2x1x256, .i1⟩
  | 39 => ⟨S2x128x256, .i1⟩
  | 40 => ⟨S2x128x256, .i1⟩
  | 41 => ⟨S2x128x256, .i1⟩
  | 42 => ⟨S_, .f32⟩
  | 43 => ⟨S_, .f32⟩
  | 44 => ⟨S4x16x2x128x256, .i1⟩
  | 45 => ⟨S4x16x2x128x256, .f32⟩
  | 46 => ⟨S4x16x2x128x256, .f32⟩
  | 47 => ⟨S_, .f32⟩
  | 48 => ⟨S4x16x2x128, .f32⟩
  | 49 => ⟨S4x16x2x128x1, .f32⟩
  | 50 => ⟨S4x16x2x128x256, .f32⟩
  | 51 => ⟨S4x16x2x128x256, .f32⟩
  | 52 => ⟨S4x16x2x128x256, .f32⟩
  | 53 => ⟨S_, .f32⟩
  | 54 => ⟨S4x16x2x128, .f32⟩
  | 55 => ⟨S4x16x2x128x1, .f32⟩
  | 56 => ⟨S4x16x2x128x64, .f32⟩
  | 57 => ⟨S4x16x2x128x64, .f32⟩
  | 58 => ⟨S4x16x2x128x64, .f32⟩
  | 59 => ⟨S4x16x2x128x1, .f32⟩
  | 60 => ⟨S4x16x2x128x1, .f32⟩
  | 61 => ⟨S4x16x2x128, .f32⟩
  | 62 => ⟨S4x16x256x64, .f32⟩
  | 63 => ⟨S4x256x16x64, .f32⟩
  | 64 => ⟨S4x4096x64, .f32⟩
  | 65 => ⟨S4x16x256, .f32⟩
  | 66 => ⟨S4x256x16, .f32⟩
  | 67 => ⟨S4x4096, .f32⟩
  | 68 => ⟨S4x4096, .f32⟩
  | 69 => ⟨S4x4096, .f32⟩
  | 70 => ⟨S4x4096, .f32⟩
  | 71 => ⟨S4x4096, .f32⟩
  | 72 => ⟨S4x4096, .f32⟩
  | 73 => ⟨S4x4096, .f32⟩
  | 74 => ⟨S4x4096, .f32⟩
  | 75 => ⟨S4x4096, .f32⟩
  | 76 => ⟨S4x4096, .f32⟩
  | 77 => ⟨S4x4096, .f32⟩
  | 78 => ⟨S4x4096, .f32⟩
  | 79 => ⟨S4x4096x1, .f32⟩
  | 80 => ⟨S4x4096x64, .f32⟩
  | 81 => ⟨S4x4096x64, .f32⟩
  | 82 => ⟨S_, .f32⟩
  | 83 => ⟨S4x4096x64, .f32⟩
  | 84 => ⟨S4x4096x64, .f32⟩
  | 85 => ⟨S4x4096, .f32⟩
  | 86 => ⟨S4x4096x1, .f32⟩
  | 87 => ⟨S4x4096x64, .f32⟩
  | 88 => ⟨S4x4096x64, .f32⟩
  | 89 => ⟨S4x4096x64, .f32⟩
  | 90 => ⟨S4x4096, .f32⟩
  | 91 => ⟨S4x4096x1, .f32⟩
  | 92 => ⟨S4x4096x64, .f32⟩
  | 93 => ⟨S4x4096x64, .f32⟩
  | 94 => ⟨S4x4096x64, .f32⟩
  | 95 => ⟨S4096x4x64, .f32⟩
  | 96 => ⟨S4096x256, .f32⟩
  | 97 => ⟨S4x4096, .f32⟩
  | 98 => ⟨S4x4096, .f32⟩
  | 99 => ⟨S4096x4, .f32⟩
  | 100 => ⟨S_, .f32⟩
  | 101 => ⟨S4096x4, .f32⟩
  | 102 => ⟨S4096x4x1, .f32⟩
  | 103 => ⟨S4096x4x64, .f32⟩
  | 104 => ⟨S4096x4x64, .f32⟩
  | 105 => ⟨S4096x4x64, .f32⟩
  | 106 => ⟨S4096x256, .f32⟩
  | 107 => ⟨S4096x4x64, .f32⟩
  | 108 => ⟨S4096x4x64, .f32⟩
  | 109 => ⟨S_, .f32⟩
  | 110 => ⟨S4096x4, .f32⟩
  | 111 => ⟨S4096x4x1, .f32⟩
  | 112 => ⟨S_, .f32⟩
  | 113 => ⟨S4096x4, .f32⟩
  | 114 => ⟨S4096x4x1, .f32⟩
  | 115 => ⟨S4096x4x128, .f32⟩
  | 116 => ⟨S4096x512, .f32⟩
  | 117 => ⟨S4096x256, .bf16⟩
  | 118 => ⟨S1024x4x256, .bf16⟩
  | 119 => ⟨S4x1024x256, .bf16⟩
  | 120 => ⟨S256x16x256, .bf16⟩
  | 121 => ⟨S16x256x256, .bf16⟩
  | 122 => ⟨S4096x4x1, .f32⟩
  | 123 => ⟨S4096x4x128, .f32⟩
  | 124 => ⟨S4096x512, .f32⟩
  | 125 => ⟨S1024x4x512, .f32⟩
  | 126 => ⟨S4x1024x512, .f32⟩
  | 127 => ⟨S256x16x512, .f32⟩
  | _ => ⟨S4096x5120, .f32⟩

abbrev hbmTy0_3 (i : Nat) : BufTy := match i % 128 with
  | 0 => ⟨S16x256x512, .f32⟩
  | 1 => ⟨S1024x4x512, .f32⟩
  | 2 => ⟨S4x1024x512, .f32⟩
  | 3 => ⟨S256x16x512, .f32⟩
  | 4 => ⟨S16x256x512, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_c : Ref sig .tc := ⟨.hbm, 78, rfl⟩
abbrev main_call0_v0 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_c_3 : Ref sig .tc := ⟨.hbm, 86, rfl⟩
abbrev main_call1_v0 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_4 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_c_5 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_c_6 : Ref sig .tc := ⟨.hbm, 105, rfl⟩
abbrev main_v93 : Ref sig .tc := ⟨.hbm, 106, rfl⟩
abbrev main_v94 : Ref sig .tc := ⟨.hbm, 107, rfl⟩
abbrev main_c_7 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_c_8 : Ref sig .tc := ⟨.hbm, 115, rfl⟩
abbrev main_v101 : Ref sig .tc := ⟨.hbm, 116, rfl⟩
abbrev main_v102 : Ref sig .tc := ⟨.hbm, 117, rfl⟩
abbrev main_c_9 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_12 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_c_13 : Ref sig .tc := ⟨.hbm, 163, rfl⟩
abbrev main_call3_v0 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_c_14 : Ref sig .tc := ⟨.hbm, 171, rfl⟩
abbrev main_call4_v0 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_cst_15 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_c_16 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_c_17 : Ref sig .tc := ⟨.hbm, 190, rfl⟩
abbrev main_v162 : Ref sig .tc := ⟨.hbm, 191, rfl⟩
abbrev main_v163 : Ref sig .tc := ⟨.hbm, 192, rfl⟩
abbrev main_c_18 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_c_19 : Ref sig .tc := ⟨.hbm, 200, rfl⟩
abbrev main_v170 : Ref sig .tc := ⟨.hbm, 201, rfl⟩
abbrev main_v171 : Ref sig .tc := ⟨.hbm, 202, rfl⟩
abbrev main_c_20 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_21 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v181 : Ref sig .tc := ⟨.hbm, 217, rfl⟩
abbrev main_cst_22 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_23 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_c_24 : Ref sig .tc := ⟨.hbm, 248, rfl⟩
abbrev main_call6_v0 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_c_25 : Ref sig .tc := ⟨.hbm, 256, rfl⟩
abbrev main_call7_v0 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_cst_26 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_c_27 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_c_28 : Ref sig .tc := ⟨.hbm, 275, rfl⟩
abbrev main_v231 : Ref sig .tc := ⟨.hbm, 276, rfl⟩
abbrev main_v232 : Ref sig .tc := ⟨.hbm, 277, rfl⟩
abbrev main_c_29 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_c_30 : Ref sig .tc := ⟨.hbm, 285, rfl⟩
abbrev main_v239 : Ref sig .tc := ⟨.hbm, 286, rfl⟩
abbrev main_v240 : Ref sig .tc := ⟨.hbm, 287, rfl⟩
abbrev main_c_31 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_cst_32 : Ref sig .tc := ⟨.hbm, 298, rfl⟩
abbrev main_call8_v0 : Ref sig .tc := ⟨.hbm, 299, rfl⟩
abbrev main_call8_v1 : Ref sig .tc := ⟨.hbm, 300, rfl⟩
abbrev main_call8_v2 : Ref sig .tc := ⟨.hbm, 301, rfl⟩
abbrev main_v250 : Ref sig .tc := ⟨.hbm, 302, rfl⟩
abbrev main_cst_33 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_cst_34 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_cst_35 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_cst_36 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_cst_37 : Ref sig .tc := ⟨.hbm, 365, rfl⟩
abbrev main_v309 : Ref sig .tc := ⟨.hbm, 366, rfl⟩
abbrev main_v310 : Ref sig .tc := ⟨.hbm, 367, rfl⟩
abbrev main_cst_38 : Ref sig .tc := ⟨.hbm, 368, rfl⟩
abbrev main_v311 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_v321 : Ref sig .tc := ⟨.hbm, 379, rfl⟩
abbrev main_v322 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩

abbrev nD : Nat := 1
abbrev τ : Topo := Topo.v7x

variable {F : FTy → Type} [FloatOps F]
-- ==== KRms.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RRmsIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ROutIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KDown.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .bf16⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RDownIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Regions.lean ====
/- What a program of several kernel regions leaves in memory. The generated frame of such a program cuts @main into segments
   (host stretches and regions) and follows the contents of every buffer from one boundary to the next; its claim keeps only
   the argument arrays of the last boundary. The theorem here keeps every buffer. -/
module

public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

noncomputable section

namespace Cert.RegionsRead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {nD : Nat} {τ : Topo} {sig : RefSig} {Λ₀ : Labels} {n : ℕ}

local notation "𝕄" => MT nD τ sig Unit (Elt F) ℕ (UR sig nD τ) ℕ

/-- The state a segment hands to the next: every unscoped buffer at the boundary's contents `W`, the generator register at
    some state, the core owing nothing. -/
abbrev heldAt (W : Dev nD → Valuation τ sig (Elt F)) (c : Dev nD) : sProp 𝕄 :=
  iprop(StableHlo.held (c : Thread nD τ) (Pipeline.ucRefs τ sig) (W c)
    ∗ (∃ r, prngReg c r) ∗ ∃ W', owes (c : Thread nD τ) (0 : CellTallies nD τ sig Unit) W')

/-- The state the last segment leaves beside the core owing nothing. -/
abbrev heldLast (W : Dev nD → Valuation τ sig (Elt F)) (c : Dev nD) : sProp 𝕄 :=
  iprop(StableHlo.held (c : Thread nD τ) (Pipeline.ucRefs τ sig) (W c) ∗ ∃ r, prngReg c r)

set_option backward.isDefEq.respectTransparency.types false in
/-- A program whose segments chain from the launch contents `W₀` to the contents `Wₙ` runs to its end, and every unscoped
    buffer of every core then holds what `Wₙ` says. -/
theorem run_last (pcs : Fin n → Pipeline.PCfg sig Λ₀ (Elt F)) (a : (p : Fin n) → (pcs p).Adm)
    (pdats : (p : Fin n) → (c : Dev nD) → Dat τ (Elt F) Unit ℕ (UR sig nD τ) ℕ (Pipeline.pin pcs a p) c)
    (inj : Function.Injective (cellOf (nD := nD) (τ := τ) (Pipeline.pin pcs a)))
    (defs₀ : Defs nD τ sig (Elt F) Λ₀) (m : (ℓ : Loc nD τ sig) → Buf (Elt F) ℓ) (ρ : Dev nD → PrngReg)
    (main : Dev nD → Prog (TpuEff nD τ sig (Elt F) (Pipeline.Sig Λ₀ (Fin n) fun p => (pcs p).Adm) .tc) PUnit)
    (segs : List (Pipeline.Seg pcs a pdats () defs₀ Variants.none (fun _ => ∅) fun _ _ => (0 : ℕ)))
    (hmain : ∀ c, main c = Pipeline.Seg.run segs) (hnd : (Pipeline.Seg.pipes segs).Nodup)
    (Wₙ : Dev nD → Valuation τ sig (Elt F))
    (hch : Pipeline.Seg.Chains (heldAt fun c b => m ((c : Dev nD), b)) segs
      fun c => iprop(heldLast Wₙ c ∗ ∃ W, owes (c : Thread nD τ) (0 : CellTallies nD τ sig Unit) W)) :
    θ_run (Pipeline.defs pcs defs₀) (onTc (τ := τ) main) ⟨m, fun _ => 0, ρ⟩
      (fun r => ∀ c : Dev nD, ∀ b ∈ Pipeline.ucRefs τ sig, r.2.mem ((c : Dev nD), b) = Wₙ c b) :=
  Pipeline.θ_run_regions_kit_sems pcs a pdats () inj emb₁ defs₀ Variants.none (fun _ => ∅) (fun _ _ => (0 : ℕ)) m ρ main segs
    (fun c Q => by rw [hmain c]) hnd (O₀ := 0) (hL := fun _ _ => rfl) (G := fun _ => iprop(emp))
    (u₀ := initOf (Pipeline.cells (Pipeline.pin pcs a) inj) (Pipeline.launchToks (Pipeline.pin pcs a) inj))
    (hu₀ := by
      iintro Hu; imodintro
      isplitl [Hu]
      · iapply (show (ownU (initOf (Pipeline.cells (Pipeline.pin pcs a) inj) (Pipeline.launchToks (Pipeline.pin pcs a) inj)) : sProp 𝕄)
            ⊢ BI.own (emb₁ (initOf (Pipeline.cells (Pipeline.pin pcs a) inj) (Pipeline.launchToks (Pipeline.pin pcs a) inj))) from .rfl)
        iexact Hu
      iapply (show (BI.emp : sProp 𝕄) ⊢ bigSep Finset.univ (fun _ : Dev nD => (BI.emp : sProp 𝕄)) from by rw [BI.bigSep_emp_const])
      iempintro)
    (T₀ := heldAt fun c b => m ((c : Dev nD), b)) (Tₙ := heldLast Wₙ) (hch := hch)
    (hinit := by
      refine Pipeline.initEach (fun _ => ∅) (fun _ _ => (0 : ℕ)) fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (c, b) = Wₙ c b)
    (hfin := fun c s' => by
      iintro ⟨⟨Hh, -⟩, HSI⟩
      unfold StableHlo.held
      imodintro
      iapply (pointsTo_read_all (Pipeline.ucRefs τ sig) (fun b => (((c : Thread nD τ)).1, b)) (Wₙ c) s')
      isplitl [Hh] <;> iassumption)
    (hQ := fun s h _ => h)

end Cert.RegionsRead

end
-- ==== Proof.Reals.lean ====
module

public import Idealize.ShloMosaic.Lib.Pointwise
public import Idealize.ShloMosaic.Lib.ReduceAll
public import Idealize.ShloMosaic.PureOps.Ideal.Laws
public import Idealize.ShloMosaic.Lib.IdealHost

@[expose] public section

set_option maxRecDepth 16384

noncomputable section

/- The extended reals as every certificate here uses them: which values are finite, that finite values stay
   finite under sums and products, that a positive real factor goes through a sum, and what a few words denote. -/
namespace Cert.Reals

open Idealize.ShloMosaic
open scoped BigOperators

/-- A value that is neither of the two infinities. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.neg {x : EReal} : IsReal x → IsReal (-x) := fun ⟨a, ha⟩ => ⟨-a, by rw [ha, EReal.coe_neg]⟩
theorem IsReal.sub {x y : EReal} : IsReal x → IsReal y → IsReal (x - y) := fun ⟨a, ha⟩ ⟨b, hb⟩ => ⟨a - b, by rw [ha, hb, EReal.coe_sub]⟩

/-- A finite sum of finite values is finite. -/
theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The sum of the real values of a family. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes through a sum, whatever the terms are. -/
theorem mul_sum_of_nonneg {ι : Type*} (s : Finset ι) (f : ι → EReal) {r : ℝ} (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The f32 word of one half. -/
theorem half_f32 : Ideal.ofBits .f32 0x3F000000#32 = ((1 / 2 : ℝ) : EReal) := by
  simp [Ideal.ofBits, Ideal.ieee, -EReal.coe_mul]; norm_num

/-- The f32 word of the positive infinity. -/
theorem inf_f32 : Ideal.ofBits .f32 0x7F800000#32 = ⊤ := by simp [Ideal.ofBits, Ideal.ieee]

/-- A value whose magnitude compares below infinity is finite. -/
theorem isReal_of_abs_lt {x : EReal} (h : max x (-x) < ⊤) : IsReal x := by
  induction x using EReal.rec with
  | bot => simp at h
  | top => simp at h
  | coe r => exact ⟨r, rfl⟩

/-- The logistic function, as both programs spell it out. -/
def sg (x : EReal) : EReal := Ideal.div 1 (1 + Ideal.exp (-x))

theorem sg_top : sg ⊤ = 1 := by simp [sg, Ideal.div]
theorem sg_bot : sg ⊥ = 0 := by
  have h : (1 : EReal) + ⊤ = ⊤ := EReal.coe_add_top 1
  simp [sg, Ideal.div, h]
theorem sg_coe (r : ℝ) : sg (r : EReal) = (((1 + Real.exp (-r))⁻¹ : ℝ) : EReal) := by
  have h : (1 + Real.exp (-r)) ≠ 0 := by positivity
  rw [sg, ← EReal.coe_neg, Ideal.exp_coe, ← EReal.coe_one, ← EReal.coe_add, Ideal.div_coe h, ← EReal.coe_mul, one_mul, one_div]

/-- Row `i` of `x` against row `j` of `y`: an entry of `x yᵀ`. -/
def dotT {M N K : ℕ} (x : (⟨2, ![M, K]⟩ : Shape).Idx → EReal) (y : (⟨2, ![N, K]⟩ : Shape).Idx → EReal) (i : Fin M) (j : Fin N) : EReal :=
  ∑ k : Fin K, x (ix2 i k) * y (ix2 j k)

/-- An entry of `x yᵀ` depends on the two rows alone, wherever they stand. -/
theorem dotT_congr {M N M' N' K : ℕ} {x : (⟨2, ![M, K]⟩ : Shape).Idx → EReal} {y : (⟨2, ![N, K]⟩ : Shape).Idx → EReal}
    {x' : (⟨2, ![M', K]⟩ : Shape).Idx → EReal} {y' : (⟨2, ![N', K]⟩ : Shape).Idx → EReal} {i : Fin M} {j : Fin N} {i' : Fin M'} {j' : Fin N'}
    (hx : ∀ k, x (ix2 i k) = x' (ix2 i' k)) (hy : ∀ k, y (ix2 j k) = y' (ix2 j' k)) : dotT x y i j = dotT x' y' i' j' := by
  simp only [dotT, hx, hy]

/-- An entry of the product `x y`. -/
def dot {M N K : ℕ} (x : (⟨2, ![M, K]⟩ : Shape).Idx → EReal) (y : (⟨2, ![K, N]⟩ : Shape).Idx → EReal) (i : Fin M) (j : Fin N) : EReal :=
  ∑ k : Fin K, x (ix2 i k) * y (ix2 k j)

/-- `x yᵀ` is a plain product of any matrix whose columns are the rows of `y`. -/
theorem dotT_eq_dot {M N M' N' K : ℕ} {x : (⟨2, ![M, K]⟩ : Shape).Idx → EReal} {y : (⟨2, ![N, K]⟩ : Shape).Idx → EReal}
    {x' : (⟨2, ![M', K]⟩ : Shape).Idx → EReal} {y' : (⟨2, ![K, N']⟩ : Shape).Idx → EReal} {i : Fin M} {j : Fin N} {i' : Fin M'} {j' : Fin N'}
    (hx : ∀ k, x (ix2 i k) = x' (ix2 i' k)) (hy : ∀ k, y (ix2 j k) = y' (ix2 k j')) : dotT x y i j = dot x' y' i' j' := by
  simp only [dotT, dot, hx, hy]

/-- An entry of a product of finite matrices is finite. -/
theorem IsReal.dotT {M N K : ℕ} {x : (⟨2, ![M, K]⟩ : Shape).Idx → EReal} {y : (⟨2, ![N, K]⟩ : Shape).Idx → EReal}
    (hx : ∀ i, IsReal (x i)) (hy : ∀ i, IsReal (y i)) (i : Fin M) (j : Fin N) : IsReal (dotT x y i j) :=
  IsReal.sum _ fun _ _ => (hx _).mul (hy _)
theorem IsReal.dot {M N K : ℕ} {x : (⟨2, ![M, K]⟩ : Shape).Idx → EReal} {y : (⟨2, ![K, N]⟩ : Shape).Idx → EReal}
    (hx : ∀ i, IsReal (x i)) (hy : ∀ i, IsReal (y i)) (i : Fin M) (j : Fin N) : IsReal (dot x y i j) :=
  IsReal.sum _ fun _ _ => (hx _).mul (hy _)

/-- Two matrices of one width side by side. -/
def halves {M n : ℕ} (A B : Fin M → Fin n → EReal) (i : Fin M) (k : Fin (2 * n)) : EReal :=
  if h : k.val < n then A i ⟨k.val, h⟩ else B i ⟨k.val - n, by omega⟩

theorem halves_left {M n : ℕ} (A B : Fin M → Fin n → EReal) (i : Fin M) (x : Fin n) {k : Fin (2 * n)} (h : k.val = x.val) : halves A B i k = A i x := by
  rw [halves, dif_pos (by omega)]; congr 1; exact Fin.ext h
theorem halves_right {M n : ℕ} (A B : Fin M → Fin n → EReal) (i : Fin M) (x : Fin n) {k : Fin (2 * n)} (h : k.val = n + x.val) : halves A B i k = B i x := by
  rw [halves, dif_neg (by omega)]; congr 1; exact Fin.ext (by simp [h])

theorem halves_congr {M M' n : ℕ} {A B : Fin M → Fin n → EReal} {A' B' : Fin M' → Fin n → EReal} {i : Fin M} {i' : Fin M'} {k : Fin (2 * n)}
    (hA : ∀ x, A i x = A' i' x) (hB : ∀ x, B i x = B' i' x) : halves A B i k = halves A' B' i' k := by simp only [halves, hA, hB]

instance : Subsingleton (⟨0, ![]⟩ : Shape).Idx := ⟨fun a b => funext fun i => i.elim0⟩

/-- `jnp.all(abs(x) < jnp.inf)` says that every entry of `x` is finite. -/
theorem isReal_of_all {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : IsReal (x i) := by
  have e := Host.reduce_andi_all _ _ hr hu j h i
  pointwise [] at e
  rw [inf_f32] at e
  refine isReal_of_abs_lt ?_
  have e' : BitVec.ofBool (decide (max (x i) (-x i) < ⊤)) = 1#1 := e
  by_contra hn
  rw [decide_eq_false hn] at e'
  exact absurd e' (by decide)

end Cert.Reals

end
-- ==== Proof.GateKernel.lean ====
module

public import proofs.«01_k».proof.Proof.Gen.KGateIdeal.Frame
public import proofs.«01_k».proof.Proof.Regions
public import Idealize.ShloMosaic.Lib.Pipeline.ValueKit
public import proofs.«01_k».proof.Proof.Reals

@[expose] public section

set_option maxRecDepth 16384

noncomputable section

/- The gates and their gradient: what the program's two calls leave in their results, as functions of its arguments. -/
namespace Cert.GateKernel

open Idealize.ShloMosaic Idealize.ShloMosaic.TcCoe Idealize.SL.Sem
open Idealize.ShloMosaic.Pipeline (Dat)
open Cert.Reals Cert.KGateIdeal Cert.KGateIdeal.Gen

variable (V : (c : Dev nD) → (b : Ref sig .tc) → Buf (Elt Ideal) ((c : Thread nD τ).loc b))

/-- Where the blocks of the first call's windows stand. -/
theorem at0 : ∀ t : Fin cfg0.N, win0_0.index t = ![t.val, 0] ∧ win0_1.index t = ![t.val, 0] ∧ win0_2.index t = ![0, 0] ∧ win0_3.index t = ![0, 0]
    ∧ win0_4.index t = ![t.val, 3] ∧ win0_5.index t = ![t.val, 4] ∧ win0_6.index t = ![t.val, 0] ∧ win0_7.index t = ![t.val, 0] ∧ win0_8.index t = ![t.val, 0] :=
  (by decide +kernel : ∀ t : Fin grid0.N, _)
theorem at1 : ∀ t : Fin cfg1.N, win1_0.index t = ![t.val, 0] ∧ win1_1.index t = ![0, 0] ∧ win1_2.index t = ![t.val, 0] ∧ win1_3.index t = ![t.val, 0]
    ∧ win1_4.index t = ![t.val, 3] ∧ win1_5.index t = ![t.val, 4] ∧ win1_6.index t = ![t.val, 0] ∧ win1_7.index t = ![t.val, 0] ∧ win1_8.index t = ![t.val, 0] :=
  (by decide +kernel : ∀ t : Fin grid1.N, _)

theorem k0_y (x0 x1 : Vec Ideal S1024x256 .f32) (x2 x3 : Vec Ideal S1024x256 .bf16) (x4 x5 : Vec Ideal S1024x1024 .bf16) (j : S1024x1024.Idx) :
    k0_pay5 x0 x2 x1 x3 x4 x5 j = sg (x4 j) * dotT x0 x2 (j 0) (j 1) + sg (x5 j) * dotT x1 x3 (j 0) (j 1) := by
  pointwise! [k0_pay5, k0_pay4, k0_pay3, zero_sub]
theorem k0_u1 (x0 : Vec Ideal S1024x256 .f32) (x2 : Vec Ideal S1024x256 .bf16) (j : S1024x1024.Idx) :
    k0_pay1 (k0_pay3 x0 x2) j = dotT x0 x2 (j 0) (j 1) := by
  pointwise! [k0_pay1, k0_pay3]
theorem k0_u2 (x0 : Vec Ideal S1024x256 .f32) (x2 : Vec Ideal S1024x256 .bf16) (j : S1024x1024.Idx) :
    k0_pay2 (k0_pay4 x0 x2) j = dotT x0 x2 (j 0) (j 1) := by
  pointwise! [k0_pay2, k0_pay4]
theorem k1_du1 (x0 : Vec Ideal S512x1024 .bf16) (x1 : Vec Ideal S1024x1024 .bf16) (x4 : Vec Ideal S512x1024 .bf16) (j : S512x1024.Idx) :
    k1_pay6 x0 x1 x4 j = dotT x0 x1 (j 0) (j 1) * sg (x4 j) := by
  pointwise! [k1_pay6, k1_pay3, k1_pay4, zero_sub]
theorem k1_du2 (x0 : Vec Ideal S512x1024 .bf16) (x1 : Vec Ideal S1024x1024 .bf16) (x4 : Vec Ideal S512x1024 .bf16) (j : S512x1024.Idx) :
    k1_pay7 x0 x1 x4 j = dotT x0 x1 (j 0) (j 1) * sg (x4 j) := by
  pointwise! [k1_pay7, k1_pay3, k1_pay5, zero_sub]

/-- A column of the gates' columns within the whole projection. -/
abbrev col (b : ℕ) (x : Fin 1024) (hb : b ≤ 4096 := by decide) : Fin 5120 := ⟨b + x.val, by omega⟩

/-- The entries: the gated sum, a gated cotangent, a gate's gradient. -/
def gated (g1 u1 g2 u2 : EReal) : EReal := sg g1 * u1 + sg g2 * u2
def through (d g : EReal) : EReal := d * sg g
def gateTerm (d u g : EReal) : EReal := d * u * sg g * (1 - sg g)
theorem gated_congr {a b c d a' b' c' d' : EReal} (ha : a = a') (hb : b = b') (hc : c = c') (hd : d = d') : gated a b c d = gated a' b' c' d' := by
  rw [ha, hb, hc, hd]
theorem through_congr {a b a' b' : EReal} (ha : a = a') (hb : b = b') : through a b = through a' b' := by rw [ha, hb]
theorem gateTerm_congr {a b c a' b' c' : EReal} (ha : a = a') (hb : b = b') (hc : c = c') : gateTerm a b c = gateTerm a' b' c' := by rw [ha, hb, hc]

set_option maxHeartbeats 1000000 in
/-- The first call's three results. -/
theorem final0_6 (c : Dev nD) : (dat0 V c).arrAt 6 cfg0.N = fun i => gated (V c main_v4 (ix2 (i 0) (col 3072 (i 1)))) (dotT (V c main_arg0) (V c main_v1) (i 0) (i 1)) (V c main_v4 (ix2 (i 0) (col 4096 (i 1)))) (dotT (V c main_arg1) (V c main_v3) (i 0) (i 1)) := by
  refine (dat0 V c).arrAt_eq_of_covers 6 _ (by decide +kernel) fun t hf y => ?_
  have ⟨e0, e1, e2, e3, e4, e5, e6, e7, e8⟩ := at0 t
  blk_simp
  rw [after0_6]; frame_out
  rw [k0_y, ← gated]
  refine gated_congr ?_ (dotT_congr ?_ ?_) ?_ (dotT_congr ?_ ?_) <;> (try intro k) <;> blk_simp [iblk0] <;> refine congrArg _ ?_ <;> blk_ext [e0, e1, e2, e3, e4, e5, e6, e7, e8]
  all_goals blk_simp [e6]

theorem final0_7 (c : Dev nD) : (dat0 V c).arrAt 7 cfg0.N = fun i => dotT (V c main_arg0) (V c main_v1) (i 0) (i 1) := by
  refine (dat0 V c).arrAt_eq_of_covers 7 _ (by decide +kernel) fun t hf y => ?_
  have ⟨e0, e1, e2, e3, e4, e5, e6, e7, e8⟩ := at0 t
  blk_simp
  rw [after0_7]; frame_out
  rw [k0_u1]
  refine (dotT_congr ?_ ?_) <;> (try intro k) <;> blk_simp [iblk0] <;> refine congrArg _ ?_ <;> blk_ext [e0, e1, e2, e3, e4, e5, e6, e7, e8]

theorem final0_8 (c : Dev nD) : (dat0 V c).arrAt 8 cfg0.N = fun i => dotT (V c main_arg1) (V c main_v3) (i 0) (i 1) := by
  refine (dat0 V c).arrAt_eq_of_covers 8 _ (by decide +kernel) fun t hf y => ?_
  have ⟨e0, e1, e2, e3, e4, e5, e6, e7, e8⟩ := at0 t
  blk_simp
  rw [after0_8]; frame_out
  rw [k0_u2]
  refine (dotT_congr ?_ ?_) <;> (try intro k) <;> blk_simp [iblk0] <;> refine congrArg _ ?_ <;> blk_ext [e0, e1, e2, e3, e4, e5, e6, e7, e8]

/-- The second call's three results. -/
theorem final1_6 (c : Dev nD) : (dat1 V c).arrAt 6 cfg1.N = fun i => through (dotT (V c main_v6) (V c main_v7) (i 0) (i 1)) (V c main_v4 (ix2 (i 0) (col 3072 (i 1)))) := by
  refine (dat1 V c).arrAt_eq_of_covers 6 _ (by decide +kernel) fun t hf y => ?_
  have ⟨e0, e1, e2, e3, e4, e5, e6, e7, e8⟩ := at1 t
  blk_simp
  rw [after1_6]; frame_out
  rw [k1_du1, ← through]
  refine through_congr (dotT_congr ?_ ?_) ?_ <;> (try intro k) <;> blk_simp [iblk1] <;> refine congrArg _ ?_ <;> blk_ext [e0, e1, e2, e3, e4, e5, e6, e7, e8]
  all_goals blk_simp [e6, e7]

theorem final1_7 (c : Dev nD) : (dat1 V c).arrAt 7 cfg1.N = fun i => through (dotT (V c main_v6) (V c main_v7) (i 0) (i 1)) (V c main_v4 (ix2 (i 0) (col 4096 (i 1)))) := by
  refine (dat1 V c).arrAt_eq_of_covers 7 _ (by decide +kernel) fun t hf y => ?_
  have ⟨e0, e1, e2, e3, e4, e5, e6, e7, e8⟩ := at1 t
  blk_simp
  rw [after1_7]; frame_out
  rw [k1_du2, ← through]
  refine through_congr (dotT_congr ?_ ?_) ?_ <;> (try intro k) <;> blk_simp [iblk1] <;> refine congrArg _ ?_ <;> blk_ext [e0, e1, e2, e3, e4, e5, e6, e7, e8]
  all_goals blk_simp [e6, e7]

theorem k1_dg1 (x0 : Vec Ideal S512x1024 .bf16) (x1 : Vec Ideal S1024x1024 .bf16) (x4 x2 : Vec Ideal S512x1024 .bf16) (j : S512x1024.Idx) :
    k1_pay1 (k1_pay3 x0 x1) (k1_pay4 x4) x2 j = gateTerm (dotT x0 x1 (j 0) (j 1)) (x2 j) (x4 j) := by
  pointwise! [k1_pay1, k1_pay3, k1_pay4, zero_sub]
theorem k1_dg2 (x0 : Vec Ideal S512x1024 .bf16) (x1 : Vec Ideal S1024x1024 .bf16) (x4 x2 : Vec Ideal S512x1024 .bf16) (j : S512x1024.Idx) :
    k1_pay2 (k1_pay3 x0 x1) (k1_pay5 x4) x2 j = gateTerm (dotT x0 x1 (j 0) (j 1)) (x2 j) (x4 j) := by
  pointwise! [k1_pay2, k1_pay3, k1_pay5, zero_sub]

/-- The gradient by the gates' inputs: the dilated gate's columns, then the other's. -/
def gateGrads (c : Dev nD) (i : S4096x2048.Idx) : EReal := halves (M := 4096) (n := 1024)
    (fun i x => gateTerm (dotT (V c main_v6) (V c main_v7) i x) (V c main_v5_1 (ix2 i x)) (V c main_v4 (ix2 i (col 3072 x))))
    (fun i x => gateTerm (dotT (V c main_v6) (V c main_v7) i x) (V c main_v5_2 (ix2 i x)) (V c main_v4 (ix2 i (col 4096 x)))) (i 0) (i 1)

set_option maxHeartbeats 1000000 in
theorem final1_8 (c : Dev nD) : (dat1 V c).arrAt 8 cfg1.N = gateGrads V c := by
  refine (dat1 V c).arrAt_eq_of_covers 8 _ (by decide +kernel) fun t hf y => ?_
  have ⟨e0, e1, e2, e3, e4, e5, e6, e7, e8⟩ := at1 t
  blk_simp
  rw [after1_8]; frame_out
  refine View.canon_apply_of_pieces (Val := Elt Ideal) (e := .bf16) (fun y => gateGrads V c (((View.whole main_v8_2).slice (win1_8.rect t)).emb y)) _ ?_ y (cover1_8 _ _ y)
  intro p hp x
  simp only [List.mem_cons, List.not_mem_nil, or_false] at hp
  rcases hp with rfl | rfl
  · unfold k1_pay8
    dsimp only
    simp (disch := decide) only [View.ld_unit_lit']
    refine (k1_dg2 _ _ _ _ x).trans (Eq.trans ?_ (halves_right (n := 1024) _ _ _ (x 1) ?_).symm)
    · refine gateTerm_congr (dotT_congr ?_ ?_) ?_ ?_ <;> (try intro k) <;> blk_simp [iblk1] <;> refine congrArg _ ?_ <;> blk_ext [e0, e1, e2, e3, e4, e5, e6, e7, e8]
      all_goals trace_state
    · blk_simp [e8]
      trace_state
  · unfold k1_pay8
    dsimp only
    simp (disch := decide) only [View.ld_unit_lit']
    refine (k1_dg1 _ _ _ _ x).trans (Eq.trans ?_ (halves_left (n := 1024) _ _ _ (x 1) ?_).symm)
    · refine gateTerm_congr (dotT_congr ?_ ?_) ?_ ?_ <;> (try intro k) <;> blk_simp [iblk1] <;> refine congrArg _ ?_ <;> blk_ext [e0, e1, e2, e3, e4, e5, e6, e7, e8]
    · blk_simp [e8]

variable (m : (ℓ : Loc nD τ sig) → Buf (Elt Ideal) ℓ) (ρ : Dev nD → PrngReg)

/-- The arrays that the two calls read: arguments, the two weights transposed, the first call's results. -/
theorem V1_v1 (c : Dev nD) (i : Fin 1024) (k : Fin 256) : V1 m ρ c main_v1 (ix2 i k) = m ((c : Thread nD τ).loc main_arg2) (ix2 k i) := by
  show StableHlo.after hostOps0 _ _ _ = _
  after_results_simp
  pointwise! []
theorem V1_v3 (c : Dev nD) (i : Fin 1024) (k : Fin 256) : V1 m ρ c main_v3 (ix2 i k) = m ((c : Thread nD τ).loc main_arg3) (ix2 k i) := by
  show StableHlo.after hostOps0 _ _ _ = _
  after_results_simp
  pointwise! []
theorem V1_v4 (c : Dev nD) : V1 m ρ c main_v4 = m ((c : Thread nD τ).loc main_arg5) := by
  show StableHlo.after hostOps0 _ _ = _
  after_results_simp
  rfl
theorem V3_v6 (c : Dev nD) : V3 m ρ c main_v6 = m ((c : Thread nD τ).loc main_arg6) := by
  show StableHlo.after hostOps1 _ _ = _
  after_results_simp
  exact W2_args m ρ c main_arg6 (by decide)
theorem V3_v7 (c : Dev nD) : V3 m ρ c main_v7 = m ((c : Thread nD τ).loc main_arg4) := by
  show StableHlo.after hostOps1 _ _ = _
  after_results_simp
  exact W2_args m ρ c main_arg4 (by decide)
theorem V3_v4 (c : Dev nD) : V3 m ρ c main_v4 = m ((c : Thread nD τ).loc main_arg5) :=
  (W3_of m ρ c main_v4 (by decide)).trans ((W2_of m ρ c main_v4 (by decide)).trans (V1_v4 m ρ c))

/-- The two branches' projections, the cotangent of the gated sum, the two gates' columns. -/
def proj1 (c : Dev nD) (i : Fin 4096) (j : Fin 1024) : EReal := dot (m ((c : Thread nD τ).loc main_arg0)) (m ((c : Thread nD τ).loc main_arg2)) i j
def proj2 (c : Dev nD) (i : Fin 4096) (j : Fin 1024) : EReal := dot (m ((c : Thread nD τ).loc main_arg1)) (m ((c : Thread nD τ).loc main_arg3)) i j
def cot (c : Dev nD) (i : Fin 4096) (j : Fin 1024) : EReal := dotT (m ((c : Thread nD τ).loc main_arg6)) (m ((c : Thread nD τ).loc main_arg4)) i j
def gate1 (c : Dev nD) (i : Fin 4096) (j : Fin 1024) : EReal := m ((c : Thread nD τ).loc main_arg5) (ix2 i (col 3072 j))
def gate2 (c : Dev nD) (i : Fin 4096) (j : Fin 1024) : EReal := m ((c : Thread nD τ).loc main_arg5) (ix2 i (col 4096 j))

theorem proj1_eq (c : Dev nD) (i : Fin 4096) (j : Fin 1024) : dotT (V1 m ρ c main_arg0) (V1 m ρ c main_v1) i j = proj1 m c i j :=
  dotT_eq_dot (fun _ => congrFun (W1_args m ρ c main_arg0 (by decide)) _) fun k => V1_v1 m ρ c j k
theorem proj2_eq (c : Dev nD) (i : Fin 4096) (j : Fin 1024) : dotT (V1 m ρ c main_arg1) (V1 m ρ c main_v3) i j = proj2 m c i j :=
  dotT_eq_dot (fun _ => congrFun (W1_args m ρ c main_arg1 (by decide)) _) fun k => V1_v3 m ρ c j k
theorem cot_eq (c : Dev nD) (i : Fin 4096) (j : Fin 1024) : dotT (V3 m ρ c main_v6) (V3 m ρ c main_v7) i j = cot m c i j :=
  dotT_congr (fun _ => congrFun (V3_v6 m ρ c) _) fun _ => congrFun (V3_v7 m ρ c) _

/-- The first call's results after it. -/
theorem W2_v5_1 (c : Dev nD) : W2 m ρ c (Proc.devRef .tc main_v5_1) = fun i => proj1 m c (i 0) (i 1) :=
  (W2_arr m ρ c 7).trans ((final0_7 (V1 m ρ) c).trans (funext fun i => proj1_eq m ρ c _ _))
theorem W2_v5_2 (c : Dev nD) : W2 m ρ c (Proc.devRef .tc main_v5_2) = fun i => proj2 m c (i 0) (i 1) :=
  (W2_arr m ρ c 8).trans ((final0_8 (V1 m ρ) c).trans (funext fun i => proj2_eq m ρ c _ _))

/-- The program's six results as functions of its arguments. -/
theorem W4_y (c : Dev nD) : W4 m ρ c (Proc.devRef .tc main_v5_0) = fun i => gated (gate1 m c (i 0) (i 1)) (proj1 m c (i 0) (i 1)) (gate2 m c (i 0) (i 1)) (proj2 m c (i 0) (i 1)) :=
  (W4_of m ρ c main_v5_0 (by decide)).trans ((W3_of m ρ c main_v5_0 (by decide)).trans ((W2_arr m ρ c 6).trans ((final0_6 (V1 m ρ) c).trans
    (funext fun i => gated_congr (congrFun (V1_v4 m ρ c) _) (proj1_eq m ρ c _ _) (congrFun (V1_v4 m ρ c) _) (proj2_eq m ρ c _ _)))))
theorem W4_u1 (c : Dev nD) : W4 m ρ c (Proc.devRef .tc main_v5_1) = fun i => proj1 m c (i 0) (i 1) :=
  (W4_of m ρ c main_v5_1 (by decide)).trans ((W3_of m ρ c main_v5_1 (by decide)).trans (W2_v5_1 m ρ c))
theorem W4_u2 (c : Dev nD) : W4 m ρ c (Proc.devRef .tc main_v5_2) = fun i => proj2 m c (i 0) (i 1) :=
  (W4_of m ρ c main_v5_2 (by decide)).trans ((W3_of m ρ c main_v5_2 (by decide)).trans (W2_v5_2 m ρ c))
theorem W4_du1 (c : Dev nD) : W4 m ρ c (Proc.devRef .tc main_v8_0) = fun i => through (cot m c (i 0) (i 1)) (gate1 m c (i 0) (i 1)) :=
  (W4_arr m ρ c 6).trans ((final1_6 (V3 m ρ) c).trans (funext fun i => through_congr (cot_eq m ρ c _ _) (congrFun (V3_v4 m ρ c) _)))
theorem W4_du2 (c : Dev nD) : W4 m ρ c (Proc.devRef .tc main_v8_1) = fun i => through (cot m c (i 0) (i 1)) (gate2 m c (i 0) (i 1)) :=
  (W4_arr m ρ c 7).trans ((final1_7 (V3 m ρ) c).trans (funext fun i => through_congr (cot_eq m ρ c _ _) (congrFun (V3_v4 m ρ c) _)))
theorem W4_dgate (c : Dev nD) : W4 m ρ c (Proc.devRef .tc main_v8_2) = fun i => halves (M := 4096) (n := 1024)
    (fun i x => gateTerm (cot m c i x) (proj1 m c i x) (gate1 m c i x)) (fun i x => gateTerm (cot m c i x) (proj2 m c i x) (gate2 m c i x)) (i 0) (i 1) :=
  (W4_arr m ρ c 8).trans ((final1_8 (V3 m ρ) c).trans (funext fun i => halves_congr
    (fun x => gateTerm_congr (cot_eq m ρ c _ _) (congrFun ((W3_of m ρ c main_v5_1 (by decide)).trans (W2_v5_1 m ρ c)) _) (congrFun (V3_v4 m ρ c) _))
    (fun x => gateTerm_congr (cot_eq m ρ c _ _) (congrFun ((W3_of m ρ c main_v5_2 (by decide)).trans (W2_v5_2 m ρ c)) _) (congrFun (V3_v4 m ρ c) _))))

set_option backward.isDefEq.respectTransparency.types false in
/-- Every run ends with every array at its contents after the last call. -/
theorem run : θ_run defs (onTc (τ := τ) (main (F := Ideal))) ⟨m, fun _ => 0, ρ⟩
    (fun r => ∀ c : Dev nD, ∀ b ∈ Pipeline.ucRefs τ sig, r.2.mem (c, b) = W4 m ρ c b) :=
  RegionsRead.run_last pcfgs adm (pdats m ρ) cellOf_inj defs₀ m ρ main (segs m ρ) (main_run m ρ)
    (by simp only [segs, Pipeline.Seg.pipes_host, Pipeline.Seg.pipes_region, Pipeline.Seg.pipes_nil]; decide) (W4 m ρ)
    ⟨fun _ => .rfl, fun _ => .rfl, fun _ => .rfl, fun _ => .rfl, fun _ => .rfl⟩

end Cert.GateKernel

end
-- ==== Proof.GateRef.lean ====
module

public import proofs.«01_k».proof.Proof.Gen.RGateIdeal.Run
public import proofs.«01_k».proof.Proof.Gen.RGateIdeal.Read
public import proofs.«01_k».proof.Proof.GateKernel

@[expose] public section

set_option maxRecDepth 16384

noncomputable section

/- The reference of the gates and their gradient, entry by entry. -/
namespace Cert.GateRef

open Idealize.ShloMosaic Idealize.ShloMosaic.TcCoe Idealize.SL.Sem
open Cert.Reals Cert.RGateIdeal Cert.RGateIdeal.Read
open Cert.GateKernel (col gated through gateTerm)

variable (o1 o2 : S4096x256.Idx → EReal) (w1 w2 : S256x1024.Idx → EReal) (wo : S1024x1024.Idx → EReal) (p : S4096x5120.Idx → EReal)
  (dx : S4096x1024.Idx → EReal) (i : Fin 4096) (k : Fin 1024)

/-- The second gate's columns, as the reference reaches them in two cuts. -/
theorem col_eq : (⟨3072 + (1024 + k.val), by omega⟩ : Fin 5120) = col 4096 k := Fin.ext (by show 3072 + (1024 + k.val) = 4096 + k.val; omega)

theorem u1_apply : val_main_v55 (F := Ideal) o1 w1 (ix2 i k) = dot o1 w1 i k := by
  pointwise! [val_main_v0, val_main_v55]
theorem u2_apply : val_main_v56 (F := Ideal) o2 w2 (ix2 i k) = dot o2 w2 i k := by
  pointwise! [val_main_v1, val_main_v56]
theorem y_apply : val_main_v54 (F := Ideal) o1 o2 w1 w2 p (ix2 i k) = gated (p (ix2 i (col 3072 k))) (dot o1 w1 i k) (p (ix2 i (col 4096 k))) (dot o2 w2 i k) := by
  pointwise! [val_main_cst_8, val_main_v42, val_main_cst_7, val_main_v40, val_main_v37, val_main_v38, val_main_v39, val_main_v41, val_main_v43, val_main_v0, val_main_v44, val_main_cst_10, val_main_v50, val_main_cst_9, val_main_v48, val_main_v45, val_main_v46, val_main_v47, val_main_v49, val_main_v51, val_main_v1, val_main_v52, val_main_v53, val_main_v54]
theorem du1_apply : val_main_v57 (F := Ideal) wo p dx (ix2 i k) = through (dotT dx wo i k) (p (ix2 i (col 3072 k))) := by
  pointwise! [val_main_cst_0, val_main_v8, val_main_cst, val_main_v6, val_main_v2, val_main_v3, val_main_v4, val_main_v5, val_main_v7, val_main_v9, val_main_v27, val_main_v30, val_main_v57]
  exact mul_comm _ _
theorem du2_apply : val_main_v58 (F := Ideal) wo p dx (ix2 i k) = through (dotT dx wo i k) (p (ix2 i (col 4096 k))) := by
  pointwise! [val_main_cst_3, val_main_v18, val_main_cst_2, val_main_v16, val_main_v2, val_main_v13, val_main_v14, val_main_v15, val_main_v17, val_main_v19, val_main_v27, val_main_v28, val_main_v58]
  rw [through, ← col_eq, mul_comm]; rfl

/-- The two gates' gradients before they are laid side by side. -/
theorem term1_apply : val_main_v34 (F := Ideal) o1 w1 wo p dx (ix2 i k) = gateTerm (dotT dx wo i k) (dot o1 w1 i k) (p (ix2 i (col 3072 k))) := by
  pointwise! [val_main_v27, val_main_v0, val_main_v31, val_main_cst_0, val_main_v8, val_main_cst, val_main_v6, val_main_v2, val_main_v3, val_main_v4, val_main_v5, val_main_v7, val_main_v9, val_main_cst_1, val_main_v10, val_main_v11, val_main_v12, val_main_v34]
  exact (mul_assoc _ _ _).symm
theorem term2_apply : val_main_v32 (F := Ideal) o2 w2 wo p dx (ix2 i k) = gateTerm (dotT dx wo i k) (dot o2 w2 i k) (p (ix2 i (col 4096 k))) := by
  pointwise! [val_main_v27, val_main_v1, val_main_v29, val_main_cst_3, val_main_v18, val_main_cst_2, val_main_v16, val_main_v2, val_main_v13, val_main_v14, val_main_v15, val_main_v17, val_main_v19, val_main_cst_4, val_main_v20, val_main_v21, val_main_v22, val_main_v32]
  rw [gateTerm, ← col_eq, mul_assoc _ (sg _)]; rfl

theorem dgate_apply (i : Fin 4096) (k : Fin 2048) : val_main_v59 (F := Ideal) o1 o2 w1 w2 wo p dx (ix2 i k) = halves (M := 4096) (n := 1024)
    (fun i x => val_main_v34 (F := Ideal) o1 w1 wo p dx (ix2 i x)) (fun i x => val_main_v32 (F := Ideal) o2 w2 wo p dx (ix2 i x)) i k := by
  pointwise [val_main_v59, val_main_v36, val_main_v35, val_main_v33, val_main_cst_5, val_main_cst_6, halves]
  by_cases h : k.val < 1024
  · rw [dif_neg (by omega), dif_pos h, dif_pos h, zero_add]
  · rw [dif_pos (by omega), dif_neg h, dif_neg h, add_zero]

end Cert.GateRef

end
-- ==== Proof.GateEq.lean ====
module

public import proofs.«01_k».proof.Proof.GateRef
public import proofs.«01_k».proof.Defs

@[expose] public section

set_option maxRecDepth 16384

noncomputable section

/- The gates' gradient: the kernel's run and the reference's run end with the same six results. -/
namespace Cert.GateEq

open Idealize.ShloMosaic Idealize.ShloMosaic.TcCoe Idealize.SL.Sem
open Cert.Reals

set_option maxHeartbeats 1000000 in
/-- From argument arrays that agree, the kernel and the reference end with the same six results. -/
theorem algebraic : Cert.algebraic_KGateIdeal_RGateIdeal (hKGateIdeal := Cert.KGateIdeal.Gen.facts) (hRGateIdeal := Cert.RGateIdeal.Gen.facts) := by
  intro m g m' g' _ hargs
  refine ⟨fun c => KGateIdeal.Gen.W4 m g c (Proc.devRef .tc KGateIdeal.main_v5_0), fun c => KGateIdeal.Gen.W4 m g c (Proc.devRef .tc KGateIdeal.main_v5_1),
    fun c => KGateIdeal.Gen.W4 m g c (Proc.devRef .tc KGateIdeal.main_v5_2), fun c => KGateIdeal.Gen.W4 m g c (Proc.devRef .tc KGateIdeal.main_v8_0),
    fun c => KGateIdeal.Gen.W4 m g c (Proc.devRef .tc KGateIdeal.main_v8_1), fun c => KGateIdeal.Gen.W4 m g c (Proc.devRef .tc KGateIdeal.main_v8_2),
    (θ_run _ _ _).mono (fun r h c => ?_) (GateKernel.run m g), (θ_run _ _ _).mono (fun r h c => ?_) (RGateIdeal.Value.run (F := Ideal) m' g')⟩
  · have res := fun b hb => h c (Proc.devRef .tc b) (KGateIdeal.Gen.mem_uc b hb)
    have arg := fun a ha hb => (h c _ (KGateIdeal.Gen.mem_uc _ hb)).trans (KGateIdeal.Gen.W4_args m g c a ha)
    exact ⟨res _ (by decide), res _ (by decide), res _ (by decide), res _ (by decide), res _ (by decide), res _ (by decide),
      arg _ (by decide) (by decide), arg _ (by decide) (by decide), arg _ (by decide) (by decide), arg _ (by decide) (by decide),
      arg _ (by decide) (by decide), arg _ (by decide) (by decide), arg _ (by decide) (by decide)⟩
  · obtain ⟨a0, a1, a2, a3, a4, a5, a6⟩ := hargs c
    obtain ⟨h0, h1, h2, h3, h4, h5, hr⟩ := h c
    refine ⟨h0.trans ?_, h1.trans ?_, h2.trans ?_, h3.trans ?_, h4.trans ?_, h5.trans ?_, hr⟩
    · rw [a0, a1, a2, a3, a5]
      refine Eq.trans (funext fun j => ?_) (GateKernel.W4_y m g c).symm
      rw [eq_ix2 j]
      exact GateRef.y_apply _ _ _ _ _ _ _
    · rw [a0, a2]
      refine Eq.trans (funext fun j => ?_) (GateKernel.W4_u1 m g c).symm
      rw [eq_ix2 j]
      exact GateRef.u1_apply _ _ _ _
    · rw [a1, a3]
      refine Eq.trans (funext fun j => ?_) (GateKernel.W4_u2 m g c).symm
      rw [eq_ix2 j]
      exact GateRef.u2_apply _ _ _ _
    · rw [a4, a5, a6]
      refine Eq.trans (funext fun j => ?_) (GateKernel.W4_du1 m g c).symm
      rw [eq_ix2 j]
      exact GateRef.du1_apply _ _ _ _ _
    · rw [a4, a5, a6]
      refine Eq.trans (funext fun j => ?_) (GateKernel.W4_du2 m g c).symm
      rw [eq_ix2 j]
      exact GateRef.du2_apply _ _ _ _ _
    · rw [a0, a1, a2, a3, a4, a5, a6]
      refine Eq.trans (funext fun j => ?_) (GateKernel.W4_dgate m g c).symm
      rw [eq_ix2 j]
      exact (GateRef.dgate_apply _ _ _ _ _ _ _ _ _).trans (halves_congr (fun x => GateRef.term1_apply _ _ _ _ _ _ _) (fun x => GateRef.term2_apply _ _ _ _ _ _ _))

end Cert.GateEq

end
-- ==== Proof.SwigluKernel.lean ====
module

public import proofs.«01_k».proof.Proof.Gen.KSwigluIdeal.Frame
public import proofs.«01_k».proof.Proof.Regions
public import Idealize.ShloMosaic.Lib.Pipeline.ValueKit
public import proofs.«01_k».proof.Proof.Reals

@[expose] public section

set_option maxRecDepth 16384

noncomputable section

namespace Cert.SwigluKernel

open Idealize.ShloMosaic Idealize.ShloMosaic.TcCoe Idealize.SL.Sem
open Idealize.ShloMosaic.Pipeline (Dat)
open Cert.Reals Cert.KSwigluIdeal Cert.KSwigluIdeal.Gen

variable (V : (c : Dev nD) → (b : Ref sig .tc) → Buf (Elt Ideal) ((c : Thread nD τ).loc b))

/-- Where the blocks of the first call's windows stand. -/
theorem at0_0 : ∀ t : Fin cfg0.N, win0_0.index t = ![t.val % 4, 0] := (by decide +kernel : ∀ t : Fin grid0.N, _)
theorem at0_1 : ∀ t : Fin cfg0.N, win0_1.index t = ![t.val / 4, 0] := (by decide +kernel : ∀ t : Fin grid0.N, _)
theorem at0_2 : ∀ t : Fin cfg0.N, win0_2.index t = ![t.val / 4, 0] := (by decide +kernel : ∀ t : Fin grid0.N, _)
theorem at0_4 : ∀ t : Fin cfg0.N, win0_4.index t = ![t.val % 4, t.val / 4] := (by decide +kernel : ∀ t : Fin grid0.N, _)
theorem at0_5 : ∀ t : Fin cfg0.N, win0_5.index t = ![t.val % 4, t.val / 4] := (by decide +kernel : ∀ t : Fin grid0.N, _)
theorem at0_3 : ∀ t : Fin cfg0.N, win0_3.index t = ![t.val % 4, t.val / 4] := (by decide +kernel : ∀ t : Fin grid0.N, _)

/-- What the first call writes from an entry `a` of the gate's product and `b` of the up product. -/
def gateGrad (a b : EReal) : EReal := b * (sg a * (1 + a * (1 - sg a)))
def upGrad (a : EReal) : EReal := a * sg a
def act (a b : EReal) : EReal := a * sg a * b

theorem pay6 (x0 : Vec Ideal S1024x1024 .bf16) (x1 x2 : Vec Ideal S1408x1024 .bf16) (j : S1024x1408.Idx) :
    k0_pay6 x0 x1 x2 j = gateGrad (dotT x0 x1 (j 0) (j 1)) (dotT x0 x2 (j 0) (j 1)) := by
  pointwise! [k0_pay6, k0_pay4, k0_pay3, k0_pay2, k0_pay1, zero_sub]

theorem pay7 (x0 : Vec Ideal S1024x1024 .bf16) (x1 : Vec Ideal S1408x1024 .bf16) (j : S1024x1408.Idx) :
    k0_pay7 x0 x1 j = upGrad (dotT x0 x1 (j 0) (j 1)) := by
  pointwise! [k0_pay7, k0_pay5, k0_pay4, k0_pay3, k0_pay2, k0_pay1, zero_sub]

theorem pay8 (x0 : Vec Ideal S1024x1024 .bf16) (x1 x2 : Vec Ideal S1408x1024 .bf16) (j : S1024x1408.Idx) :
    k0_pay8 x0 x1 x2 j = act (dotT x0 x1 (j 0) (j 1)) (dotT x0 x2 (j 0) (j 1)) := by
  pointwise! [k0_pay8, k0_pay7, k0_pay5, k0_pay4, k0_pay3, k0_pay2, k0_pay1, zero_sub]

/-- The first call's three results: the derivative by the gate's product, that by the up product, the activation. -/
theorem final0_3 (c : Dev nD) : (dat0 V c).arrAt 3 cfg0.N = fun i => gateGrad (dotT (V c main_v4) (V c main_v1) (i 0) (i 1)) (dotT (V c main_v4) (V c main_v3) (i 0) (i 1)) := by
  refine (dat0 V c).arrAt_eq_of_covers 3 _ (by decide +kernel) fun t hf y => ?_
  blk_simp
  rw [after0_3]; frame_out
  rw [pay6]
  refine congrArg₂ gateGrad (dotT_congr ?_ ?_) (dotT_congr ?_ ?_) <;> (try intro k) <;> blk_simp [iblk0] <;> refine congrArg _ ?_ <;> blk_ext [at0_0, at0_1, at0_2, at0_3, at0_4, at0_5]

theorem final0_4 (c : Dev nD) : (dat0 V c).arrAt 4 cfg0.N = fun i => upGrad (dotT (V c main_v4) (V c main_v1) (i 0) (i 1)) := by
  refine (dat0 V c).arrAt_eq_of_covers 4 _ (by decide +kernel) fun t hf y => ?_
  blk_simp
  rw [after0_4]; frame_out
  rw [pay7]
  refine congrArg upGrad (dotT_congr ?_ ?_) <;> (try intro k) <;> blk_simp [iblk0] <;> refine congrArg _ ?_ <;> blk_ext [at0_0, at0_1, at0_2, at0_3, at0_4, at0_5]

theorem final0_5 (c : Dev nD) : (dat0 V c).arrAt 5 cfg0.N = fun i => act (dotT (V c main_v4) (V c main_v1) (i 0) (i 1)) (dotT (V c main_v4) (V c main_v3) (i 0) (i 1)) := by
  refine (dat0 V c).arrAt_eq_of_covers 5 _ (by decide +kernel) fun t hf y => ?_
  blk_simp
  rw [after0_5]; frame_out
  rw [pay8]
  refine congrArg₂ act (dotT_congr ?_ ?_) (dotT_congr ?_ ?_) <;> (try intro k) <;> blk_simp [iblk0] <;> refine congrArg _ ?_ <;> blk_ext [at0_0, at0_1, at0_2, at0_3, at0_4, at0_5]

/-- Where the blocks of the second call's windows stand. -/
theorem at1_0 : ∀ t : Fin cfg1.N, win1_0.index t = ![t.val % 4, 0] := (by decide +kernel : ∀ t : Fin grid1.N, _)
theorem at1_1 : ∀ t : Fin cfg1.N, win1_1.index t = ![t.val / 4, 0] := (by decide +kernel : ∀ t : Fin grid1.N, _)
theorem at1_2 : ∀ t : Fin cfg1.N, win1_2.index t = ![t.val % 4, t.val / 4] := (by decide +kernel : ∀ t : Fin grid1.N, _)
theorem at1_3 : ∀ t : Fin cfg1.N, win1_3.index t = ![t.val % 4, t.val / 4] := (by decide +kernel : ∀ t : Fin grid1.N, _)
theorem at1_4 : ∀ t : Fin cfg1.N, win1_4.index t = ![t.val % 4, t.val / 4] := (by decide +kernel : ∀ t : Fin grid1.N, _)
theorem at1_5 : ∀ t : Fin cfg1.N, win1_5.index t = ![t.val % 4, t.val / 4] := (by decide +kernel : ∀ t : Fin grid1.N, _)

/-- What the second call writes from an entry `d` of the cotangent's product and an entry `g` of a saved derivative. -/
def scaled (d g : EReal) : EReal := d * ((1 / 2 : ℝ) : EReal) * g

theorem pay2 (x0 : Vec Ideal S1024x1024 .bf16) (x1 : Vec Ideal S1408x1024 .bf16) (x2 : Vec Ideal S1024x1408 .bf16) (j : S1024x1408.Idx) :
    k1_pay2 x0 x1 x2 j = scaled (dotT x0 x1 (j 0) (j 1)) (x2 j) := by
  rw [scaled, ← half_f32]
  pointwise! [k1_pay2, k1_pay1]

theorem pay3 (x0 : Vec Ideal S1024x1024 .bf16) (x1 : Vec Ideal S1408x1024 .bf16) (x2 : Vec Ideal S1024x1408 .bf16) (j : S1024x1408.Idx) :
    k1_pay3 x0 x1 x2 j = scaled (dotT x0 x1 (j 0) (j 1)) (x2 j) := by
  rw [scaled, ← half_f32]
  pointwise! [k1_pay3, k1_pay1]

/-- The second call's two results. -/
theorem final1_4 (c : Dev nD) : (dat1 V c).arrAt 4 cfg1.N = fun i => scaled (dotT (V c main_v6) (V c main_v7) (i 0) (i 1)) (V c main_v5_0 i) := by
  refine (dat1 V c).arrAt_eq_of_covers 4 _ (by decide +kernel) fun t hf y => ?_
  blk_simp
  rw [after1_4]; frame_out
  rw [pay2]
  refine congrArg₂ scaled (dotT_congr ?_ ?_) ?_ <;> (try intro k) <;> blk_simp [iblk1] <;> refine congrArg _ ?_ <;> blk_ext [at1_0, at1_1, at1_2, at1_3, at1_4, at1_5]

theorem final1_5 (c : Dev nD) : (dat1 V c).arrAt 5 cfg1.N = fun i => scaled (dotT (V c main_v6) (V c main_v7) (i 0) (i 1)) (V c main_v5_1 i) := by
  refine (dat1 V c).arrAt_eq_of_covers 5 _ (by decide +kernel) fun t hf y => ?_
  blk_simp
  rw [after1_5]; frame_out
  rw [pay3]
  refine congrArg₂ scaled (dotT_congr ?_ ?_) ?_ <;> (try intro k) <;> blk_simp [iblk1] <;> refine congrArg _ ?_ <;> blk_ext [at1_0, at1_1, at1_2, at1_3, at1_4, at1_5]

variable (m : (ℓ : Loc nD τ sig) → Buf (Elt Ideal) ℓ) (ρ : Dev nD → PrngReg)

/-- The arrays that the first call reads: the argument itself and the two weights transposed. -/
theorem V1_v4 (c : Dev nD) : V1 m ρ c main_v4 = m ((c : Thread nD τ).loc main_arg0) := by
  show StableHlo.after hostOps0 _ _ = _
  after_results_simp
  rfl
theorem V1_v1 (c : Dev nD) (i : Fin 2816) (k : Fin 1024) : V1 m ρ c main_v1 (ix2 i k) = m ((c : Thread nD τ).loc main_arg1) (ix2 k i) := by
  show StableHlo.after hostOps0 _ _ _ = _
  after_results_simp
  pointwise! []
theorem V1_v3 (c : Dev nD) (i : Fin 2816) (k : Fin 1024) : V1 m ρ c main_v3 (ix2 i k) = m ((c : Thread nD τ).loc main_arg2) (ix2 k i) := by
  show StableHlo.after hostOps0 _ _ _ = _
  after_results_simp
  pointwise! []

/-- The two products of the first call, of the arguments. -/
def gate (c : Dev nD) (i : Fin 4096) (j : Fin 2816) : EReal := dot (m ((c : Thread nD τ).loc main_arg0)) (m ((c : Thread nD τ).loc main_arg1)) i j
def up (c : Dev nD) (i : Fin 4096) (j : Fin 2816) : EReal := dot (m ((c : Thread nD τ).loc main_arg0)) (m ((c : Thread nD τ).loc main_arg2)) i j
/-- The cotangent's product with the down projection's weights. -/
def cot (c : Dev nD) (i : Fin 4096) (j : Fin 2816) : EReal := dotT (m ((c : Thread nD τ).loc main_arg4)) (m ((c : Thread nD τ).loc main_arg3)) i j

theorem gate_eq (c : Dev nD) (i : Fin 4096) (j : Fin 2816) : dotT (V1 m ρ c main_v4) (V1 m ρ c main_v1) i j = gate m c i j :=
  dotT_eq_dot (fun _ => congrFun (V1_v4 m ρ c) _) fun k => (V1_v1 m ρ c j k)
theorem up_eq (c : Dev nD) (i : Fin 4096) (j : Fin 2816) : dotT (V1 m ρ c main_v4) (V1 m ρ c main_v3) i j = up m c i j :=
  dotT_eq_dot (fun _ => congrFun (V1_v4 m ρ c) _) fun k => (V1_v3 m ρ c j k)

/-- The arrays that the second call reads: two arguments and the first call's results. -/
theorem V3_v6 (c : Dev nD) : V3 m ρ c main_v6 = m ((c : Thread nD τ).loc main_arg4) := by
  show StableHlo.after hostOps1 _ _ = _
  after_results_simp
  exact W2_args m ρ c main_arg4 (by decide)
theorem V3_v7 (c : Dev nD) : V3 m ρ c main_v7 = m ((c : Thread nD τ).loc main_arg3) := by
  show StableHlo.after hostOps1 _ _ = _
  after_results_simp
  exact W2_args m ρ c main_arg3 (by decide)
theorem cot_eq (c : Dev nD) (i : Fin 4096) (j : Fin 2816) : dotT (V3 m ρ c main_v6) (V3 m ρ c main_v7) i j = cot m c i j :=
  dotT_congr (fun _ => congrFun (V3_v6 m ρ c) _) fun _ => (congrFun (V3_v7 m ρ c) _)
theorem V3_v5_0 (c : Dev nD) : V3 m ρ c main_v5_0 = fun i => gateGrad (gate m c (i 0) (i 1)) (up m c (i 0) (i 1)) := by
  exact (W3_of m ρ c main_v5_0 (by decide)).trans ((W2_arr m ρ c 3).trans ((final0_3 (V1 m ρ) c).trans
    (funext fun i => congrArg₂ gateGrad (gate_eq m ρ c _ _) (up_eq m ρ c _ _))))
theorem V3_v5_1 (c : Dev nD) : V3 m ρ c main_v5_1 = fun i => upGrad (gate m c (i 0) (i 1)) := by
  exact (W3_of m ρ c main_v5_1 (by decide)).trans ((W2_arr m ρ c 4).trans ((final0_4 (V1 m ρ) c).trans
    (funext fun i => congrArg upGrad (gate_eq m ρ c _ _))))

/-- The program's three results as functions of its arguments. -/
theorem W4_v5_2 (c : Dev nD) : W4 m ρ c (Proc.devRef .tc main_v5_2) = fun i => act (gate m c (i 0) (i 1)) (up m c (i 0) (i 1)) := by
  exact (W4_of m ρ c main_v5_2 (by decide)).trans ((W3_of m ρ c main_v5_2 (by decide)).trans ((W2_arr m ρ c 5).trans ((final0_5 (V1 m ρ) c).trans
    (funext fun i => congrArg₂ act (gate_eq m ρ c _ _) (up_eq m ρ c _ _)))))
theorem W4_v8_0 (c : Dev nD) : W4 m ρ c (Proc.devRef .tc main_v8_0) = fun i => scaled (cot m c (i 0) (i 1)) (gateGrad (gate m c (i 0) (i 1)) (up m c (i 0) (i 1))) := by
  exact (W4_arr m ρ c 4).trans ((final1_4 (V3 m ρ) c).trans
    (funext fun i => congrArg₂ scaled (cot_eq m ρ c _ _) (congrFun (V3_v5_0 m ρ c) i)))
theorem W4_v8_1 (c : Dev nD) : W4 m ρ c (Proc.devRef .tc main_v8_1) = fun i => scaled (cot m c (i 0) (i 1)) (upGrad (gate m c (i 0) (i 1))) := by
  exact (W4_arr m ρ c 5).trans ((final1_5 (V3 m ρ) c).trans
    (funext fun i => congrArg₂ scaled (cot_eq m ρ c _ _) (congrFun (V3_v5_1 m ρ c) i)))

set_option backward.isDefEq.respectTransparency.types false in
/-- Every run ends with every array at its contents after the last call. -/
theorem run : θ_run defs (onTc (τ := τ) (main (F := Ideal))) ⟨m, fun _ => 0, ρ⟩
    (fun r => ∀ c : Dev nD, ∀ b ∈ Pipeline.ucRefs τ sig, r.2.mem (c, b) = W4 m ρ c b) :=
  RegionsRead.run_last pcfgs adm (pdats m ρ) cellOf_inj defs₀ m ρ main (segs m ρ) (main_run m ρ)
    (by simp only [segs, Pipeline.Seg.pipes_host, Pipeline.Seg.pipes_region, Pipeline.Seg.pipes_nil]; decide) (W4 m ρ)
    ⟨fun _ => .rfl, fun _ => .rfl, fun _ => .rfl, fun _ => .rfl, fun _ => .rfl⟩

end Cert.SwigluKernel

end
-- ==== Proof.SwigluRef.lean ====
module

public import proofs.«01_k».proof.Proof.Gen.RSwigluIdeal.Run
public import proofs.«01_k».proof.Proof.Gen.RSwigluIdeal.Read
public import proofs.«01_k».proof.Proof.SwigluKernel
public import proofs.«01_k».proof.Proof.Reals

@[expose] public section

set_option maxRecDepth 16384

noncomputable section

/- The reference of the SwiGLU's gradient entry by entry, and that it is what the kernel computes. -/
namespace Cert.SwigluRef

open Idealize.ShloMosaic Idealize.ShloMosaic.TcCoe Idealize.SL.Sem
open Cert.Reals Cert.RSwigluIdeal Cert.RSwigluIdeal.Read

variable (h : S4096x1024.Idx → EReal) (wg wu : S1024x2816.Idx → EReal) (wd : S2816x1024.Idx → EReal) (dy : S4096x1024.Idx → EReal) (i : Fin 4096) (k : Fin 2816)

/-- The cotangent's product with the transposed weights, halved term by term. -/
theorem half_dotT : (∑ x : Fin 1024, Ideal.ofBits .f32 0x3F000000#32 * dy (ix2 i x) * wd (ix2 k x)) = ((1 / 2 : ℝ) : EReal) * dotT dy wd i k := by
  rw [dotT, mul_sum_of_nonneg _ _ (by norm_num), half_f32]
  exact Finset.sum_congr rfl fun x _ => mul_assoc _ _ _

/-- The reference's activation. -/
theorem s_apply : val_main_v15 (F := Ideal) h wg wu (ix2 i k) = SwigluKernel.act (dot h wg i k) (dot h wu i k) := by
  pointwise! [val_main_v0, val_main_v1, val_main_call0_v0, val_main_call0_v1, val_main_call0_cst, val_main_call0_v2, val_main_call0_v3, val_main_call0_cst_0, val_main_call0_v4, val_main_call0_v5, val_main_v2, val_main_v3, val_main_call1_v0, val_main_call1_v1, val_main_call1_cst, val_main_call1_v2, val_main_call1_v3, val_main_call1_cst_0, val_main_call1_v4, val_main_v4_2, val_main_call1_cst_1, val_main_call1_v6, val_main_call1_v7, val_main_v4_1, val_main_v4_0, val_main_v5, val_main_v6, val_main_cst, val_main_v7, val_main_v8, val_main_cst_0, val_main_v9, val_main_v10, val_main_v11, val_main_v12, val_main_v13, val_main_call2_v0, val_main_call2_v1, val_main_call2_v2, val_main_v14, val_main_v15, val_main_v16, val_main_v17]

theorem da_apply : val_main_v16 (F := Ideal) h wg wu wd dy (ix2 i k) =
    ((1 / 2 : ℝ) : EReal) * dotT dy wd i k * dot h wu i k * sg (dot h wg i k)
      + dot h wg i k * (((1 / 2 : ℝ) : EReal) * dotT dy wd i k * dot h wu i k) * (sg (dot h wg i k) * (1 - sg (dot h wg i k))) := by
  rw [← half_dotT]
  pointwise! [val_main_v0, val_main_v1, val_main_call0_v0, val_main_call0_v1, val_main_call0_cst, val_main_call0_v2, val_main_call0_v3, val_main_call0_cst_0, val_main_call0_v4, val_main_call0_v5, val_main_v2, val_main_v3, val_main_call1_v0, val_main_call1_v1, val_main_call1_cst, val_main_call1_v2, val_main_call1_v3, val_main_call1_cst_0, val_main_call1_v4, val_main_v4_2, val_main_call1_cst_1, val_main_call1_v6, val_main_call1_v7, val_main_v4_1, val_main_v4_0, val_main_v5, val_main_v6, val_main_cst, val_main_v7, val_main_v8, val_main_cst_0, val_main_v9, val_main_v10, val_main_v11, val_main_v12, val_main_v13, val_main_call2_v0, val_main_call2_v1, val_main_call2_v2, val_main_v14, val_main_v15, val_main_v16, val_main_v17]

theorem db_apply : val_main_v17 (F := Ideal) h wg wd dy (ix2 i k) = SwigluKernel.scaled (dotT dy wd i k) (SwigluKernel.upGrad (dot h wg i k)) := by
  trans (dot h wg i k * sg (dot h wg i k)) * (((1 / 2 : ℝ) : EReal) * dotT dy wd i k)
  · rw [← half_dotT]
    pointwise! [val_main_v0, val_main_v1, val_main_call0_v0, val_main_call0_v1, val_main_call0_cst, val_main_call0_v2, val_main_call0_v3, val_main_call0_cst_0, val_main_call0_v4, val_main_call0_v5, val_main_v2, val_main_v3, val_main_call1_v0, val_main_call1_v1, val_main_call1_cst, val_main_call1_v2, val_main_call1_v3, val_main_call1_cst_0, val_main_call1_v4, val_main_v4_2, val_main_call1_cst_1, val_main_call1_v6, val_main_call1_v7, val_main_v4_1, val_main_v4_0, val_main_v5, val_main_v6, val_main_cst, val_main_v7, val_main_v8, val_main_cst_0, val_main_v9, val_main_v10, val_main_v11, val_main_v12, val_main_v13, val_main_call2_v0, val_main_call2_v1, val_main_call2_v2, val_main_v14, val_main_v15, val_main_v16, val_main_v17]
  · rw [SwigluKernel.scaled, SwigluKernel.upGrad]; ac_rfl

end Cert.SwigluRef

end
-- ==== Proof.SwigluEq.lean ====
module

public import proofs.«01_k».proof.Proof.SwigluRef
public import proofs.«01_k».proof.Defs

@[expose] public section

set_option maxRecDepth 16384

noncomputable section

/- The SwiGLU's gradient: the kernel's run and the reference's run end with the same three results. -/
namespace Cert.SwigluEq

open Idealize.ShloMosaic Idealize.ShloMosaic.TcCoe Idealize.SL.Sem
open Cert.Reals

/-- The derivative by the gate's product, factored or as the two summands of the product rule: any gate, a finite
    cotangent and a finite up product. -/
theorem gateGrad_eq (a d b : EReal) (hd : IsReal d) (hb : IsReal b) :
    SwigluKernel.scaled d (SwigluKernel.gateGrad a b)
      = ((1 / 2 : ℝ) : EReal) * d * b * sg a + a * (((1 / 2 : ℝ) : EReal) * d * b) * (sg a * (1 - sg a)) := by
  obtain ⟨d, rfl⟩ := hd
  obtain ⟨b, rfl⟩ := hb
  have one : (1 : EReal) - 1 = 0 := by rw [← EReal.coe_one, ← EReal.coe_sub, sub_self, EReal.coe_zero]
  rw [SwigluKernel.scaled, SwigluKernel.gateGrad]
  induction a using EReal.rec with
  | bot => simp [sg_bot]
  | top => simp [sg_top, one, mul_comm]
  | coe r =>
    rw [sg_coe]
    generalize (1 + Real.exp (-r))⁻¹ = s
    norm_cast
    congr 1
    ring

/-- The side conditions that the precondition's own operations take. -/
instance preFacts : Cert.Pre_finite_swiglu.Facts where
  bcast_S_S4096x1024 := by decide
  reducesTo_S4096x1024_S_d0_1 := by decide
  h_S_ := by decide
  bcast_S_S1024x2816 := by decide
  reducesTo_S1024x2816_S_d0_1 := by decide
  bcast_S_S2816x1024 := by decide
  reducesTo_S2816x1024_S_d0_1 := by decide

/-- The precondition read entry by entry. -/
theorem finite (m : (ℓ : Loc KSwigluIdeal.nD KSwigluIdeal.τ KSwigluIdeal.sig) → Buf (Elt Ideal) ℓ) [Pre_finite_swiglu.Facts]
    (h : Pre_KSwigluIdeal_finite_swiglu m) (c : Dev KSwigluIdeal.nD) :
    (∀ i, IsReal (m ((c.tc : Thread KSwigluIdeal.nD KSwigluIdeal.τ).loc KSwigluIdeal.main_arg0) i))
    ∧ (∀ i, IsReal (m ((c.tc : Thread KSwigluIdeal.nD KSwigluIdeal.τ).loc KSwigluIdeal.main_arg2) i))
    ∧ (∀ i, IsReal (m ((c.tc : Thread KSwigluIdeal.nD KSwigluIdeal.τ).loc KSwigluIdeal.main_arg3) i))
    ∧ (∀ i, IsReal (m ((c.tc : Thread KSwigluIdeal.nD KSwigluIdeal.τ).loc KSwigluIdeal.main_arg4) i)) := by
  have e := congrFun (h c) (fun i => i.elim0)
  obtain ⟨e, e4⟩ := IntOp.andi_eq_one.1 e
  obtain ⟨e, e3⟩ := IntOp.andi_eq_one.1 e
  obtain ⟨e1, e2⟩ := IntOp.andi_eq_one.1 e
  exact ⟨isReal_of_all _ _ _ _ _ e1, isReal_of_all _ _ _ _ _ e2, isReal_of_all _ _ _ _ _ e3, isReal_of_all _ _ _ _ _ e4⟩

set_option maxHeartbeats 1000000 in
/-- From argument arrays that agree, the kernel and the reference end with the same three results. -/
theorem algebraic : Cert.algebraic_KSwigluIdeal_RSwigluIdeal_pre_finite_swiglu (hKSwigluIdeal := Cert.KSwigluIdeal.Gen.facts)
    (hRSwigluIdeal := Cert.RSwigluIdeal.Gen.facts) (hPre_finite_swiglu := preFacts) := by
  intro m g m' g' hpre hargs
  refine ⟨fun c => KSwigluIdeal.Gen.W4 m g c (Proc.devRef .tc KSwigluIdeal.main_v5_2), fun c => KSwigluIdeal.Gen.W4 m g c (Proc.devRef .tc KSwigluIdeal.main_v8_0),
    fun c => KSwigluIdeal.Gen.W4 m g c (Proc.devRef .tc KSwigluIdeal.main_v8_1), (θ_run _ _ _).mono (fun r h c => ?_) (SwigluKernel.run m g),
    (θ_run _ _ _).mono (fun r h c => ?_) (RSwigluIdeal.Value.run (F := Ideal) m' g')⟩
  · exact ⟨h c _ (KSwigluIdeal.Gen.mem_uc _ (by decide)), h c _ (KSwigluIdeal.Gen.mem_uc _ (by decide)), h c _ (KSwigluIdeal.Gen.mem_uc _ (by decide)),
      (h c _ (KSwigluIdeal.Gen.mem_uc _ (by decide))).trans (KSwigluIdeal.Gen.W4_args m g c _ (by decide)),
      (h c _ (KSwigluIdeal.Gen.mem_uc _ (by decide))).trans (KSwigluIdeal.Gen.W4_args m g c _ (by decide)),
      (h c _ (KSwigluIdeal.Gen.mem_uc _ (by decide))).trans (KSwigluIdeal.Gen.W4_args m g c _ (by decide)),
      (h c _ (KSwigluIdeal.Gen.mem_uc _ (by decide))).trans (KSwigluIdeal.Gen.W4_args m g c _ (by decide)),
      (h c _ (KSwigluIdeal.Gen.mem_uc _ (by decide))).trans (KSwigluIdeal.Gen.W4_args m g c _ (by decide))⟩
  · obtain ⟨a0, a1, a2, a3, a4⟩ := hargs c
    obtain ⟨f0, f2, f3, f4⟩ := finite m hpre c
    obtain ⟨h0, h1, h2, hr⟩ := h c
    refine ⟨h0.trans ?_, h1.trans ?_, h2.trans ?_, hr⟩
    · rw [a0, a1, a2]
      refine Eq.trans (funext fun j => ?_) (SwigluKernel.W4_v5_2 m g c).symm
      rw [eq_ix2 j]
      exact SwigluRef.s_apply _ _ _ _ _
    · rw [a0, a1, a2, a3, a4]
      refine Eq.trans (funext fun j => ?_) (SwigluKernel.W4_v8_0 m g c).symm
      rw [eq_ix2 j]
      exact (SwigluRef.da_apply _ _ _ _ _ _ _).trans (gateGrad_eq _ _ _ (IsReal.dotT f4 f3 _ _) (IsReal.dot f0 f2 _ _)).symm
    · rw [a0, a1, a3, a4]
      refine Eq.trans (funext fun j => ?_) (SwigluKernel.W4_v8_1 m g c).symm
      rw [eq_ix2 j]
      exact SwigluRef.db_apply _ _ _ _ _ _

end Cert.SwigluEq

end
-- ==== Proof.Norm.lean ====
module

public import proofs.«01_k».proof.Proof.Reals

@[expose] public section

set_option maxRecDepth 16384

noncomputable section

/- The root-mean-square norm's gradient: the kernel's factored form of a row and the chain rule's three summands are
   one, for every extended real. -/
namespace Cert.Norm

open Idealize.ShloMosaic
open Cert.Reals
open scoped BigOperators

/-- The f32 words of 1024, of its inverse and a half of that, of minus one half and two. -/
theorem w1024 : Ideal.ofBits .f32 0x44800000#32 = ((1024 : ℝ) : EReal) := by simp [Ideal.ofBits, Ideal.ieee, -EReal.coe_mul]; norm_num
theorem inv1024 : Ideal.ofBits .f32 0x3A800000#32 = ((1 / 1024 : ℝ) : EReal) := by simp [Ideal.ofBits, Ideal.ieee, -EReal.coe_mul]; norm_num
theorem inv2048 : Ideal.ofBits .f32 0x3A000000#32 = ((1 / 2048 : ℝ) : EReal) := by simp [Ideal.ofBits, Ideal.ieee, -EReal.coe_mul]; norm_num
theorem negHalf : Ideal.ofBits .f32 0xBF000000#32 = ((-(1 / 2) : ℝ) : EReal) := by simp [Ideal.ofBits, Ideal.ieee, -EReal.coe_mul]; norm_num
theorem two : Ideal.ofBits .f32 0x40000000#32 = ((2 : ℝ) : EReal) := by simp [Ideal.ofBits, Ideal.ieee, -EReal.coe_mul]; norm_num
theorem eps : ∃ e : ℝ, 0 < e ∧ Ideal.ofBits .f32 0x358637BD#32 = (e : EReal) := by
  refine ⟨_, ?_, by simp [Ideal.ofBits, Ideal.ieee, -EReal.coe_mul]; rfl⟩
  norm_num

theorem div1024 (x : EReal) : Ideal.div x (Ideal.ofBits .f32 0x44800000#32) = x * ((1 / 1024 : ℝ) : EReal) := by
  rw [w1024, Ideal.div_coe (by norm_num)]

/-- A row of a matrix. -/
abbrev row {M N : ℕ} (x : (⟨2, ![M, N]⟩ : Shape).Idx → EReal) (i : Fin M) : Fin N → EReal := fun k => x (ix2 i k)

/-- The mean square of a row, with the constant that keeps it from zero. -/
def ms {n : ℕ} (y : Fin n → EReal) : EReal := Ideal.div (∑ k, y k * y k) (Ideal.ofBits .f32 0x44800000#32) + Ideal.ofBits .f32 0x358637BD#32
def rstd {n : ℕ} (y : Fin n → EReal) : EReal := Ideal.rsqrt (ms y)

theorem sq_nonneg (x : EReal) : 0 ≤ x * x := by
  induction x using EReal.rec with
  | bot => simp
  | top => simp
  | coe r => rw [← EReal.coe_mul]; exact_mod_cast mul_self_nonneg r

/-- It is infinite or a positive real. -/
theorem ms_cases {n : ℕ} (y : Fin n → EReal) : ms y = ⊤ ∨ ∃ q : ℝ, 0 < q ∧ ms y = (q : EReal) := by
  obtain ⟨e, he, eq⟩ := eps
  have h : 0 ≤ Ideal.div (∑ k, y k * y k) (Ideal.ofBits .f32 0x44800000#32) := by
    rw [div1024]
    exact mul_nonneg (Finset.sum_nonneg fun k _ => sq_nonneg _) (by exact_mod_cast (by norm_num : (0 : ℝ) ≤ 1 / 1024))
  rw [ms, eq]
  generalize Ideal.div (∑ k, y k * y k) (Ideal.ofBits .f32 0x44800000#32) = s at h ⊢
  induction s using EReal.rec with
  | bot => simp at h
  | top => exact .inl (EReal.top_add_coe e)
  | coe r => exact .inr ⟨r + e, by have : 0 ≤ r := by exact_mod_cast h
                                   linarith, by rw [EReal.coe_add]⟩

theorem double (u : EReal) (b : ℝ) : u * (b : EReal) + u * (b : EReal) = u * ((2 * b : ℝ) : EReal) := by
  rw [← two_nsmul, EReal.nsmul_eq_mul, EReal.coe_mul]
  exact mul_left_comm _ _ _

/-- The row of the gradient as the kernel writes it, from the row `a` of the cotangent times the gain. -/
def back {n : ℕ} (y a : Fin n → EReal) (k : Fin n) : EReal :=
  rstd y * (a k - y k * rstd y * Ideal.div (∑ l, a l * (y l * rstd y)) (Ideal.ofBits .f32 0x44800000#32))
/-- The factor of the row in the two summands that come through the mean square. -/
def coef {n : ℕ} (y a : Fin n → EReal) : EReal :=
  Ideal.div ((∑ l, y l * a l) * (Ideal.ofBits .f32 0xBF000000#32 * Ideal.div (rstd y) (ms y))) (Ideal.ofBits .f32 0x44800000#32)

theorem back_eq {n : ℕ} (y a : Fin n → EReal) (k : Fin n) : back y a k = a k * rstd y + y k * coef y a + coef y a * y k := by
  rw [back, coef, rstd]
  rcases ms_cases y with h | ⟨q, hq, h⟩
  · rw [h, div1024, div1024]
    simp [Ideal.div]
  · rw [h, negHalf, div1024, div1024, Ideal.div_coe hq.ne', Ideal.rsqrt_coe, if_neg hq.not_gt, if_neg hq.ne']
    have hr : (Real.sqrt q)⁻¹ * (Real.sqrt q)⁻¹ = 1 / q := by
      rw [← mul_inv, Real.mul_self_sqrt hq.le, one_div]
    have h0 : 0 ≤ (Real.sqrt q)⁻¹ := by positivity
    generalize (Real.sqrt q)⁻¹ = r at hr h0
    rw [← hr]
    have hS : ∑ l, a l * (y l * (r : EReal)) = (r : EReal) * ∑ l, y l * a l := by
      rw [mul_sum_of_nonneg _ _ h0]
      exact Finset.sum_congr rfl fun l _ => by ac_rfl
    rw [hS]
    generalize (∑ l, y l * a l) = S
    rw [sub_eq_add_neg, EReal.left_distrib_of_nonneg_of_ne_top (by exact_mod_cast h0) (EReal.coe_ne_top r)]
    have e1 : (r : EReal) * -(y k * (r : EReal) * ((r : EReal) * S * ((1 / 1024 : ℝ) : EReal))) = y k * S * ((2 * (-(1 / 2) * (r * (r * r)) * (1 / 1024)) : ℝ) : EReal) := by
      rw [show (2 * (-(1 / 2) * (r * (r * r)) * (1 / 1024)) : ℝ) = -(r * (r * r) * (1 / 1024)) by ring, EReal.coe_neg, mul_neg, mul_neg]
      simp only [EReal.coe_mul]
      congr 1
      ac_rfl
    have e2 : y k * (S * (((-(1 / 2) : ℝ) : EReal) * ((r : EReal) * ((r * r : ℝ) : EReal))) * ((1 / 1024 : ℝ) : EReal))
        = y k * S * ((-(1 / 2) * (r * (r * r)) * (1 / 1024) : ℝ) : EReal) := by
      simp only [EReal.coe_mul]
      ac_rfl
    rw [add_assoc, mul_comm (S * _ * _) (y k), e2, double, mul_comm (r : EReal) (a k)]
    congr 1

/-- The cotangent `d` of a norm's output taken back to its input `y` under the gain `g`, added to `r`; and its summand
    of the gain's gradient. -/
def through {n : ℕ} (y g d r : Fin n → EReal) (k : Fin n) : EReal := r k + back y (fun l => d l * g l) k
def share {n : ℕ} (y d : Fin n → EReal) (k : Fin n) : EReal := d k * (y k * rstd y)

theorem through_eq {n : ℕ} (y g d r : Fin n → EReal) (k : Fin n) : through y g d r k
    = r k + d k * g k * rstd y + y k * coef y (fun l => d l * g l) + coef y (fun l => d l * g l) * y k := by
  rw [through, back_eq, add_assoc, add_assoc, add_assoc]

/-- A row against the columns of a matrix. -/
def against {n N : ℕ} (p : Fin n → EReal) (W : (⟨2, ![n, N]⟩ : Shape).Idx → EReal) (k : Fin N) : EReal := ∑ l, p l * W (ix2 l k)

end Cert.Norm

end
-- ==== Proof.LossKernel.lean ====
module

public import proofs.«01_k».proof.Proof.Gen.KLossIdeal.Value
public import Idealize.ShloMosaic.Lib.Pipeline.ValueKit
public import proofs.«01_k».proof.Proof.Norm

@[expose] public section

set_option maxRecDepth 16384

noncomputable section

/- The loss over the last norm and its gradient: what the call leaves in its four results, as functions of its
   arguments. -/
namespace Cert.LossKernel

open Idealize.ShloMosaic Idealize.ShloMosaic.TcCoe Idealize.SL.Sem
open Idealize.ShloMosaic.Pipeline (Dat)
open Cert.Reals Cert.Norm Cert.KLossIdeal Cert.KLossIdeal.Gen

variable (m : (ℓ : Loc nD τ sig) → Buf (Elt Ideal) ℓ) (ρ : Dev nD → PrngReg)

/-- Where the windows' blocks stand. -/
theorem at0 : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![0, 0] :=
  (by decide +kernel : ∀ t : Fin grid0.N, _)

/-- From a row of the input, the gain and a row of the target: the errors, their share of the cotangent, the row of
    the input's gradient, the row's summand of the gain's gradient. -/
def err (y g z : Fin 1024 → EReal) (k : Fin 1024) : EReal := y k * rstd y * g k - z k
def dy (y g z : Fin 1024 → EReal) (k : Fin 1024) : EReal := err y g z k * ((1 / 1024 : ℝ) : EReal)
def dx (y g z : Fin 1024 → EReal) : Fin 1024 → EReal := back y fun k => dy y g z k * g k
def dgTerm (y g z : Fin 1024 → EReal) (k : Fin 1024) : EReal := dy y g z k * (y k * rstd y)
def sqErr (y g z : Fin 1024 → EReal) : EReal := ∑ k, err y g z k * err y g z k

theorem pay12 (x : Vec Ideal S512x1024 .f32) (g : Vec Ideal S1x1024 .f32) (z : Vec Ideal S512x1024 .f32) (i : Fin 512) (k : Fin 1024) :
    k0_pay12 x g z (ix2 i k) = dx (row x i) (row g 0) (row z i) k := by
  simp only [dx, dy, ← inv1024]
  pointwise! [k0_pay12, k0_pay11, k0_pay10, k0_pay9, k0_pay8, k0_pay7]
theorem pay15 (x : Vec Ideal S512x1024 .f32) (g : Vec Ideal S1x1024 .f32) (z : Vec Ideal S512x1024 .f32) (k : Fin 1024) :
    k0_pay15 x g z (ix1 k) = ∑ i : Fin 512, dgTerm (row x i) (row g 0) (row z i) k := by
  simp only [dgTerm, dy, ← inv1024]
  pointwise! [k0_pay15, k0_pay11, k0_pay10, k0_pay9, k0_pay8, k0_pay7]
theorem pay2 (x : Vec Ideal S512x1024 .f32) (g : Vec Ideal S1x1024 .f32) (z : Vec Ideal S512x1024 .f32) (j : S1x128.Idx) :
    k0_pay2 (k0_pay10 x g z) j = ((1 / 2048 : ℝ) : EReal) * ∑ i : Fin 512, sqErr (row x i) (row g 0) (row z i) := by
  rw [← inv2048, mul_comm]
  pointwise! [k0_pay2, k0_pay10, k0_pay9, k0_pay8, k0_pay7]

/-- The rows of the arrays that the call reads. -/
abbrev xs (c : Dev nD) (i : Fin 4096) : Fin 1024 → EReal := row (V m c main_arg0) i
abbrev gs (c : Dev nD) : Fin 1024 → EReal := row (V m c main_v0) 0
abbrev zs (c : Dev nD) (i : Fin 4096) : Fin 1024 → EReal := row (V m c main_arg2) i

/-- A point's blocks hold those rows. -/
theorem rows (c : Dev nD) (t : Fin cfg0.N) (i : Fin 512) (r : Fin 4096) (h : r.val = t.val * 512 + i.val) :
    row (iblk m c 0 t) i = xs m c r ∧ row (iblk m c 1 t) 0 = gs m c ∧ row (iblk m c 2 t) i = zs m c r := by
  have ⟨e0, e1, e2, e3, e4, e5, e6⟩ := at0 t
  refine ⟨funext fun k => ?_, funext fun k => ?_, funext fun k => ?_⟩
  · blk_simp [iblk, row]
    refine congrArg _ ?_; blk_ext [e0, h]
  · blk_simp [iblk, row]
    refine congrArg _ ?_; blk_ext [e1]
  · blk_simp [iblk, row]
    refine congrArg _ ?_; blk_ext [e2, h]

/-- What a point leaves in each output's block: rows of the gradient, and what the accumulated blocks gain. -/
theorem out3 (c : Dev nD) (t : Fin cfg0.N) (y : S512x1024.Idx) :
    (outsAt0 m c t.val t.isLt).1 y = k0_pay12 (iblk m c 0 t) (iblk m c 1 t) (iblk m c 2 t) y := by
  by_cases h : t.val % 8 = 0
  · rw [outsAt0_A m c t h (by have : t.val < 8 := t.isLt; omega)]
    frame_out
    pointwise! [k0_pay13]
  · rw [outsAt0_B m c t h (by omega)]
    frame_out
    pointwise! [k0_pay13]
theorem out4 (c : Dev nD) (t : Fin cfg0.N) (y : S512x1024.Idx) :
    (outsAt0 m c t.val t.isLt).2.1 y = k0_pay12 (iblk m c 0 t) (iblk m c 1 t) (iblk m c 2 t) y := by
  by_cases h : t.val % 8 = 0
  · rw [outsAt0_A m c t h (by have : t.val < 8 := t.isLt; omega)]
    frame_out
    pointwise! [k0_pay14]
  · rw [outsAt0_B m c t h (by omega)]
    frame_out
    pointwise! [k0_pay14]
/-- What a point adds to the gain's gradient and to the loss. -/
def part5 (c : Dev nD) (t : Fin cfg0.N) (j : S1x1024.Idx) : EReal :=
  ∑ i : Fin 512, dgTerm (row (iblk m c 0 t) i) (row (iblk m c 1 t) 0) (row (iblk m c 2 t) i) (j 1)
def part6 (c : Dev nD) (t : Fin cfg0.N) (_ : S1x128.Idx) : EReal :=
  ((1 / 2048 : ℝ) : EReal) * ∑ i : Fin 512, sqErr (row (iblk m c 0 t) i) (row (iblk m c 1 t) 0) (row (iblk m c 2 t) i)

theorem pay3 (v : FVec Ideal S1024 .f32) (j : S1x1024.Idx) : k0_pay3 v j = v (ix1 (j 1)) := by
  pointwise! [k0_pay3, k0_pay1]
theorem pay5 (v : FVec Ideal S1024 .f32) (u : Vec Ideal S1x1024 .f32) (j : S1x1024.Idx) : k0_pay5 v u j = u j + v (ix1 (j 1)) := by
  pointwise! [k0_pay5, k0_pay1]
theorem pay4 (v : FVec Ideal S512x1024 .f32) (j : S1x128.Idx) : k0_pay4 v j = k0_pay2 v j := by
  unfold k0_pay4
  exact congrFun (shapeCast_self ..) j
theorem pay6 (v : FVec Ideal S512x1024 .f32) (u : Vec Ideal S1x128 .f32) (j : S1x128.Idx) : k0_pay6 v u j = u j + k0_pay2 v j := by
  unfold k0_pay6
  exact congrFun (shapeCast_self ..) j
theorem out5_first (c : Dev nD) (t : Fin cfg0.N) (h : t.val % 8 = 0) (j : S1x1024.Idx) :
    (outsAt0 m c t.val t.isLt).2.2.1 j = 0 + part5 m c t j := by
  rw [outsAt0_A m c t h (by have : t.val < 8 := t.isLt; omega)]
  frame_out
  rw [zero_add]
  exact (pay3 ..).trans (pay15 ..)
theorem out5_next (c : Dev nD) (t : Fin cfg0.N) (h : ¬t.val % 8 = 0) (j : S1x1024.Idx) :
    (outsAt0 m c t.val t.isLt).2.2.1 j
      = (outsAt0 m c (t.val - 1) (Nat.lt_of_le_of_lt (Nat.sub_le _ _) t.isLt)).2.2.1 j + part5 m c t j := by
  rw [outsAt0_B m c t h (by omega)]
  frame_out
  rw [pay5]
  exact congrArg _ (pay15 ..)
theorem out6_first (c : Dev nD) (t : Fin cfg0.N) (h : t.val % 8 = 0) (j : S1x128.Idx) :
    (outsAt0 m c t.val t.isLt).2.2.2 j = 0 + part6 m c t j := by
  rw [outsAt0_A m c t h (by have : t.val < 8 := t.isLt; omega)]
  frame_out
  rw [zero_add]
  exact (pay4 ..).trans (pay2 ..)
theorem out6_next (c : Dev nD) (t : Fin cfg0.N) (h : ¬t.val % 8 = 0) (j : S1x128.Idx) :
    (outsAt0 m c t.val t.isLt).2.2.2 j
      = (outsAt0 m c (t.val - 1) (Nat.lt_of_le_of_lt (Nat.sub_le _ _) t.isLt)).2.2.2 j + part6 m c t j := by
  rw [outsAt0_B m c t h (by omega)]
  frame_out
  rw [pay6, pay2]
  rfl

theorem final0_3 (c : Dev nD) : (dats m 0 c).arrAt 3 cfg0.N = fun i => dx (xs m c (i 0)) (gs m c) (zs m c (i 0)) (i 1) := by
  refine (dats m 0 c).arrAt_eq_of_covers 3 _ (by decide +kernel) fun t hf y => ?_
  have ⟨e0, e1, e2, e3, e4, e5, e6⟩ := at0 t
  obtain ⟨h0, h1, h2⟩ := rows m c t (y 0) (((View.whole main_v1_0).slice (win0_3.rect t)).emb y 0) (by blk_simp [e3])
  blk_simp
  rw [after0_3]
  refine (out3 m c t y).trans ?_
  rw [eq_ix2 y]
  refine (pay12 ..).trans ?_
  rw [h0, h1, h2]
  refine congrArg _ (Fin.ext ?_)
  blk_simp [e3]
theorem final0_4 (c : Dev nD) : (dats m 0 c).arrAt 4 cfg0.N = fun i => dx (xs m c (i 0)) (gs m c) (zs m c (i 0)) (i 1) := by
  refine (dats m 0 c).arrAt_eq_of_covers 4 _ (by decide +kernel) fun t hf y => ?_
  have ⟨e0, e1, e2, e3, e4, e5, e6⟩ := at0 t
  obtain ⟨h0, h1, h2⟩ := rows m c t (y 0) (((View.whole main_v1_1).slice (win0_4.rect t)).emb y 0) (by blk_simp [e4])
  blk_simp
  rw [after0_4]
  refine (out4 m c t y).trans ?_
  rw [eq_ix2 y]
  refine (pay12 ..).trans ?_
  rw [h0, h1, h2]
  refine congrArg _ (Fin.ext ?_)
  blk_simp [e4]

theorem t_last : (7 : ℕ) < cfg0.N := by decide +kernel

theorem final0_5 (c : Dev nD) :
    (dats m 0 c).arrAt 5 cfg0.N = fun i => ∑ r : Fin 4096, dgTerm (xs m c r) (gs m c) (zs m c r) (i 1) := by
  refine (dats m 0 c).arrAt_eq_of_after_last 5 ⟨7, t_last⟩ (by decide +kernel) _ fun j => ?_
  have ⟨e0, e1, e2, e3, e4, e5, e6⟩ := at0 ⟨7, t_last⟩
  rw [after0_5, Pipeline.eq_sum_fin_of_reset_step_apply_last (fun n h => (outsAt0 m c n h).2.2.1) 8 (fun _ => 0) (part5 m c)
    (out5_first m c) (out5_next m c) (by decide +kernel) ⟨7, t_last⟩ rfl]
  refine (cast_eq ..).trans ((zero_add (M := EReal) _).trans (Fin.sum_mul_add_congr (S := 8) (n := 512) fun s i hl => ?_))
  obtain ⟨h0, h1, h2⟩ := rows m c s i ⟨s.val * 512 + i.val, hl⟩ rfl
  rw [h0, h1, h2]
  refine congrArg _ (Fin.ext ?_)
  blk_simp [e5]
theorem final0_6 (c : Dev nD) :
    (dats m 0 c).arrAt 6 cfg0.N = fun _ => ((1 / 2048 : ℝ) : EReal) * ∑ r : Fin 4096, sqErr (xs m c r) (gs m c) (zs m c r) := by
  refine (dats m 0 c).arrAt_eq_of_after_last 6 ⟨7, t_last⟩ (by decide +kernel) _ fun j => ?_
  have ⟨e0, e1, e2, e3, e4, e5, e6⟩ := at0 ⟨7, t_last⟩
  rw [after0_6, Pipeline.eq_sum_fin_of_reset_step_apply_last (fun n h => (outsAt0 m c n h).2.2.2) 8 (fun _ => 0) (part6 m c)
    (out6_first m c) (out6_next m c) (by decide +kernel) ⟨7, t_last⟩ rfl]
  refine (cast_eq ..).trans ((zero_add (M := EReal) _).trans ?_)
  unfold part6
  rw [← Reals.mul_sum_of_nonneg _ _ (by norm_num)]
  refine congrArg (_ * ·) (Fin.sum_mul_add_congr (S := 8) (n := 512) fun s i hl => ?_)
  obtain ⟨h0, h1, h2⟩ := rows m c s i ⟨s.val * 512 + i.val, hl⟩ rfl
  rw [h0, h1, h2]

/-- The gain as the call reads it is the gain given. -/
theorem gs_eq (c : Dev nD) (k : Fin 1024) : gs m c k = m ((c : Thread nD τ).loc main_arg1) (ix1 k) := by
  show StableHlo.after hostOps0 _ _ _ = _
  after_results_simp
  pointwise! []

end Cert.LossKernel

end
-- ==== Proof.LossRef.lean ====
module

public import proofs.«01_k».proof.Proof.Gen.RLossIdeal.Run
public import proofs.«01_k».proof.Proof.Gen.RLossIdeal.Read
public import proofs.«01_k».proof.Proof.LossKernel

@[expose] public section

set_option maxRecDepth 16384

noncomputable section

/- The reference of the loss and its gradient, entry by entry. -/
namespace Cert.LossRef

open Idealize.ShloMosaic Idealize.ShloMosaic.TcCoe Idealize.SL.Sem
open Cert.Reals Cert.Norm Cert.RLossIdeal Cert.RLossIdeal.Read
open Cert.LossKernel (err dy dx dgTerm sqErr)

variable (x : S4096x1024.Idx → EReal) (g : S1024.Idx → EReal) (z : S4096x1024.Idx → EReal) (i : Fin 4096) (k : Fin 1024)

/-- The gain along a row. -/
abbrev gain : Fin 1024 → EReal := fun k => g (ix1 k)

theorem one_f32 : Ideal.ofBits .f32 0x3F800000#32 = ((1 : ℝ) : EReal) := by simp [Ideal.ofBits, Ideal.ieee, -EReal.coe_mul]; norm_num

/-- Half of the mean's factor times the square's factor two is the mean's factor. -/
theorem scale (e : EReal) : Ideal.div (Ideal.ofBits .f32 0x3F000000#32 * Ideal.ofBits .f32 0x3F800000#32) (Ideal.ofBits .f32 0x44800000#32)
    * (Ideal.ofBits .f32 0x40000000#32 * e) = e * ((1 / 1024 : ℝ) : EReal) := by
  rw [div1024, half_f32, one_f32, two, ← EReal.coe_mul, ← EReal.coe_mul, ← mul_assoc, ← EReal.coe_mul, mul_comm]
  norm_num

theorem err_apply : val_main_v16 (F := Ideal) x g z (ix2 i k) = err (row x i) (gain g) (row z i) k := by
  pointwise! [val_main_v16, val_main_v15, val_main_v12, val_main_v11, val_main_v7, val_main_v6, val_main_v4, val_main_v2, val_main_v1, val_main_v0, val_main_cst, val_main_v3, val_main_cst_0, val_main_v5, val_main_cst_1, val_main_v14, val_main_v13]

theorem dy_apply : val_main_v30 (F := Ideal) x g z (ix2 i k) = dy (row x i) (gain g) (row z i) k := by
  rw [dy, ← scale, ← err_apply]
  pointwise! [val_main_v30, val_main_v29, val_main_v28, val_main_v26, val_main_v25, val_main_cst_8, val_main_cst_9, val_main_v27, val_main_cst_10, val_main_v19, val_main_v18, val_main_cst_3]

theorem back_apply : val_main_v50 (F := Ideal) x g z (ix2 i k) = dx (row x i) (gain g) (row z i) k := by
  have h : ∀ l, val_main_v35 (F := Ideal) x g z (ix2 i l) = dy (row x i) (gain g) (row z i) l * gain g l := fun l => by
    rw [← dy_apply]
    pointwise! [val_main_v35, val_main_v34, val_main_v13]
  rw [dx, back_eq]
  simp only [coef, ← h]
  pointwise! [val_main_v50, val_main_v48, val_main_v41, val_main_v40, val_main_v47, val_main_v49, val_main_v46, val_main_v45, val_main_v44, val_main_v42, val_main_v39, val_main_v38, val_main_v37, val_main_cst_13, val_main_v10, val_main_v9, val_main_cst_2, val_main_v8, val_main_v7, val_main_v6, val_main_v4, val_main_v2, val_main_v1, val_main_v0, val_main_cst, val_main_v3, val_main_cst_0, val_main_v5, val_main_cst_1, val_main_v43, val_main_cst_14, val_main_cst_15]
  simp only [Fin.sum_univ_one]
  rfl

theorem dg_apply (j : S1x1024.Idx) : val_main_v52 (F := Ideal) x g z j = ∑ i : Fin 4096, dgTerm (row x i) (gain g) (row z i) (j 1) := by
  pointwise! [val_main_v52, val_main_v36, val_main_v33, val_main_v32, val_main_v31, val_main_v12, val_main_v11, val_main_v7, val_main_v6, val_main_v4, val_main_v2, val_main_v1, val_main_v0, val_main_cst, val_main_v3, val_main_cst_0, val_main_v5, val_main_cst_1, val_main_cst_11, val_main_cst_12]
  simp only [Fin.sum_univ_one]
  exact Finset.sum_congr rfl fun i _ => (mul_comm _ _).trans (congrArg (· * _) (dy_apply ..))

theorem loss_apply (j : S1x128.Idx) : val_main_v53 (F := Ideal) x g z j = ((1 / 2048 : ℝ) : EReal) * ∑ i : Fin 4096, sqErr (row x i) (gain g) (row z i) := by
  have h : val_main_v53 (F := Ideal) x g z j = Ideal.ofBits .f32 0x3F000000#32 * ∑ i : Fin 4096, Ideal.div (∑ k : Fin 1024, val_main_v16 (F := Ideal) x g z (ix2 i k) * val_main_v16 (F := Ideal) x g z (ix2 i k)) (Ideal.ofBits .f32 0x44800000#32) := by
    pointwise! [val_main_v53, val_main_v24, val_main_cst_7, val_main_v23, val_main_v22, val_main_v20, val_main_v17, val_main_cst_4, val_main_v21, val_main_cst_5, val_main_cst_6]
  rw [h]
  simp only [err_apply, div1024]
  rw [half_f32, show ((1 / 2048 : ℝ) : EReal) = ((1 / 2 : ℝ) : EReal) * ((1 / 1024 : ℝ) : EReal) by rw [← EReal.coe_mul]; norm_num, mul_assoc,
    mul_sum_of_nonneg _ _ (by norm_num : (0 : ℝ) ≤ 1 / 1024)]
  exact congrArg (_ * ·) (Finset.sum_congr rfl fun i _ => mul_comm _ _)

end Cert.LossRef

end
-- ==== Proof.LossEq.lean ====
module

public import proofs.«01_k».proof.Proof.LossRef
public import proofs.«01_k».proof.Defs

@[expose] public section

set_option maxRecDepth 16384

noncomputable section

/- The loss and its gradient: the kernel's run and the reference's run end with the same four results. -/
namespace Cert.LossEq

open Idealize.ShloMosaic Idealize.ShloMosaic.TcCoe Idealize.SL.Sem
open Cert.Norm Cert.LossKernel

set_option maxHeartbeats 1000000 in
/-- From argument arrays that agree, the kernel and the reference end with the same four results. -/
theorem algebraic : Cert.algebraic_KLossIdeal_RLossIdeal (hKLossIdeal := Cert.KLossIdeal.Gen.facts) (hRLossIdeal := Cert.RLossIdeal.Gen.facts) := by
  intro m g m' g' _ hargs
  refine ⟨fun c => (KLossIdeal.Gen.dats m 0 c).arrAt 3 KLossIdeal.cfg0.N, fun c => (KLossIdeal.Gen.dats m 0 c).arrAt 4 KLossIdeal.cfg0.N,
    fun c => (KLossIdeal.Gen.dats m 0 c).arrAt 5 KLossIdeal.cfg0.N, fun c => (KLossIdeal.Gen.dats m 0 c).arrAt 6 KLossIdeal.cfg0.N,
    KLossIdeal.Value.run_blocks m g, (θ_run _ _ _).mono (fun r h c => ?_) (RLossIdeal.Value.run (F := Ideal) m' g')⟩
  obtain ⟨a0, a1, a2⟩ := hargs c
  obtain ⟨h0, h1, h2, h3, hr⟩ := h c
  have hx : xs m c = row (m ((c : Thread KLossIdeal.nD KLossIdeal.τ).loc KLossIdeal.main_arg0)) := congrArg row (KLossIdeal.Gen.V_main_arg0 m c)
  have hz : zs m c = row (m ((c : Thread KLossIdeal.nD KLossIdeal.τ).loc KLossIdeal.main_arg2)) := congrArg row (KLossIdeal.Gen.V_main_arg2 m c)
  have hg : gs m c = LossRef.gain (m ((c : Thread KLossIdeal.nD KLossIdeal.τ).loc KLossIdeal.main_arg1)) := funext (gs_eq m c)
  refine ⟨h0.trans ?_, h1.trans ?_, h2.trans ?_, h3.trans ?_, hr⟩
  · unfold RLossIdeal.Value.res_main_v50
    rw [a0, a1, a2]
    refine Eq.trans ?_ (final0_3 m c).symm
    rw [hx, hz, hg]
    exact funext fun j => (congrArg _ (eq_ix2 j)).trans (LossRef.back_apply _ _ _ _ _)
  · unfold RLossIdeal.Value.res_main_v51
    rw [a0, a1, a2]
    refine Eq.trans ?_ (final0_4 m c).symm
    rw [hx, hz, hg]
    exact funext fun j => (congrArg _ (eq_ix2 j)).trans (LossRef.back_apply _ _ _ _ _)
  · rw [a0, a1, a2]
    refine Eq.trans ?_ (final0_5 m c).symm
    rw [hx, hz, hg]
    exact funext fun j => LossRef.dg_apply _ _ _ j
  · rw [a0, a1, a2]
    refine Eq.trans ?_ (final0_6 m c).symm
    rw [hx, hz, hg]
    exact funext fun j => LossRef.loss_apply _ _ _ j

end Cert.LossEq

end
-- ==== Proof.DffnKernel.lean ====
module

public import proofs.«01_k».proof.Proof.Gen.KDffnIdeal.Value
public import Idealize.ShloMosaic.Lib.Pipeline.ValueKit
public import proofs.«01_k».proof.Proof.Norm

@[expose] public section

set_option maxRecDepth 16384

noncomputable section

/- The feed-forward block's two products joined with the norm's gradient: what the call leaves in its three results,
   as functions of its arguments. -/
namespace Cert.DffnKernel

open Idealize.ShloMosaic Idealize.ShloMosaic.TcCoe Idealize.SL.Sem
open Idealize.ShloMosaic.Pipeline (Dat)
open Cert.Reals Cert.Norm Cert.KDffnIdeal Cert.KDffnIdeal.Gen

variable (m : (ℓ : Loc nD τ sig) → Buf (Elt Ideal) ℓ) (ρ : Dev nD → PrngReg)

/-- Where the windows' blocks stand. -/
theorem at0 : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0]
    ∧ win0_8.index t = ![t.val, 0] ∧ win0_9.index t = ![0, 0] :=
  (by decide +kernel : ∀ t : Fin grid0.N, _)

/-- A row of the norm's output's cotangent: two rows, each against its matrix. -/
def dh {n : ℕ} (a b : Fin n → EReal) (wa wb : (⟨2, ![n, 1024]⟩ : Shape).Idx → EReal) (k : Fin 1024) : EReal := against a wa k + against b wb k

theorem pay6 (a : Vec Ideal S256x2816 .bf16) (wa : Vec Ideal S2816x1024 .bf16) (b : Vec Ideal S256x2816 .bf16) (wb : Vec Ideal S2816x1024 .bf16)
    (i : Fin 256) (k : Fin 1024) : k0_pay6 a wa b wb (ix2 i k) = dh (row a i) (row b i) wa wb k := by
  pointwise! [k0_pay6]

theorem pay9 (a : Vec Ideal S256x2816 .bf16) (wa : Vec Ideal S2816x1024 .bf16) (b : Vec Ideal S256x2816 .bf16) (wb : Vec Ideal S2816x1024 .bf16)
    (x : Vec Ideal S256x1024 .f32) (g : Vec Ideal S1x1024 .f32) (r : Vec Ideal S256x1024 .f32) (i : Fin 256) (k : Fin 1024) :
    k0_pay9 a wa b wb x g r (ix2 i k) = through (row x i) (row g 0) (dh (row a i) (row b i) wa wb) (row r i) k := by
  simp only [through, back, ← pay6]
  pointwise! [k0_pay9, k0_pay8, k0_pay7]

theorem pay1 (a : Vec Ideal S256x2816 .bf16) (wa : Vec Ideal S2816x1024 .bf16) (b : Vec Ideal S256x2816 .bf16) (wb : Vec Ideal S2816x1024 .bf16)
    (x : Vec Ideal S256x1024 .f32) (k : Fin 1024) :
    k0_pay1 (k0_pay6 a wa b wb) (k0_pay8 x) (ix2 0 k) = ∑ i : Fin 256, share (row x i) (dh (row a i) (row b i) wa wb) k := by
  simp only [share, ← pay6]
  pointwise! [k0_pay1, k0_pay8, k0_pay7]

/-- What the call reads: the two gradients' rows and their matrices, the input's rows, the gain, the residual's rows. -/
abbrev ds (c : Dev nD) (i : Fin 4096) : Fin 2816 → EReal := row (V m c main_v4) i
abbrev bs (c : Dev nD) (i : Fin 4096) : Fin 2816 → EReal := row (V m c main_v5) i
abbrev xs (c : Dev nD) (i : Fin 4096) : Fin 1024 → EReal := row (V m c main_arg0) i
abbrev gs (c : Dev nD) : Fin 1024 → EReal := row (V m c main_v6) 0
abbrev rs (c : Dev nD) (i : Fin 4096) : Fin 1024 → EReal := row (V m c main_arg6) i
abbrev dhs (c : Dev nD) (i : Fin 4096) : Fin 1024 → EReal := dh (ds m c i) (bs m c i) (V m c main_v1) (V m c main_v3)

/-- A point's blocks hold those rows. -/
theorem rows (c : Dev nD) (t : Fin cfg0.N) (i : Fin 256) (r : Fin 4096) (h : r.val = t.val * 256 + i.val) :
    dh (row (iblk m c 0 t) i) (row (iblk m c 2 t) i) (iblk m c 1 t) (iblk m c 3 t) = dhs m c r
      ∧ row (iblk m c 4 t) i = xs m c r ∧ row (iblk m c 5 t) 0 = gs m c ∧ row (iblk m c 6 t) i = rs m c r := by
  have ⟨e0, e1, e2, e3, e4, e5, e6, _⟩ := at0 t
  have ha : row (iblk m c 0 t) i = ds m c r := funext fun k => by
    blk_simp [iblk, row]
    refine congrArg _ ?_; blk_ext [e0, h]
  have hb : row (iblk m c 2 t) i = bs m c r := funext fun k => by
    blk_simp [iblk, row]
    refine congrArg _ ?_; blk_ext [e2, h]
  have hwa : iblk m c 1 t = V m c main_v1 := funext fun k => by
    blk_simp [iblk]
    refine congrArg _ ?_; blk_ext [e1]
  have hwb : iblk m c 3 t = V m c main_v3 := funext fun k => by
    blk_simp [iblk]
    refine congrArg _ ?_; blk_ext [e3]
  refine ⟨by rw [ha, hb, hwa, hwb], funext fun k => ?_, funext fun k => ?_, funext fun k => ?_⟩
  · blk_simp [iblk, row]
    refine congrArg _ ?_; blk_ext [e4, h]
  · blk_simp [iblk, row]
    refine congrArg _ ?_; blk_ext [e5]
  · blk_simp [iblk, row]
    refine congrArg _ ?_; blk_ext [e6, h]

/-- What a point leaves in each output's block. -/
theorem out7 (c : Dev nD) (t : Fin cfg0.N) (i : Fin 256) (k : Fin 1024) (r : Fin 4096) (h : r.val = t.val * 256 + i.val) :
    (outsAt0 m c t.val t.isLt).1 (ix2 i k) = through (xs m c r) (gs m c) (dhs m c r) (rs m c r) k := by
  obtain ⟨h0, h1, h2, h3⟩ := rows m c t i r h
  rw [← h0, ← h1, ← h2, ← h3, ← pay9]
  by_cases h : t.val % 16 = 0
  · rw [outsAt0_A m c t h (by have : t.val < 16 := t.isLt; omega)]
    frame_out
    pointwise! [k0_pay2]
  · rw [outsAt0_B m c t h (by omega)]
    frame_out
    pointwise! [k0_pay2]
theorem out8 (c : Dev nD) (t : Fin cfg0.N) (i : Fin 256) (k : Fin 1024) (r : Fin 4096) (h : r.val = t.val * 256 + i.val) :
    (outsAt0 m c t.val t.isLt).2.1 (ix2 i k) = through (xs m c r) (gs m c) (dhs m c r) (rs m c r) k := by
  obtain ⟨h0, h1, h2, h3⟩ := rows m c t i r h
  rw [← h0, ← h1, ← h2, ← h3, ← pay9]
  by_cases h : t.val % 16 = 0
  · rw [outsAt0_A m c t h (by have : t.val < 16 := t.isLt; omega)]
    frame_out
    pointwise! [k0_pay3]
  · rw [outsAt0_B m c t h (by omega)]
    frame_out
    pointwise! [k0_pay3]

/-- What a point adds to the gain's gradient. -/
def part (c : Dev nD) (t : Fin cfg0.N) (j : S1x1024.Idx) : EReal :=
  ∑ i : Fin 256, share (row (iblk m c 4 t) i) (dh (row (iblk m c 0 t) i) (row (iblk m c 2 t) i) (iblk m c 1 t) (iblk m c 3 t)) (j 1)

theorem pay4 (u v : FVec Ideal S256x1024 .f32) (j : S1x1024.Idx) : k0_pay4 u v j = k0_pay1 u v (ix2 0 (j 1)) := by
  unfold k0_pay4
  rw [shapeCast_self]
  exact congrArg _ ((eq_ix2 j).trans (congrArg (ix2 · (j 1)) (Fin.fin_one_eq_zero (j 0))))
theorem pay5 (u v : FVec Ideal S256x1024 .f32) (w : Vec Ideal S1x1024 .f32) (j : S1x1024.Idx) : k0_pay5 u v w j = w j + k0_pay1 u v (ix2 0 (j 1)) := by
  unfold k0_pay5
  rw [shapeCast_self, ← pay4]
  unfold k0_pay4
  rw [shapeCast_self]
  rfl
theorem out9_first (c : Dev nD) (t : Fin cfg0.N) (h : t.val % 16 = 0) (j : S1x1024.Idx) :
    (outsAt0 m c t.val t.isLt).2.2 j = 0 + part m c t j := by
  rw [outsAt0_A m c t h (by have : t.val < 16 := t.isLt; omega)]
  frame_out
  rw [zero_add]
  exact (pay4 ..).trans (pay1 ..)
theorem out9_next (c : Dev nD) (t : Fin cfg0.N) (h : ¬t.val % 16 = 0) (j : S1x1024.Idx) :
    (outsAt0 m c t.val t.isLt).2.2 j = (outsAt0 m c (t.val - 1) (Nat.lt_of_le_of_lt (Nat.sub_le _ _) t.isLt)).2.2 j + part m c t j := by
  rw [outsAt0_B m c t h (by omega)]
  frame_out
  rw [pay5]
  exact congrArg _ (pay1 ..)

theorem final0_7 (c : Dev nD) : (dats m 0 c).arrAt 7 cfg0.N = fun i => through (xs m c (i 0)) (gs m c) (dhs m c (i 0)) (rs m c (i 0)) (i 1) := by
  refine (dats m 0 c).arrAt_eq_of_covers 7 _ (by decide +kernel) fun t hf y => ?_
  have ⟨_, _, _, _, _, _, _, e7, _⟩ := at0 t
  blk_simp
  rw [after0_7]
  refine (congrArg _ (eq_ix2 y)).trans ((out7 m c t (y 0) (y 1) (((View.whole main_v7_0).slice (win0_7.rect t)).emb y 0) (by blk_simp [e7])).trans ?_)
  refine congrArg _ (Fin.ext ?_)
  blk_simp [e7]
theorem final0_8 (c : Dev nD) : (dats m 0 c).arrAt 8 cfg0.N = fun i => through (xs m c (i 0)) (gs m c) (dhs m c (i 0)) (rs m c (i 0)) (i 1) := by
  refine (dats m 0 c).arrAt_eq_of_covers 8 _ (by decide +kernel) fun t hf y => ?_
  have ⟨_, _, _, _, _, _, _, _, e8, _⟩ := at0 t
  blk_simp
  rw [after0_8]
  refine (congrArg _ (eq_ix2 y)).trans ((out8 m c t (y 0) (y 1) (((View.whole main_v7_1).slice (win0_8.rect t)).emb y 0) (by blk_simp [e8])).trans ?_)
  refine congrArg _ (Fin.ext ?_)
  blk_simp [e8]

theorem t_last : (15 : ℕ) < cfg0.N := by decide +kernel

theorem final0_9 (c : Dev nD) : (dats m 0 c).arrAt 9 cfg0.N = fun i => ∑ r : Fin 4096, share (xs m c r) (dhs m c r) (i 1) := by
  refine (dats m 0 c).arrAt_eq_of_after_last 9 ⟨15, t_last⟩ (by decide +kernel) _ fun j => ?_
  have ⟨_, _, _, _, _, _, _, _, _, e9⟩ := at0 ⟨15, t_last⟩
  rw [after0_9, Pipeline.eq_sum_fin_of_reset_step_apply_last (fun n h => (outsAt0 m c n h).2.2) 16 (fun _ => 0) (part m c)
    (out9_first m c) (out9_next m c) (by decide +kernel) ⟨15, t_last⟩ rfl]
  refine (cast_eq ..).trans ((zero_add (M := EReal) _).trans (Fin.sum_mul_add_congr (S := 16) (n := 256) fun s i hl => ?_))
  obtain ⟨h0, h1, h2, h3⟩ := rows m c s i ⟨s.val * 256 + i.val, hl⟩ rfl
  rw [h0, h1]
  refine congrArg _ (Fin.ext ?_)
  blk_simp [e9]

/-- The arrays that host lines prepared, as the arguments give them. -/
theorem gs_eq (c : Dev nD) (k : Fin 1024) : gs m c k = m ((c : Thread nD τ).loc main_arg1) (ix1 k) := by
  show StableHlo.after hostOps0 _ _ _ = _
  after_results_simp
  pointwise! []
theorem wa_eq (c : Dev nD) (l : Fin 2816) (k : Fin 1024) : (V m c main_v1 : S2816x1024.Idx → EReal) (ix2 l k) = m ((c : Thread nD τ).loc main_arg2) (ix2 k l) := by
  show StableHlo.after hostOps0 _ _ _ = _
  after_results_simp
  pointwise! []
theorem wb_eq (c : Dev nD) (l : Fin 2816) (k : Fin 1024) : (V m c main_v3 : S2816x1024.Idx → EReal) (ix2 l k) = m ((c : Thread nD τ).loc main_arg3) (ix2 k l) := by
  show StableHlo.after hostOps0 _ _ _ = _
  after_results_simp
  pointwise! []
theorem ds_eq (c : Dev nD) : ds m c = row (m ((c : Thread nD τ).loc main_arg4)) := funext₂ fun i k => by
  show StableHlo.after hostOps0 _ _ _ = _
  after_results_simp
  rfl
theorem bs_eq (c : Dev nD) : bs m c = row (m ((c : Thread nD τ).loc main_arg5)) := funext₂ fun i k => by
  show StableHlo.after hostOps0 _ _ _ = _
  after_results_simp
  rfl

end Cert.DffnKernel

end
-- ==== Proof.DffnRef.lean ====
module

public import proofs.«01_k».proof.Proof.Gen.RDffnIdeal.Run
public import proofs.«01_k».proof.Proof.Gen.RDffnIdeal.Read
public import proofs.«01_k».proof.Proof.DffnKernel

@[expose] public section

set_option maxRecDepth 16384

noncomputable section

/- The reference of the feed-forward block's input gradient, entry by entry. -/
namespace Cert.DffnRef

open Idealize.ShloMosaic Idealize.ShloMosaic.TcCoe Idealize.SL.Sem
open Cert.Reals Cert.Norm Cert.RDffnIdeal Cert.RDffnIdeal.Read

variable (x : S4096x1024.Idx → EReal) (g : S1024.Idx → EReal) (wa wb : S1024x2816.Idx → EReal) (a b : S4096x2816.Idx → EReal)
  (r : S4096x1024.Idx → EReal) (i : Fin 4096) (k : Fin 1024)

/-- A row of the cotangent of the norm's output: the matrices are read by their rows. -/
def dh (k : Fin 1024) : EReal := ∑ l, a (ix2 i l) * wa (ix2 k l) + ∑ l, b (ix2 i l) * wb (ix2 k l)

theorem dh_apply : val_main_v20 (F := Ideal) wa wb a b (ix2 i k) = dh wa wb a b i k := by
  rw [dh, add_comm]
  pointwise! [val_main_v20, val_main_v19, val_main_v18]

theorem back_apply : val_main_v41 (F := Ideal) x g wa wb a b r (ix2 i k) = through (row x i) (fun k => g (ix1 k)) (dh wa wb a b i) (row r i) k := by
  rw [through_eq]
  simp only [coef, ← dh_apply]
  pointwise! [val_main_v41, val_main_v39, val_main_v32, val_main_v31, val_main_v25, val_main_v24, val_main_v13, val_main_v30, val_main_v7, val_main_v6, val_main_v4, val_main_v2, val_main_v1, val_main_v0, val_main_cst, val_main_v3, val_main_cst_0, val_main_v5, val_main_cst_1, val_main_v38, val_main_v37, val_main_v36, val_main_v35, val_main_v33, val_main_v29, val_main_v28, val_main_v27, val_main_cst_5, val_main_v10, val_main_v9, val_main_cst_2, val_main_v8, val_main_v34, val_main_cst_6, val_main_cst_7, val_main_v40]
  simp only [Fin.sum_univ_one]
  rfl

theorem dg_apply (j : S1x1024.Idx) : val_main_v43 (F := Ideal) x wa wb a b j = ∑ i : Fin 4096, share (row x i) (dh wa wb a b i) (j 1) := by
  pointwise! [val_main_v43, val_main_v26, val_main_v23, val_main_v22, val_main_v21, val_main_v12, val_main_v11, val_main_v7, val_main_v6, val_main_v4, val_main_v2, val_main_v1, val_main_v0, val_main_cst, val_main_v3, val_main_cst_0, val_main_v5, val_main_cst_1, val_main_cst_3, val_main_cst_4]
  simp only [Fin.sum_univ_one]
  exact Finset.sum_congr rfl fun i _ => (mul_comm _ _).trans (congrArg (· * _) (dh_apply ..))

end Cert.DffnRef

end
-- ==== Proof.DffnEq.lean ====
module

public import proofs.«01_k».proof.Proof.DffnRef
public import proofs.«01_k».proof.Defs

@[expose] public section

set_option maxRecDepth 16384

noncomputable section

/- The feed-forward block's input gradient: the kernel's run and the reference's run end with the same three results. -/
namespace Cert.DffnEq

open Idealize.ShloMosaic Idealize.ShloMosaic.TcCoe Idealize.SL.Sem
open Cert.Norm Cert.DffnKernel

set_option maxHeartbeats 1000000 in
/-- From argument arrays that agree, the kernel and the reference end with the same three results. -/
theorem algebraic : Cert.algebraic_KDffnIdeal_RDffnIdeal (hKDffnIdeal := Cert.KDffnIdeal.Gen.facts) (hRDffnIdeal := Cert.RDffnIdeal.Gen.facts) := by
  intro m g m' g' _ hargs
  refine ⟨fun c => (KDffnIdeal.Gen.dats m 0 c).arrAt 7 KDffnIdeal.cfg0.N, fun c => (KDffnIdeal.Gen.dats m 0 c).arrAt 8 KDffnIdeal.cfg0.N,
    fun c => (KDffnIdeal.Gen.dats m 0 c).arrAt 9 KDffnIdeal.cfg0.N,
    KDffnIdeal.Value.run_blocks m g, (θ_run _ _ _).mono (fun r h c => ?_) (RDffnIdeal.Value.run (F := Ideal) m' g')⟩
  obtain ⟨a0, a1, a2, a3, a4, a5, a6⟩ := hargs c
  obtain ⟨h0, h1, h2, hr⟩ := h c
  have hx : xs m c = row (m ((c : Thread KDffnIdeal.nD KDffnIdeal.τ).loc KDffnIdeal.main_arg0)) := congrArg row (KDffnIdeal.Gen.V_main_arg0 m c)
  have hres : rs m c = row (m ((c : Thread KDffnIdeal.nD KDffnIdeal.τ).loc KDffnIdeal.main_arg6)) := congrArg row (KDffnIdeal.Gen.V_main_arg6 m c)
  have hg : gs m c = fun k => m ((c : Thread KDffnIdeal.nD KDffnIdeal.τ).loc KDffnIdeal.main_arg1) (ix1 k) := funext (gs_eq m c)
  have hd : dhs m c = DffnRef.dh (m ((c : Thread KDffnIdeal.nD KDffnIdeal.τ).loc KDffnIdeal.main_arg2)) (m ((c : Thread KDffnIdeal.nD KDffnIdeal.τ).loc KDffnIdeal.main_arg3))
      (m ((c : Thread KDffnIdeal.nD KDffnIdeal.τ).loc KDffnIdeal.main_arg4)) (m ((c : Thread KDffnIdeal.nD KDffnIdeal.τ).loc KDffnIdeal.main_arg5)) :=
    funext₂ fun i k => congrArg₂ (· + ·)
      (Finset.sum_congr rfl fun l _ => congrArg₂ (· * ·) (congrFun₂ (ds_eq m c) i l) (wa_eq m c l k))
      (Finset.sum_congr rfl fun l _ => congrArg₂ (· * ·) (congrFun₂ (bs_eq m c) i l) (wb_eq m c l k))
  refine ⟨h0.trans ?_, h1.trans ?_, h2.trans ?_, hr⟩
  · unfold RDffnIdeal.Value.res_main_v41
    rw [a0, a1, a2, a3, a4, a5, a6]
    refine Eq.trans ?_ (final0_7 m c).symm
    rw [hx, hg, hd, hres]
    exact funext fun j => (congrArg _ (eq_ix2 j)).trans (DffnRef.back_apply ..)
  · unfold RDffnIdeal.Value.res_main_v42
    rw [a0, a1, a2, a3, a4, a5, a6]
    refine Eq.trans ?_ (final0_8 m c).symm
    rw [hx, hg, hd, hres]
    exact funext fun j => (congrArg _ (eq_ix2 j)).trans (DffnRef.back_apply ..)
  · rw [a0, a2, a3, a4, a5]
    refine Eq.trans ?_ (final0_9 m c).symm
    rw [hx, hd]
    exact funext fun j => DffnRef.dg_apply ..

end Cert.DffnEq

end
-- ==== Proof.DmixKernel.lean ====
module

public import proofs.«01_k».proof.Proof.Gen.KDmixIdeal.Value
public import Idealize.ShloMosaic.Lib.Pipeline.ValueKit
public import proofs.«01_k».proof.Proof.Norm

@[expose] public section

set_option maxRecDepth 16384

noncomputable section

/- The mixer's product joined with the norm's gradient: what the call leaves in its three results,
   as functions of its arguments. -/
namespace Cert.DmixKernel

open Idealize.ShloMosaic Idealize.ShloMosaic.TcCoe Idealize.SL.Sem
open Idealize.ShloMosaic.Pipeline (Dat)
open Cert.Reals Cert.Norm Cert.KDmixIdeal Cert.KDmixIdeal.Gen

variable (m : (ℓ : Loc nD τ sig) → Buf (Elt Ideal) ℓ) (ρ : Dev nD → PrngReg)

/-- Where the windows' blocks stand. -/
theorem at0 : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

theorem pay4 (a : Vec Ideal S256x5120 .bf16) (w : Vec Ideal S5120x1024 .bf16) (i : Fin 256) (k : Fin 1024) :
    k0_pay4 a w (ix2 i k) = against (row a i) w k := by
  pointwise! [k0_pay4]

theorem pay7 (a : Vec Ideal S256x5120 .bf16) (w : Vec Ideal S5120x1024 .bf16) (x : Vec Ideal S256x1024 .f32) (g : Vec Ideal S1x1024 .f32)
    (r : Vec Ideal S256x1024 .f32) (i : Fin 256) (k : Fin 1024) :
    k0_pay7 a w x g r (ix2 i k) = through (row x i) (row g 0) (against (row a i) w) (row r i) k := by
  simp only [through, back, ← pay4]
  pointwise! [k0_pay7, k0_pay6, k0_pay5]

/-- What the call reads: the gradient's rows and the matrix, the input's rows, the gain, the residual's rows. -/
abbrev xs (c : Dev nD) (i : Fin 4096) : Fin 1024 → EReal := row (V m c main_arg0) i
abbrev gs (c : Dev nD) : Fin 1024 → EReal := row (V m c main_v3) 0
abbrev rs (c : Dev nD) (i : Fin 4096) : Fin 1024 → EReal := row (V m c main_arg4) i
abbrev dhs (c : Dev nD) (i : Fin 4096) : Fin 1024 → EReal := against (row (V m c main_v0) i) (V m c main_v2)

/-- A point's blocks hold those rows. -/
theorem rows (c : Dev nD) (t : Fin cfg0.N) (i : Fin 256) (r : Fin 4096) (h : r.val = t.val * 256 + i.val) :
    against (row (iblk m c 0 t) i) (iblk m c 1 t) = dhs m c r
      ∧ row (iblk m c 2 t) i = xs m c r ∧ row (iblk m c 3 t) 0 = gs m c ∧ row (iblk m c 4 t) i = rs m c r := by
  have ⟨e0, e1, e2, e3, e4, _⟩ := at0 t
  have ha : row (iblk m c 0 t) i = row (V m c main_v0) r := funext fun k => by
    blk_simp [iblk, row]
    refine congrArg _ ?_; blk_ext [e0, h]
  have hw : iblk m c 1 t = V m c main_v2 := funext fun k => by
    blk_simp [iblk]
    refine congrArg _ ?_; blk_ext [e1]
  refine ⟨by rw [ha, hw], funext fun k => ?_, funext fun k => ?_, funext fun k => ?_⟩
  · blk_simp [iblk, row]
    refine congrArg _ ?_; blk_ext [e2, h]
  · blk_simp [iblk, row]
    refine congrArg _ ?_; blk_ext [e3]
  · blk_simp [iblk, row]
    refine congrArg _ ?_; blk_ext [e4, h]

/-- What a point leaves in each output's block. -/
theorem out5 (c : Dev nD) (t : Fin cfg0.N) (i : Fin 256) (k : Fin 1024) (r : Fin 4096) (h : r.val = t.val * 256 + i.val) :
    (outsAt0 m c t.val t.isLt).1 (ix2 i k) = through (xs m c r) (gs m c) (dhs m c r) (rs m c r) k := by
  obtain ⟨h0, h1, h2, h3⟩ := rows m c t i r h
  rw [← h0, ← h1, ← h2, ← h3, ← pay7]
  by_cases h : t.val % 16 = 0
  · rw [outsAt0_A m c t h (by have : t.val < 16 := t.isLt; omega)]
    frame_out
    pointwise! [k0_pay9]
  · rw [outsAt0_B m c t h (by omega)]
    frame_out
    pointwise! [k0_pay9]
theorem out6 (c : Dev nD) (t : Fin cfg0.N) (i : Fin 256) (k : Fin 1024) (r : Fin 4096) (h : r.val = t.val * 256 + i.val) :
    (outsAt0 m c t.val t.isLt).2.1 (ix2 i k) = through (xs m c r) (gs m c) (dhs m c r) (rs m c r) k := by
  obtain ⟨h0, h1, h2, h3⟩ := rows m c t i r h
  rw [← h0, ← h1, ← h2, ← h3, ← pay7]
  by_cases h : t.val % 16 = 0
  · rw [outsAt0_A m c t h (by have : t.val < 16 := t.isLt; omega)]
    frame_out
    pointwise! [k0_pay1, k0_pay10]
  · rw [outsAt0_B m c t h (by omega)]
    frame_out
    pointwise! [k0_pay1, k0_pay10]

/-- What a point adds to the gain's gradient. -/
def part (c : Dev nD) (t : Fin cfg0.N) (j : S1x1024.Idx) : EReal :=
  ∑ i : Fin 256, share (row (iblk m c 2 t) i) (against (row (iblk m c 0 t) i) (iblk m c 1 t)) (j 1)

theorem pay8 (a : Vec Ideal S256x5120 .bf16) (w : Vec Ideal S5120x1024 .bf16) (x : Vec Ideal S256x1024 .f32) (j : S1x1024.Idx) :
    k0_pay8 a w x j = ∑ i : Fin 256, share (row x i) (against (row a i) w) (j 1) := by
  have h : k0_pay8 a w x (ix2 0 (j 1)) = ∑ i : Fin 256, share (row x i) (against (row a i) w) (j 1) := by
    pointwise! [k0_pay8, k0_pay6, k0_pay5]
    exact Finset.sum_congr rfl fun i _ => congrArg (· * _) (pay4 ..)
  exact (congrArg _ ((eq_ix2 j).trans (congrArg (ix2 · (j 1)) (Fin.fin_one_eq_zero (j 0))))).trans h
theorem out7_first (c : Dev nD) (t : Fin cfg0.N) (h : t.val % 16 = 0) (j : S1x1024.Idx) :
    (outsAt0 m c t.val t.isLt).2.2 j = 0 + part m c t j := by
  rw [outsAt0_A m c t h (by have : t.val < 16 := t.isLt; omega)]
  frame_out
  rw [zero_add, k0_pay2, shapeCast_self]
  exact pay8 ..
theorem out7_next (c : Dev nD) (t : Fin cfg0.N) (h : ¬t.val % 16 = 0) (j : S1x1024.Idx) :
    (outsAt0 m c t.val t.isLt).2.2 j = (outsAt0 m c (t.val - 1) (Nat.lt_of_le_of_lt (Nat.sub_le _ _) t.isLt)).2.2 j + part m c t j := by
  rw [outsAt0_B m c t h (by omega)]
  frame_out
  rw [k0_pay3, shapeCast_self]
  exact congrArg _ (pay8 ..)

theorem final0_5 (c : Dev nD) : (dats m 0 c).arrAt 5 cfg0.N = fun i => through (xs m c (i 0)) (gs m c) (dhs m c (i 0)) (rs m c (i 0)) (i 1) := by
  refine (dats m 0 c).arrAt_eq_of_covers 5 _ (by decide +kernel) fun t hf y => ?_
  have ⟨_, _, _, _, _, e5, _⟩ := at0 t
  blk_simp
  rw [after0_5]
  refine (congrArg _ (eq_ix2 y)).trans ((out5 m c t (y 0) (y 1) (((View.whole main_v4_0).slice (win0_5.rect t)).emb y 0) (by blk_simp [e5])).trans ?_)
  refine congrArg _ (Fin.ext ?_)
  blk_simp [e5]
theorem final0_6 (c : Dev nD) : (dats m 0 c).arrAt 6 cfg0.N = fun i => through (xs m c (i 0)) (gs m c) (dhs m c (i 0)) (rs m c (i 0)) (i 1) := by
  refine (dats m 0 c).arrAt_eq_of_covers 6 _ (by decide +kernel) fun t hf y => ?_
  have ⟨_, _, _, _, _, _, e6, _⟩ := at0 t
  blk_simp
  rw [after0_6]
  refine (congrArg _ (eq_ix2 y)).trans ((out6 m c t (y 0) (y 1) (((View.whole main_v4_1).slice (win0_6.rect t)).emb y 0) (by blk_simp [e6])).trans ?_)
  refine congrArg _ (Fin.ext ?_)
  blk_simp [e6]

theorem t_last : (15 : ℕ) < cfg0.N := by decide +kernel

theorem final0_7 (c : Dev nD) : (dats m 0 c).arrAt 7 cfg0.N = fun i => ∑ r : Fin 4096, share (xs m c r) (dhs m c r) (i 1) := by
  refine (dats m 0 c).arrAt_eq_of_after_last 7 ⟨15, t_last⟩ (by decide +kernel) _ fun j => ?_
  have ⟨_, _, _, _, _, _, _, e7⟩ := at0 ⟨15, t_last⟩
  rw [after0_7, Pipeline.eq_sum_fin_of_reset_step_apply_last (fun n h => (outsAt0 m c n h).2.2) 16 (fun _ => 0) (part m c)
    (out7_first m c) (out7_next m c) (by decide +kernel) ⟨15, t_last⟩ rfl]
  refine (cast_eq ..).trans ((zero_add (M := EReal) _).trans (Fin.sum_mul_add_congr (S := 16) (n := 256) fun s i hl => ?_))
  obtain ⟨h0, h1, h2, h3⟩ := rows m c s i ⟨s.val * 256 + i.val, hl⟩ rfl
  rw [h0, h1]
  refine congrArg _ (Fin.ext ?_)
  blk_simp [e7]

/-- The arrays that host lines prepared, as the arguments give them. -/
theorem gs_eq (c : Dev nD) (k : Fin 1024) : gs m c k = m ((c : Thread nD τ).loc main_arg1) (ix1 k) := by
  show StableHlo.after hostOps0 _ _ _ = _
  after_results_simp
  pointwise! []
theorem w_eq (c : Dev nD) (l : Fin 5120) (k : Fin 1024) : (V m c main_v2 : S5120x1024.Idx → EReal) (ix2 l k) = m ((c : Thread nD τ).loc main_arg2) (ix2 k l) := by
  show StableHlo.after hostOps0 _ _ _ = _
  after_results_simp
  pointwise! []
theorem ds_eq (c : Dev nD) : row (V m c main_v0 : S4096x5120.Idx → EReal) = row (m ((c : Thread nD τ).loc main_arg3)) := funext₂ fun i k => by
  show StableHlo.after hostOps0 _ _ _ = _
  after_results_simp
  rfl

end Cert.DmixKernel

end
-- ==== Proof.DmixRef.lean ====
module

public import proofs.«01_k».proof.Proof.Gen.RDmixIdeal.Run
public import proofs.«01_k».proof.Proof.Gen.RDmixIdeal.Read
public import proofs.«01_k».proof.Proof.DmixKernel

@[expose] public section

set_option maxRecDepth 16384

noncomputable section

/- The reference of the mixer's input gradient, entry by entry. -/
namespace Cert.DmixRef

open Idealize.ShloMosaic Idealize.ShloMosaic.TcCoe Idealize.SL.Sem
open Cert.Reals Cert.Norm Cert.RDmixIdeal Cert.RDmixIdeal.Read

variable (x : S4096x1024.Idx → EReal) (g : S1024.Idx → EReal) (w : S1024x5120.Idx → EReal) (p : S4096x5120.Idx → EReal)
  (r : S4096x1024.Idx → EReal) (i : Fin 4096) (k : Fin 1024)

/-- A row of the cotangent of the norm's output: the matrix is read by its rows. -/
def dh (k : Fin 1024) : EReal := ∑ l, p (ix2 i l) * w (ix2 k l)

theorem dh_apply : val_main_v17 (F := Ideal) w p (ix2 i k) = dh w p i k := by
  pointwise! [val_main_v17]

theorem back_apply : val_main_v38 (F := Ideal) x g w p r (ix2 i k) = through (row x i) (fun k => g (ix1 k)) (dh w p i) (row r i) k := by
  rw [through_eq]
  simp only [coef, ← dh_apply]
  pointwise! [val_main_v38, val_main_v36, val_main_v29, val_main_v28, val_main_v22, val_main_v21, val_main_v13, val_main_v27, val_main_v7, val_main_v6, val_main_v4, val_main_v2, val_main_v1, val_main_v0, val_main_cst, val_main_v3, val_main_cst_0, val_main_v5, val_main_cst_1, val_main_v35, val_main_v34, val_main_v33, val_main_v32, val_main_v30, val_main_v26, val_main_v25, val_main_v24, val_main_cst_5, val_main_v10, val_main_v9, val_main_cst_2, val_main_v8, val_main_v31, val_main_cst_6, val_main_cst_7, val_main_v37]
  simp only [Fin.sum_univ_one]
  rfl

theorem dg_apply (j : S1x1024.Idx) : val_main_v40 (F := Ideal) x w p j = ∑ i : Fin 4096, share (row x i) (dh w p i) (j 1) := by
  pointwise! [val_main_v40, val_main_v23, val_main_v20, val_main_v19, val_main_v18, val_main_v12, val_main_v11, val_main_v7, val_main_v6, val_main_v4, val_main_v2, val_main_v1, val_main_v0, val_main_cst, val_main_v3, val_main_cst_0, val_main_v5, val_main_cst_1, val_main_cst_3, val_main_cst_4]
  simp only [Fin.sum_univ_one]
  exact Finset.sum_congr rfl fun i _ => (mul_comm _ _).trans (congrArg (· * _) (dh_apply ..))

end Cert.DmixRef

end
-- ==== Proof.DmixEq.lean ====
module

public import proofs.«01_k».proof.Proof.DmixRef
public import proofs.«01_k».proof.Defs

@[expose] public section

set_option maxRecDepth 16384

noncomputable section

/- The mixer's input gradient: the kernel's run and the reference's run end with the same three results. -/
namespace Cert.DmixEq

open Idealize.ShloMosaic Idealize.ShloMosaic.TcCoe Idealize.SL.Sem
open Cert.Norm Cert.DmixKernel

set_option maxHeartbeats 1000000 in
/-- From argument arrays that agree, the kernel and the reference end with the same three results. -/
theorem algebraic : Cert.algebraic_KDmixIdeal_RDmixIdeal (hKDmixIdeal := Cert.KDmixIdeal.Gen.facts) (hRDmixIdeal := Cert.RDmixIdeal.Gen.facts) := by
  intro m g m' g' _ hargs
  refine ⟨fun c => (KDmixIdeal.Gen.dats m 0 c).arrAt 5 KDmixIdeal.cfg0.N, fun c => (KDmixIdeal.Gen.dats m 0 c).arrAt 6 KDmixIdeal.cfg0.N,
    fun c => (KDmixIdeal.Gen.dats m 0 c).arrAt 7 KDmixIdeal.cfg0.N,
    KDmixIdeal.Value.run_blocks m g, (θ_run _ _ _).mono (fun r h c => ?_) (RDmixIdeal.Value.run (F := Ideal) m' g')⟩
  obtain ⟨a0, a1, a2, a3, a4⟩ := hargs c
  obtain ⟨h0, h1, h2, hr⟩ := h c
  have hx : xs m c = row (m ((c : Thread KDmixIdeal.nD KDmixIdeal.τ).loc KDmixIdeal.main_arg0)) := congrArg row (KDmixIdeal.Gen.V_main_arg0 m c)
  have hres : rs m c = row (m ((c : Thread KDmixIdeal.nD KDmixIdeal.τ).loc KDmixIdeal.main_arg4)) := congrArg row (KDmixIdeal.Gen.V_main_arg4 m c)
  have hg : gs m c = fun k => m ((c : Thread KDmixIdeal.nD KDmixIdeal.τ).loc KDmixIdeal.main_arg1) (ix1 k) := funext (gs_eq m c)
  have hd : dhs m c = DmixRef.dh (m ((c : Thread KDmixIdeal.nD KDmixIdeal.τ).loc KDmixIdeal.main_arg2)) (m ((c : Thread KDmixIdeal.nD KDmixIdeal.τ).loc KDmixIdeal.main_arg3)) :=
    funext₂ fun i k => Finset.sum_congr rfl fun l _ => congrArg₂ (· * ·) (congrFun₂ (ds_eq m c) i l) (w_eq m c l k)
  refine ⟨h0.trans ?_, h1.trans ?_, h2.trans ?_, hr⟩
  · unfold RDmixIdeal.Value.res_main_v38
    rw [a0, a1, a2, a3, a4]
    refine Eq.trans ?_ (final0_5 m c).symm
    rw [hx, hg, hd, hres]
    exact funext fun j => (congrArg _ (eq_ix2 j)).trans (DmixRef.back_apply ..)
  · unfold RDmixIdeal.Value.res_main_v39
    rw [a0, a1, a2, a3, a4]
    refine Eq.trans ?_ (final0_6 m c).symm
    rw [hx, hg, hd, hres]
    exact funext fun j => (congrArg _ (eq_ix2 j)).trans (DmixRef.back_apply ..)
  · rw [a0, a2, a3]
    refine Eq.trans ?_ (final0_7 m c).symm
    rw [hx, hd]
    exact funext fun j => DmixRef.dg_apply ..

end Cert.DmixEq

end
-- ==== Proof.SbReal.lean ====
module

public import proofs.«01_k».proof.Proof.Norm

@[expose] public section

noncomputable section

/- Stick-breaking attention over the reals: one query's weights and their gradient, over all keys and tile by tile.
   The keys are walked from the last to the first; a tile takes over two sums from the tiles after it. -/
namespace Cert.Sb

open Idealize.ShloMosaic Cert.Reals

/-- `log σ(x)`. -/
def lb (x : ℝ) : ℝ := min x 0 - Real.log (1 + Real.exp (-|x|))

/-! ## All keys of one query -/

section whole
variable (t n : ℕ) (Z P : ℕ → ℝ) (g : ℝ)

/-- The log of what key `s` leaves of the stick. -/
def Keep (s : ℕ) : ℝ := if s < t then lb (Z s) - Z s else 0
/-- The weight of key `s`. -/
def Wt (s : ℕ) : ℝ := if s < t then Real.exp (lb (Z s) + ∑ j ∈ Finset.Ico (s + 1) n, Keep t Z j) else 0
/-- The weight times its cotangent. -/
def Gw (s : ℕ) : ℝ := Wt t n Z s * P s
/-- The cotangent of the score of key `s`. -/
def Dz (s : ℕ) : ℝ :=
  if s < t then Gw t n Z P s * Real.exp (lb (Z s) - Z s) - (g - ∑ j ∈ Finset.Ico s n, Gw t n Z P j) * Real.exp (lb (Z s)) else 0
end whole

/-! ## One tile of 256 keys -/

section tile
variable (past : Fin 256 → Prop) [DecidablePred past] (z p : Fin 256 → ℝ) (a b g : ℝ)

def keep (l : Fin 256) : ℝ := if past l then lb (z l) - z l else 0
def wt (l : Fin 256) : ℝ := if past l then Real.exp (lb (z l) + ∑ k, keep past z k * (if l < k then 1 else 0) + a) else 0
def gw (l : Fin 256) : ℝ := wt past z a l * p l
def dz (l : Fin 256) : ℝ :=
  if past l then gw past z p a l * Real.exp (lb (z l) - z l)
    - (g - (∑ k, gw past z p a k * (if l ≤ k then 1 else 0) + b)) * Real.exp (lb (z l)) else 0
end tile

/-! ## The tile's part of the whole -/

theorem sum_tile (f : ℕ → ℝ) (o n : ℕ) (h : o + 256 ≤ n) : ∑ s ∈ Finset.Ico o n, f s = ∑ l : Fin 256, f (o + l.val) + ∑ s ∈ Finset.Ico (o + 256) n, f s := by
  rw [← Finset.sum_Ico_consecutive f (Nat.le_add_right o 256) h, Finset.sum_Ico_eq_sum_range, Fin.sum_univ_eq_sum_range (fun i => f (o + i)) 256, Nat.add_sub_cancel_left]

/-- The keys of the tile from `d` on. -/
theorem sum_from (f : ℕ → ℝ) (o n d : ℕ) (hd : d ≤ 256) (h : o + 256 ≤ n) :
    ∑ s ∈ Finset.Ico (o + d) n, f s = ∑ k : Fin 256, f (o + k.val) * (if d ≤ k.val then 1 else 0) + ∑ s ∈ Finset.Ico (o + 256) n, f s := by
  rw [← Finset.sum_Ico_consecutive f (Nat.add_le_add_left hd o) h, Fin.sum_univ_eq_sum_range (fun i => f (o + i) * (if d ≤ i then 1 else 0)) 256,
    ← Finset.sum_range_add_sum_Ico _ hd]
  congr 1
  rw [Finset.sum_eq_zero (s := Finset.range d) fun i hi => by rw [if_neg (by have := Finset.mem_range.mp hi; omega), mul_zero], zero_add,
    Nat.add_comm o d, Nat.add_comm o 256, ← Finset.sum_Ico_add' (fun s => f s) d 256 o]
  exact Finset.sum_congr rfl fun i hi => by rw [if_pos (Finset.mem_Ico.mp hi).1, mul_one, Nat.add_comm]

section bridge
variable {t n o : ℕ} (Z P : ℕ → ℝ) (g : ℝ) (h : o + 256 ≤ n) {past : Fin 256 → Prop} [DecidablePred past]
  (hp : ∀ l, past l ↔ o + l.val < t)
include h hp

theorem keep_eq (l : Fin 256) : keep past (fun l => Z (o + l.val)) l = Keep t Z (o + l.val) := by
  simp only [keep, Keep, hp]

theorem wt_eq (l : Fin 256) : wt past (fun l => Z (o + l.val)) (∑ s ∈ Finset.Ico (o + 256) n, Keep t Z s) l = Wt t n Z (o + l.val) := by
  simp only [wt, Wt, keep_eq Z h hp]
  rw [Nat.add_assoc, sum_from _ o n (l.val + 1) (by omega) h, ← add_assoc]
  exact ite_congr (propext (hp l)) (fun _ => rfl) fun _ => rfl

theorem gw_eq (l : Fin 256) : gw past (fun l => Z (o + l.val)) (fun l => P (o + l.val)) (∑ s ∈ Finset.Ico (o + 256) n, Keep t Z s) l = Gw t n Z P (o + l.val) := by
  simp only [gw, Gw, wt_eq Z h hp]

theorem dz_eq (l : Fin 256) : dz past (fun l => Z (o + l.val)) (fun l => P (o + l.val)) (∑ s ∈ Finset.Ico (o + 256) n, Keep t Z s)
    (∑ s ∈ Finset.Ico (o + 256) n, Gw t n Z P s) g l = Dz t n Z P g (o + l.val) := by
  simp only [dz, Dz, gw_eq Z P h hp, sum_from _ o n l.val (by omega) h]
  exact ite_congr (propext (hp l)) (fun _ => rfl) fun _ => rfl
end bridge

/-! ## The same values among the extended reals -/

theorem log_coe {x : ℝ} (hx : 0 < x) : Ideal.log (x : EReal) = ((Real.log x : ℝ) : EReal) := if_neg (not_le.mpr hx)

theorem max_coe (a b : ℝ) : max (a : EReal) b = ((max a b : ℝ) : EReal) := (EReal.coe_strictMono.monotone.map_max ..).symm
theorem min_coe (a b : ℝ) : min (a : EReal) b = ((min a b : ℝ) : EReal) := (EReal.coe_strictMono.monotone.map_min ..).symm

theorem lb_coe (x : ℝ) : min (x : EReal) 0 - Ideal.log (1 + Ideal.exp (0 - max (x : EReal) (-(x : EReal)))) = ((lb x : ℝ) : EReal) := by
  rw [← EReal.coe_neg, max_coe, ← EReal.coe_zero, min_coe, ← EReal.coe_sub, Ideal.exp_coe, ← EReal.coe_one, ← EReal.coe_add,
    log_coe (by positivity), ← EReal.coe_sub, lb, abs, zero_sub]

/-- A product with the two halves of a value, the second of which is zero. -/
theorem halves_coe (f : Fin 256 → ℝ) (b : Fin 256 → ℝ) :
    (∑ k, (f k : EReal) * (b k : EReal) + ∑ k, ((f k : EReal) - (f k : EReal)) * (b k : EReal)) = ((∑ k, f k * b k : ℝ) : EReal) := by
  simp only [← EReal.coe_sub, ← EReal.coe_mul, ← coe_sum, ← EReal.coe_add, sub_self, zero_mul, Finset.sum_const_zero, add_zero]

end Cert.Sb

end
-- ==== Proof.SbbTile.lean ====
module

public import proofs.«01_k».proof.Proof.Gen.KSbbIdeal.Skeleton
public import Idealize.ShloMosaic.Lib.Pipeline.ValueKit
public import Idealize.ShloMosaic.Lib.WordCmp
public import proofs.«01_k».proof.Proof.SbReal

@[expose] public section

set_option maxRecDepth 16384

noncomputable section

/- One tile of the stick-breaking backward kernel, row by row: its vectors hold the tile's weights, their products with the
   cotangent and the scores' cotangents. The tile that ends the query block, the tile before it, and every tile before those. -/
namespace Cert.SbbTile

open Idealize.ShloMosaic Idealize.ShloMosaic.TcCoe Idealize.SL.Sem
open Cert.Reals Cert.Sb Cert.KSbbIdeal Cert.KSbbIdeal.Gen

/-! ## The masks -/

theorem mask_after (k l : Fin 256) : k0_pay42 (F := Ideal) (ix2 k l) = (((if l < k then 1 else 0 : ℝ)) : EReal) := by
  pointwise! [k0_pay42]
  rw [WordCmp.cmpi_sgt_ofNat (by omega) (by omega)]
  simp only [Fin.lt_def]
  by_cases h : l.val < k.val <;> simp [h, FloatOps.sitofp]

theorem mask_from (k l : Fin 256) : k0_pay43 (F := Ideal) (ix2 k l) = (((if l ≤ k then 1 else 0 : ℝ)) : EReal) := by
  pointwise! [k0_pay43]
  rw [WordCmp.cmpi_sge_ofNat (by omega) (by omega)]
  simp only [Fin.le_def]
  by_cases h : l.val ≤ k.val <;> simp [h, FloatOps.sitofp]

theorem zero_col (R : Fin 2048) : k0_pay44 (F := Ideal) (ix2 R 0) = ((0 : ℝ) : EReal) := by
  pointwise! [k0_pay44]

/-- The keys of the last tile, and of the one before it, that lie before a query. -/
def past1 (R : Fin 2048) (l : Fin 256) : Prop := l.val + 256 < R.val % 512
def past0 (R : Fin 2048) (l : Fin 256) : Prop := l.val < R.val % 512
instance (R : Fin 2048) : DecidablePred (past1 R) := fun _ => inferInstanceAs (Decidable (_ < _))
instance (R : Fin 2048) : DecidablePred (past0 R) := fun _ => inferInstanceAs (Decidable (_ < _))

/-- A stacked row's place in the block of queries, as the kernel computes it. -/
theorem query_word : ∀ R : Fin 2048, Scalar.select (IntOp.andi (IntOp.xori (IntOp.cmpi .slt (IntOp.remsi .vector (BitVec.ofNat 32 R.val) 512#32) 0#32)
      (Scalar.cmpi .slt 512#32 0#32)) (IntOp.cmpi .ne (IntOp.remsi .vector (BitVec.ofNat 32 R.val) 512#32) 0#32))
      (IntOp.addi (IntOp.remsi .vector (BitVec.ofNat 32 R.val) 512#32) 512#32) (IntOp.remsi .vector (BitVec.ofNat 32 R.val) 512#32)
    = BitVec.ofNat 32 (R.val % 512) := by decide +kernel
theorem bits1 (R : Fin 2048) (l : Fin 256) : k0_pay52 512#32 k0_pay50 k0_pay51 (ix2 R l) = if past1 R l then 1#1 else 0#1 := by
  pointwise! [k0_pay52, k0_pay50, k0_pay51]
  refine (congrArg (IntOp.cmpi .slt _) (query_word R)).trans ?_
  rw [show IntOp.addi (BitVec.ofNat 32 l.val) 256#32 = BitVec.ofNat 32 (l.val + 256) from (BitVec.ofNat_add _ _).symm]
  rw [WordCmp.cmpi_slt_ofNat (by omega) (by omega)]
  by_cases h : l.val + 256 < R.val % 512 <;> simp [h, past1]
theorem bits0 (R : Fin 2048) (l : Fin 256) : k0_pay68 (ix2 R l) = if past0 R l then 1#1 else 0#1 := by
  pointwise! [k0_pay68]
  refine (congrArg (IntOp.cmpi .slt _) (query_word R)).trans ?_
  rw [show IntOp.addi (BitVec.ofNat 32 l.val) 0#32 = BitVec.ofNat 32 l.val from (BitVec.ofNat_add _ _).symm]
  rw [WordCmp.cmpi_slt_ofNat (by omega) (by omega)]
  by_cases h : l.val < R.val % 512 <;> simp [h, past0]

variable {qs dos : FVec Ideal S2048x256 .bf16} {kt vt : Vec Ideal S256x256 .bf16} {gt ck cg : FVec Ideal S2048x1 .f32}
  {R : Fin 2048} {z p : Fin 256 → ℝ} {a b g : ℝ}
  (hz : ∀ l, ∑ c : Fin 256, qs (ix2 R c) * kt (ix2 l c) = (z l : EReal))
  (hp : ∀ l, ∑ c : Fin 256, dos (ix2 R c) * vt (ix2 l c) = (p l : EReal))
  (ha : ck (ix2 R 0) = (a : EReal)) (hb : cg (ix2 R 0) = (b : EReal)) (hg : gt (ix2 R 0) = (g : EReal))

/-! ## A tile all of whose keys lie before the queries -/

section far
include hz
theorem z3 (l : Fin 256) : k0_pay3 qs kt (ix2 R l) = (z l : EReal) := by
  rw [← hz l]; pointwise [k0_pay3, k0_pay2]
theorem lb4 (l : Fin 256) : k0_pay4 qs kt (ix2 R l) = ((lb (z l) : ℝ) : EReal) := by
  rw [← lb_coe, ← z3 hz l]; pointwise! [k0_pay4]
theorem keep5 (l : Fin 256) : k0_pay5 qs kt (ix2 R l) = ((keep (fun _ => True) z l : ℝ) : EReal) := by
  rw [keep, if_pos trivial, EReal.coe_sub, ← lb4 hz, ← z3 hz l]; pointwise! [k0_pay5]
include ha
theorem wt6 (l : Fin 256) : k0_pay6 qs k0_pay42 ck kt (ix2 R l) = ((wt (fun _ => True) z a l : ℝ) : EReal) := by
  pointwise! [k0_pay6]
  simp only [lb4 hz, keep5 hz, mask_after, halves_coe, ha, ← EReal.coe_add, Ideal.exp_coe]
  rw [wt, if_pos trivial]
include hp
theorem gw7 (l : Fin 256) : k0_pay7 qs dos k0_pay42 ck kt vt (ix2 R l) = ((gw (fun _ => True) z p a l : ℝ) : EReal) := by
  pointwise! [k0_pay7]
  rw [wt6 hz ha, hp, ← EReal.coe_mul, gw]
include hb hg
theorem dz78 (l : Fin 256) : k0_pay78 (k0_pay4 qs kt) (k0_pay7 qs dos k0_pay42 ck kt vt) (k0_pay8 qs dos gt k0_pay42 k0_pay43 ck cg kt vt) (k0_pay9 qs kt) (ix2 R l)
    = ((dz (fun _ => True) z p a b g l : ℝ) : EReal) := by
  pointwise! [k0_pay78, k0_pay8, k0_pay9]
  simp only [lb4 hz, z3 hz, gw7 hz hp ha, mask_from, halves_coe, hb, hg]
  simp only [← EReal.coe_add, ← EReal.coe_sub, Ideal.exp_coe, ← EReal.coe_mul]
  rw [dz, if_pos trivial]
end far

/-! ## The tile that ends the block of queries -/

section last
include hz
theorem z47 (l : Fin 256) : k0_pay47 qs kt (ix2 R l) = (z l : EReal) := by
  rw [← hz l]; pointwise [k0_pay47, k0_pay45]
theorem lb48 (l : Fin 256) : k0_pay48 qs kt (ix2 R l) = ((lb (z l) : ℝ) : EReal) := by
  rw [← lb_coe, ← z47 hz l]; pointwise! [k0_pay48]
theorem keep53 (l : Fin 256) : k0_pay53 (k0_pay49 qs kt) 512#32 k0_pay50 k0_pay51 (ix2 R l) = ((keep (past1 R) z l : ℝ) : EReal) := by
  pointwise! [k0_pay53, k0_pay49]
  rw [bits1, lb48 hz, z47 hz, keep, ← EReal.coe_sub]
  split <;> rfl
include ha
theorem wt54 (l : Fin 256) : k0_pay54 k0_pay42 ck (k0_pay48 qs kt) (k0_pay49 qs kt) 512#32 k0_pay50 k0_pay51 (ix2 R l) = ((wt (past1 R) z a l : ℝ) : EReal) := by
  pointwise! [k0_pay54]
  simp only [lb48 hz, keep53 hz, mask_after, halves_coe, ha, ← EReal.coe_add, Ideal.exp_coe, bits1]
  rw [wt]
  split <;> rfl
include hp
theorem gw55 (l : Fin 256) : k0_pay55 dos k0_pay42 ck (k0_pay46 vt) (k0_pay48 qs kt) (k0_pay49 qs kt) 512#32 k0_pay50 k0_pay51 (ix2 R l) = ((gw (past1 R) z p a l : ℝ) : EReal) := by
  pointwise! [k0_pay55, k0_pay46]
  rw [wt54 hz ha, hp, ← EReal.coe_mul, gw]
include hg
theorem dz56 (l : Fin 256) : k0_pay56 dos gt k0_pay42 k0_pay43 ck (k0_pay46 vt) (k0_pay47 qs kt) (k0_pay48 qs kt) (k0_pay49 qs kt) 512#32 k0_pay50 k0_pay51 (ix2 R l)
    = ((dz (past1 R) z p a a g l : ℝ) : EReal) := by
  pointwise! [k0_pay56]
  simp only [lb48 hz, z47 hz, gw55 hz hp ha, mask_from, halves_coe, ha, hg, bits1]
  simp only [← EReal.coe_add, ← EReal.coe_sub, Ideal.exp_coe, ← EReal.coe_mul]
  rw [dz]
  split <;> rfl
end last

/-! ## The tile before it -/

section first
include hz
theorem z65 (l : Fin 256) : k0_pay65 qs kt (ix2 R l) = (z l : EReal) := by
  rw [← hz l]; pointwise [k0_pay65, k0_pay63]
theorem lb67 (l : Fin 256) : k0_pay67 (k0_pay65 qs kt) (k0_pay66 qs kt) (ix2 R l) = ((lb (z l) : ℝ) : EReal) := by
  rw [← lb_coe, ← z65 hz l]; pointwise! [k0_pay67, k0_pay66]
theorem keep69 (l : Fin 256) : k0_pay69 (k0_pay65 qs kt) (k0_pay66 qs kt) (ix2 R l) = ((keep (past0 R) z l : ℝ) : EReal) := by
  pointwise! [k0_pay69]
  rw [bits0, lb67 hz, z65 hz, keep, ← EReal.coe_sub]
  split <;> rfl
include ha
theorem wt70 (l : Fin 256) : k0_pay70 k0_pay42 ck (k0_pay65 qs kt) (k0_pay66 qs kt) (ix2 R l) = ((wt (past0 R) z a l : ℝ) : EReal) := by
  pointwise! [k0_pay70]
  simp only [lb67 hz, keep69 hz, mask_after, halves_coe, ha, ← EReal.coe_add, Ideal.exp_coe, bits0]
  rw [wt]
  split <;> rfl
include hp
theorem gw71 (l : Fin 256) : k0_pay71 dos k0_pay42 ck (k0_pay64 vt) (k0_pay65 qs kt) (k0_pay66 qs kt) (ix2 R l) = ((gw (past0 R) z p a l : ℝ) : EReal) := by
  pointwise! [k0_pay71, k0_pay64]
  rw [wt70 hz ha, hp, ← EReal.coe_mul, gw]
include hb hg
theorem dz72 (l : Fin 256) : k0_pay72 gt k0_pay43 cg (k0_pay65 qs kt) (k0_pay67 (k0_pay65 qs kt) (k0_pay66 qs kt)) k0_pay68
      (k0_pay71 dos k0_pay42 ck (k0_pay64 vt) (k0_pay65 qs kt) (k0_pay66 qs kt)) (ix2 R l)
    = ((dz (past0 R) z p a b g l : ℝ) : EReal) := by
  pointwise! [k0_pay72]
  simp only [lb67 hz, z65 hz, gw71 hz hp ha, mask_from, halves_coe, hb, hg, bits0]
  simp only [← EReal.coe_add, ← EReal.coe_sub, Ideal.exp_coe, ← EReal.coe_mul]
  rw [dz]
  split <;> rfl
end first

/-- The place of a stacked row in its block of queries. -/
def qrow (R : Fin 2048) : Fin 512 := ⟨R.val % 512, Nat.mod_lt _ (by decide)⟩

/-- The head of a lane, as the kernel computes it. -/
theorem lane_word (c : Fin 256) (h : ℕ) (hh : h < 4) (a b : EReal) : Scalar.select (IntOp.cmpi .eq (Scalar.select (IntOp.andi
        (IntOp.cmpi .ne (IntOp.subi (BitVec.setWidth 32 (IntOp.cmpi .sgt (BitVec.ofNat 32 c.val) 0#32)) (BitVec.setWidth 32 (IntOp.cmpi .slt (BitVec.ofNat 32 c.val) 0#32)))
          (Scalar.subi (Scalar.extui (Scalar.cmpi .sgt 64#32 0#32)) (Scalar.extui (Scalar.cmpi .slt 64#32 0#32))))
        (IntOp.cmpi .ne (IntOp.remsi .vector (BitVec.ofNat 32 c.val) 64#32) 0#32))
      (IntOp.subi (IntOp.divsi .vector (BitVec.ofNat 32 c.val) 64#32) 1#32) (IntOp.divsi .vector (BitVec.ofNat 32 c.val) 64#32)) (BitVec.ofNat 32 h)) a b
    = if c.val / 64 = h then a else b := by
  have hw : ∀ c : Fin 256, Scalar.select (IntOp.andi
        (IntOp.cmpi .ne (IntOp.subi (BitVec.setWidth 32 (IntOp.cmpi .sgt (BitVec.ofNat 32 c.val) 0#32)) (BitVec.setWidth 32 (IntOp.cmpi .slt (BitVec.ofNat 32 c.val) 0#32)))
          (Scalar.subi (Scalar.extui (Scalar.cmpi .sgt 64#32 0#32)) (Scalar.extui (Scalar.cmpi .slt 64#32 0#32))))
        (IntOp.cmpi .ne (IntOp.remsi .vector (BitVec.ofNat 32 c.val) 64#32) 0#32))
      (IntOp.subi (IntOp.divsi .vector (BitVec.ofNat 32 c.val) 64#32) 1#32) (IntOp.divsi .vector (BitVec.ofNat 32 c.val) 64#32) = BitVec.ofNat 32 (c.val / 64) := by
    decide +kernel
  rw [hw c, WordCmp.cmpi_eq_ofNat (by omega) (by omega)]
  by_cases e : c.val / 64 = h <;> simp [e] <;> rfl

/-- A vector of four blocks of rows, one below the other. -/
theorem stacked {α : Type} (f : ℕ → Fin 512 → α) (R : Fin 2048) {u : α}
    (hu : u = if h : R.val < 512 then f 0 ⟨R.val, h⟩ else if h : R.val - 512 < 512 then f 1 ⟨R.val - 512, h⟩
      else if h : R.val - 512 - 512 < 512 then f 2 ⟨R.val - 512 - 512, h⟩ else f 3 ⟨R.val - 512 - 512 - 512, by omega⟩) : u = f (R.val / 512) (qrow R) := by
  rw [hu]
  split
  · rw [show R.val / 512 = 0 by omega]; exact congrArg _ (Fin.ext (by simp only [qrow]; omega))
  split
  · rw [show R.val / 512 = 1 by omega]; exact congrArg _ (Fin.ext (by simp only [qrow]; omega))
  split
  · rw [show R.val / 512 = 2 by omega]; exact congrArg _ (Fin.ext (by simp only [qrow]; omega))
  · rw [show R.val / 512 = 3 by omega]; exact congrArg _ (Fin.ext (by simp only [qrow]; omega))

variable (x : Vec Ideal S512x256 .bf16) (x4 : Vec Ideal S512x256 .f32)
theorem q20 (i : Fin 512) (c : Fin 256) : k0_pay20 x (ix2 i c) = x (ix2 i c) * ((1 / 8 : ℝ) : EReal) := by
  pointwise! [k0_pay20]
  rw [show Ideal.ofBits .bf16 0x3E00#16 = ((1 / 8 : ℝ) : EReal) by simp [Ideal.ofBits, Ideal.ieee, -EReal.coe_mul]; norm_num]
theorem qs29 (R : Fin 2048) (c : Fin 256) :
    k0_pay29 (k0_pay20 x) (k0_pay21 x) (k0_pay24 (k0_pay20 x) (iota .tc S1x256 32 [1] iota_S1x256_d1_w32) 64#32 k0_pay22 k0_pay23) k0_pay25 k0_pay26 k0_pay27 k0_pay28 (ix2 R c)
      = if c.val / 64 = R.val / 512 then k0_pay20 x (ix2 (qrow R) c) else 0 := by
  refine stacked (fun h i => if c.val / 64 = h then k0_pay20 x (ix2 i c) else 0) R ?_
  pointwise! [k0_pay29, k0_pay21, k0_pay24, k0_pay25, k0_pay26, k0_pay27, k0_pay28, k0_pay22, k0_pay23]
  simp only [lane_word c _ (by decide : 0 < 4), lane_word c _ (by decide : 1 < 4), lane_word c _ (by decide : 2 < 4), lane_word c _ (by decide : 3 < 4)]
theorem dos37 (R : Fin 2048) (c : Fin 256) :
    k0_pay37 (k0_pay30 x4) (k0_pay31 (k0_pay30 x4) (iota .tc S1x256 32 [1] iota_S1x256_d1_w32)) (k0_pay35 (k0_pay30 x4) (iota .tc S1x256 32 [1] iota_S1x256_d1_w32) 64#32 k0_pay32 k0_pay33 k0_pay34)
      (k0_pay36 (k0_pay30 x4)) (iota .tc S1x256 32 [1] iota_S1x256_d1_w32) (ix2 R c)
      = if c.val / 64 = R.val / 512 then x4 (ix2 (qrow R) c) else 0 := by
  refine stacked (fun h i => if c.val / 64 = h then x4 (ix2 i c) else 0) R ?_
  pointwise! [k0_pay37, k0_pay30, k0_pay31, k0_pay35, k0_pay36, k0_pay32, k0_pay33, k0_pay34]
  simp only [lane_word c _ (by decide : 0 < 4), lane_word c _ (by decide : 1 < 4), lane_word c _ (by decide : 2 < 4), lane_word c _ (by decide : 3 < 4)]
theorem fold_same (g : ℝ) : Finset.fold max (Ideal.ofBits .f32 0xFF800000#32) (fun _ : Fin 128 => (g : EReal)) Finset.univ = g := by
  rw [show Ideal.ofBits .f32 0xFF800000#32 = ⊥ by simp [Ideal.ofBits, Ideal.ieee]]
  exact le_antisymm ((Finset.fold_max_le _).mpr ⟨bot_le, fun _ _ => le_rfl⟩) ((Finset.le_fold_max _).mpr (.inr ⟨0, Finset.mem_univ _, le_rfl⟩))
/-- A head's sums lie on 128 equal lanes, whose greatest the kernel takes. -/
theorem gt41 (g0 g1 g2 g3 : Vec Ideal S512x128 .f32) (g : ℕ → Fin 512 → ℝ) (h0 : ∀ i l, g0 (ix2 i l) = (g 0 i : EReal)) (h1 : ∀ i l, g1 (ix2 i l) = (g 1 i : EReal))
    (h2 : ∀ i l, g2 (ix2 i l) = (g 2 i : EReal)) (h3 : ∀ i l, g3 (ix2 i l) = (g 3 i : EReal)) (R : Fin 2048) :
    k0_pay41 (k0_pay38 g0) (k0_pay39 g1) (k0_pay40 g2) g3 (ix2 R 0) = (g (R.val / 512) (qrow R) : EReal) := by
  refine stacked (fun h i => (g h i : EReal)) R ?_
  pointwise! [k0_pay41, k0_pay38, k0_pay39, k0_pay40]
  simp only [h0, h1, h2, h3, fold_same]

/-! ## What a tile adds to the sums it hands on, and to the three accumulators -/

section adds
variable (c1 g : FVec Ideal S2048x1 .f32) (v a b d : FVec Ideal S2048x256 .f32) (w : IVec S2048x256 1) (q : FVec Ideal S2048x256 .bf16) (kt : FVec Ideal S256x256 .bf16) (x : Vec Ideal S256x256 .f32)
  (y : Vec Ideal S2048x256 .f32) (m : FVec Ideal S256x256 .bf16)
theorem col61 (R : Fin 2048) : k0_pay61 c1 v (ix2 R 0) = c1 (ix2 R 0) + ∑ l : Fin 256, v (ix2 R l) := by pointwise! [k0_pay61]
theorem col62 (R : Fin 2048) : k0_pay62 c1 v (ix2 R 0) = c1 (ix2 R 0) + ∑ l : Fin 256, v (ix2 R l) := by pointwise! [k0_pay62]
theorem col76 (R : Fin 2048) : k0_pay76 c1 v (ix2 R 0) = c1 (ix2 R 0) + ∑ l : Fin 256, v (ix2 R l) := by pointwise! [k0_pay76]
theorem col77 (R : Fin 2048) : k0_pay77 c1 v (ix2 R 0) = c1 (ix2 R 0) + ∑ l : Fin 256, v (ix2 R l) := by pointwise! [k0_pay77]
theorem col82 (R : Fin 2048) : k0_pay82 c1 v (ix2 R 0) = c1 (ix2 R 0) + ∑ l : Fin 256, v (ix2 R l) := by pointwise! [k0_pay82]
theorem col83 (R : Fin 2048) : k0_pay83 c1 v (ix2 R 0) = c1 (ix2 R 0) + ∑ l : Fin 256, v (ix2 R l) := by pointwise! [k0_pay83]
theorem dk58 (l c : Fin 256) : k0_pay58 q v x (ix2 l c) = x (ix2 l c) + ∑ R : Fin 2048, v (ix2 R l) * q (ix2 R c) := by pointwise! [k0_pay58, k0_pay57]
theorem dv59 (l c : Fin 256) : k0_pay59 q v x (ix2 l c) = x (ix2 l c) + ∑ R : Fin 2048, v (ix2 R l) * q (ix2 R c) := by pointwise! [k0_pay59]
theorem acc60 (R : Fin 2048) (c : Fin 256) : k0_pay60 kt v (ix2 R c) = ∑ l : Fin 256, v (ix2 R l) * kt (ix2 l c) := by pointwise! [k0_pay60, k0_pay57]
theorem dk73 (l c : Fin 256) : k0_pay73 q g m c1 v a w b x (ix2 l c) = x (ix2 l c) + ∑ R : Fin 2048, k0_pay72 g m c1 v a w b (ix2 R l) * q (ix2 R c) := by pointwise! [k0_pay73]
theorem dv74 (l c : Fin 256) : k0_pay74 q v x (ix2 l c) = x (ix2 l c) + ∑ R : Fin 2048, v (ix2 R l) * q (ix2 R c) := by pointwise! [k0_pay74]
theorem acc75 (R : Fin 2048) (c : Fin 256) : k0_pay75 g m c1 kt v a w b y (ix2 R c) = y (ix2 R c) + ∑ l : Fin 256, k0_pay72 g m c1 v a w b (ix2 R l) * kt (ix2 l c) := by pointwise! [k0_pay75]
theorem dk79 (l c : Fin 256) : k0_pay79 q v a b d x (ix2 l c) = x (ix2 l c) + ∑ R : Fin 2048, k0_pay78 v a b d (ix2 R l) * q (ix2 R c) := by pointwise! [k0_pay79]
theorem dv80 (l c : Fin 256) : k0_pay80 q v x (ix2 l c) = x (ix2 l c) + ∑ R : Fin 2048, v (ix2 R l) * q (ix2 R c) := by pointwise! [k0_pay80]
theorem acc81 (R : Fin 2048) (c : Fin 256) : k0_pay81 kt v a b d y (ix2 R c) = y (ix2 R c) + ∑ l : Fin 256, k0_pay78 v a b d (ix2 R l) * kt (ix2 l c) := by pointwise! [k0_pay81]
theorem unstack (i : Fin 512) (c : Fin 256) :
    k0_pay1 y (k0_pay93 y (k0_pay90 y) k0_pay91 (k0_pay92 y)) (iota .tc S1x256 32 [1] iota_S1x256_d1_w32) 64#32 k0_pay94 k0_pay95 (Scalar.extui (Scalar.cmpi .sgt 64#32 0#32)) (Scalar.cmpi .slt 64#32 0#32) (ix2 i c)
      = y (ix2 ⟨512 * (c.val / 64) + i.val, by omega⟩ c) * ((1 / 8 : ℝ) : EReal) := by
  pointwise! [k0_pay1, k0_pay93, k0_pay90, k0_pay91, k0_pay92, k0_pay94, k0_pay95]
  simp only [lane_word c _ (by decide : 1 < 4), lane_word c _ (by decide : 2 < 4), lane_word c _ (by decide : 3 < 4)]
  rw [show Ideal.ofBits .f32 0x3E000000#32 = ((1 / 8 : ℝ) : EReal) by simp [Ideal.ofBits, Ideal.ieee, -EReal.coe_mul]; norm_num]
  congr 1
  split
  · exact congrArg (fun r => y (ix2 r c)) (Fin.ext (by simp only; omega))
  split
  · exact congrArg (fun r => y (ix2 r c)) (Fin.ext (by simp only; omega))
  split
  · exact congrArg (fun r => y (ix2 r c)) (Fin.ext (by simp only; omega))
  · exact congrArg (fun r => y (ix2 r c)) (Fin.ext (by simp only; omega))
end adds

end Cert.SbbTile

end
-- ==== Proof.SbfTile.lean ====
module

public import proofs.«01_k».proof.Proof.Gen.KSbfIdeal.Skeleton
public import proofs.«01_k».proof.Proof.SbbTile

@[expose] public section

set_option maxRecDepth 16384

noncomputable section

/- One tile of the stick-breaking forward kernel, row by row: the kept logs it hands on and what it adds to the output. -/
namespace Cert.SbfTile

open Idealize.ShloMosaic Idealize.ShloMosaic.TcCoe Idealize.SL.Sem
open Cert.Reals Cert.Sb Cert.KSbfIdeal Cert.KSbfIdeal.Gen
open Cert.SbbTile (past1 past0 query_word qrow lane_word stacked)

theorem mask_after (k l : Fin 256) : k0_pay18 (F := Ideal) (ix2 k l) = (((if l < k then 1 else 0 : ℝ)) : EReal) := by
  pointwise! [k0_pay18]
  rw [WordCmp.cmpi_sgt_ofNat (by omega) (by omega)]
  simp only [Fin.lt_def]
  by_cases h : l.val < k.val <;> simp [h, FloatOps.sitofp]

theorem zero_col (R : Fin 2048) : k0_pay19 (F := Ideal) (ix2 R 0) = ((0 : ℝ) : EReal) := by
  pointwise! [k0_pay19]

theorem bits1 (R : Fin 2048) (l : Fin 256) : k0_pay23 (ix2 R l) = if past1 R l then 1#1 else 0#1 := by
  pointwise! [k0_pay23]
  refine (congrArg (IntOp.cmpi .slt _) (query_word R)).trans ?_
  rw [show IntOp.addi (BitVec.ofNat 32 l.val) 256#32 = BitVec.ofNat 32 (l.val + 256) from (BitVec.ofNat_add _ _).symm]
  rw [WordCmp.cmpi_slt_ofNat (by omega) (by omega)]
  by_cases h : l.val + 256 < R.val % 512 <;> simp [h, past1]

/-- The rows' numbers. -/
abbrev rowNo : IVec S2048x256 32 := iota .tc S2048x256 32 [0] iota_S2048x256_d0_w32

theorem bits0 (R : Fin 2048) (l : Fin 256) : k0_pay33 rowNo (ix2 R l) = if past0 R l then 1#1 else 0#1 := by
  pointwise! [k0_pay33]
  refine (congrArg (IntOp.cmpi .slt _) (query_word R)).trans ?_
  rw [show IntOp.addi (BitVec.ofNat 32 l.val) 0#32 = BitVec.ofNat 32 l.val from (BitVec.ofNat_add _ _).symm]
  rw [WordCmp.cmpi_slt_ofNat (by omega) (by omega)]
  by_cases h : l.val < R.val % 512 <;> simp [h, past0]

variable {qs : FVec Ideal S2048x256 .bf16} {kt vt : Vec Ideal S256x256 .bf16} {ck : FVec Ideal S2048x1 .f32} {y : Vec Ideal S2048x256 .f32}
  {R : Fin 2048} {c : Fin 256} {z v : Fin 256 → ℝ} {a : ℝ}
  (hz : ∀ l, ∑ c : Fin 256, qs (ix2 R c) * kt (ix2 l c) = (z l : EReal))
  (hv : ∀ l, vt (ix2 l c) = (v l : EReal)) (ha : ck (ix2 R 0) = (a : EReal))

/-! ## A tile all of whose keys lie before the queries -/

section far
include hz
theorem z2 (l : Fin 256) : k0_pay2 qs kt (ix2 R l) = (z l : EReal) := by
  rw [← hz l]; pointwise [k0_pay2]
theorem lb3 (l : Fin 256) : k0_pay3 qs kt (ix2 R l) = ((lb (z l) : ℝ) : EReal) := by
  rw [← lb_coe, ← z2 hz l]; pointwise! [k0_pay3]
theorem keep4 (l : Fin 256) : k0_pay4 qs kt (ix2 R l) = ((keep (fun _ => True) z l : ℝ) : EReal) := by
  rw [keep, if_pos trivial, EReal.coe_sub, ← lb3 hz, ← z2 hz l]; pointwise! [k0_pay4]
include ha hv
theorem add5 : k0_pay5 qs k0_pay18 ck kt vt y (ix2 R c) = y (ix2 R c) + ((∑ l, wt (fun _ => True) z a l * v l : ℝ) : EReal) := by
  pointwise! [k0_pay5]
  simp only [lb3 hz, keep4 hz, mask_after, halves_coe, ha, hv, ← EReal.coe_add, Ideal.exp_coe]
  simp only [wt, if_true]
end far

/-! ## The tile that ends the block of queries -/

section last
include hz
theorem z21 (l : Fin 256) : k0_pay21 qs kt (ix2 R l) = (z l : EReal) := by
  rw [← hz l]; pointwise [k0_pay21]
theorem lb22 (l : Fin 256) : k0_pay22 qs kt (ix2 R l) = ((lb (z l) : ℝ) : EReal) := by
  rw [← lb_coe, ← z21 hz l]; pointwise! [k0_pay22]
theorem keep24 (l : Fin 256) : k0_pay24 qs kt (ix2 R l) = ((keep (past1 R) z l : ℝ) : EReal) := by
  pointwise! [k0_pay24]
  rw [bits1, lb22 hz, z21 hz, keep, ← EReal.coe_sub]
  split <;> rfl
include ha hv
theorem add27 : k0_pay27 k0_pay18 ck (k0_pay20 vt) (k0_pay22 qs kt) k0_pay23 (k0_pay25 qs kt) (k0_pay26 qs kt) (ix2 R c) = ((∑ l, wt (past1 R) z a l * v l : ℝ) : EReal) := by
  have e0 : ∀ l : Fin 256, Scalar.select (if past1 R l then 1#1 else 0#1) ((Real.exp (lb (z l) + ∑ k, keep (past1 R) z k * (if l < k then 1 else 0) + a) : ℝ) : EReal) 0
      = ((wt (past1 R) z a l : ℝ) : EReal) := fun l => by rw [wt]; split <;> rfl
  have e : ∀ l : Fin 256, Scalar.select (if past1 R l then 1#1 else 0#1) (((Real.exp (lb (z l) + ∑ k, keep (past1 R) z k * (if l < k then 1 else 0) + a) : ℝ) : EReal) * (v l : EReal)) 0
      = ((wt (past1 R) z a l : ℝ) : EReal) * (v l : EReal) := fun l => by
    rw [wt]; split
    · rfl
    · rw [EReal.coe_zero, zero_mul]; rfl
  pointwise! [k0_pay27, k0_pay20, k0_pay25, k0_pay26]
  simp only [lb22 hz, keep24 hz, mask_after, halves_coe, ha, hv, ← EReal.coe_add, Ideal.exp_coe, bits1, e0, e]
end last

/-! ## The tile before it -/

section first
include hz
theorem z30 (l : Fin 256) : k0_pay30 qs kt (ix2 R l) = (z l : EReal) := by
  rw [← hz l]; pointwise [k0_pay30]
theorem lb31 (l : Fin 256) : k0_pay31 qs kt (ix2 R l) = ((lb (z l) : ℝ) : EReal) := by
  rw [← lb_coe, ← z30 hz l]; pointwise! [k0_pay31]
theorem keep34 (l : Fin 256) : k0_pay34 (k0_pay32 qs kt) rowNo (ix2 R l) = ((keep (past0 R) z l : ℝ) : EReal) := by
  pointwise! [k0_pay34, k0_pay32]
  rw [bits0, lb31 hz, z30 hz, keep, ← EReal.coe_sub]
  split <;> rfl
include ha hv
theorem add35 : k0_pay35 k0_pay18 ck (k0_pay29 vt) (k0_pay31 qs kt) (k0_pay32 qs kt) rowNo y (ix2 R c) = y (ix2 R c) + ((∑ l, wt (past0 R) z a l * v l : ℝ) : EReal) := by
  have e0 : ∀ l : Fin 256, Scalar.select (if past0 R l then 1#1 else 0#1) ((Real.exp (lb (z l) + ∑ k, keep (past0 R) z k * (if l < k then 1 else 0) + a) : ℝ) : EReal) 0
      = ((wt (past0 R) z a l : ℝ) : EReal) := fun l => by rw [wt]; split <;> rfl
  have e : ∀ l : Fin 256, Scalar.select (if past0 R l then 1#1 else 0#1) (((Real.exp (lb (z l) + ∑ k, keep (past0 R) z k * (if l < k then 1 else 0) + a) : ℝ) : EReal) * (v l : EReal)) 0
      = ((wt (past0 R) z a l : ℝ) : EReal) * (v l : EReal) := fun l => by
    rw [wt]; split
    · rfl
    · rw [EReal.coe_zero, zero_mul]; rfl
  pointwise! [k0_pay35, k0_pay29]
  simp only [lb31 hz, keep34 hz, mask_after, halves_coe, ha, hv, ← EReal.coe_add, Ideal.exp_coe, bits0, e0, e]
end first

/-! ## The sums handed on, the stacked queries and the unstacked output -/

section adds
variable (c1 : FVec Ideal S2048x1 .f32) (u : FVec Ideal S2048x256 .f32) (x : Vec Ideal S512x256 .bf16)
theorem col28 (R : Fin 2048) : k0_pay28 c1 u (ix2 R 0) = c1 (ix2 R 0) + ∑ l : Fin 256, u (ix2 R l) := by pointwise! [k0_pay28]
theorem col37 (R : Fin 2048) : k0_pay37 c1 u (ix2 R 0) = c1 (ix2 R 0) + ∑ l : Fin 256, u (ix2 R l) := by pointwise! [k0_pay37]
theorem col38 (R : Fin 2048) : k0_pay38 c1 u (ix2 R 0) = c1 (ix2 R 0) + ∑ l : Fin 256, u (ix2 R l) := by pointwise! [k0_pay38]

theorem q10 (i : Fin 512) (c : Fin 256) : k0_pay10 x (ix2 i c) = x (ix2 i c) * ((1 / 8 : ℝ) : EReal) := by
  pointwise! [k0_pay10]
  rw [show Ideal.ofBits .bf16 0x3E00#16 = ((1 / 8 : ℝ) : EReal) by simp [Ideal.ofBits, Ideal.ieee, -EReal.coe_mul]; norm_num]

/-- Four heads' queries, each row with its head's columns alone. -/
def queries {F : FTy → Type} [FloatOps F] (x : Vec F S512x256 .bf16) : FVec F S2048x256 .bf16 :=
  k0_pay17 (k0_pay10 x) (k0_pay11 x) (k0_pay15 (k0_pay10 x) (iota .tc S1x256 32 [1] iota_S1x256_d1_w32) 64#32 k0_pay12 k0_pay13 k0_pay14) k0_pay16

theorem queries_at (R : Fin 2048) (c : Fin 256) : queries x (ix2 R c) = if c.val / 64 = R.val / 512 then k0_pay10 x (ix2 (qrow R) c) else 0 := by
  refine stacked (fun h i => if c.val / 64 = h then k0_pay10 x (ix2 i c) else 0) R ?_
  pointwise! [queries, k0_pay17, k0_pay11, k0_pay15, k0_pay12, k0_pay13, k0_pay14, k0_pay16]
  simp only [lane_word c _ (by decide : 0 < 4), lane_word c _ (by decide : 1 < 4), lane_word c _ (by decide : 2 < 4), lane_word c _ (by decide : 3 < 4)]

/-- The four heads' outputs side by side again. -/
def sideways {F : FTy → Type} [FloatOps F] (y : Vec F S2048x256 .f32) : FVec F S512x256 .f32 :=
  k0_pay1 y (k0_pay43 y (k0_pay40 y) k0_pay41 (k0_pay42 y)) (iota .tc S1x256 32 [1] iota_S1x256_d1_w32) 64#32 k0_pay44 k0_pay45 (Scalar.extui (Scalar.cmpi .sgt 64#32 0#32)) (Scalar.cmpi .slt 64#32 0#32)

theorem sideways_at (i : Fin 512) (c : Fin 256) : sideways y (ix2 i c) = y (ix2 ⟨512 * (c.val / 64) + i.val, by omega⟩ c) := by
  pointwise! [sideways, k0_pay1, k0_pay43, k0_pay40, k0_pay41, k0_pay42, k0_pay44, k0_pay45]
  simp only [lane_word c _ (by decide : 1 < 4), lane_word c _ (by decide : 2 < 4), lane_word c _ (by decide : 3 < 4)]
  split
  · exact congrArg (fun r => y (ix2 r c)) (Fin.ext (by simp only; omega))
  split
  · exact congrArg (fun r => y (ix2 r c)) (Fin.ext (by simp only; omega))
  split
  · exact congrArg (fun r => y (ix2 r c)) (Fin.ext (by simp only; omega))
  · exact congrArg (fun r => y (ix2 r c)) (Fin.ext (by simp only; omega))
end adds

end Cert.SbfTile

end
-- ==== Proof.SbbModel.lean ====
module

public import proofs.«01_k».proof.Proof.SbbTile
public import Idealize.ShloMosaic.Lib.VecWindow

@[expose] public section

set_option maxRecDepth 16384

noncomputable section

/- What the stick-breaking backward kernel's running sums hold between two tiles of a block of queries. -/
namespace Cert.SbbModel

open Idealize.ShloMosaic Idealize.ShloMosaic.TcCoe Idealize.SL.Sem
open Cert.Reals Cert.Sb Cert.SbbTile Cert.KSbbIdeal Cert.KSbbIdeal.Gen

/-- Block `b` of 512 queries with its keys: four heads' queries `Q` and cotangents `D` stacked, keys `K`, values `V`,
    and each row's sum `G` of cotangent times output. -/
structure Block where
  Q : Fin 2048 → Fin 256 → ℝ
  D : Fin 2048 → Fin 256 → ℝ
  K : ℕ → Fin 256 → ℝ
  V : ℕ → Fin 256 → ℝ
  G : Fin 2048 → ℝ
  b : ℕ

namespace Block
variable (B : Block)
/-- The query of a stacked row, and the number of keys the block looks at. -/
def t (R : Fin 2048) : ℕ := 512 * B.b + R.val % 512
def n : ℕ := 512 * B.b + 512
def Z (R : Fin 2048) (s : ℕ) : ℝ := ∑ c : Fin 256, B.Q R c * B.K s c
def P (R : Fin 2048) (s : ℕ) : ℝ := ∑ c : Fin 256, B.D R c * B.V s c
def kp (R : Fin 2048) (s : ℕ) : ℝ := Keep (B.t R) (B.Z R) s
def ww (R : Fin 2048) (s : ℕ) : ℝ := Wt (B.t R) B.n (B.Z R) s
def gg (R : Fin 2048) (s : ℕ) : ℝ := Gw (B.t R) B.n (B.Z R) (B.P R) s
def dd (R : Fin 2048) (s : ℕ) : ℝ := Dz (B.t R) B.n (B.Z R) (B.P R) (B.G R) s
end Block

/-- The sums over the keys from `o` on: the two carried sums of each row, the query accumulator, and the two key-side
    accumulators, which started from `A7` and `A8`. -/
structure Inv (B : Block) (A7 A8 : Fin 4096 → Fin 256 → ℝ) (o : ℕ) (ck cg : FVec Ideal S2048x1 .f32) (acc : S2048x256.Idx → EReal)
    (dk dv : S4096x256.Idx → EReal) : Prop where
  ck : ∀ R, ck (ix2 R 0) = ((∑ s ∈ Finset.Ico o B.n, B.kp R s : ℝ) : EReal)
  cg : ∀ R, cg (ix2 R 0) = ((∑ s ∈ Finset.Ico o B.n, B.gg R s : ℝ) : EReal)
  acc : ∀ R c, acc (ix2 R c) = ((∑ s ∈ Finset.Ico o B.n, B.dd R s * B.K s c : ℝ) : EReal)
  dk : ∀ s c, dk (ix2 s c) = ((A7 s c + if o ≤ s.val ∧ s.val < B.n then ∑ R, B.dd R s.val * B.Q R c else 0 : ℝ) : EReal)
  dv : ∀ s c, dv (ix2 s c) = ((A8 s c + if o ≤ s.val ∧ s.val < B.n then ∑ R, B.ww R s.val * B.D R c else 0 : ℝ) : EReal)

/-- The four vectors a tile computes, at the keys from `o` on. -/
structure Tile (B : Block) (o : ℕ) (kv wv gv dz : S2048x256.Idx → EReal) : Prop where
  kv : ∀ R l, kv (ix2 R l) = (B.kp R (o + l.val) : EReal)
  wv : ∀ R l, wv (ix2 R l) = (B.ww R (o + l.val) : EReal)
  gv : ∀ R l, gv (ix2 R l) = (B.gg R (o + l.val) : EReal)
  dz : ∀ R l, dz (ix2 R l) = (B.dd R (o + l.val) : EReal)

/-! ## A tile goes on with the sums -/

theorem sum_next (f : ℕ → ℝ) (o n : ℕ) (h : o + 256 ≤ n) {x : EReal} (hx : x = ((∑ s ∈ Finset.Ico (o + 256) n, f s : ℝ) : EReal)) {v : Fin 256 → EReal}
    (hv : ∀ l, v l = (f (o + l.val) : EReal)) : x + ∑ l, v l = ((∑ s ∈ Finset.Ico o n, f s : ℝ) : EReal) := by
  rw [hx, sum_tile f o n h, Finset.sum_congr rfl fun l _ => hv l, ← coe_sum, ← EReal.coe_add, add_comm]

/-- The rows of a window put into a key-side accumulator. -/
theorem put_rows (x : S4096x256.Idx → EReal) (o : ℕ) (ho : o + 256 ≤ 4096) (w : (Shape.Idx S256x256) → EReal) (s : Fin 4096) (c : Fin 256) :
    VecWindow.put (s := S4096x256) x ![o, 0] S256x256.size w (ix2 s c) = if h : o ≤ s.val ∧ s.val < o + 256 then w (ix2 ⟨s.val - o, by omega⟩ c) else x (ix2 s c) := by
  unfold VecWindow.put
  by_cases h : o ≤ s.val ∧ s.val < o + 256
  · rw [dif_pos h, dif_pos (by intro a; fin_cases a; exacts [h, ⟨Nat.zero_le _, by show c.val < 0 + 256; omega⟩])]
    refine congrArg w (funext fun a => ?_)
    fin_cases a <;> rfl
  · rw [dif_neg h, dif_neg fun hh => h (hh 0)]

theorem rows_next (B : Block) (f : Fin 2048 → ℕ → ℝ) (q : Fin 2048 → Fin 256 → ℝ) (A : Fin 4096 → Fin 256 → ℝ) (o : ℕ) (h : o + 256 ≤ B.n) (ho : o + 256 ≤ 4096)
    {x : S4096x256.Idx → EReal} (hx : ∀ s c, x (ix2 s c) = ((A s c + if o + 256 ≤ s.val ∧ s.val < B.n then ∑ R, f R s.val * q R c else 0 : ℝ) : EReal))
    {v u : S2048x256.Idx → EReal} (hv : ∀ R l, v (ix2 R l) = (f R (o + l.val) : EReal)) (hu : ∀ R c, u (ix2 R c) = (q R c : EReal))
    {w : (Shape.Idx S256x256) → EReal} (hw : ∀ l c, w (ix2 l c) = x (ix2 ⟨o + l.val, by omega⟩ c) + ∑ R, v (ix2 R l) * u (ix2 R c)) (s : Fin 4096) (c : Fin 256) :
    VecWindow.put (s := S4096x256) x ![o, 0] S256x256.size w (ix2 s c) = ((A s c + if o ≤ s.val ∧ s.val < B.n then ∑ R, f R s.val * q R c else 0 : ℝ) : EReal) := by
  rw [put_rows x o ho]
  split
  · rename_i hs
    have es : (⟨o + (s.val - o), by omega⟩ : Fin 4096) = s := Fin.ext (by simp only; omega)
    rw [hw]
    simp only [hv, hu, ← EReal.coe_mul, ← coe_sum, es, hx, ← EReal.coe_add]
    rw [if_neg (by omega), if_pos (by omega), add_zero, show o + (s.val - o) = s.val by omega]
  · rename_i hs
    rw [hx]
    congr 3
    exact propext (by omega)

section next
variable {B : Block} {A7 A8 : Fin 4096 → Fin 256 → ℝ} {o : ℕ} {ck cg ck' cg' : FVec Ideal S2048x1 .f32} {acc acc' : S2048x256.Idx → EReal} {dk dv : S4096x256.Idx → EReal}
  {kv wv gv dz : S2048x256.Idx → EReal} {qs dos : FVec Ideal S2048x256 .bf16} {kt vt : Vec Ideal S256x256 .bf16} {gt : FVec Ideal S2048x1 .f32}
  (h : o + 256 ≤ B.n) (ho : o + 256 ≤ 4096) (I : Inv B A7 A8 (o + 256) ck cg acc dk dv)
  (hq : ∀ R c, qs (ix2 R c) = (B.Q R c : EReal)) (hd : ∀ R c, dos (ix2 R c) = (B.D R c : EReal)) (hg : ∀ R, gt (ix2 R 0) = (B.G R : EReal))
  (hk : ∀ l c, kt (ix2 l c) = (B.K (o + l.val) c : EReal)) (hv : ∀ l c, vt (ix2 l c) = (B.V (o + l.val) c : EReal))

include h ho I hq hd hk in
theorem Inv.next (T : Tile B o kv wv gv dz) {wk wd : (Shape.Idx S256x256) → EReal}
    (hck : ∀ R, ck' (ix2 R 0) = ck (ix2 R 0) + ∑ l : Fin 256, kv (ix2 R l)) (hcg : ∀ R, cg' (ix2 R 0) = cg (ix2 R 0) + ∑ l : Fin 256, gv (ix2 R l))
    (hacc : ∀ R c, acc' (ix2 R c) = acc (ix2 R c) + ∑ l : Fin 256, dz (ix2 R l) * kt (ix2 l c))
    (hwk : ∀ l c, wk (ix2 l c) = dk (ix2 ⟨o + l.val, by omega⟩ c) + ∑ R : Fin 2048, dz (ix2 R l) * qs (ix2 R c))
    (hwd : ∀ l c, wd (ix2 l c) = dv (ix2 ⟨o + l.val, by omega⟩ c) + ∑ R : Fin 2048, wv (ix2 R l) * dos (ix2 R c)) :
    Inv B A7 A8 o ck' cg' acc' (VecWindow.put (s := S4096x256) dk ![o, 0] S256x256.size wk) (VecWindow.put (s := S4096x256) dv ![o, 0] S256x256.size wd) where
  ck R := (hck R).trans (sum_next _ o _ h (I.ck R) (T.kv R))
  cg R := (hcg R).trans (sum_next _ o _ h (I.cg R) (T.gv R))
  acc R c := (hacc R c).trans (sum_next (fun s => B.dd R s * B.K s c) o _ h (I.acc R c) fun l => by rw [T.dz, hk, ← EReal.coe_mul])
  dk s c := rows_next B B.dd B.Q A7 o h ho I.dk T.dz hq hwk s c
  dv s c := rows_next B B.ww B.D A8 o h ho I.dv T.wv hd hwd s c

include hq hk in
theorem scores (R : Fin 2048) (l : Fin 256) : ∑ c : Fin 256, qs (ix2 R c) * kt (ix2 l c) = (B.Z R (o + l.val) : EReal) := by
  simp only [hq, hk, ← EReal.coe_mul, ← coe_sum]; rfl
include hd hv in
theorem cots (R : Fin 2048) (l : Fin 256) : ∑ c : Fin 256, dos (ix2 R c) * vt (ix2 l c) = (B.P R (o + l.val) : EReal) := by
  simp only [hd, hv, ← EReal.coe_mul, ← coe_sum]; rfl

include h I hq hd hg hk hv in
theorem far_tile (hb : o + 256 ≤ 512 * B.b) : Tile B o (k0_pay5 qs kt) (k0_pay6 qs k0_pay42 ck kt) (k0_pay7 qs dos k0_pay42 ck kt vt)
    (k0_pay78 (k0_pay4 qs kt) (k0_pay7 qs dos k0_pay42 ck kt vt) (k0_pay8 qs dos gt k0_pay42 k0_pay43 ck cg kt vt) (k0_pay9 qs kt)) := by
  have hp : ∀ R l, True ↔ o + (l : Fin 256).val < B.t R := fun R l => ⟨fun _ => by have := l.isLt; simp only [Block.t]; omega, fun _ => trivial⟩
  exact {
    kv := fun R l => (keep5 (scores hq hk R) l).trans (congrArg _ (keep_eq (B.Z R) h (hp R) l))
    wv := fun R l => (wt6 (scores hq hk R) (I.ck R) l).trans (congrArg _ (wt_eq (B.Z R) h (hp R) l))
    gv := fun R l => (gw7 (scores hq hk R) (cots hd hv R) (I.ck R) l).trans (congrArg _ (gw_eq (B.Z R) (B.P R) h (hp R) l))
    dz := fun R l => (dz78 (scores hq hk R) (cots hd hv R) (I.ck R) (I.cg R) (hg R) l).trans (congrArg _ (dz_eq (B.Z R) (B.P R) (B.G R) h (hp R) l)) }

include h I hq hd hg hk hv in
theorem first_tile (hb : o = 512 * B.b) : Tile B o (k0_pay69 (k0_pay65 qs kt) (k0_pay66 qs kt)) (k0_pay70 k0_pay42 ck (k0_pay65 qs kt) (k0_pay66 qs kt))
    (k0_pay71 dos k0_pay42 ck (k0_pay64 vt) (k0_pay65 qs kt) (k0_pay66 qs kt))
    (k0_pay72 gt k0_pay43 cg (k0_pay65 qs kt) (k0_pay67 (k0_pay65 qs kt) (k0_pay66 qs kt)) k0_pay68 (k0_pay71 dos k0_pay42 ck (k0_pay64 vt) (k0_pay65 qs kt) (k0_pay66 qs kt))) := by
  have hp : ∀ R l, past0 R l ↔ o + l.val < B.t R := fun R l => by simp only [past0, Block.t]; omega
  exact {
    kv := fun R l => (keep69 (scores hq hk R) l).trans (congrArg _ (keep_eq (B.Z R) h (hp R) l))
    wv := fun R l => (wt70 (scores hq hk R) (I.ck R) l).trans (congrArg _ (wt_eq (B.Z R) h (hp R) l))
    gv := fun R l => (gw71 (scores hq hk R) (cots hd hv R) (I.ck R) l).trans (congrArg _ (gw_eq (B.Z R) (B.P R) h (hp R) l))
    dz := fun R l => (dz72 (scores hq hk R) (cots hd hv R) (I.ck R) (I.cg R) (hg R) l).trans (congrArg _ (dz_eq (B.Z R) (B.P R) (B.G R) h (hp R) l)) }
end next

/-! ## Before the first tile -/

theorem start {B : Block} {A7 A8 : Fin 4096 → Fin 256 → ℝ} {dk dv : S4096x256.Idx → EReal} (h7 : ∀ s c, dk (ix2 s c) = (A7 s c : EReal)) (h8 : ∀ s c, dv (ix2 s c) = (A8 s c : EReal)) :
    Inv B A7 A8 B.n k0_pay44 k0_pay44 (fun _ => 0) dk dv where
  ck R := by rw [Finset.Ico_self, Finset.sum_empty]; exact zero_col R
  cg R := by rw [Finset.Ico_self, Finset.sum_empty]; exact zero_col R
  acc R c := by rw [Finset.Ico_self, Finset.sum_empty]; rfl
  dk s c := by rw [if_neg (by omega), add_zero]; exact h7 s c
  dv s c := by rw [if_neg (by omega), add_zero]; exact h8 s c

theorem last_tile {B : Block} {o : ℕ} {qs dos : FVec Ideal S2048x256 .bf16} {kt vt : Vec Ideal S256x256 .bf16} {gt : FVec Ideal S2048x1 .f32} (ho : o + 256 = B.n)
    (hq : ∀ R c, qs (ix2 R c) = (B.Q R c : EReal)) (hd : ∀ R c, dos (ix2 R c) = (B.D R c : EReal)) (hg : ∀ R, gt (ix2 R 0) = (B.G R : EReal))
    (hk : ∀ l c, kt (ix2 l c) = (B.K (o + l.val) c : EReal)) (hv : ∀ l c, vt (ix2 l c) = (B.V (o + l.val) c : EReal)) :
    Tile B o (k0_pay53 (k0_pay49 qs kt) 512#32 k0_pay50 k0_pay51) (k0_pay54 k0_pay42 k0_pay44 (k0_pay48 qs kt) (k0_pay49 qs kt) 512#32 k0_pay50 k0_pay51)
      (k0_pay55 dos k0_pay42 k0_pay44 (k0_pay46 vt) (k0_pay48 qs kt) (k0_pay49 qs kt) 512#32 k0_pay50 k0_pay51)
      (k0_pay56 dos gt k0_pay42 k0_pay43 k0_pay44 (k0_pay46 vt) (k0_pay47 qs kt) (k0_pay48 qs kt) (k0_pay49 qs kt) 512#32 k0_pay50 k0_pay51) := by
  have hp : ∀ R l, past1 R l ↔ o + l.val < B.t R := fun R l => by simp only [past1, Block.t]; simp only [Block.n] at ho; omega
  have e0 : ∀ f : ℕ → ℝ, ∑ s ∈ Finset.Ico (o + 256) B.n, f s = 0 := fun f => by rw [ho, Finset.Ico_self, Finset.sum_empty]
  exact {
    kv := fun R l => (keep53 (scores hq hk R) l).trans (congrArg _ (keep_eq (B.Z R) ho.le (hp R) l))
    wv := fun R l => (wt54 (scores hq hk R) (zero_col R) l).trans (congrArg _ (by have := wt_eq (B.Z R) ho.le (hp R) l; rw [e0] at this; exact this))
    gv := fun R l => (gw55 (scores hq hk R) (cots hd hv R) (zero_col R) l).trans (congrArg _ (by have := gw_eq (B.Z R) (B.P R) ho.le (hp R) l; rw [e0] at this; exact this))
    dz := fun R l => (dz56 (scores hq hk R) (cots hd hv R) (zero_col R) (hg R) l).trans (congrArg _ (by
      have := dz_eq (B.Z R) (B.P R) (B.G R) ho.le (hp R) l; rw [e0, e0] at this; exact this)) }

end Cert.SbbModel

end
-- ==== Proof.SbbTrip.lean ====
module

public import proofs.«01_k».proof.Proof.SbbModel
public import proofs.«01_k».proof.Proof.Gen.KSbbIdeal.Loops
public import Idealize.ShloMosaic.Lib.VecWindow

@[expose] public section

set_option maxRecDepth 16384

noncomputable section

/- The loop over the key tiles that lie wholly before a block of queries. -/
namespace Cert.SbbTrip

open Idealize.ShloMosaic Idealize.ShloMosaic.TcCoe Idealize.SL.Sem
open Cert.Sb Cert.SbbTile Cert.SbbModel Cert.KSbbIdeal Cert.KSbbIdeal.Gen

section words
variable {F : FTy → Type} [FloatOps F]
  (𝒱 : Variants) (c : Dev nD) (bd : Option 𝒱.V) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole) (arg0 : BitVec 32) (v131 : FVec F S2048x256 .bf16) (v258 : FVec F S2048x256 .bf16) (v275 : FVec F S2048x1 .f32) (v281 : FVec F S256x256 .bf16) (v285 : FVec F S256x256 .bf16) (v389 : FVec F S2048x1 .f32) (v392 : FVec F S2048x1 .f32) (v436 : FVec F S2048x256 .f32) (v451 : FVec F S2048x256 .f32) (v501 : BitVec 32) (X_arg2 : BufTy.Contents (Elt F) arg2.view.ty) (X_arg3 : BufTy.Contents (Elt F) arg3.view.ty)
  (k : Fin (k0_t1_loop i).trips) (acc : FVec F S2048x1 .f32 × FVec F S2048x1 .f32) (f7 : BufTy.Contents (Elt F) arg7.view.ty) (f8 : BufTy.Contents (Elt F) arg8.view.ty) (f9 : BufTy.Contents (Elt F) arg9.view.ty)

/-- A trip's carried sums. -/
theorem trip_carried : tripR_k0_t1 𝒱 c bd i arg1 harg1 arg2 harg2 arg3 harg3 arg4 harg4 arg5 harg5 arg6 harg6 arg7 harg7 arg8 harg8 arg9 harg9 arg0 v131 v258 v275 v281 v285 v389 v392 v436 v451 v501 X_arg2 X_arg3 k acc f7 f8 f9
    = (k0_pay82 acc.1 (k0_pay5 v131 (View.readAt (Elt F) arg2.view (Rect.unit (s := S4096x256) (k0_off2 i k) S256x256.size (k0_off2_inb i k)).toLoadRect X_arg2)),
       k0_pay83 acc.2 (k0_pay7 v131 v258 v281 acc.1 (View.readAt (Elt F) arg2.view (Rect.unit (s := S4096x256) (k0_off2 i k) S256x256.size (k0_off2_inb i k)).toLoadRect X_arg2) (View.readAt (Elt F) arg3.view (Rect.unit (s := S4096x256) (k0_off2 i k) S256x256.size (k0_off2_inb i k)).toLoadRect X_arg3))) := by
  unfold tripR_k0_t1 trip_k0_t1; rfl

/-- What a trip stores. -/
theorem trip_pieces : tripL_k0_t1 𝒱 c bd i arg1 harg1 arg2 harg2 arg3 harg3 arg4 harg4 arg5 harg5 arg6 harg6 arg7 harg7 arg8 harg8 arg9 harg9 arg0 v131 v258 v275 v281 v285 v389 v392 v436 v451 v501 X_arg2 X_arg3 k acc f7 f8 f9
    = ([⟨Rect.unit (s := S4096x256) (k0_off2 i k) S256x256.size (k0_off2_inb i k), k0_pay79 v131 (k0_pay4 v131 (View.readAt (Elt F) arg2.view (Rect.unit (s := S4096x256) (k0_off2 i k) S256x256.size (k0_off2_inb i k)).toLoadRect X_arg2)) (k0_pay7 v131 v258 v281 acc.1 (View.readAt (Elt F) arg2.view (Rect.unit (s := S4096x256) (k0_off2 i k) S256x256.size (k0_off2_inb i k)).toLoadRect X_arg2) (View.readAt (Elt F) arg3.view (Rect.unit (s := S4096x256) (k0_off2 i k) S256x256.size (k0_off2_inb i k)).toLoadRect X_arg3)) (k0_pay8 v131 v258 v275 v281 v285 acc.1 acc.2 (View.readAt (Elt F) arg2.view (Rect.unit (s := S4096x256) (k0_off2 i k) S256x256.size (k0_off2_inb i k)).toLoadRect X_arg2) (View.readAt (Elt F) arg3.view (Rect.unit (s := S4096x256) (k0_off2 i k) S256x256.size (k0_off2_inb i k)).toLoadRect X_arg3)) (k0_pay9 v131 (View.readAt (Elt F) arg2.view (Rect.unit (s := S4096x256) (k0_off2 i k) S256x256.size (k0_off2_inb i k)).toLoadRect X_arg2)) (View.readAt (Elt F) arg7.view (Rect.unit (s := S4096x256) (k0_off2 i k) S256x256.size (k0_off2_inb i k)).toLoadRect f7)⟩],
       [⟨Rect.unit (s := S4096x256) (k0_off2 i k) S256x256.size (k0_off2_inb i k), k0_pay80 v258 (k0_pay6 v131 v281 acc.1 (View.readAt (Elt F) arg2.view (Rect.unit (s := S4096x256) (k0_off2 i k) S256x256.size (k0_off2_inb i k)).toLoadRect X_arg2)) (View.readAt (Elt F) arg8.view (Rect.unit (s := S4096x256) (k0_off2 i k) S256x256.size (k0_off2_inb i k)).toLoadRect f8)⟩],
       [⟨Rect.unit (s := S2048x256) ![0, 0] S2048x256.size inb_S2048x256_S2048x256_0_0, k0_pay81 (k0_pay2 (View.readAt (Elt F) arg2.view (Rect.unit (s := S4096x256) (k0_off2 i k) S256x256.size (k0_off2_inb i k)).toLoadRect X_arg2)) (k0_pay4 v131 (View.readAt (Elt F) arg2.view (Rect.unit (s := S4096x256) (k0_off2 i k) S256x256.size (k0_off2_inb i k)).toLoadRect X_arg2)) (k0_pay7 v131 v258 v281 acc.1 (View.readAt (Elt F) arg2.view (Rect.unit (s := S4096x256) (k0_off2 i k) S256x256.size (k0_off2_inb i k)).toLoadRect X_arg2) (View.readAt (Elt F) arg3.view (Rect.unit (s := S4096x256) (k0_off2 i k) S256x256.size (k0_off2_inb i k)).toLoadRect X_arg3)) (k0_pay8 v131 v258 v275 v281 v285 acc.1 acc.2 (View.readAt (Elt F) arg2.view (Rect.unit (s := S4096x256) (k0_off2 i k) S256x256.size (k0_off2_inb i k)).toLoadRect X_arg2) (View.readAt (Elt F) arg3.view (Rect.unit (s := S4096x256) (k0_off2 i k) S256x256.size (k0_off2_inb i k)).toLoadRect X_arg3)) (k0_pay9 v131 (View.readAt (Elt F) arg2.view (Rect.unit (s := S4096x256) (k0_off2 i k) S256x256.size (k0_off2_inb i k)).toLoadRect X_arg2)) (View.readAt (Elt F) arg9.view (Rect.unit (s := S2048x256) ![0, 0] S2048x256.size inb_S2048x256_S2048x256_0_0).toLoadRect f9)⟩]) := by
  unfold tripL_k0_t1 trip_k0_t1; rfl
end words

/-! ## The invariant -/

theorem off2_eq : ∀ (t : Fin cfg0.N) (k : Fin (k0_t1_loop (grid0.coords t)).trips), k0_off2 (grid0.coords t) k = ![512 * t.val - 256 * (k.val + 1), 0] := by decide +kernel
theorem trips_eq : ∀ t : Fin cfg0.N, (k0_t1_loop (grid0.coords t)).trips = 2 * t.val := by decide +kernel

/-- The rows of a tile, read out of a buffer. -/
theorem rows_at {e : EltTy} {arg : Memref sig .tc .vmem S4096x256 e} {off : Fin 2 → ℕ} (inb : ∀ a, off a + S256x256.size a ≤ S4096x256.size a) (o : ℕ) (ho : off = ![o, 0]) (ho' : o + 256 ≤ 4096)
    (f : arg.view.ty.Contents (Elt Ideal)) (l c : Fin 256) :
    View.readAt (Elt Ideal) arg.view (Rect.unit (s := S4096x256) off S256x256.size inb).toLoadRect f (ix2 l c) = arg.view.read (Elt Ideal) f (ix2 ⟨o + l.val, by omega⟩ c) := by
  subst ho
  refine congrArg (arg.view.read (Elt Ideal) f) (funext fun a => Fin.ext ?_)
  fin_cases a
  · show o + 1 * l.val = o + l.val; omega
  · show 0 + 1 * c.val = c.val; omega

section loop
variable {t : Fin cfg0.N} {B : Block} {A7 A8 : Fin 4096 → Fin 256 → ℝ}
  (𝒱 : Variants) (c : Dev nD) (bd : Option 𝒱.V) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole) (arg0 : BitVec 32) (v131 : FVec Ideal S2048x256 .bf16) (v258 : FVec Ideal S2048x256 .bf16) (v275 : FVec Ideal S2048x1 .f32) (v389 : FVec Ideal S2048x1 .f32) (v392 : FVec Ideal S2048x1 .f32) (v436 : FVec Ideal S2048x256 .f32) (v451 : FVec Ideal S2048x256 .f32) (v501 : BitVec 32) (X_arg2 : BufTy.Contents (Elt Ideal) arg2.view.ty) (X_arg3 : BufTy.Contents (Elt Ideal) arg3.view.ty)
  (hb : B.b = t.val) (hK : ∀ s c, arg2.view.read (Elt Ideal) X_arg2 (ix2 s c) = (B.K s.val c : EReal)) (hV : ∀ s c, arg3.view.read (Elt Ideal) X_arg3 (ix2 s c) = (B.V s.val c : EReal))
  (hq : ∀ R c, v131 (ix2 R c) = (B.Q R c : EReal)) (hd : ∀ R c, v258 (ix2 R c) = (B.D R c : EReal)) (hg : ∀ R, v275 (ix2 R 0) = (B.G R : EReal))
include hb hK hV hq hd hg

theorem one_trip (k : Fin (k0_t1_loop (grid0.coords t)).trips) (acc : FVec Ideal S2048x1 .f32 × FVec Ideal S2048x1 .f32) (f7 : BufTy.Contents (Elt Ideal) arg7.view.ty) (f8 : BufTy.Contents (Elt Ideal) arg8.view.ty) (f9 : BufTy.Contents (Elt Ideal) arg9.view.ty) {o : ℕ} (ho : o = 512 * t.val - 256 * (k.val + 1))
    (I : Inv B A7 A8 (o + 256) acc.1 acc.2 (arg9.view.read (Elt Ideal) f9) (arg7.view.read (Elt Ideal) f7) (arg8.view.read (Elt Ideal) f8)) :
    Inv B A7 A8 o (tripR_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 k acc f7 f8 f9).1 (tripR_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 k acc f7 f8 f9).2
      (arg9.view.read (Elt Ideal) (arg9.view.writes (Elt Ideal) f9 (tripL_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 k acc f7 f8 f9).2.2))
      (arg7.view.read (Elt Ideal) (arg7.view.writes (Elt Ideal) f7 (tripL_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 k acc f7 f8 f9).1))
      (arg8.view.read (Elt Ideal) (arg8.view.writes (Elt Ideal) f8 (tripL_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 k acc f7 f8 f9).2.1)) := by
  have hk : k.val < 2 * t.val := k.isLt.trans_eq (trips_eq t)
  have ht : t.val < 8 := t.isLt
  have e := (off2_eq t k).trans (by rw [← ho] : _ = ![o, 0])
  have h1 : o + 256 ≤ 512 * B.b := by rw [hb]; omega
  have h2 : o + 256 ≤ 4096 := by omega
  have h3 : o + 256 ≤ B.n := by simp only [Block.n]; omega
  have hk' := fun l c => (rows_at (arg := arg2) (k0_off2_inb (grid0.coords t) k) o e h2 X_arg2 l c).trans (hK _ _)
  have hv' := fun l c => (rows_at (arg := arg3) (k0_off2_inb (grid0.coords t) k) o e h2 X_arg3 l c).trans (hV _ _)
  rw [trip_carried, trip_pieces]
  simp only []
  rw [View.read_writes_cons_put arg7.view f7 _ _ _ e, View.read_writes_cons_put arg8.view f8 _ _ _ e, View.read_writes_full, View.writes_nil, View.writes_nil]
  refine Inv.next h3 h2 I hq hd hk' (far_tile h3 I hq hd hg hk' hv' h1) (col82 _ _) (col83 _ _) (fun R c => ?_) (fun l c => ?_) (fun l c => ?_)
  · rw [acc81, View.readAt_full, show ∀ kt : Vec Ideal S256x256 .bf16, k0_pay2 kt = kt from fun kt => by funext j; exact congrFun (shapeCast_self ..) j]
  · rw [dk79, rows_at (arg := arg7) _ o e h2]
  · rw [dv80, rows_at (arg := arg8) _ o e h2]

theorem loop (G7 : arg7.view.ty.Contents (Elt Ideal)) (G8 : arg8.view.ty.Contents (Elt Ideal)) (G9 : arg9.view.ty.Contents (Elt Ideal)) (init : FVec Ideal S2048x1 .f32 × FVec Ideal S2048x1 .f32)
    (I : Inv B A7 A8 (512 * t.val) init.1 init.2 (arg9.view.read (Elt Ideal) G9) (arg7.view.read (Elt Ideal) G7) (arg8.view.read (Elt Ideal) G8)) :
    ∀ k : ℕ, k ≤ (k0_t1_loop (grid0.coords t)).trips → Inv B A7 A8 (512 * t.val - 256 * k) (st_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 G7 G8 G9 init k).1.1 (st_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 G7 G8 G9 init k).1.2
      (arg9.view.read (Elt Ideal) (arg9.view.writes (Elt Ideal) G9 (st_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 G7 G8 G9 init k).2.2.2)) (arg7.view.read (Elt Ideal) (arg7.view.writes (Elt Ideal) G7 (st_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 G7 G8 G9 init k).2.1))
      (arg8.view.read (Elt Ideal) (arg8.view.writes (Elt Ideal) G8 (st_k0_t1 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 G7 G8 G9 init k).2.2.1))
  | 0, _ => I
  | k + 1, hk => by
    have h := loop G7 G8 G9 init I k (by omega)
    have hk2 : k + 1 ≤ 2 * t.val := hk.trans_eq (trips_eq t)
    rw [show 512 * t.val - 256 * k = 512 * t.val - 256 * (k + 1) + 256 by omega] at h
    rw [st_k0_t1_succ 𝒱 c bd (grid0.coords t) arg1 harg1 arg2 harg2 arg3 harg3 arg4 harg4 arg5 harg5 arg6 harg6 arg7 harg7 arg8 harg8 arg9 harg9 arg0 v131 v258 v275 k0_pay42 k0_pay43 v389 v392 v436 v451 v501 X_arg2 X_arg3 G7 G8 G9 init ⟨k, hk⟩]
    simp only [View.writes_append]
    exact one_trip 𝒱 c bd arg1 harg1 arg2 harg2 arg3 harg3 arg4 harg4 arg5 harg5 arg6 harg6 arg7 harg7 arg8 harg8 arg9 harg9 arg0 v131 v258 v275 v389 v392 v436 v451 v501 X_arg2 X_arg3 hb hK hV hq hd hg ⟨k, hk⟩ _ _ _ _ rfl h
end loop

end Cert.SbbTrip

end
-- ==== Proof.SbfStep.lean ====
module

public import proofs.«01_k».proof.Proof.SbfTile
public import proofs.«01_k».proof.Proof.SbbTrip
public import proofs.«01_k».proof.Proof.Gen.KSbfIdeal.Value

@[expose] public section

set_option maxRecDepth 16384

noncomputable section

/- One block of queries of the stick-breaking forward kernel: the walk over its key tiles, and what it leaves. -/
namespace Cert.SbfStep

open Idealize.ShloMosaic Idealize.ShloMosaic.TcCoe Idealize.SL.Sem
open Cert.Reals Cert.Sb Cert.SbfTile Cert.KSbfIdeal Cert.KSbfIdeal.Gen
open Cert.SbbTile (past1 past0)
open Cert.SbbModel (Block sum_next)

/-! ## The running sums -/

/-- The sums over the keys from `o` on: the carried sum of each row, and the output. -/
structure Inv (B : Block) (o : ℕ) (ck : FVec Ideal S2048x1 .f32) (acc : S2048x256.Idx → EReal) : Prop where
  ck : ∀ R, ck (ix2 R 0) = ((∑ s ∈ Finset.Ico o B.n, B.kp R s : ℝ) : EReal)
  acc : ∀ R c, acc (ix2 R c) = ((∑ s ∈ Finset.Ico o B.n, B.ww R s * B.V s c : ℝ) : EReal)

section next
variable {B : Block} {o : ℕ} {ck ck' : FVec Ideal S2048x1 .f32} {acc acc' kv : S2048x256.Idx → EReal} {qs : FVec Ideal S2048x256 .bf16} {kt vt : Vec Ideal S256x256 .bf16}
  (h : o + 256 ≤ B.n) (hq : ∀ R c, qs (ix2 R c) = (B.Q R c : EReal)) (hk : ∀ l c, kt (ix2 l c) = (B.K (o + l.val) c : EReal))

include h in
/-- A tile whose vectors are the tile's part of the whole goes on with the sums. -/
theorem Inv.next (I : Inv B (o + 256) ck acc) {past : Fin 2048 → Fin 256 → Prop} [∀ R, DecidablePred (past R)] (hp : ∀ R l, past R l ↔ o + l.val < B.t R)
    (hkv : ∀ R l, kv (ix2 R l) = ((keep (past R) (fun l => B.Z R (o + l.val)) l : ℝ) : EReal))
    (hck : ∀ R, ck' (ix2 R 0) = ck (ix2 R 0) + ∑ l : Fin 256, kv (ix2 R l))
    (hacc : ∀ R c, acc' (ix2 R c) = acc (ix2 R c)
      + ((∑ l : Fin 256, wt (past R) (fun l => B.Z R (o + l.val)) (∑ s ∈ Finset.Ico (o + 256) B.n, B.kp R s) l * B.V (o + l.val) c : ℝ) : EReal)) :
    Inv B o ck' acc' where
  ck R := (hck R).trans (sum_next _ o _ h (I.ck R) fun l => (hkv R l).trans (congrArg _ (keep_eq (B.Z R) h (hp R) l)))
  acc R c := by
    rw [hacc, I.acc, ← EReal.coe_add, sum_tile (fun s => B.ww R s * B.V s c) o B.n h, add_comm]
    exact congrArg (fun x : ℝ => ((x + _ : ℝ) : EReal)) (Finset.sum_congr rfl fun l _ => congrArg (· * _) (wt_eq (B.Z R) h (hp R) l))

include hq hk in
theorem scores (R : Fin 2048) (l : Fin 256) : ∑ c : Fin 256, qs (ix2 R c) * kt (ix2 l c) = (B.Z R (o + l.val) : EReal) := by
  simp only [hq, hk, ← EReal.coe_mul, ← coe_sum]; rfl
end next

/-! ## The loop over the tiles that lie wholly before the block -/

section words
variable {F : FTy → Type} [FloatOps F]
  (𝒱 : Variants) (c : Dev nD) (bd : Option 𝒱.V) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S2048x256 .f32) (harg5 : arg5.IsWhole) (arg0 : BitVec 32) (v128 : FVec F S2048x256 .bf16) (v134 : FVec F S256x256 .bf16) (v205 : FVec F S2048x1 .f32) (v249 v271 : FVec F S2048x256 .f32) (v272 : Vec F S2048x256 .f32) (v278 : BitVec 32)
  (X_arg2 : BufTy.Contents (Elt F) arg2.view.ty) (X_arg3 : BufTy.Contents (Elt F) arg3.view.ty)
  (k : Fin (k0_t1_loop i).trips) (acc : FVec F S2048x1 .f32) (f5 : BufTy.Contents (Elt F) arg5.view.ty)

/-- A trip's carried sum. -/
theorem trip_carried : tripR_k0_t1 𝒱 c bd i arg1 harg1 arg2 harg2 arg3 harg3 arg4 harg4 arg5 harg5 arg0 v128 v134 v205 v249 v271 v272 v278 X_arg2 X_arg3 k acc f5
    = k0_pay38 acc (k0_pay4 v128 (View.readAt (Elt F) arg2.view (Rect.unit (s := S4096x256) (k0_off2 i k) S256x256.size (k0_off2_inb i k)).toLoadRect X_arg2)) := by
  unfold tripR_k0_t1 trip_k0_t1; rfl

/-- What a trip stores. -/
theorem trip_pieces : tripL_k0_t1 𝒱 c bd i arg1 harg1 arg2 harg2 arg3 harg3 arg4 harg4 arg5 harg5 arg0 v128 v134 v205 v249 v271 v272 v278 X_arg2 X_arg3 k acc f5
    = [⟨Rect.unit (s := S2048x256) ![0, 0] S2048x256.size inb_S2048x256_S2048x256_0_0, k0_pay5 v128 v134 acc (View.readAt (Elt F) arg2.view (Rect.unit (s := S4096x256) (k0_off2 i k) S256x256.size (k0_off2_inb i k)).toLoadRect X_arg2)
        (View.readAt (Elt F) arg3.view (Rect.unit (s := S4096x256) (k0_off2 i k) S256x256.size (k0_off2_inb i k)).toLoadRect X_arg3)
        (View.readAt (Elt F) arg5.view (Rect.unit (s := S2048x256) ![0, 0] S2048x256.size inb_S2048x256_S2048x256_0_0).toLoadRect f5)⟩] := by
  unfold tripL_k0_t1 trip_k0_t1; rfl
end words

theorem off2_eq : ∀ (t : Fin cfg0.N) (k : Fin (k0_t1_loop (grid0.coords t)).trips), k0_off2 (grid0.coords t) k = ![512 * t.val - 256 * (k.val + 1), 0] := by decide +kernel
theorem trips_eq : ∀ t : Fin cfg0.N, (k0_t1_loop (grid0.coords t)).trips = 2 * t.val := by decide +kernel
theorem off1_last : ∀ t : Fin cfg0.N, k0_off1 (grid0.coords t) 256#32 = ![512 * t.val + 256, 0] := by decide +kernel
theorem off1_first : ∀ t : Fin cfg0.N, k0_off1 (grid0.coords t) 0#32 = ![512 * t.val, 0] := by decide +kernel
theorem no_rest : ∀ t : Fin cfg0.N, (k0_t2_loop (grid0.coords t)).trips = 0 := by decide +kernel

/-- The rows of a tile, read out of a buffer. -/
theorem rows_at {arg : Memref sig .tc .vmem S4096x256 .bf16} {off : Fin 2 → ℕ} (inb : ∀ a, off a + S256x256.size a ≤ S4096x256.size a) (o : ℕ) (ho : off = ![o, 0]) (ho' : o + 256 ≤ 4096)
    (f : arg.view.ty.Contents (Elt Ideal)) (l c : Fin 256) :
    View.readAt (Elt Ideal) arg.view (Rect.unit (s := S4096x256) off S256x256.size inb).toLoadRect f (ix2 l c) = arg.view.read (Elt Ideal) f (ix2 ⟨o + l.val, by omega⟩ c) := by
  subst ho
  refine congrArg (arg.view.read (Elt Ideal) f) (funext fun a => Fin.ext ?_)
  fin_cases a
  · show o + 1 * l.val = o + l.val; omega
  · show 0 + 1 * c.val = c.val; omega

section loop
variable {t : Fin cfg0.N} {B : Block}
  (𝒱 : Variants) (c : Dev nD) (bd : Option 𝒱.V) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S2048x256 .f32) (harg5 : arg5.IsWhole) (arg0 : BitVec 32) (v128 : FVec Ideal S2048x256 .bf16) (v205 : FVec Ideal S2048x1 .f32) (v249 v271 : FVec Ideal S2048x256 .f32) (v272 : Vec Ideal S2048x256 .f32) (v278 : BitVec 32)
  (X_arg2 : BufTy.Contents (Elt Ideal) arg2.view.ty) (X_arg3 : BufTy.Contents (Elt Ideal) arg3.view.ty)
  (hb : B.b = t.val) (hK : ∀ s c, arg2.view.read (Elt Ideal) X_arg2 (ix2 s c) = (B.K s.val c : EReal)) (hV : ∀ s c, arg3.view.read (Elt Ideal) X_arg3 (ix2 s c) = (B.V s.val c : EReal))
  (hq : ∀ R c, v128 (ix2 R c) = (B.Q R c : EReal))
include hb hK hV hq

theorem one_trip (k : Fin (k0_t1_loop (grid0.coords t)).trips) (acc : FVec Ideal S2048x1 .f32) (f5 : BufTy.Contents (Elt Ideal) arg5.view.ty) {o : ℕ} (ho : o = 512 * t.val - 256 * (k.val + 1))
    (I : Inv B (o + 256) acc (arg5.view.read (Elt Ideal) f5)) :
    Inv B o (tripR_k0_t1 𝒱 c bd (grid0.coords t) arg1 harg1 arg2 harg2 arg3 harg3 arg4 harg4 arg5 harg5 arg0 v128 k0_pay18 v205 v249 v271 v272 v278 X_arg2 X_arg3 k acc f5)
      (arg5.view.read (Elt Ideal) (arg5.view.writes (Elt Ideal) f5 (tripL_k0_t1 𝒱 c bd (grid0.coords t) arg1 harg1 arg2 harg2 arg3 harg3 arg4 harg4 arg5 harg5 arg0 v128 k0_pay18 v205 v249 v271 v272 v278 X_arg2 X_arg3 k acc f5))) := by
  have hk : k.val < 2 * t.val := k.isLt.trans_eq (trips_eq t)
  have ht : t.val < 8 := t.isLt
  have e := (off2_eq t k).trans (by rw [← ho] : _ = ![o, 0])
  have h1 : o + 256 ≤ 512 * B.b := by rw [hb]; omega
  have h2 : o + 256 ≤ 4096 := by omega
  have h3 : o + 256 ≤ B.n := by simp only [Block.n]; omega
  have hk' := fun l c => (rows_at (arg := arg2) (k0_off2_inb (grid0.coords t) k) o e h2 X_arg2 l c).trans (hK _ _)
  have hv' := fun l c => (rows_at (arg := arg3) (k0_off2_inb (grid0.coords t) k) o e h2 X_arg3 l c).trans (hV _ _)
  rw [trip_carried, trip_pieces, View.read_writes_full]
  refine Inv.next h3 I (past := fun _ _ => True) (fun R l => ⟨fun _ => by have := l.isLt; simp only [Block.t]; omega, fun _ => trivial⟩)
    (fun R l => keep4 (scores hq hk' R) l) (col38 _ _) fun R c => ?_
  rw [View.readAt_full]
  exact add5 (scores hq hk' R) (fun l => hv' l c) (I.ck R)

theorem loop (G5 : arg5.view.ty.Contents (Elt Ideal)) (init : FVec Ideal S2048x1 .f32) (I : Inv B (512 * t.val) init (arg5.view.read (Elt Ideal) G5)) :
    ∀ k : ℕ, k ≤ (k0_t1_loop (grid0.coords t)).trips → Inv B (512 * t.val - 256 * k)
      (st_k0_t1 𝒱 c bd (grid0.coords t) arg1 harg1 arg2 harg2 arg3 harg3 arg4 harg4 arg5 harg5 arg0 v128 k0_pay18 v205 v249 v271 v272 v278 X_arg2 X_arg3 G5 init k).1
      (arg5.view.read (Elt Ideal) (arg5.view.writes (Elt Ideal) G5 (st_k0_t1 𝒱 c bd (grid0.coords t) arg1 harg1 arg2 harg2 arg3 harg3 arg4 harg4 arg5 harg5 arg0 v128 k0_pay18 v205 v249 v271 v272 v278 X_arg2 X_arg3 G5 init k).2))
  | 0, _ => I
  | k + 1, hk => by
    have h := loop G5 init I k (by omega)
    have hk2 : k + 1 ≤ 2 * t.val := hk.trans_eq (trips_eq t)
    rw [show 512 * t.val - 256 * k = 512 * t.val - 256 * (k + 1) + 256 by omega] at h
    rw [st_k0_t1_succ 𝒱 c bd (grid0.coords t) arg1 harg1 arg2 harg2 arg3 harg3 arg4 harg4 arg5 harg5 arg0 v128 k0_pay18 v205 v249 v271 v272 v278 X_arg2 X_arg3 G5 init ⟨k, hk⟩]
    simp only [View.writes_append]
    exact one_trip 𝒱 c bd arg1 harg1 arg2 harg2 arg3 harg3 arg4 harg4 arg5 harg5 arg0 v128 v205 v249 v271 v272 v278 X_arg2 X_arg3 hb hK hV hq ⟨k, hk⟩ _ _ rfl h
end loop

/-! ## The two tiles that hold queries of the block -/

section words
variable {F : FTy → Type} [FloatOps F]

/-- The rows of the tile that ends the block of queries (`tl1`), and of the one before it (`tl0`). -/
abbrev tl1 (i : grid0.Coords) {arg : Memref sig .tc .vmem S4096x256 .bf16} (X : arg.view.ty.Contents (Elt F)) : Vec F S256x256 .bf16 :=
  View.readAt (Elt F) arg.view (Rect.unit (s := S4096x256) (k0_off1 i 256#32) S256x256.size (k0_off1_inb i 1)).toLoadRect X
abbrev tl0 (i : grid0.Coords) {arg : Memref sig .tc .vmem S4096x256 .bf16} (X : arg.view.ty.Contents (Elt F)) : Vec F S256x256 .bf16 :=
  View.readAt (Elt F) arg.view (Rect.unit (s := S4096x256) (k0_off1 i 0#32) S256x256.size (k0_off1_inb i 0)).toLoadRect X
abbrev rd1 {arg1 : Memref sig .tc .vmem S512x256 .bf16} (X : arg1.view.ty.Contents (Elt F)) : Vec F S512x256 .bf16 :=
  View.readAt (Elt F) arg1.view (Rect.unit (s := S512x256) ![0, 0] S512x256.size inb_S512x256_S512x256_0_0).toLoadRect X
abbrev rd5 (arg5 : Memref sig .tc .vmem S2048x256 .f32) (L : List (View.Piece (Elt F) S2048x256 .f32)) : Vec F S2048x256 .f32 :=
  arg5.view.readCov L (Rect.unit (s := S2048x256) ![0, 0] S2048x256.size inb_S2048x256_S2048x256_0_0).toLoadRect
abbrev whole (y : Vec F S2048x256 .f32) : View.Piece (Elt F) S2048x256 .f32 := ⟨Rect.unit (s := S2048x256) ![0, 0] S2048x256.size inb_S2048x256_S2048x256_0_0, y⟩

variable (q : FVec F S2048x256 .bf16) (k1 v1 k0 v0 : Vec F S256x256 .bf16)
def ck1 : FVec F S2048x1 .f32 := k0_pay28 k0_pay19 (k0_pay24 q k1)
def y1 : FVec F S2048x256 .f32 := k0_pay27 k0_pay18 k0_pay19 (k0_pay20 v1) (k0_pay22 q k1) k0_pay23 (k0_pay25 q k1) (k0_pay26 q k1)
def kv0 : FVec F S2048x256 .f32 := k0_pay34 (k0_pay32 q k0) rowNo
def ck0 : FVec F S2048x1 .f32 := k0_pay37 (ck1 q k1) (kv0 q k0)
def y0 (y : Vec F S2048x256 .f32) : FVec F S2048x256 .f32 := k0_pay35 k0_pay18 (ck1 q k1) (k0_pay29 v0) (k0_pay31 q k0) (k0_pay32 q k0) rowNo y
def two (arg5 : Memref sig .tc .vmem S2048x256 .f32) : List (View.Piece (Elt F) S2048x256 .f32) :=
  [whole (k0_pay36 (y0 q k1 k0 v0 (rd5 arg5 [whole (y1 q k1 v1)]))), whole (y1 q k1 v1)]
end words

section run
variable {F : FTy → Type} [FloatOps F]
variable (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S2048x256 .f32) (harg5 : arg5.IsWhole)
    (x0 : Vec F S512x256 .bf16) (x1 : Vec F S4096x256 .bf16) (x2 : Vec F S4096x256 .bf16)

/-- What the two tiles leave in the accumulator. -/
abbrev first2 : List (View.Piece (Elt F) S2048x256 .f32) :=
  two (queries (rd1 (harg1.unread x0))) (tl1 i (harg2.unread x1)) (tl1 i (harg3.unread x2)) (tl0 i (harg2.unread x1)) (tl0 i (harg3.unread x2)) arg5

/-- The state after `k` trips of the loop over the tiles before these two. -/
def S (k : ℕ) := st_k0_t1 (F := F) Variants.none c none i arg1 harg1 arg2 harg2 arg3 harg3 arg4 harg4 arg5 harg5 (BitVec.ofNat 32 (i 0).val) (queries (rd1 (harg1.unread x0))) k0_pay18 (ck1 (queries (rd1 (harg1.unread x0))) (tl1 i (harg2.unread x1)))
  (kv0 (queries (rd1 (harg1.unread x0))) (tl0 i (harg2.unread x1)))
  (y0 (queries (rd1 (harg1.unread x0))) (tl1 i (harg2.unread x1)) (tl0 i (harg2.unread x1)) (tl0 i (harg3.unread x2)) (rd5 arg5 [whole (y1 (queries (rd1 (harg1.unread x0))) (tl1 i (harg2.unread x1)) (tl1 i (harg3.unread x2)))]))
  (rd5 arg5 [whole (y1 (queries (rd1 (harg1.unread x0))) (tl1 i (harg2.unread x1)) (tl1 i (harg3.unread x2)))])
  (kernelRun0_A.sl.v278 i) (harg2.unread x1) (harg3.unread x2) (arg5.view.writes (Elt F) arg5.view.junk (first2 i arg1 harg1 arg2 harg2 arg3 harg3 arg5 x0 x1 x2))
  (ck0 (queries (rd1 (harg1.unread x0))) (tl1 i (harg2.unread x1)) (tl0 i (harg2.unread x1))) k

/-- The state after `k` trips of the loop over the rest of the tiles, of which there are none. -/
def T (k : ℕ) := st_k0_t2 (F := F) Variants.none c none i arg1 harg1 arg2 harg2 arg3 harg3 arg4 harg4 arg5 harg5 (BitVec.ofNat 32 (i 0).val) (queries (rd1 (harg1.unread x0))) k0_pay18 (ck1 (queries (rd1 (harg1.unread x0))) (tl1 i (harg2.unread x1)))
  (kv0 (queries (rd1 (harg1.unread x0))) (tl0 i (harg2.unread x1)))
  (y0 (queries (rd1 (harg1.unread x0))) (tl1 i (harg2.unread x1)) (tl0 i (harg2.unread x1)) (tl0 i (harg3.unread x2)) (rd5 arg5 [whole (y1 (queries (rd1 (harg1.unread x0))) (tl1 i (harg2.unread x1)) (tl1 i (harg3.unread x2)))]))
  (rd5 arg5 [whole (y1 (queries (rd1 (harg1.unread x0))) (tl1 i (harg2.unread x1)) (tl1 i (harg3.unread x2)))])
  (kernelRun0_A.sl.v278 i) (kernelRun0_A.sl.v283 i) (harg2.unread x1) (harg3.unread x2)
  (arg5.view.writes (Elt F) arg5.view.junk ((S c i arg1 harg1 arg2 harg2 arg3 harg3 arg4 harg4 arg5 harg5 x0 x1 x2 (k0_t1_loop i).trips).2 ++ first2 i arg1 harg1 arg2 harg2 arg3 harg3 arg5 x0 x1 x2))
  (S c i arg1 harg1 arg2 harg2 arg3 harg3 arg4 harg4 arg5 harg5 x0 x1 x2 (k0_t1_loop i).trips).1 k

/-- The accumulator at the end of the block. -/
def fin : Vec F S2048x256 .f32 := rd5 arg5 ((T c i arg1 harg1 arg2 harg2 arg3 harg3 arg4 harg4 arg5 harg5 x0 x1 x2 (k0_t2_loop i).trips).2
  ++ ((S c i arg1 harg1 arg2 harg2 arg3 harg3 arg4 harg4 arg5 harg5 x0 x1 x2 (k0_t1_loop i).trips).2 ++ first2 i arg1 harg1 arg2 harg2 arg3 harg3 arg5 x0 x1 x2))

/-- The block's output. -/
theorem out_eq : out0_A_3 c i arg1 harg1 arg2 harg2 arg3 harg3 arg4 harg4 arg5 harg5 x0 x1 x2
    = VO0_3.read (Elt F) (VO0_3.writes (Elt F) VO0_3.junk [⟨Rect.unit (s := S512x256) ![0, 0] S512x256.size inb_S512x256_S512x256_0_0, sideways (fin c i arg1 harg1 arg2 harg2 arg3 harg3 arg4 harg4 arg5 harg5 x0 x1 x2)⟩]) := by
  sl_kernel_rfl
end run

section model
variable {t : Fin cfg0.N} {B : Block}

/-- The sums after the two tiles. -/
theorem two_tiles {arg2 arg3 : Memref sig .tc .vmem S4096x256 .bf16} (arg5 : Memref sig .tc .vmem S2048x256 .f32) {q : FVec Ideal S2048x256 .bf16}
    {X2 : arg2.view.ty.Contents (Elt Ideal)} {X3 : arg3.view.ty.Contents (Elt Ideal)}
    (hb : B.b = t.val) (hK : ∀ s c, arg2.view.read (Elt Ideal) X2 (ix2 s c) = (B.K s.val c : EReal)) (hV : ∀ s c, arg3.view.read (Elt Ideal) X3 (ix2 s c) = (B.V s.val c : EReal))
    (hq : ∀ R c, q (ix2 R c) = (B.Q R c : EReal)) :
    Inv B (512 * t.val) (ck0 q (tl1 (grid0.coords t) X2) (tl0 (grid0.coords t) X2))
      (arg5.view.read (Elt Ideal) (arg5.view.writes (Elt Ideal) arg5.view.junk (two q (tl1 (grid0.coords t) X2) (tl1 (grid0.coords t) X3) (tl0 (grid0.coords t) X2) (tl0 (grid0.coords t) X3) arg5))) := by
  have ht : t.val < 8 := t.isLt
  have e1 := off1_last t
  have e0 := off1_first t
  have b1 : 512 * t.val + 256 + 256 ≤ 4096 := by omega
  have b0 : 512 * t.val + 256 ≤ 4096 := by omega
  have n1 : 512 * t.val + 256 + 256 = B.n := by simp only [Block.n, hb]
  have n0 : 512 * t.val + 256 ≤ B.n := by omega
  have k1 := fun l c => (rows_at (arg := arg2) (k0_off1_inb (grid0.coords t) 1) _ e1 b1 X2 l c).trans (hK _ _)
  have v1 := fun l c => (rows_at (arg := arg3) (k0_off1_inb (grid0.coords t) 1) _ e1 b1 X3 l c).trans (hV _ _)
  have k0 := fun l c => (rows_at (arg := arg2) (k0_off1_inb (grid0.coords t) 0) _ e0 b0 X2 l c).trans (hK _ _)
  have v0 := fun l c => (rows_at (arg := arg3) (k0_off1_inb (grid0.coords t) 0) _ e0 b0 X3 l c).trans (hV _ _)
  have I0 : Inv B (512 * t.val + 256 + 256) k0_pay19 (fun _ => 0) :=
    ⟨fun R => by rw [n1, Finset.Ico_self, Finset.sum_empty]; exact zero_col R, fun R c => by rw [n1, Finset.Ico_self, Finset.sum_empty]; rfl⟩
  have I1 : Inv B (512 * t.val + 256) (ck1 q (tl1 (grid0.coords t) X2)) (y1 q (tl1 (grid0.coords t) X2) (tl1 (grid0.coords t) X3)) :=
    Inv.next n1.le I0 (past := past1) (fun R l => by simp only [past1, Block.t]; omega) (fun R l => keep24 (scores hq k1 R) l) (col28 _ _)
      fun R c => (add27 (scores hq k1 R) (fun l => v1 l c) (I0.ck R)).trans (zero_add _).symm
  rw [two, View.read_writes_full, rd5, View.readCov_full]
  refine Inv.next n0 I1 (past := past0) (fun R l => by simp only [past0, Block.t]; omega) (fun R l => keep34 (scores hq k0 R) l) (col37 _ _) fun R c => ?_
  rw [k0_pay36, shapeCast_self]
  exact add35 (scores hq k0 R) (fun l => v0 l c) (I1.ck R)

/-- What the block's output holds. -/
theorem out_at (c : Dev nD) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S2048x256 .f32) (harg5 : arg5.IsWhole)
    {x0 : Vec Ideal S512x256 .bf16} {x1 x2 : Vec Ideal S4096x256 .bf16} (hb : B.b = t.val) (hQ : ∀ R c, queries x0 (ix2 R c) = (B.Q R c : EReal))
    (hK : ∀ s c, x1 (ix2 s c) = (B.K s.val c : EReal)) (hV : ∀ s c, x2 (ix2 s c) = (B.V s.val c : EReal)) (i : Fin 512) (k : Fin 256) :
    out0_A_3 c (grid0.coords t) arg1 harg1 arg2 harg2 arg3 harg3 arg4 harg4 arg5 harg5 x0 x1 x2 (ix2 i k)
      = ((∑ s ∈ Finset.Ico 0 B.n, B.ww ⟨512 * (k.val / 64) + i.val, by omega⟩ s * B.V s k : ℝ) : EReal) := by
  have hK' : ∀ s c, arg2.view.read (Elt Ideal) (harg2.unread x1) (ix2 s c) = (B.K s.val c : EReal) := fun s c => by rw [harg2.read_unread]; exact hK s c
  have hV' : ∀ s c, arg3.view.read (Elt Ideal) (harg3.unread x2) (ix2 s c) = (B.V s.val c : EReal) := fun s c => by rw [harg3.read_unread]; exact hV s c
  have hq' : ∀ R c, queries (rd1 (harg1.unread x0)) (ix2 R c) = (B.Q R c : EReal) := fun R c => by
    rw [rd1, View.readAt_full, harg1.read_unread]; exact hQ R c
  have I := two_tiles (t := t) arg5 hb hK' hV' hq'
  have I' := loop Variants.none c none arg1 harg1 arg2 harg2 arg3 harg3 arg4 harg4 arg5 harg5 (BitVec.ofNat 32 ((grid0.coords t) 0).val) _ (ck1 (queries (rd1 (harg1.unread x0))) (tl1 (grid0.coords t) (harg2.unread x1)))
    (kv0 (queries (rd1 (harg1.unread x0))) (tl0 (grid0.coords t) (harg2.unread x1)))
    (y0 (queries (rd1 (harg1.unread x0))) (tl1 (grid0.coords t) (harg2.unread x1)) (tl0 (grid0.coords t) (harg2.unread x1)) (tl0 (grid0.coords t) (harg3.unread x2)) (rd5 arg5 [whole (y1 (queries (rd1 (harg1.unread x0))) (tl1 (grid0.coords t) (harg2.unread x1)) (tl1 (grid0.coords t) (harg3.unread x2)))]))
    (rd5 arg5 [whole (y1 (queries (rd1 (harg1.unread x0))) (tl1 (grid0.coords t) (harg2.unread x1)) (tl1 (grid0.coords t) (harg3.unread x2)))])
    (kernelRun0_A.sl.v278 (grid0.coords t)) _ _ hb hK' hV' hq' _ _ I (k0_t1_loop (grid0.coords t)).trips le_rfl
  rw [show 512 * t.val - 256 * (k0_t1_loop (grid0.coords t)).trips = 0 by rw [trips_eq]; omega] at I'
  rw [out_eq, View.read_writes_full, sideways_at, fin, T, no_rest, st_k0_t2]
  refine Eq.trans ?_ (I'.acc _ _)
  rw [List.nil_append, ← View.writes_append]
  exact congrFun (View.readAt_full ..) _
end model

end Cert.SbfStep

end
-- ==== Proof.SbbRun.lean ====
/- The body of the stick-breaking backward kernel, run symbolically at one grid point: first the conditional that clears
   the two key-side accumulators at the first point, then everything after it, stated over what those accumulators hold. -/
module

public import proofs.«01_k».proof.Proof.Gen.KSbbIdeal.Launch
public import proofs.«01_k».proof.Proof.Gen.KSbbIdeal.Skeleton
public import proofs.«01_k».proof.Proof.Gen.KSbbIdeal.Loops
public import proofs.«01_k».proof.Proof.Gen.KSbbIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KSbbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KSbbIdeal.Gen

variable {F : FTy → Type} [FloatOps F]

local notation "𝕄" => MT nD τ sig Unit (Elt F) ℕ (UR sig nD τ) ℕ

/-- The condition under which the body clears its accumulators: the grid coordinate is zero. -/
abbrev clears (i : grid0.Coords) : Prop :=
  Scalar.cmpi .ne (Scalar.extui (Scalar.cmpi .eq (BitVec.ofNat 32 (i 0).val) 0#32)) 0#32 = 1#1

/-- The first part of the body: the two accumulators end at `x7` and `x8`, where these are zero if the body clears them
    and what was there before if it does not; the query block is read. -/
theorem part3_run (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole)
    (x0 : Vec F S512x256 .bf16) (x7 : Vec F S4096x256 .f32) (x8 : Vec F S4096x256 .f32)
    (hz : clears i → x7 = k0_pay18 ∧ x8 = k0_pay19) (E : Set ℕ) :
    (iprop(owns (c : Thread nD τ) arg1 fullShare x0
        ∗ (∃ d, owns (c : Thread nD τ) arg7 fullShare d ∗ ⌜¬clears i → d = x7⌝)
        ∗ (∃ d, owns (c : Thread nD τ) arg8 fullShare d ∗ ⌜¬clears i → d = x8⌝)) : sProp 𝕄)
      ⊢ wp frame (wpE (defs₀ (F := F)) Variants.none c none) E (k0_part3 i arg1 harg1 arg2 harg2 arg3 harg3 arg4 harg4 arg5 harg5 arg6 harg6 arg7 harg7 arg8 harg8 arg9 harg9)
          (fun r => iprop(⌜r = ⟨BitVec.ofNat 32 (i 0).val, k0_pay20 x0, k0_pay21 x0, iota .tc S1x256 32 [1] iota_S1x256_d1_w32, 64#32, k0_pay22, k0_pay23⟩⌝
            ∗ owns (c : Thread nD τ) arg1 fullShare x0 ∗ owns (c : Thread nD τ) arg7 fullShare x7 ∗ owns (c : Thread nD τ) arg8 fullShare x8)) := by
  simp only [k0_part3_eq_skeleton]; unfold k0_part3_skel
  unfold owns
  iintro ⟨⟨%f0, %hf0, H0⟩, ⟨%d7, ⟨%f7, %hf7, H7⟩, %h7⟩, ⟨%d8, ⟨%f8, %hf8, H8⟩, %h8⟩⟩
  obtain rfl := harg1.eq_unread hf0
  have hw : View.readAt (Elt F) arg1.view (Rect.unit ![0, 0] S512x256.size inb_S512x256_S512x256_0_0).toLoadRect (harg1.unread x0) = x0 :=
    (View.readAt_full arg1.view _ _).trans (harg1.read_unread x0)
  by_cases hc : clears i
  · obtain ⟨rfl, rfl⟩ := hz hc
    sl_exec
    sl_step
    isplitr; · ipureintro; rfl
    isplitl [H0]
    · iexists _; isplitr; · ipureintro; exact harg1.read_unread _
      iexact H0
    isplitl [H7]
    · iexists _; isplitr; swap; · iexact H7
      ipureintro; exact View.read_writes_full _ _ _ _ _
    iexists _; isplitr; swap; · iexact H8
    ipureintro; exact View.read_writes_full _ _ _ _ _
  · obtain rfl := h7 hc; obtain rfl := h8 hc
    sl_exec
    sl_step
    isplitr; · ipureintro; rfl
    isplitl [H0]
    · iexists _; isplitr; · ipureintro; exact harg1.read_unread _
      iexact H0
    isplitl [H7]
    · iexists _; isplitr; swap; · iexact H7
      ipureintro; exact hf7
    iexists _; isplitr; swap; · iexact H8
    ipureintro; exact hf8

-- (the proof term of the run is large: the pass that names its nested proofs walks it past the default budget)
set_option maxHeartbeats 4000000 in
/-- What the body leaves in its three outputs, as pieces (last first), with the proof that it does: the inputs are read at
    their contents and left, the accumulators start at `x7` and `x8` (as in `part3_run`) and end with the pieces written
    over these. The pieces are what the symbolic run finds. -/
noncomputable def bodyRun (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole)
    (x0 : Vec F S512x256 .bf16) (x1 : Vec F S4096x256 .bf16) (x2 : Vec F S4096x256 .bf16) (x3 : Vec F S512x256 .f32) (x4 : Vec F S512x512 .f32)
    (x7 : Vec F S4096x256 .f32) (x8 : Vec F S4096x256 .f32) :
    Σ' (L6 : List (View.Piece (Elt F) S512x256 .f32)) (L7 : List (View.Piece (Elt F) S4096x256 .f32)), { L8 : List (View.Piece (Elt F) S4096x256 .f32) //
      ∀ (hz : clears i → x7 = k0_pay18 ∧ x8 = k0_pay19) (E : Set ℕ) (K : PUnit → sProp 𝕄),
        (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (∃ d, owns (c : Thread nD τ) arg7 fullShare d ∗ ⌜¬clears i → d = x7⌝)
            ∗ (∃ d, owns (c : Thread nD τ) arg8 fullShare d ∗ ⌜¬clears i → d = x8⌝) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (arg7.view.loc (c : Thread nD τ) ↦[arg7.view.set]{fullShare} arg7.view.writes (Elt F) (harg7.unread x7) L7)
                ∗ (arg8.view.loc (c : Thread nD τ) ↦[arg8.view.set]{fullShare} arg8.view.writes (Elt F) (harg8.unread x8) L8)
                ∗ (∃ d, owns (c : Thread nD τ) arg9 fullShare d)) -∗ K ⟨⟩)) : sProp 𝕄)
          ⊢ wp frame (wpE (defs₀ (F := F)) Variants.none c none) E (cc0_dsb i arg1 harg1 arg2 harg2 arg3 harg3 arg4 harg4 arg5 harg5 arg6 harg6 arg7 harg7 arg8 harg8 arg9 harg9) K } := by
  refine ⟨?_, ?_, ?_, fun hz E K => ?run⟩
  case run =>
    simp only [cc0_dsb_eq_skeleton]; unfold cc0_dsb_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H0, H1, H2, H3, H4, H6, H7, H8, HS, Hk⟩
    rw [wp_bind]
    iapply (wp_wand_r Idealize.ShloMosaic.frame (wpE (defs₀ (F := F)) Variants.none (c : Thread nD τ) none) E)
    isplitl [H0 H7 H8]
    · iapply (part3_run c i arg1 harg1 arg2 harg2 arg3 harg3 arg4 harg4 arg5 harg5 arg6 harg6 arg7 harg7 arg8 harg8 arg9 harg9 x0 x7 x8 hz E)
      isplitl [H0]; · iexact H0
      isplitl [H7]; · iexact H7
      iexact H8
    iintro %r ⟨%hr, H0, H7, H8⟩
    subst hr
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%d6, %f6, -, H6⟩
    icases H7 with ⟨%f7, %hf7, H7⟩
    icases H8 with ⟨%f8, %hf8, H8⟩
    icases HS with ⟨%ds, %fs, -, HS⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf7; obtain rfl := harg8.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexact H7
    isplitl [H8]; · iexact H8
    iexists _, _; isplitr; swap; · iexact HS
    ipureintro; rfl

end Cert.KSbbIdeal.Hand

end
-- ==== Proof.SbbFrame.lean ====
/- The stick-breaking backward kernel runs to its end from any memory and leaves its arguments: what its outputs hold
   after each grid point, by recursion over the points, and from it the run of the whole program. -/
module

public import proofs.«01_k».proof.Proof.SbbRun
public import Idealize.ShloMosaic.Lib.Claim

@[expose] public section

set_option maxRecDepth 16384

noncomputable section

namespace Cert.KSbbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KSbbIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- The stretches of host operations, in order. -/
abbrev stretches : List (List (HloOp τ sig (Elt F))) := [hostOps0, hostOps0_1, hostOps0_2, hostOps0_3, hostOps0_4, hostOps0_5, hostOps0_6, hostOps0_7, hostOps0_8, hostOps0_9]

/-- A core's buffers when the kernel is entered. -/
abbrev V (c : Dev nD) (b : Ref sig .tc) : Buf (Elt F) ((c : Thread nD τ).loc b) :=
  StableHlo.after (List.flatten stretches) (fun b => m (c, b)) b

theorem stretches_fresh : (stretches : List (List (HloOp τ sig (Elt F)))).Forall fun ops => ops.Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩) stretches_fresh main_chain

/-- No host operation writes a buffer that is in none of the lists of written buffers. -/
theorem kept (c : Dev nD) (b : Ref sig .tc)
    (h : ∀ op ∈ (List.flatten stretches : List (HloOp τ sig (Elt F))), Proc.devRef .tc b ∉ op.writes) :
    V m c b = m ((c : Thread nD τ).loc b) :=
  StableHlo.after_of_forall_not_mem (b := Proc.devRef .tc b) _ _ h

theorem V_main_arg0 (c : Dev nD) : V m c main_arg0 = m ((c : Thread nD τ).loc main_arg0) :=
  kept m c main_arg0 (List.forall_iff_forall_mem.mp (by
    simp only [stretches, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  kept m c main_arg1 (List.forall_iff_forall_mem.mp (by
    simp only [stretches, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks and the staging buffers -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x256 .f32 := win0_7.stage (cfg0.slots t 7)
abbrev hs0_7 (t : Fin cfg0.N) : (ms0_7 t).IsWhole := hstage0_7 ((cfg0.slots t 7).cast nbuf0_7)
/-- The scratch accumulator of the query gradient. -/
abbrev scM : Memref sig .tc .vmem S2048x256 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the outputs hold after each point -/

/-- The query gradient's block at a point: the pieces cover it, so what was there does not matter. -/
theorem cover6 (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole)
    (x0 : Vec F S512x256 .bf16) (x1 : Vec F S4096x256 .bf16) (x2 : Vec F S4096x256 .bf16) (x3 : Vec F S512x256 .f32) (x4 : Vec F S512x512 .f32) (x7 : Vec F S4096x256 .f32) (x8 : Vec F S4096x256 .f32) (y : S512x256.Idx) :
    ∃ pc ∈ (bodyRun c i arg1 harg1 arg2 harg2 arg3 harg3 arg4 harg4 arg5 harg5 arg6 harg6 arg7 harg7 arg8 harg8 arg9 harg9 x0 x1 x2 x3 x4 x7 x8).1, y ∈ pc.1.set :=
  View.cover_of_tiledL (bodyRun c i arg1 harg1 arg2 harg2 arg3 harg3 arg4 harg4 arg5 harg5 arg6 harg6 arg7 harg7 arg8 harg8 arg9 harg9 x0 x1 x2 x3 x4 x7 x8).1 S512x256.size (by sl_kernel_rfl) y

/-- What a point leaves in the three outputs, from its blocks and from what the two key-side accumulators hold. -/
def step (c : Dev nD) (t : Fin cfg0.N) (x7 x8 : Vec F S4096x256 .f32) : Vec F S512x256 .f32 × Vec F S4096x256 .f32 × Vec F S4096x256 .f32 :=
  ((ms0_5 t).view.read (Elt F) ((ms0_5 t).view.writes (Elt F) (ms0_5 t).view.junk (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (iblk m c 0 t) (iblk m c 1 t) (iblk m c 2 t) (iblk m c 3 t) (iblk m c 4 t) x7 x8).1),
    (ms0_6 t).view.read (Elt F) ((ms0_6 t).view.writes (Elt F) ((hs0_6 t).unread x7) (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (iblk m c 0 t) (iblk m c 1 t) (iblk m c 2 t) (iblk m c 3 t) (iblk m c 4 t) x7 x8).2.1),
    (ms0_7 t).view.read (Elt F) ((ms0_7 t).view.writes (Elt F) ((hs0_7 t).unread x8) (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (iblk m c 0 t) (iblk m c 1 t) (iblk m c 2 t) (iblk m c 3 t) (iblk m c 4 t) x7 x8).2.2.1))

/-- The outputs after point `n`: the accumulators start from zero and go on from the point before. -/
def outsAt (c : Dev nD) : (n : ℕ) → n < cfg0.N → Vec F S512x256 .f32 × Vec F S4096x256 .f32 × Vec F S4096x256 .f32
  | 0, hn => step m c ⟨0, hn⟩ k0_pay18 k0_pay19
  | n + 1, hn => step m c ⟨n + 1, hn⟩ (outsAt c n (Nat.lt_of_succ_lt hn)).2.1 (outsAt c n (Nat.lt_of_succ_lt hn)).2.2

/-- What the accumulators hold when point `n`'s own work begins. -/
def accAt (c : Dev nD) : (n : ℕ) → n < cfg0.N → Vec F S4096x256 .f32 × Vec F S4096x256 .f32
  | 0, _ => (k0_pay18, k0_pay19)
  | n + 1, hn => (outsAt m c n (Nat.lt_of_succ_lt hn)).2

theorem outsAt_eq (c : Dev nD) (t : Fin cfg0.N) :
    outsAt m c t.val t.isLt = step m c t (accAt m c t.val t.isLt).1 (accAt m c t.val t.isLt).2 := by
  obtain ⟨n, hn⟩ := t
  cases n <;> rfl

theorem clears_iff : ∀ t : Fin cfg0.N, clears (grid0.coords t) ↔ t.val = 0 := by decide +kernel

/-! ## The pipeline's proof data -/

/-- The proof data: the arrays as the kernel finds them, the inputs' buffers left at their blocks, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! ## What the body finds -/

theorem after0 (c : Dev nD) (t : Fin cfg0.N) : (dats m 0 c).after 0 t = iblk m c 0 t := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem after1 (c : Dev nD) (t : Fin cfg0.N) : (dats m 0 c).after 1 t = iblk m c 1 t := by dsimp only [dats]

theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem after2 (c : Dev nD) (t : Fin cfg0.N) : (dats m 0 c).after 2 t = iblk m c 2 t := by dsimp only [dats]

theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem after3 (c : Dev nD) (t : Fin cfg0.N) : (dats m 0 c).after 3 t = iblk m c 3 t := by dsimp only [dats]

theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

theorem after4 (c : Dev nD) (t : Fin cfg0.N) : (dats m 0 c).after 4 t = iblk m c 4 t := by dsimp only [dats]

theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2.1 := by dsimp only [dats]
theorem after7 (c : Dev nD) (t : Fin cfg0.N) : (dats m 0 c).after 7 t = (outsAt m c t.val t.isLt).2.2 := by dsimp only [dats]

/-- The key-side outputs are written back at the last point alone. -/
theorem unflushed : ∀ t : Fin cfg0.N, t.val ≠ 0 →
    (cfg0.win 6).flush ⟨t.val - 1, Nat.lt_of_le_of_lt (Nat.sub_le _ _) t.isLt⟩ = false ∧
    (cfg0.win 7).flush ⟨t.val - 1, Nat.lt_of_le_of_lt (Nat.sub_le _ _) t.isLt⟩ = false := by decide +kernel

theorem before6 (c : Dev nD) (t : Fin cfg0.N) (ht : t.val ≠ 0) (d) :
    (dats m 0 c).before 6 t d = (accAt m c t.val t.isLt).1 := by
  refine ((dats m 0 c).before_out_kept 6 rfl t ht (unflushed t ht).1 (fun _ => rfl) (fun _ _ => rfl) d).trans ?_
  obtain ⟨_ | n, hn⟩ := t
  · exact absurd rfl ht
  · rw [after6]; rfl

theorem before7 (c : Dev nD) (t : Fin cfg0.N) (ht : t.val ≠ 0) (d) :
    (dats m 0 c).before 7 t d = (accAt m c t.val t.isLt).2 := by
  refine ((dats m 0 c).before_out_kept 7 rfl t ht (unflushed t ht).2 (fun _ => rfl) (fun _ _ => rfl) d).trans ?_
  obtain ⟨_ | n, hn⟩ := t
  · exact absurd rfl ht
  · rw [after7]; rfl

theorem starts (c : Dev nD) (t : Fin cfg0.N) (h : clears (grid0.coords t)) :
    (accAt m c t.val t.isLt).1 = k0_pay18 ∧ (accAt m c t.val t.isLt).2 = k0_pay19 := by
  obtain ⟨_ | n, hn⟩ := t
  · exact ⟨rfl, rfl⟩
  · exact absurd ((clears_iff _).mp h) (Nat.succ_ne_zero n)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7,
    show (dats m 0 c).Φ t.castSucc = (Pipeline.ΦA spec0 c : sProp 𝕄) from rfl, PhiA_eq, outsAt_eq]
  iintro ⟨⟨H9, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (iblk m c 0 t) (iblk m c 1 t) (iblk m c 2 t) (iblk m c 3 t) (iblk m c 4 t) (accAt m c t.val t.isLt).1 (accAt m c t.val t.isLt).2).2.2.2 (starts m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]
  · iexists _; isplitl [H6]; · iexact H6
    ipureintro; exact fun h => before6 m c t (fun h0 => h ((clears_iff t).mpr h0)) d6
  isplitl [H7]
  · iexists _; isplitl [H7]; · iexact H7
    ipureintro; exact fun h => before7 m c t (fun h0 => h ((clears_iff t).mpr h0)) d7
  isplitl [H9]; · iexact H9
  iintro ⟨H0, H1, H2, H3, H4, ⟨%e5, H5⟩, H6, H7, H9⟩
  isplitl [H9 Hg]
  · isplitl [H9]
    · iexact H9
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (iblk m c 0 t) (iblk m c 1 t) (iblk m c 2 t) (iblk m c 3 t) (iblk m c 4 t) _ _)
  isplitl [H6]
  · unfold owns; iexists _; isplitr
    swap; · iexact H6
    ipureintro; rfl
  unfold owns; iexists _; isplitr
  swap; · iexact H7
  ipureintro; rfl

/-- The body table's row at point `t`'s slots is the body as `bodyAt0` spells it. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- Every execution ends, with the arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and the machine at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).1 3).trans (((dats m 0 c).arrAt_in 3 rfl _).trans ((A_eq m c 3).trans (V_main_arg1 m c)))⟩, h.2⟩)
    (run_quiescent m ρ)

end Cert.KSbbIdeal.Hand

end
-- ==== Proof.SbbStep.lean ====
module

public import proofs.«01_k».proof.Proof.SbbFrame
public import proofs.«01_k».proof.Proof.SbbTrip

@[expose] public section

set_option maxRecDepth 16384

noncomputable section

/- One block of queries of the stick-breaking backward kernel: what it leaves in its outputs. -/
namespace Cert.SbbStep

open Idealize.ShloMosaic Idealize.ShloMosaic.TcCoe Idealize.SL.Sem
open Cert.Sb Cert.SbbTile Cert.SbbModel Cert.SbbTrip Cert.KSbbIdeal Cert.KSbbIdeal.Gen Cert.KSbbIdeal.Hand

section words
variable {F : FTy → Type} [FloatOps F]

/-- The stacked queries, the stacked cotangents and each row's sum of cotangent times output. -/
def qv (x0 : Vec F S512x256 .bf16) : FVec F S2048x256 .bf16 :=
  k0_pay29 (k0_pay20 x0) (k0_pay21 x0) (k0_pay24 (k0_pay20 x0) (iota .tc S1x256 32 [1] iota_S1x256_d1_w32) 64#32 k0_pay22 k0_pay23) k0_pay25 k0_pay26 k0_pay27 k0_pay28
def dvec (x3 : Vec F S512x256 .f32) : FVec F S2048x256 .bf16 :=
  k0_pay37 (k0_pay30 x3) (k0_pay31 (k0_pay30 x3) (iota .tc S1x256 32 [1] iota_S1x256_d1_w32)) (k0_pay35 (k0_pay30 x3) (iota .tc S1x256 32 [1] iota_S1x256_d1_w32) 64#32 k0_pay32 k0_pay33 k0_pay34)
    (k0_pay36 (k0_pay30 x3)) (iota .tc S1x256 32 [1] iota_S1x256_d1_w32)
abbrev rd4 {arg : Memref sig .tc .vmem S512x256 .f32} (X : arg.view.ty.Contents (Elt F)) : Vec F S512x256 .f32 :=
  View.readAt (Elt F) arg.view (Rect.unit (s := S512x256) ![0, 0] S512x256.size inb_S512x256_S512x256_0_0).toLoadRect X
def gvec {arg5 : Memref sig .tc .vmem S512x512 .f32} (X : arg5.view.ty.Contents (Elt F)) : FVec F S2048x1 .f32 :=
  k0_pay41 (k0_pay38 (View.readAt (Elt F) arg5.view (Rect.unit (s := S512x512) ![0, 0] S512x128.size inb_S512x512_S512x128_0_0).toLoadRect X))
    (k0_pay39 (View.readAt (Elt F) arg5.view (Rect.unit (s := S512x512) ![0, 128] S512x128.size inb_S512x512_S512x128_0_128).toLoadRect X))
    (k0_pay40 (View.readAt (Elt F) arg5.view (Rect.unit (s := S512x512) ![0, 256] S512x128.size inb_S512x512_S512x128_0_256).toLoadRect X))
    (View.readAt (Elt F) arg5.view (Rect.unit (s := S512x512) ![0, 384] S512x128.size inb_S512x512_S512x128_0_384).toLoadRect X)

/-- The rows of the tile that ends the block of queries (`tl1`), and of the one before it (`tl0`). -/
abbrev tl1 {e : EltTy} (i : grid0.Coords) {arg : Memref sig .tc .vmem S4096x256 e} (X : arg.view.ty.Contents (Elt F)) : Vec F S256x256 e :=
  View.readAt (Elt F) arg.view (Rect.unit (s := S4096x256) (k0_off1 i 256#32) S256x256.size (k0_off1_inb i 1)).toLoadRect X
abbrev tl0 {e : EltTy} (i : grid0.Coords) {arg : Memref sig .tc .vmem S4096x256 e} (X : arg.view.ty.Contents (Elt F)) : Vec F S256x256 e :=
  View.readAt (Elt F) arg.view (Rect.unit (s := S4096x256) (k0_off1 i 0#32) S256x256.size (k0_off1_inb i 0)).toLoadRect X
abbrev rd9 (arg : Memref sig .tc .vmem S2048x256 .f32) (L : List (View.Piece (Elt F) S2048x256 .f32)) : Vec F S2048x256 .f32 :=
  arg.view.readCov L (Rect.unit (s := S2048x256) ![0, 0] S2048x256.size inb_S2048x256_S2048x256_0_0).toLoadRect
abbrev put9 (arg : Memref sig .tc .vmem S2048x256 .f32) (X : arg.view.ty.Contents (Elt F)) (w : Vec F S2048x256 .f32) : arg.view.ty.Contents (Elt F) :=
  arg.view.writes (Elt F) X [⟨Rect.unit (s := S2048x256) ![0, 0] S2048x256.size inb_S2048x256_S2048x256_0_0, w⟩]

section tiles
variable (q d : FVec F S2048x256 .bf16) (g : FVec F S2048x1 .f32) (kt vt : Vec F S256x256 .bf16) (ck cg : FVec F S2048x1 .f32)
/-- The four vectors of the tile that ends the block of queries. -/
def kv1 : FVec F S2048x256 .f32 := k0_pay53 (k0_pay49 q kt) 512#32 k0_pay50 k0_pay51
def wv1 : FVec F S2048x256 .f32 := k0_pay54 k0_pay42 k0_pay44 (k0_pay48 q kt) (k0_pay49 q kt) 512#32 k0_pay50 k0_pay51
def gv1 : FVec F S2048x256 .f32 := k0_pay55 d k0_pay42 k0_pay44 (k0_pay46 vt) (k0_pay48 q kt) (k0_pay49 q kt) 512#32 k0_pay50 k0_pay51
def dz1 : FVec F S2048x256 .f32 := k0_pay56 d g k0_pay42 k0_pay43 k0_pay44 (k0_pay46 vt) (k0_pay47 q kt) (k0_pay48 q kt) (k0_pay49 q kt) 512#32 k0_pay50 k0_pay51
/-- The four vectors of the tile before it. -/
def kv0 : FVec F S2048x256 .f32 := k0_pay69 (k0_pay65 q kt) (k0_pay66 q kt)
def wv0 : FVec F S2048x256 .f32 := k0_pay70 k0_pay42 ck (k0_pay65 q kt) (k0_pay66 q kt)
def gv0 : FVec F S2048x256 .f32 := k0_pay71 d k0_pay42 ck (k0_pay64 vt) (k0_pay65 q kt) (k0_pay66 q kt)
end tiles

variable (i : grid0.Coords) {arg7 arg8 : Memref sig .tc .vmem S4096x256 .f32} {arg9 : Memref sig .tc .vmem S2048x256 .f32}
  (q d : FVec F S2048x256 .bf16) (g : FVec F S2048x1 .f32) (k1 v1 k0 v0 : Vec F S256x256 .bf16)
  (X7 : arg7.view.ty.Contents (Elt F)) (X8 : arg8.view.ty.Contents (Elt F))
/-- The sums after the first of the two tiles. -/
def ck1 : FVec F S2048x1 .f32 := k0_pay61 k0_pay44 (kv1 q k1)
def cg1 : FVec F S2048x1 .f32 := k0_pay62 k0_pay44 (gv1 q d k1 v1)
def l9a : List (View.Piece (Elt F) S2048x256 .f32) :=
  [⟨Rect.unit (s := S2048x256) ![0, 0] S2048x256.size inb_S2048x256_S2048x256_0_0, k0_pay60 (k0_pay45 k1) (dz1 q d g k1 v1)⟩]
/-- The sums after both. -/
def ini : FVec F S2048x1 .f32 × FVec F S2048x1 .f32 :=
  (k0_pay76 (ck1 q k1) (kv0 q k0), k0_pay77 (cg1 q d k1 v1) (gv0 q d k0 v0 (ck1 q k1)))
def l7b : List (View.Piece (Elt F) S4096x256 .f32) :=
  [⟨Rect.unit (s := S4096x256) (k0_off1 i 0#32) S256x256.size (k0_off1_inb i 0),
      k0_pay73 q g k0_pay43 (cg1 q d k1 v1) (k0_pay65 q k0) (k0_pay67 (k0_pay65 q k0) (k0_pay66 q k0)) k0_pay68 (gv0 q d k0 v0 (ck1 q k1)) (tl0 i X7)⟩,
    ⟨Rect.unit (s := S4096x256) (k0_off1 i 256#32) S256x256.size (k0_off1_inb i 1), k0_pay58 q (dz1 q d g k1 v1) (tl1 i X7)⟩]
def l8b : List (View.Piece (Elt F) S4096x256 .f32) :=
  [⟨Rect.unit (s := S4096x256) (k0_off1 i 0#32) S256x256.size (k0_off1_inb i 0), k0_pay74 d (wv0 q k0 (ck1 q k1)) (tl0 i X8)⟩,
    ⟨Rect.unit (s := S4096x256) (k0_off1 i 256#32) S256x256.size (k0_off1_inb i 1), k0_pay59 d (wv1 q k1) (tl1 i X8)⟩]
def l9b (arg9 : Memref sig .tc .vmem S2048x256 .f32) : List (View.Piece (Elt F) S2048x256 .f32) :=
  ⟨Rect.unit (s := S2048x256) ![0, 0] S2048x256.size inb_S2048x256_S2048x256_0_0,
    k0_pay75 g k0_pay43 (cg1 q d k1 v1) (k0_pay63 k0) (k0_pay65 q k0) (k0_pay67 (k0_pay65 q k0) (k0_pay66 q k0)) k0_pay68 (gv0 q d k0 v0 (ck1 q k1)) (rd9 arg9 (l9a q d g k1 v1))⟩
    :: l9a q d g k1 v1
end words

section run
variable {F : FTy → Type} [FloatOps F]
variable  (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole)
    (x0 : Vec F S512x256 .bf16) (x1 : Vec F S4096x256 .bf16) (x2 : Vec F S4096x256 .bf16) (x3 : Vec F S512x256 .f32) (x4 : Vec F S512x512 .f32)
    (x7 : Vec F S4096x256 .f32) (x8 : Vec F S4096x256 .f32)

/-- The state after `k` trips of the loop over the tiles before these two. -/
def S (k : ℕ) := st_k0_t1 (F := F) Variants.none c none i arg1 harg1 arg2 harg2 arg3 harg3 arg4 harg4 arg5 harg5 arg6 harg6 arg7 harg7 arg8 harg8 arg9 harg9 (BitVec.ofNat 32 (i 0).val) (qv x0) (dvec (rd4 (harg4.unread x3))) (gvec (harg5.unread x4)) k0_pay42 k0_pay43 (ck1 (qv x0) (tl1 i (harg2.unread x1))) (cg1 (qv x0) (dvec (rd4 (harg4.unread x3))) (tl1 i (harg2.unread x1)) (tl1 i (harg3.unread x2))) (kv0 (qv x0) (tl0 i (harg2.unread x1))) (gv0 (qv x0) (dvec (rd4 (harg4.unread x3))) (tl0 i (harg2.unread x1)) (tl0 i (harg3.unread x2)) (ck1 (qv x0) (tl1 i (harg2.unread x1)))) (Scalar.muli (BitVec.ofNat 32 (i 0).val) 2#32) (harg2.unread x1) (harg3.unread x2) (arg7.view.writes (Elt F) (harg7.unread x7) (l7b i (qv x0) (dvec (rd4 (harg4.unread x3))) (gvec (harg5.unread x4)) (tl1 i (harg2.unread x1)) (tl1 i (harg3.unread x2)) (tl0 i (harg2.unread x1)) (tl0 i (harg3.unread x2)) (harg7.unread x7))) (arg8.view.writes (Elt F) (harg8.unread x8) (l8b i (qv x0) (dvec (rd4 (harg4.unread x3))) (tl1 i (harg2.unread x1)) (tl0 i (harg2.unread x1)) (harg8.unread x8))) (arg9.view.writes (Elt F) arg9.view.junk (l9b (qv x0) (dvec (rd4 (harg4.unread x3))) (gvec (harg5.unread x4)) (tl1 i (harg2.unread x1)) (tl1 i (harg3.unread x2)) (tl0 i (harg2.unread x1)) (tl0 i (harg3.unread x2)) arg9)) (ini (qv x0) (dvec (rd4 (harg4.unread x3))) (tl1 i (harg2.unread x1)) (tl1 i (harg3.unread x2)) (tl0 i (harg2.unread x1)) (tl0 i (harg3.unread x2))) k

/-- The state after `k` trips of the loop over the rest of the tiles, of which there are none. -/
def T (k : ℕ) := st_k0_t2 (F := F) Variants.none c none i arg1 harg1 arg2 harg2 arg3 harg3 arg4 harg4 arg5 harg5 arg6 harg6 arg7 harg7 arg8 harg8 arg9 harg9 (BitVec.ofNat 32 (i 0).val) (qv x0) (dvec (rd4 (harg4.unread x3))) (gvec (harg5.unread x4)) k0_pay42 k0_pay43 (ck1 (qv x0) (tl1 i (harg2.unread x1))) (cg1 (qv x0) (dvec (rd4 (harg4.unread x3))) (tl1 i (harg2.unread x1)) (tl1 i (harg3.unread x2))) (kv0 (qv x0) (tl0 i (harg2.unread x1))) (gv0 (qv x0) (dvec (rd4 (harg4.unread x3))) (tl0 i (harg2.unread x1)) (tl0 i (harg3.unread x2)) (ck1 (qv x0) (tl1 i (harg2.unread x1)))) (Scalar.muli (BitVec.ofNat 32 (i 0).val) 2#32) (Scalar.addi 0#32 (Scalar.muli (Scalar.divsi (Scalar.subi (Scalar.muli (BitVec.ofNat 32 (i 0).val) 2#32) 0#32) 1#32) 1#32)) (harg2.unread x1) (harg3.unread x2)
  (arg7.view.writes (Elt F) (harg7.unread x7) ((S c i arg1 harg1 arg2 harg2 arg3 harg3 arg4 harg4 arg5 harg5 arg6 harg6 arg7 harg7 arg8 harg8 arg9 harg9 x0 x1 x2 x3 x4 x7 x8 (k0_t1_loop i).trips).2.1 ++ (l7b i (qv x0) (dvec (rd4 (harg4.unread x3))) (gvec (harg5.unread x4)) (tl1 i (harg2.unread x1)) (tl1 i (harg3.unread x2)) (tl0 i (harg2.unread x1)) (tl0 i (harg3.unread x2)) (harg7.unread x7))))
  (arg8.view.writes (Elt F) (harg8.unread x8) ((S c i arg1 harg1 arg2 harg2 arg3 harg3 arg4 harg4 arg5 harg5 arg6 harg6 arg7 harg7 arg8 harg8 arg9 harg9 x0 x1 x2 x3 x4 x7 x8 (k0_t1_loop i).trips).2.2.1 ++ (l8b i (qv x0) (dvec (rd4 (harg4.unread x3))) (tl1 i (harg2.unread x1)) (tl0 i (harg2.unread x1)) (harg8.unread x8))))
  (arg9.view.writes (Elt F) arg9.view.junk ((S c i arg1 harg1 arg2 harg2 arg3 harg3 arg4 harg4 arg5 harg5 arg6 harg6 arg7 harg7 arg8 harg8 arg9 harg9 x0 x1 x2 x3 x4 x7 x8 (k0_t1_loop i).trips).2.2.2 ++ (l9b (qv x0) (dvec (rd4 (harg4.unread x3))) (gvec (harg5.unread x4)) (tl1 i (harg2.unread x1)) (tl1 i (harg3.unread x2)) (tl0 i (harg2.unread x1)) (tl0 i (harg3.unread x2)) arg9))) (S c i arg1 harg1 arg2 harg2 arg3 harg3 arg4 harg4 arg5 harg5 arg6 harg6 arg7 harg7 arg8 harg8 arg9 harg9 x0 x1 x2 x3 x4 x7 x8 (k0_t1_loop i).trips).1 k

theorem pieces7 : (bodyRun c i arg1 harg1 arg2 harg2 arg3 harg3 arg4 harg4 arg5 harg5 arg6 harg6 arg7 harg7 arg8 harg8 arg9 harg9 x0 x1 x2 x3 x4 x7 x8).2.1 = (T c i arg1 harg1 arg2 harg2 arg3 harg3 arg4 harg4 arg5 harg5 arg6 harg6 arg7 harg7 arg8 harg8 arg9 harg9 x0 x1 x2 x3 x4 x7 x8 (k0_t2_loop i).trips).2.1 ++ ((S c i arg1 harg1 arg2 harg2 arg3 harg3 arg4 harg4 arg5 harg5 arg6 harg6 arg7 harg7 arg8 harg8 arg9 harg9 x0 x1 x2 x3 x4 x7 x8 (k0_t1_loop i).trips).2.1 ++ (l7b i (qv x0) (dvec (rd4 (harg4.unread x3))) (gvec (harg5.unread x4)) (tl1 i (harg2.unread x1)) (tl1 i (harg3.unread x2)) (tl0 i (harg2.unread x1)) (tl0 i (harg3.unread x2)) (harg7.unread x7))) := by
  sl_kernel_rfl
theorem pieces8 : (bodyRun c i arg1 harg1 arg2 harg2 arg3 harg3 arg4 harg4 arg5 harg5 arg6 harg6 arg7 harg7 arg8 harg8 arg9 harg9 x0 x1 x2 x3 x4 x7 x8).2.2.1 = (T c i arg1 harg1 arg2 harg2 arg3 harg3 arg4 harg4 arg5 harg5 arg6 harg6 arg7 harg7 arg8 harg8 arg9 harg9 x0 x1 x2 x3 x4 x7 x8 (k0_t2_loop i).trips).2.2.1 ++ ((S c i arg1 harg1 arg2 harg2 arg3 harg3 arg4 harg4 arg5 harg5 arg6 harg6 arg7 harg7 arg8 harg8 arg9 harg9 x0 x1 x2 x3 x4 x7 x8 (k0_t1_loop i).trips).2.2.1 ++ (l8b i (qv x0) (dvec (rd4 (harg4.unread x3))) (tl1 i (harg2.unread x1)) (tl0 i (harg2.unread x1)) (harg8.unread x8))) := by
  sl_kernel_rfl
/-- The accumulator of the query gradient at the end of the block. -/
def fin9 : Vec F S2048x256 .f32 := rd9 arg9 ((T c i arg1 harg1 arg2 harg2 arg3 harg3 arg4 harg4 arg5 harg5 arg6 harg6 arg7 harg7 arg8 harg8 arg9 harg9 x0 x1 x2 x3 x4 x7 x8 (k0_t2_loop i).trips).2.2.2 ++ ((S c i arg1 harg1 arg2 harg2 arg3 harg3 arg4 harg4 arg5 harg5 arg6 harg6 arg7 harg7 arg8 harg8 arg9 harg9 x0 x1 x2 x3 x4 x7 x8 (k0_t1_loop i).trips).2.2.2 ++ (l9b (qv x0) (dvec (rd4 (harg4.unread x3))) (gvec (harg5.unread x4)) (tl1 i (harg2.unread x1)) (tl1 i (harg3.unread x2)) (tl0 i (harg2.unread x1)) (tl0 i (harg3.unread x2)) arg9)))
def out6 (y : Vec F S2048x256 .f32) : Vec F S512x256 .f32 :=
  k0_pay1 y (k0_pay93 y (k0_pay90 y) k0_pay91 (k0_pay92 y)) (iota .tc S1x256 32 [1] iota_S1x256_d1_w32) 64#32 k0_pay94 k0_pay95 1#32 0#1
theorem pieces6 : (bodyRun c i arg1 harg1 arg2 harg2 arg3 harg3 arg4 harg4 arg5 harg5 arg6 harg6 arg7 harg7 arg8 harg8 arg9 harg9 x0 x1 x2 x3 x4 x7 x8).1 = [⟨Rect.unit (s := S512x256) ![0, 0] S512x256.size inb_S512x256_S512x256_0_0, out6 (fin9 c i arg1 harg1 arg2 harg2 arg3 harg3 arg4 harg4 arg5 harg5 arg6 harg6 arg7 harg7 arg8 harg8 arg9 harg9 x0 x1 x2 x3 x4 x7 x8)⟩] := by
  sl_kernel_rfl
end run

section model
variable {t : Fin cfg0.N} {B : Block} {A7 A8 : Fin 4096 → Fin 256 → ℝ}
theorem off1_last : ∀ t : Fin cfg0.N, k0_off1 (grid0.coords t) 256#32 = ![512 * t.val + 256, 0] := by decide +kernel
theorem off1_first : ∀ t : Fin cfg0.N, k0_off1 (grid0.coords t) 0#32 = ![512 * t.val, 0] := by decide +kernel
theorem no_rest : ∀ t : Fin cfg0.N, (k0_t2_loop (grid0.coords t)).trips = 0 := by decide +kernel

/-- The sums after the two tiles that hold queries of the block. -/
theorem two_tiles {arg2 arg3 : Memref sig .tc .vmem S4096x256 .bf16} {arg7 arg8 : Memref sig .tc .vmem S4096x256 .f32} (arg9 : Memref sig .tc .vmem S2048x256 .f32)
    {q d : FVec Ideal S2048x256 .bf16} {g : FVec Ideal S2048x1 .f32} {X2 : arg2.view.ty.Contents (Elt Ideal)} {X3 : arg3.view.ty.Contents (Elt Ideal)}
    {X7 : arg7.view.ty.Contents (Elt Ideal)} {X8 : arg8.view.ty.Contents (Elt Ideal)}
    (hb : B.b = t.val) (hK : ∀ s c, arg2.view.read (Elt Ideal) X2 (ix2 s c) = (B.K s.val c : EReal)) (hV : ∀ s c, arg3.view.read (Elt Ideal) X3 (ix2 s c) = (B.V s.val c : EReal))
    (hq : ∀ R c, q (ix2 R c) = (B.Q R c : EReal)) (hd : ∀ R c, d (ix2 R c) = (B.D R c : EReal)) (hg : ∀ R, g (ix2 R 0) = (B.G R : EReal))
    (h7 : ∀ s c, arg7.view.read (Elt Ideal) X7 (ix2 s c) = (A7 s c : EReal)) (h8 : ∀ s c, arg8.view.read (Elt Ideal) X8 (ix2 s c) = (A8 s c : EReal)) :
    Inv B A7 A8 (512 * t.val) (ini q d (tl1 (grid0.coords t) X2) (tl1 (grid0.coords t) X3) (tl0 (grid0.coords t) X2) (tl0 (grid0.coords t) X3)).1
      (ini q d (tl1 (grid0.coords t) X2) (tl1 (grid0.coords t) X3) (tl0 (grid0.coords t) X2) (tl0 (grid0.coords t) X3)).2
      (arg9.view.read (Elt Ideal) (arg9.view.writes (Elt Ideal) arg9.view.junk (l9b q d g (tl1 (grid0.coords t) X2) (tl1 (grid0.coords t) X3) (tl0 (grid0.coords t) X2) (tl0 (grid0.coords t) X3) arg9)))
      (arg7.view.read (Elt Ideal) (arg7.view.writes (Elt Ideal) X7 (l7b (grid0.coords t) q d g (tl1 (grid0.coords t) X2) (tl1 (grid0.coords t) X3) (tl0 (grid0.coords t) X2) (tl0 (grid0.coords t) X3) X7)))
      (arg8.view.read (Elt Ideal) (arg8.view.writes (Elt Ideal) X8 (l8b (grid0.coords t) q d (tl1 (grid0.coords t) X2) (tl0 (grid0.coords t) X2) X8))) := by
  have ht : t.val < 8 := t.isLt
  have e1 := off1_last t
  have e0 := off1_first t
  have b1 : 512 * t.val + 256 + 256 ≤ 4096 := by omega
  have b0 : 512 * t.val + 256 ≤ 4096 := by omega
  have n1 : 512 * t.val + 256 + 256 = B.n := by simp only [Block.n, hb]
  have n0 : 512 * t.val + 256 ≤ B.n := by omega
  have k1 := fun l c => (rows_at (arg := arg2) (k0_off1_inb (grid0.coords t) 1) _ e1 b1 X2 l c).trans (hK _ _)
  have v1 := fun l c => (rows_at (arg := arg3) (k0_off1_inb (grid0.coords t) 1) _ e1 b1 X3 l c).trans (hV _ _)
  have k0 := fun l c => (rows_at (arg := arg2) (k0_off1_inb (grid0.coords t) 0) _ e0 b0 X2 l c).trans (hK _ _)
  have v0 := fun l c => (rows_at (arg := arg3) (k0_off1_inb (grid0.coords t) 0) _ e0 b0 X3 l c).trans (hV _ _)
  have I0 := start (B := B) h7 h8
  rw [← n1] at I0
  have I1 := Inv.next n1.le b1 I0 hq hd k1 (last_tile n1 hq hd hg k1 v1) (ck' := ck1 q (tl1 (grid0.coords t) X2)) (cg' := cg1 q d (tl1 (grid0.coords t) X2) (tl1 (grid0.coords t) X3))
    (acc' := k0_pay60 (k0_pay45 (tl1 (grid0.coords t) X2)) (dz1 q d g (tl1 (grid0.coords t) X2) (tl1 (grid0.coords t) X3)))
    (wk := k0_pay58 q (dz1 q d g (tl1 (grid0.coords t) X2) (tl1 (grid0.coords t) X3)) (tl1 (grid0.coords t) X7))
    (wd := k0_pay59 d (wv1 q (tl1 (grid0.coords t) X2)) (tl1 (grid0.coords t) X8)) (col61 _ _) (col62 _ _)
    (fun R c => by rw [acc60, zero_add, show ∀ kt : Vec Ideal S256x256 .bf16, k0_pay45 kt = kt from fun kt => by funext j; exact congrFun (shapeCast_self ..) j]; rfl)
    (fun l c => by rw [dk58]; exact congrArg (· + _) (rows_at (arg := arg7) _ _ e1 b1 _ _ _))
    (fun l c => by rw [dv59]; exact congrArg (· + _) (rows_at (arg := arg8) _ _ e1 b1 _ _ _))
  rw [l7b, l8b, l9b, View.read_writes_cons_put arg7.view X7 _ _ _ e0, View.read_writes_cons_put arg8.view X8 _ _ _ e0, View.read_writes_cons_put arg7.view X7 _ _ _ e1,
    View.read_writes_cons_put arg8.view X8 _ _ _ e1, View.read_writes_full, View.writes_nil, View.writes_nil, l9a, rd9, View.readCov_full]
  refine Inv.next n0 b0 I1 hq hd k0 (first_tile n0 I1 hq hd hg k0 v0 (by rw [hb])) (col76 _ _) (col77 _ _) (fun R c => ?_) (fun l c => ?_) (fun l c => ?_)
  · rw [acc75, show ∀ kt : Vec Ideal S256x256 .bf16, k0_pay63 kt = kt from fun kt => by funext j; exact congrFun (shapeCast_self ..) j]; rfl
  · rw [dk73, put_rows _ _ b1, dif_neg (by simp only; omega)]; exact congrArg (· + _) (rows_at (arg := arg7) _ _ e0 b0 _ _ _)
  · rw [dv74, put_rows _ _ b1, dif_neg (by simp only; omega)]; exact congrArg (· + _) (rows_at (arg := arg8) _ _ e0 b0 _ _ _)
end model

section block
variable {t : Fin cfg0.N} {B : Block} {A7 A8 : Fin 4096 → Fin 256 → ℝ}  {c : Dev nD} {arg1 : Memref sig .tc .vmem S512x256 .bf16} {harg1 : arg1.IsWhole} {arg2 : Memref sig .tc .vmem S4096x256 .bf16} {harg2 : arg2.IsWhole} {arg3 : Memref sig .tc .vmem S4096x256 .bf16} {harg3 : arg3.IsWhole} {arg4 : Memref sig .tc .vmem S512x256 .f32} {harg4 : arg4.IsWhole} {arg5 : Memref sig .tc .vmem S512x512 .f32} {harg5 : arg5.IsWhole} {arg6 : Memref sig .tc .vmem S512x256 .f32} {harg6 : arg6.IsWhole} {arg7 : Memref sig .tc .vmem S4096x256 .f32} {harg7 : arg7.IsWhole} {arg8 : Memref sig .tc .vmem S4096x256 .f32} {harg8 : arg8.IsWhole} {arg9 : Memref sig .tc .vmem S2048x256 .f32} {harg9 : arg9.IsWhole}
variable {x0 : Vec Ideal S512x256 .bf16} {x1 x2 : Vec Ideal S4096x256 .bf16} {x3 : Vec Ideal S512x256 .f32} {x4 : Vec Ideal S512x512 .f32} {x7 x8 : Vec Ideal S4096x256 .f32}

/-- What the blocks of a point hold, said of the block of queries they belong to. -/
structure Feeds (t : Fin cfg0.N) (B : Block) (x0 : Vec Ideal S512x256 .bf16) (x1 x2 : Vec Ideal S4096x256 .bf16) (x3 : Vec Ideal S512x256 .f32) (x4 : Vec Ideal S512x512 .f32) : Prop where
  b : B.b = t.val
  q : ∀ R c, (if c.val / 64 = R.val / 512 then x0 (ix2 (qrow R) c) * ((1 / 8 : ℝ) : EReal) else 0) = (B.Q R c : EReal)
  k : ∀ s c, x1 (ix2 s c) = (B.K s.val c : EReal)
  v : ∀ s c, x2 (ix2 s c) = (B.V s.val c : EReal)
  d : ∀ R c, (if c.val / 64 = R.val / 512 then x3 (ix2 (qrow R) c) else 0) = (B.D R c : EReal)
  g : ∃ g : ℕ → Fin 512 → ℝ, (∀ i c, x4 (ix2 i c) = (g (c.val / 128) i : EReal)) ∧ ∀ R, B.G R = g (R.val / 512) (qrow R)

variable (H : Feeds t B x0 x1 x2 x3 x4)
include H

theorem q_of (R : Fin 2048) (c : Fin 256) : qv x0 (ix2 R c) = (B.Q R c : EReal) := by
  rw [qv, qs29, ← H.q R c, q20]
theorem d_of (R : Fin 2048) (c : Fin 256) : dvec (rd4 (harg4.unread x3)) (ix2 R c) = (B.D R c : EReal) := by
  rw [dvec, dos37, ← H.d R c]
  have e : rd4 (harg4.unread x3) = x3 := (View.readAt_full ..).trans (harg4.read_unread x3)
  rw [e]
theorem cols5 {o : ℕ} (ho : o + 128 ≤ 512) (inb : ∀ a, (![0, o] : Fin 2 → ℕ) a + S512x128.size a ≤ S512x512.size a) (i : Fin 512) (l : Fin 128) :
    View.readAt (Elt Ideal) arg5.view (Rect.unit (s := S512x512) ![0, o] S512x128.size inb).toLoadRect (harg5.unread x4) (ix2 i l) = x4 (ix2 i ⟨o + l.val, by omega⟩) := by
  refine Eq.trans (congrArg (arg5.view.read (Elt Ideal) (harg5.unread x4)) (funext fun a => Fin.ext ?_ : _ = (ix2 i ⟨o + l.val, by omega⟩ : S512x512.Idx))) (congrFun (harg5.read_unread x4) _)
  fin_cases a
  · show 0 + 1 * i.val = i.val; omega
  · show o + 1 * l.val = o + l.val; omega
theorem g_of (R : Fin 2048) : gvec (harg5.unread x4) (ix2 R 0) = (B.G R : EReal) := by
  obtain ⟨g, hg, hG⟩ := H.g
  rw [hG, gvec]
  refine gt41 _ _ _ _ g (fun i l => ?_) (fun i l => ?_) (fun i l => ?_) (fun i l => ?_) R
  · rw [cols5 H (by omega), hg, show (0 + l.val) / 128 = 0 by omega]
  · rw [cols5 H (by omega), hg, show (128 + l.val) / 128 = 1 by omega]
  · rw [cols5 H (by omega), hg, show (256 + l.val) / 128 = 2 by omega]
  · rw [cols5 H (by omega), hg, show (384 + l.val) / 128 = 3 by omega]

variable (h7 : ∀ s c, x7 (ix2 s c) = (A7 s c : EReal)) (h8 : ∀ s c, x8 (ix2 s c) = (A8 s c : EReal))
include h7 h8

/-- The sums over every key the block looks at. -/
theorem all_tiles :
    Inv B A7 A8 0 (S (F := Ideal) c (grid0.coords t) arg1 harg1 arg2 harg2 arg3 harg3 arg4 harg4 arg5 harg5 arg6 harg6 arg7 harg7 arg8 harg8 arg9 harg9 x0 x1 x2 x3 x4 x7 x8 (k0_t1_loop (grid0.coords t)).trips).1.1 (S (F := Ideal) c (grid0.coords t) arg1 harg1 arg2 harg2 arg3 harg3 arg4 harg4 arg5 harg5 arg6 harg6 arg7 harg7 arg8 harg8 arg9 harg9 x0 x1 x2 x3 x4 x7 x8 (k0_t1_loop (grid0.coords t)).trips).1.2
      (arg9.view.read (Elt Ideal) (arg9.view.writes (Elt Ideal) arg9.view.junk ((S (F := Ideal) c (grid0.coords t) arg1 harg1 arg2 harg2 arg3 harg3 arg4 harg4 arg5 harg5 arg6 harg6 arg7 harg7 arg8 harg8 arg9 harg9 x0 x1 x2 x3 x4 x7 x8 (k0_t1_loop (grid0.coords t)).trips).2.2.2 ++ (l9b (qv x0) (dvec (rd4 (harg4.unread x3))) (gvec (harg5.unread x4)) (tl1 (grid0.coords t) (harg2.unread x1)) (tl1 (grid0.coords t) (harg3.unread x2)) (tl0 (grid0.coords t) (harg2.unread x1)) (tl0 (grid0.coords t) (harg3.unread x2)) arg9))))
      (arg7.view.read (Elt Ideal) (arg7.view.writes (Elt Ideal) (harg7.unread x7) ((S (F := Ideal) c (grid0.coords t) arg1 harg1 arg2 harg2 arg3 harg3 arg4 harg4 arg5 harg5 arg6 harg6 arg7 harg7 arg8 harg8 arg9 harg9 x0 x1 x2 x3 x4 x7 x8 (k0_t1_loop (grid0.coords t)).trips).2.1 ++ (l7b (grid0.coords t) (qv x0) (dvec (rd4 (harg4.unread x3))) (gvec (harg5.unread x4)) (tl1 (grid0.coords t) (harg2.unread x1)) (tl1 (grid0.coords t) (harg3.unread x2)) (tl0 (grid0.coords t) (harg2.unread x1)) (tl0 (grid0.coords t) (harg3.unread x2)) (harg7.unread x7)))))
      (arg8.view.read (Elt Ideal) (arg8.view.writes (Elt Ideal) (harg8.unread x8) ((S (F := Ideal) c (grid0.coords t) arg1 harg1 arg2 harg2 arg3 harg3 arg4 harg4 arg5 harg5 arg6 harg6 arg7 harg7 arg8 harg8 arg9 harg9 x0 x1 x2 x3 x4 x7 x8 (k0_t1_loop (grid0.coords t)).trips).2.2.1 ++ (l8b (grid0.coords t) (qv x0) (dvec (rd4 (harg4.unread x3))) (tl1 (grid0.coords t) (harg2.unread x1)) (tl0 (grid0.coords t) (harg2.unread x1)) (harg8.unread x8))))) := by
  have hK := fun s c => (congrFun (harg2.read_unread x1) (ix2 s c)).trans (H.k s c)
  have hV := fun s c => (congrFun (harg3.read_unread x2) (ix2 s c)).trans (H.v s c)
  have I := two_tiles arg9 (arg2 := arg2) (arg3 := arg3) (arg7 := arg7) (arg8 := arg8) H.b hK hV (q_of H) (d_of (harg4 := harg4) H) (g_of (harg5 := harg5) H)
    (fun s c => (congrFun (harg7.read_unread x7) (ix2 s c)).trans (h7 s c)) (fun s c => (congrFun (harg8.read_unread x8) (ix2 s c)).trans (h8 s c))
  have J := loop (t := t) Variants.none c none arg1 harg1 arg2 harg2 arg3 harg3 arg4 harg4 arg5 harg5 arg6 harg6 arg7 harg7 arg8 harg8 arg9 harg9 (BitVec.ofNat 32 ((grid0.coords t) 0).val) _ _ _
    (ck1 (qv x0) (tl1 (grid0.coords t) (harg2.unread x1))) (cg1 (qv x0) (dvec (rd4 (harg4.unread x3))) (tl1 (grid0.coords t) (harg2.unread x1)) (tl1 (grid0.coords t) (harg3.unread x2)))
    (kv0 (qv x0) (tl0 (grid0.coords t) (harg2.unread x1))) (gv0 (qv x0) (dvec (rd4 (harg4.unread x3))) (tl0 (grid0.coords t) (harg2.unread x1)) (tl0 (grid0.coords t) (harg3.unread x2)) (ck1 (qv x0) (tl1 (grid0.coords t) (harg2.unread x1))))
    (Scalar.muli (BitVec.ofNat 32 ((grid0.coords t) 0).val) 2#32)
    (harg2.unread x1) (harg3.unread x2) H.b hK hV (q_of H) (d_of (harg4 := harg4) H) (g_of (harg5 := harg5) H) _ _ _ _ I _ le_rfl
  rw [show 512 * t.val - 256 * (k0_t1_loop (grid0.coords t)).trips = 0 by rw [trips_eq]; omega] at J
  simp only [View.writes_append]
  exact J

theorem keys7 (s : Fin 4096) (k : Fin 256) : arg7.view.read (Elt Ideal) (arg7.view.writes (Elt Ideal) (harg7.unread x7) (bodyRun c (grid0.coords t) arg1 harg1 arg2 harg2 arg3 harg3 arg4 harg4 arg5 harg5 arg6 harg6 arg7 harg7 arg8 harg8 arg9 harg9 x0 x1 x2 x3 x4 x7 x8).2.1) (ix2 s k)
    = ((A7 s k + if s.val < B.n then ∑ R, B.dd R s.val * B.Q R k else 0 : ℝ) : EReal) := by
  rw [pieces7, no_rest, show ∀ L, (T c (grid0.coords t) arg1 harg1 arg2 harg2 arg3 harg3 arg4 harg4 arg5 harg5 arg6 harg6 arg7 harg7 arg8 harg8 arg9 harg9 x0 x1 x2 x3 x4 x7 x8 0).2.1 ++ L = L from fun _ => rfl, (all_tiles H h7 h8).dk]
  simp only [Nat.zero_le, true_and]
theorem keys8 (s : Fin 4096) (k : Fin 256) : arg8.view.read (Elt Ideal) (arg8.view.writes (Elt Ideal) (harg8.unread x8) (bodyRun c (grid0.coords t) arg1 harg1 arg2 harg2 arg3 harg3 arg4 harg4 arg5 harg5 arg6 harg6 arg7 harg7 arg8 harg8 arg9 harg9 x0 x1 x2 x3 x4 x7 x8).2.2.1) (ix2 s k)
    = ((A8 s k + if s.val < B.n then ∑ R, B.ww R s.val * B.D R k else 0 : ℝ) : EReal) := by
  rw [pieces8, no_rest, show ∀ L, (T c (grid0.coords t) arg1 harg1 arg2 harg2 arg3 harg3 arg4 harg4 arg5 harg5 arg6 harg6 arg7 harg7 arg8 harg8 arg9 harg9 x0 x1 x2 x3 x4 x7 x8 0).2.2.1 ++ L = L from fun _ => rfl, (all_tiles H h7 h8).dv]
  simp only [Nat.zero_le, true_and]
theorem query6 (i : Fin 512) (k : Fin 256) : arg6.view.read (Elt Ideal) (arg6.view.writes (Elt Ideal) arg6.view.junk (bodyRun c (grid0.coords t) arg1 harg1 arg2 harg2 arg3 harg3 arg4 harg4 arg5 harg5 arg6 harg6 arg7 harg7 arg8 harg8 arg9 harg9 x0 x1 x2 x3 x4 x7 x8).1) (ix2 i k)
    = (((∑ s ∈ Finset.Ico 0 B.n, B.dd ⟨512 * (k.val / 64) + i.val, by omega⟩ s * B.K s k) * (1 / 8) : ℝ) : EReal) := by
  rw [pieces6, View.read_writes_full, out6, fin9, no_rest, show ∀ L, (T c (grid0.coords t) arg1 harg1 arg2 harg2 arg3 harg3 arg4 harg4 arg5 harg5 arg6 harg6 arg7 harg7 arg8 harg8 arg9 harg9 x0 x1 x2 x3 x4 x7 x8 0).2.2.2 ++ L = L from fun _ => rfl, rd9]
  refine (unstack _ i k).trans ?_
  rw [EReal.coe_mul, ← (all_tiles (c := c) (arg6 := arg6) (harg1 := harg1) (harg2 := harg2) (harg3 := harg3) (harg4 := harg4) (harg5 := harg5) (harg6 := harg6) (harg7 := harg7) (harg8 := harg8) (harg9 := harg9) H h7 h8).acc]
  exact congrArg (· * _) (congrFun (View.readAt_full ..) _)
end block

end Cert.SbbStep

end
-- ==== Proof.SbHeads.lean ====
module

public import proofs.«01_k».proof.Proof.SbReal

@[expose] public section

noncomputable section

/- The four heads of stick-breaking attention over the reals, and the gradients of their inputs.
   Row `t` of `p` holds the queries in columns 2304 to 2559, the keys in 2560 to 2815, the values in 2816 to 3071;
   `d` is the cotangent of the output. -/
namespace Cert.Sb

open Idealize.ShloMosaic Cert.Reals

/-! ## How far the keys are counted does not matter past the query -/

section past
variable {t n n' : ℕ} (Z P : ℕ → ℝ) (g : ℝ)

theorem keep_zero {s : ℕ} (h : t ≤ s) : Keep t Z s = 0 := if_neg (by omega)
theorem wt_zero {s : ℕ} (h : t ≤ s) : Wt t n Z s = 0 := if_neg (by omega)
theorem gw_zero {s : ℕ} (h : t ≤ s) : Gw t n Z P s = 0 := by rw [Gw, wt_zero Z h, zero_mul]
theorem dz_zero {s : ℕ} (h : t ≤ s) : Dz t n Z P g s = 0 := if_neg (by omega)

theorem sum_grow (f : ℕ → ℝ) (a : ℕ) (hf : ∀ s, t ≤ s → f s = 0) (h : t ≤ n) (h' : n ≤ n') : ∑ s ∈ Finset.Ico a n, f s = ∑ s ∈ Finset.Ico a n', f s :=
  Finset.sum_subset (Finset.Ico_subset_Ico_right h') fun s hs hn => hf s (by rw [Finset.mem_Ico] at hs hn; omega)

theorem wt_grow (h : t ≤ n) (h' : n ≤ n') (s : ℕ) : Wt t n Z s = Wt t n' Z s := by
  unfold Wt; rw [sum_grow (Keep t Z) (s + 1) (fun _ => keep_zero Z) h h']

theorem gw_grow (h : t ≤ n) (h' : n ≤ n') (s : ℕ) : Gw t n Z P s = Gw t n' Z P s := by
  unfold Gw; rw [wt_grow Z h h']

theorem dz_grow (h : t ≤ n) (h' : n ≤ n') (s : ℕ) : Dz t n Z P g s = Dz t n' Z P g s := by
  unfold Dz; rw [Finset.sum_congr rfl fun j _ => gw_grow Z P h h' j, sum_grow (Gw t n' Z P) s (fun _ => gw_zero Z P) h h', gw_grow Z P h h']
end past

/-- `log σ(-x)`. -/
theorem lb_neg (x : ℝ) : lb (-x) = lb x - x := by
  have h : min (-x) 0 = min x 0 - x := by rcases le_total x 0 with h | h <;> simp [h]
  rw [lb, lb, h, abs_neg]; ring

/-! ## The heads -/

section heads
variable (p d : ℕ → ℕ → ℝ) (h t : ℕ)

def score (s : ℕ) : ℝ := (∑ e : Fin 64, p t (2304 + 64 * h + e.val) * p s (2560 + 64 * h + e.val)) * (1 / 8)
/-- The cotangent of the weight of key `s`. -/
def cot (s : ℕ) : ℝ := ∑ e : Fin 64, d t (64 * h + e.val) * p s (2816 + 64 * h + e.val)
def weight (s : ℕ) : ℝ := Wt t 4096 (score p h t) s
def out (e : ℕ) : ℝ := ∑ s ∈ Finset.range 4096, weight p h t s * p s (2816 + 64 * h + e)
/-- The output times its cotangent. -/
def tot : ℝ := ∑ e : Fin 64, d t (64 * h + e.val) * out p h t e.val
/-- The cotangent of the score of key `s`. -/
def dscore (s : ℕ) : ℝ := Dz t 4096 (score p h t) (cot p d h t) (tot p d h t) s

def dquery (e : ℕ) : ℝ := (∑ s ∈ Finset.range 4096, dscore p d h t s * p s (2560 + 64 * h + e)) * (1 / 8)
def dkey (s e : ℕ) : ℝ := ∑ t ∈ Finset.range 4096, dscore p d h t s * (p t (2304 + 64 * h + e) * (1 / 8))
def dvalue (s e : ℕ) : ℝ := ∑ t ∈ Finset.range 4096, weight p h t s * d t (64 * h + e)

/-- The output times its cotangent is the sum of the weights times theirs. -/
theorem tot_eq : tot p d h t = ∑ s ∈ Finset.range 4096, Gw t 4096 (score p h t) (cot p d h t) s := by
  simp only [tot, out, Gw, cot, Finset.mul_sum]
  rw [Finset.sum_comm]
  exact Finset.sum_congr rfl fun s _ => Finset.sum_congr rfl fun e _ => by rw [weight]; ring

/-- What is left of the total from key `s` on down is what the keys before it got. -/
theorem tot_sub {s : ℕ} (hs : s ≤ 4096) : tot p d h t - ∑ j ∈ Finset.Ico s 4096, Gw t 4096 (score p h t) (cot p d h t) j
    = ∑ j ∈ Finset.range s, Gw t 4096 (score p h t) (cot p d h t) j := by
  rw [tot_eq, ← Finset.sum_range_add_sum_Ico _ hs, add_sub_cancel_right]
end heads

/-! ## Sums over a head's columns and over a head's rows -/

theorem sum_part {M : Type} [AddCommMonoid M] (n m h : ℕ) (hm : 0 < m) (hn : m * (h + 1) ≤ n) (f : ℕ → M) : (∑ c : Fin n, if c.val / m = h then f c.val else 0) = ∑ e : Fin m, f (m * h + e.val) := by
  rw [Fin.sum_univ_eq_sum_range (fun c => if c / m = h then f c else 0) n, Fin.sum_univ_eq_sum_range (fun e => f (m * h + e)) m, ← Finset.sum_filter,
    show Finset.filter (fun c => c / m = h) (Finset.range n) = Finset.Ico (m * h) (m * (h + 1)) from ?_, Finset.sum_Ico_eq_sum_range,
    show m * (h + 1) - m * h = m by rw [Nat.mul_succ, Nat.add_sub_cancel_left]]
  ext c
  rw [Finset.mem_filter, Finset.mem_range, Finset.mem_Ico, Nat.div_eq_iff hm]
  rw [Nat.mul_succ] at *
  rw [Nat.mul_comm h m]
  omega

/-- Eight blocks of 512 rows are all rows. -/
theorem sum_blocks (f : ℕ → ℝ) (n : ℕ) : ∑ b ∈ Finset.range n, ∑ i : Fin 512, f (512 * b + i.val) = ∑ t ∈ Finset.range (512 * n), f t := by
  induction n with
  | zero => rfl
  | succ n ih => rw [Finset.sum_range_succ, ih, Nat.mul_succ, Finset.sum_range_add, Fin.sum_univ_eq_sum_range (fun i => f (512 * n + i)) 512]

end Cert.Sb

end
-- ==== Proof.SbbKernel.lean ====
module

public import proofs.«01_k».proof.Proof.SbbStep
public import proofs.«01_k».proof.Proof.SbHeads
public import Idealize.ShloMosaic.Lib.Pipeline.ValueKit

@[expose] public section

set_option maxRecDepth 16384

noncomputable section

/- The stick-breaking backward call: what it leaves in its three results, for real arguments. -/
namespace Cert.SbbKernel

open Idealize.ShloMosaic Idealize.ShloMosaic.TcCoe Idealize.SL.Sem
open Idealize.ShloMosaic.Pipeline (Dat)
open Cert.Reals Cert.Sb Cert.SbbTile Cert.SbbModel Cert.SbbStep Cert.KSbbIdeal Cert.KSbbIdeal.Gen Cert.KSbbIdeal.Hand

/-! ## A block of queries -/

section block
variable (p d : ℕ → ℕ → ℝ) (b : ℕ)

/-- Block `b`: the stacked rows of head `h` hold that head's columns alone. -/
def blockOf : Block where
  Q R c := if c.val / 64 = R.val / 512 then p (512 * b + R.val % 512) (2304 + c.val) * (1 / 8) else 0
  D R c := if c.val / 64 = R.val / 512 then d (512 * b + R.val % 512) c.val else 0
  K s c := p s (2560 + c.val)
  V s c := p s (2816 + c.val)
  G R := tot p d (R.val / 512) (512 * b + R.val % 512)
  b := b

variable (R : Fin 2048)

theorem Z_eq : (blockOf p d b).Z R = score p (R.val / 512) (512 * b + R.val % 512) := funext fun s => by
  have hR : R.val / 512 < 4 := by omega
  show (∑ c : Fin 256, (if c.val / 64 = R.val / 512 then _ else 0) * p s (2560 + c.val)) = _
  simp only [ite_mul, zero_mul]
  rw [sum_part 256 64 (R.val / 512) (by omega) (by omega) (fun c => p (512 * b + R.val % 512) (2304 + c) * (1 / 8) * p s (2560 + c)), score, Finset.sum_mul]
  exact Finset.sum_congr rfl fun e _ => by rw [← Nat.add_assoc, ← Nat.add_assoc]; ring

theorem P_eq : (blockOf p d b).P R = cot p d (R.val / 512) (512 * b + R.val % 512) := funext fun s => by
  have hR : R.val / 512 < 4 := by omega
  show (∑ c : Fin 256, (if c.val / 64 = R.val / 512 then _ else 0) * p s (2816 + c.val)) = _
  simp only [ite_mul, zero_mul]
  rw [sum_part 256 64 (R.val / 512) (by omega) (by omega) (fun c => d (512 * b + R.val % 512) c * p s (2816 + c)), cot]
  exact Finset.sum_congr rfl fun e _ => by rw [← Nat.add_assoc]

variable (hb : b < 8)
include hb

theorem ww_eq (s : ℕ) : (blockOf p d b).ww R s = weight p (R.val / 512) (512 * b + R.val % 512) s := by
  unfold Block.ww; rw [Z_eq]
  exact wt_grow _ (show 512 * b + R.val % 512 ≤ 512 * b + 512 by omega) (show 512 * b + 512 ≤ 4096 by omega) s

theorem dd_eq (s : ℕ) : (blockOf p d b).dd R s = dscore p d (R.val / 512) (512 * b + R.val % 512) s := by
  unfold Block.dd; rw [Z_eq, P_eq]
  exact dz_grow _ _ _ (show 512 * b + R.val % 512 ≤ 512 * b + 512 by omega) (show 512 * b + 512 ≤ 4096 by omega) s
omit hb

/-- A sum over the stacked rows in which only one head's rows count. -/
theorem sum_rows (h : ℕ) (hh : h < 4) (f : ℕ → ℕ → ℝ) :
    (∑ R : Fin 2048, if h = R.val / 512 then f (R.val / 512) (512 * b + R.val % 512) else 0) = ∑ i : Fin 512, f h (512 * b + i.val) := by
  have e := sum_part 2048 512 h (by omega) (by omega) fun R => f (R / 512) (512 * b + R % 512)
  simp only [eq_comm (a := h)]
  exact e.trans (Finset.sum_congr rfl fun i _ => by rw [show (512 * h + i.val) / 512 = h by omega, show (512 * h + i.val) % 512 = i.val by omega])

include hb
/-- What block `b` adds to the key's gradient, -/
theorem addK (s : Fin 4096) (k : Fin 256) : (if s.val < (blockOf p d b).n then ∑ R, (blockOf p d b).dd R s.val * (blockOf p d b).Q R k else 0)
    = ∑ i : Fin 512, dscore p d (k.val / 64) (512 * b + i.val) s.val * (p (512 * b + i.val) (2304 + k.val) * (1 / 8)) := by
  simp only [dd_eq p d b _ hb]
  rw [← sum_rows b (k.val / 64) (by omega) fun h t => dscore p d h t s.val * (p t (2304 + k.val) * (1 / 8))]
  split
  · exact Finset.sum_congr rfl fun R _ => mul_ite_zero ..
  · next hs =>
    refine (Finset.sum_eq_zero fun R _ => ?_).symm
    rw [dscore, dz_zero _ _ _ (by simp only [Block.n, blockOf] at hs; omega), zero_mul, ite_self]

/-- and to the value's. -/
theorem addV (s : Fin 4096) (k : Fin 256) : (if s.val < (blockOf p d b).n then ∑ R, (blockOf p d b).ww R s.val * (blockOf p d b).D R k else 0)
    = ∑ i : Fin 512, weight p (k.val / 64) (512 * b + i.val) s.val * d (512 * b + i.val) k.val := by
  simp only [ww_eq p d b _ hb]
  rw [← sum_rows b (k.val / 64) (by omega) fun h t => weight p h t s.val * d t k.val]
  split
  · exact Finset.sum_congr rfl fun R _ => mul_ite_zero ..
  · next hs =>
    refine (Finset.sum_eq_zero fun R _ => ?_).symm
    rw [weight, wt_zero _ (by simp only [Block.n, blockOf] at hs; omega), zero_mul, ite_self]

/-- The query's gradient. -/
theorem sumQ (i : Fin 512) (k : Fin 256) (hR : 512 * (k.val / 64) + i.val < 2048) :
    (∑ s ∈ Finset.Ico 0 (blockOf p d b).n, (blockOf p d b).dd ⟨512 * (k.val / 64) + i.val, hR⟩ s * (blockOf p d b).K s k) * (1 / 8)
      = dquery p d (k.val / 64) (512 * b + i.val) (k.val % 64) := by
  simp only [dd_eq p d b _ hb, dquery]
  have e1 : (512 * (k.val / 64) + i.val) / 512 = k.val / 64 := by omega
  have e2 : (512 * (k.val / 64) + i.val) % 512 = i.val := by omega
  simp only [e1, e2]
  rw [Finset.range_eq_Ico, sum_grow (t := 512 * b + i.val) (n := (blockOf p d b).n) (n' := 4096) _ 0 (fun s hs => by rw [dscore, dz_zero _ _ _ hs, zero_mul])
    (show 512 * b + i.val ≤ 512 * b + 512 by omega) (show 512 * b + 512 ≤ 4096 by omega)]
  congr 1
  exact Finset.sum_congr rfl fun s _ => by
    show _ * p s (2560 + k.val) = _
    rw [show 2560 + k.val = 2560 + 64 * (k.val / 64) + k.val % 64 by omega]
end block

/-! ## The points -/

variable (m : (ℓ : Loc nD τ sig) → Buf (Elt Ideal) ℓ)

/-- Where the windows' blocks stand. -/
theorem at0 : ∀ t : Fin cfg0.N, win0_0.index t = ![t.val, 9] ∧ win0_1.index t = ![0, 10] ∧ win0_2.index t = ![0, 11] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, _)

/-- The arrays the call reads hold real numbers, the last one the heads' sums of cotangent times output. -/
structure Holds (c : Dev nD) (p d : ℕ → ℕ → ℝ) : Prop where
  proj : ∀ (i : Fin 4096) (k : Fin 5120), (V m c main_v36 : S4096x5120.Idx → EReal) (ix2 i k) = (p i.val k.val : EReal)
  cot : ∀ (i : Fin 4096) (k : Fin 256), (V m c main_arg1 : S4096x256.Idx → EReal) (ix2 i k) = (d i.val k.val : EReal)
  sums : ∀ (i : Fin 4096) (k : Fin 512), (V m c main_v35 : S4096x512.Idx → EReal) (ix2 i k) = (tot p d (k.val / 128) i.val : EReal)

variable {m} {c : Dev nD} {p d : ℕ → ℕ → ℝ} (A : Holds m c p d)
include A

theorem blk0 (t : Fin cfg0.N) (i : Fin 512) (k : Fin 256) : (iblk m c 0 t : Vec Ideal S512x256 .bf16) (ix2 i k) = (p (512 * t.val + i.val) (2304 + k.val) : EReal) := by
  have e := at0 t
  have ht : t.val < 8 := t.isLt
  refine Eq.trans ?_ (A.proj ⟨512 * t.val + i.val, by omega⟩ ⟨2304 + k.val, by omega⟩)
  blk_simp [iblk]
  refine congrArg _ ?_; blk_ext [e]
theorem blk1 (t : Fin cfg0.N) (i : Fin 4096) (k : Fin 256) : (iblk m c 1 t : Vec Ideal S4096x256 .bf16) (ix2 i k) = (p i.val (2560 + k.val) : EReal) := by
  have e := at0 t
  have ht : t.val < 8 := t.isLt
  refine Eq.trans ?_ (A.proj i ⟨2560 + k.val, by omega⟩)
  blk_simp [iblk]
  refine congrArg _ ?_; blk_ext [e]
theorem blk2 (t : Fin cfg0.N) (i : Fin 4096) (k : Fin 256) : (iblk m c 2 t : Vec Ideal S4096x256 .bf16) (ix2 i k) = (p i.val (2816 + k.val) : EReal) := by
  have e := at0 t
  have ht : t.val < 8 := t.isLt
  refine Eq.trans ?_ (A.proj i ⟨2816 + k.val, by omega⟩)
  blk_simp [iblk]
  refine congrArg _ ?_; blk_ext [e]
theorem blk3 (t : Fin cfg0.N) (i : Fin 512) (k : Fin 256) : (iblk m c 3 t : Vec Ideal S512x256 .f32) (ix2 i k) = (d (512 * t.val + i.val) k.val : EReal) := by
  have e := at0 t
  have ht : t.val < 8 := t.isLt
  refine Eq.trans ?_ (A.cot ⟨512 * t.val + i.val, by omega⟩ k)
  blk_simp [iblk]
  refine congrArg _ ?_; blk_ext [e]
theorem blk4 (t : Fin cfg0.N) (i : Fin 512) (k : Fin 512) : (iblk m c 4 t : Vec Ideal S512x512 .f32) (ix2 i k) = (tot p d (k.val / 128) (512 * t.val + i.val) : EReal) := by
  have e := at0 t
  have ht : t.val < 8 := t.isLt
  refine Eq.trans ?_ (A.sums ⟨512 * t.val + i.val, by omega⟩ k)
  blk_simp [iblk]
  refine congrArg _ ?_; blk_ext [e]

theorem feeds (t : Fin cfg0.N) : Feeds t (blockOf p d t.val) (iblk m c 0 t) (iblk m c 1 t) (iblk m c 2 t) (iblk m c 3 t) (iblk m c 4 t) where
  b := rfl
  q R k := by rw [blk0 A, ← EReal.coe_mul, ← EReal.coe_zero, ← apply_ite]; rfl
  k := blk1 A t
  v := blk2 A t
  d R k := by rw [blk3 A, ← EReal.coe_zero, ← apply_ite]; rfl
  g := ⟨fun h i => tot p d h (512 * t.val + i.val), blk4 A t, fun R => rfl⟩

/-- The accumulators' sums after the first `n` blocks. -/
abbrev keySum (p d : ℕ → ℕ → ℝ) (n : ℕ) (s : Fin 4096) (k : Fin 256) : ℝ :=
  ∑ t ∈ Finset.range (512 * n), dscore p d (k.val / 64) t s.val * (p t (2304 + k.val) * (1 / 8))
abbrev valueSum (p d : ℕ → ℕ → ℝ) (n : ℕ) (s : Fin 4096) (k : Fin 256) : ℝ :=
  ∑ t ∈ Finset.range (512 * n), weight p (k.val / 64) t s.val * d t k.val

/-- A point adds its block's sums. -/
theorem adds (t : Fin cfg0.N) (h7 : ∀ s k, (accAt m c t.val t.isLt).1 (ix2 s k) = (keySum p d t.val s k : EReal))
    (h8 : ∀ s k, (accAt m c t.val t.isLt).2 (ix2 s k) = (valueSum p d t.val s k : EReal)) (s : Fin 4096) (k : Fin 256) :
    (outsAt m c t.val t.isLt).2.1 (ix2 s k) = (keySum p d (t.val + 1) s k : EReal)
      ∧ (outsAt m c t.val t.isLt).2.2 (ix2 s k) = (valueSum p d (t.val + 1) s k : EReal) := by
  rw [outsAt_eq]
  refine ⟨(keys7 (feeds A t) h7 h8 s k).trans (congrArg _ ?_), (keys8 (feeds A t) h7 h8 s k).trans (congrArg _ ?_)⟩
  · rw [addK p d t.val t.isLt]
    simp only [keySum, Nat.mul_succ, Finset.sum_range_add]
    rw [Fin.sum_univ_eq_sum_range (fun i => dscore p d (k.val / 64) (512 * t.val + i) s.val * (p (512 * t.val + i) (2304 + k.val) * (1 / 8))) 512]
  · rw [addV p d t.val t.isLt]
    simp only [valueSum, Nat.mul_succ, Finset.sum_range_add]
    rw [Fin.sum_univ_eq_sum_range (fun i => weight p (k.val / 64) (512 * t.val + i) s.val * d (512 * t.val + i) k.val) 512]

omit A in
theorem zero18 (s : Fin 4096) (k : Fin 256) : k0_pay18 (F := Ideal) (ix2 s k) = ((0 : ℝ) : EReal) := by
  pointwise! [k0_pay18]
omit A in
theorem zero19 (s : Fin 4096) (k : Fin 256) : k0_pay19 (F := Ideal) (ix2 s k) = ((0 : ℝ) : EReal) := by
  pointwise! [k0_pay19]

/-- What the key-side accumulators hold when point `n` begins. -/
theorem accs (n : ℕ) (hn : n < cfg0.N) : (∀ s k, (accAt m c n hn).1 (ix2 s k) = (keySum p d n s k : EReal))
      ∧ ∀ s k, (accAt m c n hn).2 (ix2 s k) = (valueSum p d n s k : EReal) := by
  induction n with
  | zero =>
    exact ⟨fun s k => (zero18 s k).trans (congrArg _ (Finset.sum_range_zero _).symm), fun s k => (zero19 s k).trans (congrArg _ (Finset.sum_range_zero _).symm)⟩
  | succ n ih =>
    have ⟨h7, h8⟩ := ih (Nat.lt_of_succ_lt hn)
    have h := adds A ⟨n, Nat.lt_of_succ_lt hn⟩ h7 h8
    exact ⟨fun s k => (h s k).1, fun s k => (h s k).2⟩

theorem outQ (t : Fin cfg0.N) (i : Fin 512) (k : Fin 256) :
    (outsAt m c t.val t.isLt).1 (ix2 i k) = (dquery p d (k.val / 64) (512 * t.val + i.val) (k.val % 64) : EReal) := by
  rw [outsAt_eq]
  have ⟨h7, h8⟩ := accs A t.val t.isLt
  exact (query6 (feeds A t) h7 h8 i k).trans (congrArg _ (sumQ p d t.val t.isLt i k (by omega)))

omit A in
/-- After the last point the sums are over all queries. -/
theorem keys_all (s : Fin 4096) (k : Fin 256) : keySum p d 8 s k = dkey p d (k.val / 64) s.val (k.val % 64) :=
  Finset.sum_congr rfl fun t _ => by rw [show 2304 + k.val = 2304 + 64 * (k.val / 64) + k.val % 64 by omega]
omit A in
theorem values_all (s : Fin 4096) (k : Fin 256) : valueSum p d 8 s k = dvalue p d (k.val / 64) s.val (k.val % 64) :=
  Finset.sum_congr rfl fun t _ => by rw [show 64 * (k.val / 64) + k.val % 64 = k.val by omega]

/-! ## The three results -/

theorem final5 : (dats m 0 c).arrAt 5 cfg0.N = fun i => (dquery p d ((i 1).val / 64) (i 0).val ((i 1).val % 64) : EReal) := by
  refine (dats m 0 c).arrAt_eq_of_covers 5 _ (by decide +kernel) fun t hf y => ?_
  have ⟨_, _, _, _, _, e5, _⟩ := at0 t
  blk_simp
  rw [after5]
  refine (congrArg _ (eq_ix2 y)).trans ((outQ A t (y 0) (y 1)).trans ?_)
  blk_simp [e5]
  rw [Nat.mul_comm 512]

omit A in
theorem t_last : (7 : ℕ) < cfg0.N := by decide +kernel

theorem final6 : (dats m 0 c).arrAt 6 cfg0.N = fun i => (dkey p d ((i 1).val / 64) (i 0).val ((i 1).val % 64) : EReal) := by
  refine (dats m 0 c).arrAt_eq_of_after_last 6 ⟨7, t_last⟩ (by decide +kernel) _ fun j => ?_
  have ⟨_, _, _, _, _, _, e6, _⟩ := at0 ⟨7, t_last⟩
  have ⟨h7, h8⟩ := accs A 7 t_last
  rw [after6]
  refine (congrArg _ (eq_ix2 j)).trans ((adds A ⟨7, t_last⟩ h7 h8 (j 0) (j 1)).1.trans ?_)
  refine (congrArg _ (keys_all (j 0) (j 1))).trans ?_
  blk_simp [e6]

theorem final7 : (dats m 0 c).arrAt 7 cfg0.N = fun i => (dvalue p d ((i 1).val / 64) (i 0).val ((i 1).val % 64) : EReal) := by
  refine (dats m 0 c).arrAt_eq_of_after_last 7 ⟨7, t_last⟩ (by decide +kernel) _ fun j => ?_
  have ⟨_, _, _, _, _, _, _, e7⟩ := at0 ⟨7, t_last⟩
  have ⟨h7, h8⟩ := accs A 7 t_last
  rw [after7]
  refine (congrArg _ (eq_ix2 j)).trans ((adds A ⟨7, t_last⟩ h7 h8 (j 0) (j 1)).2.trans ?_)
  refine (congrArg _ (values_all (j 0) (j 1))).trans ?_
  blk_simp [e7]

end Cert.SbbKernel

end
-- ==== Proof.SbSum.lean ====
module

public import Idealize.ShloMosaic.Lib.Pointwise
public import proofs.«01_k».proof.Proof.SbReal

@[expose] public section

noncomputable section

/- Running sums along the last axis of a tensor, entry by entry. -/
namespace Cert.Sb

open Idealize.ShloMosaic Cert.Reals

theorem foldl_sum {ι : Type} (l : List ι) (f : ι → EReal) (v : EReal) : l.foldl (fun r i => r + f i) v = v + (l.map f).sum := by
  induction l generalizing v with
  | nil => simp
  | cons i l ih => rw [List.foldl_cons, ih, List.map_cons, List.sum_cons, add_assoc]

/-- A window running along the last axis only, padded by `lo` below, over real entries: each position of the window
    that meets the operand gives its entry. -/
theorem window_last {A N M : ℕ} (lo hi : ℕ) (x : (⟨3, ![A, N, M]⟩ : Shape).Idx → EReal) (f : ℕ → ℝ) (a : Fin A) (n : Fin N) (j : Fin M)
    (hx : ∀ k : Fin M, x (ix3 a n k) = (f k.val : EReal))
    (h : (⟨3, ![A, N, M]⟩ : Shape).ReduceWindows (![1, 1, M] : Fin 3 → ℕ) ![1, 1, 1] ![0, 0, lo] ![0, 0, hi] ⟨3, ![A, N, M]⟩) :
    Ideal.hostReduceWindowAdd ![1, 1, M] ![1, 1, 1] ![0, 0, lo] ![0, 0, hi] h x 0 (ix3 a n j)
      = ((∑ w ∈ Finset.range M, if lo ≤ j.val + w ∧ j.val + w - lo < M then f (j.val + w - lo) else 0 : ℝ) : EReal) := by
  unfold Ideal.hostReduceWindowAdd Host.reduceWindow
  dsimp only
  rw [foldl_sum, ← Fin.sum_univ_def, zero_add, ← Fin.sum_univ_eq_sum_range (fun w => if lo ≤ j.val + w ∧ j.val + w - lo < M then f (j.val + w - lo) else 0) M, coe_sum]
  let G : (⟨3, ![1, 1, M]⟩ : Shape).Idx → EReal := fun p =>
    ((if lo ≤ j.val + (p 2).val ∧ j.val + (p 2).val - lo < M then f (j.val + (p 2).val - lo) else 0 : ℝ) : EReal)
  refine (Finset.sum_congr rfl fun i _ => ?_).trans ((Equiv.sum_comp (⟨3, ![1, 1, M]⟩ : Shape).rowMajor.symm G).trans ((sum_idx3 G).trans (by
    simp only [Fin.sum_univ_one]; rfl)))
  let p := (⟨3, ![1, 1, M]⟩ : Shape).rowMajor.symm i
  have p0 : (p 0).val = 0 := Nat.lt_one_iff.mp (p 0).isLt
  have p1 : (p 1).val = 0 := Nat.lt_one_iff.mp (p 1).isLt
  split
  · next hin =>
    have h2 := hin 2
    change lo ≤ j.val * 1 + (p 2).val ∧ j.val * 1 + (p 2).val - lo < M at h2
    rw [Nat.mul_one] at h2
    refine Eq.trans (congrArg x (funext fun b => Fin.ext ?_)) ((hx ⟨j.val + (p 2).val - lo, h2.2⟩).trans (congrArg _ (if_pos h2).symm))
    match b with
    | ⟨0, _⟩ => show a.val * 1 + (p 0).val - 0 = a.val; omega
    | ⟨1, _⟩ => show n.val * 1 + (p 1).val - 0 = n.val; omega
    | ⟨2, _⟩ => show j.val * 1 + (p 2).val - lo = j.val + (p 2).val - lo; omega
  · next hin =>
    refine EReal.coe_zero.symm.trans (congrArg _ (if_neg fun hle => hin fun b => ?_).symm)
    change lo ≤ j.val + (p 2).val ∧ j.val + (p 2).val - lo < M at hle
    match b with
    | ⟨0, _⟩ => show 0 ≤ a.val * 1 + (p 0).val ∧ a.val * 1 + (p 0).val - 0 < A; have := a.isLt; omega
    | ⟨1, _⟩ => show 0 ≤ n.val * 1 + (p 1).val ∧ n.val * 1 + (p 1).val - 0 < N; have := n.isLt; omega
    | ⟨2, _⟩ => show lo ≤ j.val * 1 + (p 2).val ∧ j.val * 1 + (p 2).val - lo < M; omega

/-- The sum of the entries from `j` on. -/
theorem window_from {M : ℕ} (f : ℕ → ℝ) (j : Fin M) :
    (∑ w ∈ Finset.range M, if 0 ≤ j.val + w ∧ j.val + w - 0 < M then f (j.val + w - 0) else 0) = ∑ s ∈ Finset.Ico j.val M, f s := by
  have hj := j.isLt
  rw [← Finset.sum_range_add_sum_Ico _ (Nat.sub_le M j.val), Finset.sum_eq_zero (s := Finset.Ico _ _) fun i hi => if_neg (by have := Finset.mem_Ico.mp hi; omega),
    add_zero, Finset.sum_Ico_eq_sum_range]
  exact Finset.sum_congr rfl fun i hi => if_pos (by have := Finset.mem_range.mp hi; omega)

/-- The sum of the entries up to `j`. -/
theorem window_upto {M L : ℕ} (hL : L + 1 = M) (f : ℕ → ℝ) (j : Fin M) :
    (∑ w ∈ Finset.range M, if L ≤ j.val + w ∧ j.val + w - L < M then f (j.val + w - L) else 0) = ∑ s ∈ Finset.range (j.val + 1), f s := by
  have hj := j.isLt
  rw [← Finset.sum_range_add_sum_Ico _ (show L - j.val ≤ M by omega), Finset.sum_eq_zero (s := Finset.range _) fun i hi => if_neg (by have := Finset.mem_range.mp hi; omega),
    zero_add, Finset.sum_Ico_eq_sum_range, show M - (L - j.val) = j.val + 1 by omega]
  exact Finset.sum_congr rfl fun i hi => by
    have := Finset.mem_range.mp hi
    rw [if_pos (by omega), show j.val + (L - j.val + i) - L = i by omega]

end Cert.Sb

end
-- ==== Proof.SbbRef.lean ====
module

public import proofs.«01_k».proof.Proof.Gen.RSbbIdeal.Run
public import proofs.«01_k».proof.Proof.Gen.RSbbIdeal.Read
public import proofs.«01_k».proof.Proof.SbHeads
public import proofs.«01_k».proof.Proof.SbSum
public import Idealize.ShloMosaic.Lib.WordCmp

@[expose] public section

set_option maxRecDepth 16384

noncomputable section

/- The reference of stick-breaking attention and of its gradient, entry by entry, for real arguments. -/
namespace Cert.SbbRef

open Idealize.ShloMosaic Idealize.ShloMosaic.TcCoe Idealize.SL.Sem
open Cert.Reals Cert.Sb Cert.RSbbIdeal Cert.RSbbIdeal.Gen Cert.RSbbIdeal.Read

variable (x : S4096x5120.Idx → EReal) (y : S4096x256.Idx → EReal) {p d : ℕ → ℕ → ℝ}

/-- The log of `1 + exp y`, as it is computed. -/
theorem soft_coe (z : ℝ) : max (z : EReal) 0 + Ideal.log1p (Ideal.exp (-FloatOps.absf (F := Ideal) (φ := .f32) (z : EReal))) = ((-lb (-z) : ℝ) : EReal) := by
  show max (z : EReal) 0 + Ideal.log (1 + Ideal.exp (-max (z : EReal) (-(z : EReal)))) = _
  rw [← EReal.coe_neg, max_coe, ← EReal.coe_zero, max_coe, ← EReal.coe_neg, Ideal.exp_coe, ← EReal.coe_one, ← EReal.coe_add, log_coe (by positivity), ← EReal.coe_add,
    lb, abs_neg, abs, neg_sub, sub_eq_add_neg, add_comm, ← max_neg_neg, neg_neg, neg_zero]

theorem not_top (z : ℝ) : ¬(z : EReal) = Ideal.ofBits .f32 0x7F800000#32 := by
  rw [show Ideal.ofBits .f32 0x7F800000#32 = ⊤ by simp [Ideal.ofBits, Ideal.ieee]]
  exact EReal.coe_ne_top z

theorem zero_word : Ideal.ofBits .f32 0x00000000#32 = ((0 : ℝ) : EReal) := by simp [Ideal.ofBits, Ideal.ieee]

theorem eighth : Ideal.ofBits .f32 0x3E000000#32 = ((1 / 8 : ℝ) : EReal) := by
  simp [Ideal.ofBits, Ideal.ieee, -EReal.coe_mul]; norm_num

theorem select_eq {α : Type} (c : Prop) [Decidable c] (a b : α) : Scalar.select (BitVec.ofBool (decide c)) a b = if c then a else b := by
  by_cases h : c <;> simp [h, Scalar.select]

theorem start3 (i : S_.Idx) : val_main_call3_v0 (F := Ideal) i = 0 := by
  pointwise! [val_main_call3_v0, val_main_call3_cst]
theorem start6 (i : S_.Idx) : val_main_call6_v0 (F := Ideal) i = 0 := by
  pointwise! [val_main_call6_v0, val_main_call6_cst]

section forward
variable (hx : ∀ (i : Fin 4096) (k : Fin 5120), x (ix2 i k) = (p i.val k.val : EReal)) (h : Fin 4) (t s : Fin 4096)
include hx

theorem q_apply (e : Fin 64) : val_main_v4 (F := Ideal) x (ix3 h t e) = (p t.val (2304 + 64 * h.val + e.val) : EReal) := by
  refine Eq.trans ?_ (hx t ⟨2304 + 64 * h.val + e.val, by omega⟩)
  pointwise! [val_main_v4, val_main_v3, val_main_v0]
theorem k_apply (e : Fin 64) : val_main_v6 (F := Ideal) x (ix3 h t e) = (p t.val (2560 + 64 * h.val + e.val) : EReal) := by
  refine Eq.trans ?_ (hx t ⟨2560 + 64 * h.val + e.val, by omega⟩)
  pointwise! [val_main_v6, val_main_v5, val_main_v1]
theorem v_apply (e : Fin 64) : val_main_v8 (F := Ideal) x (ix3 h t e) = (p t.val (2816 + 64 * h.val + e.val) : EReal) := by
  refine Eq.trans ?_ (hx t ⟨2816 + 64 * h.val + e.val, by omega⟩)
  pointwise! [val_main_v8, val_main_v7, val_main_v2]

theorem score_apply : val_main_v11 (F := Ideal) x (ix3 h t s) = (score p h.val t.val s.val : EReal) := by
  pointwise! [val_main_v11, val_main_v9, val_main_v10, val_main_cst]
  simp only [q_apply x hx, k_apply x hx, ← EReal.coe_mul, ← coe_sum]
  rw [eighth, ← EReal.coe_mul]
  rfl

theorem soft_apply : val_main_call0_v1_0 (F := Ideal) x (ix3 h t s) = ((-lb (score p h.val t.val s.val) : ℝ) : EReal) := by
  pointwise! [val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v0, val_main_call0_call0_cst]
  rw [score_apply x hx, if_neg (not_not.mpr rfl), ← EReal.coe_neg, soft_coe, neg_neg]

theorem soft_neg_apply : val_main_call1_v1_0 (F := Ideal) x (ix3 h t s) = ((score p h.val t.val s.val - lb (score p h.val t.val s.val) : ℝ) : EReal) := by
  pointwise! [val_main_call1_v1_0, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v0, val_main_v19, val_main_call1_call0_cst]
  rw [score_apply x hx, if_neg (not_not.mpr rfl), neg_neg, soft_coe, lb_neg, neg_sub]

/-- The log of the sigmoid of the score, and of its opposite, -/
theorem log_apply : val_main_v18_0 (F := Ideal) x (ix3 h t s) = (lb (score p h.val t.val s.val) : EReal) := by
  pointwise! [val_main_v18_0]
  rw [soft_apply x hx, ← EReal.coe_neg, neg_neg]
theorem log_neg_apply : val_main_v20_0 (F := Ideal) x (ix3 h t s) = ((lb (score p h.val t.val s.val) - score p h.val t.val s.val : ℝ) : EReal) := by
  pointwise! [val_main_v20_0]
  rw [soft_neg_apply x hx, ← EReal.coe_neg, neg_sub]

/-- and the sigmoids themselves, as the derivative of each log holds them. -/
theorem sig_neg_apply : val_main_v18_1 (F := Ideal) x (ix3 h t s) = (Real.exp (lb (score p h.val t.val s.val) - score p h.val t.val s.val) : EReal) := by
  pointwise! [val_main_v18_1, val_main_call0_call0_v13, val_main_call0_call0_v14, val_main_call0_call0_v15, val_main_call0_call0_v16, val_main_call0_call0_v18, val_main_call0_call0_v19, val_main_call0_call0_v20, val_main_call0_call0_v21, val_main_call0_call0_v17, val_main_call0_call0_cst_0, val_main_call0_call0_cst_1, val_main_call0_call0_cst_2, val_main_call0_call0_cst_3, val_main_call0_v0]
  rw [soft_apply x hx, score_apply x hx, ← EReal.coe_neg, if_neg (not_top _), if_neg (not_top _), ← EReal.coe_sub, Ideal.exp_coe, neg_sub_neg]
theorem sig_apply : val_main_v20_1 (F := Ideal) x (ix3 h t s) = (Real.exp (lb (score p h.val t.val s.val)) : EReal) := by
  pointwise! [val_main_v20_1, val_main_call1_call0_v13, val_main_call1_call0_v14, val_main_call1_call0_v15, val_main_call1_call0_v16, val_main_call1_call0_v18, val_main_call1_call0_v19, val_main_call1_call0_v20, val_main_call1_call0_v21, val_main_call1_call0_v17, val_main_call1_call0_cst_0, val_main_call1_call0_cst_1, val_main_call1_call0_cst_2, val_main_call1_call0_cst_3, val_main_call1_v0, val_main_v19]
  rw [soft_neg_apply x hx, score_apply x hx, neg_neg, if_neg (not_top _), if_neg (not_top _), ← EReal.coe_sub, Ideal.exp_coe, sub_sub_cancel]

omit hx in
theorem past_apply : val_main_v17 (F := Ideal) (ix2 t s) = BitVec.ofBool (decide (s.val < t.val)) := by
  pointwise! [val_main_v17, val_main_v12, val_main_v13, val_main_v14, val_main_v15, val_main_v16]
  exact WordCmp.cmpi_slt_ofNat (by omega) (by omega)

theorem keep_apply : val_main_v21_0 (F := Ideal) x (ix3 h t s) = (Keep t.val (score p h.val t.val) s.val : EReal) := by
  pointwise! [val_main_v21_0, val_main_v21_1, val_main_call2_v0, val_main_call2_v2, val_main_cst_0]
  rw [past_apply, log_neg_apply x hx, select_eq]
  refine (congrArg (ite _ _) zero_word).trans ?_
  rw [← apply_ite]
  rfl

/-- What the keys from `s` on leave of the stick. -/
theorem left_apply : val_main_v22 (F := Ideal) x (ix3 h t s) = ((∑ j ∈ Finset.Ico s.val 4096, Keep t.val (score p h.val t.val) j : ℝ) : EReal) := by
  have e := keep_apply x hx h t
  unfold val_main_v22
  generalize val_main_v21_0 (F := Ideal) x = w at e ⊢
  rw [Host.reduceWindowAdd, Ideal.hostReduceWindowAdd_def, show val_main_call3_v0 (F := Ideal) (Shape.Idx.first h_S_) = 0 from start3 _]
  exact (window_last 0 4095 w _ h t s e _).trans (congrArg _ (window_from _ s))

theorem exp_apply : val_main_v25 (F := Ideal) x (ix3 h t s)
    = (Real.exp (lb (score p h.val t.val s.val) + ∑ j ∈ Finset.Ico (s.val + 1) 4096, Keep t.val (score p h.val t.val) j) : EReal) := by
  show Ideal.exp (val_main_v18_0 (F := Ideal) x (ix3 h t s) + (val_main_v22 (F := Ideal) x (ix3 h t s) - val_main_v21_0 (F := Ideal) x (ix3 h t s))) = _
  rw [log_apply x hx, left_apply x hx, keep_apply x hx, ← EReal.coe_sub, ← EReal.coe_add, Ideal.exp_coe, Finset.sum_eq_sum_Ico_succ_bot s.isLt, add_sub_cancel_left]

theorem weight_apply : val_main_v26_0 (F := Ideal) x (ix3 h t s) = (weight p h.val t.val s.val : EReal) := by
  pointwise! [val_main_v26_0, val_main_v26_1, val_main_call4_v0, val_main_call4_v2, val_main_cst_1]
  rw [past_apply, exp_apply x hx, select_eq]
  refine (congrArg (ite _ _) zero_word).trans ?_
  rw [← apply_ite]
  rfl

theorem out_apply (k : Fin 256) : val_main_v29 (F := Ideal) x (ix2 t k) = (out p (k.val / 64) t.val (k.val % 64) : EReal) := by
  pointwise! [val_main_v29, val_main_v28, val_main_v27]
  simp only [weight_apply x hx, v_apply x hx, ← EReal.coe_mul, ← coe_sum]
  exact congrArg _ (Fin.sum_univ_eq_sum_range (fun s => weight p (k.val / 64) t.val s * p s (2816 + 64 * (k.val / 64) + k.val % 64)) 4096)
end forward

/-! ## The gradient -/

section backward
variable (hx : ∀ (i : Fin 4096) (k : Fin 5120), x (ix2 i k) = (p i.val k.val : EReal)) (hy : ∀ (i : Fin 4096) (k : Fin 256), y (ix2 i k) = (d i.val k.val : EReal))
  (h : Fin 4) (t s : Fin 4096)
include hx hy

omit hx in
theorem d_apply (e : Fin 64) : val_main_v31 (F := Ideal) y (ix3 h t e) = (d t.val (64 * h.val + e.val) : EReal) := by
  refine Eq.trans ?_ (hy t ⟨64 * h.val + e.val, by omega⟩)
  pointwise! [val_main_v31, val_main_v30]

theorem cot_apply : val_main_v34 (F := Ideal) x y (ix3 h t s) = (cot p d h.val t.val s.val : EReal) := by
  pointwise! [val_main_v34]
  simp only [d_apply y hy, v_apply x hx, ← EReal.coe_mul, ← coe_sum]
  rfl

theorem gw_apply : val_main_v36 (F := Ideal) x y (ix3 h t s) = (Gw t.val 4096 (score p h.val t.val) (cot p d h.val t.val) s.val : EReal) := by
  pointwise! [val_main_v36, val_main_v35, val_main_v26_1, val_main_call5_v0, val_main_call5_cst]
  rw [past_apply, cot_apply x y hx hy, exp_apply x hx, select_eq, ← EReal.coe_mul, ← EReal.coe_zero, ← apply_ite, Gw, Wt, ite_mul, zero_mul, mul_comm]

/-- What the keys up to `s` got. -/
theorem upto_apply : val_main_v38 (F := Ideal) x y (ix3 h t s)
    = ((∑ j ∈ Finset.range (s.val + 1), Gw t.val 4096 (score p h.val t.val) (cot p d h.val t.val) j : ℝ) : EReal) := by
  have e := gw_apply x y hx hy h t
  unfold val_main_v38
  generalize val_main_v36 (F := Ideal) x y = w at e ⊢
  rw [Host.reduceWindowAdd, Ideal.hostReduceWindowAdd_def, show val_main_call6_v0 (F := Ideal) (Shape.Idx.first h_S_) = 0 from start6 _]
  exact (window_last 4095 0 w _ h t s e _).trans (congrArg _ (window_upto rfl _ s))

/-- What the keys before `s` got, for a key that counts. -/
theorem before_apply : val_main_v40 (F := Ideal) x y (ix3 h t s)
    = ((if s.val < t.val then ∑ j ∈ Finset.range s.val, Gw t.val 4096 (score p h.val t.val) (cot p d h.val t.val) j else 0 : ℝ) : EReal) := by
  have e : val_main_v39 (F := Ideal) x y (ix3 h t s) = ((∑ j ∈ Finset.range s.val, Gw t.val 4096 (score p h.val t.val) (cot p d h.val t.val) j : ℝ) : EReal) := by
    show -val_main_v36 (F := Ideal) x y (ix3 h t s) + val_main_v38 (F := Ideal) x y (ix3 h t s) = _
    rw [gw_apply x y hx hy, upto_apply x y hx hy, ← EReal.coe_neg, ← EReal.coe_add, Finset.sum_range_succ, neg_add_eq_sub, add_sub_cancel_right]
  rw [apply_ite Real.toEReal, ← e, ← select_eq, ← past_apply, EReal.coe_zero, ← EReal.coe_zero, ← zero_word]
  show Scalar.select (val_main_v21_1 (F := Ideal) (ix3 h t s)) _ (val_main_call7_v0 (F := Ideal) (ix3 h t s)) = _
  exact congrArg₂ (fun a b => Scalar.select a _ b) (by pointwise! [val_main_v21_1]) (by pointwise! [val_main_call7_v0, val_main_call7_cst])

theorem dscore_apply : val_main_v44 (F := Ideal) x y (ix3 h t s) = (dscore p d h.val t.val s.val : EReal) := by
  show -(-(-val_main_v40 (F := Ideal) x y (ix3 h t s) * val_main_v20_1 (F := Ideal) x (ix3 h t s)))
    + -(-val_main_v36 (F := Ideal) x y (ix3 h t s) * val_main_v18_1 (F := Ideal) x (ix3 h t s)) = _
  rw [before_apply x y hx hy, gw_apply x y hx hy, sig_apply x hx, sig_neg_apply x hx]
  simp only [← EReal.coe_neg, ← EReal.coe_mul, ← EReal.coe_add]
  refine congrArg _ ?_
  rw [dscore, Dz, tot_sub p d h.val t.val s.isLt.le]
  split
  · ring
  · next hs => rw [gw_zero _ _ (by omega)]; ring

theorem dq_apply (k : Fin 256) : val_main_v54 (F := Ideal) x y (ix2 t k) = (dquery p d (k.val / 64) t.val (k.val % 64) : EReal) := by
  pointwise! [val_main_v54, val_main_v53, val_main_v48, val_main_v46, val_main_v45, val_main_cst_2]
  simp only [dscore_apply x y hx hy, k_apply x hx, eighth, ← EReal.coe_mul, ← coe_sum]
  rw [dquery, Finset.sum_mul, ← Fin.sum_univ_eq_sum_range (fun s => dscore p d (k.val / 64) t.val s * p s (2560 + 64 * (k.val / 64) + k.val % 64) * (1 / 8)) 4096]
  exact congrArg _ (Finset.sum_congr rfl fun s _ => mul_right_comm ..)
theorem dk_apply (k : Fin 256) : val_main_v52 (F := Ideal) x y (ix2 t k) = (dkey p d (k.val / 64) t.val (k.val % 64) : EReal) := by
  pointwise! [val_main_v52, val_main_v51, val_main_v47, val_main_v46, val_main_v45, val_main_cst_2]
  simp only [dscore_apply x y hx hy, q_apply x hx, eighth, ← EReal.coe_mul, ← coe_sum]
  rw [dkey, ← Fin.sum_univ_eq_sum_range (fun s => dscore p d (k.val / 64) s t.val * (p s (2304 + 64 * (k.val / 64) + k.val % 64) * (1 / 8))) 4096]
  exact congrArg _ (Finset.sum_congr rfl fun s _ => by ring)
theorem dv_apply (k : Fin 256) : val_main_v50 (F := Ideal) x y (ix2 t k) = (dvalue p d (k.val / 64) t.val (k.val % 64) : EReal) := by
  pointwise! [val_main_v50, val_main_v49, val_main_v33, val_main_v32]
  simp only [d_apply y hy, weight_apply x hx, ← EReal.coe_mul, ← coe_sum]
  rw [dvalue, ← Fin.sum_univ_eq_sum_range (fun s => weight p (k.val / 64) s t.val * d s (64 * (k.val / 64) + k.val % 64)) 4096]
  exact congrArg _ (Finset.sum_congr rfl fun s _ => mul_comm ..)
end backward

end Cert.SbbRef

end
-- ==== Proof.SbbHost.lean ====
module

public import proofs.«01_k».proof.Proof.SbbKernel
public import proofs.«01_k».proof.Proof.SbbRef

@[expose] public section

set_option maxRecDepth 16384

noncomputable section

/- What the host lines before the stick-breaking backward call prepare: the forward pass's output and, from it, each
   head's sum of cotangent times output. -/
namespace Cert.SbbHost

open Idealize.ShloMosaic Idealize.ShloMosaic.TcCoe Idealize.SL.Sem
open Cert.Reals Cert.Sb Cert.KSbbIdeal Cert.KSbbIdeal.Gen Cert.KSbbIdeal.Hand

variable (m : (ℓ : Loc nD τ sig) → Buf (Elt Ideal) ℓ) (c : Dev nD)

/-- The call's first operand is the projection. -/
theorem proj_eq : V m c main_v36 = m ((c : Thread nD τ).loc main_arg0) := by
  show StableHlo.after (List.flatten stretches) _ _ = _
  simp only [stretches, hostOps0, hostOps0_1, hostOps0_2, hostOps0_3, hostOps0_4, hostOps0_5, hostOps0_6, hostOps0_7, hostOps0_8, hostOps0_9, List.flatten_cons, List.flatten_nil, List.append_nil, List.cons_append,
      List.nil_append]
  after_results_simp
  rfl

/-- The host lines that turn the output and its cotangent into each head's sum. -/
def perHead (o y : FVec Ideal S4096x256 .f32) : FVec Ideal S4096x512 .f32 :=
  shapeCast S4096x512 (broadcastInDim S4096x4x128 ![0, 1, 2] bcast_S4096x4x1_S4096x4x128_0_1_2
    (broadcastInDim S4096x4x1 ![0, 1] bcast_S4096x4_S4096x4x1_0_1
      (Host.reduceAdd (axes := [2]) (shapeCast S4096x4x64 (mulf y o) shapeCasts_S4096x256_S4096x4x64) (constant S_ .f32 0x00000000#32) reducesTo_S4096x4x64_S4096x4_d2 h_S_)))
    shapeCasts_S4096x4x128_S4096x512

set_option maxHeartbeats 4000000 in
/-- The forward lines are the reference's. -/
theorem sums_eq : V m c main_v35 = perHead (RSbbIdeal.Read.val_main_v29 (F := Ideal) (m ((c : Thread nD τ).loc main_arg0))) (m ((c : Thread nD τ).loc main_arg1)) := by
  show StableHlo.after (List.flatten stretches) _ _ = _
  simp only [stretches, hostOps0, hostOps0_1, hostOps0_2, hostOps0_3, hostOps0_4, hostOps0_5, hostOps0_6, hostOps0_7, hostOps0_8, hostOps0_9, List.flatten_cons, List.flatten_nil, List.append_nil, List.cons_append,
      List.nil_append]
  after_results_simp
  sl_kernel_rfl

theorem perHead_apply (o y : FVec Ideal S4096x256 .f32) (i : Fin 4096) (k : Fin 512) :
    perHead o y (ix2 i k) = ∑ e : Fin 64, y (ix2 i ⟨64 * (k.val / 128) + e.val, by omega⟩) * o (ix2 i ⟨64 * (k.val / 128) + e.val, by omega⟩) := by
  pointwise! [perHead]

variable {m c} {p d : ℕ → ℕ → ℝ}

/-- For real arguments the call reads real arrays. -/
theorem holds (hp : ∀ (i : Fin 4096) (k : Fin 5120), m ((c : Thread nD τ).loc main_arg0) (ix2 i k) = (p i.val k.val : EReal))
    (hd : ∀ (i : Fin 4096) (k : Fin 256), m ((c : Thread nD τ).loc main_arg1) (ix2 i k) = (d i.val k.val : EReal)) : SbbKernel.Holds m c p d where
  proj i k := (congrFun (proj_eq m c) _).trans (hp i k)
  cot i k := (congrFun (V_main_arg1 m c) _).trans (hd i k)
  sums i k := by
    refine (congrFun (sums_eq m c) _).trans ((perHead_apply _ _ i k).trans ?_)
    rw [tot, coe_sum]
    refine Finset.sum_congr rfl fun e _ => ?_
    refine (congrArg₂ (fun u v : EReal => u * v) (hd i _) (SbbRef.out_apply _ hp i _)).trans ?_
    rw [← EReal.coe_mul, show (64 * (k.val / 128) + e.val) / 64 = k.val / 128 by omega, show (64 * (k.val / 128) + e.val) % 64 = e.val by omega]

end Cert.SbbHost

end
-- ==== Proof.SbbEq.lean ====
module

public import proofs.«01_k».proof.Proof.SbbHost
public import proofs.«01_k».proof.Defs

@[expose] public section

set_option maxRecDepth 16384

noncomputable section

/- The stick-breaking attention's gradient: from a finite projection and a finite cotangent, the kernel's run and the
   reference's run end with the same three results. -/
namespace Cert.SbbEq

open Idealize.ShloMosaic Idealize.ShloMosaic.TcCoe Idealize.SL.Sem
open Cert.Reals Cert.Sb

/-- The side conditions that the precondition's own operations take. -/
instance preFacts : Cert.Pre_finite_sbb.Facts where
  bcast_S_S4096x5120 := by decide
  reducesTo_S4096x5120_S_d0_1 := by decide
  h_S_ := by decide
  bcast_S_S4096x256 := by decide
  reducesTo_S4096x256_S_d0_1 := by decide

/-- The precondition read entry by entry. -/
theorem finite (m : (ℓ : Loc KSbbIdeal.nD KSbbIdeal.τ KSbbIdeal.sig) → Buf (Elt Ideal) ℓ) [Pre_finite_sbb.Facts]
    (h : Pre_KSbbIdeal_finite_sbb m) (c : Dev KSbbIdeal.nD) :
    (∀ i, IsReal (m ((c.tc : Thread KSbbIdeal.nD KSbbIdeal.τ).loc KSbbIdeal.main_arg0) i))
    ∧ (∀ i, IsReal (m ((c.tc : Thread KSbbIdeal.nD KSbbIdeal.τ).loc KSbbIdeal.main_arg1) i)) := by
  have e := congrFun (h c) (fun i => i.elim0)
  obtain ⟨e1, e2⟩ := IntOp.andi_eq_one.1 e
  exact ⟨isReal_of_all _ _ _ _ _ e1, isReal_of_all _ _ _ _ _ e2⟩

/-- A matrix of real entries as a function of its two coordinates. -/
theorem exists_real {a b : ℕ} (x : (⟨2, ![a, b]⟩ : Shape).Idx → EReal) (h : ∀ i, IsReal (x i)) :
    ∃ f : ℕ → ℕ → ℝ, ∀ (i : Fin a) (k : Fin b), x (ix2 i k) = (f i.val k.val : EReal) := by
  choose f hf using h
  exact ⟨fun i k => if q : i < a ∧ k < b then f (ix2 ⟨i, q.1⟩ ⟨k, q.2⟩) else 0, fun i k => by dsimp only; rw [dif_pos ⟨i.2, k.2⟩]; exact hf _⟩

set_option maxHeartbeats 1000000 in
/-- From argument arrays that agree, the kernel and the reference end with the same three results. -/
theorem algebraic : Cert.algebraic_KSbbIdeal_RSbbIdeal_pre_finite_sbb (hKSbbIdeal := Cert.KSbbIdeal.Gen.facts)
    (hRSbbIdeal := Cert.RSbbIdeal.Gen.facts) (hPre_finite_sbb := preFacts) := by
  intro m g m' g' hpre hargs
  refine ⟨fun c => (KSbbIdeal.Hand.dats m 0 c).arrAt 5 KSbbIdeal.cfg0.N, fun c => (KSbbIdeal.Hand.dats m 0 c).arrAt 6 KSbbIdeal.cfg0.N,
    fun c => (KSbbIdeal.Hand.dats m 0 c).arrAt 7 KSbbIdeal.cfg0.N, (θ_run _ _ _).mono (fun _ h c => ?_) (KSbbIdeal.Hand.run_quiescent m g),
    (θ_run _ _ _).mono (fun r h c => ?_) (RSbbIdeal.Value.run (F := Ideal) m' g')⟩
  · exact ⟨(h.1 c).1 5, (h.1 c).1 6, (h.1 c).1 7,
      ((h.1 c).2 KSbbIdeal.main_arg0 (Pipeline.mem_restRefs_of KSbbIdeal.main_arg0 (by decide) (by decide))).trans (KSbbIdeal.Hand.V_main_arg0 m c),
      ((h.1 c).1 3).trans (((KSbbIdeal.Hand.dats m 0 c).arrAt_in 3 rfl _).trans ((KSbbIdeal.Hand.A_eq m c 3).trans (KSbbIdeal.Hand.V_main_arg1 m c)))⟩
  · obtain ⟨a0, a1⟩ := hargs c
    obtain ⟨f0, f1⟩ := finite m hpre c
    obtain ⟨p, hp⟩ := exists_real (a := 4096) (b := 5120) _ f0
    obtain ⟨d, hd⟩ := exists_real (a := 4096) (b := 256) _ f1
    obtain ⟨h0, h1, h2, hr⟩ := h c
    have A := SbbHost.holds hp hd
    refine ⟨h0.trans ?_, h1.trans ?_, h2.trans ?_, hr⟩
    · rw [RSbbIdeal.Read.val_main_v54_eq, a0, a1]
      refine Eq.trans ?_ (SbbKernel.final5 A).symm
      exact funext fun j => (congrArg _ (eq_ix2 j)).trans (SbbRef.dq_apply _ _ hp hd _ _)
    · rw [RSbbIdeal.Read.val_main_v52_eq, a0, a1]
      refine Eq.trans ?_ (SbbKernel.final6 A).symm
      exact funext fun j => (congrArg _ (eq_ix2 j)).trans (SbbRef.dk_apply _ _ hp hd _ _)
    · rw [RSbbIdeal.Read.val_main_v50_eq, a0, a1]
      refine Eq.trans ?_ (SbbKernel.final7 A).symm
      exact funext fun j => (congrArg _ (eq_ix2 j)).trans (SbbRef.dv_apply _ _ hp hd _ _)

end Cert.SbbEq

end
-- ==== Proof.SbfEq.lean ====
module

public import proofs.«01_k».proof.Proof.SbfStep
public import proofs.«01_k».proof.Proof.SbbEq
public import proofs.«01_k».proof.Proof.Gen.RSbfIdeal.Run
public import proofs.«01_k».proof.Proof.Gen.RSbfIdeal.Read
public import proofs.«01_k».proof.Defs

@[expose] public section

set_option maxRecDepth 16384

noncomputable section

/- The stick-breaking attention's forward call: from a finite projection, the kernel's run and the reference's run end with
   the same output. -/
namespace Cert.SbfEq

open Idealize.ShloMosaic Idealize.ShloMosaic.TcCoe Idealize.SL.Sem
open Cert.Reals Cert.Sb Cert.SbfTile Cert.SbfStep Cert.KSbfIdeal Cert.KSbfIdeal.Gen
open Cert.SbbTile (qrow)
open Cert.SbbKernel (blockOf ww_eq)

/-! ## The kernel -/

section kernel
variable {m : (ℓ : Loc nD τ sig) → Buf (Elt Ideal) ℓ} {c : Dev nD} {p : ℕ → ℕ → ℝ}
  (hp : ∀ (i : Fin 4096) (k : Fin 5120), m ((c : Thread nD τ).loc main_arg0) (ix2 i k) = (p i.val k.val : EReal))

/-- Where the windows' blocks stand. -/
theorem at0 : ∀ t : Fin cfg0.N, win0_0.index t = ![t.val, 9] ∧ win0_1.index t = ![0, 10] ∧ win0_2.index t = ![0, 11] ∧ win0_3.index t = ![t.val, 0] :=
  (by decide +kernel : ∀ t : Fin grid0.N, _)

/-- The call's operand is the projection. -/
theorem proj_eq : V m c main_v0 = m ((c : Thread nD τ).loc main_arg0) := by
  show StableHlo.after hostOps0 _ _ = _
  after_results_simp
  rfl

include hp
theorem proj (i : Fin 4096) (k : Fin 5120) : (V m c main_v0 : S4096x5120.Idx → EReal) (ix2 i k) = (p i.val k.val : EReal) :=
  (congrFun (proj_eq) _).trans (hp i k)

theorem blk0 (t : Fin cfg0.N) (i : Fin 512) (k : Fin 256) : (iblk m c 0 t : Vec Ideal S512x256 .bf16) (ix2 i k) = (p (512 * t.val + i.val) (2304 + k.val) : EReal) := by
  have e := at0 t
  have ht : t.val < 8 := t.isLt
  refine Eq.trans ?_ (proj hp ⟨512 * t.val + i.val, by omega⟩ ⟨2304 + k.val, by omega⟩)
  blk_simp [iblk]
  refine congrArg _ ?_; blk_ext [e]
theorem blk1 (t : Fin cfg0.N) (i : Fin 4096) (k : Fin 256) : (iblk m c 1 t : Vec Ideal S4096x256 .bf16) (ix2 i k) = (p i.val (2560 + k.val) : EReal) := by
  have e := at0 t
  refine Eq.trans ?_ (proj hp i ⟨2560 + k.val, by omega⟩)
  blk_simp [iblk]
  refine congrArg _ ?_; blk_ext [e]
theorem blk2 (t : Fin cfg0.N) (i : Fin 4096) (k : Fin 256) : (iblk m c 2 t : Vec Ideal S4096x256 .bf16) (ix2 i k) = (p i.val (2816 + k.val) : EReal) := by
  have e := at0 t
  refine Eq.trans ?_ (proj hp i ⟨2816 + k.val, by omega⟩)
  blk_simp [iblk]
  refine congrArg _ ?_; blk_ext [e]

/-- A block's output. -/
theorem block_at (t : Fin cfg0.N) (i : Fin 512) (k : Fin 256) :
    outsAt0 m c t (ix2 i k) = (out p (k.val / 64) (512 * t.val + i.val) (k.val % 64) : EReal) := by
  have ht : t.val < 8 := t.isLt
  refine (out_at (t := t) (B := blockOf p (fun _ _ => 0) t.val) c (ms0_0 t) (hs0_0 t) (ms0_1 t) (hs0_1 t) (ms0_2 t) (hs0_2 t) (ms0_3 t) (hs0_3 t) scM0_0 (Memref.isWhole_whole _)
    rfl (fun R k => ?_) (blk1 hp t) (blk2 hp t) i k).trans (congrArg _ ?_)
  · rw [queries_at, q10, blk0 hp, ← EReal.coe_mul, ← EReal.coe_zero, ← apply_ite]; rfl
  · simp only [ww_eq p _ t.val _ ht, out]
    have e1 : (512 * (k.val / 64) + i.val) / 512 = k.val / 64 := by omega
    have e2 : (512 * (k.val / 64) + i.val) % 512 = i.val := by omega
    simp only [e1, e2]
    rw [Finset.range_eq_Ico, sum_grow (t := 512 * t.val + i.val) (n := (blockOf p (fun _ _ => 0) t.val).n) (n' := 4096) _ 0 (fun s hs => by rw [weight, wt_zero _ hs, zero_mul])
      (show 512 * t.val + i.val ≤ 512 * t.val + 512 by omega) (show 512 * t.val + 512 ≤ 4096 by omega)]
    refine Finset.sum_congr rfl fun s _ => ?_
    show _ * p s (2816 + k.val) = _
    rw [show 2816 + k.val = 2816 + 64 * (k.val / 64) + k.val % 64 by omega]

/-- The call's output. -/
theorem final3 : (dats m 0 c).arrAt 3 cfg0.N = fun i => (out p ((i 1).val / 64) (i 0).val ((i 1).val % 64) : EReal) := by
  refine (dats m 0 c).arrAt_eq_of_covers 3 _ (by decide +kernel) fun t hf y => ?_
  have ⟨_, _, _, e3⟩ := at0 t
  blk_simp
  rw [after0_3]
  refine (congrArg _ (eq_ix2 y)).trans ((block_at hp t (y 0) (y 1)).trans ?_)
  blk_simp [e3]
  rw [Nat.mul_comm 512]
end kernel

/-! ## The reference is the forward pass that the gradient's reference starts with -/

set_option maxHeartbeats 2000000 in
theorem same_reference (x : FVec Ideal S4096x5120 .f32) : RSbfIdeal.Read.val_main_v29 (F := Ideal) x = RSbbIdeal.Read.val_main_v29 (F := Ideal) x := by
  sl_kernel_rfl

/-- The side conditions that the precondition's own operations take. -/
instance preFacts : Cert.Pre_finite_sbf.Facts where
  bcast_S_S4096x5120 := by decide
  reducesTo_S4096x5120_S_d0_1 := by decide
  h_S_ := by decide

/-- The precondition read entry by entry. -/
theorem finite (m : (ℓ : Loc KSbfIdeal.nD KSbfIdeal.τ KSbfIdeal.sig) → Buf (Elt Ideal) ℓ) [Pre_finite_sbf.Facts]
    (h : Pre_KSbfIdeal_finite_sbf m) (c : Dev KSbfIdeal.nD) :
    ∀ i, IsReal (m ((c.tc : Thread KSbfIdeal.nD KSbfIdeal.τ).loc KSbfIdeal.main_arg0) i) := by
  have e := congrFun (h c) (fun i => i.elim0)
  unfold Pre_finite_sbf.fn at e
  exact isReal_of_all _ _ _ _ _ e

/-- From argument arrays that agree, the kernel and the reference end with the same output. -/
theorem algebraic : Cert.algebraic_KSbfIdeal_RSbfIdeal_pre_finite_sbf (hKSbfIdeal := Cert.KSbfIdeal.Gen.facts)
    (hRSbfIdeal := Cert.RSbfIdeal.Gen.facts) (hPre_finite_sbf := preFacts) := by
  intro m g m' g' hpre hargs
  refine ⟨fun c => (dats m 0 c).arrAt 3 cfg0.N, (θ_run _ _ _).mono (fun _ h c => h c) (KSbfIdeal.Value.run_blocks m g),
    (θ_run _ _ _).mono (fun r h c => ?_) (RSbfIdeal.Value.run (F := Ideal) m' g')⟩
  obtain ⟨p, hp⟩ := SbbEq.exists_real (a := 4096) (b := 5120) _ (finite m hpre c)
  obtain ⟨h0, hr⟩ := h c
  refine ⟨h0.trans ?_, hr⟩
  rw [RSbfIdeal.Read.val_main_v29_eq, hargs c, same_reference]
  refine Eq.trans ?_ (final3 hp).symm
  exact funext fun j => (congrArg _ (eq_ix2 j)).trans (SbbRef.out_apply _ hp _ _)

end Cert.SbfEq

end
-- ==== Proof.JoinHost.lean ====
module

public import proofs.«01_k».proof.Proof.Gen.KJoinIdeal.Value
public import proofs.«01_k».proof.Proof.Gen.RJoinIdeal.Read
public import Idealize.ShloMosaic.Lib.Pipeline.ValueKit

@[expose] public section

set_option maxRecDepth 16384

noncomputable section

/- The host lines before the call that joins the gradients: each group of the wide arguments split by residue, and the
   rotation's tables. -/
namespace Cert.JoinHost

open Idealize.ShloMosaic Idealize.ShloMosaic.TcCoe Idealize.SL.Sem
open Cert.KJoinIdeal Cert.KJoinIdeal.Gen

variable (m : (ℓ : Loc nD τ sig) → Buf (Elt Ideal) ℓ) (c : Dev nD)

/-- A group of a wide argument by its residues. -/
def split1 (a : FVec Ideal S4096x768 .f32) : FVec Ideal S1x4096x256 .f32 :=
  transpose S1x4096x256 [1, 0, 2] (shapeCast S4096x1x256 (extractStridedSlice S4096x256 ![0, 0] a slices_S4096x768_S4096x256_0_0) shapeCasts_S4096x256_S4096x1x256)
    transposes_S4096x1x256_S1x4096x256_1_0_2
def split4 (a : FVec Ideal S4096x768 .f32) : FVec Ideal S4x1024x256 .f32 :=
  transpose S4x1024x256 [1, 0, 2] (shapeCast S1024x4x256 (extractStridedSlice S4096x256 ![0, 256] a slices_S4096x768_S4096x256_0_256) shapeCasts_S4096x256_S1024x4x256)
    transposes_S1024x4x256_S4x1024x256_1_0_2
def split16 (a : FVec Ideal S4096x768 .f32) : FVec Ideal S16x256x256 .f32 :=
  transpose S16x256x256 [1, 0, 2] (shapeCast S256x16x256 (extractStridedSlice S4096x256 ![0, 512] a slices_S4096x768_S4096x256_0_512) shapeCasts_S4096x256_S256x16x256)
    transposes_S256x16x256_S16x256x256_1_0_2

theorem split1_apply (a : FVec Ideal S4096x768 .f32) (r : Fin 4096) (k : Fin 256) : split1 a (ix3 0 r k) = a (ix2 r ⟨k.val, by omega⟩) := by
  pointwise! [split1]
theorem split4_apply (a : FVec Ideal S4096x768 .f32) (s : Fin 4) (n : Fin 1024) (k : Fin 256) :
    split4 a (ix3 s n k) = a (ix2 ⟨n.val * 4 + s.val, by omega⟩ ⟨256 + k.val, by omega⟩) := by
  pointwise! [split4]
theorem split16_apply (a : FVec Ideal S4096x768 .f32) (s : Fin 16) (n : Fin 256) (k : Fin 256) :
    split16 a (ix3 s n k) = a (ix2 ⟨n.val * 16 + s.val, by omega⟩ ⟨512 + k.val, by omega⟩) := by
  pointwise! [split16]

/-- A lane's place in its head, by the host's remainder. -/
def span : Vec Ideal S_ .i32 := select (cmpi .eq (constantI S_ 32 64#32) (constantI S_ 32 0#32)) (constantI S_ 32 1#32) (constantI S_ 32 64#32)
def all (n : BitVec 32) : Vec Ideal S128 .i32 := broadcastInDim S128 ![] bcast_S_S128 (constantI S_ 32 n)
def rest : Vec Ideal S128 .i32 := Host.remsi (iotaInDim S128 32 0) (broadcastInDim S128 ![] bcast_S_S128 span)
def place : Vec Ideal S128 .i32 :=
  select (andi (cmpi .ne (cmpi .slt rest (all 0#32)) (broadcastInDim S128 ![] bcast_S_S128 (cmpi .slt span (constantI S_ 32 0#32)))) (cmpi .ne rest (all 0#32)))
    (addi rest (broadcastInDim S128 ![] bcast_S_S128 span)) rest

/-- The tables: cosines, sines of the first eight places with their sign turned, sines of the next eight. -/
def across (x : FVec Ideal S4096x8 .f32) : FVec Ideal S4096x128 .f32 :=
  shapeCast S4096x128 (broadcastInDim S1x4096x16x8 ![0, 1, 2, 3] bcast_S1x4096x1x8_S1x4096x16x8_0_1_2_3 (shapeCast S1x4096x1x8 x shapeCasts_S4096x8_S1x4096x1x8))
    shapeCasts_S1x4096x16x8_S4096x128
def where' (b : Vec Ideal S128 .i1) (x : FVec Ideal S4096x128 .f32) (e : BitVec 32) : FVec Ideal S4096x128 .f32 :=
  select (broadcastInDim S4096x128 ![1] bcast_S128_S4096x128_1 b) x (broadcastInDim S4096x128 ![] bcast_S_S4096x128 (constant (F := Ideal) S_ .f32 e))
def tables (co si : FVec Ideal S4096x8 .f32) : FVec Ideal S4096x384 .f32 :=
  concatenate S4096x384 1 [⟨S4096x128, where' (cmpi .slt place (all 16#32)) (across co) 0x3F800000#32⟩,
    ⟨S4096x128, where' (cmpi .slt place (all 8#32)) (Host.negf (across si)) 0x00000000#32⟩,
    ⟨S4096x128, where' (andi (cmpi .sge place (all 8#32)) (cmpi .slt place (all 16#32))) (across si) 0x00000000#32⟩]
    concatenates_S4096x128_S4096x128_S4096x128_S4096x384_d1

/-- What the call reads. -/
theorem reads :
    (V m c main_v2 = split1 (m ((c : Thread nD τ).loc main_arg0)) ∧ V m c main_v5 = split4 (m ((c : Thread nD τ).loc main_arg0)) ∧ V m c main_v8 = split16 (m ((c : Thread nD τ).loc main_arg0)))
    ∧ (V m c main_v11 = split1 (m ((c : Thread nD τ).loc main_arg1)) ∧ V m c main_v14 = split4 (m ((c : Thread nD τ).loc main_arg1)) ∧ V m c main_v17 = split16 (m ((c : Thread nD τ).loc main_arg1)))
    ∧ (V m c main_v20 = split1 (m ((c : Thread nD τ).loc main_arg2)) ∧ V m c main_v23 = split4 (m ((c : Thread nD τ).loc main_arg2)) ∧ V m c main_v26 = split16 (m ((c : Thread nD τ).loc main_arg2)))
    ∧ V m c main_v27 = m ((c : Thread nD τ).loc main_arg6)
    ∧ V m c main_v67 = tables (RJoinIdeal.Read.val_main_v16 (F := Ideal)) (RJoinIdeal.Read.val_main_v17 (F := Ideal)) := by
  refine ⟨⟨?_, ?_, ?_⟩, ⟨?_, ?_, ?_⟩, ⟨?_, ?_, ?_⟩, ?_, ?_⟩ <;>
  · simp only [V, hostOps0, hostOps0_1, hostOps0_2, hostOps0_3, hostOps0_4, hostOps0_5, hostOps0_6, hostOps0_7, hostOps0_8, List.flatten_cons, List.flatten_nil, List.append_nil, List.cons_append,
      List.nil_append]
    after_results_simp
    sl_kernel_rfl

end Cert.JoinHost

end
-- ==== Proof.JoinTables.lean ====
module

public import proofs.«01_k».proof.Proof.JoinHost

@[expose] public section

set_option maxRecDepth 16384

noncomputable section

/- The entries of the rotation's tables. -/
namespace Cert.JoinHost

open Idealize.ShloMosaic Idealize.ShloMosaic.TcCoe Idealize.SL.Sem
open Cert.KJoinIdeal Cert.KJoinIdeal.Gen

theorem across_apply (x : FVec Ideal S4096x8 .f32) (r : Fin 4096) (l : Fin 128) : across x (ix2 r l) = x (ix2 r ⟨l.val % 8, by omega⟩) := by
  pointwise! [across]

theorem below16 : ∀ l : Fin 128, (cmpi .slt place (all 16#32)) (ix1 l) = if l.val % 64 < 16 then 1#1 else 0#1 := by decide +kernel
theorem below8 : ∀ l : Fin 128, (cmpi .slt place (all 8#32)) (ix1 l) = if l.val % 64 < 8 then 1#1 else 0#1 := by decide +kernel
theorem between : ∀ l : Fin 128, (andi (cmpi .sge place (all 8#32)) (cmpi .slt place (all 16#32))) (ix1 l) = if 8 ≤ l.val % 64 ∧ l.val % 64 < 16 then 1#1 else 0#1 := by
  decide +kernel

theorem where_apply (b : Vec Ideal S128 .i1) (x : FVec Ideal S4096x128 .f32) (e : BitVec 32) (r : Fin 4096) (l : Fin 128) :
    where' b x e (ix2 r l) = if b (ix1 l) = 1#1 then x (ix2 r l) else (FloatOps.ofBits (F := Ideal) .f32 e : EReal) := by
  pointwise! [where']

theorem chosen (p : Prop) [Decidable p] (u v : EReal) : (if (if p then 1#1 else 0#1) = 1#1 then u else v) = if p then u else v := by
  by_cases h : p <;> simp [h]

variable (co si : FVec Ideal S4096x8 .f32) (r : Fin 4096) (l : Fin 128)

theorem tables_0 : tables co si (ix2 r ⟨l.val, by omega⟩) = if l.val % 64 < 16 then co (ix2 r ⟨l.val % 8, by omega⟩) else 1 := by
  have h : tables co si (ix2 r ⟨l.val, by omega⟩) = where' (cmpi .slt place (all 16#32)) (across co) 0x3F800000#32 (ix2 r l) := by
    pointwise! [tables]
  rw [h, where_apply, below16, across_apply, chosen]
  exact congrArg _ Ideal.ofBits_one_f32

theorem tables_1 : tables co si (ix2 r ⟨128 + l.val, by omega⟩) = if l.val % 64 < 8 then -si (ix2 r ⟨l.val % 8, by omega⟩) else (0 : EReal) := by
  have h : tables co si (ix2 r ⟨128 + l.val, by omega⟩) = where' (cmpi .slt place (all 8#32)) (Host.negf (across si)) 0x00000000#32 (ix2 r l) := by
    pointwise! [tables]
  have e : Host.negf (across si) (ix2 r l) = (-across si (ix2 r l) : EReal) := by
    pointwise! []
  rw [h, where_apply, below8, e, across_apply, chosen]
  exact congrArg _ Ideal.ofBits_zero_f32

theorem tables_2 : tables co si (ix2 r ⟨256 + l.val, by omega⟩) = if 8 ≤ l.val % 64 ∧ l.val % 64 < 16 then si (ix2 r ⟨l.val % 8, by omega⟩) else (0 : EReal) := by
  have h : tables co si (ix2 r ⟨256 + l.val, by omega⟩)
      = where' (andi (cmpi .sge place (all 8#32)) (cmpi .slt place (all 16#32))) (across si) 0x00000000#32 (ix2 r l) := by
    pointwise! [tables]
  rw [h, where_apply, between, across_apply, chosen]
  exact congrArg _ Ideal.ofBits_zero_f32

end Cert.JoinHost

end
-- ==== Proof.JoinTile.lean ====
module

public import Idealize.ShloMosaic.Lib.Pipeline.StridedRows
public import Idealize.ShloMosaic.Lib.Pipeline.CanonAppend
public import Idealize.ShloMosaic.Lib.Pipeline.ValueKit

@[expose] public section

set_option maxRecDepth 16384

noncomputable section

/- The residues of a dilated group put back in order: each residue's rows are stored into every D-th row of a
   scratch, one half of the 256 columns to a plane, and a plane read back whole holds the rows in order. -/
namespace Cert.JoinTile

open Idealize.ShloMosaic StridedRows

variable {sig : RefSig} {κ κ' : Kind} {sp sp' : Space} {N D : ℕ}

/-- D residues of N rows each. -/
abbrev Split (D N : ℕ) : Shape := ⟨3, ![D, N, 256]⟩

/-- Half c of residue r, in the block that holds all the residues. -/
def halfRect (c : Fin 2) (r : Fin D) : Rect (Split D N) :=
  Rect.unit ![r.val, 0, 128 * c.val] ![1, N, 128] fun a => by
    match a with
    | ⟨0, _⟩ => show r.val + 1 ≤ D; exact r.isLt
    | ⟨1, _⟩ => show 0 + N ≤ N; omega
    | ⟨2, _⟩ => show 128 * c.val + 128 ≤ 256; have := c.isLt; omega

/-- One plane, whole. -/
def planeRect (c : Fin 2) : Rect (Plane 4 N D 128) :=
  Rect.unit ![c.val, 0, 0] ![1, N * D, 128] fun a => by
    match a with
    | ⟨0, _⟩ => show c.val + 1 ≤ 4; have := c.isLt; omega
    | ⟨1, _⟩ => show 0 + N * D ≤ N * D; omega
    | ⟨2, _⟩ => show 0 + 128 ≤ 128; omega

/-- One store: half c of residue r into every D-th row of plane c. -/
def piece (v : View sig κ sp (Split D N) .f32) (f : v.ty.Contents (Elt Ideal))
    (h1 : (Row N 128).ShapeCasts ⟨2, ![N, 128]⟩) (h2 : (⟨2, ![N, 128]⟩ : Shape).ShapeCasts (Row N 128)) (c : Fin 2) (r : Fin D) :
    View.Piece (Elt Ideal) (Plane 4 N D 128) .f32 :=
  ⟨rowRect le_rfl (c.castLE (by decide)) r, shapeCast (Row N 128) (shapeCast ⟨2, ![N, 128]⟩ (v.readAt (Elt Ideal) (halfRect c r).toLoadRect f) h1) h2⟩

/-- All the stores of a group, the last first. -/
def pieces (v : View sig κ sp (Split D N) .f32) (f : v.ty.Contents (Elt Ideal))
    (h1 : (Row N 128).ShapeCasts ⟨2, ![N, 128]⟩) (h2 : (⟨2, ![N, 128]⟩ : Shape).ShapeCasts (Row N 128)) :
    List (View.Piece (Elt Ideal) (Plane 4 N D 128) .f32) :=
  (List.finRange (D * 2)).reverse.map fun k => piece v f h1 h2 ⟨k.val % 2, Nat.mod_lt _ (by decide)⟩ ⟨k.val / 2, Nat.div_lt_of_lt_mul (by have := k.isLt; omega)⟩

/-- Row `y` of the group in order, of its residues. -/
def inOrder (X : (Split D N).Idx → EReal) (y : Fin (N * D)) (k : Fin 256) : EReal :=
  X (ix3 ⟨y.val % D, Nat.mod_lt _ (Nat.pos_of_ne_zero fun h => by have := y.isLt; simp [h] at this)⟩
    ⟨y.val / D, Nat.div_lt_of_lt_mul (lt_of_lt_of_eq y.isLt (Nat.mul_comm N D))⟩ k)

def half (c : Fin 4) (l : Fin 128) : Fin 256 := ⟨128 * (c.val % 2) + l.val, by have := l.isLt; omega⟩

theorem piece_apply (v : View sig κ sp (Split D N) .f32) (f : v.ty.Contents (Elt Ideal)) (X : (Split D N).Idx → EReal)
    (hX : v.read (Elt Ideal) f = X) (h1 : (Row N 128).ShapeCasts ⟨2, ![N, 128]⟩) (h2 : (⟨2, ![N, 128]⟩ : Shape).ShapeCasts (Row N 128))
    (c : Fin 2) (r : Fin D) (x : (Row N 128).Idx) :
    (piece v f h1 h2 c r).2 x = X (ix3 r (x 1) (half (c.castLE (by decide)) (x 2))) := by
  subst hX
  refine (congrFun (shapeCast_shapeCast (s := Row N 128) (v.readAt (Elt Ideal) (halfRect c r).toLoadRect f) h1 h2) x).trans ?_
  show v.read (Elt Ideal) f _ = _
  refine congrArg _ (funext fun a => Fin.ext ?_)
  have h0 : (x 0).val < 1 := (x 0).isLt
  have hc := c.isLt
  match a with
  | ⟨0, _⟩ => show r.val + 1 * (x 0).val = r.val; omega
  | ⟨1, _⟩ => show 0 + 1 * (x 1).val = (x 1).val; omega
  | ⟨2, _⟩ => show 128 * c.val + 1 * (x 2).val = 128 * (c.val % 2) + (x 2).val; omega

/-- A plane read back after the stores of its group, whatever was stored before. -/
theorem read_pieces (v : View sig κ sp (Split D N) .f32) (f : v.ty.Contents (Elt Ideal)) (X : (Split D N).Idx → EReal)
    (hX : v.read (Elt Ideal) f = X) (h1 : (Row N 128).ShapeCasts ⟨2, ![N, 128]⟩) (h2 : (⟨2, ![N, 128]⟩ : Shape).ShapeCasts (Row N 128))
    (s : View sig κ' sp' (Plane 4 N D 128) .f32) (L : List (View.Piece (Elt Ideal) (Plane 4 N D 128) .f32)) (c : Fin 2)
    (x : (⟨3, ![1, N * D, 128]⟩ : Shape).Idx) :
    s.readCov (pieces v f h1 h2 ++ L) (planeRect c).toLoadRect x
      = inOrder X (x 1) (half (c.castLE (by decide)) (x 2)) := by
  rw [View.readCov_eq_canon']
  have hD : 0 < D := Nat.pos_of_ne_zero fun h => by have := (x 1).isLt; simp [h] at this
  have hx : (x 1).val < N * D := (x 1).isLt
  have h0 : (x 0).val < 1 := (x 0).isLt
  have hmod : (x 1).val % D < D := Nat.mod_lt _ hD
  have hdiv : (x 1).val / D < N := Nat.div_lt_of_lt_mul (lt_of_lt_of_eq hx (Nat.mul_comm N D))
  let V : Fin 4 → Fin D → Fin N → Fin 128 → Elt Ideal .f32 := fun c r n l => X (ix3 r n (half c l))
  refine (View.canon_append_of_pieces (planeValue V) L _ ?_ _ ?_).trans ?_
  · intro p hp
    obtain ⟨k, -, rfl⟩ := List.mem_map.1 hp
    exact rowRect_payload_eq_planeValue V le_rfl _ _ _ (piece_apply v f X hX h1 h2 _ _)
  · refine ⟨_, List.mem_map.2 ⟨⟨(x 1).val % D * 2 + c.val, by have := c.isLt; omega⟩, by simp, rfl⟩, ?_⟩
    refine (LoadRect.mem_set _).2 fun a => ?_
    have hc := c.isLt
    match a with
    | ⟨0, _⟩ => exact ⟨0, Nat.one_pos, show c.val + 1 * (x 0).val = ((x 1).val % D * 2 + c.val) % 2 + 1 * 0 by omega⟩
    | ⟨1, _⟩ => exact ⟨(x 1).val / D, hdiv, show 0 + 1 * (x 1).val = ((x 1).val % D * 2 + c.val) / 2 + D * ((x 1).val / D) by
        have := Nat.mod_add_div (x 1).val D; omega⟩
    | ⟨2, _⟩ => exact ⟨(x 2).val, (x 2).isLt, show 0 + 1 * (x 2).val = 0 + 1 * (x 2).val from rfl⟩
  · have e : ((planeRect c).toLoadRect.idx x : (Plane 4 N D 128).Idx) = ix3 (c.castLE (by decide)) (x 1) (x 2) :=
      funext fun a => Fin.ext (by
        match a with
        | ⟨0, _⟩ => show c.val + 1 * (x 0).val = c.val; omega
        | ⟨1, _⟩ => show 0 + 1 * (x 1).val = (x 1).val; omega
        | ⟨2, _⟩ => show 0 + 1 * (x 2).val = (x 2).val; omega)
    rw [e]
    exact dif_pos (⟨hmod, hdiv⟩ : (x 1).val % D < D ∧ (x 1).val / D < N)

end Cert.JoinTile

end
-- ==== Proof.JoinPlanes.lean ====
module

public import proofs.«01_k».proof.Proof.Gen.KJoinIdeal.Value
public import proofs.«01_k».proof.Proof.JoinTile

@[expose] public section

set_option maxRecDepth 16384

noncomputable section

/- The dilated groups of the queries', keys' and values' gradients, each put back in order in the scratch, as the
   body reads them. -/
namespace Cert.JoinPlanes

open Idealize.ShloMosaic Idealize.ShloMosaic.TcCoe Idealize.SL.Sem StridedRows
open Cert.JoinTile Cert.KJoinIdeal Cert.KJoinIdeal.Gen

abbrev Block (s : Shape) := Memref sig .tc .vmem s .f32

/-- One plane of a group of residues in order. -/
def plane {N D : ℕ} (X : (Split D N).Idx → EReal) (c : Fin 2) (x : (⟨3, ![1, N * D, 128]⟩ : Shape).Idx) : EReal :=
  inOrder X (x 1) (half (c.castLE (by decide)) (x 2))

/-- What the body stores for a group whose residues are 4, and for one whose residues are 16. -/
abbrev stored4 (b : Block S4x128x256) (h : b.IsWhole) (X : Vec Ideal S4x128x256 .f32) : List (View.Piece (Elt Ideal) (Plane 4 128 4 128) .f32) :=
  pieces (N := 128) (D := 4) b.view (h.unread X) shapeCasts_S1x128x128_S128x128 shapeCasts_S128x128_S1x128x128
abbrev stored16 (b : Block S16x32x256) (h : b.IsWhole) (X : Vec Ideal S16x32x256 .f32) : List (View.Piece (Elt Ideal) (Plane 4 32 16 128) .f32) :=
  pieces (N := 32) (D := 16) b.view (h.unread X) shapeCasts_S1x32x128_S32x128 shapeCasts_S32x128_S1x32x128

theorem read4 (b : Block S4x128x256) (h : b.IsWhole) (X : Vec Ideal S4x128x256 .f32) (s : Block S4x512x128)
    (L : List (View.Piece (Elt Ideal) (Plane 4 128 4 128) .f32)) (c : Fin 2) :
    View.readCov (s := Plane 4 128 4 128) s.view (stored4 b h X ++ L) (planeRect c).toLoadRect = plane (N := 128) (D := 4) X c :=
  funext fun x => read_pieces b.view (h.unread X) X (h.read_unread X) _ _ s.view L c x
theorem read16 (b : Block S16x32x256) (h : b.IsWhole) (X : Vec Ideal S16x32x256 .f32) (s : Block S4x512x128)
    (L : List (View.Piece (Elt Ideal) (Plane 4 32 16 128) .f32)) (c : Fin 2) :
    View.readCov (s := Plane 4 32 16 128) s.view (stored16 b h X ++ L) (planeRect c).toLoadRect = plane (N := 32) (D := 16) X c :=
  funext fun x => read_pieces b.view (h.unread X) X (h.read_unread X) _ _ s.view L c x

variable (c : Dev nD) (b2 : Block S4x128x256) (h2 : b2.IsWhole) (b3 : Block S16x32x256) (h3 : b3.IsWhole)
  (b5 : Block S4x128x256) (h5 : b5.IsWhole) (b6 : Block S16x32x256) (h6 : b6.IsWhole)
  (b8 : Block S4x128x256) (h8 : b8.IsWhole) (b9 : Block S16x32x256) (h9 : b9.IsWhole) (s : Block S4x512x128)
  (x1 : Vec Ideal S4x128x256 .f32) (x2 : Vec Ideal S16x32x256 .f32) (x4 : Vec Ideal S4x128x256 .f32) (x5 : Vec Ideal S16x32x256 .f32)
  (x7 : Vec Ideal S4x128x256 .f32) (x8 : Vec Ideal S16x32x256 .f32)

theorem q1 : kernelRun0_A.sl.v73 c b2 h2 s x1 = plane (N := 128) (D := 4) x1 0 ∧ kernelRun0_A.sl.v75 c b2 h2 s x1 = plane (N := 128) (D := 4) x1 1 :=
  ⟨Eq.trans (by sl_kernel_rfl) (read4 b2 h2 x1 s [] 0), Eq.trans (by sl_kernel_rfl) (read4 b2 h2 x1 s [] 1)⟩

theorem q2 : kernelRun0_A.sl.v259 c b2 h2 b3 h3 s x1 x2 = plane (N := 32) (D := 16) x2 0
    ∧ kernelRun0_A.sl.v261 c b2 h2 b3 h3 s x1 x2 = plane (N := 32) (D := 16) x2 1 :=
  ⟨Eq.trans (by sl_kernel_rfl) (read16 b3 h3 x2 s (kernelRun0_A.sl.HS0_8 c b2 h2 x1) 0),
    Eq.trans (by sl_kernel_rfl) (read16 b3 h3 x2 s (kernelRun0_A.sl.HS0_8 c b2 h2 x1) 1)⟩
theorem k1 : kernelRun0_A.sl.v348 c b2 h2 b3 h3 b5 h5 s x1 x2 x4 = plane (N := 128) (D := 4) x4 0
    ∧ kernelRun0_A.sl.v350 c b2 h2 b3 h3 b5 h5 s x1 x2 x4 = plane (N := 128) (D := 4) x4 1 :=
  ⟨Eq.trans (by sl_kernel_rfl) (read4 b5 h5 x4 s (kernelRun0_A.sl.HS0_40 c b2 h2 b3 h3 x1 x2) 0),
    Eq.trans (by sl_kernel_rfl) (read4 b5 h5 x4 s (kernelRun0_A.sl.HS0_40 c b2 h2 b3 h3 x1 x2) 1)⟩
theorem k2 : kernelRun0_A.sl.v534 c b2 h2 b3 h3 b5 h5 b6 h6 s x1 x2 x4 x5 = plane (N := 32) (D := 16) x5 0
    ∧ kernelRun0_A.sl.v536 c b2 h2 b3 h3 b5 h5 b6 h6 s x1 x2 x4 x5 = plane (N := 32) (D := 16) x5 1 :=
  ⟨Eq.trans (by sl_kernel_rfl) (read16 b6 h6 x5 s (kernelRun0_A.sl.HS0_48 c b2 h2 b3 h3 b5 h5 x1 x2 x4) 0),
    Eq.trans (by sl_kernel_rfl) (read16 b6 h6 x5 s (kernelRun0_A.sl.HS0_48 c b2 h2 b3 h3 b5 h5 x1 x2 x4) 1)⟩
theorem v1 : kernelRun0_A.sl.v606 c b2 h2 b3 h3 b5 h5 b6 h6 b8 h8 s x1 x2 x4 x5 x7 = plane (N := 128) (D := 4) x7 0
    ∧ kernelRun0_A.sl.v608 c b2 h2 b3 h3 b5 h5 b6 h6 b8 h8 s x1 x2 x4 x5 x7 = plane (N := 128) (D := 4) x7 1 :=
  ⟨Eq.trans (by sl_kernel_rfl) (read4 b8 h8 x7 s (kernelRun0_A.sl.HS0_80 c b2 h2 b3 h3 b5 h5 b6 h6 x1 x2 x4 x5) 0),
    Eq.trans (by sl_kernel_rfl) (read4 b8 h8 x7 s (kernelRun0_A.sl.HS0_80 c b2 h2 b3 h3 b5 h5 b6 h6 x1 x2 x4 x5) 1)⟩
theorem v2 : kernelRun0_A.sl.v775 c b2 h2 b3 h3 b5 h5 b6 h6 b8 h8 b9 h9 s x1 x2 x4 x5 x7 x8 = plane (N := 32) (D := 16) x8 0
    ∧ kernelRun0_A.sl.v777 c b2 h2 b3 h3 b5 h5 b6 h6 b8 h8 b9 h9 s x1 x2 x4 x5 x7 x8 = plane (N := 32) (D := 16) x8 1 :=
  ⟨Eq.trans (by sl_kernel_rfl) (read16 b9 h9 x8 s (kernelRun0_A.sl.HS0_88 c b2 h2 b3 h3 b5 h5 b6 h6 b8 h8 x1 x2 x4 x5 x7) 0),
    Eq.trans (by sl_kernel_rfl) (read16 b9 h9 x8 s (kernelRun0_A.sl.HS0_88 c b2 h2 b3 h3 b5 h5 b6 h6 b8 h8 x1 x2 x4 x5 x7) 1)⟩

end Cert.JoinPlanes

end
-- ==== Proof.JoinRun.lean ====
module

public import proofs.«01_k».proof.Proof.JoinPlanes

@[expose] public section

set_option maxRecDepth 16384

noncomputable section

/- The body's arithmetic: the rotation's gradient of one block of 256 columns, and a point's block of the result, by
   its thirteen stores. -/
namespace Cert.JoinRun

open Idealize.ShloMosaic Idealize.ShloMosaic.TcCoe Idealize.SL.Sem StridedRows
open Cert.JoinTile Cert.JoinPlanes Cert.KJoinIdeal Cert.KJoinIdeal.Gen

/-- A column's place in its block of 128, and the column n places on, around that block. -/
def lane {n : ℕ} (k : Fin n) : Fin 128 := ⟨k.val % 128, Nat.mod_lt _ (by decide)⟩
def around {n : ℕ} (h : n % 128 = 0) (d : ℕ) (k : Fin n) : Fin n := ⟨128 * (k.val / 128) + (k.val % 128 + d) % 128, by have := k.isLt; omega⟩

/-- A row turned: its own entry and the two eight places away, each by its table. -/
def turn {n : ℕ} (h : n % 128 = 0) (G : Fin n → EReal) (c s s' : Fin 128 → EReal) (k : Fin n) : EReal :=
  G k * c (lane k) + G (around h 8 k) * -s (lane k) + G (around h 120 k) * -s' (lane k)

/-- As the body computes it: the two halves of a block, each against the tables. -/
def turnHalf (x c s s' : FVec Ideal S512x128 .f32) : FVec Ideal S512x128 .f32 :=
  addf (addf (mulf x c) (mulf (dynamicRotate 1 120#32 none x rotates_S512x128_d1) s)) (mulf (dynamicRotate 1 8#32 none x rotates_S512x128_d1) s')
def turned (x : FVec Ideal S512x256 .f32) (c s s' : Vec Ideal S512x128 .f32) : FVec Ideal S512x256 .bf16 :=
  shapeCast S512x256 (truncf .bf16 (concatenate S512x256 1
    [⟨S512x128, turnHalf (extractStridedSlice S512x128 ![0, 0] x slices_S512x256_o0_0_S512x128) (k0_pay4 c) (k0_pay5 s) (k0_pay6 s')⟩,
     ⟨S512x128, turnHalf (extractStridedSlice S512x128 ![0, 128] x slices_S512x256_o0_128_S512x128) (k0_pay4 c) (k0_pay5 s) (k0_pay6 s')⟩]
    concatenates_S512x128_S512x128_S512x256_d1) bitsLt_bf16_f32) shapeCasts_S512x256_S512x256

/-- Two planes side by side, and a block whose residue is one. -/
def beside (u v : Vec Ideal S1x512x128 .f32) : FVec Ideal S512x256 .f32 :=
  concatenate S512x256 1 [⟨S512x128, shapeCast S512x128 u shapeCasts_S1x512x128_S512x128⟩, ⟨S512x128, shapeCast S512x128 v shapeCasts_S1x512x128_S512x128⟩]
    concatenates_S512x128_S512x128_S512x256_d1
def only (x : Vec Ideal S1x512x256 .f32) : FVec Ideal S512x256 .f32 := shapeCast S512x256 x shapeCasts_S1x512x256_S512x256
def rounded (x : FVec Ideal S512x256 .f32) : FVec Ideal S512x256 .bf16 := shapeCast S512x256 (truncf .bf16 x bitsLt_bf16_f32) shapeCasts_S512x256_S512x256

theorem turned_apply (x : FVec Ideal S512x256 .f32) (c s s' : Vec Ideal S512x128 .f32) (i : Fin 512) (k : Fin 256) :
    turned x c s s' (ix2 i k) = turn rfl (fun k => x (ix2 i k)) (fun l => c (ix2 i l)) (fun l => s (ix2 i l)) (fun l => s' (ix2 i l)) k := by
  pointwise! [turned, turnHalf, k0_pay4, k0_pay5, k0_pay6, turn, lane, around]
  have hk := k.isLt
  have hs (x : EReal) : 0 - x = -x := zero_sub x
  have term (g : Fin 128 → EReal) (a b : Fin 256) (l l' : Fin 128) (h : a.val = b.val) (h' : l.val = l'.val) : x (ix2 i a) * g l = x (ix2 i b) * g l' := by
    rw [Fin.ext h, Fin.ext h']
  split <;> simp only [hs] <;> exact congrArg₂ (fun u v : EReal => u + v) (congrArg₂ (fun u v : EReal => u + v)
    (term (fun l => c (ix2 i l)) _ _ _ _ (by first | rfl | (dsimp only; omega)) (by first | rfl | (dsimp only; omega)))
    (term (fun l => -s (ix2 i l)) _ _ _ _ (by first | rfl | (dsimp only; omega)) (by first | rfl | (dsimp only; omega))))
    (term (fun l => -s' (ix2 i l)) _ _ _ _ (by first | rfl | (dsimp only; omega)) (by first | rfl | (dsimp only; omega)))

theorem rounded_apply (x : FVec Ideal S512x256 .f32) (i : Fin 512) (k : Fin 256) : rounded x (ix2 i k) = x (ix2 i k) := by
  pointwise! [rounded]
theorem only_apply (x : Vec Ideal S1x512x256 .f32) (i : Fin 512) (k : Fin 256) : only x (ix2 i k) = x (ix3 0 i k) := by
  pointwise! [only]
theorem beside_apply {N D : ℕ} (X : (Split D N).Idx → EReal) (e : N * D = 512) (u v : Vec Ideal S1x512x128 .f32)
    (hu : ∀ i l, u (ix3 0 i l) = inOrder X (i.cast e.symm) (half 0 l)) (hv : ∀ i l, v (ix3 0 i l) = inOrder X (i.cast e.symm) (half 1 l))
    (i : Fin 512) (k : Fin 256) : beside u v (ix2 i k) = inOrder X (i.cast e.symm) k := by
  have h : beside u v (ix2 i k) = if h : k.val < 128 then u (ix3 0 i ⟨k.val, h⟩) else v (ix3 0 i ⟨k.val - 128, by omega⟩) := by
    pointwise! [beside]
  rw [h]
  have hk := k.isLt
  split
  · rw [hu]; exact congrArg _ (Fin.ext (show 128 * (0 % 2) + k.val = k.val by omega))
  · rw [hv]; exact congrArg _ (Fin.ext (show 128 * (1 % 2) + (k.val - 128) = k.val by omega))

end Cert.JoinRun

end
-- ==== Proof.JoinBlock.lean ====
module

public import proofs.«01_k».proof.Proof.JoinRun
public import Idealize.ShloMosaic.Lib.VecWindow

@[expose] public section

set_option maxRecDepth 16384

noncomputable section

/- A point's block of the result, by its thirteen stores. -/
namespace Cert.JoinBlock

open Idealize.ShloMosaic Idealize.ShloMosaic.TcCoe Idealize.SL.Sem StridedRows
open Cert.JoinTile Cert.JoinPlanes Cert.JoinRun Cert.KJoinIdeal Cert.KJoinIdeal.Gen

/-- A row of three groups of heads, and a row of the result: queries and keys turned, values, the three gradients of the
    other mixer, the gates' gradient. -/
def three (a b d : Fin 256 → EReal) (n : Fin 768) : EReal :=
  if h : n.val < 256 then a ⟨n.val, h⟩ else if h : n.val < 512 then b ⟨n.val - 256, by omega⟩ else d ⟨n.val - 512, by omega⟩
def gathered (q k v : Fin 768 → EReal) (b b' b'' : Fin 256 → EReal) (g : Fin 2048 → EReal) (c s s' : Fin 128 → EReal) (n : Fin 5120) : EReal :=
  if h : n.val < 768 then turn rfl q c s s' ⟨n.val, h⟩
  else if h : n.val < 1536 then turn rfl k c s s' ⟨n.val - 768, by omega⟩
  else if h : n.val < 2304 then v ⟨n.val - 1536, by omega⟩
  else if h : n.val < 2560 then b ⟨n.val - 2304, by omega⟩
  else if h : n.val < 2816 then b' ⟨n.val - 2560, by omega⟩
  else if h : n.val < 3072 then b'' ⟨n.val - 2816, by omega⟩
  else g ⟨n.val - 3072, by omega⟩

theorem three_0 (a b d : Fin 256 → EReal) (n : Fin 768) (k : Fin 256) (e : n.val = k.val) : three a b d n = a k := by
  have := k.isLt; unfold three; rw [dif_pos (by omega)]; exact congrArg a (Fin.ext e)
theorem three_1 (a b d : Fin 256 → EReal) (n : Fin 768) (k : Fin 256) (e : n.val = 256 + k.val) : three a b d n = b k := by
  have := k.isLt; unfold three; rw [dif_neg (by omega), dif_pos (by omega)]; exact congrArg b (Fin.ext (by dsimp only; omega))
theorem three_2 (a b d : Fin 256 → EReal) (n : Fin 768) (k : Fin 256) (e : n.val = 512 + k.val) : three a b d n = d k := by
  have := k.isLt; unfold three; rw [dif_neg (by omega), dif_neg (by omega)]; exact congrArg d (Fin.ext (by dsimp only; omega))

/-- The turn stays inside a block of 128 columns, so inside a group. -/
theorem turn_group (o : ℕ) (ho : o % 128 = 0) (G : Fin 768 → EReal) (H : Fin 256 → EReal) (c s s' : Fin 128 → EReal)
    (hG : ∀ (n : Fin 768) (k : Fin 256), n.val = o + k.val → G n = H k) (n : Fin 768) (k : Fin 256) (e : n.val = o + k.val) :
    turn rfl G c s s' n = turn rfl H c s s' k := by
  have hl : lane n = lane k := Fin.ext (by simp only [lane]; omega)
  unfold turn
  rw [hl, hG n k e, hG (around _ 8 n) (around _ 8 k) (by simp only [around]; omega), hG (around _ 120 n) (around _ 120 k) (by simp only [around]; omega)]

section stores

variable {w : ℕ}

theorem colRect_inb {o w : ℕ} (h : o + w ≤ 5120) (a : Fin 2) : (![0, o] : Fin 2 → ℕ) a + (![512, w] : Fin 2 → ℕ) a ≤ S512x5120.size a := by
  match a with
  | ⟨0, _⟩ => show 0 + 512 ≤ 512; omega
  | ⟨1, _⟩ => exact h
/-- The columns from o on, w of them. -/
def colRect (o w : ℕ) (h : o + w ≤ 5120) : Rect S512x5120 := Rect.unit ![0, o] ![512, w] (colRect_inb h)
def store (o w : ℕ) (h : o + w ≤ 5120) (P : (⟨2, ![512, w]⟩ : Shape).Idx → EReal) : View.Piece (Elt Ideal) S512x5120 .bf16 := ⟨colRect o w h, P⟩

theorem store_eq (o w : ℕ) (h : o + w ≤ 5120) (P : (⟨2, ![512, w]⟩ : Shape).Idx → EReal) (row : Fin 512 → Fin 5120 → EReal)
    (hP : ∀ (i : Fin 512) (k : Fin w), P (ix2 i k) = row i ⟨o + k.val, by have := k.isLt; omega⟩) (x : (⟨2, ![512, w]⟩ : Shape).Idx) :
    (store o w h P).2 x = (fun y : S512x5120.Idx => row (y 0) (y 1)) ((store o w h P).1.emb x) := by
  refine (congrArg P (eq_ix2 x)).trans ((hP (x 0) (x 1)).trans (congrArg₂ row (Fin.ext ?_) (Fin.ext ?_)))
  · show (x 0).val = 0 + 1 * (x 0).val; omega
  · show o + (x 1).val = o + 1 * (x 1).val; omega
theorem mem_store (o w : ℕ) (h : o + w ≤ 5120) (P : (⟨2, ![512, w]⟩ : Shape).Idx → EReal) (y : S512x5120.Idx)
    (h1 : o ≤ (y 1).val) (h2 : (y 1).val < o + w) : y ∈ (store o w h P).1.set := by
  refine (LoadRect.mem_set _).2 fun a => ?_
  match a with
  | ⟨0, _⟩ => exact ⟨(y 0).val, (y 0).isLt, show (y 0).val = 0 + 1 * (y 0).val by omega⟩
  | ⟨1, _⟩ => exact ⟨(y 1).val - o, show (y 1).val - o < w by omega, show (y 1).val = o + 1 * ((y 1).val - o) by omega⟩

theorem mem_store_iff (o w : ℕ) (h : o + w ≤ 5120) (P : (⟨2, ![512, w]⟩ : Shape).Idx → EReal) (y : S512x5120.Idx) :
    y ∈ (store o w h P).1.set ↔ o ≤ (y 1).val ∧ (y 1).val < o + w := by
  refine ⟨fun hy => ?_, fun hy => mem_store o w h P y hy.1 hy.2⟩
  obtain ⟨j, hj, e⟩ := (LoadRect.mem_set _).1 hy 1
  have hj' : j < w := hj
  have e' : (y 1).val = o + 1 * j := e
  omega

end stores

/-- A block read whole. -/
abbrev all2 {a b : ℕ} {e : EltTy} (r : Memref sig .tc .vmem ⟨2, ![a, b]⟩ e) (h : r.IsWhole) (X : Vec Ideal ⟨2, ![a, b]⟩ e)
    (inb : ∀ d, (![0, 0] : Fin 2 → ℕ) d + (⟨2, ![a, b]⟩ : Shape).size d ≤ (⟨2, ![a, b]⟩ : Shape).size d) : Vec Ideal ⟨2, ![a, b]⟩ e :=
  View.readAt (Elt Ideal) r.view (Rect.unit ![0, 0] (⟨2, ![a, b]⟩ : Shape).size inb).toLoadRect (h.unread X)
theorem all2_eq {a b : ℕ} {e : EltTy} (r : Memref sig .tc .vmem ⟨2, ![a, b]⟩ e) (h : r.IsWhole) (X : Vec Ideal ⟨2, ![a, b]⟩ e)
    (inb : ∀ d, (![0, 0] : Fin 2 → ℕ) d + (⟨2, ![a, b]⟩ : Shape).size d ≤ (⟨2, ![a, b]⟩ : Shape).size d) : all2 r h X inb = X :=
  (View.readAt_full r.view (h.unread X) inb).trans (h.read_unread X)
abbrev all3 (r : Memref sig .tc .vmem S1x512x256 .f32) (h : r.IsWhole) (X : Vec Ideal S1x512x256 .f32) : Vec Ideal S1x512x256 .f32 :=
  View.readAt (Elt Ideal) r.view (Rect.unit ![0, 0, 0] S1x512x256.size inb_S1x512x256_S1x512x256_0_0_0).toLoadRect (h.unread X)
theorem all3_eq (r : Memref sig .tc .vmem S1x512x256 .f32) (h : r.IsWhole) (X : Vec Ideal S1x512x256 .f32) : all3 r h X = X :=
  (View.readAt_full r.view (h.unread X) _).trans (h.read_unread X)

/- A row of the result, part by part. -/
section parts

variable (q k v : Fin 768 → EReal) (b b' b'' : Fin 256 → EReal) (g : Fin 2048 → EReal) (c s s' : Fin 128 → EReal) (n : Fin 5120)

theorem part_q (m : Fin 768) (e : n.val = m.val) : gathered q k v b b' b'' g c s s' n = turn rfl q c s s' m := by
  have := m.isLt; unfold gathered; rw [dif_pos (by omega)]; exact congrArg _ (Fin.ext e)
theorem part_k (m : Fin 768) (e : n.val = 768 + m.val) : gathered q k v b b' b'' g c s s' n = turn rfl k c s s' m := by
  have := m.isLt; unfold gathered; rw [dif_neg (by omega), dif_pos (by omega)]; exact congrArg _ (Fin.ext (by dsimp only; omega))
theorem part_v (m : Fin 768) (e : n.val = 1536 + m.val) : gathered q k v b b' b'' g c s s' n = v m := by
  have := m.isLt; unfold gathered; rw [dif_neg (by omega), dif_neg (by omega), dif_pos (by omega)]; exact congrArg _ (Fin.ext (by dsimp only; omega))
theorem part_b (m : Fin 256) (e : n.val = 2304 + m.val) : gathered q k v b b' b'' g c s s' n = b m := by
  have := m.isLt; unfold gathered; rw [dif_neg (by omega), dif_neg (by omega), dif_neg (by omega), dif_pos (by omega)]; exact congrArg _ (Fin.ext (by dsimp only; omega))
theorem part_b' (m : Fin 256) (e : n.val = 2560 + m.val) : gathered q k v b b' b'' g c s s' n = b' m := by
  have := m.isLt; unfold gathered; rw [dif_neg (by omega), dif_neg (by omega), dif_neg (by omega), dif_neg (by omega), dif_pos (by omega)]; exact congrArg _ (Fin.ext (by dsimp only; omega))
theorem part_b'' (m : Fin 256) (e : n.val = 2816 + m.val) : gathered q k v b b' b'' g c s s' n = b'' m := by
  have := m.isLt; unfold gathered; rw [dif_neg (by omega), dif_neg (by omega), dif_neg (by omega), dif_neg (by omega), dif_neg (by omega), dif_pos (by omega)]; exact congrArg _ (Fin.ext (by dsimp only; omega))
theorem part_g (m : Fin 2048) (e : n.val = 3072 + m.val) : gathered q k v b b' b'' g c s s' n = g m := by
  have := m.isLt; unfold gathered; rw [dif_neg (by omega), dif_neg (by omega), dif_neg (by omega), dif_neg (by omega), dif_neg (by omega), dif_neg (by omega)]; exact congrArg _ (Fin.ext (by dsimp only; omega))

end parts

/-- One group of columns turned is the row turned at the group's columns. -/
theorem turned_group (o : ℕ) (ho : o % 128 = 0) (X : FVec Ideal S512x256 .f32) (T T' T'' c s s' : Vec Ideal S512x128 .f32) (i : Fin 512)
    (G : Fin 768 → EReal) (hc : T = c) (hs : T' = s) (hs' : T'' = s')
    (hG : ∀ (n : Fin 768) (k : Fin 256), n.val = o + k.val → G n = X (ix2 i k)) (k : Fin 256) (n : Fin 768) (e : n.val = o + k.val) :
    turned X T T' T'' (ix2 i k) = turn rfl G (fun l => c (ix2 i l)) (fun l => s (ix2 i l)) (fun l => s' (ix2 i l)) n := by
  subst hc hs hs'
  exact (turned_apply X T T' T'' i k).trans (turn_group o ho G _ _ _ _ hG n k e).symm

theorem gates_apply (x : Vec Ideal S512x2048 .bf16) (i : Fin 512) (k : Fin 2048) : k0_pay3 x (ix2 i k) = x (ix2 i k) := by
  pointwise! [k0_pay3]

section block

variable (c : Dev nD) (i : grid0.Coords)
  (b1 : Memref sig .tc .vmem S1x512x256 .f32) (h1 : b1.IsWhole) (b2 : Memref sig .tc .vmem S4x128x256 .f32) (h2 : b2.IsWhole) (b3 : Memref sig .tc .vmem S16x32x256 .f32) (h3 : b3.IsWhole)
  (b4 : Memref sig .tc .vmem S1x512x256 .f32) (h4 : b4.IsWhole) (b5 : Memref sig .tc .vmem S4x128x256 .f32) (h5 : b5.IsWhole) (b6 : Memref sig .tc .vmem S16x32x256 .f32) (h6 : b6.IsWhole)
  (b7 : Memref sig .tc .vmem S1x512x256 .f32) (h7 : b7.IsWhole) (b8 : Memref sig .tc .vmem S4x128x256 .f32) (h8 : b8.IsWhole) (b9 : Memref sig .tc .vmem S16x32x256 .f32) (h9 : b9.IsWhole)
  (b10 : Memref sig .tc .vmem S512x256 .f32) (h10 : b10.IsWhole) (b11 : Memref sig .tc .vmem S512x256 .f32) (h11 : b11.IsWhole) (b12 : Memref sig .tc .vmem S512x256 .f32) (h12 : b12.IsWhole)
  (b13 : Memref sig .tc .vmem S512x2048 .bf16) (h13 : b13.IsWhole) (b14 : Memref sig .tc .vmem S512x128 .f32) (h14 : b14.IsWhole) (b15 : Memref sig .tc .vmem S512x128 .f32) (h15 : b15.IsWhole)
  (b16 : Memref sig .tc .vmem S512x128 .f32) (h16 : b16.IsWhole) (b17 : Memref sig .tc .vmem S512x5120 .bf16) (h17 : b17.IsWhole) (b18 : Memref sig .tc .vmem S4x512x128 .f32) (h18 : b18.IsWhole)

  (x0 : Vec Ideal S1x512x256 .f32) (x1 : Vec Ideal S4x128x256 .f32) (x2 : Vec Ideal S16x32x256 .f32) (x3 : Vec Ideal S1x512x256 .f32)
  (x4 : Vec Ideal S4x128x256 .f32) (x5 : Vec Ideal S16x32x256 .f32) (x6 : Vec Ideal S1x512x256 .f32) (x7 : Vec Ideal S4x128x256 .f32)
  (x8 : Vec Ideal S16x32x256 .f32) (x9 : Vec Ideal S512x256 .f32) (x10 : Vec Ideal S512x256 .f32) (x11 : Vec Ideal S512x256 .f32)
  (x12 : Vec Ideal S512x2048 .bf16) (x13 : Vec Ideal S512x128 .f32) (x14 : Vec Ideal S512x128 .f32) (x15 : Vec Ideal S512x128 .f32)

/-- The thirteen stores, the last first. -/
theorem stores_eq : (kernelRun0_A (F := Ideal) c i b1 h1 b2 h2 b3 h3 b4 h4 b5 h5 b6 h6 b7 h7 b8 h8 b9 h9 b10 h10 b11 h11 b12 h12 b13 h13 b14 h14 b15 h15 b16 h16 b17 h17 b18 h18 x0 x1 x2 x3 x4 x5 x6 x7 x8 x9 x10 x11 x12 x13 x14 x15).1 =
    [store 3072 2048 (by decide) (k0_pay3 (all2 b13 h13 x12 inb_S512x2048_S512x2048_0_0)),
     store 2816 256 (by decide) (rounded (all2 b12 h12 x11 inb_S512x256_S512x256_0_0)),
     store 2560 256 (by decide) (rounded (all2 b11 h11 x10 inb_S512x256_S512x256_0_0)),
     store 2304 256 (by decide) (rounded (all2 b10 h10 x9 inb_S512x256_S512x256_0_0)),
     store 2048 256 (by decide) (rounded (beside (kernelRun0_A.sl.v775 c b2 h2 b3 h3 b5 h5 b6 h6 b8 h8 b9 h9 b18 x1 x2 x4 x5 x7 x8) (kernelRun0_A.sl.v777 c b2 h2 b3 h3 b5 h5 b6 h6 b8 h8 b9 h9 b18 x1 x2 x4 x5 x7 x8))),
     store 1792 256 (by decide) (rounded (beside (kernelRun0_A.sl.v606 c b2 h2 b3 h3 b5 h5 b6 h6 b8 h8 b18 x1 x2 x4 x5 x7) (kernelRun0_A.sl.v608 c b2 h2 b3 h3 b5 h5 b6 h6 b8 h8 b18 x1 x2 x4 x5 x7))),
     store 1536 256 (by decide) (rounded (only (all3 b7 h7 x6))),
     store 1280 256 (by decide) (turned (beside (kernelRun0_A.sl.v534 c b2 h2 b3 h3 b5 h5 b6 h6 b18 x1 x2 x4 x5) (kernelRun0_A.sl.v536 c b2 h2 b3 h3 b5 h5 b6 h6 b18 x1 x2 x4 x5)) (all2 b14 h14 x13 inb_S512x128_S512x128_0_0) (all2 b15 h15 x14 inb_S512x128_S512x128_0_0) (all2 b16 h16 x15 inb_S512x128_S512x128_0_0)),
     store 1024 256 (by decide) (turned (beside (kernelRun0_A.sl.v348 c b2 h2 b3 h3 b5 h5 b18 x1 x2 x4) (kernelRun0_A.sl.v350 c b2 h2 b3 h3 b5 h5 b18 x1 x2 x4)) (all2 b14 h14 x13 inb_S512x128_S512x128_0_0) (all2 b15 h15 x14 inb_S512x128_S512x128_0_0) (all2 b16 h16 x15 inb_S512x128_S512x128_0_0)),
     store 768 256 (by decide) (turned (only (all3 b4 h4 x3)) (all2 b14 h14 x13 inb_S512x128_S512x128_0_0) (all2 b15 h15 x14 inb_S512x128_S512x128_0_0) (all2 b16 h16 x15 inb_S512x128_S512x128_0_0)),
     store 512 256 (by decide) (turned (beside (kernelRun0_A.sl.v259 c b2 h2 b3 h3 b18 x1 x2) (kernelRun0_A.sl.v261 c b2 h2 b3 h3 b18 x1 x2)) (all2 b14 h14 x13 inb_S512x128_S512x128_0_0) (all2 b15 h15 x14 inb_S512x128_S512x128_0_0) (all2 b16 h16 x15 inb_S512x128_S512x128_0_0)),
     store 256 256 (by decide) (turned (beside (kernelRun0_A.sl.v73 c b2 h2 b18 x1) (kernelRun0_A.sl.v75 c b2 h2 b18 x1)) (all2 b14 h14 x13 inb_S512x128_S512x128_0_0) (all2 b15 h15 x14 inb_S512x128_S512x128_0_0) (all2 b16 h16 x15 inb_S512x128_S512x128_0_0)),
     store 0 256 (by decide) (turned (only (all3 b1 h1 x0)) (all2 b14 h14 x13 inb_S512x128_S512x128_0_0) (all2 b15 h15 x14 inb_S512x128_S512x128_0_0) (all2 b16 h16 x15 inb_S512x128_S512x128_0_0))] := by
  sl_kernel_rfl

/-- A row of the block. -/
def blockRow (i : Fin 512) : Fin 5120 → EReal :=
  gathered (three (fun k => x0 (ix3 0 i k)) (inOrder (N := 128) (D := 4) x1 i) (inOrder (N := 32) (D := 16) x2 i))
    (three (fun k => x3 (ix3 0 i k)) (inOrder (N := 128) (D := 4) x4 i) (inOrder (N := 32) (D := 16) x5 i))
    (three (fun k => x6 (ix3 0 i k)) (inOrder (N := 128) (D := 4) x7 i) (inOrder (N := 32) (D := 16) x8 i))
    (fun k => x9 (ix2 i k)) (fun k => x10 (ix2 i k)) (fun k => x11 (ix2 i k)) (fun k => x12 (ix2 i k))
    (fun l => x13 (ix2 i l)) (fun l => x14 (ix2 i l)) (fun l => x15 (ix2 i l))

theorem out_eq (y : S512x5120.Idx) : out0_A_16 (F := Ideal) c i b1 h1 b2 h2 b3 h3 b4 h4 b5 h5 b6 h6 b7 h7 b8 h8 b9 h9 b10 h10 b11 h11 b12 h12 b13 h13 b14 h14 b15 h15 b16 h16 b17 h17 b18 h18 x0 x1 x2 x3 x4 x5 x6 x7 x8 x9 x10 x11 x12 x13 x14 x15 y = blockRow x0 x1 x2 x3 x4 x5 x6 x7 x8 x9 x10 x11 x12 x13 x14 x15 (y 0) (y 1) := by
  refine (View.read_writes_junk_apply_eq_canon _ _ _).trans ?_
  rw [stores_eq]
  let row := blockRow x0 x1 x2 x3 x4 x5 x6 x7 x8 x9 x10 x11 x12 x13 x14 x15
  refine View.canon_apply_of_pieces (Val := Elt Ideal) (e := .bf16) (fun y : S512x5120.Idx => row (y 0) (y 1)) _ ?_ y ?_
  · exact List.forall_mem_cons.2 ⟨store_eq _ _ _ _ row fun i k => (gates_apply _ i k).trans ((congrFun (all2_eq b13 h13 x12 _) (ix2 i k)).trans (part_g _ _ _ _ _ _ (fun k => x12 (ix2 i k)) _ _ _ ⟨3072 + k.val, by have := k.isLt; omega⟩ k rfl).symm),
    List.forall_mem_cons.2 ⟨store_eq _ _ _ _ row fun i k => (rounded_apply _ i k).trans ((congrFun (all2_eq b12 h12 x11 _) (ix2 i k)).trans (part_b'' _ _ _ _ _ (fun k => x11 (ix2 i k)) _ _ _ _ ⟨2816 + k.val, by have := k.isLt; omega⟩ k rfl).symm),
    List.forall_mem_cons.2 ⟨store_eq _ _ _ _ row fun i k => (rounded_apply _ i k).trans ((congrFun (all2_eq b11 h11 x10 _) (ix2 i k)).trans (part_b' _ _ _ _ (fun k => x10 (ix2 i k)) _ _ _ _ _ ⟨2560 + k.val, by have := k.isLt; omega⟩ k rfl).symm),
    List.forall_mem_cons.2 ⟨store_eq _ _ _ _ row fun i k => (rounded_apply _ i k).trans ((congrFun (all2_eq b10 h10 x9 _) (ix2 i k)).trans (part_b _ _ _ (fun k => x9 (ix2 i k)) _ _ _ _ _ _ ⟨2304 + k.val, by have := k.isLt; omega⟩ k rfl).symm),
    List.forall_mem_cons.2 ⟨store_eq _ _ _ _ row fun i k => (rounded_apply _ i k).trans ((beside_apply (N := 32) (D := 16) x8 rfl _ _ (fun i l => congrFun (v2 c b2 h2 b3 h3 b5 h5 b6 h6 b8 h8 b9 h9 b18 x1 x2 x4 x5 x7 x8).1 (ix3 0 i l)) (fun i l => congrFun (v2 c b2 h2 b3 h3 b5 h5 b6 h6 b8 h8 b9 h9 b18 x1 x2 x4 x5 x7 x8).2 (ix3 0 i l)) i k).trans ((three_2 _ _ _ ⟨512 + k.val, by have := k.isLt; omega⟩ k (by first | rfl | (dsimp only; omega))).symm.trans (part_v _ _ _ _ _ _ _ _ _ _ ⟨2048 + k.val, by have := k.isLt; omega⟩ _ (by first | rfl | (dsimp only; omega))).symm)),
    List.forall_mem_cons.2 ⟨store_eq _ _ _ _ row fun i k => (rounded_apply _ i k).trans ((beside_apply (N := 128) (D := 4) x7 rfl _ _ (fun i l => congrFun (v1 c b2 h2 b3 h3 b5 h5 b6 h6 b8 h8 b18 x1 x2 x4 x5 x7).1 (ix3 0 i l)) (fun i l => congrFun (v1 c b2 h2 b3 h3 b5 h5 b6 h6 b8 h8 b18 x1 x2 x4 x5 x7).2 (ix3 0 i l)) i k).trans ((three_1 _ _ _ ⟨256 + k.val, by have := k.isLt; omega⟩ k (by first | rfl | (dsimp only; omega))).symm.trans (part_v _ _ _ _ _ _ _ _ _ _ ⟨1792 + k.val, by have := k.isLt; omega⟩ _ (by first | rfl | (dsimp only; omega))).symm)),
    List.forall_mem_cons.2 ⟨store_eq _ _ _ _ row fun i k => (rounded_apply _ i k).trans (((only_apply _ i k).trans (congrFun (all3_eq b7 h7 x6) (ix3 0 i k))).trans ((three_0 (fun k => x6 (ix3 0 i k)) _ _ ⟨0 + k.val, by have := k.isLt; omega⟩ k (by first | rfl | (dsimp only; omega))).symm.trans (part_v _ _ _ _ _ _ _ _ _ _ ⟨1536 + k.val, by have := k.isLt; omega⟩ _ (by first | rfl | (dsimp only; omega))).symm)),
    List.forall_mem_cons.2 ⟨store_eq _ _ _ _ row fun i k => (turned_group 512 rfl _ _ _ _ x13 x14 x15 i _ (all2_eq b14 h14 x13 _) (all2_eq b15 h15 x14 _) (all2_eq b16 h16 x15 _) (fun n k e => (three_2 _ _ _ n k (by omega)).trans (beside_apply (N := 32) (D := 16) x5 rfl _ _ (fun i l => congrFun (k2 c b2 h2 b3 h3 b5 h5 b6 h6 b18 x1 x2 x4 x5).1 (ix3 0 i l)) (fun i l => congrFun (k2 c b2 h2 b3 h3 b5 h5 b6 h6 b18 x1 x2 x4 x5).2 (ix3 0 i l)) i k).symm) k ⟨512 + k.val, by have := k.isLt; omega⟩ rfl).trans (part_k _ _ _ _ _ _ _ _ _ _ _ _ (by first | rfl | (dsimp only; omega))).symm,
    List.forall_mem_cons.2 ⟨store_eq _ _ _ _ row fun i k => (turned_group 256 rfl _ _ _ _ x13 x14 x15 i _ (all2_eq b14 h14 x13 _) (all2_eq b15 h15 x14 _) (all2_eq b16 h16 x15 _) (fun n k e => (three_1 _ _ _ n k (by omega)).trans (beside_apply (N := 128) (D := 4) x4 rfl _ _ (fun i l => congrFun (k1 c b2 h2 b3 h3 b5 h5 b18 x1 x2 x4).1 (ix3 0 i l)) (fun i l => congrFun (k1 c b2 h2 b3 h3 b5 h5 b18 x1 x2 x4).2 (ix3 0 i l)) i k).symm) k ⟨256 + k.val, by have := k.isLt; omega⟩ rfl).trans (part_k _ _ _ _ _ _ _ _ _ _ _ _ (by first | rfl | (dsimp only; omega))).symm,
    List.forall_mem_cons.2 ⟨store_eq _ _ _ _ row fun i k => (turned_group 0 rfl _ _ _ _ x13 x14 x15 i _ (all2_eq b14 h14 x13 _) (all2_eq b15 h15 x14 _) (all2_eq b16 h16 x15 _) (fun n k e => (three_0 _ _ _ n k (by omega)).trans ((only_apply _ i k).trans (congrFun (all3_eq b4 h4 x3) (ix3 0 i k))).symm) k ⟨0 + k.val, by have := k.isLt; omega⟩ rfl).trans (part_k _ _ _ _ _ _ _ _ _ _ _ _ (by first | rfl | (dsimp only; omega))).symm,
    List.forall_mem_cons.2 ⟨store_eq _ _ _ _ row fun i k => (turned_group 512 rfl _ _ _ _ x13 x14 x15 i _ (all2_eq b14 h14 x13 _) (all2_eq b15 h15 x14 _) (all2_eq b16 h16 x15 _) (fun n k e => (three_2 _ _ _ n k (by omega)).trans (beside_apply (N := 32) (D := 16) x2 rfl _ _ (fun i l => congrFun (q2 c b2 h2 b3 h3 b18 x1 x2).1 (ix3 0 i l)) (fun i l => congrFun (q2 c b2 h2 b3 h3 b18 x1 x2).2 (ix3 0 i l)) i k).symm) k ⟨512 + k.val, by have := k.isLt; omega⟩ rfl).trans (part_q _ _ _ _ _ _ _ _ _ _ _ _ (by first | rfl | (dsimp only; omega))).symm,
    List.forall_mem_cons.2 ⟨store_eq _ _ _ _ row fun i k => (turned_group 256 rfl _ _ _ _ x13 x14 x15 i _ (all2_eq b14 h14 x13 _) (all2_eq b15 h15 x14 _) (all2_eq b16 h16 x15 _) (fun n k e => (three_1 _ _ _ n k (by omega)).trans (beside_apply (N := 128) (D := 4) x1 rfl _ _ (fun i l => congrFun (q1 c b2 h2 b18 x1).1 (ix3 0 i l)) (fun i l => congrFun (q1 c b2 h2 b18 x1).2 (ix3 0 i l)) i k).symm) k ⟨256 + k.val, by have := k.isLt; omega⟩ rfl).trans (part_q _ _ _ _ _ _ _ _ _ _ _ _ (by first | rfl | (dsimp only; omega))).symm,
    List.forall_mem_cons.2 ⟨store_eq _ _ _ _ row fun i k => (turned_group 0 rfl _ _ _ _ x13 x14 x15 i _ (all2_eq b14 h14 x13 _) (all2_eq b15 h15 x14 _) (all2_eq b16 h16 x15 _) (fun n k e => (three_0 _ _ _ n k (by omega)).trans ((only_apply _ i k).trans (congrFun (all3_eq b1 h1 x0) (ix3 0 i k))).symm) k ⟨0 + k.val, by have := k.isLt; omega⟩ rfl).trans (part_q _ _ _ _ _ _ _ _ _ _ _ _ (by first | rfl | (dsimp only; omega))).symm, List.forall_mem_nil _⟩⟩⟩⟩⟩⟩⟩⟩⟩⟩⟩⟩⟩
  · have hy : (y 1).val < 5120 := (y 1).isLt
    simp only [List.mem_cons, exists_eq_or_imp, exists_eq_left, List.not_mem_nil, false_and, exists_false, or_false, mem_store_iff]
    omega

end block

end Cert.JoinBlock

end
-- ==== Proof.JoinRef.lean ====
module

public import proofs.«01_k».proof.Proof.JoinTables
public import proofs.«01_k».proof.Proof.JoinBlock

@[expose] public section

set_option maxRecDepth 16384

noncomputable section

/- The gradient of the projection as the reference writes it: a sum of padded pieces, each column met by one of them. -/
namespace Cert.JoinRef

open Idealize.ShloMosaic Idealize.ShloMosaic.TcCoe Idealize.SL.Sem
open Cert.RJoinIdeal Cert.RJoinIdeal.Gen Cert.RJoinIdeal.Read Cert.JoinRun Cert.JoinBlock

/-- The tables the call is given, at one row. -/
def co (t : Fin 4096) (l : Fin 128) : EReal := JoinHost.tables (val_main_v16 (F := Ideal)) (val_main_v17 (F := Ideal)) (ix2 t ⟨l.val, by omega⟩)
def si (t : Fin 4096) (l : Fin 128) : EReal := JoinHost.tables (val_main_v16 (F := Ideal)) (val_main_v17 (F := Ideal)) (ix2 t ⟨128 + l.val, by omega⟩)
def si' (t : Fin 4096) (l : Fin 128) : EReal := JoinHost.tables (val_main_v16 (F := Ideal)) (val_main_v17 (F := Ideal)) (ix2 t ⟨256 + l.val, by omega⟩)

/-- The rotation's gradient in one head, by its three pieces. -/
theorem pieces (x : FVec Ideal S4096x768 .f32) (h : Fin 12) (t : Fin 4096) (s : Fin 64) : val_main_v107 (F := Ideal) x (ix3 h t s) =
    ((if h' : 16 ≤ s.val ∧ s.val - 16 < 48 then x (ix2 t ⟨h.val * 64 + (16 + (s.val - 16)), by omega⟩) else (0 : EReal))
      + (if h' : 8 ≤ s.val ∧ s.val - 8 < 8 then x (ix2 t ⟨h.val * 64 + (8 + (s.val - 8)), by omega⟩) * val_main_v16 (F := Ideal) (ix2 t ⟨s.val - 8, by omega⟩)
          + -x (ix2 t ⟨h.val * 64 + (s.val - 8), by omega⟩) * val_main_v17 (F := Ideal) (ix2 t ⟨s.val - 8, by omega⟩) else (0 : EReal)))
      + (if h' : s.val < 8 then x (ix2 t ⟨h.val * 64 + (8 + s.val), by omega⟩) * val_main_v17 (F := Ideal) (ix2 t ⟨s.val, by omega⟩)
          + x (ix2 t ⟨h.val * 64 + s.val, by omega⟩) * val_main_v16 (F := Ideal) (ix2 t ⟨s.val, by omega⟩) else (0 : EReal)) := by
  pointwise! [val_main_v107, val_main_v106, val_main_v105, val_main_v104, val_main_v103, val_main_v102, val_main_v101, val_main_v100, val_main_v99, val_main_v98, val_main_v97, val_main_v96, val_main_v95, val_main_v94,
    val_main_v93, val_main_v92, val_main_v91, val_main_v90, val_main_v89, val_main_v86, val_main_v85, val_main_v56, val_main_v53, val_main_v49, val_main_v46, val_main_cst_9, val_main_cst_10, val_main_cst_11]

/-- It is the row turned by the tables. -/
theorem head (x : FVec Ideal S4096x768 .f32) (t : Fin 4096) (n : Fin 768) (h : Fin 12) (s : Fin 64) (e : n.val = h.val * 64 + s.val) :
    val_main_v107 (F := Ideal) x (ix3 h t s) = turn rfl (fun k => x (ix2 t k)) (co t) (si t) (si' t) n := by
  have col (k k' : Fin 768) (e : k.val = k'.val) : x (ix2 t k) = x (ix2 t k') := congrArg (fun k => x (ix2 t k)) (Fin.ext e)
  have tab (f : FVec Ideal S4096x8 .f32) (k k' : Fin 8) (e : k.val = k'.val) : f (ix2 t k) = f (ix2 t k') := congrArg (fun k => f (ix2 t k)) (Fin.ext e)
  have hs := s.isLt
  have hh := h.isLt
  have hl : (lane n).val % 64 = s.val := by simp only [lane]; omega
  have hl' : (lane n).val % 8 = s.val % 8 := by simp only [lane]; omega
  rw [pieces, turn, co, si, si', JoinHost.tables_0, JoinHost.tables_1, JoinHost.tables_2]
  by_cases h8 : s.val < 8
  · rw [dif_neg (by omega), dif_neg (by omega), dif_pos h8, if_pos (by omega), if_pos (by omega), if_neg (by omega), neg_neg, neg_zero, mul_zero, add_zero, add_zero, zero_add, add_comm]
    refine congrArg₂ (fun u v : EReal => u + v) (congrArg₂ (fun u v : EReal => u * v) (col _ _ ?_) (tab _ _ _ ?_)) (congrArg₂ (fun u v : EReal => u * v) (col _ _ ?_) (tab _ _ _ ?_)) <;> simp only [around] <;> omega
  · by_cases h16 : s.val < 16
    · rw [dif_neg (by omega), dif_pos (by omega), dif_neg (by omega), if_pos (by omega), if_neg (by omega), if_pos (by omega), neg_zero, mul_zero, add_zero, add_zero, zero_add, EReal.neg_mul, ← mul_neg]
      refine congrArg₂ (fun u v : EReal => u + v) (congrArg₂ (fun u v : EReal => u * v) (col _ _ ?_) (tab _ _ _ ?_)) (congrArg₂ (fun u v : EReal => u * v) (col _ _ ?_) (congrArg _ (tab _ _ _ ?_))) <;> simp only [around] <;> omega
    · rw [dif_pos (by omega), dif_neg (by omega), dif_neg (by omega), if_neg (by omega), if_neg (by omega), if_neg (by omega), neg_zero, mul_zero, mul_zero, add_zero, add_zero, add_zero, add_zero, mul_one]
      exact col _ _ (by dsimp only; omega)

/-- A sum of padded pieces, each column met by one of them. -/
theorem meet (Q K V : Fin 12 → Fin 64 → EReal) (q k v : Fin 768 → EReal) (b b' b'' : Fin 256 → EReal) (g : Fin 2048 → EReal) (c s s' : Fin 128 → EReal)
    (hq : ∀ n h l, n.val = h.val * 64 + l.val → Q h l = turn rfl q c s s' n) (hk : ∀ n h l, n.val = h.val * 64 + l.val → K h l = turn rfl k c s s' n)
    (hv : ∀ (n : Fin 768) h l, n.val = h.val * 64 + l.val → V h l = v n) (n : Fin 5120) :
    (((((if h : 3072 ≤ n.val ∧ n.val - 3072 < 2048 then g ⟨n.val - 3072, h.2⟩ else 0)
      + if h : 2816 ≤ n.val ∧ n.val - 2816 < 256 then b'' ⟨n.val - 2816, h.2⟩ else 0)
      + if h : 2560 ≤ n.val ∧ n.val - 2560 < 256 then b' ⟨n.val - 2560, h.2⟩ else 0)
      + if h : 2304 ≤ n.val ∧ n.val - 2304 < 256 then b ⟨n.val - 2304, h.2⟩ else 0)
      + if h : n.val < 2304 then
          ((if h : (2 ≤ n.val / 768 ∧ n.val / 768 - 2 < 1) ∧ n.val / 64 % 12 < 12 ∧ n.val % 64 < 64 then V ⟨n.val / 64 % 12, h.2.1⟩ ⟨n.val % 64, h.2.2⟩ else 0)
            + if h : (1 ≤ n.val / 768 ∧ n.val / 768 - 1 < 1) ∧ n.val / 64 % 12 < 12 ∧ n.val % 64 < 64 then K ⟨n.val / 64 % 12, h.2.1⟩ ⟨n.val % 64, h.2.2⟩ else 0)
            + if h : n.val / 768 < 1 ∧ n.val / 64 % 12 < 12 ∧ n.val % 64 < 64 then Q ⟨n.val / 64 % 12, h.2.1⟩ ⟨n.val % 64, h.2.2⟩ else 0
        else 0) = gathered q k v b b' b'' g c s s' n := by
  have hn := n.isLt
  by_cases c1 : n.val < 2304
  · rw [dif_neg (by omega), dif_neg (by omega), dif_neg (by omega), dif_neg (by omega), dif_pos c1]
    by_cases c2 : n.val < 768
    · rw [dif_neg (by omega), dif_neg (by omega), dif_pos (by omega)]
      simp only [add_zero, zero_add]
      exact (hq ⟨n.val, c2⟩ _ _ (by dsimp only; omega)).trans (part_q _ _ _ _ _ _ _ _ _ _ n _ rfl).symm
    · by_cases c3 : n.val < 1536
      · rw [dif_neg (by omega), dif_pos (by omega), dif_neg (by omega)]
        simp only [add_zero, zero_add]
        exact (hk ⟨n.val - 768, by omega⟩ _ _ (by dsimp only; omega)).trans (part_k _ _ _ _ _ _ _ _ _ _ n _ (by dsimp only; omega)).symm
      · rw [dif_pos (by omega), dif_neg (by omega), dif_neg (by omega)]
        simp only [add_zero, zero_add]
        exact (hv ⟨n.val - 1536, by omega⟩ _ _ (by dsimp only; omega)).trans (part_v _ _ _ _ _ _ _ _ _ _ n _ (by dsimp only; omega)).symm
  · by_cases c2 : n.val < 2560
    · rw [dif_neg (by omega), dif_neg (by omega), dif_neg (by omega), dif_pos (by omega), dif_neg c1]
      simp only [add_zero, zero_add]
      exact (part_b _ _ _ b _ _ _ _ _ _ n _ (by dsimp only; omega)).symm
    · by_cases c3 : n.val < 2816
      · rw [dif_neg (by omega), dif_neg (by omega), dif_pos (by omega), dif_neg (by omega), dif_neg c1]
        simp only [add_zero, zero_add]
        exact (part_b' _ _ _ _ b' _ _ _ _ _ n _ (by dsimp only; omega)).symm
      · by_cases c4 : n.val < 3072
        · rw [dif_neg (by omega), dif_pos (by omega), dif_neg (by omega), dif_neg (by omega), dif_neg c1]
          simp only [add_zero, zero_add]
          exact (part_b'' _ _ _ _ _ b'' _ _ _ _ n _ (by dsimp only; omega)).symm
        · rw [dif_pos (by omega), dif_neg (by omega), dif_neg (by omega), dif_neg (by omega), dif_neg c1]
          simp only [add_zero, zero_add]
          exact (part_g _ _ _ _ _ _ g _ _ _ n _ (by dsimp only; omega)).symm

variable (x0 x1 x2 : FVec Ideal S4096x768 .f32) (x3 x4 x5 : FVec Ideal S4096x256 .f32) (x6 : FVec Ideal S4096x2048 .f32)

/-- The whole sum: every column is met by one piece. -/
theorem all (t : Fin 4096) (n : Fin 5120) : val_main_v137 (F := Ideal) x0 x1 x2 x3 x4 x5 x6 (ix2 t n) =
    gathered (fun k => x0 (ix2 t k)) (fun k => x1 (ix2 t k)) (fun k => x2 (ix2 t k)) (fun k => x3 (ix2 t k)) (fun k => x4 (ix2 t k)) (fun k => x5 (ix2 t k)) (fun k => x6 (ix2 t k))
      (co t) (si t) (si' t) n := by
  have hq := head x0 t
  have hk := head x1 t
  change ∀ n h s, _ → val_main_v129 (F := Ideal) x0 (ix3 h t s) = _ at hq
  unfold val_main_v137 val_main_v136 val_main_v135 val_main_v134 val_main_v133 val_main_v132 val_main_v131 val_main_v130 val_main_v110 val_main_v109 val_main_v108
  generalize val_main_v107 (F := Ideal) x1 = k at hk ⊢
  generalize val_main_v129 (F := Ideal) x0 = q at hq ⊢
  pointwise! [val_main_v84, val_main_v83, val_main_v82, val_main_v81, val_main_v80, val_main_v79, val_main_v78, val_main_v77, val_main_v76, val_main_v75, val_main_v74, val_main_cst_4, val_main_cst_5, val_main_cst_6,
    val_main_cst_7, val_main_cst_8, val_main_cst_12, val_main_cst_16, val_main_cst_17]
  exact meet (fun h l => q (ix3 h t l)) (fun h l => k (ix3 h t l)) (fun h l => x2 (ix2 t ⟨h.val * 64 + l.val, by omega⟩)) _ _ (fun k => x2 (ix2 t k)) (fun k => x3 (ix2 t k)) (fun k => x4 (ix2 t k)) (fun k => x5 (ix2 t k))
    (fun k => x6 (ix2 t k)) _ _ _ hq hk
    (fun n h l e => congrArg (fun k => x2 (ix2 t k)) (Fin.ext e.symm)) n

end Cert.JoinRef

end
-- ==== Proof.JoinKernel.lean ====
module

public import proofs.«01_k».proof.Proof.JoinRef

@[expose] public section

set_option maxRecDepth 16384

noncomputable section

/- The result of the call that joins the gradients, at one row. -/
namespace Cert.JoinKernel

open Idealize.ShloMosaic Idealize.ShloMosaic.TcCoe Idealize.SL.Sem
open Cert.JoinTile Cert.JoinRun Cert.JoinBlock Cert.JoinHost Cert.KJoinIdeal Cert.KJoinIdeal.Gen

variable (m : (ℓ : Loc nD τ sig) → Buf (Elt Ideal) ℓ)

/-- The three groups of a wide argument, split by residue and put back in order, are its row. -/
theorem back (a : FVec Ideal S4096x768 .f32) (r : Fin 4096) (x y z : Fin 256 → EReal)
    (hx : ∀ k, x k = split1 a (ix3 0 r k))
    (hy : ∀ k, y k = split4 a (ix3 ⟨r.val % 4, by omega⟩ ⟨r.val / 4, by omega⟩ k))
    (hz : ∀ k, z k = split16 a (ix3 ⟨r.val % 16, by omega⟩ ⟨r.val / 16, by omega⟩ k)) : three x y z = fun k => a (ix2 r k) := by
  funext n
  have hn := n.isLt
  have row (r' : Fin 4096) (n' : Fin 768) (e : r'.val = r.val) (e' : n'.val = n.val) : a (ix2 r' n') = a (ix2 r n) := by rw [Fin.ext e, Fin.ext e']
  by_cases h : n.val < 256
  · rw [three_0 x y z n ⟨n.val, h⟩ rfl, hx, split1_apply]
  · by_cases h' : n.val < 512
    · rw [three_1 x y z n ⟨n.val - 256, by omega⟩ (by dsimp only; omega), hy, split4_apply]
      exact row _ _ (by dsimp only; omega) (by dsimp only; omega)
    · rw [three_2 x y z n ⟨n.val - 512, by omega⟩ (by dsimp only; omega), hz, split16_apply]
      exact row _ _ (by dsimp only; omega) (by dsimp only; omega)

theorem at0 : ∀ t : Fin grid0.N,
    (win0_0.index t = ![0, t.val, 0] ∧ win0_1.index t = ![0, t.val, 0] ∧ win0_2.index t = ![0, t.val, 0])
    ∧ (win0_3.index t = ![0, t.val, 0] ∧ win0_4.index t = ![0, t.val, 0] ∧ win0_5.index t = ![0, t.val, 0])
    ∧ (win0_6.index t = ![0, t.val, 0] ∧ win0_7.index t = ![0, t.val, 0] ∧ win0_8.index t = ![0, t.val, 0])
    ∧ (win0_9.index t = ![t.val, 0] ∧ win0_10.index t = ![t.val, 0] ∧ win0_11.index t = ![t.val, 0]
    ∧ win0_12.index t = ![t.val, 0])
    ∧ (win0_13.index t = ![t.val, 0] ∧ win0_14.index t = ![t.val, 1] ∧ win0_15.index t = ![t.val, 2])
    ∧ win0_16.index t = ![t.val, 0] := by decide +kernel

/-- A point's blocks of the split arrays, of the narrow arguments and of the tables. -/
theorem b0 (c : Dev nD) (t : Fin cfg0.N) (i : Fin 512) (k : Fin 256) : (iblk m c 0 t : S1x512x256.Idx → EReal) (ix3 0 i k) = (V m c main_v2 : S1x4096x256.Idx → EReal) (ix3 0 ⟨t.val * 512 + i.val, by have : t.val < 8 := t.isLt; omega⟩ k) := by
  obtain ⟨⟨e, _, _⟩, -⟩ := at0 t
  show (V m c main_v2 : S1x4096x256.Idx → EReal) _ = _
  refine congrArg _ ?_; blk_ext [e]
theorem b1 (c : Dev nD) (t : Fin cfg0.N) (s : Fin 4) (i : Fin 128) (k : Fin 256) : (iblk m c 1 t : S4x128x256.Idx → EReal) (ix3 s i k) = (V m c main_v5 : S4x1024x256.Idx → EReal) (ix3 s ⟨t.val * 128 + i.val, by have : t.val < 8 := t.isLt; omega⟩ k) := by
  obtain ⟨⟨_, e, _⟩, -⟩ := at0 t
  show (V m c main_v5 : S4x1024x256.Idx → EReal) _ = _
  refine congrArg _ ?_; blk_ext [e]
theorem b2 (c : Dev nD) (t : Fin cfg0.N) (s : Fin 16) (i : Fin 32) (k : Fin 256) : (iblk m c 2 t : S16x32x256.Idx → EReal) (ix3 s i k) = (V m c main_v8 : S16x256x256.Idx → EReal) (ix3 s ⟨t.val * 32 + i.val, by have : t.val < 8 := t.isLt; omega⟩ k) := by
  obtain ⟨⟨_, _, e⟩, -⟩ := at0 t
  show (V m c main_v8 : S16x256x256.Idx → EReal) _ = _
  refine congrArg _ ?_; blk_ext [e]
theorem b3 (c : Dev nD) (t : Fin cfg0.N) (i : Fin 512) (k : Fin 256) : (iblk m c 3 t : S1x512x256.Idx → EReal) (ix3 0 i k) = (V m c main_v11 : S1x4096x256.Idx → EReal) (ix3 0 ⟨t.val * 512 + i.val, by have : t.val < 8 := t.isLt; omega⟩ k) := by
  obtain ⟨_, ⟨e, _, _⟩, -⟩ := at0 t
  show (V m c main_v11 : S1x4096x256.Idx → EReal) _ = _
  refine congrArg _ ?_; blk_ext [e]
theorem b4 (c : Dev nD) (t : Fin cfg0.N) (s : Fin 4) (i : Fin 128) (k : Fin 256) : (iblk m c 4 t : S4x128x256.Idx → EReal) (ix3 s i k) = (V m c main_v14 : S4x1024x256.Idx → EReal) (ix3 s ⟨t.val * 128 + i.val, by have : t.val < 8 := t.isLt; omega⟩ k) := by
  obtain ⟨_, ⟨_, e, _⟩, -⟩ := at0 t
  show (V m c main_v14 : S4x1024x256.Idx → EReal) _ = _
  refine congrArg _ ?_; blk_ext [e]
theorem b5 (c : Dev nD) (t : Fin cfg0.N) (s : Fin 16) (i : Fin 32) (k : Fin 256) : (iblk m c 5 t : S16x32x256.Idx → EReal) (ix3 s i k) = (V m c main_v17 : S16x256x256.Idx → EReal) (ix3 s ⟨t.val * 32 + i.val, by have : t.val < 8 := t.isLt; omega⟩ k) := by
  obtain ⟨_, ⟨_, _, e⟩, -⟩ := at0 t
  show (V m c main_v17 : S16x256x256.Idx → EReal) _ = _
  refine congrArg _ ?_; blk_ext [e]
theorem b6 (c : Dev nD) (t : Fin cfg0.N) (i : Fin 512) (k : Fin 256) : (iblk m c 6 t : S1x512x256.Idx → EReal) (ix3 0 i k) = (V m c main_v20 : S1x4096x256.Idx → EReal) (ix3 0 ⟨t.val * 512 + i.val, by have : t.val < 8 := t.isLt; omega⟩ k) := by
  obtain ⟨_, _, ⟨e, _, _⟩, -⟩ := at0 t
  show (V m c main_v20 : S1x4096x256.Idx → EReal) _ = _
  refine congrArg _ ?_; blk_ext [e]
theorem b7 (c : Dev nD) (t : Fin cfg0.N) (s : Fin 4) (i : Fin 128) (k : Fin 256) : (iblk m c 7 t : S4x128x256.Idx → EReal) (ix3 s i k) = (V m c main_v23 : S4x1024x256.Idx → EReal) (ix3 s ⟨t.val * 128 + i.val, by have : t.val < 8 := t.isLt; omega⟩ k) := by
  obtain ⟨_, _, ⟨_, e, _⟩, -⟩ := at0 t
  show (V m c main_v23 : S4x1024x256.Idx → EReal) _ = _
  refine congrArg _ ?_; blk_ext [e]
theorem b8 (c : Dev nD) (t : Fin cfg0.N) (s : Fin 16) (i : Fin 32) (k : Fin 256) : (iblk m c 8 t : S16x32x256.Idx → EReal) (ix3 s i k) = (V m c main_v26 : S16x256x256.Idx → EReal) (ix3 s ⟨t.val * 32 + i.val, by have : t.val < 8 := t.isLt; omega⟩ k) := by
  obtain ⟨_, _, ⟨_, _, e⟩, -⟩ := at0 t
  show (V m c main_v26 : S16x256x256.Idx → EReal) _ = _
  refine congrArg _ ?_; blk_ext [e]
theorem b9 (c : Dev nD) (t : Fin cfg0.N) (i : Fin 512) (k : Fin 256) : (iblk m c 9 t : S512x256.Idx → EReal) (ix2 i k) = (V m c main_arg3 : S4096x256.Idx → EReal) (ix2 ⟨t.val * 512 + i.val, by have : t.val < 8 := t.isLt; omega⟩ k) := by
  obtain ⟨_, _, _, ⟨e, _, _, _⟩, -⟩ := at0 t
  show (V m c main_arg3 : S4096x256.Idx → EReal) _ = _
  refine congrArg _ ?_; blk_ext [e]
theorem b10 (c : Dev nD) (t : Fin cfg0.N) (i : Fin 512) (k : Fin 256) : (iblk m c 10 t : S512x256.Idx → EReal) (ix2 i k) = (V m c main_arg4 : S4096x256.Idx → EReal) (ix2 ⟨t.val * 512 + i.val, by have : t.val < 8 := t.isLt; omega⟩ k) := by
  obtain ⟨_, _, _, ⟨_, e, _, _⟩, -⟩ := at0 t
  show (V m c main_arg4 : S4096x256.Idx → EReal) _ = _
  refine congrArg _ ?_; blk_ext [e]
theorem b11 (c : Dev nD) (t : Fin cfg0.N) (i : Fin 512) (k : Fin 256) : (iblk m c 11 t : S512x256.Idx → EReal) (ix2 i k) = (V m c main_arg5 : S4096x256.Idx → EReal) (ix2 ⟨t.val * 512 + i.val, by have : t.val < 8 := t.isLt; omega⟩ k) := by
  obtain ⟨_, _, _, ⟨_, _, e, _⟩, -⟩ := at0 t
  show (V m c main_arg5 : S4096x256.Idx → EReal) _ = _
  refine congrArg _ ?_; blk_ext [e]
theorem b12 (c : Dev nD) (t : Fin cfg0.N) (i : Fin 512) (k : Fin 2048) : (iblk m c 12 t : S512x2048.Idx → EReal) (ix2 i k) = (V m c main_v27 : S4096x2048.Idx → EReal) (ix2 ⟨t.val * 512 + i.val, by have : t.val < 8 := t.isLt; omega⟩ k) := by
  obtain ⟨_, _, _, ⟨_, _, _, e⟩, -⟩ := at0 t
  show (V m c main_v27 : S4096x2048.Idx → EReal) _ = _
  refine congrArg _ ?_; blk_ext [e]
theorem e13 (t : Fin cfg0.N) (i : Fin 512) (k : Fin 128) : (((View.whole main_v67).slice (win0_13.rect t)).emb (ix2 i k) : S4096x384.Idx) = ix2 ⟨t.val * 512 + i.val, by have : t.val < 8 := t.isLt; omega⟩ ⟨k.val, by omega⟩ := by
  obtain ⟨_, _, _, _, ⟨e, _, _⟩, -⟩ := at0 t
  blk_ext [e]
theorem b13 (c : Dev nD) (t : Fin cfg0.N) (i : Fin 512) (k : Fin 128) : (iblk m c 13 t : S512x128.Idx → EReal) (ix2 i k) = (V m c main_v67 : S4096x384.Idx → EReal) (ix2 ⟨t.val * 512 + i.val, by have : t.val < 8 := t.isLt; omega⟩ ⟨k.val, by omega⟩) := by
  refine Eq.trans (b := (V m c main_v67 : S4096x384.Idx → EReal) (((View.whole main_v67).slice (win0_13.rect t)).emb (ix2 i k))) ?_ (congrArg (V m c main_v67 : S4096x384.Idx → EReal) (e13 t i k))
  sl_kernel_rfl
theorem e14 (t : Fin cfg0.N) (i : Fin 512) (k : Fin 128) : (((View.whole main_v67).slice (win0_14.rect t)).emb (ix2 i k) : S4096x384.Idx) = ix2 ⟨t.val * 512 + i.val, by have : t.val < 8 := t.isLt; omega⟩ ⟨128 + k.val, by omega⟩ := by
  obtain ⟨_, _, _, _, ⟨_, e, _⟩, -⟩ := at0 t
  blk_ext [e]
theorem b14 (c : Dev nD) (t : Fin cfg0.N) (i : Fin 512) (k : Fin 128) : (iblk m c 14 t : S512x128.Idx → EReal) (ix2 i k) = (V m c main_v67 : S4096x384.Idx → EReal) (ix2 ⟨t.val * 512 + i.val, by have : t.val < 8 := t.isLt; omega⟩ ⟨128 + k.val, by omega⟩) := by
  refine Eq.trans (b := (V m c main_v67 : S4096x384.Idx → EReal) (((View.whole main_v67).slice (win0_14.rect t)).emb (ix2 i k))) ?_ (congrArg (V m c main_v67 : S4096x384.Idx → EReal) (e14 t i k))
  sl_kernel_rfl
theorem e15 (t : Fin cfg0.N) (i : Fin 512) (k : Fin 128) : (((View.whole main_v67).slice (win0_15.rect t)).emb (ix2 i k) : S4096x384.Idx) = ix2 ⟨t.val * 512 + i.val, by have : t.val < 8 := t.isLt; omega⟩ ⟨256 + k.val, by omega⟩ := by
  obtain ⟨_, _, _, _, ⟨_, _, e⟩, -⟩ := at0 t
  blk_ext [e]
theorem b15 (c : Dev nD) (t : Fin cfg0.N) (i : Fin 512) (k : Fin 128) : (iblk m c 15 t : S512x128.Idx → EReal) (ix2 i k) = (V m c main_v67 : S4096x384.Idx → EReal) (ix2 ⟨t.val * 512 + i.val, by have : t.val < 8 := t.isLt; omega⟩ ⟨256 + k.val, by omega⟩) := by
  refine Eq.trans (b := (V m c main_v67 : S4096x384.Idx → EReal) (((View.whole main_v67).slice (win0_15.rect t)).emb (ix2 i k))) ?_ (congrArg (V m c main_v67 : S4096x384.Idx → EReal) (e15 t i k))
  sl_kernel_rfl

/-- A row of a point's block of the result. -/
theorem row (c : Dev nD) (t : Fin cfg0.N) (i : Fin 512) (r : Fin 4096) (hr : r.val = t.val * 512 + i.val) :
    blockRow (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) i =
      gathered (fun k => m ((c : Thread nD τ).loc main_arg0) (ix2 r k)) (fun k => m ((c : Thread nD τ).loc main_arg1) (ix2 r k)) (fun k => m ((c : Thread nD τ).loc main_arg2) (ix2 r k))
        (fun k => m ((c : Thread nD τ).loc main_arg3) (ix2 r k)) (fun k => m ((c : Thread nD τ).loc main_arg4) (ix2 r k)) (fun k => m ((c : Thread nD τ).loc main_arg5) (ix2 r k))
        (fun k => m ((c : Thread nD τ).loc main_arg6) (ix2 r k)) (JoinRef.co r) (JoinRef.si r) (JoinRef.si' r) := by
  obtain ⟨⟨h0, h1, h2⟩, ⟨h3, h4, h5⟩, ⟨h6, h7, h8⟩, h12, ht⟩ := reads m c
  have hi := i.isLt
  have at1 (X : S1x4096x256.Idx → EReal) (r' : Fin 4096) (k : Fin 256) (e : r'.val = r.val) : X (ix3 0 r' k) = X (ix3 0 r k) := by rw [Fin.ext e]
  have atD {D N : ℕ} (X : (Split D N).Idx → EReal) (s s' : Fin D) (n n' : Fin N) (k : Fin 256) (e : s.val = s'.val) (e' : n.val = n'.val) : X (ix3 s n k) = X (ix3 s' n' k) := by
    rw [Fin.ext e, Fin.ext e']
  have at2 {w : ℕ} (X : (⟨2, ![4096, w]⟩ : Shape).Idx → EReal) (r' : Fin 4096) (k : Fin w) (e : r'.val = r.val) : X (ix2 r' k) = X (ix2 r k) := by rw [Fin.ext e]
  have w0 := back (m ((c : Thread nD τ).loc main_arg0)) r (fun k => (iblk m c 0 t : S1x512x256.Idx → EReal) (ix3 0 i k)) (inOrder (N := 128) (D := 4) (iblk m c 1 t) i)
    (inOrder (N := 32) (D := 16) (iblk m c 2 t) i) (fun k => (b0 m c t i k).trans ((at1 _ _ k hr.symm).trans (congrFun h0 _)))
    (fun k => (b1 m c t _ _ k).trans ((atD (D := 4) (N := 1024) _ _ _ _ _ k (by dsimp only; omega) (by dsimp only; omega)).trans (congrFun h1 _)))
    (fun k => (b2 m c t _ _ k).trans ((atD (D := 16) (N := 256) _ _ _ _ _ k (by dsimp only; omega) (by dsimp only; omega)).trans (congrFun h2 _)))
  have w1 := back (m ((c : Thread nD τ).loc main_arg1)) r (fun k => (iblk m c 3 t : S1x512x256.Idx → EReal) (ix3 0 i k)) (inOrder (N := 128) (D := 4) (iblk m c 4 t) i)
    (inOrder (N := 32) (D := 16) (iblk m c 5 t) i) (fun k => (b3 m c t i k).trans ((at1 _ _ k hr.symm).trans (congrFun h3 _)))
    (fun k => (b4 m c t _ _ k).trans ((atD (D := 4) (N := 1024) _ _ _ _ _ k (by dsimp only; omega) (by dsimp only; omega)).trans (congrFun h4 _)))
    (fun k => (b5 m c t _ _ k).trans ((atD (D := 16) (N := 256) _ _ _ _ _ k (by dsimp only; omega) (by dsimp only; omega)).trans (congrFun h5 _)))
  have w2 := back (m ((c : Thread nD τ).loc main_arg2)) r (fun k => (iblk m c 6 t : S1x512x256.Idx → EReal) (ix3 0 i k)) (inOrder (N := 128) (D := 4) (iblk m c 7 t) i)
    (inOrder (N := 32) (D := 16) (iblk m c 8 t) i) (fun k => (b6 m c t i k).trans ((at1 _ _ k hr.symm).trans (congrFun h6 _)))
    (fun k => (b7 m c t _ _ k).trans ((atD (D := 4) (N := 1024) _ _ _ _ _ k (by dsimp only; omega) (by dsimp only; omega)).trans (congrFun h7 _)))
    (fun k => (b8 m c t _ _ k).trans ((atD (D := 16) (N := 256) _ _ _ _ _ k (by dsimp only; omega) (by dsimp only; omega)).trans (congrFun h8 _)))
  have w9 : (fun k => (iblk m c 9 t : S512x256.Idx → EReal) (ix2 i k)) = fun k => m ((c : Thread nD τ).loc main_arg3) (ix2 r k) :=
    funext fun k => (b9 m c t i k).trans ((at2 _ _ k hr.symm).trans (congrFun (V_main_arg3 m c) _))
  have w10 : (fun k => (iblk m c 10 t : S512x256.Idx → EReal) (ix2 i k)) = fun k => m ((c : Thread nD τ).loc main_arg4) (ix2 r k) :=
    funext fun k => (b10 m c t i k).trans ((at2 _ _ k hr.symm).trans (congrFun (V_main_arg4 m c) _))
  have w11 : (fun k => (iblk m c 11 t : S512x256.Idx → EReal) (ix2 i k)) = fun k => m ((c : Thread nD τ).loc main_arg5) (ix2 r k) :=
    funext fun k => (b11 m c t i k).trans ((at2 _ _ k hr.symm).trans (congrFun (V_main_arg5 m c) _))
  have w12 : (fun k => (iblk m c 12 t : S512x2048.Idx → EReal) (ix2 i k)) = fun k => m ((c : Thread nD τ).loc main_arg6) (ix2 r k) :=
    funext fun k => (b12 m c t i k).trans ((at2 _ _ k hr.symm).trans (congrFun h12 _))
  have w13 : (fun l => (iblk m c 13 t : S512x128.Idx → EReal) (ix2 i l)) = JoinRef.co r :=
    funext fun l => (b13 m c t i l).trans ((at2 (w := 384) _ _ _ hr.symm).trans (congrFun ht _))
  have w14 : (fun l => (iblk m c 14 t : S512x128.Idx → EReal) (ix2 i l)) = JoinRef.si r :=
    funext fun l => (b14 m c t i l).trans ((at2 (w := 384) _ _ _ hr.symm).trans (congrFun ht _))
  have w15 : (fun l => (iblk m c 15 t : S512x128.Idx → EReal) (ix2 i l)) = JoinRef.si' r :=
    funext fun l => (b15 m c t i l).trans ((at2 (w := 384) _ _ _ hr.symm).trans (congrFun ht _))
  unfold blockRow
  rw [w0, w1, w2, w9, w10, w11, w12, w13, w14, w15]

theorem final (c : Dev nD) : (dats m 0 c).arrAt 16 cfg0.N = RJoinIdeal.Read.val_main_v137 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 16 _ (by decide +kernel) fun t hf y => ?_
  have ⟨_, _, _, _, _, e⟩ := at0 t
  blk_simp
  rw [after0_16, outsAt0, out_eq]
  refine (congrFun (row m c t (y 0) (((View.whole main_v68).slice (win0_16.rect t)).emb y 0) (by blk_simp [e])) (y 1)).trans ?_
  refine (JoinRef.all _ _ _ _ _ _ _ _ _).symm.trans (congrArg _ ?_)
  blk_ext [e]

end Cert.JoinKernel

end
-- ==== Proof.JoinEq.lean ====
module

public import proofs.«01_k».proof.Defs
public import proofs.«01_k».proof.Proof.Gen.KJoinIdeal
public import proofs.«01_k».proof.Proof.Gen.RJoinIdeal
public import proofs.«01_k».proof.Proof.JoinKernel

@[expose] public section

set_option maxRecDepth 16384

noncomputable section

/- The joined gradient: the kernel's run and the reference's run end with the same result. -/
namespace Cert.JoinEq

open Idealize.ShloMosaic Idealize.ShloMosaic.TcCoe Idealize.SL.Sem
open Cert.JoinKernel

/-- From argument arrays that agree, the kernel and the reference end with the same gradient of the projection. -/
theorem algebraic : Cert.algebraic_KJoinIdeal_RJoinIdeal (hKJoinIdeal := Cert.KJoinIdeal.Gen.facts) (hRJoinIdeal := Cert.RJoinIdeal.Gen.facts) := by
  intro m g m' g' _ hargs
  refine ⟨fun c => (KJoinIdeal.Gen.dats m 0 c).arrAt 16 KJoinIdeal.cfg0.N, KJoinIdeal.Value.run_blocks m g,
    (θ_run _ _ _).mono (fun r h c => ?_) (RJoinIdeal.Value.run (F := Ideal) m' g')⟩
  obtain ⟨a0, a1, a2, a3, a4, a5, a6⟩ := hargs c
  obtain ⟨h0, hr⟩ := h c
  refine ⟨h0.trans ?_, hr⟩
  rw [RJoinIdeal.Read.val_main_v137_eq, a0, a1, a2, a3, a4, a5, a6]
  exact (final m c).symm

end Cert.JoinEq

end
-- ==== Proof.HeadSum.lean ====
module

public import proofs.«01_k».proof.Proof.SbHeads

@[expose] public section

set_option maxRecDepth 16384

noncomputable section

/- Each head's columns summed, and the sum stored over the head's 128 lanes. -/
namespace Cert.HeadSum

open Idealize.ShloMosaic Idealize.ShloMosaic.TcCoe Idealize.SL.Sem
open Cert.Reals

/-- The columns of head `h`, the others as zero, summed. -/
def headSum (f : Fin 256 → EReal) (h : ℕ) : EReal := ∑ c : Fin 256, if c.val / 64 = h then f c else 0

/-- A head's columns are 64 in a row. -/
theorem headSum_eq (f : Fin 256 → EReal) (h : ℕ) (hh : h < 4) : headSum f h = ∑ e : Fin 64, f ⟨64 * h + e.val, by omega⟩ := by
  have e := Cert.Sb.sum_part 256 64 h (by decide) (by omega) fun n => if g : n < 256 then f ⟨n, g⟩ else 0
  refine Eq.trans (Finset.sum_congr rfl fun c _ => ?_) (e.trans (Finset.sum_congr rfl fun c _ => ?_))
  · rw [dif_pos c.isLt]
  · exact dif_pos _

abbrev Sq : Shape := ⟨2, ![512, 512]⟩
abbrev Lanes : Shape := ⟨2, ![512, 128]⟩

/-- A head's sum stored over the head's 128 lanes. -/
theorem lanes (h : ℕ) (hh : h < 4) (inb : ∀ a, (![0, 128 * h] : Fin 2 → ℕ) a + Lanes.size a ≤ Sq.size a) (P : Lanes.Idx → EReal) (f : Fin 512 → Fin 256 → EReal)
    (hP : ∀ i k, P (ix2 i k) = headSum (f i) h) (x : Lanes.Idx) :
    P x = headSum (f ((Rect.unit (s := Sq) ![0, 128 * h] Lanes.size inb).emb x 0)) (((Rect.unit (s := Sq) ![0, 128 * h] Lanes.size inb).emb x 1).val / 128) := by
  have h1 : (x 1).val < 128 := (x 1).isLt
  refine (congrArg P (eq_ix2 x)).trans ((hP (x 0) (x 1)).trans (congrArg₂ headSum (congrArg f (Fin.ext ?_)) ?_))
  · show (x 0).val = 0 + 1 * (x 0).val
    omega
  · show h = (128 * h + 1 * (x 1).val) / 128
    omega

end Cert.HeadSum

end
-- ==== Proof.SumsTile.lean ====
module

public import proofs.«01_k».proof.Proof.SbbTile
public import proofs.«01_k».proof.Proof.HeadSum
public import proofs.«01_k».proof.Proof.Gen.KSumsIdeal.Value

@[expose] public section

set_option maxRecDepth 16384

noncomputable section

/- What one grid point of the call that sums each head's columns writes. -/
namespace Cert.SumsTile

open Idealize.ShloMosaic Idealize.ShloMosaic.TcCoe Idealize.SL.Sem
open Cert.HeadSum Cert.SbbTile Cert.KSumsIdeal Cert.KSumsIdeal.Gen

section pays
variable (v : FVec Ideal S512x256 .f32) (x0 x1 : Vec Ideal S512x256 .f32) (i : Fin 512) (k : Fin 128)

theorem head0 : k0_pay4 (k0_pay3 x0 x1) (ix2 i k) = headSum (fun c => x0 (ix2 i c) * x1 (ix2 i c)) 0 := by
  pointwise! [k0_pay4, k0_pay3, k0_pay2]
theorem head1 : k0_pay5 v (ix2 i k) = headSum (fun c => v (ix2 i c)) 1 := by
  pointwise! [k0_pay5]
theorem head2 : k0_pay8 v (iota .tc S1x256 32 [1] iota_S1x256_d1_w32) 64#32 k0_pay6 k0_pay7 (ix2 i k) = headSum (fun c => v (ix2 i c)) 2 := by
  pointwise! [k0_pay8, k0_pay6, k0_pay7]
theorem head3 : k0_pay1 v (iota .tc S1x256 32 [1] iota_S1x256_d1_w32) 64#32 k0_pay9 k0_pay10 (Scalar.extui (Scalar.cmpi .sgt 64#32 0#32)) (ix2 i k)
    = headSum (fun c => v (ix2 i c)) 3 := by
  pointwise! [k0_pay1, k0_pay9, k0_pay10]
end pays

/-- The block of sums, each head's over its 128 lanes. -/
theorem out_at (x0 x1 : Vec Ideal S512x256 .f32) (y : S512x512.Idx) :
    out0_2 x0 x1 y = headSum (fun c => x0 (ix2 (y 0) c) * x1 (ix2 (y 0) c)) ((y 1).val / 128) := by
  have prod (i : Fin 512) (c : Fin 256) : k0_pay11 x0 x1 (ix2 i c) = x0 (ix2 i c) * x1 (ix2 i c) := by
    unfold k0_pay11
    simp (disch := decide) only [View.ld_unit_lit']
    pointwise! [k0_pay2]
  frame_out
  refine View.canon_apply_of_pieces (Val := Elt Ideal) (e := .f32)
    (fun y : S512x512.Idx => headSum (fun c => x0 (ix2 (y 0) c) * x1 (ix2 (y 0) c)) ((y 1).val / 128)) _ ?_ y (cover0_2 _ _ _ _ y)
  intro p hp x
  simp only [List.mem_cons, List.not_mem_nil, or_false] at hp
  rcases hp with rfl | rfl | rfl | rfl
  · exact lanes 3 (by decide) inb_S512x512_S512x128_0_384 _ _ (fun i k => (head3 _ i k).trans (congrArg (headSum · 3) (funext (prod i)))) x
  · exact lanes 2 (by decide) inb_S512x512_S512x128_0_256 _ _ (fun i k => (head2 _ i k).trans (congrArg (headSum · 2) (funext (prod i)))) x
  · exact lanes 1 (by decide) inb_S512x512_S512x128_0_128 _ _ (fun i k => (head1 _ i k).trans (congrArg (headSum · 1) (funext (prod i)))) x
  · exact lanes 0 (by decide) inb_S512x512_S512x128_0_0 _ _ (fun i k => head0 _ _ i k) x

end Cert.SumsTile

end
-- ==== Proof.SumsHost.lean ====
module

public import proofs.«01_k».proof.Proof.SumsTile
public import proofs.«01_k».proof.Proof.Gen.RSumsIdeal.Read

@[expose] public section

set_option maxRecDepth 16384

noncomputable section

/- What the host lines before the call that sums each head's columns prepare. -/
namespace Cert.SumsHost

open Idealize.ShloMosaic Idealize.ShloMosaic.TcCoe Idealize.SL.Sem
open Cert.KSumsIdeal Cert.KSumsIdeal.Gen

variable (m : (ℓ : Loc nD τ sig) → Buf (Elt Ideal) ℓ) (c : Dev nD)

set_option maxHeartbeats 4000000 in
/-- The forward lines are the reference's. -/
theorem out_eq : V m c main_v29 = RSumsIdeal.Read.val_main_v29 (F := Ideal) (m ((c : Thread nD τ).loc main_arg0)) := by
  simp only [V, hostOps0, hostOps0_1, hostOps0_2, hostOps0_3, hostOps0_4, hostOps0_5, hostOps0_6, hostOps0_7, hostOps0_8, hostOps0_9, List.flatten_cons, List.flatten_nil, List.append_nil,
      List.cons_append, List.nil_append]
  after_results_simp
  sl_kernel_rfl

/-- The reference's result at one place. -/
theorem ref_at (x : FVec Ideal S4096x5120 .f32) (y : FVec Ideal S4096x256 .f32) (i : Fin 4096) (k : Fin 512) :
    RSumsIdeal.Read.val_main_v43 (F := Ideal) x y (ix2 i k)
      = ∑ e : Fin 64, y (ix2 i ⟨64 * (k.val / 128) + e.val, by omega⟩) * RSumsIdeal.Read.val_main_v29 (F := Ideal) x (ix2 i ⟨64 * (k.val / 128) + e.val, by omega⟩) := by
  pointwise! [RSumsIdeal.Read.val_main_v43, RSumsIdeal.Read.val_main_v42, RSumsIdeal.Read.val_main_v41, RSumsIdeal.Read.val_main_v40, RSumsIdeal.Read.val_main_v39, RSumsIdeal.Read.val_main_v38,
    RSumsIdeal.Read.val_main_v37, RSumsIdeal.Read.val_main_v36, RSumsIdeal.Read.val_main_v32, RSumsIdeal.Read.val_main_cst_3, RSumsIdeal.Read.val_main_cst_4]
  refine (Fin.sum_univ_one _).trans (Finset.sum_congr rfl fun e _ => ?_)
  have h (u v : Fin 256) (huv : u.val = v.val) : y (ix2 i u) * RSumsIdeal.Read.val_main_v29 (F := Ideal) x (ix2 i u) = y (ix2 i v) * RSumsIdeal.Read.val_main_v29 (F := Ideal) x (ix2 i v) := by
    rw [Fin.ext huv]
  exact h _ _ (by simp only; omega)

end Cert.SumsHost

end
-- ==== Proof.SumsEq.lean ====
module

public import proofs.«01_k».proof.Proof.SumsHost
public import proofs.«01_k».proof.Defs

@[expose] public section

set_option maxRecDepth 16384

noncomputable section

/- Each head's sum of cotangent times output: the kernel's run and the reference's run end with the same result. -/
namespace Cert.SumsEq

open Idealize.ShloMosaic Idealize.ShloMosaic.TcCoe Idealize.SL.Sem
open Cert.HeadSum Cert.SumsTile Cert.SumsHost Cert.KSumsIdeal Cert.KSumsIdeal.Gen

variable (m : (ℓ : Loc nD τ sig) → Buf (Elt Ideal) ℓ) (c : Dev nD)

theorem at0 : ∀ t : Fin grid0.N, win0_0.index t = ![t.val, 0] ∧ win0_1.index t = ![t.val, 0] ∧ win0_2.index t = ![t.val, 0] := by decide +kernel

/-- A point's blocks of the cotangent and of the output. -/
theorem b0 (t : Fin cfg0.N) (i : Fin 512) (k : Fin 256) : (iblk m c 0 t : S512x256.Idx → EReal) (ix2 i k)
    = (m ((c : Thread nD τ).loc main_arg1) : S4096x256.Idx → EReal) (ix2 ⟨t.val * 512 + i.val, by have : t.val < 8 := t.isLt; omega⟩ k) := by
  obtain ⟨e, -⟩ := at0 t
  refine Eq.trans ?_ (congrFun (V_main_arg1 m c) _)
  show (V m c main_arg1 : S4096x256.Idx → EReal) _ = _
  refine congrArg _ ?_; blk_ext [e]
theorem b1 (t : Fin cfg0.N) (i : Fin 512) (k : Fin 256) : (iblk m c 1 t : S512x256.Idx → EReal) (ix2 i k)
    = (V m c main_v29 : S4096x256.Idx → EReal) (ix2 ⟨t.val * 512 + i.val, by have : t.val < 8 := t.isLt; omega⟩ k) := by
  obtain ⟨-, e, -⟩ := at0 t
  show (V m c main_v29 : S4096x256.Idx → EReal) _ = _
  refine congrArg _ ?_; blk_ext [e]

/-- Where a point's block of the result lies. -/
theorem place (t : Fin cfg0.N) (i k : Fin 512) : (((View.whole main_v30).slice (win0_2.rect t)).emb (ix2 i k) : S4096x512.Idx)
    = ix2 ⟨t.val * 512 + i.val, by have : t.val < 8 := t.isLt; omega⟩ k := by
  obtain ⟨-, -, e⟩ := at0 t
  blk_ext [e]

/-- The call's result is the reference's. -/
theorem final : (dats m 0 c).arrAt 2 cfg0.N
    = RSumsIdeal.Read.val_main_v43 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ y).trans (Eq.trans ?_ ((congrArg _ ((congrArg _ (eq_ix2 y)).trans (place t (y 0) (y 1)))).trans (ref_at _ _ _ _)).symm)
  have h1 : (y 1).val < 512 := (y 1).isLt
  refine (headSum_eq _ _ (by omega)).trans (Finset.sum_congr rfl fun s _ => ?_)
  exact congrArg₂ (fun u v : EReal => u * v) (b0 m c t _ _) ((b1 m c t _ _).trans (congrFun (out_eq m c) _))

/-- From argument arrays that agree, the kernel and the reference end with the same result. -/
theorem algebraic : Cert.algebraic_KSumsIdeal_RSumsIdeal (hKSumsIdeal := Cert.KSumsIdeal.Gen.facts) (hRSumsIdeal := Cert.RSumsIdeal.Gen.facts) := by
  intro m g m' g' _ hargs
  refine ⟨fun c => (dats m 0 c).arrAt 2 cfg0.N, Value.run_blocks m g, (θ_run _ _ _).mono (fun r h c => ?_) (RSumsIdeal.Value.run (F := Ideal) m' g')⟩
  obtain ⟨a0, a1⟩ := hargs c
  obtain ⟨h0, hr⟩ := h c
  refine ⟨h0.trans ?_, hr⟩
  rw [RSumsIdeal.Read.val_main_v43_eq, a0, a1]
  exact (final m c).symm

end Cert.SumsEq

end
-- ==== Proof.SplitTile.lean ====
module

public import Idealize.ShloMosaic.Lib.Pipeline.StridedRows
public import Idealize.ShloMosaic.Lib.Pipeline.CanonAppend
public import Idealize.ShloMosaic.Lib.Pipeline.ValueKit
public import Idealize.ShloMosaic.Lib.VecWindow

@[expose] public section

set_option maxRecDepth 16384

noncomputable section

/- Rows split by residue: an array of N·D rows is stored into a scratch, 128 columns to a plane; every D-th row of a
   plane is read back and stored as one residue's rows. -/
namespace Cert.SplitTile

open Idealize.ShloMosaic StridedRows

variable {sig : RefSig} {κ : Kind} {sp : Space} {N D C : ℕ}

/-- A block read whole. -/
abbrev whole {n m : ℕ} {e : EltTy} (r : Memref sig .tc .vmem ⟨2, ![n, m]⟩ e) (h : r.IsWhole) (X : Vec Ideal ⟨2, ![n, m]⟩ e)
    (inb : ∀ d, (![0, 0] : Fin 2 → ℕ) d + (⟨2, ![n, m]⟩ : Shape).size d ≤ (⟨2, ![n, m]⟩ : Shape).size d) : Vec Ideal ⟨2, ![n, m]⟩ e :=
  View.readAt (Elt Ideal) r.view (Rect.unit ![0, 0] (⟨2, ![n, m]⟩ : Shape).size inb).toLoadRect (h.unread X)
theorem whole_eq {n m : ℕ} {e : EltTy} (r : Memref sig .tc .vmem ⟨2, ![n, m]⟩ e) (h : r.IsWhole) (X : Vec Ideal ⟨2, ![n, m]⟩ e)
    (inb : ∀ d, (![0, 0] : Fin 2 → ℕ) d + (⟨2, ![n, m]⟩ : Shape).size d ≤ (⟨2, ![n, m]⟩ : Shape).size d) : whole r h X inb = X :=
  (View.readAt_full r.view (h.unread X) inb).trans (h.read_unread X)

/-- C planes' columns of n rows, and the same rows in D residues of N. -/
abbrev Wide (n C : ℕ) : Shape := ⟨2, ![n, 128 * C]⟩
abbrev Parts (D N C : ℕ) : Shape := ⟨3, ![D, N, 128 * C]⟩

/-- An entry by the numbers of its row and column. -/
def entry {n m : ℕ} (a : (⟨2, ![n, m]⟩ : Shape).Idx → EReal) (i k : ℕ) : EReal :=
  if h : i < n ∧ k < m then a (ix2 ⟨i, h.1⟩ ⟨k, h.2⟩) else 0

theorem entry_eq {n m : ℕ} (a : (⟨2, ![n, m]⟩ : Shape).Idx → EReal) (i : Fin n) (k : Fin m) (i' k' : ℕ) (hi : i' = i.val) (hk : k' = k.val) :
    entry a i' k' = a (ix2 i k) := by
  subst hi hk; exact dif_pos ⟨i.isLt, k.isLt⟩

theorem casts_up (n : ℕ) : (⟨2, ![n, 128]⟩ : Shape).ShapeCasts ⟨3, ![1, n, 128]⟩ := by
  show Shape.numel _ = Shape.numel _
  simp [Shape.numel, Fin.prod_univ_succ]
theorem casts_down (n : ℕ) : (⟨3, ![1, n, 128]⟩ : Shape).ShapeCasts ⟨2, ![n, 128]⟩ := (casts_up n).symm
theorem slices (n : ℕ) (c : Fin C) : (Wide n C).Slices ![0, 128 * c.val] ⟨2, ![n, 128]⟩ :=
  ⟨rfl, fun a => by
    match a with
    | ⟨0, _⟩ => show 0 + n ≤ n; omega
    | ⟨1, _⟩ => show 128 * c.val + 128 ≤ 128 * C; have := c.isLt; omega⟩

/-- 128 columns, as a plane takes them. -/
def chunk {n : ℕ} (a : FVec Ideal (Wide n C) .f32) (c : Fin C) : FVec Ideal ⟨3, ![1, n, 128]⟩ .f32 :=
  shapeCast ⟨3, ![1, n, 128]⟩ (extractStridedSlice ⟨2, ![n, 128]⟩ ![0, 128 * c.val] a (slices n c)) (casts_up n)

theorem chunk_apply {n : ℕ} (a : FVec Ideal (Wide n C) .f32) (c : Fin C) (x : (⟨3, ![1, n, 128]⟩ : Shape).Idx) :
    chunk a c x = entry a (x 1).val (128 * c.val + (x 2).val) := by
  have h0 : (x 0).val < 1 := (x 0).isLt
  have h2 : (x 2).val < 128 := (x 2).isLt
  have hc := c.isLt
  refine (shapeCast_apply _ (casts_up n) x (ix2 (x 1) (x 2)) ?_).trans ?_
  · rw [Shape.rowMajor_val_two, Shape.rowMajor_val_three]
    show (x 1).val * 128 + (x 2).val = ((x 0).val * n + (x 1).val) * 128 + (x 2).val
    have : (x 0).val = 0 := by omega
    rw [this]; omega
  · refine Eq.trans ?_ (entry_eq a (x 1) ⟨128 * c.val + (x 2).val, by omega⟩ _ _ rfl rfl).symm
    refine extractStridedSlice_apply _ a _ _ _ fun d => ?_
    match d with
    | ⟨0, _⟩ => show (x 1).val = 0 + (x 1).val; omega
    | ⟨1, _⟩ => rfl

/-- One plane, whole. -/
def planeRect (c : Fin 4) : Rect (Plane 4 N D 128) :=
  Rect.unit ![c.val, 0, 0] ![1, N * D, 128] fun a => by
    match a with
    | ⟨0, _⟩ => show c.val + 1 ≤ 4; have := c.isLt; omega
    | ⟨1, _⟩ => show 0 + N * D ≤ N * D; omega
    | ⟨2, _⟩ => show 0 + 128 ≤ 128; omega

/-- The stores into the planes, the last first. -/
def planes (hC : C ≤ 4) (a : FVec Ideal (Wide (N * D) C) .f32) : List (View.Piece (Elt Ideal) (Plane 4 N D 128) .f32) :=
  (List.finRange C).reverse.map fun c => ⟨planeRect (c.castLE hC), chunk a c⟩

/-- Every D-th row of a plane, read back. -/
def taken (hC : C ≤ 4) (s : View sig κ sp (Plane 4 N D 128) .f32) (L : List (View.Piece (Elt Ideal) (Plane 4 N D 128) .f32))
    (a : FVec Ideal (Wide (N * D) C) .f32) (c : Fin C) (r : Fin D) : Vec Ideal (Row N 128) .f32 :=
  s.readCov (planes hC a ++ L) (rowRect le_rfl (c.castLE hC) r).toLoadRect

theorem taken_apply (hC : C ≤ 4) (s : View sig κ sp (Plane 4 N D 128) .f32) (L : List (View.Piece (Elt Ideal) (Plane 4 N D 128) .f32))
    (a : FVec Ideal (Wide (N * D) C) .f32) (c : Fin C) (r : Fin D) (x : (Row N 128).Idx) :
    taken hC s L a c r x = entry a (r.val + D * (x 1).val) (128 * c.val + (x 2).val) := by
  unfold taken
  rw [View.readCov_eq_canon']
  have h0 : (x 0).val < 1 := (x 0).isLt
  have h1 : (x 1).val < N := (x 1).isLt
  have hr : r.val + D * (x 1).val < N * D := by
    have := Nat.mul_le_mul_left D (Nat.succ_le_of_lt h1)
    have := r.isLt
    rw [Nat.mul_succ, Nat.mul_comm D N] at *
    omega
  let G : (Plane 4 N D 128).Idx → Elt Ideal .f32 := fun y => entry a (y 1).val (128 * (y 0).val + (y 2).val)
  refine (View.canon_append_of_pieces G L _ ?_ _ ?_).trans ?_
  · intro p hp z
    obtain ⟨d, -, rfl⟩ := List.mem_map.1 hp
    have hz : (z 0).val < 1 := (z 0).isLt
    refine (chunk_apply a d z).trans (congrArg₂ (entry a) ?_ ?_)
    · show (z 1).val = 0 + 1 * (z 1).val; omega
    · show 128 * d.val + (z 2).val = 128 * (d.val + 1 * (z 0).val) + (0 + 1 * (z 2).val); omega
  · refine ⟨_, List.mem_map.2 ⟨c, by simp, rfl⟩, (LoadRect.mem_set _).2 fun d => ?_⟩
    match d with
    | ⟨0, _⟩ => exact ⟨0, Nat.one_pos, show c.val + 1 * (x 0).val = c.val + 1 * 0 by omega⟩
    | ⟨1, _⟩ => exact ⟨r.val + D * (x 1).val, hr, show r.val + D * (x 1).val = 0 + 1 * (r.val + D * (x 1).val) by omega⟩
    | ⟨2, _⟩ => exact ⟨(x 2).val, (x 2).isLt, show 0 + 1 * (x 2).val = 0 + 1 * (x 2).val from rfl⟩
  · refine congrArg₂ (entry a) ?_ ?_
    · show r.val + D * (x 1).val = r.val + D * (x 1).val; rfl
    · show 128 * (c.val + 1 * (x 0).val) + (0 + 1 * (x 2).val) = 128 * c.val + (x 2).val; omega

/-- 128 columns of one residue, in the block of all residues. -/
def partRect (c : Fin C) (r : Fin D) : Rect (Parts D N C) :=
  Rect.unit ![r.val, 0, 128 * c.val] ![1, N, 128] fun a => by
    match a with
    | ⟨0, _⟩ => show r.val + 1 ≤ D; exact r.isLt
    | ⟨1, _⟩ => show 0 + N ≤ N; omega
    | ⟨2, _⟩ => show 128 * c.val + 128 ≤ 128 * C; have := c.isLt; omega

/-- The stores of all the residues, the last first. -/
def stores {e : EltTy} (hC : 0 < C) (p : Fin C → Fin D → (Row N 128).Idx → Elt Ideal e) : List (View.Piece (Elt Ideal) (Parts D N C) e) :=
  (List.finRange (D * C)).reverse.map fun k =>
    ⟨partRect ⟨k.val % C, Nat.mod_lt _ hC⟩ ⟨k.val / C, Nat.div_lt_of_lt_mul (lt_of_lt_of_eq k.isLt (Nat.mul_comm D C))⟩,
      p ⟨k.val % C, Nat.mod_lt _ hC⟩ ⟨k.val / C, Nat.div_lt_of_lt_mul (lt_of_lt_of_eq k.isLt (Nat.mul_comm D C))⟩⟩

/-- What these stores leave. -/
theorem stores_canon {e : EltTy} (hC : 0 < C) (p : Fin C → Fin D → (Row N 128).Idx → Elt Ideal e) (g : ℕ → ℕ → ℕ → Elt Ideal e)
    (hp : ∀ c r x, p c r x = g r.val (x 1).val (128 * c.val + (x 2).val)) (y : (Parts D N C).Idx) :
    View.canon (stores hC p) y = g (y 0).val (y 1).val (y 2).val := by
  refine View.canon_apply_of_pieces (Val := Elt Ideal) (e := e) (fun y : (Parts D N C).Idx => g (y 0).val (y 1).val (y 2).val) _ ?_ y ?_
  · intro q hq x
    obtain ⟨k, -, rfl⟩ := List.mem_map.1 hq
    have h0 : (x 0).val < 1 := (x 0).isLt
    refine (hp _ _ x).trans ?_
    have e0 : k.val / C = k.val / C + 1 * (x 0).val := by omega
    have e1 : (x 1).val = 0 + 1 * (x 1).val := by omega
    have e2 : 128 * (k.val % C) + (x 2).val = 128 * (k.val % C) + 1 * (x 2).val := by omega
    exact (congrArg (fun n => g n _ _) e0).trans ((congrArg (fun n => g _ n _) e1).trans (congrArg (fun n => g _ _ n) e2))
  · have h0 : (y 0).val < D := (y 0).isLt
    have h2 : (y 2).val < 128 * C := (y 2).isLt
    have hd : (y 2).val / 128 < C := Nat.div_lt_of_lt_mul h2
    have hk : (y 0).val * C + (y 2).val / 128 < D * C := by
      have := Nat.mul_le_mul_right C (Nat.succ_le_of_lt h0)
      rw [Nat.succ_mul] at this
      omega
    have em : ((y 0).val * C + (y 2).val / 128) % C = (y 2).val / 128 := by
      rw [Nat.mul_add_mod_self_right, Nat.mod_eq_of_lt hd]
    have ed : ((y 0).val * C + (y 2).val / 128) / C = (y 0).val := by
      rw [Nat.mul_comm, Nat.mul_add_div hC, Nat.div_eq_of_lt hd, Nat.add_zero]
    refine ⟨_, List.mem_map.2 ⟨⟨_, hk⟩, by simp, rfl⟩, (LoadRect.mem_set _).2 fun d => ?_⟩
    match d with
    | ⟨0, _⟩ => exact ⟨0, Nat.one_pos, show (y 0).val = ((y 0).val * C + (y 2).val / 128) / C + 1 * 0 by rw [ed]; omega⟩
    | ⟨1, _⟩ => exact ⟨(y 1).val, (y 1).isLt, show (y 1).val = 0 + 1 * (y 1).val by omega⟩
    | ⟨2, _⟩ => exact ⟨(y 2).val % 128, Nat.mod_lt _ (by decide), show (y 2).val = 128 * (((y 0).val * C + (y 2).val / 128) % C) + 1 * ((y 2).val % 128) by rw [em]; omega⟩

/-- An array split by residue, kept in f32 and cast to bf16. -/
def split32 (h0 : 0 < C) (hC : C ≤ 4) (s : View sig κ sp (Plane 4 N D 128) .f32) (L : List (View.Piece (Elt Ideal) (Plane 4 N D 128) .f32))
    (a : FVec Ideal (Wide (N * D) C) .f32) : List (View.Piece (Elt Ideal) (Parts D N C) .f32) :=
  stores h0 fun c r => (shapeCast (Row N 128) (shapeCast ⟨2, ![N, 128]⟩ (taken hC s L a c r) (casts_down N)) (casts_up N) : FVec Ideal (Row N 128) .f32)
def split16 (h0 : 0 < C) (hC : C ≤ 4) (s : View sig κ sp (Plane 4 N D 128) .f32) (L : List (View.Piece (Elt Ideal) (Plane 4 N D 128) .f32))
    (a : FVec Ideal (Wide (N * D) C) .f32) : List (View.Piece (Elt Ideal) (Parts D N C) .bf16) :=
  stores h0 fun c r => (shapeCast (Row N 128) (truncf .bf16 (shapeCast ⟨2, ![N, 128]⟩ (taken hC s L a c r) (casts_down N) : FVec Ideal _ .f32) (by decide) : FVec Ideal ⟨2, ![N, 128]⟩ .bf16)
    (casts_up N) : FVec Ideal (Row N 128) .bf16)

variable (h0 : 0 < C) (hC : C ≤ 4) (s : View sig κ sp (Plane 4 N D 128) .f32) (L : List (View.Piece (Elt Ideal) (Plane 4 N D 128) .f32))
  (a : FVec Ideal (Wide (N * D) C) .f32)

theorem split32_canon (y : (Parts D N C).Idx) : View.canon (split32 h0 hC s L a) y = entry a ((y 0).val + D * (y 1).val) (y 2).val :=
  stores_canon (e := .f32) h0 _ (fun r n k => entry a (r + D * n) k)
    (fun c r x => (congrFun (shapeCast_shapeCast (s := Row N 128) (taken hC s L a c r) (casts_down N) (casts_up N)) x).trans (taken_apply hC s L a c r x)) y
theorem split16_canon (y : (Parts D N C).Idx) : View.canon (split16 h0 hC s L a) y = entry a ((y 0).val + D * (y 1).val) (y 2).val :=
  stores_canon (e := .bf16) h0 _ (fun r n k => entry a (r + D * n) k)
    (fun c r x => (congrFun (shapeCast_shapeCast (s := Row N 128) (taken hC s L a c r) (casts_down N) (casts_up N)) x).trans (taken_apply hC s L a c r x)) y

end Cert.SplitTile

end
-- ==== Proof.DprepTile.lean ====
module

public import proofs.«01_k».proof.Proof.SplitTile
public import proofs.«01_k».proof.Proof.HeadSum
public import proofs.«01_k».proof.Proof.Gen.KDprepIdeal.Value

@[expose] public section

set_option maxRecDepth 16384

noncomputable section

/- What one grid point of the call that prepares the dilated attention's gradient writes: each head's sum of cotangent
   times output over the head's lanes, and the cotangent, the log-denominators and the sums split by residue. -/
namespace Cert.DprepTile

open Idealize.ShloMosaic Idealize.ShloMosaic.TcCoe Idealize.SL.Sem
open Cert.HeadSum Cert.SplitTile Cert.KDprepIdeal Cert.KDprepIdeal.Gen

section pays
variable (v : FVec Ideal S512x256 .f32) (x0 x1 : Vec Ideal S512x256 .f32) (i : Fin 512) (k : Fin 128)

theorem head0 : k0_pay3 x0 x1 (ix2 i k) = headSum (fun c => x0 (ix2 i c) * x1 (ix2 i c)) 0 := by
  pointwise! [k0_pay3, k0_pay2]
theorem head1 : k0_pay4 v (ix2 i k) = headSum (fun c => v (ix2 i c)) 1 := by
  pointwise! [k0_pay4]
theorem head2 : k0_pay7 v kernelRun0_A.sl.v80 64#32 k0_pay5 k0_pay6 0#32 (ix2 i k) = headSum (fun c => v (ix2 i c)) 2 := by
  pointwise! [k0_pay7, k0_pay5, k0_pay6, kernelRun0_A.sl.v80]
theorem head3 : k0_pay10 v kernelRun0_A.sl.v80 64#32 k0_pay8 k0_pay9 1#32 0#1 (ix2 i k) = headSum (fun c => v (ix2 i c)) 3 := by
  pointwise! [k0_pay10, k0_pay8, k0_pay9, kernelRun0_A.sl.v80]
theorem product : k0_pay2 x0 x1 = fun y => x0 y * x1 y := by
  funext y; pointwise! [k0_pay2]
theorem pay_eq (x : Vec Ideal S512x512 .f32) : k0_pay23 x = x := by
  unfold k0_pay23; exact shapeCast_self _ _
theorem pay_eq' (x : Vec Ideal S512x512 .f32) : k0_pay103 x = x := by
  unfold k0_pay103; exact shapeCast_self _ _
end pays

/-- Each head's sum of products over its lanes. -/
def sums (x0 x1 : Vec Ideal S512x256 .f32) : Vec Ideal S512x512 .f32 :=
  fun y => headSum (fun c => x0 (ix2 (y 0) c) * x1 (ix2 (y 0) c)) ((y 1).val / 128)

section block

variable (c : Dev nD) (i : grid0.Coords)
  (b1 : Memref sig .tc .vmem S512x256 .f32) (h1 : b1.IsWhole) (b2 : Memref sig .tc .vmem S512x256 .f32) (h2 : b2.IsWhole)
  (b3 : Memref sig .tc .vmem S512x512 .f32) (h3 : b3.IsWhole) (b4 : Memref sig .tc .vmem S512x512 .f32) (h4 : b4.IsWhole)
  (b5 : Memref sig .tc .vmem S4x128x256 .bf16) (h5 : b5.IsWhole) (b6 : Memref sig .tc .vmem S16x32x256 .bf16) (h6 : b6.IsWhole)
  (b7 : Memref sig .tc .vmem S4x128x512 .f32) (h7 : b7.IsWhole) (b8 : Memref sig .tc .vmem S16x32x512 .f32) (h8 : b8.IsWhole)
  (b9 : Memref sig .tc .vmem S4x128x512 .f32) (h9 : b9.IsWhole) (b10 : Memref sig .tc .vmem S16x32x512 .f32) (h10 : b10.IsWhole)
  (b11 : Memref sig .tc .vmem S4x512x128 .f32) (h11 : b11.IsWhole)
  (x0 x1 : Vec Ideal S512x256 .f32) (x2 : Vec Ideal S512x512 .f32)

/-- The four stores of the sums, the last first. -/
theorem stores3 : (kernelRun0_A (F := Ideal) c i b1 h1 b2 h2 b3 h3 b4 h4 b5 h5 b6 h6 b7 h7 b8 h8 b9 h9 b10 h10 b11 h11 x0 x1 x2).1 =
    [⟨Rect.unit ![0, 384] S512x128.size inb_S512x512_S512x128_0_384, k0_pay10 (k0_pay2 (whole b1 h1 x0 inb_S512x256_S512x256_0_0) (whole b2 h2 x1 inb_S512x256_S512x256_0_0)) kernelRun0_A.sl.v80 64#32 k0_pay8 k0_pay9 1#32 0#1⟩,
     ⟨Rect.unit ![0, 256] S512x128.size inb_S512x512_S512x128_0_256, k0_pay7 (k0_pay2 (whole b1 h1 x0 inb_S512x256_S512x256_0_0) (whole b2 h2 x1 inb_S512x256_S512x256_0_0)) kernelRun0_A.sl.v80 64#32 k0_pay5 k0_pay6 0#32⟩,
     ⟨Rect.unit ![0, 128] S512x128.size inb_S512x512_S512x128_0_128, k0_pay4 (k0_pay2 (whole b1 h1 x0 inb_S512x256_S512x256_0_0) (whole b2 h2 x1 inb_S512x256_S512x256_0_0))⟩,
     ⟨Rect.unit ![0, 0] S512x128.size inb_S512x512_S512x128_0_0, k0_pay3 (whole b1 h1 x0 inb_S512x256_S512x256_0_0) (whole b2 h2 x1 inb_S512x256_S512x256_0_0)⟩] := by
  sl_kernel_rfl
theorem canon3 (y : S512x512.Idx) : View.canon (kernelRun0_A (F := Ideal) c i b1 h1 b2 h2 b3 h3 b4 h4 b5 h5 b6 h6 b7 h7 b8 h8 b9 h9 b10 h10 b11 h11 x0 x1 x2).1 y = sums x0 x1 y := by
  refine View.canon_apply_of_pieces (Val := Elt Ideal) (e := .f32) (sums x0 x1) _ ?_ y (cover0_A_3 c i b1 h1 b2 h2 b3 h3 b4 h4 b5 h5 b6 h6 b7 h7 b8 h8 b9 h9 b10 h10 b11 h11 x0 x1 x2 y)
  rw [stores3, whole_eq, whole_eq, product]
  intro p hp x
  simp only [List.mem_cons, List.not_mem_nil, or_false] at hp
  rcases hp with rfl | rfl | rfl | rfl
  · exact lanes 3 (by decide) inb_S512x512_S512x128_0_384 _ _ (fun i k => head3 _ i k) x
  · exact lanes 2 (by decide) inb_S512x512_S512x128_0_256 _ _ (fun i k => head2 _ i k) x
  · exact lanes 1 (by decide) inb_S512x512_S512x128_0_128 _ _ (fun i k => head1 _ i k) x
  · exact lanes 0 (by decide) inb_S512x512_S512x128_0_0 _ _ (fun i k => head0 _ _ i k) x
theorem out3 (y : S512x512.Idx) : out0_A_3 (F := Ideal) c i b1 h1 b2 h2 b3 h3 b4 h4 b5 h5 b6 h6 b7 h7 b8 h8 b9 h9 b10 h10 b11 h11 x0 x1 x2 y = sums x0 x1 y :=
  (View.read_writes_junk_apply_eq_canon _ _ _).trans (canon3 c i b1 h1 b2 h2 b3 h3 b4 h4 b5 h5 b6 h6 b7 h7 b8 h8 b9 h9 b10 h10 b11 h11 x0 x1 x2 y)

include i h3 h4 h5 h6 h7 h8 h9 h10 h11 x2 in
/-- The sums read back from the block they are stored in. -/
theorem reread : kernelRun0_A.sl.v310 (F := Ideal) c b1 h1 b2 h2 b4 x0 x1 = sums x0 x1 := by
  have e : kernelRun0_A.sl.v310 (F := Ideal) c b1 h1 b2 h2 b4 x0 x1 = b4.view.readCov (kernelRun0_A (F := Ideal) c i b1 h1 b2 h2 b3 h3 b4 h4 b5 h5 b6 h6 b7 h7 b8 h8 b9 h9 b10 h10 b11 h11 x0 x1 x2).1 (Rect.unit ![0, 0] S512x512.size inb_S512x512_S512x512_0_0).toLoadRect := by
    sl_kernel_rfl
  rw [e, View.readCov_eq_canon']
  refine funext fun y => (congrArg (View.canon _) (?_ : _ = y)).trans (canon3 c i b1 h1 b2 h2 b3 h3 b4 h4 b5 h5 b6 h6 b7 h7 b8 h8 b9 h9 b10 h10 b11 h11 x0 x1 x2 y)
  refine funext fun a => Fin.ext ?_
  match a with
  | ⟨0, _⟩ => show 0 + 1 * (y 0).val = (y 0).val; omega
  | ⟨1, _⟩ => show 0 + 1 * (y 1).val = (y 1).val; omega

/-- The cotangent by residue of four and of sixteen. -/
theorem stores4 : (kernelRun0_A (F := Ideal) c i b1 h1 b2 h2 b3 h3 b4 h4 b5 h5 b6 h6 b7 h7 b8 h8 b9 h9 b10 h10 b11 h11 x0 x1 x2).2.1 =
    split16 (N := 128) (D := 4) (C := 2) (by decide) (by decide) b11.view [] (whole b1 h1 x0 inb_S512x256_S512x256_0_0) := by
  sl_kernel_rfl
theorem out4 (y : S4x128x256.Idx) : out0_A_4 (F := Ideal) c i b1 h1 b2 h2 b3 h3 b4 h4 b5 h5 b6 h6 b7 h7 b8 h8 b9 h9 b10 h10 b11 h11 x0 x1 x2 y = entry x0 ((y 0).val + 4 * (y 1).val) (y 2).val := by
  refine (View.read_writes_junk_apply_eq_canon _ _ _).trans ?_
  rw [stores4]
  exact (split16_canon (N := 128) (D := 4) (C := 2) _ _ b11.view _ _ y).trans (congrArg (entry · _ _) (whole_eq b1 h1 x0 _))
theorem stores5 : (kernelRun0_A (F := Ideal) c i b1 h1 b2 h2 b3 h3 b4 h4 b5 h5 b6 h6 b7 h7 b8 h8 b9 h9 b10 h10 b11 h11 x0 x1 x2).2.2.1 =
    split16 (N := 32) (D := 16) (C := 2) (by decide) (by decide) b11.view (kernelRun0_A.sl.HS0_10 (F := Ideal) c b1 h1 b2 h2 b3 h3 b4 x0 x1 x2) (whole b1 h1 x0 inb_S512x256_S512x256_0_0) := by
  sl_kernel_rfl
theorem out5 (y : S16x32x256.Idx) : out0_A_5 (F := Ideal) c i b1 h1 b2 h2 b3 h3 b4 h4 b5 h5 b6 h6 b7 h7 b8 h8 b9 h9 b10 h10 b11 h11 x0 x1 x2 y = entry x0 ((y 0).val + 16 * (y 1).val) (y 2).val := by
  refine (View.read_writes_junk_apply_eq_canon _ _ _).trans ?_
  rw [stores5]
  exact (split16_canon (N := 32) (D := 16) (C := 2) _ _ b11.view _ _ y).trans (congrArg (entry · _ _) (whole_eq b1 h1 x0 _))
/-- The log-denominators. -/
theorem stores6 : (kernelRun0_A (F := Ideal) c i b1 h1 b2 h2 b3 h3 b4 h4 b5 h5 b6 h6 b7 h7 b8 h8 b9 h9 b10 h10 b11 h11 x0 x1 x2).2.2.2.1 =
    split32 (N := 128) (D := 4) (C := 4) (by decide) (by decide) b11.view (kernelRun0_A.sl.HS0_2 (F := Ideal) c b1 h1 x0) (k0_pay23 (whole b3 h3 x2 inb_S512x512_S512x512_0_0)) := by
  sl_kernel_rfl
theorem out6 (y : S4x128x512.Idx) : out0_A_6 (F := Ideal) c i b1 h1 b2 h2 b3 h3 b4 h4 b5 h5 b6 h6 b7 h7 b8 h8 b9 h9 b10 h10 b11 h11 x0 x1 x2 y = entry x2 ((y 0).val + 4 * (y 1).val) (y 2).val := by
  refine (View.read_writes_junk_apply_eq_canon _ _ _).trans ?_
  rw [stores6]
  exact (split32_canon (N := 128) (D := 4) (C := 4) _ _ b11.view _ _ y).trans (congrArg (entry · _ _) ((pay_eq _).trans (whole_eq b3 h3 x2 _)))
theorem stores7 : (kernelRun0_A (F := Ideal) c i b1 h1 b2 h2 b3 h3 b4 h4 b5 h5 b6 h6 b7 h7 b8 h8 b9 h9 b10 h10 b11 h11 x0 x1 x2).2.2.2.2.1 =
    split32 (N := 32) (D := 16) (C := 4) (by decide) (by decide) b11.view (kernelRun0_A.sl.HS0_12 (F := Ideal) c b1 h1 b2 h2 b3 h3 b4 x0 x1 x2) (k0_pay103 (whole b3 h3 x2 inb_S512x512_S512x512_0_0)) := by
  sl_kernel_rfl
theorem out7 (y : S16x32x512.Idx) : out0_A_7 (F := Ideal) c i b1 h1 b2 h2 b3 h3 b4 h4 b5 h5 b6 h6 b7 h7 b8 h8 b9 h9 b10 h10 b11 h11 x0 x1 x2 y = entry x2 ((y 0).val + 16 * (y 1).val) (y 2).val := by
  refine (View.read_writes_junk_apply_eq_canon _ _ _).trans ?_
  rw [stores7]
  exact (split32_canon (N := 32) (D := 16) (C := 4) _ _ b11.view _ _ y).trans (congrArg (entry · _ _) ((pay_eq' _).trans (whole_eq b3 h3 x2 _)))
/-- The sums. -/
theorem stores8 : (kernelRun0_A (F := Ideal) c i b1 h1 b2 h2 b3 h3 b4 h4 b5 h5 b6 h6 b7 h7 b8 h8 b9 h9 b10 h10 b11 h11 x0 x1 x2).2.2.2.2.2.1 =
    split32 (N := 128) (D := 4) (C := 4) (by decide) (by decide) b11.view (kernelRun0_A.sl.HS0_6 (F := Ideal) c b1 h1 b3 h3 x0 x2) (kernelRun0_A.sl.v310 (F := Ideal) c b1 h1 b2 h2 b4 x0 x1) := by
  sl_kernel_rfl
theorem out8 (y : S4x128x512.Idx) : out0_A_8 (F := Ideal) c i b1 h1 b2 h2 b3 h3 b4 h4 b5 h5 b6 h6 b7 h7 b8 h8 b9 h9 b10 h10 b11 h11 x0 x1 x2 y = entry (sums x0 x1) ((y 0).val + 4 * (y 1).val) (y 2).val := by
  refine (View.read_writes_junk_apply_eq_canon _ _ _).trans ?_
  rw [stores8]
  exact (split32_canon (N := 128) (D := 4) (C := 4) _ _ b11.view _ _ y).trans (congrArg (entry · _ _) (reread c i b1 h1 b2 h2 b3 h3 b4 h4 b5 h5 b6 h6 b7 h7 b8 h8 b9 h9 b10 h10 b11 h11 x0 x1 x2))
theorem stores9 : (kernelRun0_A (F := Ideal) c i b1 h1 b2 h2 b3 h3 b4 h4 b5 h5 b6 h6 b7 h7 b8 h8 b9 h9 b10 h10 b11 h11 x0 x1 x2).2.2.2.2.2.2.1 =
    split32 (N := 32) (D := 16) (C := 4) (by decide) (by decide) b11.view (kernelRun0_A.sl.HS0_16 (F := Ideal) c b1 h1 b2 h2 b3 h3 b4 x0 x1 x2) (kernelRun0_A.sl.v310 (F := Ideal) c b1 h1 b2 h2 b4 x0 x1) := by
  sl_kernel_rfl
theorem out9 (y : S16x32x512.Idx) : out0_A_9 (F := Ideal) c i b1 h1 b2 h2 b3 h3 b4 h4 b5 h5 b6 h6 b7 h7 b8 h8 b9 h9 b10 h10 b11 h11 x0 x1 x2 y = entry (sums x0 x1) ((y 0).val + 16 * (y 1).val) (y 2).val := by
  refine (View.read_writes_junk_apply_eq_canon _ _ _).trans ?_
  rw [stores9]
  exact (split32_canon (N := 32) (D := 16) (C := 4) _ _ b11.view _ _ y).trans (congrArg (entry · _ _) (reread c i b1 h1 b2 h2 b3 h3 b4 h4 b5 h5 b6 h6 b7 h7 b8 h8 b9 h9 b10 h10 b11 h11 x0 x1 x2))

end block

end Cert.DprepTile

end
-- ==== Proof.DprepCuts.lean ====
module

public import proofs.«01_k».proof.Proof.Gen.KDprepIdeal.Value
public import proofs.«01_k».proof.Proof.Gen.RDprepIdeal.Read
public import Idealize.ShloMosaic.Lib.StableHlo.RunRead

@[expose] public section

set_option maxRecDepth 16384

noncomputable section

/- What the host lines before the call that prepares the dilated attention's gradient compute: the reference's forward
   lines, taken group of heads by group of heads.  Each cut says which values are still read later and that they are the
   reference's. -/
namespace Cert.DprepHost

open Idealize.ShloMosaic Idealize.ShloMosaic.TcCoe Idealize.SL.Sem Idealize.ShloMosaic.StableHlo
open Cert.KDprepIdeal Cert.KDprepIdeal.Gen

/-- A join of two arrays, part by part. -/
theorem joined {α β γ : Type} (f : α → β → γ) {a b : α} {a' b' : β} (h : a = b) (h' : a' = b') : f a a' = f b b' := by rw [h, h']

variable (W : Valuation τ sig (Elt Ideal)) (x : FVec Ideal S4096x5120 .f32)

/-- Still read after the rotated queries and keys, and the values are there. -/
abbrev Rotated : Prop :=
  W (Proc.devRef .tc main_c) = RDprepIdeal.Read.val_main_c (F := Ideal)
    ∧ W (Proc.devRef .tc main_v40) = RDprepIdeal.Read.val_main_v40 (F := Ideal) x
    ∧ W (Proc.devRef .tc main_v60) = RDprepIdeal.Read.val_main_v60 (F := Ideal) x
    ∧ W (Proc.devRef .tc main_v62) = RDprepIdeal.Read.val_main_v62 (F := Ideal) x
    ∧ W (Proc.devRef .tc main_v65) = RDprepIdeal.Read.val_main_v65 (F := Ideal) x
    ∧ W (Proc.devRef .tc main_v68) = RDprepIdeal.Read.val_main_v68 (F := Ideal) x
    ∧ W (Proc.devRef .tc main_v71) = RDprepIdeal.Read.val_main_v71 (F := Ideal) x

/-- Still read after the first group's pairs of neighbouring chunks are there. -/
abbrev Pairs₁ : Prop :=
  W (Proc.devRef .tc main_v40) = RDprepIdeal.Read.val_main_v40 (F := Ideal) x
    ∧ W (Proc.devRef .tc main_v60) = RDprepIdeal.Read.val_main_v60 (F := Ideal) x
    ∧ W (Proc.devRef .tc main_v62) = RDprepIdeal.Read.val_main_v62 (F := Ideal) x
    ∧ W (Proc.devRef .tc main_v68) = RDprepIdeal.Read.val_main_v68 (F := Ideal) x
    ∧ W (Proc.devRef .tc main_v74) = RDprepIdeal.Read.val_main_v74 (F := Ideal) x
    ∧ W (Proc.devRef .tc main_v77) = RDprepIdeal.Read.val_main_v77 (F := Ideal) x
    ∧ W (Proc.devRef .tc main_v78) = RDprepIdeal.Read.val_main_v78 (F := Ideal) x

/-- Still read after the first group's masked scores are there. -/
abbrev Scores₁ : Prop :=
  W (Proc.devRef .tc main_v112) = RDprepIdeal.Read.val_main_v112 (F := Ideal) x
    ∧ W (Proc.devRef .tc main_v40) = RDprepIdeal.Read.val_main_v40 (F := Ideal) x
    ∧ W (Proc.devRef .tc main_v60) = RDprepIdeal.Read.val_main_v60 (F := Ideal) x
    ∧ W (Proc.devRef .tc main_v62) = RDprepIdeal.Read.val_main_v62 (F := Ideal) x
    ∧ W (Proc.devRef .tc main_v80) = RDprepIdeal.Read.val_main_v80 (F := Ideal) x

/-- Still read after the first group's output and log-denominator are there. -/
abbrev Group₁ : Prop :=
  W (Proc.devRef .tc main_c_13) = RDprepIdeal.Read.val_main_c_13 (F := Ideal)
    ∧ W (Proc.devRef .tc main_v128) = RDprepIdeal.Read.val_main_v128 (F := Ideal) x
    ∧ W (Proc.devRef .tc main_v131) = RDprepIdeal.Read.val_main_v131 (F := Ideal) x
    ∧ W (Proc.devRef .tc main_v134) = RDprepIdeal.Read.val_main_v134 (F := Ideal) x
    ∧ W (Proc.devRef .tc main_v137) = RDprepIdeal.Read.val_main_v137 (F := Ideal) x
    ∧ W (Proc.devRef .tc main_v140) = RDprepIdeal.Read.val_main_v140 (F := Ideal) x
    ∧ W (Proc.devRef .tc main_v40) = RDprepIdeal.Read.val_main_v40 (F := Ideal) x
    ∧ W (Proc.devRef .tc main_v60) = RDprepIdeal.Read.val_main_v60 (F := Ideal) x
    ∧ W (Proc.devRef .tc main_v62) = RDprepIdeal.Read.val_main_v62 (F := Ideal) x

/-- Still read after the second group's pairs of neighbouring chunks are there. -/
abbrev Pairs₂ : Prop :=
  W (Proc.devRef .tc main_v128) = RDprepIdeal.Read.val_main_v128 (F := Ideal) x
    ∧ W (Proc.devRef .tc main_v131) = RDprepIdeal.Read.val_main_v131 (F := Ideal) x
    ∧ W (Proc.devRef .tc main_v137) = RDprepIdeal.Read.val_main_v137 (F := Ideal) x
    ∧ W (Proc.devRef .tc main_v143) = RDprepIdeal.Read.val_main_v143 (F := Ideal) x
    ∧ W (Proc.devRef .tc main_v146) = RDprepIdeal.Read.val_main_v146 (F := Ideal) x
    ∧ W (Proc.devRef .tc main_v147) = RDprepIdeal.Read.val_main_v147 (F := Ideal) x
    ∧ W (Proc.devRef .tc main_v40) = RDprepIdeal.Read.val_main_v40 (F := Ideal) x
    ∧ W (Proc.devRef .tc main_v60) = RDprepIdeal.Read.val_main_v60 (F := Ideal) x
    ∧ W (Proc.devRef .tc main_v62) = RDprepIdeal.Read.val_main_v62 (F := Ideal) x

/-- Still read after the second group's masked scores are there. -/
abbrev Scores₂ : Prop :=
  W (Proc.devRef .tc main_v128) = RDprepIdeal.Read.val_main_v128 (F := Ideal) x
    ∧ W (Proc.devRef .tc main_v131) = RDprepIdeal.Read.val_main_v131 (F := Ideal) x
    ∧ W (Proc.devRef .tc main_v149) = RDprepIdeal.Read.val_main_v149 (F := Ideal) x
    ∧ W (Proc.devRef .tc main_v181) = RDprepIdeal.Read.val_main_v181 (F := Ideal) x
    ∧ W (Proc.devRef .tc main_v40) = RDprepIdeal.Read.val_main_v40 (F := Ideal) x
    ∧ W (Proc.devRef .tc main_v60) = RDprepIdeal.Read.val_main_v60 (F := Ideal) x
    ∧ W (Proc.devRef .tc main_v62) = RDprepIdeal.Read.val_main_v62 (F := Ideal) x

/-- Still read after the second group's output and log-denominator are there. -/
abbrev Group₂ : Prop :=
  W (Proc.devRef .tc main_c_24) = RDprepIdeal.Read.val_main_c_24 (F := Ideal)
    ∧ W (Proc.devRef .tc main_v128) = RDprepIdeal.Read.val_main_v128 (F := Ideal) x
    ∧ W (Proc.devRef .tc main_v131) = RDprepIdeal.Read.val_main_v131 (F := Ideal) x
    ∧ W (Proc.devRef .tc main_v197) = RDprepIdeal.Read.val_main_v197 (F := Ideal) x
    ∧ W (Proc.devRef .tc main_v200) = RDprepIdeal.Read.val_main_v200 (F := Ideal) x
    ∧ W (Proc.devRef .tc main_v203) = RDprepIdeal.Read.val_main_v203 (F := Ideal) x
    ∧ W (Proc.devRef .tc main_v206) = RDprepIdeal.Read.val_main_v206 (F := Ideal) x
    ∧ W (Proc.devRef .tc main_v209) = RDprepIdeal.Read.val_main_v209 (F := Ideal) x

/-- Still read after the third group's pairs of neighbouring chunks are there. -/
abbrev Pairs₃ : Prop :=
  W (Proc.devRef .tc main_v128) = RDprepIdeal.Read.val_main_v128 (F := Ideal) x
    ∧ W (Proc.devRef .tc main_v131) = RDprepIdeal.Read.val_main_v131 (F := Ideal) x
    ∧ W (Proc.devRef .tc main_v197) = RDprepIdeal.Read.val_main_v197 (F := Ideal) x
    ∧ W (Proc.devRef .tc main_v200) = RDprepIdeal.Read.val_main_v200 (F := Ideal) x
    ∧ W (Proc.devRef .tc main_v206) = RDprepIdeal.Read.val_main_v206 (F := Ideal) x
    ∧ W (Proc.devRef .tc main_v212) = RDprepIdeal.Read.val_main_v212 (F := Ideal) x
    ∧ W (Proc.devRef .tc main_v215) = RDprepIdeal.Read.val_main_v215 (F := Ideal) x
    ∧ W (Proc.devRef .tc main_v216) = RDprepIdeal.Read.val_main_v216 (F := Ideal) x

/-- Still read after the third group's masked scores are there. -/
abbrev Scores₃ : Prop :=
  W (Proc.devRef .tc main_v128) = RDprepIdeal.Read.val_main_v128 (F := Ideal) x
    ∧ W (Proc.devRef .tc main_v131) = RDprepIdeal.Read.val_main_v131 (F := Ideal) x
    ∧ W (Proc.devRef .tc main_v197) = RDprepIdeal.Read.val_main_v197 (F := Ideal) x
    ∧ W (Proc.devRef .tc main_v200) = RDprepIdeal.Read.val_main_v200 (F := Ideal) x
    ∧ W (Proc.devRef .tc main_v218) = RDprepIdeal.Read.val_main_v218 (F := Ideal) x
    ∧ W (Proc.devRef .tc main_v250) = RDprepIdeal.Read.val_main_v250 (F := Ideal) x

end Cert.DprepHost

end
-- ==== Proof.DprepGroup1.lean ====
module

public import proofs.«01_k».proof.Proof.DprepCuts

@[expose] public section

set_option maxRecDepth 16384

noncomputable section

/- The host lines up to the first group's output. -/
namespace Cert.DprepHost

open Idealize.ShloMosaic Idealize.ShloMosaic.TcCoe Idealize.SL.Sem Idealize.ShloMosaic.StableHlo
open Cert.KDprepIdeal Cert.KDprepIdeal.Gen

variable (W : Valuation τ sig (Elt Ideal)) (x : FVec Ideal S4096x5120 .f32)

set_option maxHeartbeats 4000000 in
/-- Rotary embedding of the queries and keys. -/
theorem rotated (h : W (Proc.devRef .tc main_arg0) = x) :
    Rotated (after hostOps0 W) x := by
  refine ⟨?_, ?_, ?_, ?_, ?_, ?_, ?_⟩ <;>
    · after_results_simp
      subst h
      try sl_kernel_rfl

set_option maxHeartbeats 4000000 in
/-- The first group's pairs of neighbouring chunks. -/
theorem pairs₁ (h : Rotated W x) :
    Pairs₁ (after (hostOps0_1 ++ hostOps0_2 ++ hostOps0_3) W) x := by
  obtain ⟨h0, h1, h2, h3, h4, h5, h6⟩ := h
  simp only [hostOps0_1, hostOps0_2, hostOps0_3, List.cons_append, List.nil_append]
  refine ⟨?_, ?_, ?_, ?_, ?cat, ?_, ?_⟩
  case cat =>
    after_results_simp
    refine joined (fun a b => concatenate S4x1x32x256x64 3 [⟨S4x1x32x128x64, a⟩, ⟨S4x1x32x128x64, b⟩] concatenates_S4x1x32x128x64_S4x1x32x128x64_S4x1x32x256x64_d3) (b := RDprepIdeal.Read.val_main_v73 (F := Ideal) x) (b' := RDprepIdeal.Read.val_main_v71 (F := Ideal) x) ?_ ?_ <;>
      · after_results_simp
        try simp only [h0, h1, h2, h3, h4, h5, h6]
        try sl_kernel_rfl
  all_goals
    after_results_simp
    try simp only [h0, h1, h2, h3, h4, h5, h6]
    try sl_kernel_rfl

set_option maxHeartbeats 4000000 in
/-- The first group's masked scores. -/
theorem scores₁ (h : Pairs₁ W x) :
    Scores₁ (after (hostOps0_4 ++ hostOps0_5) W) x := by
  obtain ⟨h0, h1, h2, h3, h4, h5, h6⟩ := h
  simp only [hostOps0_4, hostOps0_5, List.cons_append, List.nil_append]
  refine ⟨?_, ?_, ?_, ?_, ?cat⟩
  case cat =>
    after_results_simp
    refine joined (fun a b => concatenate S4x1x32x256x64 3 [⟨S4x1x32x128x64, a⟩, ⟨S4x1x32x128x64, b⟩] concatenates_S4x1x32x128x64_S4x1x32x128x64_S4x1x32x256x64_d3) (b := RDprepIdeal.Read.val_main_v79 (F := Ideal) x) (b' := RDprepIdeal.Read.val_main_v77 (F := Ideal) x) ?_ ?_ <;>
      · after_results_simp
        try simp only [h0, h1, h2, h3, h4, h5, h6]
        try sl_kernel_rfl
  all_goals
    after_results_simp
    try simp only [h0, h1, h2, h3, h4, h5, h6]
    try sl_kernel_rfl

set_option maxHeartbeats 4000000 in
/-- The first group's output and log-denominator. -/
theorem group₁ (h : Scores₁ W x) :
    Group₁ (after hostOps0_6 W) x := by
  obtain ⟨h0, h1, h2, h3, h4⟩ := h
  refine ⟨?_, ?_, ?_, ?_, ?_, ?_, ?_, ?_, ?_⟩ <;>
    · after_results_simp
      try simp only [h0, h1, h2, h3, h4]
      try sl_kernel_rfl

end Cert.DprepHost

end
-- ==== Proof.DprepGroup2.lean ====
module

public import proofs.«01_k».proof.Proof.DprepCuts

@[expose] public section

set_option maxRecDepth 16384

noncomputable section

/- The host lines of the second group of heads. -/
namespace Cert.DprepHost

open Idealize.ShloMosaic Idealize.ShloMosaic.TcCoe Idealize.SL.Sem Idealize.ShloMosaic.StableHlo
open Cert.KDprepIdeal Cert.KDprepIdeal.Gen

variable (W : Valuation τ sig (Elt Ideal)) (x : FVec Ideal S4096x5120 .f32)

set_option maxHeartbeats 4000000 in
/-- The second group's pairs of neighbouring chunks. -/
theorem pairs₂ (h : Group₁ W x) :
    Pairs₂ (after (hostOps0_7 ++ hostOps0_8 ++ hostOps0_9) W) x := by
  obtain ⟨h0, h1, h2, h3, h4, h5, h6, h7, h8⟩ := h
  simp only [hostOps0_7, hostOps0_8, hostOps0_9, List.cons_append, List.nil_append]
  refine ⟨?_, ?_, ?_, ?cat, ?_, ?_, ?_, ?_, ?_⟩
  case cat =>
    after_results_simp
    refine joined (fun a b => concatenate S4x4x8x256x64 3 [⟨S4x4x8x128x64, a⟩, ⟨S4x4x8x128x64, b⟩] concatenates_S4x4x8x128x64_S4x4x8x128x64_S4x4x8x256x64_d3) (b := RDprepIdeal.Read.val_main_v142 (F := Ideal) x) (b' := RDprepIdeal.Read.val_main_v140 (F := Ideal) x) ?_ ?_ <;>
      · after_results_simp
        try simp only [h0, h1, h2, h3, h4, h5, h6, h7, h8]
        try sl_kernel_rfl
  all_goals
    after_results_simp
    try simp only [h0, h1, h2, h3, h4, h5, h6, h7, h8]
    try sl_kernel_rfl

set_option maxHeartbeats 4000000 in
/-- The second group's masked scores. -/
theorem scores₂ (h : Pairs₂ W x) :
    Scores₂ (after (hostOps0_10 ++ hostOps0_11) W) x := by
  obtain ⟨h0, h1, h2, h3, h4, h5, h6, h7, h8⟩ := h
  simp only [hostOps0_10, hostOps0_11, List.cons_append, List.nil_append]
  refine ⟨?_, ?_, ?cat, ?_, ?_, ?_, ?_⟩
  case cat =>
    after_results_simp
    refine joined (fun a b => concatenate S4x4x8x256x64 3 [⟨S4x4x8x128x64, a⟩, ⟨S4x4x8x128x64, b⟩] concatenates_S4x4x8x128x64_S4x4x8x128x64_S4x4x8x256x64_d3) (b := RDprepIdeal.Read.val_main_v148 (F := Ideal) x) (b' := RDprepIdeal.Read.val_main_v146 (F := Ideal) x) ?_ ?_ <;>
      · after_results_simp
        try simp only [h0, h1, h2, h3, h4, h5, h6, h7, h8]
        try sl_kernel_rfl
  all_goals
    after_results_simp
    try simp only [h0, h1, h2, h3, h4, h5, h6, h7, h8]
    try sl_kernel_rfl

set_option maxHeartbeats 4000000 in
/-- The second group's output and log-denominator. -/
theorem group₂ (h : Scores₂ W x) :
    Group₂ (after hostOps0_12 W) x := by
  obtain ⟨h0, h1, h2, h3, h4, h5, h6⟩ := h
  refine ⟨?_, ?_, ?_, ?_, ?_, ?_, ?_, ?_⟩ <;>
    · after_results_simp
      try simp only [h0, h1, h2, h3, h4, h5, h6]
      try sl_kernel_rfl

end Cert.DprepHost

end
-- ==== Proof.DprepGroup3.lean ====
module

public import proofs.«01_k».proof.Proof.DprepCuts

@[expose] public section

set_option maxRecDepth 16384

noncomputable section

/- The host lines of the third group of heads, and of the merge. -/
namespace Cert.DprepHost

open Idealize.ShloMosaic Idealize.ShloMosaic.TcCoe Idealize.SL.Sem Idealize.ShloMosaic.StableHlo
open Cert.KDprepIdeal Cert.KDprepIdeal.Gen

variable (W : Valuation τ sig (Elt Ideal)) (x : FVec Ideal S4096x5120 .f32)

set_option maxHeartbeats 4000000 in
/-- The third group's pairs of neighbouring chunks. -/
theorem pairs₃ (h : Group₂ W x) :
    Pairs₃ (after (hostOps0_13 ++ hostOps0_14 ++ hostOps0_15) W) x := by
  obtain ⟨h0, h1, h2, h3, h4, h5, h6, h7⟩ := h
  simp only [hostOps0_13, hostOps0_14, hostOps0_15, List.cons_append, List.nil_append]
  refine ⟨?_, ?_, ?_, ?_, ?_, ?cat, ?_, ?_⟩
  case cat =>
    after_results_simp
    refine joined (fun a b => concatenate S4x16x2x256x64 3 [⟨S4x16x2x128x64, a⟩, ⟨S4x16x2x128x64, b⟩] concatenates_S4x16x2x128x64_S4x16x2x128x64_S4x16x2x256x64_d3) (b := RDprepIdeal.Read.val_main_v211 (F := Ideal) x) (b' := RDprepIdeal.Read.val_main_v209 (F := Ideal) x) ?_ ?_ <;>
      · after_results_simp
        try simp only [h0, h1, h2, h3, h4, h5, h6, h7]
        try sl_kernel_rfl
  all_goals
    after_results_simp
    try simp only [h0, h1, h2, h3, h4, h5, h6, h7]
    try sl_kernel_rfl

set_option maxHeartbeats 4000000 in
/-- The third group's masked scores. -/
theorem scores₃ (h : Pairs₃ W x) :
    Scores₃ (after (hostOps0_16 ++ hostOps0_17) W) x := by
  obtain ⟨h0, h1, h2, h3, h4, h5, h6, h7⟩ := h
  simp only [hostOps0_16, hostOps0_17, List.cons_append, List.nil_append]
  refine ⟨?_, ?_, ?_, ?_, ?cat, ?_⟩
  case cat =>
    after_results_simp
    refine joined (fun a b => concatenate S4x16x2x256x64 3 [⟨S4x16x2x128x64, a⟩, ⟨S4x16x2x128x64, b⟩] concatenates_S4x16x2x128x64_S4x16x2x128x64_S4x16x2x256x64_d3) (b := RDprepIdeal.Read.val_main_v217 (F := Ideal) x) (b' := RDprepIdeal.Read.val_main_v215 (F := Ideal) x) ?_ ?_ <;>
      · after_results_simp
        try simp only [h0, h1, h2, h3, h4, h5, h6, h7]
        try sl_kernel_rfl
  all_goals
    after_results_simp
    try simp only [h0, h1, h2, h3, h4, h5, h6, h7]
    try sl_kernel_rfl

set_option maxHeartbeats 4000000 in
/-- The third group's output and log-denominator, and the groups' results merged. -/
theorem group₃ (h : Scores₃ W x) :
    after hostOps0_18 W (Proc.devRef .tc main_v297) = RDprepIdeal.Read.val_main_v297 (F := Ideal) x
    ∧ after hostOps0_18 W (Proc.devRef .tc main_v303) = RDprepIdeal.Read.val_main_v322 (F := Ideal) x := by
  obtain ⟨h0, h1, h2, h3, h4, h5⟩ := h
  refine ⟨?_, ?_⟩ <;>
    · after_results_simp
      try simp only [h0, h1, h2, h3, h4, h5]
      try sl_kernel_rfl

end Cert.DprepHost

end
-- ==== Proof.DprepHost.lean ====
module

public import proofs.«01_k».proof.Proof.DprepGroup1
public import proofs.«01_k».proof.Proof.DprepGroup2
public import proofs.«01_k».proof.Proof.DprepGroup3

@[expose] public section

set_option maxRecDepth 16384

noncomputable section

/- The host lines as a whole. -/
namespace Cert.DprepHost

open Idealize.ShloMosaic Idealize.ShloMosaic.TcCoe Idealize.SL.Sem Idealize.ShloMosaic.StableHlo
open Cert.KDprepIdeal Cert.KDprepIdeal.Gen

variable (m : (ℓ : Loc nD τ sig) → Buf (Elt Ideal) ℓ) (c : Dev nD)

/-- The forward lines are the reference's: the output, and the log-denominators repeated over the lanes. -/
theorem lines : V m c main_v297 = RDprepIdeal.Read.val_main_v297 (F := Ideal) (m ((c : Thread nD τ).loc main_arg0))
    ∧ V m c main_v303 = RDprepIdeal.Read.val_main_v322 (F := Ideal) (m ((c : Thread nD τ).loc main_arg0)) := by
  have h := group₃ _ _ (scores₃ _ _ (pairs₃ _ _ (group₂ _ _ (scores₂ _ _ (pairs₂ _ _ (group₁ _ _ (scores₁ _ _ (pairs₁ _ _
    (rotated (fun b => m (c, b)) (m ((c : Thread nD τ).loc main_arg0)) rfl)))))))))
  simp only [← after_append, List.append_assoc] at h
  simp only [V, List.flatten_cons, List.flatten_nil, List.append_nil]
  exact h
theorem out_eq : V m c main_v297 = RDprepIdeal.Read.val_main_v297 (F := Ideal) (m ((c : Thread nD τ).loc main_arg0)) := (lines m c).1
theorem lse_eq : V m c main_v303 = RDprepIdeal.Read.val_main_v322 (F := Ideal) (m ((c : Thread nD τ).loc main_arg0)) := (lines m c).2

end Cert.DprepHost

end
-- ==== Proof.DprepRef.lean ====
module

public import proofs.«01_k».proof.Proof.Gen.RDprepIdeal.Read
public import Idealize.ShloMosaic.Lib.Pipeline.ValueKit

@[expose] public section

set_option maxRecDepth 16384

noncomputable section

/- The reference's results for the preparation of the dilated attention's gradient, each at one place. -/
namespace Cert.DprepRef

open Idealize.ShloMosaic Idealize.ShloMosaic.TcCoe Idealize.SL.Sem
open Cert.RDprepIdeal Cert.RDprepIdeal.Gen

variable (x : FVec Ideal S4096x5120 .f32) (y : FVec Ideal S4096x256 .f32)

/-- Each head's sum of the products of two arrays, on the head's 128 lanes, as the reference takes it. -/
def sumsOf (o : FVec Ideal S4096x256 .f32) (y : FVec Ideal S4096x256 .f32) : FVec Ideal S4096x512 .f32 :=
  shapeCast _ (broadcastInDim S4096x4x128 ![0, 1, 2] bcast_S4096x4x1_S4096x4x128_0_1_2 (broadcastInDim S4096x4x1 ![0, 1] bcast_S4096x4_S4096x4x1_0_1
    (Host.reduceAdd (F := Ideal) (shapeCast S4096x4x1 (Host.reduceAdd (F := Ideal) (mulf (shapeCast S4096x4x64 y shapeCasts_S4096x256_S4096x4x64) (shapeCast S4096x4x64 o shapeCasts_S4096x256_S4096x4x64))
      (RDprepIdeal.Read.val_main_cst_37 (F := Ideal)) reducesTo_S4096x4x64_S4096x4_d2 h_S_) shapeCasts_S4096x4_S4096x4x1)
      (RDprepIdeal.Read.val_main_cst_38 (F := Ideal)) reducesTo_S4096x4x1_S4096x4_d2 h_S_))) shapeCasts_S4096x4x128_S4096x512
theorem sumsOf_at (o : FVec Ideal S4096x256 .f32) (i : Fin 4096) (k : Fin 512) :
    sumsOf o y (ix2 i k) = ∑ e : Fin 64, y (ix2 i ⟨64 * (k.val / 128) + e.val, by omega⟩) * o (ix2 i ⟨64 * (k.val / 128) + e.val, by omega⟩) := by
  pointwise! [sumsOf, RDprepIdeal.Read.val_main_cst_37, RDprepIdeal.Read.val_main_cst_38]
  refine (Fin.sum_univ_one _).trans (Finset.sum_congr rfl fun e _ => ?_)
  have h (u v : Fin 256) (huv : u.val = v.val) : y (ix2 i u) * o (ix2 i u) = y (ix2 i v) * o (ix2 i v) := by
    rw [Fin.ext huv]
  exact h _ _ (by simp only; omega)

/-- The reference's sums at one place. -/
theorem ref_at (i : Fin 4096) (k : Fin 512) :
    RDprepIdeal.Read.val_main_v314 (F := Ideal) x y (ix2 i k)
      = ∑ e : Fin 64, y (ix2 i ⟨64 * (k.val / 128) + e.val, by omega⟩) * RDprepIdeal.Read.val_main_v297 (F := Ideal) x (ix2 i ⟨64 * (k.val / 128) + e.val, by omega⟩) :=
  (congrFun (show RDprepIdeal.Read.val_main_v314 (F := Ideal) x y = sumsOf (RDprepIdeal.Read.val_main_v297 (F := Ideal) x) y from rfl) _).trans (sumsOf_at _ _ _ _)

/-- The reference's residues: row n of residue r of D is row r + D·n. -/
theorem do4 (r : Fin 4) (n : Fin 1024) (k : Fin 256) : RDprepIdeal.Read.val_main_v317 (F := Ideal) y (ix3 r n k) = y (ix2 ⟨r.val + 4 * n.val, by omega⟩ k) := by
  have h (u v : Fin 4096) (huv : u.val = v.val) : y (ix2 u k) = y (ix2 v k) := by rw [Fin.ext huv]
  pointwise! [RDprepIdeal.Read.val_main_v317, RDprepIdeal.Read.val_main_v316, RDprepIdeal.Read.val_main_v315]
theorem do16 (r : Fin 16) (n : Fin 256) (k : Fin 256) : RDprepIdeal.Read.val_main_v319 (F := Ideal) y (ix3 r n k) = y (ix2 ⟨r.val + 16 * n.val, by omega⟩ k) := by
  have h (u v : Fin 4096) (huv : u.val = v.val) : y (ix2 u k) = y (ix2 v k) := by rw [Fin.ext huv]
  pointwise! [RDprepIdeal.Read.val_main_v319, RDprepIdeal.Read.val_main_v318, RDprepIdeal.Read.val_main_v315]
theorem lse4 (r : Fin 4) (n : Fin 1024) (k : Fin 512) : RDprepIdeal.Read.val_main_v324 (F := Ideal) x (ix3 r n k) = RDprepIdeal.Read.val_main_v322 (F := Ideal) x (ix2 ⟨r.val + 4 * n.val, by omega⟩ k) := by
  unfold RDprepIdeal.Read.val_main_v324 RDprepIdeal.Read.val_main_v323
  generalize RDprepIdeal.Read.val_main_v322 (F := Ideal) x = a
  have h (u v : Fin 4096) (huv : u.val = v.val) : a (ix2 u k) = a (ix2 v k) := by rw [Fin.ext huv]
  pointwise! []
theorem lse16 (r : Fin 16) (n : Fin 256) (k : Fin 512) : RDprepIdeal.Read.val_main_v326 (F := Ideal) x (ix3 r n k) = RDprepIdeal.Read.val_main_v322 (F := Ideal) x (ix2 ⟨r.val + 16 * n.val, by omega⟩ k) := by
  unfold RDprepIdeal.Read.val_main_v326 RDprepIdeal.Read.val_main_v325
  generalize RDprepIdeal.Read.val_main_v322 (F := Ideal) x = a
  have h (u v : Fin 4096) (huv : u.val = v.val) : a (ix2 u k) = a (ix2 v k) := by rw [Fin.ext huv]
  pointwise! []
theorem sums4 (r : Fin 4) (n : Fin 1024) (k : Fin 512) : RDprepIdeal.Read.val_main_v328 (F := Ideal) x y (ix3 r n k) = RDprepIdeal.Read.val_main_v314 (F := Ideal) x y (ix2 ⟨r.val + 4 * n.val, by omega⟩ k) := by
  unfold RDprepIdeal.Read.val_main_v328 RDprepIdeal.Read.val_main_v327
  generalize RDprepIdeal.Read.val_main_v314 (F := Ideal) x y = a
  have h (u v : Fin 4096) (huv : u.val = v.val) : a (ix2 u k) = a (ix2 v k) := by rw [Fin.ext huv]
  pointwise! []
theorem sums16 (r : Fin 16) (n : Fin 256) (k : Fin 512) : RDprepIdeal.Read.val_main_v330 (F := Ideal) x y (ix3 r n k) = RDprepIdeal.Read.val_main_v314 (F := Ideal) x y (ix2 ⟨r.val + 16 * n.val, by omega⟩ k) := by
  unfold RDprepIdeal.Read.val_main_v330 RDprepIdeal.Read.val_main_v329
  generalize RDprepIdeal.Read.val_main_v314 (F := Ideal) x y = a
  have h (u v : Fin 4096) (huv : u.val = v.val) : a (ix2 u k) = a (ix2 v k) := by rw [Fin.ext huv]
  pointwise! []

end Cert.DprepRef

end
-- ==== Proof.DprepEq.lean ====
module

public import proofs.«01_k».proof.Proof.DprepTile
public import proofs.«01_k».proof.Proof.DprepHost
public import proofs.«01_k».proof.Proof.DprepRef
public import proofs.«01_k».proof.Defs

@[expose] public section

set_option maxRecDepth 16384

noncomputable section

/- The preparation of the dilated attention's gradient: the kernel's run and the reference's run end with the same
   seven results. -/
namespace Cert.DprepEq

open Idealize.ShloMosaic Idealize.ShloMosaic.TcCoe Idealize.SL.Sem
open Cert.HeadSum Cert.SplitTile Cert.DprepTile Cert.DprepHost Cert.DprepRef Cert.KDprepIdeal Cert.KDprepIdeal.Gen

variable (m : (ℓ : Loc nD τ sig) → Buf (Elt Ideal) ℓ) (c : Dev nD)

theorem at0 : ∀ t : Fin grid0.N,
    (win0_0.index t = ![t.val, 0] ∧ win0_1.index t = ![t.val, 0] ∧ win0_2.index t = ![t.val, 0])
    ∧ win0_3.index t = ![t.val, 0] := by decide +kernel
theorem atOut : ∀ t : Fin grid0.N,
    (win0_4.index t = ![0, t.val, 0] ∧ win0_5.index t = ![0, t.val, 0] ∧ win0_6.index t = ![0, t.val, 0])
    ∧ (win0_7.index t = ![0, t.val, 0] ∧ win0_8.index t = ![0, t.val, 0] ∧ win0_9.index t = ![0, t.val, 0]) := by decide +kernel

/-- A point's blocks of the cotangent, of the output and of the log-denominators. -/
theorem b0 (t : Fin cfg0.N) (i : Fin 512) (k : Fin 256) : (iblk m c 0 t : S512x256.Idx → EReal) (ix2 i k)
    = (m ((c : Thread nD τ).loc main_arg1) : S4096x256.Idx → EReal) (ix2 ⟨t.val * 512 + i.val, by have : t.val < 8 := t.isLt; omega⟩ k) := by
  obtain ⟨⟨e, _, _⟩, _⟩ := at0 t
  refine Eq.trans ?_ (congrFun (V_main_arg1 m c) _)
  show (V m c main_arg1 : S4096x256.Idx → EReal) _ = _
  refine congrArg _ ?_; blk_ext [e]
/-- A block of a window whose array is known. -/
theorem block (w : Fin cfg0.W) (t : Fin cfg0.N) {A : Buf (Elt Ideal) ((c : Thread nD τ).loc (Pipeline.arrRef spec0 w))} (h : V m c (Pipeline.arrRef spec0 w) = A) :
    iblk m c w t = ((cfg0.win w).blk t).view.read (Elt Ideal) A := by rw [iblk, h]

/-- What a point leaves in its block of each result. -/
theorem got3 (t : Fin cfg0.N) (y : S512x512.Idx) : (outsAt0 m c t).1 y = sums (iblk m c 0 t) (iblk m c 1 t) y := by
  simp only [outsAt0, out3]
theorem got4 (t : Fin cfg0.N) (y : S4x128x256.Idx) : (outsAt0 m c t).2.1 y = entry (iblk m c 0 t) ((y 0).val + 4 * (y 1).val) (y 2).val := by
  simp only [outsAt0, out4]
theorem got5 (t : Fin cfg0.N) (y : S16x32x256.Idx) : (outsAt0 m c t).2.2.1 y = entry (iblk m c 0 t) ((y 0).val + 16 * (y 1).val) (y 2).val := by
  simp only [outsAt0, out5]
theorem got6 (t : Fin cfg0.N) (y : S4x128x512.Idx) : (outsAt0 m c t).2.2.2.1 y = entry (iblk m c 2 t) ((y 0).val + 4 * (y 1).val) (y 2).val := by
  simp only [outsAt0, out6]
theorem got7 (t : Fin cfg0.N) (y : S16x32x512.Idx) : (outsAt0 m c t).2.2.2.2.1 y = entry (iblk m c 2 t) ((y 0).val + 16 * (y 1).val) (y 2).val := by
  simp only [outsAt0, out7]
theorem got8 (t : Fin cfg0.N) (y : S4x128x512.Idx) : (outsAt0 m c t).2.2.2.2.2.1 y = entry (sums (iblk m c 0 t) (iblk m c 1 t)) ((y 0).val + 4 * (y 1).val) (y 2).val := by
  simp only [outsAt0, out8]
theorem got9 (t : Fin cfg0.N) (y : S16x32x512.Idx) : (outsAt0 m c t).2.2.2.2.2.2 y = entry (sums (iblk m c 0 t) (iblk m c 1 t)) ((y 0).val + 16 * (y 1).val) (y 2).val := by
  simp only [outsAt0, out9]

section known
/- The output and the log-denominators the call finds, and the reference's sums of them. -/
variable (o : FVec Ideal S4096x256 .f32) (l : FVec Ideal S4096x512 .f32) (R : FVec Ideal S4096x512 .f32)
  (ho : V m c main_v297 = o) (hl : V m c main_v303 = l)
  (hR : ∀ (i : Fin 4096) (k : Fin 512), R (ix2 i k) = ∑ e : Fin 64, @HMul.hMul EReal EReal EReal _ ((m ((c : Thread nD τ).loc main_arg1) : S4096x256.Idx → EReal) (ix2 i ⟨64 * (k.val / 128) + e.val, by omega⟩)) (o (ix2 i ⟨64 * (k.val / 128) + e.val, by omega⟩)))

include ho in
theorem b1 (t : Fin cfg0.N) (i : Fin 512) (k : Fin 256) : (iblk m c 1 t : S512x256.Idx → EReal) (ix2 i k)
    = o (ix2 ⟨t.val * 512 + i.val, by have : t.val < 8 := t.isLt; omega⟩ k) := by
  obtain ⟨⟨_, e, _⟩, _⟩ := at0 t
  refine (congrFun (block m c 1 t (A := o) ho) (ix2 i k)).trans ?_
  show o _ = _
  refine congrArg _ ?_; blk_ext [e]
include hl in
theorem b2 (t : Fin cfg0.N) (i k : Fin 512) : (iblk m c 2 t : S512x512.Idx → EReal) (ix2 i k)
    = l (ix2 ⟨t.val * 512 + i.val, by have : t.val < 8 := t.isLt; omega⟩ k) := by
  obtain ⟨⟨_, _, e⟩, _⟩ := at0 t
  refine (congrFun (block m c 2 t (A := l) hl) (ix2 i k)).trans ?_
  show l _ = _
  refine congrArg _ ?_; blk_ext [e]

include ho hR in
/-- A point's sums are the reference's at the point's rows. -/
theorem sums_at (t : Fin cfg0.N) (i k : Fin 512) : sums (iblk m c 0 t) (iblk m c 1 t) (ix2 i k)
    = R (ix2 ⟨t.val * 512 + i.val, by have : t.val < 8 := t.isLt; omega⟩ k) := by
  refine Eq.trans ?_ (hR _ _).symm
  refine (headSum_eq _ _ (show k.val / 128 < 4 by omega)).trans (Finset.sum_congr rfl fun s _ => ?_)
  exact congrArg₂ (fun u v : EReal => u * v) (b0 m c t _ _) (b1 m c o ho t _ _)

/-- An entry of a block whose rows are rows of an array. -/
theorem entry_at {w : ℕ} (X : (⟨2, ![512, w]⟩ : Shape).Idx → EReal) (Y : (⟨2, ![4096, w]⟩ : Shape).Idx → EReal) (t : Fin 8)
    (h : ∀ (i : Fin 512) (k : Fin w), X (ix2 i k) = Y (ix2 ⟨t.val * 512 + i.val, by omega⟩ k)) (i : ℕ) (hi : i < 512) (k : Fin w) (i' : Fin 4096)
    (e : i'.val = t.val * 512 + i) : entry X i k.val = Y (ix2 i' k) := by
  refine (entry_eq X ⟨i, hi⟩ k i k.val rfl rfl).trans ((h _ _).trans ?_)
  exact congrArg (fun r => Y (ix2 r k)) (Fin.ext e.symm)

/-- Where a point's blocks of the results lie. -/
theorem place3 (t : Fin cfg0.N) (i k : Fin 512) : (((View.whole main_v304_0).slice (win0_3.rect t)).emb (ix2 i k) : S4096x512.Idx)
    = ix2 ⟨t.val * 512 + i.val, by have : t.val < 8 := t.isLt; omega⟩ k := by
  obtain ⟨_, e⟩ := at0 t
  blk_ext [e]
theorem place4 (t : Fin cfg0.N) (r : Fin 4) (n : Fin 128) (k : Fin 256) : (((View.whole main_v304_1).slice (win0_4.rect t)).emb (ix3 r n k) : S4x1024x256.Idx)
    = ix3 r ⟨t.val * 128 + n.val, by have : t.val < 8 := t.isLt; omega⟩ k := by
  obtain ⟨⟨e, _, _⟩, _⟩ := atOut t
  blk_ext [e]
theorem place5 (t : Fin cfg0.N) (r : Fin 16) (n : Fin 32) (k : Fin 256) : (((View.whole main_v304_2).slice (win0_5.rect t)).emb (ix3 r n k) : S16x256x256.Idx)
    = ix3 r ⟨t.val * 32 + n.val, by have : t.val < 8 := t.isLt; omega⟩ k := by
  obtain ⟨⟨_, e, _⟩, _⟩ := atOut t
  blk_ext [e]
theorem place6 (t : Fin cfg0.N) (r : Fin 4) (n : Fin 128) (k : Fin 512) : (((View.whole main_v304_3).slice (win0_6.rect t)).emb (ix3 r n k) : S4x1024x512.Idx)
    = ix3 r ⟨t.val * 128 + n.val, by have : t.val < 8 := t.isLt; omega⟩ k := by
  obtain ⟨⟨_, _, e⟩, _⟩ := atOut t
  blk_ext [e]
theorem place7 (t : Fin cfg0.N) (r : Fin 16) (n : Fin 32) (k : Fin 512) : (((View.whole main_v304_4).slice (win0_7.rect t)).emb (ix3 r n k) : S16x256x512.Idx)
    = ix3 r ⟨t.val * 32 + n.val, by have : t.val < 8 := t.isLt; omega⟩ k := by
  obtain ⟨_, ⟨e, _, _⟩⟩ := atOut t
  blk_ext [e]
theorem place8 (t : Fin cfg0.N) (r : Fin 4) (n : Fin 128) (k : Fin 512) : (((View.whole main_v304_5).slice (win0_8.rect t)).emb (ix3 r n k) : S4x1024x512.Idx)
    = ix3 r ⟨t.val * 128 + n.val, by have : t.val < 8 := t.isLt; omega⟩ k := by
  obtain ⟨_, ⟨_, e, _⟩⟩ := atOut t
  blk_ext [e]
theorem place9 (t : Fin cfg0.N) (r : Fin 16) (n : Fin 32) (k : Fin 512) : (((View.whole main_v304_6).slice (win0_9.rect t)).emb (ix3 r n k) : S16x256x512.Idx)
    = ix3 r ⟨t.val * 32 + n.val, by have : t.val < 8 := t.isLt; omega⟩ k := by
  obtain ⟨_, ⟨_, _, e⟩⟩ := atOut t
  blk_ext [e]

include ho hR in
/-- The seven results. -/
theorem final3 : (dats m 0 c).arrAt 3 cfg0.N = R := by
  refine (dats m 0 c).arrAt_eq_of_covers 3 _ (by decide +kernel) fun t hf y => ?_
  blk_simp
  rw [after0_3]
  refine (got3 m c t y).trans (Eq.trans ?_ (congrArg R ((congrArg _ (eq_ix2 y)).trans (place3 t (y 0) (y 1)))).symm)
  exact (congrArg (sums (iblk m c 0 t) (iblk m c 1 t)) (eq_ix2 y)).trans (sums_at m c o R ho hR t (y 0) (y 1))
theorem final4 (Z : FVec Ideal S4x1024x256 .bf16) (hZ : ∀ (r : Fin 4) (n : Fin 1024) (k : Fin 256), Z (ix3 r n k) = (m ((c : Thread nD τ).loc main_arg1) : S4096x256.Idx → EReal) (ix2 ⟨r.val + 4 * n.val, by omega⟩ k)) :
    (dats m 0 c).arrAt 4 cfg0.N = Z := by
  refine (dats m 0 c).arrAt_eq_of_covers 4 _ (by decide +kernel) fun t hf y => ?_
  blk_simp
  rw [after0_4]
  have h0 : (y 0).val < 4 := (y 0).isLt
  have h1 : (y 1).val < 128 := (y 1).isLt
  refine (got4 m c t y).trans (Eq.trans ?_ ((congrArg Z ((congrArg _ (eq_ix3 y)).trans (place4 t (y 0) (y 1) (y 2)))).trans (hZ _ _ _)).symm)
  exact entry_at _ _ t (b0 m c t) _ (by omega) (y 2) _ (by dsimp only; omega)
theorem final5 (Z : FVec Ideal S16x256x256 .bf16) (hZ : ∀ (r : Fin 16) (n : Fin 256) (k : Fin 256), Z (ix3 r n k) = (m ((c : Thread nD τ).loc main_arg1) : S4096x256.Idx → EReal) (ix2 ⟨r.val + 16 * n.val, by omega⟩ k)) :
    (dats m 0 c).arrAt 5 cfg0.N = Z := by
  refine (dats m 0 c).arrAt_eq_of_covers 5 _ (by decide +kernel) fun t hf y => ?_
  blk_simp
  rw [after0_5]
  have h0 : (y 0).val < 16 := (y 0).isLt
  have h1 : (y 1).val < 32 := (y 1).isLt
  refine (got5 m c t y).trans (Eq.trans ?_ ((congrArg Z ((congrArg _ (eq_ix3 y)).trans (place5 t (y 0) (y 1) (y 2)))).trans (hZ _ _ _)).symm)
  exact entry_at _ _ t (b0 m c t) _ (by omega) (y 2) _ (by dsimp only; omega)
include hl in
theorem final6 (Z : FVec Ideal S4x1024x512 .f32) (hZ : ∀ (r : Fin 4) (n : Fin 1024) (k : Fin 512), Z (ix3 r n k) = l (ix2 ⟨r.val + 4 * n.val, by omega⟩ k)) :
    (dats m 0 c).arrAt 6 cfg0.N = Z := by
  refine (dats m 0 c).arrAt_eq_of_covers 6 _ (by decide +kernel) fun t hf y => ?_
  blk_simp
  rw [after0_6]
  have h0 : (y 0).val < 4 := (y 0).isLt
  have h1 : (y 1).val < 128 := (y 1).isLt
  refine (got6 m c t y).trans (Eq.trans ?_ ((congrArg Z ((congrArg _ (eq_ix3 y)).trans (place6 t (y 0) (y 1) (y 2)))).trans (hZ _ _ _)).symm)
  exact entry_at _ _ t (b2 m c l hl t) _ (by omega) (y 2) _ (by dsimp only; omega)
include hl in
theorem final7 (Z : FVec Ideal S16x256x512 .f32) (hZ : ∀ (r : Fin 16) (n : Fin 256) (k : Fin 512), Z (ix3 r n k) = l (ix2 ⟨r.val + 16 * n.val, by omega⟩ k)) :
    (dats m 0 c).arrAt 7 cfg0.N = Z := by
  refine (dats m 0 c).arrAt_eq_of_covers 7 _ (by decide +kernel) fun t hf y => ?_
  blk_simp
  rw [after0_7]
  have h0 : (y 0).val < 16 := (y 0).isLt
  have h1 : (y 1).val < 32 := (y 1).isLt
  refine (got7 m c t y).trans (Eq.trans ?_ ((congrArg Z ((congrArg _ (eq_ix3 y)).trans (place7 t (y 0) (y 1) (y 2)))).trans (hZ _ _ _)).symm)
  exact entry_at _ _ t (b2 m c l hl t) _ (by omega) (y 2) _ (by dsimp only; omega)
include ho hR in
theorem final8 (Z : FVec Ideal S4x1024x512 .f32) (hZ : ∀ (r : Fin 4) (n : Fin 1024) (k : Fin 512), Z (ix3 r n k) = R (ix2 ⟨r.val + 4 * n.val, by omega⟩ k)) :
    (dats m 0 c).arrAt 8 cfg0.N = Z := by
  refine (dats m 0 c).arrAt_eq_of_covers 8 _ (by decide +kernel) fun t hf y => ?_
  blk_simp
  rw [after0_8]
  have h0 : (y 0).val < 4 := (y 0).isLt
  have h1 : (y 1).val < 128 := (y 1).isLt
  refine (got8 m c t y).trans (Eq.trans ?_ ((congrArg Z ((congrArg _ (eq_ix3 y)).trans (place8 t (y 0) (y 1) (y 2)))).trans (hZ _ _ _)).symm)
  exact entry_at _ _ t (sums_at m c o R ho hR t) _ (by omega) (y 2) _ (by dsimp only; omega)
include ho hR in
theorem final9 (Z : FVec Ideal S16x256x512 .f32) (hZ : ∀ (r : Fin 16) (n : Fin 256) (k : Fin 512), Z (ix3 r n k) = R (ix2 ⟨r.val + 16 * n.val, by omega⟩ k)) :
    (dats m 0 c).arrAt 9 cfg0.N = Z := by
  refine (dats m 0 c).arrAt_eq_of_covers 9 _ (by decide +kernel) fun t hf y => ?_
  blk_simp
  rw [after0_9]
  have h0 : (y 0).val < 16 := (y 0).isLt
  have h1 : (y 1).val < 32 := (y 1).isLt
  refine (got9 m c t y).trans (Eq.trans ?_ ((congrArg Z ((congrArg _ (eq_ix3 y)).trans (place9 t (y 0) (y 1) (y 2)))).trans (hZ _ _ _)).symm)
  exact entry_at _ _ t (sums_at m c o R ho hR t) _ (by omega) (y 2) _ (by dsimp only; omega)
end known

set_option maxHeartbeats 4000000 in
/-- From argument arrays that agree, the kernel and the reference end with the same seven results. -/
theorem algebraic : Cert.algebraic_KDprepIdeal_RDprepIdeal (hKDprepIdeal := Cert.KDprepIdeal.Gen.facts) (hRDprepIdeal := Cert.RDprepIdeal.Gen.facts) := by
  intro m g m' g' _ hargs
  refine ⟨fun c => (dats m 0 c).arrAt 3 cfg0.N, fun c => (dats m 0 c).arrAt 4 cfg0.N, fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N,
    Value.run_blocks m g, (θ_run _ _ _).mono (fun r h c => ?_) (RDprepIdeal.Value.run (F := Ideal) m' g')⟩
  obtain ⟨a0, a1⟩ := hargs c
  obtain ⟨r3, r4, r5, r6, r7, r8, r9, hr⟩ := h c
  have e0 : StableHlo.launchContents m' c (Proc.devRef .tc RDprepIdeal.main_arg0) = m ((c : Thread nD τ).loc main_arg0) := a0
  have e1 : StableHlo.launchContents m' c (Proc.devRef .tc RDprepIdeal.main_arg1) = m ((c : Thread nD τ).loc main_arg1) := a1
  have ho := out_eq m c
  have hl := lse_eq m c
  have hR := ref_at (m ((c : Thread nD τ).loc main_arg0)) (m ((c : Thread nD τ).loc main_arg1))
  refine ⟨r3.trans ?_, r4.trans ?_, r5.trans ?_, r6.trans ?_, r7.trans ?_, r8.trans ?_, r9.trans ?_, hr⟩
  · exact (RDprepIdeal.Read.val_main_v314_eq _).trans ((congrArg₂ (RDprepIdeal.Read.val_main_v314 (F := Ideal)) e0 e1).trans (final3 m c _ _ ho hR).symm)
  · exact (RDprepIdeal.Read.val_main_v317_eq _).trans ((congrArg (RDprepIdeal.Read.val_main_v317 (F := Ideal)) e1).trans (final4 m c _ (do4 _)).symm)
  · exact (RDprepIdeal.Read.val_main_v319_eq _).trans ((congrArg (RDprepIdeal.Read.val_main_v319 (F := Ideal)) e1).trans (final5 m c _ (do16 _)).symm)
  · exact (RDprepIdeal.Read.val_main_v324_eq _).trans ((congrArg (RDprepIdeal.Read.val_main_v324 (F := Ideal)) e0).trans (final6 m c _ hl _ (lse4 _)).symm)
  · exact (RDprepIdeal.Read.val_main_v326_eq _).trans ((congrArg (RDprepIdeal.Read.val_main_v326 (F := Ideal)) e0).trans (final7 m c _ hl _ (lse16 _)).symm)
  · exact (RDprepIdeal.Read.val_main_v328_eq _).trans ((congrArg₂ (RDprepIdeal.Read.val_main_v328 (F := Ideal)) e0 e1).trans (final8 m c _ _ ho hR _ (sums4 _ _)).symm)
  · exact (RDprepIdeal.Read.val_main_v330_eq _).trans ((congrArg₂ (RDprepIdeal.Read.val_main_v330 (F := Ideal)) e0 e1).trans (final9 m c _ _ ho hR _ (sums16 _ _)).symm)

end Cert.DprepEq

end
-- ==== Proof.NormRow.lean ====
module

public import proofs.«01_k».proof.Proof.Norm

@[expose] public section

set_option maxRecDepth 16384

noncomputable section

/- A row of the root-mean-square norm, and the row of a residual sum that goes into it. -/
namespace Cert.Norm

open Idealize.ShloMosaic

/-- The row over the root of its mean square, times the gain. -/
def scaled {n : ℕ} (y g : Fin n → EReal) (k : Fin n) : EReal := y k * rstd y * g k

/-- The f32 word of one. -/
theorem one : Ideal.ofBits .f32 0x3F800000#32 = 1 := by
  simp [Ideal.ofBits, Ideal.ieee, -EReal.coe_mul]; norm_num

/-- The residual's row and the factor `a` times the product of the row `p` with the matrix. -/
def summed {n N : ℕ} (a : EReal) (r : Fin N → EReal) (p : Fin n → EReal) (W : (⟨2, ![n, N]⟩ : Shape).Idx → EReal) (k : Fin N) : EReal :=
  r k + a * against p W k

end Cert.Norm

end
-- ==== Proof.RmsEq.lean ====
module

public import proofs.«01_k».proof.Proof.Gen.KRmsIdeal.Value
public import proofs.«01_k».proof.Proof.Gen.RRmsIdeal.Run
public import proofs.«01_k».proof.Proof.Gen.RRmsIdeal.Read
public import Idealize.ShloMosaic.Lib.Pipeline.ValueKit
public import proofs.«01_k».proof.Proof.NormRow
public import proofs.«01_k».proof.Defs

@[expose] public section

set_option maxRecDepth 16384

noncomputable section

/- The forward norm: the kernel's run and the reference's run end with the same result. -/
namespace Cert.RmsEq

open Idealize.ShloMosaic Idealize.ShloMosaic.TcCoe Idealize.SL.Sem
open Cert.Norm Cert.KRmsIdeal Cert.KRmsIdeal.Gen

variable (m : (ℓ : Loc nD τ sig) → Buf (Elt Ideal) ℓ) (c : Dev nD)

theorem at0 : ∀ t : Fin grid0.N, win0_0.index t = ![t.val, 0] ∧ win0_1.index t = ![0, 0] ∧ win0_2.index t = ![t.val, 0] := by decide +kernel

/-- What a point leaves in its block of the result. -/
theorem out_at (x : Vec Ideal S512x1024 .f32) (g : Vec Ideal S1x1024 .f32) (i : Fin 512) (k : Fin 1024) :
    out0_2 x g (ix2 i k) = scaled (row x i) (row g 0) k := by
  have h : k0_pay1 x g (ix2 i k) = scaled (row x i) (row g 0) k := by
    pointwise! [k0_pay1]
  rw [← h]
  frame_out

/-- A row of the reference's result. -/
theorem ref_at (x : S4096x1024.Idx → EReal) (g : S1024.Idx → EReal) (i : Fin 4096) (k : Fin 1024) :
    RRmsIdeal.Read.val_main_v13 (F := Ideal) x g (ix2 i k) = scaled (row x i) (fun k => g (ix1 k)) k := by
  pointwise! [RRmsIdeal.Read.val_main_v13, RRmsIdeal.Read.val_main_v12, RRmsIdeal.Read.val_main_v11, RRmsIdeal.Read.val_main_v10, RRmsIdeal.Read.val_main_v9, RRmsIdeal.Read.val_main_v8, RRmsIdeal.Read.val_main_v7, RRmsIdeal.Read.val_main_v6, RRmsIdeal.Read.val_main_v5, RRmsIdeal.Read.val_main_cst_1, RRmsIdeal.Read.val_main_v4, RRmsIdeal.Read.val_main_v3, RRmsIdeal.Read.val_main_cst_0, RRmsIdeal.Read.val_main_v2, RRmsIdeal.Read.val_main_v1, RRmsIdeal.Read.val_main_cst, RRmsIdeal.Read.val_main_v0]

/-- A point's blocks: rows of the input, and the gain. -/
theorem b0 (t : Fin cfg0.N) (i : Fin 512) (r : Fin 4096) (h : r.val = t.val * 512 + i.val) :
    row (iblk m c 0 t) i = row (m ((c : Thread nD τ).loc main_arg0)) r := funext fun k => by
  obtain ⟨e, -⟩ := at0 t
  refine Eq.trans ?_ (congrFun (V_main_arg0 m c) _)
  blk_simp [iblk, row]
  refine congrArg _ ?_; blk_ext [e, h]
theorem b1 (t : Fin cfg0.N) : row (iblk m c 1 t) 0 = fun k => m ((c : Thread nD τ).loc main_arg1) (ix1 k) := funext fun k => by
  obtain ⟨-, e, -⟩ := at0 t
  have h : (V m c main_v0 : S1x1024.Idx → EReal) (ix2 0 k) = m ((c : Thread nD τ).loc main_arg1) (ix1 k) := by
    show StableHlo.after hostOps0 _ _ _ = _
    after_results_simp
    pointwise! []
  refine Eq.trans ?_ h
  blk_simp [iblk, row]
  refine congrArg _ ?_; blk_ext [e]

/-- The call's result is the reference's. -/
theorem final : (dats m 0 c).arrAt 2 cfg0.N
    = RRmsIdeal.Read.val_main_v13 (F := Ideal) (m ((c : Thread nD τ).loc main_arg0)) (m ((c : Thread nD τ).loc main_arg1)) := by
  refine ((dats m 0 c).arrAt_eq_of_covers 2 (fun i => scaled (row (m ((c : Thread nD τ).loc main_arg0)) (i 0)) (fun k => m ((c : Thread nD τ).loc main_arg1) (ix1 k)) (i 1))
    (by decide +kernel) fun t hf y => ?_).trans (funext fun j => ((congrArg _ (eq_ix2 j)).trans (ref_at ..)).symm)
  have ⟨_, _, e2⟩ := at0 t
  blk_simp
  rw [after0_2]
  refine (congrArg _ (eq_ix2 y)).trans ((out_at _ _ (y 0) (y 1)).trans ?_)
  rw [b0 m c t (y 0) (((View.whole main_v1).slice (win0_2.rect t)).emb y 0) (by blk_simp [e2]), b1]
  refine congrArg _ (Fin.ext ?_)
  blk_simp [e2]

/-- From argument arrays that agree, the kernel and the reference end with the same result. -/
theorem algebraic : Cert.algebraic_KRmsIdeal_RRmsIdeal (hKRmsIdeal := Cert.KRmsIdeal.Gen.facts) (hRRmsIdeal := Cert.RRmsIdeal.Gen.facts) := by
  intro m g m' g' _ hargs
  refine ⟨fun c => (dats m 0 c).arrAt 2 cfg0.N, Value.run_blocks m g, (θ_run _ _ _).mono (fun r h c => ?_) (RRmsIdeal.Value.run (F := Ideal) m' g')⟩
  obtain ⟨a0, a1⟩ := hargs c
  obtain ⟨h0, hr⟩ := h c
  refine ⟨h0.trans ?_, hr⟩
  rw [RRmsIdeal.Read.val_main_v13_eq, a0, a1]
  exact (final m c).symm

end Cert.RmsEq

end
-- ==== Proof.OutEq.lean ====
module

public import proofs.«01_k».proof.Proof.Gen.KOutIdeal.Value
public import proofs.«01_k».proof.Proof.Gen.ROutIdeal.Run
public import proofs.«01_k».proof.Proof.Gen.ROutIdeal.Read
public import Idealize.ShloMosaic.Lib.Pipeline.ValueKit
public import proofs.«01_k».proof.Proof.NormRow
public import proofs.«01_k».proof.Defs

@[expose] public section

set_option maxRecDepth 16384

noncomputable section

/- The mixer's residual sum and the norm behind it: the kernel's run and the reference's run end with the same
   two results. -/
namespace Cert.OutEq

open Idealize.ShloMosaic Idealize.ShloMosaic.TcCoe Idealize.SL.Sem
open Cert.Norm Cert.KOutIdeal Cert.KOutIdeal.Gen

variable (m : (ℓ : Loc nD τ sig) → Buf (Elt Ideal) ℓ) (c : Dev nD)

theorem at0 : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

/-- The factor of the product. -/
abbrev unit : EReal := Ideal.ofBits .f32 0x3F800000#32

theorem sum_pay (r : Vec Ideal S512x1024 .f32) (p : Vec Ideal S512x1024 .bf16) (w : Vec Ideal S1024x1024 .bf16) (i : Fin 512) (k : Fin 1024) :
    k0_pay1 r p w (ix2 i k) = summed unit (row r i) (row p i) w k := by
  simp only [summed, unit, mul_comm _ (against _ _ _)]
  pointwise! [k0_pay1]

/-- What a point leaves in its two blocks. -/
theorem sum_at (p : Vec Ideal S512x1024 .bf16) (w : Vec Ideal S1024x1024 .bf16) (r : Vec Ideal S512x1024 .f32) (g : Vec Ideal S1x1024 .f32)
    (i : Fin 512) (k : Fin 1024) : out0_4 p w r g (ix2 i k) = summed unit (row r i) (row p i) w k := by
  rw [← sum_pay]
  frame_out
  pointwise! [k0_pay3]
theorem norm_at (p : Vec Ideal S512x1024 .bf16) (w : Vec Ideal S1024x1024 .bf16) (r : Vec Ideal S512x1024 .f32) (g : Vec Ideal S1x1024 .f32)
    (i : Fin 512) (k : Fin 1024) : out0_5 p w r g (ix2 i k) = scaled (summed unit (row r i) (row p i) w) (row g 0) k := by
  have h : k0_pay2 r p w g (ix2 i k) = scaled (summed unit (row r i) (row p i) w) (row g 0) k := by
    rw [← show row (k0_pay1 r p w) i = summed unit (row r i) (row p i) w from funext fun k => sum_pay r p w i k]
    pointwise! [k0_pay2]
  rw [← h]
  frame_out

/-- A row of the reference's two results. -/
theorem ref_sum (p : S4096x1024.Idx → EReal) (w : S1024x1024.Idx → EReal) (r : S4096x1024.Idx → EReal) (i : Fin 4096) (k : Fin 1024) :
    ROutIdeal.Read.val_main_v1 (F := Ideal) p w r (ix2 i k) = summed unit (row r i) (row p i) w k := by
  simp only [summed, unit, Norm.one, one_mul]
  pointwise! [ROutIdeal.Read.val_main_v1, ROutIdeal.Read.val_main_v0]
theorem ref_norm (p : S4096x1024.Idx → EReal) (w : S1024x1024.Idx → EReal) (r : S4096x1024.Idx → EReal) (g : S1024.Idx → EReal) (i : Fin 4096) (k : Fin 1024) :
    ROutIdeal.Read.val_main_v15 (F := Ideal) p w r g (ix2 i k) = scaled (summed unit (row r i) (row p i) w) (fun k => g (ix1 k)) k := by
  rw [← show row (ROutIdeal.Read.val_main_v1 (F := Ideal) p w r) i = summed unit (row r i) (row p i) w from funext fun k => ref_sum p w r i k]
  pointwise! [ROutIdeal.Read.val_main_v15, ROutIdeal.Read.val_main_v14, ROutIdeal.Read.val_main_v13, ROutIdeal.Read.val_main_v12, ROutIdeal.Read.val_main_v11, ROutIdeal.Read.val_main_v10, ROutIdeal.Read.val_main_v9, ROutIdeal.Read.val_main_v8, ROutIdeal.Read.val_main_v7, ROutIdeal.Read.val_main_cst_1, ROutIdeal.Read.val_main_v6, ROutIdeal.Read.val_main_v5, ROutIdeal.Read.val_main_cst_0, ROutIdeal.Read.val_main_v4, ROutIdeal.Read.val_main_v3, ROutIdeal.Read.val_main_cst, ROutIdeal.Read.val_main_v2]

/-- A point's blocks: rows of the product's left factor, its right factor, rows of the residual, and the gain. -/
theorem b0 (t : Fin cfg0.N) (i : Fin 512) (r : Fin 4096) (h : r.val = t.val * 512 + i.val) :
    row (iblk m c 0 t) i = row (m ((c : Thread nD τ).loc main_arg0)) r := funext fun k => by
  obtain ⟨e, -⟩ := at0 t
  have hv (j : S4096x1024.Idx) : (V m c main_v0 : S4096x1024.Idx → EReal) j = m ((c : Thread nD τ).loc main_arg0) j := by
    show StableHlo.after hostOps0 _ _ _ = _
    after_results_simp
    rfl
  refine Eq.trans ?_ (hv (ix2 r k))
  blk_simp [iblk, row]
  refine congrArg _ ?_; blk_ext [e, h]
theorem b1 (t : Fin cfg0.N) : iblk m c 1 t = m ((c : Thread nD τ).loc main_arg1) := funext fun k => by
  obtain ⟨-, e, -⟩ := at0 t
  have hv (j : S1024x1024.Idx) : (V m c main_v1 : S1024x1024.Idx → EReal) j = m ((c : Thread nD τ).loc main_arg1) j := by
    show StableHlo.after hostOps0 _ _ _ = _
    after_results_simp
    rfl
  refine Eq.trans ?_ (hv k)
  blk_simp [iblk]
  refine congrArg _ ?_; blk_ext [e]
theorem b2 (t : Fin cfg0.N) (i : Fin 512) (r : Fin 4096) (h : r.val = t.val * 512 + i.val) :
    row (iblk m c 2 t) i = row (m ((c : Thread nD τ).loc main_arg2)) r := funext fun k => by
  obtain ⟨-, -, e, -⟩ := at0 t
  refine Eq.trans ?_ (congrFun (V_main_arg2 m c) _)
  blk_simp [iblk, row]
  refine congrArg _ ?_; blk_ext [e, h]
theorem b3 (t : Fin cfg0.N) : row (iblk m c 3 t) 0 = fun k => m ((c : Thread nD τ).loc main_arg3) (ix1 k) := funext fun k => by
  obtain ⟨-, -, -, e, -⟩ := at0 t
  have h : (V m c main_v2 : S1x1024.Idx → EReal) (ix2 0 k) = m ((c : Thread nD τ).loc main_arg3) (ix1 k) := by
    show StableHlo.after hostOps0 _ _ _ = _
    after_results_simp
    pointwise! []
  refine Eq.trans ?_ h
  blk_simp [iblk, row]
  refine congrArg _ ?_; blk_ext [e]

/-- The row of the residual sum, from the arguments. -/
abbrev sumRow (i : Fin 4096) : Fin 1024 → EReal :=
  summed unit (row (m ((c : Thread nD τ).loc main_arg2)) i) (row (m ((c : Thread nD τ).loc main_arg0)) i) (m ((c : Thread nD τ).loc main_arg1))

/-- The call's results are the reference's. -/
theorem final4 : (dats m 0 c).arrAt 4 cfg0.N
    = ROutIdeal.Read.val_main_v1 (F := Ideal) (m ((c : Thread nD τ).loc main_arg0)) (m ((c : Thread nD τ).loc main_arg1)) (m ((c : Thread nD τ).loc main_arg2)) := by
  refine ((dats m 0 c).arrAt_eq_of_covers 4 (fun i => sumRow m c (i 0) (i 1)) (by decide +kernel) fun t hf y => ?_).trans
    (funext fun j => ((congrArg _ (eq_ix2 j)).trans (ref_sum ..)).symm)
  have ⟨_, _, _, _, e4, _⟩ := at0 t
  blk_simp
  rw [after0_4]
  refine (congrArg _ (eq_ix2 y)).trans ((sum_at _ _ _ _ (y 0) (y 1)).trans ?_)
  have hr : (((View.whole main_v3_0).slice (win0_4.rect t)).emb y 0).val = t.val * 512 + (y 0).val := by blk_simp [e4]
  rw [b0 m c t (y 0) _ hr, b2 m c t (y 0) _ hr, b1]
  refine congrArg _ (Fin.ext ?_)
  blk_simp [e4]
theorem final5 : (dats m 0 c).arrAt 5 cfg0.N
    = ROutIdeal.Read.val_main_v15 (F := Ideal) (m ((c : Thread nD τ).loc main_arg0)) (m ((c : Thread nD τ).loc main_arg1)) (m ((c : Thread nD τ).loc main_arg2)) (m ((c : Thread nD τ).loc main_arg3)) := by
  refine ((dats m 0 c).arrAt_eq_of_covers 5 (fun i => scaled (sumRow m c (i 0)) (fun k => m ((c : Thread nD τ).loc main_arg3) (ix1 k)) (i 1)) (by decide +kernel)
    fun t hf y => ?_).trans (funext fun j => ((congrArg _ (eq_ix2 j)).trans (ref_norm ..)).symm)
  have ⟨_, _, _, _, _, e5⟩ := at0 t
  blk_simp
  rw [after0_5]
  refine (congrArg _ (eq_ix2 y)).trans ((norm_at _ _ _ _ (y 0) (y 1)).trans ?_)
  have hr : (((View.whole main_v3_1).slice (win0_5.rect t)).emb y 0).val = t.val * 512 + (y 0).val := by blk_simp [e5]
  rw [b0 m c t (y 0) _ hr, b2 m c t (y 0) _ hr, b1, b3]
  refine congrArg _ (Fin.ext ?_)
  blk_simp [e5]

/-- From argument arrays that agree, the kernel and the reference end with the same two results. -/
theorem algebraic : Cert.algebraic_KOutIdeal_ROutIdeal (hKOutIdeal := Cert.KOutIdeal.Gen.facts) (hROutIdeal := Cert.ROutIdeal.Gen.facts) := by
  intro m g m' g' _ hargs
  refine ⟨fun c => (dats m 0 c).arrAt 4 cfg0.N, fun c => (dats m 0 c).arrAt 5 cfg0.N, Value.run_blocks m g,
    (θ_run _ _ _).mono (fun r h c => ?_) (ROutIdeal.Value.run (F := Ideal) m' g')⟩
  obtain ⟨a0, a1, a2, a3⟩ := hargs c
  obtain ⟨h0, h1, hr⟩ := h c
  refine ⟨h0.trans ?_, h1.trans ?_, hr⟩
  · rw [ROutIdeal.Read.val_main_v1_eq, a0, a1, a2]
    exact (final4 m c).symm
  · rw [ROutIdeal.Read.val_main_v15_eq, a0, a1, a2, a3]
    exact (final5 m c).symm

end Cert.OutEq

end
-- ==== Proof.DownEq.lean ====
module

public import proofs.«01_k».proof.Proof.Gen.KDownIdeal.Value
public import proofs.«01_k».proof.Proof.Gen.RDownIdeal.Run
public import proofs.«01_k».proof.Proof.Gen.RDownIdeal.Read
public import Idealize.ShloMosaic.Lib.Pipeline.ValueKit
public import proofs.«01_k».proof.Proof.NormRow
public import proofs.«01_k».proof.Defs

@[expose] public section

set_option maxRecDepth 16384

noncomputable section

/- The feed-forward block's residual sum and the norm behind it: the kernel's run and the reference's run end with the same
   two results. -/
namespace Cert.DownEq

open Idealize.ShloMosaic Idealize.ShloMosaic.TcCoe Idealize.SL.Sem
open Cert.Norm Cert.KDownIdeal Cert.KDownIdeal.Gen

variable (m : (ℓ : Loc nD τ sig) → Buf (Elt Ideal) ℓ) (c : Dev nD)

theorem at0 : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

/-- The factor of the product. -/
abbrev half : EReal := Ideal.ofBits .f32 0x3F000000#32

theorem sum_pay (r : Vec Ideal S512x1024 .f32) (p : Vec Ideal S512x2816 .bf16) (w : Vec Ideal S2816x1024 .bf16) (i : Fin 512) (k : Fin 1024) :
    k0_pay1 r p w (ix2 i k) = summed half (row r i) (row p i) w k := by
  simp only [summed, half, mul_comm _ (against _ _ _)]
  pointwise! [k0_pay1]

/-- What a point leaves in its two blocks. -/
theorem sum_at (p : Vec Ideal S512x2816 .bf16) (w : Vec Ideal S2816x1024 .bf16) (r : Vec Ideal S512x1024 .f32) (g : Vec Ideal S1x1024 .f32)
    (i : Fin 512) (k : Fin 1024) : out0_4 p w r g (ix2 i k) = summed half (row r i) (row p i) w k := by
  rw [← sum_pay]
  frame_out
  pointwise! [k0_pay3]
theorem norm_at (p : Vec Ideal S512x2816 .bf16) (w : Vec Ideal S2816x1024 .bf16) (r : Vec Ideal S512x1024 .f32) (g : Vec Ideal S1x1024 .f32)
    (i : Fin 512) (k : Fin 1024) : out0_5 p w r g (ix2 i k) = scaled (summed half (row r i) (row p i) w) (row g 0) k := by
  have h : k0_pay2 r p w g (ix2 i k) = scaled (summed half (row r i) (row p i) w) (row g 0) k := by
    rw [← show row (k0_pay1 r p w) i = summed half (row r i) (row p i) w from funext fun k => sum_pay r p w i k]
    pointwise! [k0_pay2]
  rw [← h]
  frame_out

/-- A row of the reference's two results. -/
theorem ref_sum (p : S4096x2816.Idx → EReal) (w : S2816x1024.Idx → EReal) (r : S4096x1024.Idx → EReal) (i : Fin 4096) (k : Fin 1024) :
    RDownIdeal.Read.val_main_v3 (F := Ideal) p w r (ix2 i k) = summed half (row r i) (row p i) w k := by
  pointwise! [RDownIdeal.Read.val_main_v3, RDownIdeal.Read.val_main_v2, RDownIdeal.Read.val_main_v1, RDownIdeal.Read.val_main_cst, RDownIdeal.Read.val_main_v0]
theorem ref_norm (p : S4096x2816.Idx → EReal) (w : S2816x1024.Idx → EReal) (r : S4096x1024.Idx → EReal) (g : S1024.Idx → EReal) (i : Fin 4096) (k : Fin 1024) :
    RDownIdeal.Read.val_main_v17 (F := Ideal) p w r g (ix2 i k) = scaled (summed half (row r i) (row p i) w) (fun k => g (ix1 k)) k := by
  rw [← show row (RDownIdeal.Read.val_main_v3 (F := Ideal) p w r) i = summed half (row r i) (row p i) w from funext fun k => ref_sum p w r i k]
  pointwise! [RDownIdeal.Read.val_main_v17, RDownIdeal.Read.val_main_v16, RDownIdeal.Read.val_main_v15, RDownIdeal.Read.val_main_v14, RDownIdeal.Read.val_main_v13, RDownIdeal.Read.val_main_v12, RDownIdeal.Read.val_main_v11, RDownIdeal.Read.val_main_v10, RDownIdeal.Read.val_main_v9, RDownIdeal.Read.val_main_cst_2, RDownIdeal.Read.val_main_v8, RDownIdeal.Read.val_main_v7, RDownIdeal.Read.val_main_cst_1, RDownIdeal.Read.val_main_v6, RDownIdeal.Read.val_main_v5, RDownIdeal.Read.val_main_cst_0, RDownIdeal.Read.val_main_v4]

/-- A point's blocks: rows of the product's left factor, its right factor, rows of the residual, and the gain. -/
theorem b0 (t : Fin cfg0.N) (i : Fin 512) (r : Fin 4096) (h : r.val = t.val * 512 + i.val) :
    row (iblk m c 0 t) i = row (m ((c : Thread nD τ).loc main_arg0)) r := funext fun k => by
  obtain ⟨e, -⟩ := at0 t
  have hv (j : S4096x2816.Idx) : (V m c main_v0 : S4096x2816.Idx → EReal) j = m ((c : Thread nD τ).loc main_arg0) j := by
    show StableHlo.after hostOps0 _ _ _ = _
    after_results_simp
    rfl
  refine Eq.trans ?_ (hv (ix2 r k))
  blk_simp [iblk, row]
  refine congrArg _ ?_; blk_ext [e, h]
theorem b1 (t : Fin cfg0.N) : iblk m c 1 t = m ((c : Thread nD τ).loc main_arg1) := funext fun k => by
  obtain ⟨-, e, -⟩ := at0 t
  have hv (j : S2816x1024.Idx) : (V m c main_v1 : S2816x1024.Idx → EReal) j = m ((c : Thread nD τ).loc main_arg1) j := by
    show StableHlo.after hostOps0 _ _ _ = _
    after_results_simp
    rfl
  refine Eq.trans ?_ (hv k)
  blk_simp [iblk]
  refine congrArg _ ?_; blk_ext [e]
theorem b2 (t : Fin cfg0.N) (i : Fin 512) (r : Fin 4096) (h : r.val = t.val * 512 + i.val) :
    row (iblk m c 2 t) i = row (m ((c : Thread nD τ).loc main_arg2)) r := funext fun k => by
  obtain ⟨-, -, e, -⟩ := at0 t
  refine Eq.trans ?_ (congrFun (V_main_arg2 m c) _)
  blk_simp [iblk, row]
  refine congrArg _ ?_; blk_ext [e, h]
theorem b3 (t : Fin cfg0.N) : row (iblk m c 3 t) 0 = fun k => m ((c : Thread nD τ).loc main_arg3) (ix1 k) := funext fun k => by
  obtain ⟨-, -, -, e, -⟩ := at0 t
  have h : (V m c main_v2 : S1x1024.Idx → EReal) (ix2 0 k) = m ((c : Thread nD τ).loc main_arg3) (ix1 k) := by
    show StableHlo.after hostOps0 _ _ _ = _
    after_results_simp
    pointwise! []
  refine Eq.trans ?_ h
  blk_simp [iblk, row]
  refine congrArg _ ?_; blk_ext [e]

/-- The row of the residual sum, from the arguments. -/
abbrev sumRow (i : Fin 4096) : Fin 1024 → EReal :=
  summed half (row (m ((c : Thread nD τ).loc main_arg2)) i) (row (m ((c : Thread nD τ).loc main_arg0)) i) (m ((c : Thread nD τ).loc main_arg1))

/-- The call's results are the reference's. -/
theorem final4 : (dats m 0 c).arrAt 4 cfg0.N
    = RDownIdeal.Read.val_main_v3 (F := Ideal) (m ((c : Thread nD τ).loc main_arg0)) (m ((c : Thread nD τ).loc main_arg1)) (m ((c : Thread nD τ).loc main_arg2)) := by
  refine ((dats m 0 c).arrAt_eq_of_covers 4 (fun i => sumRow m c (i 0) (i 1)) (by decide +kernel) fun t hf y => ?_).trans
    (funext fun j => ((congrArg _ (eq_ix2 j)).trans (ref_sum ..)).symm)
  have ⟨_, _, _, _, e4, _⟩ := at0 t
  blk_simp
  rw [after0_4]
  refine (congrArg _ (eq_ix2 y)).trans ((sum_at _ _ _ _ (y 0) (y 1)).trans ?_)
  have hr : (((View.whole main_v3_0).slice (win0_4.rect t)).emb y 0).val = t.val * 512 + (y 0).val := by blk_simp [e4]
  rw [b0 m c t (y 0) _ hr, b2 m c t (y 0) _ hr, b1]
  refine congrArg _ (Fin.ext ?_)
  blk_simp [e4]
theorem final5 : (dats m 0 c).arrAt 5 cfg0.N
    = RDownIdeal.Read.val_main_v17 (F := Ideal) (m ((c : Thread nD τ).loc main_arg0)) (m ((c : Thread nD τ).loc main_arg1)) (m ((c : Thread nD τ).loc main_arg2)) (m ((c : Thread nD τ).loc main_arg3)) := by
  refine ((dats m 0 c).arrAt_eq_of_covers 5 (fun i => scaled (sumRow m c (i 0)) (fun k => m ((c : Thread nD τ).loc main_arg3) (ix1 k)) (i 1)) (by decide +kernel)
    fun t hf y => ?_).trans (funext fun j => ((congrArg _ (eq_ix2 j)).trans (ref_norm ..)).symm)
  have ⟨_, _, _, _, _, e5⟩ := at0 t
  blk_simp
  rw [after0_5]
  refine (congrArg _ (eq_ix2 y)).trans ((norm_at _ _ _ _ (y 0) (y 1)).trans ?_)
  have hr : (((View.whole main_v3_1).slice (win0_5.rect t)).emb y 0).val = t.val * 512 + (y 0).val := by blk_simp [e5]
  rw [b0 m c t (y 0) _ hr, b2 m c t (y 0) _ hr, b1, b3]
  refine congrArg _ (Fin.ext ?_)
  blk_simp [e5]

/-- From argument arrays that agree, the kernel and the reference end with the same two results. -/
theorem algebraic : Cert.algebraic_KDownIdeal_RDownIdeal (hKDownIdeal := Cert.KDownIdeal.Gen.facts) (hRDownIdeal := Cert.RDownIdeal.Gen.facts) := by
  intro m g m' g' _ hargs
  refine ⟨fun c => (dats m 0 c).arrAt 4 cfg0.N, fun c => (dats m 0 c).arrAt 5 cfg0.N, Value.run_blocks m g,
    (θ_run _ _ _).mono (fun r h c => ?_) (RDownIdeal.Value.run (F := Ideal) m' g')⟩
  obtain ⟨a0, a1, a2, a3⟩ := hargs c
  obtain ⟨h0, h1, hr⟩ := h c
  refine ⟨h0.trans ?_, h1.trans ?_, hr⟩
  · rw [RDownIdeal.Read.val_main_v3_eq, a0, a1, a2]
    exact (final4 m c).symm
  · rw [RDownIdeal.Read.val_main_v17_eq, a0, a1, a2, a3]
    exact (final5 m c).symm

end Cert.DownEq

end
-- ==== Proof.SbbBits.lean ====
module

public import proofs.«01_k».proof.Proof.SbbFrame
public import proofs.«01_k».proof.Proof.Gen.KSbb.Points

@[expose] public section

set_option maxRecDepth 16384

noncomputable section

/- The stick-breaking backward call at the machine's own floats: its program is the idealized one, word for word. -/
namespace Cert.KSbb.Hand
open Idealize.ShloMosaic Idealize.ShloMosaic.TcCoe Idealize.ShloMosaic.Tactic Idealize.SL Idealize.SL.Sem

variable {F : FTy → Type} [FloatOps F]

set_option maxHeartbeats 0 in
/-- The arguments end unchanged and the machine at rest. -/
theorem frame (m : (ℓ : Loc Cert.KSbb.nD Cert.KSbb.τ Cert.KSbb.sig) → Buf (Elt F) ℓ) (ρ : Dev Cert.KSbb.nD → PrngReg) : θ_run (Cert.KSbb.defs (F := F)) (onTc (τ := Cert.KSbb.τ) (Cert.KSbb.main (F := F))) ⟨m, fun _ => 0, ρ⟩
    (fun r => (∀ c : Dev Cert.KSbb.nD,
      r.2.mem ((c.tc : Thread Cert.KSbb.nD Cert.KSbb.τ).loc Cert.KSbb.main_arg0) = m ((c.tc : Thread Cert.KSbb.nD Cert.KSbb.τ).loc Cert.KSbb.main_arg0)
      ∧ r.2.mem ((c.tc : Thread Cert.KSbb.nD Cert.KSbb.τ).loc Cert.KSbb.main_arg1) = m ((c.tc : Thread Cert.KSbb.nD Cert.KSbb.τ).loc Cert.KSbb.main_arg1))
      ∧ r.2.sem = fun _ => 0) :=
  (show _ = _ by sl_kernel_rfl : _ = _).mp (Cert.KSbbIdeal.Hand.frame (F := F) m ρ)

end Cert.KSbb.Hand

end
-- ==== Proof.lean ====
module

public import proofs.«01_k».proof.Defs
public import proofs.«01_k».proof.Proof.Gen.KGate
public import proofs.«01_k».proof.Proof.Gen.KGate.Skeleton
public import proofs.«01_k».proof.Proof.Gen.KGate.Launch
public import proofs.«01_k».proof.Proof.Gen.KGate.Points
public import proofs.«01_k».proof.Proof.Gen.KGate.Frame
public import proofs.«01_k».proof.Proof.Gen.KGateIdeal
public import proofs.«01_k».proof.Proof.Gen.KGateIdeal.Skeleton
public import proofs.«01_k».proof.Proof.Gen.KGateIdeal.Launch
public import proofs.«01_k».proof.Proof.Gen.KGateIdeal.Points
public import proofs.«01_k».proof.Proof.Gen.KGateIdeal.Frame
public import proofs.«01_k».proof.Proof.Gen.RGateIdeal
public import proofs.«01_k».proof.Proof.Gen.KSwiglu
public import proofs.«01_k».proof.Proof.Gen.KSwiglu.Skeleton
public import proofs.«01_k».proof.Proof.Gen.KSwiglu.Launch
public import proofs.«01_k».proof.Proof.Gen.KSwiglu.Points
public import proofs.«01_k».proof.Proof.Gen.KSwiglu.Frame
public import proofs.«01_k».proof.Proof.Gen.KSwigluIdeal
public import proofs.«01_k».proof.Proof.Gen.KSwigluIdeal.Skeleton
public import proofs.«01_k».proof.Proof.Gen.KSwigluIdeal.Launch
public import proofs.«01_k».proof.Proof.Gen.KSwigluIdeal.Points
public import proofs.«01_k».proof.Proof.Gen.KSwigluIdeal.Frame
public import proofs.«01_k».proof.Proof.Gen.RSwigluIdeal
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.RLossIdeal
public import proofs.«01_k».proof.Proof.Gen.KDffn
public import proofs.«01_k».proof.Proof.Gen.KDffn.Skeleton
public import proofs.«01_k».proof.Proof.Gen.KDffn.Launch
public import proofs.«01_k».proof.Proof.Gen.KDffn.Points
public import proofs.«01_k».proof.Proof.Gen.KDffn.Frame
public import proofs.«01_k».proof.Proof.Gen.KDffnIdeal
public import proofs.«01_k».proof.Proof.Gen.KDffnIdeal.Skeleton
public import proofs.«01_k».proof.Proof.Gen.KDffnIdeal.Launch
public import proofs.«01_k».proof.Proof.Gen.KDffnIdeal.Points
public import proofs.«01_k».proof.Proof.Gen.KDffnIdeal.Frame
public import proofs.«01_k».proof.Proof.Gen.RDffnIdeal
public import proofs.«01_k».proof.Proof.Gen.KDmix
public import proofs.«01_k».proof.Proof.Gen.KDmix.Skeleton
public import proofs.«01_k».proof.Proof.Gen.KDmix.Launch
public import proofs.«01_k».proof.Proof.Gen.KDmix.Points
public import proofs.«01_k».proof.Proof.Gen.KDmix.Frame
public import proofs.«01_k».proof.Proof.Gen.KDmixIdeal
public import proofs.«01_k».proof.Proof.Gen.KDmixIdeal.Skeleton
public import proofs.«01_k».proof.Proof.Gen.KDmixIdeal.Launch
public import proofs.«01_k».proof.Proof.Gen.KDmixIdeal.Points
public import proofs.«01_k».proof.Proof.Gen.KDmixIdeal.Frame
public import proofs.«01_k».proof.Proof.Gen.RDmixIdeal
public import proofs.«01_k».proof.Proof.Gen.KSbf
public import proofs.«01_k».proof.Proof.Gen.KSbf.Skeleton
public import proofs.«01_k».proof.Proof.Gen.KSbf.Launch
public import proofs.«01_k».proof.Proof.Gen.KSbf.Points
public import proofs.«01_k».proof.Proof.Gen.KSbf.Frame
public import proofs.«01_k».proof.Proof.Gen.KSbfIdeal
public import proofs.«01_k».proof.Proof.Gen.KSbfIdeal.Skeleton
public import proofs.«01_k».proof.Proof.Gen.KSbfIdeal.Launch
public import proofs.«01_k».proof.Proof.Gen.KSbfIdeal.Points
public import proofs.«01_k».proof.Proof.Gen.KSbfIdeal.Frame
public import proofs.«01_k».proof.Proof.Gen.RSbfIdeal
public import proofs.«01_k».proof.Proof.Gen.KSbb
public import proofs.«01_k».proof.Proof.Gen.KSbb.Skeleton
public import proofs.«01_k».proof.Proof.Gen.KSbb.Launch
public import proofs.«01_k».proof.Proof.Gen.KSbb.Points
public import proofs.«01_k».proof.Proof.Gen.KSbb.Loops
public import proofs.«01_k».proof.Proof.Gen.KSbbIdeal
public import proofs.«01_k».proof.Proof.Gen.KSbbIdeal.Skeleton
public import proofs.«01_k».proof.Proof.Gen.KSbbIdeal.Launch
public import proofs.«01_k».proof.Proof.Gen.KSbbIdeal.Points
public import proofs.«01_k».proof.Proof.Gen.KSbbIdeal.Loops
public import proofs.«01_k».proof.Proof.Gen.RSbbIdeal
public import proofs.«01_k».proof.Proof.Gen.KJoin
public import proofs.«01_k».proof.Proof.Gen.KJoin.Skeleton
public import proofs.«01_k».proof.Proof.Gen.KJoin.Launch
public import proofs.«01_k».proof.Proof.Gen.KJoin.Points
public import proofs.«01_k».proof.Proof.Gen.KJoin.Frame
public import proofs.«01_k».proof.Proof.Gen.KJoinIdeal
public import proofs.«01_k».proof.Proof.Gen.KJoinIdeal.Skeleton
public import proofs.«01_k».proof.Proof.Gen.KJoinIdeal.Launch
public import proofs.«01_k».proof.Proof.Gen.KJoinIdeal.Points
public import proofs.«01_k».proof.Proof.Gen.KJoinIdeal.Frame
public import proofs.«01_k».proof.Proof.Gen.RJoinIdeal
public import proofs.«01_k».proof.Proof.Gen.KSums
public import proofs.«01_k».proof.Proof.Gen.KSums.Skeleton
public import proofs.«01_k».proof.Proof.Gen.KSums.Launch
public import proofs.«01_k».proof.Proof.Gen.KSums.Points
public import proofs.«01_k».proof.Proof.Gen.KSums.Frame
public import proofs.«01_k».proof.Proof.Gen.KSumsIdeal
public import proofs.«01_k».proof.Proof.Gen.KSumsIdeal.Skeleton
public import proofs.«01_k».proof.Proof.Gen.KSumsIdeal.Launch
public import proofs.«01_k».proof.Proof.Gen.KSumsIdeal.Points
public import proofs.«01_k».proof.Proof.Gen.KSumsIdeal.Frame
public import proofs.«01_k».proof.Proof.Gen.RSumsIdeal
public import proofs.«01_k».proof.Proof.Gen.KDprep
public import proofs.«01_k».proof.Proof.Gen.KDprep.Skeleton
public import proofs.«01_k».proof.Proof.Gen.KDprep.Launch
public import proofs.«01_k».proof.Proof.Gen.KDprep.Points
public import proofs.«01_k».proof.Proof.Gen.KDprep.Frame
public import proofs.«01_k».proof.Proof.Gen.KDprepIdeal
public import proofs.«01_k».proof.Proof.Gen.KDprepIdeal.Skeleton
public import proofs.«01_k».proof.Proof.Gen.KDprepIdeal.Launch
public import proofs.«01_k».proof.Proof.Gen.KDprepIdeal.Points
public import proofs.«01_k».proof.Proof.Gen.KDprepIdeal.Frame
public import proofs.«01_k».proof.Proof.Gen.RDprepIdeal
public import proofs.«01_k».proof.Proof.Gen.KRms
public import proofs.«01_k».proof.Proof.Gen.KRms.Skeleton
public import proofs.«01_k».proof.Proof.Gen.KRms.Launch
public import proofs.«01_k».proof.Proof.Gen.KRms.Points
public import proofs.«01_k».proof.Proof.Gen.KRms.Frame
public import proofs.«01_k».proof.Proof.Gen.KRmsIdeal
public import proofs.«01_k».proof.Proof.Gen.KRmsIdeal.Skeleton
public import proofs.«01_k».proof.Proof.Gen.KRmsIdeal.Launch
public import proofs.«01_k».proof.Proof.Gen.KRmsIdeal.Points
public import proofs.«01_k».proof.Proof.Gen.KRmsIdeal.Frame
public import proofs.«01_k».proof.Proof.Gen.RRmsIdeal
public import proofs.«01_k».proof.Proof.Gen.KOut
public import proofs.«01_k».proof.Proof.Gen.KOut.Skeleton
public import proofs.«01_k».proof.Proof.Gen.KOut.Launch
public import proofs.«01_k».proof.Proof.Gen.KOut.Points
public import proofs.«01_k».proof.Proof.Gen.KOut.Frame
public import proofs.«01_k».proof.Proof.Gen.KOutIdeal
public import proofs.«01_k».proof.Proof.Gen.KOutIdeal.Skeleton
public import proofs.«01_k».proof.Proof.Gen.KOutIdeal.Launch
public import proofs.«01_k».proof.Proof.Gen.KOutIdeal.Points
public import proofs.«01_k».proof.Proof.Gen.KOutIdeal.Frame
public import proofs.«01_k».proof.Proof.Gen.ROutIdeal
public import proofs.«01_k».proof.Proof.Gen.KDown
public import proofs.«01_k».proof.Proof.Gen.KDown.Skeleton
public import proofs.«01_k».proof.Proof.Gen.KDown.Launch
public import proofs.«01_k».proof.Proof.Gen.KDown.Points
public import proofs.«01_k».proof.Proof.Gen.KDown.Frame
public import proofs.«01_k».proof.Proof.Gen.KDownIdeal
public import proofs.«01_k».proof.Proof.Gen.KDownIdeal.Skeleton
public import proofs.«01_k».proof.Proof.Gen.KDownIdeal.Launch
public import proofs.«01_k».proof.Proof.Gen.KDownIdeal.Points
public import proofs.«01_k».proof.Proof.Gen.KDownIdeal.Frame
public import proofs.«01_k».proof.Proof.Gen.RDownIdeal
public import proofs.«01_k».proof.Proof.Gen.KLossIdeal.Value
public import proofs.«01_k».proof.Proof.Gen.KDffnIdeal.Value
public import proofs.«01_k».proof.Proof.Gen.KDmixIdeal.Value
public import proofs.«01_k».proof.Proof.Gen.KSbfIdeal.Value
public import proofs.«01_k».proof.Proof.Gen.KJoinIdeal.Value
public import proofs.«01_k».proof.Proof.Gen.KSumsIdeal.Value
public import proofs.«01_k».proof.Proof.Gen.KDprepIdeal.Value
public import proofs.«01_k».proof.Proof.Gen.KRmsIdeal.Value
public import proofs.«01_k».proof.Proof.Gen.KOutIdeal.Value
public import proofs.«01_k».proof.Proof.Gen.KDownIdeal.Value
public import proofs.«01_k».proof.Proof.Gen.RGateIdeal.Run
public import proofs.«01_k».proof.Proof.Gen.RGateIdeal.Read
public import proofs.«01_k».proof.Proof.Gen.RSwigluIdeal.Run
public import proofs.«01_k».proof.Proof.Gen.RSwigluIdeal.Read
public import proofs.«01_k».proof.Proof.Gen.RLossIdeal.Run
public import proofs.«01_k».proof.Proof.Gen.RLossIdeal.Read
public import proofs.«01_k».proof.Proof.Gen.RDffnIdeal.Run
public import proofs.«01_k».proof.Proof.Gen.RDffnIdeal.Read
public import proofs.«01_k».proof.Proof.Gen.RDmixIdeal.Run
public import proofs.«01_k».proof.Proof.Gen.RDmixIdeal.Read
public import proofs.«01_k».proof.Proof.Gen.RSbfIdeal.Run
public import proofs.«01_k».proof.Proof.Gen.RSbfIdeal.Read
public import proofs.«01_k».proof.Proof.Gen.RSbbIdeal.Run
public import proofs.«01_k».proof.Proof.Gen.RSbbIdeal.Read
public import proofs.«01_k».proof.Proof.Gen.RJoinIdeal.Run
public import proofs.«01_k».proof.Proof.Gen.RJoinIdeal.Read
public import proofs.«01_k».proof.Proof.Gen.RSumsIdeal.Run
public import proofs.«01_k».proof.Proof.Gen.RSumsIdeal.Read
public import proofs.«01_k».proof.Proof.Gen.RDprepIdeal.Run
public import proofs.«01_k».proof.Proof.Gen.RDprepIdeal.Read
public import proofs.«01_k».proof.Proof.Gen.RRmsIdeal.Run
public import proofs.«01_k».proof.Proof.Gen.RRmsIdeal.Read
public import proofs.«01_k».proof.Proof.Gen.ROutIdeal.Run
public import proofs.«01_k».proof.Proof.Gen.ROutIdeal.Read
public import proofs.«01_k».proof.Proof.Gen.RDownIdeal.Run
public import proofs.«01_k».proof.Proof.Gen.RDownIdeal.Read
public import proofs.«01_k».proof.Proof.GateEq
public import proofs.«01_k».proof.Proof.SwigluEq
public import proofs.«01_k».proof.Proof.LossEq
public import proofs.«01_k».proof.Proof.DffnEq
public import proofs.«01_k».proof.Proof.DmixEq
public import proofs.«01_k».proof.Proof.SbfEq
public import proofs.«01_k».proof.Proof.SbbEq
public import proofs.«01_k».proof.Proof.JoinEq
public import proofs.«01_k».proof.Proof.SumsEq
public import proofs.«01_k».proof.Proof.DprepEq
public import proofs.«01_k».proof.Proof.RmsEq
public import proofs.«01_k».proof.Proof.OutEq
public import proofs.«01_k».proof.Proof.DownEq
public import proofs.«01_k».proof.Proof.SbbFrame
public import proofs.«01_k».proof.Proof.SbbBits
public import Idealize.ShloMosaic.Adequacy
public import Idealize.ShloMosaic.Init

@[expose] public section

noncomputable section

namespace Cert.Proof

open Idealize.ShloMosaic Idealize.SL.Sem

/- The references run on the host alone: they end, keep their arguments and hold no semaphore. -/
theorem gate_host : quiescent_RGateIdeal (hRGateIdeal := Cert.RGateIdeal.Gen.facts) := fun m ρ _ =>
  (θ_run _ _ _).mono (fun r h => ⟨fun c => (h c).2.2.2.2.2.2, Idealize.ShloMosaic.sem_eq_zero_of_no_sems (by decide) r.2⟩) (Cert.RGateIdeal.Value.run (F := Ideal) m ρ)
theorem swiglu_host : quiescent_RSwigluIdeal (hRSwigluIdeal := Cert.RSwigluIdeal.Gen.facts) := fun m ρ _ =>
  (θ_run _ _ _).mono (fun r h => ⟨fun c => (h c).2.2.2, Idealize.ShloMosaic.sem_eq_zero_of_no_sems (by decide) r.2⟩) (Cert.RSwigluIdeal.Value.run (F := Ideal) m ρ)
theorem loss_host : quiescent_RLossIdeal (hRLossIdeal := Cert.RLossIdeal.Gen.facts) := fun m ρ _ =>
  (θ_run _ _ _).mono (fun r h => ⟨fun c => (h c).2.2.2.2, Idealize.ShloMosaic.sem_eq_zero_of_no_sems (by decide) r.2⟩) (Cert.RLossIdeal.Value.run (F := Ideal) m ρ)
theorem dffn_host : quiescent_RDffnIdeal (hRDffnIdeal := Cert.RDffnIdeal.Gen.facts) := fun m ρ _ =>
  (θ_run _ _ _).mono (fun r h => ⟨fun c => (h c).2.2.2, Idealize.ShloMosaic.sem_eq_zero_of_no_sems (by decide) r.2⟩) (Cert.RDffnIdeal.Value.run (F := Ideal) m ρ)
theorem dmix_host : quiescent_RDmixIdeal (hRDmixIdeal := Cert.RDmixIdeal.Gen.facts) := fun m ρ _ =>
  (θ_run _ _ _).mono (fun r h => ⟨fun c => (h c).2.2.2, Idealize.ShloMosaic.sem_eq_zero_of_no_sems (by decide) r.2⟩) (Cert.RDmixIdeal.Value.run (F := Ideal) m ρ)
theorem sbf_host : quiescent_RSbfIdeal (hRSbfIdeal := Cert.RSbfIdeal.Gen.facts) := fun m ρ _ =>
  (θ_run _ _ _).mono (fun r h => ⟨fun c => (h c).2, Idealize.ShloMosaic.sem_eq_zero_of_no_sems (by decide) r.2⟩) (Cert.RSbfIdeal.Value.run (F := Ideal) m ρ)
theorem sbb_host : quiescent_RSbbIdeal (hRSbbIdeal := Cert.RSbbIdeal.Gen.facts) := fun m ρ _ =>
  (θ_run _ _ _).mono (fun r h => ⟨fun c => (h c).2.2.2, Idealize.ShloMosaic.sem_eq_zero_of_no_sems (by decide) r.2⟩) (Cert.RSbbIdeal.Value.run (F := Ideal) m ρ)
theorem join_host : quiescent_RJoinIdeal (hRJoinIdeal := Cert.RJoinIdeal.Gen.facts) := fun m ρ _ =>
  (θ_run _ _ _).mono (fun r h => ⟨fun c => (h c).2, Idealize.ShloMosaic.sem_eq_zero_of_no_sems (by decide) r.2⟩) (Cert.RJoinIdeal.Value.run (F := Ideal) m ρ)
theorem sums_host : quiescent_RSumsIdeal (hRSumsIdeal := Cert.RSumsIdeal.Gen.facts) := fun m ρ _ =>
  (θ_run _ _ _).mono (fun r h => ⟨fun c => (h c).2, Idealize.ShloMosaic.sem_eq_zero_of_no_sems (by decide) r.2⟩) (Cert.RSumsIdeal.Value.run (F := Ideal) m ρ)
theorem dprep_host : quiescent_RDprepIdeal (hRDprepIdeal := Cert.RDprepIdeal.Gen.facts) := fun m ρ _ =>
  (θ_run _ _ _).mono (fun r h => ⟨fun c => (h c).2.2.2.2.2.2.2, Idealize.ShloMosaic.sem_eq_zero_of_no_sems (by decide) r.2⟩) (Cert.RDprepIdeal.Value.run (F := Ideal) m ρ)
theorem rms_host : quiescent_RRmsIdeal (hRRmsIdeal := Cert.RRmsIdeal.Gen.facts) := fun m ρ _ =>
  (θ_run _ _ _).mono (fun r h => ⟨fun c => (h c).2, Idealize.ShloMosaic.sem_eq_zero_of_no_sems (by decide) r.2⟩) (Cert.RRmsIdeal.Value.run (F := Ideal) m ρ)
theorem out_host : quiescent_ROutIdeal (hROutIdeal := Cert.ROutIdeal.Gen.facts) := fun m ρ _ =>
  (θ_run _ _ _).mono (fun r h => ⟨fun c => (h c).2.2, Idealize.ShloMosaic.sem_eq_zero_of_no_sems (by decide) r.2⟩) (Cert.ROutIdeal.Value.run (F := Ideal) m ρ)
theorem down_host : quiescent_RDownIdeal (hRDownIdeal := Cert.RDownIdeal.Gen.facts) := fun m ρ _ =>
  (θ_run _ _ _).mono (fun r h => ⟨fun c => (h c).2.2, Idealize.ShloMosaic.sem_eq_zero_of_no_sems (by decide) r.2⟩) (Cert.RDownIdeal.Value.run (F := Ideal) m ρ)

/-- Every claim. -/
theorem claim : Cert.Claim := ⟨Cert.KGate.Gen.facts, Cert.KGateIdeal.Gen.facts, Cert.RGateIdeal.Gen.facts, Cert.KSwiglu.Gen.facts, Cert.KSwigluIdeal.Gen.facts, Cert.RSwigluIdeal.Gen.facts, Cert.KLoss.Gen.facts, Cert.KLossIdeal.Gen.facts, Cert.RLossIdeal.Gen.facts, Cert.KDffn.Gen.facts, Cert.KDffnIdeal.Gen.facts, Cert.RDffnIdeal.Gen.facts, Cert.KDmix.Gen.facts, Cert.KDmixIdeal.Gen.facts, Cert.RDmixIdeal.Gen.facts, Cert.KSbf.Gen.facts, Cert.KSbfIdeal.Gen.facts, Cert.RSbfIdeal.Gen.facts, Cert.KSbb.Gen.facts, Cert.KSbbIdeal.Gen.facts, Cert.RSbbIdeal.Gen.facts, Cert.KJoin.Gen.facts, Cert.KJoinIdeal.Gen.facts, Cert.RJoinIdeal.Gen.facts, Cert.KSums.Gen.facts, Cert.KSumsIdeal.Gen.facts, Cert.RSumsIdeal.Gen.facts, Cert.KDprep.Gen.facts, Cert.KDprepIdeal.Gen.facts, Cert.RDprepIdeal.Gen.facts, Cert.KRms.Gen.facts, Cert.KRmsIdeal.Gen.facts, Cert.RRmsIdeal.Gen.facts, Cert.KOut.Gen.facts, Cert.KOutIdeal.Gen.facts, Cert.ROutIdeal.Gen.facts, Cert.KDown.Gen.facts, Cert.KDownIdeal.Gen.facts, Cert.RDownIdeal.Gen.facts, Cert.SwigluEq.preFacts, Cert.SbfEq.preFacts, Cert.SbbEq.preFacts,
    fun m ρ _ => Cert.KGate.Gen.frame m ρ,
    fun m ρ _ => Cert.KGateIdeal.Gen.frame m ρ,
    gate_host,
    fun m ρ _ => Cert.KSwiglu.Gen.frame m ρ,
    fun m ρ _ => Cert.KSwigluIdeal.Gen.frame m ρ,
    fun m ρ _ => Cert.KSwigluIdeal.Gen.frame m ρ,
    swiglu_host,
    fun m ρ _ => swiglu_host m ρ trivial,
    fun m ρ _ => Cert.KLoss.Gen.frame m ρ,
    fun m ρ _ => Cert.KLossIdeal.Gen.frame m ρ,
    loss_host,
    fun m ρ _ => Cert.KDffn.Gen.frame m ρ,
    fun m ρ _ => Cert.KDffnIdeal.Gen.frame m ρ,
    dffn_host,
    fun m ρ _ => Cert.KDmix.Gen.frame m ρ,
    fun m ρ _ => Cert.KDmixIdeal.Gen.frame m ρ,
    dmix_host,
    fun m ρ _ => Cert.KSbf.Gen.frame m ρ,
    fun m ρ _ => Cert.KSbfIdeal.Gen.frame m ρ,
    fun m ρ _ => Cert.KSbfIdeal.Gen.frame m ρ,
    sbf_host,
    fun m ρ _ => sbf_host m ρ trivial,
    fun m ρ _ => Cert.KSbb.Hand.frame m ρ,
    fun m ρ _ => Cert.KSbbIdeal.Hand.frame m ρ,
    fun m ρ _ => Cert.KSbbIdeal.Hand.frame m ρ,
    sbb_host,
    fun m ρ _ => sbb_host m ρ trivial,
    fun m ρ _ => Cert.KJoin.Gen.frame m ρ,
    fun m ρ _ => Cert.KJoinIdeal.Gen.frame m ρ,
    join_host,
    fun m ρ _ => Cert.KSums.Gen.frame m ρ,
    fun m ρ _ => Cert.KSumsIdeal.Gen.frame m ρ,
    sums_host,
    fun m ρ _ => Cert.KDprep.Gen.frame m ρ,
    fun m ρ _ => Cert.KDprepIdeal.Gen.frame m ρ,
    dprep_host,
    fun m ρ _ => Cert.KRms.Gen.frame m ρ,
    fun m ρ _ => Cert.KRmsIdeal.Gen.frame m ρ,
    rms_host,
    fun m ρ _ => Cert.KOut.Gen.frame m ρ,
    fun m ρ _ => Cert.KOutIdeal.Gen.frame m ρ,
    out_host,
    fun m ρ _ => Cert.KDown.Gen.frame m ρ,
    fun m ρ _ => Cert.KDownIdeal.Gen.frame m ρ,
    down_host,
    trivial,
    GateEq.algebraic,
    trivial,
    SwigluEq.algebraic,
    trivial,
    LossEq.algebraic,
    trivial,
    DffnEq.algebraic,
    trivial,
    DmixEq.algebraic,
    trivial,
    SbfEq.algebraic,
    trivial,
    SbbEq.algebraic,
    trivial,
    JoinEq.algebraic,
    trivial,
    SumsEq.algebraic,
    trivial,
    DprepEq.algebraic,
    trivial,
    RmsEq.algebraic,
    trivial,
    OutEq.algebraic,
    trivial,
    DownEq.algebraic⟩

end Cert.Proof

end
